-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v51) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v61) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v16) = v0 c
          ∧ r.2.mem ((c.tc : Thread Cert.Reference19Ideal.nD Cert.Reference19Ideal.τ).loc Cert.Reference19Ideal.main_arg0) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v45) = v0 c
          ∧ r.2.mem ((c.tc : Thread Cert.Reference20Ideal.nD Cert.Reference20Ideal.τ).loc Cert.Reference20Ideal.main_v46) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4x16640x64 : Shape := ⟨3, ![4, 16640, 64]⟩
abbrev S_ : Shape := ⟨0, ![]⟩

class Facts : Prop where
  bcast_S_S4x16640x64 : S_.BroadcastsInDim S4x16640x64 (![] : Fin 0 → Fin S4x16640x64.rank)

variable [Facts]

def fn_part1 {F : FTy → Type} [FloatOps F] (main_arg6 : FVec F S4x16640x64 .f32) (main_v2 : IVec S4x16640x64 1) (main_v5 : IVec S4x16640x64 1) (main_v8 : IVec S4x16640x64 1) (main_v11 : IVec S4x16640x64 1) (main_v14 : IVec S4x16640x64 1) (main_v17 : IVec S4x16640x64 1) : IVec S4x16640x64 1 × IVec S4x16640x64 1 × IVec S4x16640x64 1 × IVec S4x16640x64 1 × IVec S4x16640x64 1 × IVec S4x16640x64 1 × IVec S4x16640x64 1 :=
  let main_v18 : FVec F S4x16640x64 .f32 := Host.absf main_arg6
  let main_cst_5 : FVec F S_ .f32 := constant S_ .f32 0x7F800000#32
  let main_v19 : FVec F S4x16640x64 .f32 := broadcastInDim S4x16640x64 ![] bcast_S_S4x16640x64 main_cst_5
  let main_v20 : IVec S4x16640x64 1 := cmpf .olt main_v18 main_v19
  (main_v2, main_v5, main_v8, main_v11, main_v14, main_v17, main_v20)

def fn {F : FTy → Type} [FloatOps F] (main_arg0 : FVec F S4x16640x64 .f32) (main_arg1 : FVec F S4x16640x64 .f32) (main_arg2 : FVec F S4x16640x64 .f32) (main_arg3 : FVec F S4x16640x64 .f32) (main_arg4 : FVec F S4x16640x64 .f32) (main_arg5 : FVec F S4x16640x64 .f32) (main_arg6 : FVec F S4x16640x64 .f32) : IVec S4x16640x64 1 × IVec S4x16640x64 1 × IVec S4x16640x64 1 × IVec S4x16640x64 1 × IVec S4x16640x64 1 × IVec S4x16640x64 1 × IVec S4x16640x64 1 :=
  let main_v0 : FVec F S4x16640x64 .f32 := Host.absf main_arg0
  let main_cst : FVec F S_ .f32 := constant S_ .f32 0x7F800000#32
  let main_v1 : FVec F S4x16640x64 .f32 := broadcastInDim S4x16640x64 ![] bcast_S_S4x16640x64 main_cst
  let main_v2 : IVec S4x16640x64 1 := cmpf .olt main_v0 main_v1
  let main_v3 : FVec F S4x16640x64 .f32 := Host.absf main_arg1
  let main_cst_0 : FVec F S_ .f32 := constant S_ .f32 0x7F800000#32
  let main_v4 : FVec F S4x16640x64 .f32 := broadcastInDim S4x16640x64 ![] bcast_S_S4x16640x64 main_cst_0
  let main_v5 : IVec S4x16640x64 1 := cmpf .olt main_v3 main_v4
  let main_v6 : FVec F S4x16640x64 .f32 := Host.absf main_arg2
  let main_cst_1 : FVec F S_ .f32 := constant S_ .f32 0x7F800000#32
  let main_v7 : FVec F S4x16640x64 .f32 := broadcastInDim S4x16640x64 ![] bcast_S_S4x16640x64 main_cst_1
  let main_v8 : IVec S4x16640x64 1 := cmpf .olt main_v6 main_v7
  let main_v9 : FVec F S4x16640x64 .f32 := Host.absf main_arg3
  let main_cst_2 : FVec F S_ .f32 := constant S_ .f32 0x7F800000#32
  let main_v10 : FVec F S4x16640x64 .f32 := broadcastInDim S4x16640x64 ![] bcast_S_S4x16640x64 main_cst_2
  let main_v11 : IVec S4x16640x64 1 := cmpf .olt main_v9 main_v10
  let main_v12 : FVec F S4x16640x64 .f32 := Host.absf main_arg4
  let main_cst_3 : FVec F S_ .f32 := constant S_ .f32 0x7F800000#32
  let main_v13 : FVec F S4x16640x64 .f32 := broadcastInDim S4x16640x64 ![] bcast_S_S4x16640x64 main_cst_3
  let main_v14 : IVec S4x16640x64 1 := cmpf .olt main_v12 main_v13
  let main_v15 : FVec F S4x16640x64 .f32 := Host.absf main_arg5
  let main_cst_4 : FVec F S_ .f32 := constant S_ .f32 0x7F800000#32
  let main_v16 : FVec F S4x16640x64 .f32 := broadcastInDim S4x16640x64 ![] bcast_S_S4x16640x64 main_cst_4
  let main_v17 : IVec S4x16640x64 1 := cmpf .olt main_v15 main_v16
  fn_part1 (F := F) main_arg6 main_v2 main_v5 main_v8 main_v11 main_v14 main_v17
-- ==== Kernel.lean ====
abbrev S4x16640x64 : Shape := ⟨3, ![4, 16640, 64]⟩
abbrev S260x4x64x64 : Shape := ⟨4, ![260, 4, 64, 64]⟩
abbrev S4x640x64 : Shape := ⟨3, ![4, 640, 64]⟩
abbrev S10x4x64x64 : Shape := ⟨4, ![10, 4, 64, 64]⟩
abbrev S4x64x64 : Shape := ⟨3, ![4, 64, 64]⟩
abbrev S1x64x64 : Shape := ⟨3, ![1, 64, 64]⟩
abbrev S64x64 : Shape := ⟨2, ![64, 64]⟩
abbrev S1x1x64x64 : Shape := ⟨4, ![1, 1, 64, 64]⟩
abbrev S1x64 : Shape := ⟨2, ![1, 64]⟩
abbrev S64 : Shape := ⟨1, ![64]⟩

abbrev nBuf : Space → Nat
  | .hbm => 15
  | .vmem => 46
  | .smem => 0
  | _ => 0

abbrev bufTy : (tb : Table) → Fin (tcTables nBuf tb) → BufTy
  | .hbm, ⟨0, _⟩ => ⟨S4x16640x64, .f32⟩
  | .hbm, ⟨1, _⟩ => ⟨S4x16640x64, .f32⟩
  | .hbm, ⟨2, _⟩ => ⟨S4x16640x64, .f32⟩
  | .hbm, ⟨3, _⟩ => ⟨S4x16640x64, .f32⟩
  | .hbm, ⟨4, _⟩ => ⟨S4x16640x64, .f32⟩
  | .hbm, ⟨5, _⟩ => ⟨S4x16640x64, .f32⟩
  | .hbm, ⟨6, _⟩ => ⟨S4x16640x64, .f32⟩
  | .hbm, ⟨7, _⟩ => ⟨S4x16640x64, .f32⟩
  | .hbm, ⟨8, _⟩ => ⟨S260x4x64x64, .f32⟩
  | .hbm, ⟨9, _⟩ => ⟨S4x16640x64, .f32⟩
  | .hbm, ⟨10, _⟩ => ⟨S4x16640x64, .f32⟩
  | .hbm, ⟨11, _⟩ => ⟨S4x16640x64, .f32⟩
  | .hbm, ⟨12, _⟩ => ⟨S4x16640x64, .f32⟩
  | .hbm, ⟨13, _⟩ => ⟨S4x16640x64, .f32⟩
  | .hbm, ⟨14, _⟩ => ⟨S4x16640x64, .f32⟩
  | .local _ .vmem, ⟨0, _⟩ => ⟨S4x640x64, .f32⟩
  | .local _ .vmem, ⟨1, _⟩ => ⟨S4x640x64, .f32⟩
  | .local _ .vmem, ⟨2, _⟩ => ⟨S4x640x64, .f32⟩
  | .local _ .vmem, ⟨3, _⟩ => ⟨S4x640x64, .f32⟩
  | .local _ .vmem, ⟨4, _⟩ => ⟨S4x640x64, .f32⟩
  | .local _ .vmem, ⟨5, _⟩ => ⟨S4x640x64, .f32⟩
  | .local _ .vmem, ⟨6, _⟩ => ⟨S4x640x64, .f32⟩
  | .local _ .vmem, ⟨7, _⟩ => ⟨S4x640x64, .f32⟩
  | .local _ .vmem, ⟨8, _⟩ => ⟨S4x640x64, .f32⟩
  | .local _ .vmem, ⟨9, _⟩ => ⟨S4x640x64, .f32⟩
  | .local _ .vmem, ⟨10, _⟩ => ⟨S4x640x64, .f32⟩
  | .local _ .vmem, ⟨11, _⟩ => ⟨S4x640x64, .f32⟩
  | .local _ .vmem, ⟨12, _⟩ => ⟨S4x640x64, .f32⟩
  | .local _ .vmem, ⟨13, _⟩ => ⟨S4x640x64, .f32⟩
  | .local _ .vmem, ⟨14, _⟩ => ⟨S10x4x64x64, .f32⟩
  | .local _ .vmem, ⟨15, _⟩ => ⟨S10x4x64x64, .f32⟩
  | .local _ .vmem, ⟨16, _⟩ => ⟨S4x64x64, .f32⟩
  | .local _ .vmem, ⟨17, _⟩ => ⟨S4x640x64, .f32⟩
  | .local _ .vmem, ⟨18, _⟩ => ⟨S4x640x64, .f32⟩
  | .local _ .vmem, ⟨19, _⟩ => ⟨S4x640x64, .f32⟩
  | .local _ .vmem, ⟨20, _⟩ => ⟨S4x640x64, .f32⟩
  | .local _ .vmem, ⟨21, _⟩ => ⟨S4x640x64, .f32⟩
  | .local _ .vmem, ⟨22, _⟩ => ⟨S4x640x64, .f32⟩
  | .local _ .vmem, ⟨23, _⟩ => ⟨S4x640x64, .f32⟩
  | .local _ .vmem, ⟨24, _⟩ => ⟨S4x640x64, .f32⟩
  | .local _ .vmem, ⟨25, _⟩ => ⟨S4x640x64, .f32⟩
  | .local _ .vmem, ⟨26, _⟩ => ⟨S4x640x64, .f32⟩
  | .local _ .vmem, ⟨27, _⟩ => ⟨S4x640x64, .f32⟩
  | .local _ .vmem, ⟨28, _⟩ => ⟨S4x640x64, .f32⟩
  | .local _ .vmem, ⟨29, _⟩ => ⟨S10x4x64x64, .f32⟩
  | .local _ .vmem, ⟨30, _⟩ => ⟨S10x4x64x64, .f32⟩
  | .local _ .vmem, ⟨31, _⟩ => ⟨S4x640x64, .f32⟩
  | .local _ .vmem, ⟨32, _⟩ => ⟨S4x640x64, .f32⟩
  | .local _ .vmem, ⟨33, _⟩ => ⟨S4x640x64, .f32⟩
  | .local _ .vmem, ⟨34, _⟩ => ⟨S4x640x64, .f32⟩
  | .local _ .vmem, ⟨35, _⟩ => ⟨S4x640x64, .f32⟩
  | .local _ .vmem, ⟨36, _⟩ => ⟨S4x640x64, .f32⟩
  | .local _ .vmem, ⟨37, _⟩ => ⟨S4x640x64, .f32⟩
  | .local _ .vmem, ⟨38, _⟩ => ⟨S4x640x64, .f32⟩
  | .local _ .vmem, ⟨39, _⟩ => ⟨S4x640x64, .f32⟩
  | .local _ .vmem, ⟨40, _⟩ => ⟨S4x640x64, .f32⟩
  | .local _ .vmem, ⟨41, _⟩ => ⟨S4x640x64, .f32⟩
  | .local _ .vmem, ⟨42, _⟩ => ⟨S4x640x64, .f32⟩
  | .local _ .vmem, ⟨43, _⟩ => ⟨S4x640x64, .f32⟩
  | .local _ .vmem, ⟨44, _⟩ => ⟨S4x640x64, .f32⟩
  | .local _ .vmem, ⟨45, _⟩ => ⟨S4x64x64, .f32⟩
  | _, _ => ⟨S4x16640x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![26], ![false]⟩

@[reducible] def k0_t1_loop : Scf.Loop 32 :=
  let c0_i32_1 : BitVec 32 := 0#32
  let c10_i32 : BitVec 32 := 10#32
  let v3 : BitVec 32 := Scalar.addi c0_i32_1 c10_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  v4
def k0_off1 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v8 : Index := Scalar.indexCast arg10
  let c0_5 : Index := 0#32
  let c0_6 : Index := 0#32
  let c0_7 : Index := 0#32
  ![v8.toNat, 0, 0, 0]
def k0_off2 (k0_t1 : Fin k0_t1_loop.trips) : Fin 3 → Nat :=
  let c0_8 : Index := 0#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v12 : Index := Scalar.indexCast v5
  let c0_9 : Index := 0#32
  ![0, v12.toNat, 0]
def k0_off3 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v57 : Index := Scalar.indexCast arg10
  let c1_30 : Index := 1#32
  let c0_31 : Index := 0#32
  let c0_32 : Index := 0#32
  ![v57.toNat, 1, 0, 0]
def k0_off4 (k0_t1 : Fin k0_t1_loop.trips) : Fin 3 → Nat :=
  let c1_33 : Index := 1#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v61 : Index := Scalar.indexCast v5
  let c0_34 : Index := 0#32
  ![1, v61.toNat, 0]
def k0_off5 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v106 : Index := Scalar.indexCast arg10
  let c2_56 : Index := 2#32
  let c0_57 : Index := 0#32
  let c0_58 : Index := 0#32
  ![v106.toNat, 2, 0, 0]
def k0_off6 (k0_t1 : Fin k0_t1_loop.trips) : Fin 3 → Nat :=
  let c2_59 : Index := 2#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v110 : Index := Scalar.indexCast v5
  let c0_60 : Index := 0#32
  ![2, v110.toNat, 0]
def k0_off7 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v155 : Index := Scalar.indexCast arg10
  let c3_82 : Index := 3#32
  let c0_83 : Index := 0#32
  let c0_84 : Index := 0#32
  ![v155.toNat, 3, 0, 0]
def k0_off8 (k0_t1 : Fin k0_t1_loop.trips) : Fin 3 → Nat :=
  let c3_85 : Index := 3#32
  let c0_i32_1 : BitVec 32 := 0#32
  let c1_i32 : BitVec 32 := 1#32
  let arg10 : BitVec 32 := Scf.iv c0_i32_1 c1_i32 k0_t1
  let c64_i32 : BitVec 32 := 64#32
  let v4 : BitVec 32 := Scalar.muli arg10 c64_i32
  let v5 : BitVec 32 := v4
  let v159 : Index := Scalar.indexCast v5
  let c0_86 : Index := 0#32
  ![3, v159.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x640x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x640x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x640x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x640x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x640x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x640x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x640x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![26], ![false]⟩

@[reducible] def k1_t1_loop : Scf.Loop 32 :=
  let c0_i32_2 : BitVec 32 := 0#32
  let c10_i32 : BitVec 32 := 10#32
  let v6 : BitVec 32 := Scalar.addi c0_i32_2 c10_i32
  let c1_i32 : BitVec 32 := 1#32
  ⟨c0_i32_2, v6, c1_i32⟩
def k1_mult1 (k1_t1 : Fin k1_t1_loop.trips) : BitVec 32 :=
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let c64_i32 : BitVec 32 := 64#32
  let v8 : BitVec 32 := Scalar.muli v7 c64_i32
  v8
def k1_off1 (k1_t1 : Fin k1_t1_loop.trips) : Fin 4 → Nat :=
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let v10 : Index := Scalar.indexCast v7
  let c0 : Index := 0#32
  let c0_4 : Index := 0#32
  let c0_5 : Index := 0#32
  ![v10.toNat, 0, 0, 0]
def k1_off2 (k1_t1 : Fin k1_t1_loop.trips) : Fin 3 → Nat :=
  let c0_9 : Index := 0#32
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let c64_i32 : BitVec 32 := 64#32
  let v8 : BitVec 32 := Scalar.muli v7 c64_i32
  let v9 : BitVec 32 := v8
  let v15 : Index := Scalar.indexCast v9
  let c0_10 : Index := 0#32
  ![0, v15.toNat, 0]
def k1_off3 (k1_t1 : Fin k1_t1_loop.trips) : Fin 4 → Nat :=
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let v106 : Index := Scalar.indexCast v7
  let c1 : Index := 1#32
  let c0_49 : Index := 0#32
  let c0_50 : Index := 0#32
  ![v106.toNat, 1, 0, 0]
def k1_off4 (k1_t1 : Fin k1_t1_loop.trips) : Fin 3 → Nat :=
  let c1_54 : Index := 1#32
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let c64_i32 : BitVec 32 := 64#32
  let v8 : BitVec 32 := Scalar.muli v7 c64_i32
  let v9 : BitVec 32 := v8
  let v111 : Index := Scalar.indexCast v9
  let c0_55 : Index := 0#32
  ![1, v111.toNat, 0]
def k1_off5 (k1_t1 : Fin k1_t1_loop.trips) : Fin 4 → Nat :=
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let v202 : Index := Scalar.indexCast v7
  let c2 : Index := 2#32
  let c0_95 : Index := 0#32
  let c0_96 : Index := 0#32
  ![v202.toNat, 2, 0, 0]
def k1_off6 (k1_t1 : Fin k1_t1_loop.trips) : Fin 3 → Nat :=
  let c2_100 : Index := 2#32
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let c64_i32 : BitVec 32 := 64#32
  let v8 : BitVec 32 := Scalar.muli v7 c64_i32
  let v9 : BitVec 32 := v8
  let v207 : Index := Scalar.indexCast v9
  let c0_101 : Index := 0#32
  ![2, v207.toNat, 0]
def k1_off7 (k1_t1 : Fin k1_t1_loop.trips) : Fin 4 → Nat :=
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let v298 : Index := Scalar.indexCast v7
  let c3 : Index := 3#32
  let c0_141 : Index := 0#32
  let c0_142 : Index := 0#32
  ![v298.toNat, 3, 0, 0]
def k1_off8 (k1_t1 : Fin k1_t1_loop.trips) : Fin 3 → Nat :=
  let c3_146 : Index := 3#32
  let c9_i32 : BitVec 32 := 9#32
  let c0_i32_2 : BitVec 32 := 0#32
  let c1_i32 : BitVec 32 := 1#32
  let arg16 : BitVec 32 := Scf.iv c0_i32_2 c1_i32 k1_t1
  let v7 : BitVec 32 := Scalar.subi c9_i32 arg16
  let c64_i32 : BitVec 32 := 64#32
  let v8 : BitVec 32 := Scalar.muli v7 c64_i32
  let v9 : BitVec 32 := v8
  let v303 : Index := Scalar.indexCast v9
  let c0_147 : Index := 0#32
  ![3, v303.toNat, 0]
def cc1_transform_0 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 4 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_8 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 3 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S4x640x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x640x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x640x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x640x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x640x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x640x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10x4x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x640x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x640x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x640x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x640x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4x640x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4x640x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x640x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4x16640x64 : Shape := ⟨3, ![4, 16640, 64]⟩
abbrev S4x260x64x64 : Shape := ⟨4, ![4, 260, 64, 64]⟩
abbrev S260x4x64x64 : Shape := ⟨4, ![260, 4, 64, 64]⟩
abbrev S_ : Shape := ⟨0, ![]⟩
abbrev S4x64x64 : Shape := ⟨3, ![4, 64, 64]⟩
abbrev S260x4x1x64 : Shape := ⟨4, ![260, 4, 1, 64]⟩
abbrev S1x4x64x64 : Shape := ⟨4, ![1, 4, 64, 64]⟩
abbrev S4x1x64 : Shape := ⟨3, ![4, 1, 64]⟩
abbrev S1x4x1x64 : Shape := ⟨4, ![1, 4, 1, 64]⟩
abbrev S4x64 : Shape := ⟨2, ![4, 64]⟩

abbrev nBuf : Space → Nat
  | .hbm => 258
  | .vmem => 0
  | .smem => 0
  | _ => 0

abbrev hbmTy0_0 (i : Nat) : BufTy := match i % 128 with
  | 0 => ⟨S4x16640x64, .f32⟩
  | 1 => ⟨S4x16640x64, .f32⟩
  | 2 => ⟨S4x16640x64, .f32⟩
  | 3 => ⟨S4x16640x64, .f32⟩
  | 4 => ⟨S4x16640x64, .f32⟩
  | 5 => ⟨S4x16640x64, .f32⟩
  | 6 => ⟨S4x16640x64, .f32⟩
  | 7 => ⟨S4x260x64x64, .f32⟩
  | 8 => ⟨S260x4x64x64, .f32⟩
  | 9 => ⟨S4x260x64x64, .f32⟩
  | 10 => ⟨S260x4x64x64, .f32⟩
  | 11 => ⟨S4x260x64x64, .f32⟩
  | 12 => ⟨S260x4x64x64, .f32⟩
  | 13 => ⟨S4x260x64x64, .f32⟩
  | 14 => ⟨S260x4x64x64, .f32⟩
  | 15 => ⟨S4x260x64x64, .f32⟩
  | 16 => ⟨S260x4x64x64, .f32⟩
  | 17 => ⟨S4x260x64x64, .f32⟩
  | 18 => ⟨S260x4x64x64, .f32⟩
  | 19 => ⟨S_, .f32⟩
  | 20 => ⟨S4x64x64, .f32⟩
  | 21 => ⟨S_, .f32⟩
  | 22 => ⟨S260x4x64x64, .f32⟩
  | 23 => ⟨S_, .f32⟩
  | 24 => ⟨S260x4x64x64, .f32⟩
  | 25 => ⟨S_, .f32⟩
  | 26 => ⟨S260x4x64x64, .f32⟩
  | 27 => ⟨S_, .f32⟩
  | 28 => ⟨S260x4x1x64, .f32⟩
  | 29 => ⟨S_, .i32⟩
  | 30 => ⟨S260x4x64x64, .f32⟩
  | 31 => ⟨S260x4x64x64, .f32⟩
  | 32 => ⟨S260x4x64x64, .f32⟩
  | 33 => ⟨S260x4x64x64, .f32⟩
  | 34 => ⟨S260x4x64x64, .f32⟩
  | 35 => ⟨S260x4x64x64, .f32⟩
  | 36 => ⟨S_, .i32⟩
  | 37 => ⟨S4x64x64, .f32⟩
  | 38 => ⟨S260x4x64x64, .f32⟩
  | 39 => ⟨S260x4x64x64, .f32⟩
  | 40 => ⟨S260x4x64x64, .f32⟩
  | 41 => ⟨S260x4x1x64, .f32⟩
  | 42 => ⟨S_, .i32⟩
  | 43 => ⟨S_, .i1⟩
  | 44 => ⟨S_, .i32⟩
  | 45 => ⟨S_, .i32⟩
  | 46 => ⟨S_, .i32⟩
  | 47 => ⟨S1x4x64x64, .f32⟩
  | 48 => ⟨S4x64x64, .f32⟩
  | 49 => ⟨S_, .i32⟩
  | 50 => ⟨S_, .i32⟩
  | 51 => ⟨S_, .i32⟩
  | 52 => ⟨S1x4x64x64, .f32⟩
  | 53 => ⟨S4x64x64, .f32⟩
  | 54 => ⟨S_, .i32⟩
  | 55 => ⟨S_, .i32⟩
  | 56 => ⟨S_, .i32⟩
  | 57 => ⟨S1x4x64x64, .f32⟩
  | 58 => ⟨S4x64x64, .f32⟩
  | 59 => ⟨S_, .i32⟩
  | 60 => ⟨S_, .i32⟩
  | 61 => ⟨S_, .i32⟩
  | 62 => ⟨S1x4x64x64, .f32⟩
  | 63 => ⟨S4x64x64, .f32⟩
  | 64 => ⟨S_, .i32⟩
  | 65 => ⟨S_, .i32⟩
  | 66 => ⟨S_, .i32⟩
  | 67 => ⟨S1x4x64x64, .f32⟩
  | 68 => ⟨S4x64x64, .f32⟩
  | 69 => ⟨S_, .i32⟩
  | 70 => ⟨S_, .i32⟩
  | 71 => ⟨S_, .i32⟩
  | 72 => ⟨S1x4x64x64, .f32⟩
  | 73 => ⟨S4x64x64, .f32⟩
  | 74 => ⟨S4x64x64, .f32⟩
  | 75 => ⟨S4x64x64, .f32⟩
  | 76 => ⟨S4x64x64, .f32⟩
  | 77 => ⟨S4x64x64, .f32⟩
  | 78 => ⟨S4x64x64, .f32⟩
  | 79 => ⟨S4x1x64, .f32⟩
  | 80 => ⟨S4x64x64, .f32⟩
  | 81 => ⟨S4x64x64, .f32⟩
  | 82 => ⟨S4x64x64, .f32⟩
  | 83 => ⟨S4x64x64, .f32⟩
  | 84 => ⟨S1x4x64x64, .f32⟩
  | 85 => ⟨S_, .i32⟩
  | 86 => ⟨S_, .i32⟩
  | 87 => ⟨S_, .i32⟩
  | 88 => ⟨S260x4x64x64, .f32⟩
  | 89 => ⟨S1x4x64x64, .f32⟩
  | 90 => ⟨S_, .i32⟩
  | 91 => ⟨S_, .i32⟩
  | 92 => ⟨S_, .i32⟩
  | 93 => ⟨S260x4x64x64, .f32⟩
  | 94 => ⟨S1x4x64x64, .f32⟩
  | 95 => ⟨S_, .i32⟩
  | 96 => ⟨S_, .i32⟩
  | 97 => ⟨S_, .i32⟩
  | 98 => ⟨S260x4x64x64, .f32⟩
  | 99 => ⟨S1x4x1x64, .f32⟩
  | 100 => ⟨S_, .i32⟩
  | 101 => ⟨S_, .i32⟩
  | 102 => ⟨S_, .i32⟩
  | 103 => ⟨S260x4x1x64, .f32⟩
  | 104 => ⟨S_, .i32⟩
  | 105 => ⟨S_, .i32⟩
  | 106 => ⟨S4x260x64x64, .f32⟩
  | 107 => ⟨S4x16640x64, .f32⟩
  | 108 => ⟨S_, .f32⟩
  | 109 => ⟨S4x64x64, .f32⟩
  | 110 => ⟨S4x260x64x64, .f32⟩
  | 111 => ⟨S260x4x64x64, .f32⟩
  | 112 => ⟨S_, .f32⟩
  | 113 => ⟨S4x64x64, .f32⟩
  | 114 => ⟨S_, .f32⟩
  | 115 => ⟨S260x4x64x64, .f32⟩
  | 116 => ⟨S_, .f32⟩
  | 117 => ⟨S260x4x64x64, .f32⟩
  | 118 => ⟨S_, .f32⟩
  | 119 => ⟨S260x4x64x64, .f32⟩
  | 120 => ⟨S_, .f32⟩
  | 121 => ⟨S260x4x64x64, .f32⟩
  | 122 => ⟨S_, .f32⟩
  | 123 => ⟨S260x4x64x64, .f32⟩
  | 124 => ⟨S_, .f32⟩
  | 125 => ⟨S260x4x64x64, .f32⟩
  | 126 => ⟨S_, .i32⟩
  | 127 => ⟨S260x4x64x64, .f32⟩
  | _ => ⟨S4x16640x64, .f32⟩

abbrev hbmTy0_1 (i : Nat) : BufTy := match i % 128 with
  | 0 => ⟨S260x4x64x64, .f32⟩
  | 1 => ⟨S260x4x64x64, .f32⟩
  | 2 => ⟨S260x4x64x64, .f32⟩
  | 3 => ⟨S260x4x64x64, .f32⟩
  | 4 => ⟨S260x4x64x64, .f32⟩
  | 5 => ⟨S260x4x1x64, .f32⟩
  | 6 => ⟨S260x4x64x64, .f32⟩
  | 7 => ⟨S_, .i32⟩
  | 8 => ⟨S4x64x64, .f32⟩
  | 9 => ⟨S260x4x64x64, .f32⟩
  | 10 => ⟨S260x4x64x64, .f32⟩
  | 11 => ⟨S260x4x64x64, .f32⟩
  | 12 => ⟨S260x4x64x64, .f32⟩
  | 13 => ⟨S260x4x64x64, .f32⟩
  | 14 => ⟨S260x4x64x64, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x4x64x64, .f32⟩
  | 25 => ⟨S4x64x64, .f32⟩
  | 26 => ⟨S_, .i32⟩
  | 27 => ⟨S_, .i32⟩
  | 28 => ⟨S_, .i32⟩
  | 29 => ⟨S1x4x64x64, .f32⟩
  | 30 => ⟨S4x64x64, .f32⟩
  | 31 => ⟨S_, .i32⟩
  | 32 => ⟨S_, .i32⟩
  | 33 => ⟨S_, .i32⟩
  | 34 => ⟨S1x4x64x64, .f32⟩
  | 35 => ⟨S4x64x64, .f32⟩
  | 36 => ⟨S_, .i32⟩
  | 37 => ⟨S_, .i32⟩
  | 38 => ⟨S_, .i32⟩
  | 39 => ⟨S1x4x64x64, .f32⟩
  | 40 => ⟨S4x64x64, .f32⟩
  | 41 => ⟨S_, .i32⟩
  | 42 => ⟨S_, .i32⟩
  | 43 => ⟨S_, .i32⟩
  | 44 => ⟨S1x4x64x64, .f32⟩
  | 45 => ⟨S4x64x64, .f32⟩
  | 46 => ⟨S_, .i32⟩
  | 47 => ⟨S_, .i32⟩
  | 48 => ⟨S_, .i32⟩
  | 49 => ⟨S1x4x64x64, .f32⟩
  | 50 => ⟨S4x64x64, .f32⟩
  | 51 => ⟨S_, .i32⟩
  | 52 => ⟨S_, .i32⟩
  | 53 => ⟨S_, .i32⟩
  | 54 => ⟨S1x4x1x64, .f32⟩
  | 55 => ⟨S4x1x64, .f32⟩
  | 56 => ⟨S_, .i32⟩
  | 57 => ⟨S_, .i32⟩
  | 58 => ⟨S_, .i32⟩
  | 59 => ⟨S1x4x64x64, .f32⟩
  | 60 => ⟨S4x64x64, .f32⟩
  | 61 => ⟨S4x64x64, .f32⟩
  | 62 => ⟨S4x64x64, .f32⟩
  | 63 => ⟨S4x64x64, .f32⟩
  | 64 => ⟨S4x64x64, .f32⟩
  | 65 => ⟨S4x64x64, .f32⟩
  | 66 => ⟨S_, .f32⟩
  | 67 => ⟨S4x64, .f32⟩
  | 68 => ⟨S4x1x64, .f32⟩
  | 69 => ⟨S4x64x64, .f32⟩
  | 70 => ⟨S4x64x64, .f32⟩
  | 71 => ⟨S_, .f32⟩
  | 72 => ⟨S4x64x64, .f32⟩
  | 73 => ⟨S4x64x64, .f32⟩
  | 74 => ⟨S4x64x64, .f32⟩
  | 75 => ⟨S4x64x64, .f32⟩
  | 76 => ⟨S4x64x64, .f32⟩
  | 77 => ⟨S4x64x64, .f32⟩
  | 78 => ⟨S4x64x64, .f32⟩
  | 79 => ⟨S4x64x64, .f32⟩
  | 80 => ⟨S4x64x64, .f32⟩
  | 81 => ⟨S4x64x64, .f32⟩
  | 82 => ⟨S4x64x64, .f32⟩
  | 83 => ⟨S4x64x64, .f32⟩
  | 84 => ⟨S4x64x64, .f32⟩
  | 85 => ⟨S4x64x64, .f32⟩
  | 86 => ⟨S1x4x64x64, .f32⟩
  | 87 => ⟨S_, .i32⟩
  | 88 => ⟨S_, .i32⟩
  | 89 => ⟨S_, .i32⟩
  | 90 => ⟨S260x4x64x64, .f32⟩
  | 91 => ⟨S1x4x64x64, .f32⟩
  | 92 => ⟨S_, .i32⟩
  | 93 => ⟨S_, .i32⟩
  | 94 => ⟨S_, .i32⟩
  | 95 => ⟨S260x4x64x64, .f32⟩
  | 96 => ⟨S1x4x64x64, .f32⟩
  | 97 => ⟨S_, .i32⟩
  | 98 => ⟨S_, .i32⟩
  | 99 => ⟨S_, .i32⟩
  | 100 => ⟨S260x4x64x64, .f32⟩
  | 101 => ⟨S1x4x64x64, .f32⟩
  | 102 => ⟨S_, .i32⟩
  | 103 => ⟨S_, .i32⟩
  | 104 => ⟨S_, .i32⟩
  | 105 => ⟨S260x4x64x64, .f32⟩
  | 106 => ⟨S1x4x64x64, .f32⟩
  | 107 => ⟨S_, .i32⟩
  | 108 => ⟨S_, .i32⟩
  | 109 => ⟨S_, .i32⟩
  | 110 => ⟨S260x4x64x64, .f32⟩
  | 111 => ⟨S1x4x64x64, .f32⟩
  | 112 => ⟨S_, .i32⟩
  | 113 => ⟨S_, .i32⟩
  | 114 => ⟨S_, .i32⟩
  | 115 => ⟨S260x4x64x64, .f32⟩
  | 116 => ⟨S_, .i32⟩
  | 117 => ⟨S_, .i32⟩
  | 118 => ⟨S4x260x64x64, .f32⟩
  | 119 => ⟨S4x16640x64, .f32⟩
  | 120 => ⟨S4x260x64x64, .f32⟩
  | 121 => ⟨S4x16640x64, .f32⟩
  | 122 => ⟨S4x260x64x64, .f32⟩
  | 123 => ⟨S4x16640x64, .f32⟩
  | 124 => ⟨S4x260x64x64, .f32⟩
  | 125 => ⟨S4x16640x64, .f32⟩
  | 126 => ⟨S4x260x64x64, .f32⟩
  | 127 => ⟨S4x16640x64, .f32⟩
  | _ => ⟨S4x16640x64, .f32⟩

abbrev hbmTy0_2 (i : Nat) : BufTy := match i % 128 with
  | 0 => ⟨S4x260x64x64, .f32⟩
  | 1 => ⟨S4x16640x64, .f32⟩
  | _ => ⟨S4x16640x64, .f32⟩

abbrev hbmTy (i : Nat) : BufTy := match i / 128 with
  | 0 => hbmTy0_0 i
  | 1 => hbmTy0_1 i
  | 2 => hbmTy0_2 i
  | _ => ⟨S4x16640x64, .f32⟩

abbrev bufTy : (tb : Table) → Fin (tcTables nBuf tb) → BufTy
  | .hbm, ⟨i, _⟩ => hbmTy i
  | _, _ => ⟨S4x16640x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_c : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev main_v17_6 : Ref sig .tc := ⟨.hbm, 36, rfl⟩
abbrev main_v17_7 : Ref sig .tc := ⟨.hbm, 37, rfl⟩
abbrev main_v17_8 : Ref sig .tc := ⟨.hbm, 38, rfl⟩
abbrev main_v17_9 : Ref sig .tc := ⟨.hbm, 39, rfl⟩
abbrev main_v17_10 : Ref sig .tc := ⟨.hbm, 40, rfl⟩
abbrev main_v17_11 : Ref sig .tc := ⟨.hbm, 41, rfl⟩
abbrev main_while0c_c_24 : Ref sig .tc := ⟨.hbm, 42, rfl⟩
abbrev main_while0c_v43 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v43 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v44 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_v0 : Ref sig .tc := ⟨.hbm, 57, rfl⟩
abbrev main_while0b_v45 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_v0 : Ref sig .tc := ⟨.hbm, 62, rfl⟩
abbrev main_while0b_v46 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_v0 : Ref sig .tc := ⟨.hbm, 67, rfl⟩
abbrev main_while0b_v47 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v59 : Ref sig .tc := ⟨.hbm, 88, rfl⟩
abbrev main_while0b_call7_v0 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_v60 : Ref sig .tc := ⟨.hbm, 93, rfl⟩
abbrev main_while0b_call8_v0 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_v61 : Ref sig .tc := ⟨.hbm, 98, rfl⟩
abbrev main_while0b_call9_v0 : Ref sig .tc := ⟨.hbm, 99, rfl⟩
abbrev main_while0b_call9_c : Ref sig .tc := ⟨.hbm, 100, rfl⟩
abbrev main_while0b_call9_c_0 : Ref sig .tc := ⟨.hbm, 101, rfl⟩
abbrev main_while0b_call9_c_1 : Ref sig .tc := ⟨.hbm, 102, rfl⟩
abbrev main_while0b_v62 : Ref sig .tc := ⟨.hbm, 103, rfl⟩
abbrev main_while0b_c_24 : Ref sig .tc := ⟨.hbm, 104, rfl⟩
abbrev main_while0b_v63 : Ref sig .tc := ⟨.hbm, 105, rfl⟩
abbrev main_v18 : Ref sig .tc := ⟨.hbm, 106, rfl⟩
abbrev main_v19 : Ref sig .tc := ⟨.hbm, 107, rfl⟩
abbrev main_cst_4 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_cst_5 : Ref sig .tc := ⟨.hbm, 112, rfl⟩
abbrev main_v23 : Ref sig .tc := ⟨.hbm, 113, rfl⟩
abbrev main_cst_6 : Ref sig .tc := ⟨.hbm, 114, rfl⟩
abbrev main_v24 : Ref sig .tc := ⟨.hbm, 115, rfl⟩
abbrev main_cst_7 : Ref sig .tc := ⟨.hbm, 116, rfl⟩
abbrev main_v25 : Ref sig .tc := ⟨.hbm, 117, rfl⟩
abbrev main_cst_8 : Ref sig .tc := ⟨.hbm, 118, rfl⟩
abbrev main_v26 : Ref sig .tc := ⟨.hbm, 119, rfl⟩
abbrev main_cst_9 : Ref sig .tc := ⟨.hbm, 120, rfl⟩
abbrev main_v27 : Ref sig .tc := ⟨.hbm, 121, rfl⟩
abbrev main_cst_10 : Ref sig .tc := ⟨.hbm, 122, rfl⟩
abbrev main_v28 : Ref sig .tc := ⟨.hbm, 123, rfl⟩
abbrev main_cst_11 : Ref sig .tc := ⟨.hbm, 124, rfl⟩
abbrev main_v29 : Ref sig .tc := ⟨.hbm, 125, rfl⟩
abbrev main_c_12 : Ref sig .tc := ⟨.hbm, 126, rfl⟩
abbrev main_v30_0 : Ref sig .tc := ⟨.hbm, 127, rfl⟩
abbrev main_v30_1 : Ref sig .tc := ⟨.hbm, 128, rfl⟩
abbrev main_v30_2 : Ref sig .tc := ⟨.hbm, 129, rfl⟩
abbrev main_v30_3 : Ref sig .tc := ⟨.hbm, 130, rfl⟩
abbrev main_v30_4 : Ref sig .tc := ⟨.hbm, 131, rfl⟩
abbrev main_v30_5 : Ref sig .tc := ⟨.hbm, 132, rfl⟩
abbrev main_v30_6 : Ref sig .tc := ⟨.hbm, 133, rfl⟩
abbrev main_v30_7 : Ref sig .tc := ⟨.hbm, 134, rfl⟩
abbrev main_v30_8 : Ref sig .tc := ⟨.hbm, 135, rfl⟩
abbrev main_v30_9 : Ref sig .tc := ⟨.hbm, 136, rfl⟩
abbrev main_v30_10 : Ref sig .tc := ⟨.hbm, 137, rfl⟩
abbrev main_v30_11 : Ref sig .tc := ⟨.hbm, 138, rfl⟩
abbrev main_v30_12 : Ref sig .tc := ⟨.hbm, 139, rfl⟩
abbrev main_v30_13 : Ref sig .tc := ⟨.hbm, 140, rfl⟩
abbrev main_v30_14 : Ref sig .tc := ⟨.hbm, 141, rfl⟩
abbrev main_v30_15 : Ref sig .tc := ⟨.hbm, 142, rfl⟩
abbrev main_while1c_c_28 : Ref sig .tc := ⟨.hbm, 143, rfl⟩
abbrev main_while1c_v43 : Ref sig .tc := ⟨.hbm, 144, rfl⟩
abbrev main_while1b_c_28 : Ref sig .tc := ⟨.hbm, 145, rfl⟩
abbrev main_while1b_v43 : Ref sig .tc := ⟨.hbm, 146, rfl⟩
abbrev main_while1b_c_29 : Ref sig .tc := ⟨.hbm, 147, rfl⟩
abbrev main_while1b_v44 : Ref sig .tc := ⟨.hbm, 148, rfl⟩
abbrev main_while1b_call10_c : Ref sig .tc := ⟨.hbm, 149, rfl⟩
abbrev main_while1b_call10_c_0 : Ref sig .tc := ⟨.hbm, 150, rfl⟩
abbrev main_while1b_call10_c_1 : Ref sig .tc := ⟨.hbm, 151, rfl⟩
abbrev main_while1b_call10_v0 : Ref sig .tc := ⟨.hbm, 152, rfl⟩
abbrev main_while1b_v45 : Ref sig .tc := ⟨.hbm, 153, rfl⟩
abbrev main_while1b_call11_c : Ref sig .tc := ⟨.hbm, 154, rfl⟩
abbrev main_while1b_call11_c_0 : Ref sig .tc := ⟨.hbm, 155, rfl⟩
abbrev main_while1b_call11_c_1 : Ref sig .tc := ⟨.hbm, 156, rfl⟩
abbrev main_while1b_call11_v0 : Ref sig .tc := ⟨.hbm, 157, rfl⟩
abbrev main_while1b_v46 : Ref sig .tc := ⟨.hbm, 158, rfl⟩
abbrev main_while1b_call12_c : Ref sig .tc := ⟨.hbm, 159, rfl⟩
abbrev main_while1b_call12_c_0 : Ref sig .tc := ⟨.hbm, 160, rfl⟩
abbrev main_while1b_call12_c_1 : Ref sig .tc := ⟨.hbm, 161, rfl⟩
abbrev main_while1b_call12_v0 : Ref sig .tc := ⟨.hbm, 162, rfl⟩
abbrev main_while1b_v47 : Ref sig .tc := ⟨.hbm, 163, rfl⟩
abbrev main_while1b_call13_c : Ref sig .tc := ⟨.hbm, 164, rfl⟩
abbrev main_while1b_call13_c_0 : Ref sig .tc := ⟨.hbm, 165, rfl⟩
abbrev main_while1b_call13_c_1 : Ref sig .tc := ⟨.hbm, 166, rfl⟩
abbrev main_while1b_call13_v0 : Ref sig .tc := ⟨.hbm, 167, rfl⟩
abbrev main_while1b_v48 : Ref sig .tc := ⟨.hbm, 168, rfl⟩
abbrev main_while1b_call14_c : Ref sig .tc := ⟨.hbm, 169, rfl⟩
abbrev main_while1b_call14_c_0 : Ref sig .tc := ⟨.hbm, 170, rfl⟩
abbrev main_while1b_call14_c_1 : Ref sig .tc := ⟨.hbm, 171, rfl⟩
abbrev main_while1b_call14_v0 : Ref sig .tc := ⟨.hbm, 172, rfl⟩
abbrev main_while1b_v49 : Ref sig .tc := ⟨.hbm, 173, rfl⟩
abbrev main_while1b_call15_c : Ref sig .tc := ⟨.hbm, 174, rfl⟩
abbrev main_while1b_call15_c_0 : Ref sig .tc := ⟨.hbm, 175, rfl⟩
abbrev main_while1b_call15_c_1 : Ref sig .tc := ⟨.hbm, 176, rfl⟩
abbrev main_while1b_call15_v0 : Ref sig .tc := ⟨.hbm, 177, rfl⟩
abbrev main_while1b_v50 : Ref sig .tc := ⟨.hbm, 178, rfl⟩
abbrev main_while1b_call16_c : Ref sig .tc := ⟨.hbm, 179, rfl⟩
abbrev main_while1b_call16_c_0 : Ref sig .tc := ⟨.hbm, 180, rfl⟩
abbrev main_while1b_call16_c_1 : Ref sig .tc := ⟨.hbm, 181, rfl⟩
abbrev main_while1b_call16_v0 : Ref sig .tc := ⟨.hbm, 182, rfl⟩
abbrev main_while1b_v51 : Ref sig .tc := ⟨.hbm, 183, rfl⟩
abbrev main_while1b_call17_c : Ref sig .tc := ⟨.hbm, 184, rfl⟩
abbrev main_while1b_call17_c_0 : Ref sig .tc := ⟨.hbm, 185, rfl⟩
abbrev main_while1b_call17_c_1 : Ref sig .tc := ⟨.hbm, 186, rfl⟩
abbrev main_while1b_call17_v0 : Ref sig .tc := ⟨.hbm, 187, rfl⟩
abbrev main_while1b_v52 : Ref sig .tc := ⟨.hbm, 188, rfl⟩
abbrev main_while1b_v53 : Ref sig .tc := ⟨.hbm, 189, rfl⟩
abbrev main_while1b_v54 : Ref sig .tc := ⟨.hbm, 190, rfl⟩
abbrev main_while1b_v55 : Ref sig .tc := ⟨.hbm, 191, rfl⟩
abbrev main_while1b_v56 : Ref sig .tc := ⟨.hbm, 192, rfl⟩
abbrev main_while1b_v57 : Ref sig .tc := ⟨.hbm, 193, rfl⟩
abbrev main_while1b_cst_30 : Ref sig .tc := ⟨.hbm, 194, rfl⟩
abbrev main_while1b_v58 : Ref sig .tc := ⟨.hbm, 195, rfl⟩
abbrev main_while1b_v59 : Ref sig .tc := ⟨.hbm, 196, rfl⟩
abbrev main_while1b_v60 : Ref sig .tc := ⟨.hbm, 197, rfl⟩
abbrev main_while1b_v61 : Ref sig .tc := ⟨.hbm, 198, rfl⟩
abbrev main_while1b_cst_31 : Ref sig .tc := ⟨.hbm, 199, rfl⟩
abbrev main_while1b_v62 : Ref sig .tc := ⟨.hbm, 200, rfl⟩
abbrev main_while1b_v63 : Ref sig .tc := ⟨.hbm, 201, rfl⟩
abbrev main_while1b_v64 : Ref sig .tc := ⟨.hbm, 202, rfl⟩
abbrev main_while1b_v65 : Ref sig .tc := ⟨.hbm, 203, rfl⟩
abbrev main_while1b_v66 : Ref sig .tc := ⟨.hbm, 204, rfl⟩
abbrev main_while1b_v67 : Ref sig .tc := ⟨.hbm, 205, rfl⟩
abbrev main_while1b_v68 : Ref sig .tc := ⟨.hbm, 206, rfl⟩
abbrev main_while1b_v69 : Ref sig .tc := ⟨.hbm, 207, rfl⟩
abbrev main_while1b_v70 : Ref sig .tc := ⟨.hbm, 208, rfl⟩
abbrev main_while1b_v71 : Ref sig .tc := ⟨.hbm, 209, rfl⟩
abbrev main_while1b_v72 : Ref sig .tc := ⟨.hbm, 210, rfl⟩
abbrev main_while1b_v73 : Ref sig .tc := ⟨.hbm, 211, rfl⟩
abbrev main_while1b_v74 : Ref sig .tc := ⟨.hbm, 212, rfl⟩
abbrev main_while1b_v75 : Ref sig .tc := ⟨.hbm, 213, rfl⟩
abbrev main_while1b_call18_v0 : Ref sig .tc := ⟨.hbm, 214, rfl⟩
abbrev main_while1b_call18_c : Ref sig .tc := ⟨.hbm, 215, rfl⟩
abbrev main_while1b_call18_c_0 : Ref sig .tc := ⟨.hbm, 216, rfl⟩
abbrev main_while1b_call18_c_1 : Ref sig .tc := ⟨.hbm, 217, rfl⟩
abbrev main_while1b_v76 : Ref sig .tc := ⟨.hbm, 218, rfl⟩
abbrev main_while1b_call19_v0 : Ref sig .tc := ⟨.hbm, 219, rfl⟩
abbrev main_while1b_call19_c : Ref sig .tc := ⟨.hbm, 220, rfl⟩
abbrev main_while1b_call19_c_0 : Ref sig .tc := ⟨.hbm, 221, rfl⟩
abbrev main_while1b_call19_c_1 : Ref sig .tc := ⟨.hbm, 222, rfl⟩
abbrev main_while1b_v77 : Ref sig .tc := ⟨.hbm, 223, rfl⟩
abbrev main_while1b_call20_v0 : Ref sig .tc := ⟨.hbm, 224, rfl⟩
abbrev main_while1b_call20_c : Ref sig .tc := ⟨.hbm, 225, rfl⟩
abbrev main_while1b_call20_c_0 : Ref sig .tc := ⟨.hbm, 226, rfl⟩
abbrev main_while1b_call20_c_1 : Ref sig .tc := ⟨.hbm, 227, rfl⟩
abbrev main_while1b_v78 : Ref sig .tc := ⟨.hbm, 228, rfl⟩
abbrev main_while1b_call21_v0 : Ref sig .tc := ⟨.hbm, 229, rfl⟩
abbrev main_while1b_call21_c : Ref sig .tc := ⟨.hbm, 230, rfl⟩
abbrev main_while1b_call21_c_0 : Ref sig .tc := ⟨.hbm, 231, rfl⟩
abbrev main_while1b_call21_c_1 : Ref sig .tc := ⟨.hbm, 232, rfl⟩
abbrev main_while1b_v79 : Ref sig .tc := ⟨.hbm, 233, rfl⟩
abbrev main_while1b_call22_v0 : Ref sig .tc := ⟨.hbm, 234, rfl⟩
abbrev main_while1b_call22_c : Ref sig .tc := ⟨.hbm, 235, rfl⟩
abbrev main_while1b_call22_c_0 : Ref sig .tc := ⟨.hbm, 236, rfl⟩
abbrev main_while1b_call22_c_1 : Ref sig .tc := ⟨.hbm, 237, rfl⟩
abbrev main_while1b_v80 : Ref sig .tc := ⟨.hbm, 238, rfl⟩
abbrev main_while1b_call23_v0 : Ref sig .tc := ⟨.hbm, 239, rfl⟩
abbrev main_while1b_call23_c : Ref sig .tc := ⟨.hbm, 240, rfl⟩
abbrev main_while1b_call23_c_0 : Ref sig .tc := ⟨.hbm, 241, rfl⟩
abbrev main_while1b_call23_c_1 : Ref sig .tc := ⟨.hbm, 242, rfl⟩
abbrev main_while1b_v81 : Ref sig .tc := ⟨.hbm, 243, rfl⟩
abbrev main_while1b_c_32 : Ref sig .tc := ⟨.hbm, 244, rfl⟩
abbrev main_while1b_v82 : Ref sig .tc := ⟨.hbm, 245, rfl⟩
abbrev main_v31 : Ref sig .tc := ⟨.hbm, 246, rfl⟩
abbrev main_v32 : Ref sig .tc := ⟨.hbm, 247, rfl⟩
abbrev main_v33 : Ref sig .tc := ⟨.hbm, 248, rfl⟩
abbrev main_v34 : Ref sig .tc := ⟨.hbm, 249, rfl⟩
abbrev main_v35 : Ref sig .tc := ⟨.hbm, 250, rfl⟩
abbrev main_v36 : Ref sig .tc := ⟨.hbm, 251, rfl⟩
abbrev main_v37 : Ref sig .tc := ⟨.hbm, 252, rfl⟩
abbrev main_v38 : Ref sig .tc := ⟨.hbm, 253, rfl⟩
abbrev main_v39 : Ref sig .tc := ⟨.hbm, 254, rfl⟩
abbrev main_v40 : Ref sig .tc := ⟨.hbm, 255, rfl⟩
abbrev main_v41 : Ref sig .tc := ⟨.hbm, 256, rfl⟩
abbrev main_v42 : Ref sig .tc := ⟨.hbm, 257, rfl⟩

abbrev nD : Nat := 1
abbrev τ : Topo := Topo.v7x

variable {F : FTy → Type} [FloatOps F]

abbrev main_while0_count : Scf.Loop 32 := ⟨0#32, 260#32, 1#32⟩

abbrev main_while1_count : Scf.Loop 32 := ⟨0#32, 260#32, 1#32⟩
-- ==== Kernel2.lean ====
abbrev S2816x1024 : Shape := ⟨2, ![2816, 1024]⟩
abbrev S16640x1024 : Shape := ⟨2, ![16640, 1024]⟩
abbrev S16640x2816 : Shape := ⟨2, ![16640, 2816]⟩
abbrev S1280x1024 : Shape := ⟨2, ![1280, 1024]⟩
abbrev S1408x1024 : Shape := ⟨2, ![1408, 1024]⟩
abbrev S1280x1408 : Shape := ⟨2, ![1280, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S16640x1024, .f32⟩
  | .hbm, ⟨2, _⟩ => ⟨S2816x1024, .bf16⟩
  | .hbm, ⟨3, _⟩ => ⟨S16640x2816, .bf16⟩
  | .local _ .vmem, ⟨0, _⟩ => ⟨S1280x1024, .f32⟩
  | .local _ .vmem, ⟨1, _⟩ => ⟨S1280x1024, .f32⟩
  | .local _ .vmem, ⟨2, _⟩ => ⟨S1408x1024, .bf16⟩
  | .local _ .vmem, ⟨3, _⟩ => ⟨S1408x1024, .bf16⟩
  | .local _ .vmem, ⟨4, _⟩ => ⟨S1280x1408, .bf16⟩
  | .local _ .vmem, ⟨5, _⟩ => ⟨S1280x1408, .bf16⟩
  | .local _ .vmem, ⟨6, _⟩ => ⟨S1280x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S16640x1024 : Shape := ⟨2, ![16640, 1024]⟩
abbrev S_ : Shape := ⟨0, ![]⟩
abbrev S16640x2816 : Shape := ⟨2, ![16640, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S16640x1024, .f32⟩
  | .hbm, ⟨2, _⟩ => ⟨S_, .bf16⟩
  | .hbm, ⟨3, _⟩ => ⟨S16640x2816, .bf16⟩
  | .hbm, ⟨4, _⟩ => ⟨S_, .f32⟩
  | .hbm, ⟨5, _⟩ => ⟨S16640x1024, .f32⟩
  | .hbm, ⟨6, _⟩ => ⟨S16640x2816, .f32⟩
  | .hbm, ⟨7, _⟩ => ⟨S16640x1024, .f32⟩
  | .hbm, ⟨8, _⟩ => ⟨S_, .f32⟩
  | .hbm, ⟨9, _⟩ => ⟨S16640x1024, .f32⟩
  | .hbm, ⟨10, _⟩ => ⟨S16640x1024, .f32⟩
  | .hbm, ⟨11, _⟩ => ⟨S16640x1024, .f32⟩
  | .hbm, ⟨12, _⟩ => ⟨S_, .f32⟩
  | .hbm, ⟨13, _⟩ => ⟨S16640x1024, .f32⟩
  | .hbm, ⟨14, _⟩ => ⟨S16640x1024, .f32⟩
  | .hbm, ⟨15, _⟩ => ⟨S16640x2816, .f32⟩
  | .hbm, ⟨16, _⟩ => ⟨S16640x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel3.lean ====
abbrev S16640x2816 : Shape := ⟨2, ![16640, 2816]⟩
abbrev S16640x1024 : Shape := ⟨2, ![16640, 1024]⟩
abbrev S2816x1024 : Shape := ⟨2, ![2816, 1024]⟩
abbrev S640x1408 : Shape := ⟨2, ![640, 1408]⟩
abbrev S640x1024 : Shape := ⟨2, ![640, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16640x2816, .bf16⟩
  | .hbm, ⟨1, _⟩ => ⟨S16640x1024, .f32⟩
  | .hbm, ⟨2, _⟩ => ⟨S2816x1024, .f32⟩
  | .local _ .vmem, ⟨0, _⟩ => ⟨S640x1408, .bf16⟩
  | .local _ .vmem, ⟨1, _⟩ => ⟨S640x1408, .bf16⟩
  | .local _ .vmem, ⟨2, _⟩ => ⟨S640x1024, .f32⟩
  | .local _ .vmem, ⟨3, _⟩ => ⟨S640x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16640x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 26], ![false, false, false]⟩

def k0_cond2 (i : grid0.Coords) : BitVec 1 :=
  let arg2 : BitVec 32 := BitVec.ofNat 32 (i 2).val
  let c25_i32 : BitVec 32 := 25#32
  let v12 : BitVec 1 := Scalar.cmpi .eq arg2 c25_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16640x2816 : Shape := ⟨2, ![16640, 2816]⟩
abbrev S16640x1024 : Shape := ⟨2, ![16640, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S16640x2816, .bf16⟩
  | .hbm, ⟨1, _⟩ => ⟨S16640x1024, .f32⟩
  | .hbm, ⟨2, _⟩ => ⟨S_, .f32⟩
  | .hbm, ⟨3, _⟩ => ⟨S2816x1024, .f32⟩
  | .hbm, ⟨4, _⟩ => ⟨S_, .f32⟩
  | .hbm, ⟨5, _⟩ => ⟨S16640x1024, .f32⟩
  | .hbm, ⟨6, _⟩ => ⟨S16640x2816, .f32⟩
  | .hbm, ⟨7, _⟩ => ⟨S16640x1024, .f32⟩
  | .hbm, ⟨8, _⟩ => ⟨S_, .f32⟩
  | .hbm, ⟨9, _⟩ => ⟨S16640x1024, .f32⟩
  | .hbm, ⟨10, _⟩ => ⟨S16640x1024, .f32⟩
  | .hbm, ⟨11, _⟩ => ⟨S16640x1024, .f32⟩
  | .hbm, ⟨12, _⟩ => ⟨S_, .f32⟩
  | .hbm, ⟨13, _⟩ => ⟨S16640x1024, .f32⟩
  | .hbm, ⟨14, _⟩ => ⟨S16640x1024, .f32⟩
  | .hbm, ⟨15, _⟩ => ⟨S1024x2816, .f32⟩
  | .hbm, ⟨16, _⟩ => ⟨S2816x1024, .f32⟩
  | _, _ => ⟨S16640x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S1024x2816 : Shape := ⟨2, ![1024, 2816]⟩
abbrev S16640x5632 : Shape := ⟨2, ![16640, 5632]⟩
abbrev S1024x5632 : Shape := ⟨2, ![1024, 5632]⟩
abbrev S16640x1024 : Shape := ⟨2, ![16640, 1024]⟩
abbrev S1280x1408 : Shape := ⟨2, ![1280, 1408]⟩
abbrev S1024x1408 : Shape := ⟨2, ![1024, 1408]⟩
abbrev S1280x1024 : Shape := ⟨2, ![1280, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S16640x5632, .bf16⟩
  | .hbm, ⟨3, _⟩ => ⟨S1024x5632, .f32⟩
  | .hbm, ⟨4, _⟩ => ⟨S1024x5632, .bf16⟩
  | .hbm, ⟨5, _⟩ => ⟨S16640x1024, .bf16⟩
  | .local _ .vmem, ⟨0, _⟩ => ⟨S1280x1408, .bf16⟩
  | .local _ .vmem, ⟨1, _⟩ => ⟨S1280x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x2816 : Shape := ⟨2, ![1024, 2816]⟩
abbrev S16640x5632 : Shape := ⟨2, ![16640, 5632]⟩
abbrev S_ : Shape := ⟨0, ![]⟩
abbrev S16640x1024 : Shape := ⟨2, ![16640, 1024]⟩
abbrev S16640x2816 : Shape := ⟨2, ![16640, 2816]⟩

abbrev nBuf : Space → Nat
  | .hbm => 18
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S16640x5632, .bf16⟩
  | .hbm, ⟨3, _⟩ => ⟨S_, .bf16⟩
  | .hbm, ⟨4, _⟩ => ⟨S16640x1024, .bf16⟩
  | .hbm, ⟨5, _⟩ => ⟨S16640x1024, .f32⟩
  | .hbm, ⟨6, _⟩ => ⟨S16640x2816, .f32⟩
  | .hbm, ⟨7, _⟩ => ⟨S16640x2816, .bf16⟩
  | .hbm, ⟨8, _⟩ => ⟨S16640x2816, .f32⟩
  | .hbm, ⟨9, _⟩ => ⟨S16640x2816, .bf16⟩
  | .hbm, ⟨10, _⟩ => ⟨S16640x2816, .bf16⟩
  | .hbm, ⟨11, _⟩ => ⟨S16640x2816, .bf16⟩
  | .hbm, ⟨12, _⟩ => ⟨S16640x2816, .f32⟩
  | .hbm, ⟨13, _⟩ => ⟨S16640x1024, .f32⟩
  | .hbm, ⟨14, _⟩ => ⟨S16640x2816, .f32⟩
  | .hbm, ⟨15, _⟩ => ⟨S16640x1024, .f32⟩
  | .hbm, ⟨16, _⟩ => ⟨S16640x1024, .f32⟩
  | .hbm, ⟨17, _⟩ => ⟨S16640x1024, .bf16⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S16640x1024 : Shape := ⟨2, ![16640, 1024]⟩
abbrev S16640x5632 : Shape := ⟨2, ![16640, 5632]⟩
abbrev S1024x5632 : Shape := ⟨2, ![1024, 5632]⟩
abbrev S640x1024 : Shape := ⟨2, ![640, 1024]⟩
abbrev S640x1408 : Shape := ⟨2, ![640, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x5632, .bf16⟩
  | .hbm, ⟨2, _⟩ => ⟨S1024x5632, .f32⟩
  | .local _ .vmem, ⟨0, _⟩ => ⟨S640x1024, .bf16⟩
  | .local _ .vmem, ⟨1, _⟩ => ⟨S640x1024, .bf16⟩
  | .local _ .vmem, ⟨2, _⟩ => ⟨S640x1408, .bf16⟩
  | .local _ .vmem, ⟨3, _⟩ => ⟨S640x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 26], ![false, false, false]⟩

def k0_cond2 (i : grid0.Coords) : BitVec 1 :=
  let arg2 : BitVec 32 := BitVec.ofNat 32 (i 2).val
  let c25_i32 : BitVec 32 := 25#32
  let v11 : BitVec 1 := Scalar.cmpi .eq arg2 c25_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16640x1024 : Shape := ⟨2, ![16640, 1024]⟩
abbrev S16640x5632 : Shape := ⟨2, ![16640, 5632]⟩
abbrev S_ : Shape := ⟨0, ![]⟩
abbrev S1024x2816 : Shape := ⟨2, ![1024, 2816]⟩
abbrev S16640x2816 : Shape := ⟨2, ![16640, 2816]⟩
abbrev S2816x1024 : Shape := ⟨2, ![2816, 1024]⟩
abbrev S1024x5632 : Shape := ⟨2, ![1024, 5632]⟩

abbrev nBuf : Space → Nat
  | .hbm => 18
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x5632, .bf16⟩
  | .hbm, ⟨2, _⟩ => ⟨S_, .f32⟩
  | .hbm, ⟨3, _⟩ => ⟨S1024x2816, .f32⟩
  | .hbm, ⟨4, _⟩ => ⟨S16640x1024, .f32⟩
  | .hbm, ⟨5, _⟩ => ⟨S16640x2816, .f32⟩
  | .hbm, ⟨6, _⟩ => ⟨S16640x2816, .bf16⟩
  | .hbm, ⟨7, _⟩ => ⟨S16640x2816, .f32⟩
  | .hbm, ⟨8, _⟩ => ⟨S16640x2816, .bf16⟩
  | .hbm, ⟨9, _⟩ => ⟨S16640x2816, .bf16⟩
  | .hbm, ⟨10, _⟩ => ⟨S16640x2816, .bf16⟩
  | .hbm, ⟨11, _⟩ => ⟨S16640x2816, .f32⟩
  | .hbm, ⟨12, _⟩ => ⟨S2816x1024, .f32⟩
  | .hbm, ⟨13, _⟩ => ⟨S1024x2816, .f32⟩
  | .hbm, ⟨14, _⟩ => ⟨S16640x2816, .f32⟩
  | .hbm, ⟨15, _⟩ => ⟨S2816x1024, .f32⟩
  | .hbm, ⟨16, _⟩ => ⟨S1024x2816, .f32⟩
  | .hbm, ⟨17, _⟩ => ⟨S1024x5632, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S16640x2816 : Shape := ⟨2, ![16640, 2816]⟩
abbrev S2816x1024 : Shape := ⟨2, ![2816, 1024]⟩
abbrev S16640x1024 : Shape := ⟨2, ![16640, 1024]⟩
abbrev S1280x1408 : Shape := ⟨2, ![1280, 1408]⟩
abbrev S1408x1024 : Shape := ⟨2, ![1408, 1024]⟩
abbrev S1280x1024 : Shape := ⟨2, ![1280, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16640x2816, .bf16⟩
  | .hbm, ⟨1, _⟩ => ⟨S2816x1024, .f32⟩
  | .hbm, ⟨2, _⟩ => ⟨S16640x1024, .f32⟩
  | .hbm, ⟨3, _⟩ => ⟨S2816x1024, .bf16⟩
  | .hbm, ⟨4, _⟩ => ⟨S16640x1024, .f32⟩
  | .local _ .vmem, ⟨0, _⟩ => ⟨S1280x1408, .bf16⟩
  | .local _ .vmem, ⟨1, _⟩ => ⟨S1280x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | .local _ .vmem, ⟨7, _⟩ => ⟨S1280x1024, .f32⟩
  | .local _ .vmem, ⟨8, _⟩ => ⟨S1280x1024, .f32⟩
  | _, _ => ⟨S16640x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16640x2816 : Shape := ⟨2, ![16640, 2816]⟩
abbrev S2816x1024 : Shape := ⟨2, ![2816, 1024]⟩
abbrev S16640x1024 : Shape := ⟨2, ![16640, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16640x2816, .bf16⟩
  | .hbm, ⟨1, _⟩ => ⟨S2816x1024, .f32⟩
  | .hbm, ⟨2, _⟩ => ⟨S16640x1024, .f32⟩
  | .hbm, ⟨3, _⟩ => ⟨S16640x2816, .f32⟩
  | .hbm, ⟨4, _⟩ => ⟨S16640x1024, .f32⟩
  | .hbm, ⟨5, _⟩ => ⟨S_, .f32⟩
  | .hbm, ⟨6, _⟩ => ⟨S16640x1024, .f32⟩
  | .hbm, ⟨7, _⟩ => ⟨S16640x1024, .f32⟩
  | .hbm, ⟨8, _⟩ => ⟨S16640x1024, .f32⟩
  | _, _ => ⟨S16640x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16640x1024 : Shape := ⟨2, ![16640, 1024]⟩
abbrev S1024x2816 : Shape := ⟨2, ![1024, 2816]⟩
abbrev S1024x5632 : Shape := ⟨2, ![1024, 5632]⟩
abbrev S16640x5632 : Shape := ⟨2, ![16640, 5632]⟩
abbrev S1280x1024 : Shape := ⟨2, ![1280, 1024]⟩
abbrev S1024x1408 : Shape := ⟨2, ![1024, 1408]⟩
abbrev S1280x1408 : Shape := ⟨2, ![1280, 1408]⟩

abbrev nBuf : Space → Nat
  | .hbm => 6
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S1024x2816, .f32⟩
  | .hbm, ⟨2, _⟩ => ⟨S1024x2816, .f32⟩
  | .hbm, ⟨3, _⟩ => ⟨S1024x5632, .f32⟩
  | .hbm, ⟨4, _⟩ => ⟨S1024x5632, .bf16⟩
  | .hbm, ⟨5, _⟩ => ⟨S16640x5632, .bf16⟩
  | .local _ .vmem, ⟨0, _⟩ => ⟨S1280x1024, .bf16⟩
  | .local _ .vmem, ⟨1, _⟩ => ⟨S1280x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1280x1408, .bf16⟩
  | .local _ .vmem, ⟨5, _⟩ => ⟨S1280x1408, .bf16⟩
  | .local _ .vmem, ⟨6, _⟩ => ⟨S1280x1408, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16640x1024 : Shape := ⟨2, ![16640, 1024]⟩
abbrev S1024x2816 : Shape := ⟨2, ![1024, 2816]⟩
abbrev S16640x2816 : Shape := ⟨2, ![16640, 2816]⟩
abbrev S16640x5632 : Shape := ⟨2, ![16640, 5632]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x2816, .f32⟩
  | .hbm, ⟨2, _⟩ => ⟨S1024x2816, .f32⟩
  | .hbm, ⟨3, _⟩ => ⟨S16640x1024, .f32⟩
  | .hbm, ⟨4, _⟩ => ⟨S16640x2816, .f32⟩
  | .hbm, ⟨5, _⟩ => ⟨S16640x2816, .bf16⟩
  | .hbm, ⟨6, _⟩ => ⟨S16640x2816, .f32⟩
  | .hbm, ⟨7, _⟩ => ⟨S16640x2816, .bf16⟩
  | .hbm, ⟨8, _⟩ => ⟨S16640x5632, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1024x1024, .f32⟩
  | .hbm, ⟨2, _⟩ => ⟨S16640x1024, .f32⟩
  | .hbm, ⟨3, _⟩ => ⟨S1024x1024, .bf16⟩
  | .hbm, ⟨4, _⟩ => ⟨S16640x1024, .f32⟩
  | .local _ .vmem, ⟨0, _⟩ => ⟨S1280x1024, .f32⟩
  | .local _ .vmem, ⟨1, _⟩ => ⟨S1280x1024, .f32⟩
  | .local _ .vmem, ⟨2, _⟩ => ⟨S1024x1024, .bf16⟩
  | .local _ .vmem, ⟨3, _⟩ => ⟨S1280x1024, .f32⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | .local _ .vmem, ⟨7, _⟩ => ⟨S1280x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S16640x1024 : Shape := ⟨2, ![16640, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x1024, .f32⟩
  | .hbm, ⟨2, _⟩ => ⟨S16640x1024, .f32⟩
  | .hbm, ⟨3, _⟩ => ⟨S16640x1024, .f32⟩
  | .hbm, ⟨4, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S1024x1024 : Shape := ⟨2, ![1024, 1024]⟩
abbrev S16640x1024 : Shape := ⟨2, ![16640, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S16640x1024, .f32⟩
  | .hbm, ⟨2, _⟩ => ⟨S1024x1024, .bf16⟩
  | .hbm, ⟨3, _⟩ => ⟨S16640x1024, .f32⟩
  | .local _ .vmem, ⟨0, _⟩ => ⟨S1280x1024, .f32⟩
  | .local _ .vmem, ⟨1, _⟩ => ⟨S1280x1024, .f32⟩
  | .local _ .vmem, ⟨2, _⟩ => ⟨S1024x1024, .bf16⟩
  | .local _ .vmem, ⟨3, _⟩ => ⟨S1280x1024, .f32⟩
  | .local _ .vmem, ⟨4, _⟩ => ⟨S1280x1024, .f32⟩
  | .local _ .vmem, ⟨5, _⟩ => ⟨S1280x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x1024 : Shape := ⟨2, ![1024, 1024]⟩
abbrev S16640x1024 : Shape := ⟨2, ![16640, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16640x1024, .f32⟩
  | .hbm, ⟨2, _⟩ => ⟨S_, .f32⟩
  | .hbm, ⟨3, _⟩ => ⟨S16640x1024, .f32⟩
  | .hbm, ⟨4, _⟩ => ⟨S_, .f32⟩
  | .hbm, ⟨5, _⟩ => ⟨S16640x1024, .f32⟩
  | .hbm, ⟨6, _⟩ => ⟨S16640x1024, .f32⟩
  | .hbm, ⟨7, _⟩ => ⟨S16640x1024, .f32⟩
  | .hbm, ⟨8, _⟩ => ⟨S16640x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S16640x1024 : Shape := ⟨2, ![16640, 1024]⟩
abbrev S1024x1024 : Shape := ⟨2, ![1024, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1024x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1024x1024, .f32⟩
  | .local _ .vmem, ⟨5, _⟩ => ⟨S1024x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 26], ![false, false, false]⟩

def k0_cond2 (i : grid0.Coords) : BitVec 1 :=
  let arg2 : BitVec 32 := BitVec.ofNat 32 (i 2).val
  let c25_i32 : BitVec 32 := 25#32
  let v13 : BitVec 1 := Scalar.cmpi .eq arg2 c25_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16640x1024 : Shape := ⟨2, ![16640, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S16640x1024, .f32⟩
  | .hbm, ⟨6, _⟩ => ⟨S16640x1024, .f32⟩
  | .hbm, ⟨7, _⟩ => ⟨S16640x1024, .f32⟩
  | .hbm, ⟨8, _⟩ => ⟨S1024x1024, .f32⟩
  | .hbm, ⟨9, _⟩ => ⟨S1024x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S16640x1024 : Shape := ⟨2, ![16640, 1024]⟩
abbrev S1024x2312 : Shape := ⟨2, ![1024, 2312]⟩
abbrev S1024x1800 : Shape := ⟨2, ![1024, 1800]⟩
abbrev S_ : Shape := ⟨0, ![]⟩
abbrev S1024x120 : Shape := ⟨2, ![1024, 120]⟩
abbrev S1024x512 : Shape := ⟨2, ![1024, 512]⟩
abbrev S1024x128 : Shape := ⟨2, ![1024, 128]⟩
abbrev S1024x2560 : Shape := ⟨2, ![1024, 2560]⟩
abbrev S16640x2560 : Shape := ⟨2, ![16640, 2560]⟩
abbrev S1280x1024 : Shape := ⟨2, ![1280, 1024]⟩
abbrev S1024x1280 : Shape := ⟨2, ![1024, 1280]⟩
abbrev S1280x1280 : Shape := ⟨2, ![1280, 1280]⟩

abbrev nBuf : Space → Nat
  | .hbm => 11
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S1024x2312, .f32⟩
  | .hbm, ⟨2, _⟩ => ⟨S1024x1800, .f32⟩
  | .hbm, ⟨3, _⟩ => ⟨S_, .f32⟩
  | .hbm, ⟨4, _⟩ => ⟨S1024x120, .f32⟩
  | .hbm, ⟨5, _⟩ => ⟨S1024x512, .f32⟩
  | .hbm, ⟨6, _⟩ => ⟨S_, .f32⟩
  | .hbm, ⟨7, _⟩ => ⟨S1024x128, .f32⟩
  | .hbm, ⟨8, _⟩ => ⟨S1024x2560, .f32⟩
  | .hbm, ⟨9, _⟩ => ⟨S1024x2560, .bf16⟩
  | .hbm, ⟨10, _⟩ => ⟨S16640x2560, .f32⟩
  | .local _ .vmem, ⟨0, _⟩ => ⟨S1280x1024, .bf16⟩
  | .local _ .vmem, ⟨1, _⟩ => ⟨S1280x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1280x1280, .f32⟩
  | .local _ .vmem, ⟨5, _⟩ => ⟨S1280x1280, .f32⟩
  | .local _ .vmem, ⟨6, _⟩ => ⟨S1280x1280, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16640x1024 : Shape := ⟨2, ![16640, 1024]⟩
abbrev S1024x2312 : Shape := ⟨2, ![1024, 2312]⟩
abbrev S16640x2312 : Shape := ⟨2, ![16640, 2312]⟩
abbrev S16640x1800 : Shape := ⟨2, ![16640, 1800]⟩
abbrev S_ : Shape := ⟨0, ![]⟩
abbrev S16640x120 : Shape := ⟨2, ![16640, 120]⟩
abbrev S16640x512 : Shape := ⟨2, ![16640, 512]⟩
abbrev S16640x128 : Shape := ⟨2, ![16640, 128]⟩
abbrev S16640x2560 : Shape := ⟨2, ![16640, 2560]⟩

abbrev nBuf : Space → Nat
  | .hbm => 11
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x2312, .f32⟩
  | .hbm, ⟨2, _⟩ => ⟨S16640x1024, .f32⟩
  | .hbm, ⟨3, _⟩ => ⟨S16640x2312, .f32⟩
  | .hbm, ⟨4, _⟩ => ⟨S16640x1800, .f32⟩
  | .hbm, ⟨5, _⟩ => ⟨S_, .f32⟩
  | .hbm, ⟨6, _⟩ => ⟨S16640x120, .f32⟩
  | .hbm, ⟨7, _⟩ => ⟨S16640x512, .f32⟩
  | .hbm, ⟨8, _⟩ => ⟨S_, .f32⟩
  | .hbm, ⟨9, _⟩ => ⟨S16640x128, .f32⟩
  | .hbm, ⟨10, _⟩ => ⟨S16640x2560, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S1024x2312 : Shape := ⟨2, ![1024, 2312]⟩
abbrev S16640x2560 : Shape := ⟨2, ![16640, 2560]⟩
abbrev S1024x1800 : Shape := ⟨2, ![1024, 1800]⟩
abbrev S_ : Shape := ⟨0, ![]⟩
abbrev S1024x120 : Shape := ⟨2, ![1024, 120]⟩
abbrev S1024x512 : Shape := ⟨2, ![1024, 512]⟩
abbrev S1024x128 : Shape := ⟨2, ![1024, 128]⟩
abbrev S1024x2560 : Shape := ⟨2, ![1024, 2560]⟩
abbrev S16640x1024 : Shape := ⟨2, ![16640, 1024]⟩
abbrev S1280x1280 : Shape := ⟨2, ![1280, 1280]⟩
abbrev S1024x1280 : Shape := ⟨2, ![1024, 1280]⟩
abbrev S1280x1024 : Shape := ⟨2, ![1280, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024x2312, .f32⟩
  | .hbm, ⟨1, _⟩ => ⟨S16640x2560, .f32⟩
  | .hbm, ⟨2, _⟩ => ⟨S1024x1800, .f32⟩
  | .hbm, ⟨3, _⟩ => ⟨S_, .f32⟩
  | .hbm, ⟨4, _⟩ => ⟨S1024x120, .f32⟩
  | .hbm, ⟨5, _⟩ => ⟨S1024x512, .f32⟩
  | .hbm, ⟨6, _⟩ => ⟨S_, .f32⟩
  | .hbm, ⟨7, _⟩ => ⟨S1024x128, .f32⟩
  | .hbm, ⟨8, _⟩ => ⟨S1024x2560, .f32⟩
  | .hbm, ⟨9, _⟩ => ⟨S1024x2560, .bf16⟩
  | .hbm, ⟨10, _⟩ => ⟨S16640x1024, .bf16⟩
  | .local _ .vmem, ⟨0, _⟩ => ⟨S1280x1280, .f32⟩
  | .local _ .vmem, ⟨1, _⟩ => ⟨S1280x1280, .f32⟩
  | .local _ .vmem, ⟨2, _⟩ => ⟨S1024x1280, .bf16⟩
  | .local _ .vmem, ⟨3, _⟩ => ⟨S1024x1280, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S1024x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x2312 : Shape := ⟨2, ![1024, 2312]⟩
abbrev S16640x2560 : Shape := ⟨2, ![16640, 2560]⟩
abbrev S16640x1800 : Shape := ⟨2, ![16640, 1800]⟩
abbrev S16640x512 : Shape := ⟨2, ![16640, 512]⟩
abbrev S16640x2312 : Shape := ⟨2, ![16640, 2312]⟩
abbrev S_ : Shape := ⟨0, ![]⟩
abbrev S16640x1024 : Shape := ⟨2, ![16640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2312, .f32⟩
  | .hbm, ⟨1, _⟩ => ⟨S16640x2560, .f32⟩
  | .hbm, ⟨2, _⟩ => ⟨S16640x1800, .f32⟩
  | .hbm, ⟨3, _⟩ => ⟨S16640x512, .f32⟩
  | .hbm, ⟨4, _⟩ => ⟨S16640x2312, .f32⟩
  | .hbm, ⟨5, _⟩ => ⟨S_, .bf16⟩
  | .hbm, ⟨6, _⟩ => ⟨S16640x1024, .bf16⟩
  | .hbm, ⟨7, _⟩ => ⟨S16640x1024, .f32⟩
  | .hbm, ⟨8, _⟩ => ⟨S16640x2312, .f32⟩
  | .hbm, ⟨9, _⟩ => ⟨S16640x1024, .f32⟩
  | .hbm, ⟨10, _⟩ => ⟨S16640x1024, .bf16⟩
  | _, _ => ⟨S1024x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S16640x1024 : Shape := ⟨2, ![16640, 1024]⟩
abbrev S16640x2560 : Shape := ⟨2, ![16640, 2560]⟩
abbrev S1024x2560 : Shape := ⟨2, ![1024, 2560]⟩
abbrev S640x1024 : Shape := ⟨2, ![640, 1024]⟩
abbrev S640x1280 : Shape := ⟨2, ![640, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x2560, .f32⟩
  | .hbm, ⟨2, _⟩ => ⟨S1024x2560, .f32⟩
  | .local _ .vmem, ⟨0, _⟩ => ⟨S640x1024, .bf16⟩
  | .local _ .vmem, ⟨1, _⟩ => ⟨S640x1024, .bf16⟩
  | .local _ .vmem, ⟨2, _⟩ => ⟨S640x1280, .f32⟩
  | .local _ .vmem, ⟨3, _⟩ => ⟨S640x1280, .f32⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 26], ![false, false, false]⟩

def k0_cond2 (i : grid0.Coords) : BitVec 1 :=
  let arg2 : BitVec 32 := BitVec.ofNat 32 (i 2).val
  let c25_i32 : BitVec 32 := 25#32
  let v12 : BitVec 1 := Scalar.cmpi .eq arg2 c25_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16640x1024 : Shape := ⟨2, ![16640, 1024]⟩
abbrev S16640x2560 : Shape := ⟨2, ![16640, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x2560, .f32⟩
  | .hbm, ⟨2, _⟩ => ⟨S_, .f32⟩
  | .hbm, ⟨3, _⟩ => ⟨S1024x2560, .f32⟩
  | .hbm, ⟨4, _⟩ => ⟨S16640x1024, .f32⟩
  | .hbm, ⟨5, _⟩ => ⟨S16640x2560, .f32⟩
  | .hbm, ⟨6, _⟩ => ⟨S2560x1024, .f32⟩
  | .hbm, ⟨7, _⟩ => ⟨S1024x2560, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S16640x5632 : Shape := ⟨2, ![16640, 5632]⟩
abbrev S16640x2816 : Shape := ⟨2, ![16640, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S16640x5632, .bf16⟩
  | .hbm, ⟨1, _⟩ => ⟨S16640x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S16640x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S16640x5632 : Shape := ⟨2, ![16640, 5632]⟩
abbrev S16640x2816 : Shape := ⟨2, ![16640, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16640x5632, .bf16⟩
  | .hbm, ⟨1, _⟩ => ⟨S16640x2816, .bf16⟩
  | .hbm, ⟨2, _⟩ => ⟨S16640x2816, .f32⟩
  | .hbm, ⟨3, _⟩ => ⟨S16640x2816, .bf16⟩
  | .hbm, ⟨4, _⟩ => ⟨S16640x2816, .f32⟩
  | .hbm, ⟨5, _⟩ => ⟨S16640x2816, .f32⟩
  | .hbm, ⟨6, _⟩ => ⟨S16640x2816, .f32⟩
  | .hbm, ⟨7, _⟩ => ⟨S_, .f32⟩
  | .hbm, ⟨8, _⟩ => ⟨S16640x2816, .f32⟩
  | .hbm, ⟨9, _⟩ => ⟨S16640x2816, .f32⟩
  | .hbm, ⟨10, _⟩ => ⟨S_, .f32⟩
  | .hbm, ⟨11, _⟩ => ⟨S16640x2816, .f32⟩
  | .hbm, ⟨12, _⟩ => ⟨S16640x2816, .f32⟩
  | .hbm, ⟨13, _⟩ => ⟨S16640x2816, .f32⟩
  | .hbm, ⟨14, _⟩ => ⟨S16640x2816, .f32⟩
  | .hbm, ⟨15, _⟩ => ⟨S16640x2816, .bf16⟩
  | _, _ => ⟨S16640x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel15.lean ====
abbrev S16640x5632 : Shape := ⟨2, ![16640, 5632]⟩
abbrev S16640x2816 : Shape := ⟨2, ![16640, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16640x5632, .bf16⟩
  | .hbm, ⟨1, _⟩ => ⟨S16640x2816, .bf16⟩
  | .hbm, ⟨2, _⟩ => ⟨S16640x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S16640x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S16640x5632 : Shape := ⟨2, ![16640, 5632]⟩
abbrev S16640x2816 : Shape := ⟨2, ![16640, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16640x5632, .bf16⟩
  | .hbm, ⟨1, _⟩ => ⟨S16640x2816, .bf16⟩
  | .hbm, ⟨2, _⟩ => ⟨S16640x2816, .bf16⟩
  | .hbm, ⟨3, _⟩ => ⟨S16640x2816, .f32⟩
  | .hbm, ⟨4, _⟩ => ⟨S16640x2816, .bf16⟩
  | .hbm, ⟨5, _⟩ => ⟨S16640x2816, .f32⟩
  | .hbm, ⟨6, _⟩ => ⟨S16640x2816, .f32⟩
  | .hbm, ⟨7, _⟩ => ⟨S16640x2816, .f32⟩
  | .hbm, ⟨8, _⟩ => ⟨S_, .f32⟩
  | .hbm, ⟨9, _⟩ => ⟨S16640x2816, .f32⟩
  | .hbm, ⟨10, _⟩ => ⟨S16640x2816, .f32⟩
  | .hbm, ⟨11, _⟩ => ⟨S_, .f32⟩
  | .hbm, ⟨12, _⟩ => ⟨S16640x2816, .f32⟩
  | .hbm, ⟨13, _⟩ => ⟨S16640x2816, .f32⟩
  | .hbm, ⟨14, _⟩ => ⟨S_, .f32⟩
  | .hbm, ⟨15, _⟩ => ⟨S16640x2816, .f32⟩
  | .hbm, ⟨16, _⟩ => ⟨S16640x2816, .f32⟩
  | .hbm, ⟨17, _⟩ => ⟨S16640x2816, .f32⟩
  | .hbm, ⟨18, _⟩ => ⟨S16640x2816, .f32⟩
  | .hbm, ⟨19, _⟩ => ⟨S16640x2816, .f32⟩
  | .hbm, ⟨20, _⟩ => ⟨S16640x2816, .bf16⟩
  | .hbm, ⟨21, _⟩ => ⟨S16640x2816, .f32⟩
  | .hbm, ⟨22, _⟩ => ⟨S16640x2816, .f32⟩
  | .hbm, ⟨23, _⟩ => ⟨S16640x2816, .f32⟩
  | .hbm, ⟨24, _⟩ => ⟨S16640x2816, .f32⟩
  | .hbm, ⟨25, _⟩ => ⟨S16640x2816, .f32⟩
  | .hbm, ⟨26, _⟩ => ⟨S16640x2816, .f32⟩
  | .hbm, ⟨27, _⟩ => ⟨S16640x2816, .f32⟩
  | .hbm, ⟨28, _⟩ => ⟨S16640x2816, .bf16⟩
  | .hbm, ⟨29, _⟩ => ⟨S_, .bf16⟩
  | .hbm, ⟨30, _⟩ => ⟨S16640x5632, .bf16⟩
  | .hbm, ⟨31, _⟩ => ⟨S16640x2816, .bf16⟩
  | .hbm, ⟨32, _⟩ => ⟨S_, .bf16⟩
  | .hbm, ⟨33, _⟩ => ⟨S16640x5632, .bf16⟩
  | .hbm, ⟨34, _⟩ => ⟨S16640x5632, .bf16⟩
  | _, _ => ⟨S16640x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel16.lean ====
abbrev S16640x768 : Shape := ⟨2, ![16640, 768]⟩
abbrev S4x768 : Shape := ⟨2, ![4, 768]⟩
abbrev S_ : Shape := ⟨0, ![]⟩
abbrev S8x768 : Shape := ⟨2, ![8, 768]⟩
abbrev S640x768 : Shape := ⟨2, ![640, 768]⟩
abbrev S1x768 : Shape := ⟨2, ![1, 768]⟩
abbrev S632x768 : Shape := ⟨2, ![632, 768]⟩

abbrev nBuf : Space → Nat
  | .hbm => 6
  | .vmem => 7
  | .smem => 0
  | _ => 0

abbrev bufTy : (tb : Table) → Fin (tcTables nBuf tb) → BufTy
  | .hbm, ⟨0, _⟩ => ⟨S16640x768, .f32⟩
  | .hbm, ⟨1, _⟩ => ⟨S4x768, .f32⟩
  | .hbm, ⟨2, _⟩ => ⟨S_, .i32⟩
  | .hbm, ⟨3, _⟩ => ⟨S_, .f32⟩
  | .hbm, ⟨4, _⟩ => ⟨S8x768, .f32⟩
  | .hbm, ⟨5, _⟩ => ⟨S16640x768, .f32⟩
  | .local _ .vmem, ⟨0, _⟩ => ⟨S640x768, .f32⟩
  | .local _ .vmem, ⟨1, _⟩ => ⟨S640x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S640x768, .f32⟩
  | .local _ .vmem, ⟨6, _⟩ => ⟨S640x768, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c80_i32 : BitVec 32 := 80#32
  let v0 : BitVec 32 := Scalar.muli arg0 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S16640x768 : Shape := ⟨2, ![16640, 768]⟩
abbrev S4x768 : Shape := ⟨2, ![4, 768]⟩
abbrev S_ : Shape := ⟨0, ![]⟩
abbrev S3x768 : Shape := ⟨2, ![3, 768]⟩
abbrev S16643x768 : Shape := ⟨2, ![16643, 768]⟩
abbrev S1x768 : Shape := ⟨2, ![1, 768]⟩
abbrev S768 : Shape := ⟨1, ![768]⟩

abbrev nBuf : Space → Nat
  | .hbm => 35
  | .vmem => 0
  | .smem => 0
  | _ => 0

abbrev bufTy : (tb : Table) → Fin (tcTables nBuf tb) → BufTy
  | .hbm, ⟨0, _⟩ => ⟨S16640x768, .f32⟩
  | .hbm, ⟨1, _⟩ => ⟨S4x768, .f32⟩
  | .hbm, ⟨2, _⟩ => ⟨S_, .f32⟩
  | .hbm, ⟨3, _⟩ => ⟨S3x768, .f32⟩
  | .hbm, ⟨4, _⟩ => ⟨S16643x768, .f32⟩
  | .hbm, ⟨5, _⟩ => ⟨S1x768, .f32⟩
  | .hbm, ⟨6, _⟩ => ⟨S768, .f32⟩
  | .hbm, ⟨7, _⟩ => ⟨S16640x768, .f32⟩
  | .hbm, ⟨8, _⟩ => ⟨S1x768, .f32⟩
  | .hbm, ⟨9, _⟩ => ⟨S16640x768, .f32⟩
  | .hbm, ⟨10, _⟩ => ⟨S16640x768, .f32⟩
  | .hbm, ⟨11, _⟩ => ⟨S_, .f32⟩
  | .hbm, ⟨12, _⟩ => ⟨S16640x768, .f32⟩
  | .hbm, ⟨13, _⟩ => ⟨S16640x768, .f32⟩
  | .hbm, ⟨14, _⟩ => ⟨S1x768, .f32⟩
  | .hbm, ⟨15, _⟩ => ⟨S768, .f32⟩
  | .hbm, ⟨16, _⟩ => ⟨S16640x768, .f32⟩
  | .hbm, ⟨17, _⟩ => ⟨S1x768, .f32⟩
  | .hbm, ⟨18, _⟩ => ⟨S16640x768, .f32⟩
  | .hbm, ⟨19, _⟩ => ⟨S16640x768, .f32⟩
  | .hbm, ⟨20, _⟩ => ⟨S16640x768, .f32⟩
  | .hbm, ⟨21, _⟩ => ⟨S1x768, .f32⟩
  | .hbm, ⟨22, _⟩ => ⟨S768, .f32⟩
  | .hbm, ⟨23, _⟩ => ⟨S16640x768, .f32⟩
  | .hbm, ⟨24, _⟩ => ⟨S1x768, .f32⟩
  | .hbm, ⟨25, _⟩ => ⟨S16640x768, .f32⟩
  | .hbm, ⟨26, _⟩ => ⟨S16640x768, .f32⟩
  | .hbm, ⟨27, _⟩ => ⟨S16640x768, .f32⟩
  | .hbm, ⟨28, _⟩ => ⟨S1x768, .f32⟩
  | .hbm, ⟨29, _⟩ => ⟨S768, .f32⟩
  | .hbm, ⟨30, _⟩ => ⟨S16640x768, .f32⟩
  | .hbm, ⟨31, _⟩ => ⟨S1x768, .f32⟩
  | .hbm, ⟨32, _⟩ => ⟨S16640x768, .f32⟩
  | .hbm, ⟨33, _⟩ => ⟨S16640x768, .f32⟩
  | .hbm, ⟨34, _⟩ => ⟨S16640x768, .f32⟩
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel17.lean ====
abbrev S4x768 : Shape := ⟨2, ![4, 768]⟩
abbrev S16640x768 : Shape := ⟨2, ![16640, 768]⟩
abbrev S_ : Shape := ⟨0, ![]⟩
abbrev S8x768 : Shape := ⟨2, ![8, 768]⟩
abbrev S640x768 : Shape := ⟨2, ![640, 768]⟩
abbrev S1x768 : Shape := ⟨2, ![1, 768]⟩
abbrev S632x768 : Shape := ⟨2, ![632, 768]⟩

abbrev nBuf : Space → Nat
  | .hbm => 6
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S16640x768, .f32⟩
  | .hbm, ⟨2, _⟩ => ⟨S_, .i32⟩
  | .hbm, ⟨3, _⟩ => ⟨S_, .f32⟩
  | .hbm, ⟨4, _⟩ => ⟨S8x768, .f32⟩
  | .hbm, ⟨5, _⟩ => ⟨S16640x768, .f32⟩
  | .local _ .vmem, ⟨0, _⟩ => ⟨S640x768, .f32⟩
  | .local _ .vmem, ⟨1, _⟩ => ⟨S640x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S640x768, .f32⟩
  | .local _ .vmem, ⟨6, _⟩ => ⟨S640x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c80_i32 : BitVec 32 := 80#32
  let v1 : BitVec 32 := Scalar.muli v0 c80_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4x768 : Shape := ⟨2, ![4, 768]⟩
abbrev S16640x768 : Shape := ⟨2, ![16640, 768]⟩
abbrev S_ : Shape := ⟨0, ![]⟩
abbrev S3x768 : Shape := ⟨2, ![3, 768]⟩
abbrev S16643x768 : Shape := ⟨2, ![16643, 768]⟩
abbrev S1x768 : Shape := ⟨2, ![1, 768]⟩
abbrev S768 : Shape := ⟨1, ![768]⟩

abbrev nBuf : Space → Nat
  | .hbm => 62
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S16640x768, .f32⟩
  | .hbm, ⟨2, _⟩ => ⟨S_, .f32⟩
  | .hbm, ⟨3, _⟩ => ⟨S16640x768, .f32⟩
  | .hbm, ⟨4, _⟩ => ⟨S_, .f32⟩
  | .hbm, ⟨5, _⟩ => ⟨S3x768, .f32⟩
  | .hbm, ⟨6, _⟩ => ⟨S16643x768, .f32⟩
  | .hbm, ⟨7, _⟩ => ⟨S_, .f32⟩
  | .hbm, ⟨8, _⟩ => ⟨S3x768, .f32⟩
  | .hbm, ⟨9, _⟩ => ⟨S1x768, .f32⟩
  | .hbm, ⟨10, _⟩ => ⟨S768, .f32⟩
  | .hbm, ⟨11, _⟩ => ⟨S16640x768, .f32⟩
  | .hbm, ⟨12, _⟩ => ⟨S1x768, .f32⟩
  | .hbm, ⟨13, _⟩ => ⟨S16640x768, .f32⟩
  | .hbm, ⟨14, _⟩ => ⟨S16640x768, .f32⟩
  | .hbm, ⟨15, _⟩ => ⟨S_, .f32⟩
  | .hbm, ⟨16, _⟩ => ⟨S16640x768, .f32⟩
  | .hbm, ⟨17, _⟩ => ⟨S16640x768, .f32⟩
  | .hbm, ⟨18, _⟩ => ⟨S1x768, .f32⟩
  | .hbm, ⟨19, _⟩ => ⟨S768, .f32⟩
  | .hbm, ⟨20, _⟩ => ⟨S16640x768, .f32⟩
  | .hbm, ⟨21, _⟩ => ⟨S1x768, .f32⟩
  | .hbm, ⟨22, _⟩ => ⟨S16640x768, .f32⟩
  | .hbm, ⟨23, _⟩ => ⟨S16640x768, .f32⟩
  | .hbm, ⟨24, _⟩ => ⟨S16640x768, .f32⟩
  | .hbm, ⟨25, _⟩ => ⟨S1x768, .f32⟩
  | .hbm, ⟨26, _⟩ => ⟨S768, .f32⟩
  | .hbm, ⟨27, _⟩ => ⟨S16640x768, .f32⟩
  | .hbm, ⟨28, _⟩ => ⟨S1x768, .f32⟩
  | .hbm, ⟨29, _⟩ => ⟨S16640x768, .f32⟩
  | .hbm, ⟨30, _⟩ => ⟨S16640x768, .f32⟩
  | .hbm, ⟨31, _⟩ => ⟨S16640x768, .f32⟩
  | .hbm, ⟨32, _⟩ => ⟨S1x768, .f32⟩
  | .hbm, ⟨33, _⟩ => ⟨S768, .f32⟩
  | .hbm, ⟨34, _⟩ => ⟨S16640x768, .f32⟩
  | .hbm, ⟨35, _⟩ => ⟨S1x768, .f32⟩
  | .hbm, ⟨36, _⟩ => ⟨S16640x768, .f32⟩
  | .hbm, ⟨37, _⟩ => ⟨S16640x768, .f32⟩
  | .hbm, ⟨38, _⟩ => ⟨S16640x768, .f32⟩
  | .hbm, ⟨39, _⟩ => ⟨S16640x768, .f32⟩
  | .hbm, ⟨40, _⟩ => ⟨S16640x768, .f32⟩
  | .hbm, ⟨41, _⟩ => ⟨S16640x768, .f32⟩
  | .hbm, ⟨42, _⟩ => ⟨S16640x768, .f32⟩
  | .hbm, ⟨43, _⟩ => ⟨S_, .f32⟩
  | .hbm, ⟨44, _⟩ => ⟨S16643x768, .f32⟩
  | .hbm, ⟨45, _⟩ => ⟨S16640x768, .f32⟩
  | .hbm, ⟨46, _⟩ => ⟨S16640x768, .f32⟩
  | .hbm, ⟨47, _⟩ => ⟨S_, .f32⟩
  | .hbm, ⟨48, _⟩ => ⟨S16643x768, .f32⟩
  | .hbm, ⟨49, _⟩ => ⟨S16643x768, .f32⟩
  | .hbm, ⟨50, _⟩ => ⟨S16640x768, .f32⟩
  | .hbm, ⟨51, _⟩ => ⟨S16640x768, .f32⟩
  | .hbm, ⟨52, _⟩ => ⟨S_, .f32⟩
  | .hbm, ⟨53, _⟩ => ⟨S16643x768, .f32⟩
  | .hbm, ⟨54, _⟩ => ⟨S16643x768, .f32⟩
  | .hbm, ⟨55, _⟩ => ⟨S16640x768, .f32⟩
  | .hbm, ⟨56, _⟩ => ⟨S16640x768, .f32⟩
  | .hbm, ⟨57, _⟩ => ⟨S_, .f32⟩
  | .hbm, ⟨58, _⟩ => ⟨S16643x768, .f32⟩
  | .hbm, ⟨59, _⟩ => ⟨S16643x768, .f32⟩
  | .hbm, ⟨60, _⟩ => ⟨S3x768, .f32⟩
  | .hbm, ⟨61, _⟩ => ⟨S16640x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel18.lean ====
abbrev S16640x768 : Shape := ⟨2, ![16640, 768]⟩
abbrev S8x768 : Shape := ⟨2, ![8, 768]⟩
abbrev S640x768 : Shape := ⟨2, ![640, 768]⟩
abbrev S632x768 : Shape := ⟨2, ![632, 768]⟩
abbrev S768 : Shape := ⟨1, ![768]⟩
abbrev S1x768 : Shape := ⟨2, ![1, 768]⟩

abbrev nBuf : Space → Nat
  | .hbm => 3
  | .vmem => 7
  | .smem => 0
  | _ => 0

abbrev bufTy : (tb : Table) → Fin (tcTables nBuf tb) → BufTy
  | .hbm, ⟨0, _⟩ => ⟨S16640x768, .f32⟩
  | .hbm, ⟨1, _⟩ => ⟨S16640x768, .f32⟩
  | .hbm, ⟨2, _⟩ => ⟨S8x768, .f32⟩
  | .local _ .vmem, ⟨0, _⟩ => ⟨S640x768, .f32⟩
  | .local _ .vmem, ⟨1, _⟩ => ⟨S640x768, .f32⟩
  | .local _ .vmem, ⟨2, _⟩ => ⟨S8x768, .f32⟩
  | .local _ .vmem, ⟨3, _⟩ => ⟨S8x768, .f32⟩
  | .local _ .vmem, ⟨4, _⟩ => ⟨S640x768, .f32⟩
  | .local _ .vmem, ⟨5, _⟩ => ⟨S640x768, .f32⟩
  | .local _ .vmem, ⟨6, _⟩ => ⟨S8x768, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c80_i32 : BitVec 32 := 80#32
  let v0 : BitVec 32 := Scalar.muli arg0 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference18Ideal.lean ====
abbrev S16640x768 : Shape := ⟨2, ![16640, 768]⟩
abbrev S_ : Shape := ⟨0, ![]⟩
abbrev S4x768 : Shape := ⟨2, ![4, 768]⟩
abbrev S3x768 : Shape := ⟨2, ![3, 768]⟩
abbrev S16643x768 : Shape := ⟨2, ![16643, 768]⟩
abbrev S1x768 : Shape := ⟨2, ![1, 768]⟩
abbrev S768 : Shape := ⟨1, ![768]⟩
abbrev S8x768 : Shape := ⟨2, ![8, 768]⟩

abbrev nBuf : Space → Nat
  | .hbm => 81
  | .vmem => 0
  | .smem => 0
  | _ => 0

abbrev bufTy : (tb : Table) → Fin (tcTables nBuf tb) → BufTy
  | .hbm, ⟨0, _⟩ => ⟨S16640x768, .f32⟩
  | .hbm, ⟨1, _⟩ => ⟨S16640x768, .f32⟩
  | .hbm, ⟨2, _⟩ => ⟨S_, .f32⟩
  | .hbm, ⟨3, _⟩ => ⟨S4x768, .f32⟩
  | .hbm, ⟨4, _⟩ => ⟨S_, .f32⟩
  | .hbm, ⟨5, _⟩ => ⟨S3x768, .f32⟩
  | .hbm, ⟨6, _⟩ => ⟨S16643x768, .f32⟩
  | .hbm, ⟨7, _⟩ => ⟨S1x768, .f32⟩
  | .hbm, ⟨8, _⟩ => ⟨S768, .f32⟩
  | .hbm, ⟨9, _⟩ => ⟨S16640x768, .f32⟩
  | .hbm, ⟨10, _⟩ => ⟨S1x768, .f32⟩
  | .hbm, ⟨11, _⟩ => ⟨S16640x768, .f32⟩
  | .hbm, ⟨12, _⟩ => ⟨S16640x768, .f32⟩
  | .hbm, ⟨13, _⟩ => ⟨S_, .f32⟩
  | .hbm, ⟨14, _⟩ => ⟨S16640x768, .f32⟩
  | .hbm, ⟨15, _⟩ => ⟨S16640x768, .f32⟩
  | .hbm, ⟨16, _⟩ => ⟨S1x768, .f32⟩
  | .hbm, ⟨17, _⟩ => ⟨S768, .f32⟩
  | .hbm, ⟨18, _⟩ => ⟨S16640x768, .f32⟩
  | .hbm, ⟨19, _⟩ => ⟨S1x768, .f32⟩
  | .hbm, ⟨20, _⟩ => ⟨S16640x768, .f32⟩
  | .hbm, ⟨21, _⟩ => ⟨S16640x768, .f32⟩
  | .hbm, ⟨22, _⟩ => ⟨S16640x768, .f32⟩
  | .hbm, ⟨23, _⟩ => ⟨S1x768, .f32⟩
  | .hbm, ⟨24, _⟩ => ⟨S768, .f32⟩
  | .hbm, ⟨25, _⟩ => ⟨S16640x768, .f32⟩
  | .hbm, ⟨26, _⟩ => ⟨S1x768, .f32⟩
  | .hbm, ⟨27, _⟩ => ⟨S16640x768, .f32⟩
  | .hbm, ⟨28, _⟩ => ⟨S16640x768, .f32⟩
  | .hbm, ⟨29, _⟩ => ⟨S16640x768, .f32⟩
  | .hbm, ⟨30, _⟩ => ⟨S1x768, .f32⟩
  | .hbm, ⟨31, _⟩ => ⟨S768, .f32⟩
  | .hbm, ⟨32, _⟩ => ⟨S16640x768, .f32⟩
  | .hbm, ⟨33, _⟩ => ⟨S1x768, .f32⟩
  | .hbm, ⟨34, _⟩ => ⟨S16640x768, .f32⟩
  | .hbm, ⟨35, _⟩ => ⟨S16640x768, .f32⟩
  | .hbm, ⟨36, _⟩ => ⟨S16640x768, .f32⟩
  | .hbm, ⟨37, _⟩ => ⟨S16640x768, .f32⟩
  | .hbm, ⟨38, _⟩ => ⟨S16640x768, .f32⟩
  | .hbm, ⟨39, _⟩ => ⟨S16640x768, .f32⟩
  | .hbm, ⟨40, _⟩ => ⟨S_, .f32⟩
  | .hbm, ⟨41, _⟩ => ⟨S768, .f32⟩
  | .hbm, ⟨42, _⟩ => ⟨S1x768, .f32⟩
  | .hbm, ⟨43, _⟩ => ⟨S_, .f32⟩
  | .hbm, ⟨44, _⟩ => ⟨S768, .f32⟩
  | .hbm, ⟨45, _⟩ => ⟨S1x768, .f32⟩
  | .hbm, ⟨46, _⟩ => ⟨S_, .f32⟩
  | .hbm, ⟨47, _⟩ => ⟨S4x768, .f32⟩
  | .hbm, ⟨48, _⟩ => ⟨S16640x768, .f32⟩
  | .hbm, ⟨49, _⟩ => ⟨S_, .f32⟩
  | .hbm, ⟨50, _⟩ => ⟨S768, .f32⟩
  | .hbm, ⟨51, _⟩ => ⟨S1x768, .f32⟩
  | .hbm, ⟨52, _⟩ => ⟨S_, .f32⟩
  | .hbm, ⟨53, _⟩ => ⟨S768, .f32⟩
  | .hbm, ⟨54, _⟩ => ⟨S1x768, .f32⟩
  | .hbm, ⟨55, _⟩ => ⟨S_, .f32⟩
  | .hbm, ⟨56, _⟩ => ⟨S4x768, .f32⟩
  | .hbm, ⟨57, _⟩ => ⟨S4x768, .f32⟩
  | .hbm, ⟨58, _⟩ => ⟨S16640x768, .f32⟩
  | .hbm, ⟨59, _⟩ => ⟨S_, .f32⟩
  | .hbm, ⟨60, _⟩ => ⟨S768, .f32⟩
  | .hbm, ⟨61, _⟩ => ⟨S1x768, .f32⟩
  | .hbm, ⟨62, _⟩ => ⟨S_, .f32⟩
  | .hbm, ⟨63, _⟩ => ⟨S768, .f32⟩
  | .hbm, ⟨64, _⟩ => ⟨S1x768, .f32⟩
  | .hbm, ⟨65, _⟩ => ⟨S_, .f32⟩
  | .hbm, ⟨66, _⟩ => ⟨S4x768, .f32⟩
  | .hbm, ⟨67, _⟩ => ⟨S4x768, .f32⟩
  | .hbm, ⟨68, _⟩ => ⟨S16640x768, .f32⟩
  | .hbm, ⟨69, _⟩ => ⟨S_, .f32⟩
  | .hbm, ⟨70, _⟩ => ⟨S768, .f32⟩
  | .hbm, ⟨71, _⟩ => ⟨S1x768, .f32⟩
  | .hbm, ⟨72, _⟩ => ⟨S_, .f32⟩
  | .hbm, ⟨73, _⟩ => ⟨S768, .f32⟩
  | .hbm, ⟨74, _⟩ => ⟨S1x768, .f32⟩
  | .hbm, ⟨75, _⟩ => ⟨S_, .f32⟩
  | .hbm, ⟨76, _⟩ => ⟨S4x768, .f32⟩
  | .hbm, ⟨77, _⟩ => ⟨S4x768, .f32⟩
  | .hbm, ⟨78, _⟩ => ⟨S_, .i32⟩
  | .hbm, ⟨79, _⟩ => ⟨S_, .f32⟩
  | .hbm, ⟨80, _⟩ => ⟨S8x768, .f32⟩
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_cst_6 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_11 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_c : Ref sig .tc := ⟨.hbm, 78, rfl⟩
abbrev main_call0_v0 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel19.lean ====
abbrev S16640x1024 : Shape := ⟨2, ![16640, 1024]⟩
abbrev S1024 : Shape := ⟨1, ![1024]⟩
abbrev S1x1024 : Shape := ⟨2, ![1, 1024]⟩
abbrev S640x1024 : Shape := ⟨2, ![640, 1024]⟩
abbrev S640x1 : Shape := ⟨2, ![640, 1]⟩
abbrev S640 : Shape := ⟨1, ![640]⟩

abbrev nBuf : Space → Nat
  | .hbm => 5
  | .vmem => 7
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024, .f32⟩
  | .hbm, ⟨3, _⟩ => ⟨S16640x1024, .bf16⟩
  | .hbm, ⟨4, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .f32⟩
  | .local _ .vmem, ⟨6, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S16640x1024 : Shape := ⟨2, ![16640, 1024]⟩
abbrev S1024 : Shape := ⟨1, ![1024]⟩
abbrev S16400x1024 : Shape := ⟨2, ![16400, 1024]⟩
abbrev S_ : Shape := ⟨0, ![]⟩
abbrev S16400 : Shape := ⟨1, ![16400]⟩
abbrev S16400x1 : Shape := ⟨2, ![16400, 1]⟩
abbrev S240x1024 : Shape := ⟨2, ![240, 1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16400x1024, .f32⟩
  | .hbm, ⟨3, _⟩ => ⟨S16400x1024, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x1024, .f32⟩
  | .hbm, ⟨15, _⟩ => ⟨S16400x1024, .f32⟩
  | .hbm, ⟨16, _⟩ => ⟨S_, .f32⟩
  | .hbm, ⟨17, _⟩ => ⟨S240x1024, .f32⟩
  | .hbm, ⟨18, _⟩ => ⟨S1x1024, .f32⟩
  | .hbm, ⟨19, _⟩ => ⟨S16400x1024, .f32⟩
  | .hbm, ⟨20, _⟩ => ⟨S16400x1024, .f32⟩
  | .hbm, ⟨21, _⟩ => ⟨S16640x1024, .f32⟩
  | .hbm, ⟨22, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel20.lean ====
abbrev S16640x1024 : Shape := ⟨2, ![16640, 1024]⟩
abbrev S1024 : Shape := ⟨1, ![1024]⟩
abbrev S1x1024 : Shape := ⟨2, ![1, 1024]⟩
abbrev S640x1024 : Shape := ⟨2, ![640, 1024]⟩
abbrev S640x1 : Shape := ⟨2, ![640, 1]⟩
abbrev S640 : Shape := ⟨1, ![640]⟩

abbrev nBuf : Space → Nat
  | .hbm => 7
  | .vmem => 10
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .bf16⟩
  | .hbm, ⟨3, _⟩ => ⟨S16640x1024, .f32⟩
  | .hbm, ⟨4, _⟩ => ⟨S1x1024, .f32⟩
  | .hbm, ⟨5, _⟩ => ⟨S16640x1024, .f32⟩
  | .hbm, ⟨6, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S16640x1024 : Shape := ⟨2, ![16640, 1024]⟩
abbrev S1024 : Shape := ⟨1, ![1024]⟩
abbrev S16400x1024 : Shape := ⟨2, ![16400, 1024]⟩
abbrev S_ : Shape := ⟨0, ![]⟩
abbrev S16400 : Shape := ⟨1, ![16400]⟩
abbrev S16400x1 : Shape := ⟨2, ![16400, 1]⟩
abbrev S240x1024 : Shape := ⟨2, ![240, 1024]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .bf16⟩
  | .hbm, ⟨3, _⟩ => ⟨S16640x1024, .f32⟩
  | .hbm, ⟨4, _⟩ => ⟨S16400x1024, .f32⟩
  | .hbm, ⟨5, _⟩ => ⟨S16400x1024, .f32⟩
  | .hbm, ⟨6, _⟩ => ⟨S_, .f32⟩
  | .hbm, ⟨7, _⟩ => ⟨S16400, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S16400x1, .f32⟩
  | .hbm, ⟨16, _⟩ => ⟨S16400x1, .f32⟩
  | .hbm, ⟨17, _⟩ => ⟨S_, .f32⟩
  | .hbm, ⟨18, _⟩ => ⟨S16400x1, .f32⟩
  | .hbm, ⟨19, _⟩ => ⟨S16400x1, .f32⟩
  | .hbm, ⟨20, _⟩ => ⟨S16400x1024, .f32⟩
  | .hbm, ⟨21, _⟩ => ⟨S16400x1024, .f32⟩
  | .hbm, ⟨22, _⟩ => ⟨S_, .f32⟩
  | .hbm, ⟨23, _⟩ => ⟨S240x1024, .f32⟩
  | .hbm, ⟨24, _⟩ => ⟨S1x1024, .f32⟩
  | .hbm, ⟨25, _⟩ => ⟨S16400x1024, .f32⟩
  | .hbm, ⟨26, _⟩ => ⟨S16400x1024, .f32⟩
  | .hbm, ⟨27, _⟩ => ⟨S16640x1024, .f32⟩
  | .hbm, ⟨28, _⟩ => ⟨S_, .f32⟩
  | .hbm, ⟨29, _⟩ => ⟨S240x1024, .f32⟩
  | .hbm, ⟨30, _⟩ => ⟨S16640x1024, .bf16⟩
  | .hbm, ⟨31, _⟩ => ⟨S16640x1024, .f32⟩
  | .hbm, ⟨32, _⟩ => ⟨S240x1024, .f32⟩
  | .hbm, ⟨33, _⟩ => ⟨S16400x1024, .f32⟩
  | .hbm, ⟨34, _⟩ => ⟨S16400x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S16400x1024, .f32⟩
  | .hbm, ⟨39, _⟩ => ⟨S16400x1024, .f32⟩
  | .hbm, ⟨40, _⟩ => ⟨S_, .f32⟩
  | .hbm, ⟨41, _⟩ => ⟨S1024, .f32⟩
  | .hbm, ⟨42, _⟩ => ⟨S16400x1024, .f32⟩
  | .hbm, ⟨43, _⟩ => ⟨S_, .f32⟩
  | .hbm, ⟨44, _⟩ => ⟨S16400, .f32⟩
  | .hbm, ⟨45, _⟩ => ⟨S16400x1, .f32⟩
  | .hbm, ⟨46, _⟩ => ⟨S16400x1024, .f32⟩
  | .hbm, ⟨47, _⟩ => ⟨S16400x1024, .f32⟩
  | .hbm, ⟨48, _⟩ => ⟨S16400x1, .f32⟩
  | .hbm, ⟨49, _⟩ => ⟨S_, .f32⟩
  | .hbm, ⟨50, _⟩ => ⟨S16400x1, .f32⟩
  | .hbm, ⟨51, _⟩ => ⟨S16400x1, .f32⟩
  | .hbm, ⟨52, _⟩ => ⟨S_, .f32⟩
  | .hbm, ⟨53, _⟩ => ⟨S16400, .f32⟩
  | .hbm, ⟨54, _⟩ => ⟨S16400x1024, .f32⟩
  | .hbm, ⟨55, _⟩ => ⟨S16400x1024, .f32⟩
  | .hbm, ⟨56, _⟩ => ⟨S16400x1024, .f32⟩
  | .hbm, ⟨57, _⟩ => ⟨S16400x1024, .f32⟩
  | .hbm, ⟨58, _⟩ => ⟨S16400x1024, .f32⟩
  | .hbm, ⟨59, _⟩ => ⟨S_, .f32⟩
  | .hbm, ⟨60, _⟩ => ⟨S16640x1024, .f32⟩
  | .hbm, ⟨61, _⟩ => ⟨S16640x1024, .f32⟩
  | .hbm, ⟨62, _⟩ => ⟨S1x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Ffn.Sums.lean ====
/-
  Sums of products over the extended reals, and the factor one half of the half step.
-/
module

public import Idealize.ShloMosaic.Lib.Pipeline.ValueKit
public import Idealize.ShloMosaic.Lib.Pointwise
public import Idealize.ShloMosaic.PureOps.Ideal.Laws

@[expose] public section

noncomputable section

namespace Cert.Ffn

open Idealize.ShloMosaic

/-- The factor of the half step, as both programs write it. -/
abbrev half : EReal := Ideal.ofBits .f32 0x3F000000#32

/-- It is the real number one half. -/
theorem half_eq : half = ((1 / 2 : ℝ) : EReal) := by
  simp [half, Ideal.ofBits, Ideal.ieee, -EReal.coe_mul]; norm_num

theorem half_nonneg : 0 ≤ half := by
  rw [half_eq]; exact EReal.coe_nonneg.mpr (by norm_num)

theorem half_ne_top : half ≠ ⊤ := by
  rw [half_eq]; exact EReal.coe_ne_top _

/-- Half of a finite sum is the sum of the halves, whatever infinities the sum has. -/
theorem sum_mul_half {ι : Type*} (s : Finset ι) (f : ι → EReal) : (∑ k ∈ s, f k) * half = ∑ k ∈ s, f k * half := by
  classical
  induction s using Finset.induction_on with
  | empty => simp
  | insert a s ha ih =>
    rw [Finset.sum_insert ha, Finset.sum_insert ha, EReal.right_distrib_of_nonneg_of_ne_top half_nonneg half_ne_top, ih]

/-- A half on a sum of products goes onto the right factors, the factors then exchanged. -/
theorem sum_half_swap {n : ℕ} (f g : Fin n → EReal) : (∑ k, f k * g k) * half = ∑ k, (half * g k) * f k := by
  rw [sum_mul_half]
  exact Finset.sum_congr rfl fun k _ => by rw [mul_assoc, mul_comm (f k), mul_comm (g k)]

/-- A half on a sum of products goes onto the left factors. -/
theorem sum_half_left {n : ℕ} (f g : Fin n → EReal) : (∑ k, f k * g k) * half = ∑ k, (half * f k) * g k := by
  rw [sum_mul_half]
  exact Finset.sum_congr rfl fun k _ => by rw [mul_comm (f k * g k), mul_assoc]

end Cert.Ffn

end
-- ==== Proof.Ffn.DownDx.lean ====
/-
  The gradient of the input of the down product: the kernel's array and the reference's, entry by entry.
-/
module

public import proofs.«01_k».proof.Proof.Gen.Kernel2Ideal.Value
public import proofs.«01_k».proof.Proof.Gen.Reference2Ideal.Run
public import proofs.«01_k».proof.Proof.Ffn.Sums

@[expose] public section

set_option maxHeartbeats 1000000

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

/-- One block's product added to what was there. -/
theorem pay2_apply (acc : Vec Ideal S1280x1408 .f32) (a : Vec Ideal S1280x1024 .f32) (b : Vec Ideal S1408x1024 .bf16) (j : S1280x1408.Idx) :
    k0_pay2 (F := Ideal) acc a b j = acc j + ∑ k : Fin 1024, a (ix2 (j 0) k) * b (ix2 (j 1) k) := by
  unfold k0_pay2
  pointwise

theorem pay1_apply (j : S1280x1408.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1408.Idx) : EReal :=
  let a : Vec Ideal S1280x1024 .f32 := iblk m c 0 t
  let b : Vec Ideal S1408x1024 .bf16 := iblk m c 1 t
  ∑ k : Fin 1024, a (ix2 (j 0) k) * b (ix2 (j 1) k)

/-- What a point leaves in the output block. -/
theorem out_eq (t : Fin cfg0.N) (j : S1280x1408.Idx) : outsAt0 m c t j = term m c t j * Cert.Ffn.half := by
  unfold outsAt0
  frame_out
  unfold k0_pay3
  pointwise
  rw [pay2_apply, pay1_apply, zero_add]
  rfl

/-- Where the blocks of the operands lie. -/
theorem idx (t : Fin cfg0.N) : win0_0.index t (0 : Fin 2) = t.val / 2
    ∧ win0_0.index t (1 : Fin 2) = 0
    ∧ win0_1.index t (0 : Fin 2) = t.val % 2
    ∧ win0_1.index t (1 : Fin 2) = 0
    ∧ win0_2.index t (0 : Fin 2) = t.val / 2
    ∧ win0_2.index t (1 : Fin 2) = t.val % 2 :=
  (by decide +kernel : ∀ t : Fin grid0.N, win0_0.index t (0 : Fin 2) = t.val / 2
    ∧ win0_0.index t (1 : Fin 2) = 0
    ∧ win0_1.index t (0 : Fin 2) = t.val % 2
    ∧ win0_1.index t (1 : Fin 2) = 0
    ∧ win0_2.index t (0 : Fin 2) = t.val / 2
    ∧ win0_2.index t (1 : Fin 2) = t.val % 2) t

/-- Every point writes its output block back. -/
theorem flush (t : Fin cfg0.N) : (cfg0.win 2).flush t = true := (by decide +kernel : ∀ t : Fin grid0.N, win0_2.flush t = true) t

/-- The point whose output block holds an entry, and the entry's place in the block. -/
def ptOf (i : S16640x2816.Idx) : Fin cfg0.N := ⟨2 * ((i 0).val / 1280) + (i 1).val / 1408, by
  have hi0 : (i 0).val < 16640 := (i 0).isLt
  have hi1 : (i 1).val < 2816 := (i 1).isLt
  rw [show cfg0.N = 26 from N_0]; omega⟩

def locOf (i : S16640x2816.Idx) : S1280x1408.Idx :=
  ix2 ⟨(i 0).val % 1280, Nat.mod_lt _ (by decide)⟩ ⟨(i 1).val % 1408, Nat.mod_lt _ (by decide)⟩

theorem read2 (W : Vec Ideal S16640x2816 .bf16) (i : S16640x2816.Idx) :
    (((cfg0.win 2).blk (ptOf i)).view.read (Elt Ideal) W : Vec Ideal S1280x1408 .bf16) (locOf i) = W i := by
  obtain ⟨e0, e1, e2, e3, e4, e5⟩ := idx (ptOf i)
  have hi0 : (i 0).val < 16640 := (i 0).isLt
  have hi1 : (i 1).val < 2816 := (i 1).isLt
  have hp : (ptOf i).val = 2 * ((i 0).val / 1280) + (i 1).val / 1408 := rfl
  have l0 : (locOf i 0).val = (i 0).val % 1280 := rfl
  have l1 : (locOf i 1).val = (i 1).val % 1408 := rfl
  blk_ext [e4, e5, hp, l0, l1]

/-- An entry of the result, after the run. -/
theorem arr_apply (i : S16640x2816.Idx) : ((dats m 0 c).arrAt 2 cfg0.N : Vec Ideal S16640x2816 .bf16) i = outsAt0 m c (ptOf i) (locOf i) := by
  refine (read2 _ i).symm.trans ?_
  exact (congrFun ((Value.blocks2 m c (ptOf i) (flush _)).trans (Value.flushed2 m c (ptOf i))) (locOf i)).trans rfl

/-- The call's second operand is the weight. -/
theorem V_w : V m c main_v0 = m ((c : Thread nD τ).loc main_arg0) := by
  have h : V m c main_v0 = (truncf (F := Ideal) .bf16 (φ := .f32) (m ((c : Thread nD τ).loc main_arg0)) bitsLt_bf16_f32 : FVec Ideal S2816x1024 .bf16) := by
    show StableHlo.after hostOps0 _ _ = _
    unfold hostOps0
    after_results
  rw [h]
  funext i
  pointwise
  done

/-- The gradient of the input: half the product of the gradient and the transposed weight. -/
def dx (w : Vec Ideal S2816x1024 .f32) (g : Vec Ideal S16640x1024 .f32) (i : S16640x2816.Idx) : EReal :=
  (∑ l : Fin 1024, g (ix2 (i 0) l) * w (ix2 (i 1) l)) * Cert.Ffn.half

/-- The two operands' blocks at the point of an entry. -/
theorem blk0 (i : S16640x2816.Idx) (k : Fin 1024) : (iblk m c 0 (ptOf i) : Vec Ideal S1280x1024 .f32) (ix2 (locOf i 0) k)
    = (m ((c : Thread nD τ).loc main_arg1) : Vec Ideal S16640x1024 .f32) (ix2 (i 0) k) := by
  obtain ⟨e0, e1, e2, e3, e4, e5⟩ := idx (ptOf i)
  have hi0 : (i 0).val < 16640 := (i 0).isLt
  have hi1 : (i 1).val < 2816 := (i 1).isLt
  have hp : (ptOf i).val = 2 * ((i 0).val / 1280) + (i 1).val / 1408 := rfl
  have l0 : (locOf i 0).val = (i 0).val % 1280 := rfl
  rw [← V_main_arg1 m c]
  unfold iblk
  show (((cfg0.win 0).blk (ptOf i)).view.read (Elt Ideal) (V m c main_arg1) : Vec Ideal S1280x1024 .f32) _ = (V m c main_arg1 : Vec Ideal S16640x1024 .f32) _
  generalize V m c main_arg1 = W
  blk_ext [e0, e1, hp, l0]

theorem blk1 (i : S16640x2816.Idx) (k : Fin 1024) : (iblk m c 1 (ptOf i) : Vec Ideal S1408x1024 .bf16) (ix2 (locOf i 1) k)
    = (m ((c : Thread nD τ).loc main_arg0) : Vec Ideal S2816x1024 .f32) (ix2 (i 1) k) := by
  obtain ⟨e0, e1, e2, e3, e4, e5⟩ := idx (ptOf i)
  have hi0 : (i 0).val < 16640 := (i 0).isLt
  have hi1 : (i 1).val < 2816 := (i 1).isLt
  have hp : (ptOf i).val = 2 * ((i 0).val / 1280) + (i 1).val / 1408 := rfl
  have l1 : (locOf i 1).val = (i 1).val % 1408 := rfl
  refine Eq.trans ?_ (congrFun (V_w m c) _)
  unfold iblk
  show (((cfg0.win 1).blk (ptOf i)).view.read (Elt Ideal) (V m c main_v0) : Vec Ideal S1408x1024 .bf16) _ = (V m c main_v0 : Vec Ideal S2816x1024 .bf16) _
  generalize V m c main_v0 = W
  blk_ext [e2, e3, hp, l1]

theorem arr_eq : (dats m 0 c).arrAt 2 cfg0.N = dx (m ((c : Thread nD τ).loc main_arg0)) (m ((c : Thread nD τ).loc main_arg1)) := by
  funext i
  refine (arr_apply m c i).trans ((out_eq m c _ _).trans ?_)
  unfold term dx
  exact congrArg (· * Cert.Ffn.half) (Finset.sum_congr (M := EReal) rfl fun k _ => congrArg₂ (· * ·) (blk0 m c i k) (blk1 m c i k))

/-- The reference's term is the same array. -/
theorem ref_eq (w : Vec Ideal S2816x1024 .f32) (g : Vec Ideal S16640x1024 .f32) :
    truncf (F := Ideal) .bf16 (Host.dotGeneral (φ₂ := .f32) Cert.Reference2Ideal.dot_S16640x1024_S2816x1024_S16640x2816_1_1_0_0_n_n none
      (mulf (broadcastInDim Cert.Reference2Ideal.S16640x1024 ![] Cert.Reference2Ideal.Gen.bcast_S_S16640x1024 (constant Cert.Reference2Ideal.S_ .f32 0x3F000000#32)) g) w)
      Cert.Reference2Ideal.Gen.bitsLt_bf16_f32 = (dx w g : Vec Ideal S16640x2816 .bf16) := by
  funext i
  unfold dx
  rw [Cert.Ffn.sum_half_left]
  pointwise
  done

end Cert.Kernel2Ideal.Ffn

end
-- ==== Proof.Ffn.DownDw.lean ====
/-
  The gradient of the down weight: the kernel's array and the reference's, entry by entry.
-/
module

public import proofs.«01_k».proof.Proof.Gen.Kernel3Ideal.Value
public import proofs.«01_k».proof.Proof.Gen.Reference3Ideal.Run
public import proofs.«01_k».proof.Proof.Ffn.Sums

@[expose] public section

set_option maxHeartbeats 1000000

noncomputable section

namespace Cert.Kernel3Ideal.Ffn

open Cert.Kernel3Ideal Cert.Kernel3Ideal.Gen Idealize.ShloMosaic Idealize.ShloMosaic.TcCoe Idealize.SL.Sem
open Idealize.ShloMosaic.Pipeline (Dat)

/-- One block's product added to what was there. -/
theorem pay2_apply (acc : Vec Ideal S1408x1024 .f32) (a : Vec Ideal S640x1408 .bf16) (b : Vec Ideal S640x1024 .f32) (j : S1408x1024.Idx) :
    k0_pay2 (F := Ideal) acc a b j = acc j + ∑ k : Fin 640, a (ix2 k (j 0)) * b (ix2 k (j 1)) := by
  unfold k0_pay2
  pointwise

theorem pay1_apply (j : S1408x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1408x1024.Idx) : EReal :=
  let a : Vec Ideal S640x1408 .bf16 := iblk m c 0 t
  let b : Vec Ideal S640x1024 .f32 := iblk m c 1 t
  ∑ k : Fin 640, a (ix2 k (j 0)) * b (ix2 k (j 1))

theorem scratch (t : Fin cfg0.N) (h : t.val % 26 = 26 - 1) (j : S1408x1024.Idx) :
    (outsAt0 m c t.val t.isLt).2 j = 0 + ∑ s : Fin 26, term m c ⟨26 * (t.val / 26) + s.val, Pipeline.run_point_lt_of_flush t h s⟩ j := by
  refine Pipeline.eq_sum_fin_of_reset_step_apply_of_flush (fun n h => (outsAt0 m c n h).2) 26 (fun _ => 0) (term m c) ?_ ?_ t h j
  · intro t h0 i
    rw [outsAt0_A m c t h0 (by omega)]
    frame_out
    rw [pay2_apply, pay1_apply]; rfl
  · intro t h0 i
    by_cases h1 : t.val % 26 = 25
    · rw [outsAt0_C m c t h0 h1]
      frame_out
      rw [pay2_apply]; exact congrArg₂ (· + ·) (congrFun (Memref.IsWhole.read_unread _ _) i) rfl
    · rw [outsAt0_B m c t h0 h1]
      frame_out
      rw [pay2_apply]; exact congrArg₂ (· + ·) (congrFun (Memref.IsWhole.read_unread _ _) i) rfl

/-- At a point that writes back, the output block is half the scratch. -/
theorem out_eq (t : Fin cfg0.N) (h : t.val % 26 = 25) (j : S1408x1024.Idx) :
    (outsAt0 m c t.val t.isLt).1 j = (outsAt0 m c t.val t.isLt).2 j * Cert.Ffn.half := by
  rw [outsAt0_C m c t (by omega) h]
  frame_out
  unfold k0_pay3
  pointwise
  done

/-- Where the blocks of the operands lie. -/
theorem idx (t : Fin cfg0.N) : win0_0.index t (0 : Fin 2) = t.val % 26 ∧ win0_0.index t (1 : Fin 2) = t.val / 26
    ∧ win0_1.index t (0 : Fin 2) = t.val % 26 ∧ win0_1.index t (1 : Fin 2) = 0 :=
  (by decide +kernel : ∀ t : Fin grid0.N, win0_0.index t (0 : Fin 2) = t.val % 26 ∧ win0_0.index t (1 : Fin 2) = t.val / 26
    ∧ win0_1.index t (0 : Fin 2) = t.val % 26 ∧ win0_1.index t (1 : Fin 2) = 0) t

/-- Both operands at row l of the contraction, for entry i of the result. -/
def prod (a : Vec Ideal S16640x2816 .bf16) (b : Vec Ideal S16640x1024 .f32) (i : S2816x1024.Idx) (l : Fin 16640) : EReal :=
  a (ix2 l (i 0)) * b (ix2 l (i 1))

/-- The gradient of the weight: half the product of the transposed input and the gradient. -/
def dw (a : Vec Ideal S16640x2816 .bf16) (b : Vec Ideal S16640x1024 .f32) (i : S2816x1024.Idx) : EReal :=
  (∑ l : Fin 16640, prod a b i l) * Cert.Ffn.half

/-- What a point of an entry's run adds to it, in the arrays. -/
theorem term_eq (i : S2816x1024.Idx) (t : Fin cfg0.N) (s : Fin 26) (h : t.val = 26 * ((i 0).val / 1408) + s.val) :
    term m c t (Value.loc2Of i) = ∑ k : Fin 640, prod (m ((c : Thread nD τ).loc main_arg0)) (m ((c : Thread nD τ).loc main_arg1)) i
      ⟨s.val * 640 + k.val, by have := s.isLt; have := k.isLt; omega⟩ := by
  unfold term
  have hi0 : (i 0).val < 2816 := (i 0).isLt
  have hi1 : (i 1).val < 1024 := (i 1).isLt
  obtain ⟨e0, e1, e2, e3⟩ := idx t
  refine Finset.sum_congr rfl fun k _ => ?_
  unfold prod
  have hs : s.val < 26 := s.isLt
  have hk : k.val < 640 := k.isLt
  congr 1 <;> blk_ext [iblk, V, e0, e1, e2, e3]
  done

theorem G2_eq : Value.G2 m c = dw (m ((c : Thread nD τ).loc main_arg0)) (m ((c : Thread nD τ).loc main_arg1)) := by
  funext i
  have hi0 : (i 0).val < 2816 := (i 0).isLt
  have hi1 : (i 1).val < 1024 := (i 1).isLt
  have hr : Value.run2Of i = (i 0).val / 1408 := by dsimp only [Value.run2Of]; omega
  have hq : Value.pt2Of i = 26 * ((i 0).val / 1408) + 25 := by dsimp only [Value.pt2Of]; rw [hr]
  have hp : Value.pt2Of i < cfg0.N := by rw [show cfg0.N = 52 from N_0, hq]; omega
  unfold Value.G2
  rw [dif_pos hp, ← Value.outsAt0_sweep m c _ hp, out_eq m c ⟨_, hp⟩ (by show Value.pt2Of i % 26 = 25; omega),
    scratch m c ⟨_, hp⟩ (by show Value.pt2Of i % 26 = 25; omega), zero_add]
  unfold dw
  rw [← Fin.sum_mul_add_fin 26 640 (prod (m ((c : Thread nD τ).loc main_arg0)) (m ((c : Thread nD τ).loc main_arg1)) i)]
  exact congrArg (· * Cert.Ffn.half) (Finset.sum_congr rfl fun s _ => term_eq m c i _ s (by
    show 26 * (Value.pt2Of i / 26) + s.val = _; omega))

/-- The reference's term is the same array. -/
theorem ref_eq (a : Vec Ideal S16640x2816 .bf16) (b : Vec Ideal S16640x1024 .f32) :
    transpose Cert.Reference3Ideal.S2816x1024 [1, 0] (Host.dotGeneral Cert.Reference3Ideal.dot_S16640x1024_S16640x2816_S1024x2816_0_0_1_1_n_n none
      (mulf (F := Ideal) (broadcastInDim Cert.Reference3Ideal.S16640x1024 ![] Cert.Reference3Ideal.Gen.bcast_S_S16640x1024 (constant Cert.Reference3Ideal.S_ .f32 0x3F000000#32)) b)
      (extf .f32 a Cert.Reference3Ideal.Gen.bitsLt_bf16_f32)) Cert.Reference3Ideal.Gen.transposes_S1024x2816_S2816x1024_1_0 = dw a b := by
  funext i
  unfold dw prod
  rw [Cert.Ffn.sum_half_swap]
  pointwise
  done

end Cert.Kernel3Ideal.Ffn

end
-- ==== Proof.Ffn.GuDx.lean ====
/-
  The gradient of the input of the gate and up products: the kernel's array and the reference's, entry by entry.
-/
module

public import proofs.«01_k».proof.Proof.Gen.Kernel4Ideal.Value
public import proofs.«01_k».proof.Proof.Gen.Reference4Ideal.Run
public import proofs.«01_k».proof.Proof.Ffn.Sums

@[expose] public section

set_option maxHeartbeats 1000000

noncomputable section

namespace Cert.Kernel4Ideal.Ffn

open Cert.Kernel4Ideal Cert.Kernel4Ideal.Gen Idealize.ShloMosaic Idealize.ShloMosaic.TcCoe Idealize.SL.Sem
open Idealize.ShloMosaic.Pipeline (Dat)

/-- One block's product added to what was there. -/
theorem pay2_apply (acc : Vec Ideal S1280x1024 .f32) (a : Vec Ideal S1280x1408 .bf16) (b : Vec Ideal S1024x1408 .bf16) (j : S1280x1024.Idx) :
    k0_pay2 (F := Ideal) acc a b j = acc j + ∑ k : Fin 1408, a (ix2 (j 0) k) * b (ix2 (j 1) k) := by
  unfold k0_pay2
  pointwise

theorem pay1_apply (j : S1280x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1024.Idx) : EReal :=
  let a : Vec Ideal S1280x1408 .bf16 := iblk m c 0 t
  let b : Vec Ideal S1024x1408 .bf16 := iblk m c 1 t
  ∑ k : Fin 1408, a (ix2 (j 0) k) * b (ix2 (j 1) k)

theorem scratch (t : Fin cfg0.N) (h : t.val % 4 = 4 - 1) (j : S1280x1024.Idx) :
    (outsAt0 m c t.val t.isLt).2 j = 0 + ∑ s : Fin 4, term m c ⟨4 * (t.val / 4) + s.val, Pipeline.run_point_lt_of_flush t h s⟩ j := by
  refine Pipeline.eq_sum_fin_of_reset_step_apply_of_flush (fun n h => (outsAt0 m c n h).2) 4 (fun _ => 0) (term m c) ?_ ?_ t h j
  · intro t h0 i
    rw [outsAt0_A m c t h0 (by omega)]
    frame_out
    rw [pay2_apply, pay1_apply]; rfl
  · intro t h0 i
    by_cases h1 : t.val % 4 = 3
    · rw [outsAt0_C m c t h0 h1]
      frame_out
      rw [pay2_apply]; exact congrArg₂ (· + ·) (congrFun (Memref.IsWhole.read_unread _ _) i) rfl
    · rw [outsAt0_B m c t h0 h1]
      frame_out
      rw [pay2_apply]; exact congrArg₂ (· + ·) (congrFun (Memref.IsWhole.read_unread _ _) i) rfl

/-- At a point that writes back, the output block is the scratch. -/
theorem out_eq (t : Fin cfg0.N) (h : t.val % 4 = 3) (j : S1280x1024.Idx) :
    (outsAt0 m c t.val t.isLt).1 j = (outsAt0 m c t.val t.isLt).2 j := by
  rw [outsAt0_C m c t (by omega) h]
  frame_out
  unfold k0_pay3
  pointwise
  done

/-- Where the blocks of the operands lie. -/
theorem idx (t : Fin cfg0.N) : win0_0.index t (0 : Fin 2) = t.val / 4
    ∧ win0_0.index t (1 : Fin 2) = t.val % 4
    ∧ win0_1.index t (0 : Fin 2) = 0
    ∧ win0_1.index t (1 : Fin 2) = t.val % 4 :=
  (by decide +kernel : ∀ t : Fin grid0.N, win0_0.index t (0 : Fin 2) = t.val / 4
    ∧ win0_0.index t (1 : Fin 2) = t.val % 4
    ∧ win0_1.index t (0 : Fin 2) = 0
    ∧ win0_1.index t (1 : Fin 2) = t.val % 4) t

/-- The two weights side by side. -/
def both (wg wu : Vec Ideal S1024x2816 .f32) (i : S1024x5632.Idx) : EReal :=
  if h : (i 1).val < 2816 then wg (ix2 (i 0) ⟨(i 1).val, h⟩)
  else wu (ix2 (i 0) ⟨(i 1).val - 2816, by have : (i 1).val < 5632 := (i 1).isLt; omega⟩)

/-- The call's second operand holds them. -/
theorem V_both : V m c main_v1 = both (m ((c : Thread nD τ).loc main_arg0)) (m ((c : Thread nD τ).loc main_arg1)) := by
  have h : V m c main_v1 = truncf (F := Ideal) .bf16 (φ := .f32) (concatenate S1024x5632 1 [⟨S1024x2816, m ((c : Thread nD τ).loc main_arg0)⟩, ⟨S1024x2816, m ((c : Thread nD τ).loc main_arg1)⟩]
      concatenates_S1024x2816_S1024x2816_S1024x5632_d1) bitsLt_bf16_f32 := by
    show StableHlo.after hostOps0 _ _ = _
    unfold hostOps0
    after_results
  rw [h]
  funext i
  unfold both
  pointwise
  done

/-- Both operands at column l of the contraction, for entry i of the result. -/
def prod (w : Vec Ideal S1024x5632 .bf16) (d : Vec Ideal S16640x5632 .bf16) (i : S16640x1024.Idx) (l : Fin 5632) : EReal :=
  d (ix2 (i 0) l) * w (ix2 (i 1) l)

/-- The gradient of the input: the product of the gradient and the two weights. -/
def dx (wg wu : Vec Ideal S1024x2816 .f32) (d : Vec Ideal S16640x5632 .bf16) (i : S16640x1024.Idx) : EReal :=
  ∑ l : Fin 5632, prod (both wg wu) d i l

/-- The first operand's block, read off the gradient. -/
theorem blk0 (t : Fin cfg0.N) (j : S1280x1408.Idx) : (iblk m c 0 t : Vec Ideal S1280x1408 .bf16) j
    = (m ((c : Thread nD τ).loc main_arg2) : Vec Ideal S16640x5632 .bf16) (ix2 ⟨t.val / 4 * 1280 + (j 0).val, by
        have : (j 0).val < 1280 := (j 0).isLt; have := lt_of_lt_of_eq t.isLt (show cfg0.N = 52 from N_0); omega⟩
      ⟨t.val % 4 * 1408 + (j 1).val, by have : (j 1).val < 1408 := (j 1).isLt; omega⟩) := by
  obtain ⟨e0, e1, e2, e3⟩ := idx t
  rw [← V_main_arg2 m c]
  unfold iblk
  show (((cfg0.win 0).blk t).view.read (Elt Ideal) (V m c main_arg2) : Vec Ideal S1280x1408 .bf16) _ = (V m c main_arg2 : Vec Ideal S16640x5632 .bf16) _
  generalize V m c main_arg2 = W
  blk_ext [e0, e1]

/-- A block of an array in the second operand's place. -/
theorem read1 (W : Vec Ideal S1024x5632 .bf16) (t : Fin cfg0.N) (j : S1024x1408.Idx) :
    (((cfg0.win 1).blk t).view.read (Elt Ideal) W : Vec Ideal S1024x1408 .bf16) j
    = W (ix2 (j 0) ⟨t.val % 4 * 1408 + (j 1).val, by have : (j 1).val < 1408 := (j 1).isLt; omega⟩) := by
  obtain ⟨e0, e1, e2, e3⟩ := idx t
  blk_ext [e2, e3]

/-- The second operand's block, read off the two weights. -/
theorem blk1 (t : Fin cfg0.N) (j : S1024x1408.Idx) : (iblk m c 1 t : Vec Ideal S1024x1408 .bf16) j
    = both (m ((c : Thread nD τ).loc main_arg0)) (m ((c : Thread nD τ).loc main_arg1))
        (ix2 (j 0) ⟨t.val % 4 * 1408 + (j 1).val, by have : (j 1).val < 1408 := (j 1).isLt; omega⟩) := by
  refine Eq.trans ?_ (read1 _ t j)
  unfold iblk
  exact congrFun (congrArg (fun W : Vec Ideal S1024x5632 .bf16 => (((cfg0.win 1).blk t).view.read (Elt Ideal) W : Vec Ideal S1024x1408 .bf16)) (V_both m c)) j

/-- What a point of an entry's run adds to it, in the arrays. -/
theorem term_eq (i : S16640x1024.Idx) (t : Fin cfg0.N) (s : Fin 4) (h : t.val = 4 * ((i 0).val / 1280) + s.val) :
    term m c t (Value.loc2Of i) = ∑ k : Fin 1408, prod (both (m ((c : Thread nD τ).loc main_arg0)) (m ((c : Thread nD τ).loc main_arg1))) (m ((c : Thread nD τ).loc main_arg2)) i
      ⟨s.val * 1408 + k.val, by have := s.isLt; have := k.isLt; omega⟩ := by
  unfold term
  refine Finset.sum_congr rfl fun k _ => ?_
  rw [blk0, blk1]
  have hi0 : (i 0).val < 16640 := (i 0).isLt
  have hi1 : (i 1).val < 1024 := (i 1).isLt
  have hs : s.val < 4 := s.isLt
  unfold prod
  refine congrArg₂ (· * ·) (congrArg _ (congrArg₂ ix2 (Fin.ext ?_) (Fin.ext ?_))) (congrArg _ (congrArg₂ ix2 (Fin.ext ?_) (Fin.ext ?_)))
  · show t.val / 4 * 1280 + (i 0).val % 1280 = (i 0).val; omega
  · show t.val % 4 * 1408 + k.val = s.val * 1408 + k.val; omega
  · show (i 1).val % 1024 = (i 1).val; omega
  · show t.val % 4 * 1408 + k.val = s.val * 1408 + k.val; omega

theorem G2_eq : Value.G2 m c = dx (m ((c : Thread nD τ).loc main_arg0)) (m ((c : Thread nD τ).loc main_arg1)) (m ((c : Thread nD τ).loc main_arg2)) := by
  funext i
  have hi0 : (i 0).val < 16640 := (i 0).isLt
  have hi1 : (i 1).val < 1024 := (i 1).isLt
  have hr : Value.run2Of i = (i 0).val / 1280 := by dsimp only [Value.run2Of]; omega
  have hq : Value.pt2Of i = 4 * ((i 0).val / 1280) + 3 := by dsimp only [Value.pt2Of]; rw [hr]
  have hp : Value.pt2Of i < cfg0.N := by rw [show cfg0.N = 52 from N_0, hq]; omega
  unfold Value.G2
  rw [dif_pos hp, ← Value.outsAt0_sweep m c _ hp, out_eq m c ⟨_, hp⟩ (by show Value.pt2Of i % 4 = 3; omega),
    scratch m c ⟨_, hp⟩ (by show Value.pt2Of i % 4 = 3; omega), zero_add]
  unfold dx
  rw [← Fin.sum_mul_add_fin 4 1408 (prod (both (m ((c : Thread nD τ).loc main_arg0)) (m ((c : Thread nD τ).loc main_arg1))) (m ((c : Thread nD τ).loc main_arg2)) i)]
  exact Finset.sum_congr (M := EReal) rfl fun s _ => term_eq m c i _ s (by
    show 4 * (Value.pt2Of i / 4) + s.val = _; omega)

/-- The reference's term is the same array. -/
theorem ref_eq (wg wu : Vec Ideal S1024x2816 .f32) (d : Vec Ideal S16640x5632 .bf16) :
    truncf (F := Ideal) .bf16 (addf (Host.dotGeneral (φ₂ := .f32) Cert.Reference4Ideal.dot_S16640x2816_S1024x2816_S16640x1024_1_1_0_0_n_n none
        (extf .f32 (extractStridedSlice Cert.Reference4Ideal.S16640x2816 ![0, 2816] d Cert.Reference4Ideal.Gen.slices_S16640x5632_S16640x2816_0_2816) Cert.Reference4Ideal.Gen.bitsLt_bf16_f32) wu)
      (Host.dotGeneral (φ₂ := .f32) Cert.Reference4Ideal.dot_S16640x2816_S1024x2816_S16640x1024_1_1_0_0_n_n none
        (extf .f32 (extractStridedSlice Cert.Reference4Ideal.S16640x2816 ![0, 0] d Cert.Reference4Ideal.Gen.slices_S16640x5632_S16640x2816_0_0) Cert.Reference4Ideal.Gen.bitsLt_bf16_f32) wg)) Cert.Reference4Ideal.Gen.bitsLt_bf16_f32 = (dx wg wu d : Vec Ideal S16640x1024 .bf16) := by
  funext i
  unfold dx
  refine Eq.trans ?_ (Fin.sum_univ_add (a := 2816) (b := 2816) (prod (both wg wu) d i)).symm
  rw [add_comm]
  have hl (x : Fin 2816) : prod (both wg wu) d i (Fin.castAdd 2816 x) = d (ix2 (i 0) ⟨x.val, by have := x.isLt; omega⟩) * wg (ix2 (i 1) x) := by
    unfold prod both
    exact congrArg (d _ * ·) (dif_pos (show x.val < 2816 from x.isLt))
  have hu (x : Fin 2816) : prod (both wg wu) d i (Fin.natAdd 2816 x) = d (ix2 (i 0) ⟨2816 + x.val, by have := x.isLt; omega⟩) * wu (ix2 (i 1) x) := by
    unfold prod both
    refine congrArg (d _ * ·) ((dif_neg (show ¬ 2816 + x.val < 2816 by omega)).trans ?_)
    exact congrArg (fun y : Fin 2816 => wu (ix2 (i 1) y)) (Fin.ext (by show 2816 + x.val - 2816 = x.val; omega))
  simp only [hl, hu]
  pointwise
  done

end Cert.Kernel4Ideal.Ffn

end
-- ==== Proof.Ffn.GuDw.lean ====
/-
  The gradient of the gate and up weights: the kernel's array and the reference's, entry by entry.
-/
module

public import proofs.«01_k».proof.Proof.Gen.Kernel5Ideal.Value
public import proofs.«01_k».proof.Proof.Gen.Reference5Ideal.Run
public import proofs.«01_k».proof.Proof.Ffn.Sums

@[expose] public section

set_option maxHeartbeats 1000000

noncomputable section

namespace Cert.Kernel5Ideal.Ffn

open Cert.Kernel5Ideal Cert.Kernel5Ideal.Gen Idealize.ShloMosaic Idealize.ShloMosaic.TcCoe Idealize.SL.Sem
open Idealize.ShloMosaic.Pipeline (Dat)

/-- One block's product added to what was there. -/
theorem pay2_apply (acc : Vec Ideal S1024x1408 .f32) (a : Vec Ideal S640x1024 .bf16) (b : Vec Ideal S640x1408 .bf16) (j : S1024x1408.Idx) :
    k0_pay2 (F := Ideal) acc a b j = acc j + ∑ k : Fin 640, a (ix2 k (j 0)) * b (ix2 k (j 1)) := by
  unfold k0_pay2
  pointwise

theorem pay1_apply (j : S1024x1408.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1024x1408.Idx) : EReal :=
  let a : Vec Ideal S640x1024 .bf16 := iblk m c 0 t
  let b : Vec Ideal S640x1408 .bf16 := iblk m c 1 t
  ∑ k : Fin 640, a (ix2 k (j 0)) * b (ix2 k (j 1))

theorem scratch (t : Fin cfg0.N) (h : t.val % 26 = 26 - 1) (j : S1024x1408.Idx) :
    (outsAt0 m c t.val t.isLt).2 j = 0 + ∑ s : Fin 26, term m c ⟨26 * (t.val / 26) + s.val, Pipeline.run_point_lt_of_flush t h s⟩ j := by
  refine Pipeline.eq_sum_fin_of_reset_step_apply_of_flush (fun n h => (outsAt0 m c n h).2) 26 (fun _ => 0) (term m c) ?_ ?_ t h j
  · intro t h0 i
    rw [outsAt0_A m c t h0 (by omega)]
    frame_out
    rw [pay2_apply, pay1_apply]; rfl
  · intro t h0 i
    by_cases h1 : t.val % 26 = 25
    · rw [outsAt0_C m c t h0 h1]
      frame_out
      rw [pay2_apply]; exact congrArg₂ (· + ·) (congrFun (Memref.IsWhole.read_unread _ _) i) rfl
    · rw [outsAt0_B m c t h0 h1]
      frame_out
      rw [pay2_apply]; exact congrArg₂ (· + ·) (congrFun (Memref.IsWhole.read_unread _ _) i) rfl

/-- At a point that writes back, the output block is the scratch. -/
theorem out_eq (t : Fin cfg0.N) (h : t.val % 26 = 25) (j : S1024x1408.Idx) :
    (outsAt0 m c t.val t.isLt).1 j = (outsAt0 m c t.val t.isLt).2 j := by
  rw [outsAt0_C m c t (by omega) h]
  frame_out

/-- Where the blocks of the operands lie. -/
theorem idx (t : Fin cfg0.N) : win0_0.index t (0 : Fin 2) = t.val % 26
    ∧ win0_0.index t (1 : Fin 2) = 0
    ∧ win0_1.index t (0 : Fin 2) = t.val % 26
    ∧ win0_1.index t (1 : Fin 2) = t.val / 26 :=
  (by decide +kernel : ∀ t : Fin grid0.N, win0_0.index t (0 : Fin 2) = t.val % 26
    ∧ win0_0.index t (1 : Fin 2) = 0
    ∧ win0_1.index t (0 : Fin 2) = t.val % 26
    ∧ win0_1.index t (1 : Fin 2) = t.val / 26) t

/-- Both operands at row l of the contraction, for entry i of the result. -/
def prod (x : Vec Ideal S16640x1024 .bf16) (d : Vec Ideal S16640x5632 .bf16) (i : S1024x5632.Idx) (l : Fin 16640) : EReal :=
  x (ix2 l (i 0)) * d (ix2 l (i 1))

/-- The gradient of the two weights side by side: the product of the transposed input and the gradient. -/
def dw (x : Vec Ideal S16640x1024 .bf16) (d : Vec Ideal S16640x5632 .bf16) (i : S1024x5632.Idx) : EReal :=
  ∑ l : Fin 16640, prod x d i l

/-- What a point of an entry's run adds to it, in the arrays. -/
theorem term_eq (i : S1024x5632.Idx) (t : Fin cfg0.N) (s : Fin 26) (h : t.val = 26 * ((i 1).val / 1408) + s.val) :
    term m c t (Value.loc2Of i) = ∑ k : Fin 640, prod (m ((c : Thread nD τ).loc main_arg0)) (m ((c : Thread nD τ).loc main_arg1)) i
      ⟨s.val * 640 + k.val, by have := s.isLt; have := k.isLt; omega⟩ := by
  unfold term
  have hi0 : (i 0).val < 1024 := (i 0).isLt
  have hi1 : (i 1).val < 5632 := (i 1).isLt
  obtain ⟨e0, e1, e2, e3⟩ := idx t
  refine Finset.sum_congr rfl fun k _ => ?_
  unfold prod
  have hs : s.val < 26 := s.isLt
  have hk : k.val < 640 := k.isLt
  congr 1 <;> blk_ext [iblk, V, e0, e1, e2, e3]
  done

theorem G2_eq : Value.G2 m c = dw (m ((c : Thread nD τ).loc main_arg0)) (m ((c : Thread nD τ).loc main_arg1)) := by
  funext i
  have hi0 : (i 0).val < 1024 := (i 0).isLt
  have hi1 : (i 1).val < 5632 := (i 1).isLt
  have hr : Value.run2Of i = (i 1).val / 1408 := by dsimp only [Value.run2Of]; omega
  have hq : Value.pt2Of i = 26 * ((i 1).val / 1408) + 25 := by dsimp only [Value.pt2Of]; rw [hr]
  have hp : Value.pt2Of i < cfg0.N := by rw [show cfg0.N = 104 from N_0, hq]; omega
  unfold Value.G2
  rw [dif_pos hp, ← Value.outsAt0_sweep m c _ hp, out_eq m c ⟨_, hp⟩ (by show Value.pt2Of i % 26 = 25; omega),
    scratch m c ⟨_, hp⟩ (by show Value.pt2Of i % 26 = 25; omega), zero_add]
  unfold dw
  rw [← Fin.sum_mul_add_fin 26 640 (prod (m ((c : Thread nD τ).loc main_arg0)) (m ((c : Thread nD τ).loc main_arg1)) i)]
  exact Finset.sum_congr (M := EReal) rfl fun s _ => term_eq m c i _ s (by
    show 26 * (Value.pt2Of i / 26) + s.val = _; omega)

/-- The reference's term is the same array. -/
theorem ref_eq (x : Vec Ideal S16640x1024 .bf16) (d : Vec Ideal S16640x5632 .bf16) :
    (concatenate Cert.Reference5Ideal.S1024x5632 1 [⟨Cert.Reference5Ideal.S1024x2816, (transpose Cert.Reference5Ideal.S1024x2816 [1, 0] (Host.dotGeneral (φ₂ := .f32) Cert.Reference5Ideal.dot_S16640x2816_S16640x1024_S2816x1024_0_0_1_1_n_n none
        (extf .f32 (extractStridedSlice Cert.Reference5Ideal.S16640x2816 ![0, 0] d Cert.Reference5Ideal.Gen.slices_S16640x5632_S16640x2816_0_0) Cert.Reference5Ideal.Gen.bitsLt_bf16_f32)
        (extf .f32 x Cert.Reference5Ideal.Gen.bitsLt_bf16_f32)) Cert.Reference5Ideal.Gen.transposes_S2816x1024_S1024x2816_1_0)⟩,
      ⟨Cert.Reference5Ideal.S1024x2816, (transpose Cert.Reference5Ideal.S1024x2816 [1, 0] (Host.dotGeneral (φ₂ := .f32) Cert.Reference5Ideal.dot_S16640x2816_S16640x1024_S2816x1024_0_0_1_1_n_n none
        (extf .f32 (extractStridedSlice Cert.Reference5Ideal.S16640x2816 ![0, 2816] d Cert.Reference5Ideal.Gen.slices_S16640x5632_S16640x2816_0_2816) Cert.Reference5Ideal.Gen.bitsLt_bf16_f32)
        (extf .f32 x Cert.Reference5Ideal.Gen.bitsLt_bf16_f32)) Cert.Reference5Ideal.Gen.transposes_S2816x1024_S1024x2816_1_0)⟩]
      Cert.Reference5Ideal.Gen.concatenates_S1024x2816_S1024x2816_S1024x5632_d1 : FVec Ideal Cert.Reference5Ideal.S1024x5632 .f32) = dw x d := by
  funext i
  unfold dw prod
  pointwise
  have hi : (i 1).val < 5632 := (i 1).isLt
  by_cases h : (i 1).val < 2816
  · rw [dif_pos h]
    exact Finset.sum_congr rfl fun l _ => mul_comm _ _
  · rw [dif_neg h]
    have e : (⟨2816 + ((i 1).val - 2816), by omega⟩ : Fin 5632) = i 1 := Fin.ext (by show 2816 + ((i 1).val - 2816) = (i 1).val; omega)
    refine Finset.sum_congr rfl fun l _ => ?_
    rw [mul_comm]
    exact congrArg (fun y : Fin 5632 => x (ix2 l (i 0)) * d (ix2 l y)) e

end Cert.Kernel5Ideal.Ffn

end
-- ==== Proof.Ffn.Down.lean ====
/-
  The down product, halved and added to the residual stream: the kernel's array and the reference's, entry by entry.
-/
module

public import proofs.«01_k».proof.Proof.Gen.Kernel6Ideal.Value
public import proofs.«01_k».proof.Proof.Gen.Reference6Ideal.Run
public import proofs.«01_k».proof.Proof.Ffn.Sums

@[expose] public section

set_option maxHeartbeats 1000000

noncomputable section

namespace Cert.Kernel6Ideal.Ffn

open Cert.Kernel6Ideal Cert.Kernel6Ideal.Gen Idealize.ShloMosaic Idealize.ShloMosaic.TcCoe Idealize.SL.Sem
open Idealize.ShloMosaic.Pipeline (Dat)

/-- One block's product added to what was there. -/
theorem pay2_apply (acc : Vec Ideal S1280x1024 .f32) (a : Vec Ideal S1280x1408 .bf16) (b : Vec Ideal S1408x1024 .bf16) (j : S1280x1024.Idx) :
    k0_pay2 (F := Ideal) acc a b j = acc j + ∑ k : Fin 1408, a (ix2 (j 0) k) * b (ix2 k (j 1)) := by
  unfold k0_pay2
  pointwise

theorem pay1_apply (j : S1280x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1024.Idx) : EReal :=
  let a : Vec Ideal S1280x1408 .bf16 := iblk m c 0 t
  let b : Vec Ideal S1408x1024 .bf16 := iblk m c 1 t
  ∑ k : Fin 1408, a (ix2 (j 0) k) * b (ix2 k (j 1))

theorem scratch (t : Fin cfg0.N) (h : t.val % 2 = 2 - 1) (j : S1280x1024.Idx) :
    (outsAt0 m c t.val t.isLt).2 j = 0 + ∑ s : Fin 2, term m c ⟨2 * (t.val / 2) + s.val, Pipeline.run_point_lt_of_flush t h s⟩ j := by
  refine Pipeline.eq_sum_fin_of_reset_step_apply_of_flush (fun n h => (outsAt0 m c n h).2) 2 (fun _ => 0) (term m c) ?_ ?_ t h j
  · intro t h0 i
    rw [outsAt0_A m c t h0 (by omega)]
    frame_out
    rw [pay2_apply, pay1_apply]; rfl
  · intro t h0 i
    rw [outsAt0_B m c t h0 (by omega)]
    frame_out
    rw [pay2_apply]; exact congrArg₂ (· + ·) (congrFun (Memref.IsWhole.read_unread _ _) i) rfl

/-- At a point that writes back, the output block is half the scratch added to the residual stream's block. -/
theorem out_eq (t : Fin cfg0.N) (h : t.val % 2 = 1) (j : S1280x1024.Idx) :
    (outsAt0 m c t.val t.isLt).1 j = (outsAt0 m c t.val t.isLt).2 j * Cert.Ffn.half + (iblk m c 2 t : Vec Ideal S1280x1024 .f32) j := by
  rw [outsAt0_B m c t (by omega) h]
  frame_out
  unfold k0_pay3
  pointwise
  done

/-- Where the blocks of the operands lie. -/
theorem idx (t : Fin cfg0.N) : win0_0.index t (0 : Fin 2) = t.val / 2
    ∧ win0_0.index t (1 : Fin 2) = t.val % 2
    ∧ win0_1.index t (0 : Fin 2) = t.val % 2
    ∧ win0_1.index t (1 : Fin 2) = 0
    ∧ win0_2.index t (0 : Fin 2) = t.val / 2
    ∧ win0_2.index t (1 : Fin 2) = 0 :=
  (by decide +kernel : ∀ t : Fin grid0.N, win0_0.index t (0 : Fin 2) = t.val / 2
    ∧ win0_0.index t (1 : Fin 2) = t.val % 2
    ∧ win0_1.index t (0 : Fin 2) = t.val % 2
    ∧ win0_1.index t (1 : Fin 2) = 0
    ∧ win0_2.index t (0 : Fin 2) = t.val / 2
    ∧ win0_2.index t (1 : Fin 2) = 0) t

/-- The call's second operand is the weight. -/
theorem V_w : V m c main_v0 = m ((c : Thread nD τ).loc main_arg1) := by
  have h : V m c main_v0 = (truncf (F := Ideal) .bf16 (φ := .f32) (m ((c : Thread nD τ).loc main_arg1)) bitsLt_bf16_f32 : FVec Ideal S2816x1024 .bf16) := by
    show StableHlo.after hostOps0 _ _ = _
    unfold hostOps0
    after_results
  rw [h]
  funext i
  pointwise
  done

/-- Both operands at step l of the contraction, for entry i of the result. -/
def prod (a : Vec Ideal S16640x2816 .bf16) (w : Vec Ideal S2816x1024 .bf16) (i : S16640x1024.Idx) (l : Fin 2816) : EReal :=
  a (ix2 (i 0) l) * w (ix2 l (i 1))

/-- Half the product, added to the residual stream. -/
def out (a : Vec Ideal S16640x2816 .bf16) (w : Vec Ideal S2816x1024 .f32) (x : Vec Ideal S16640x1024 .f32) (i : S16640x1024.Idx) : EReal :=
  (∑ l : Fin 2816, prod a w i l) * Cert.Ffn.half + x i

/-- What a point of an entry's run adds to it, in the arrays. -/
theorem term_eq (i : S16640x1024.Idx) (t : Fin cfg0.N) (s : Fin 2) (h : t.val = 2 * ((i 0).val / 1280) + s.val) :
    term m c t (Value.loc3Of i) = ∑ k : Fin 1408, prod (m ((c : Thread nD τ).loc main_arg0)) (V m c main_v0) i
      ⟨s.val * 1408 + k.val, by have := s.isLt; have := k.isLt; omega⟩ := by
  unfold term
  have hi0 : (i 0).val < 16640 := (i 0).isLt
  have hi1 : (i 1).val < 1024 := (i 1).isLt
  obtain ⟨e0, e1, e2, e3, e4, e5⟩ := idx t
  refine Finset.sum_congr rfl fun k _ => ?_
  unfold prod
  have hs : s.val < 2 := s.isLt
  have hk : k.val < 1408 := k.isLt
  rw [← V_main_arg0 m c]
  congr 1 <;> blk_ext [iblk, e0, e1, e2, e3]
  done

/-- The residual stream's block at the point that writes an entry back. -/
theorem res_eq (i : S16640x1024.Idx) (t : Fin cfg0.N) (h : t.val = 2 * ((i 0).val / 1280) + 1) :
    (iblk m c 2 t : Vec Ideal S1280x1024 .f32) (Value.loc3Of i) = (m ((c : Thread nD τ).loc main_arg2) : Vec Ideal S16640x1024 .f32) i := by
  have hi0 : (i 0).val < 16640 := (i 0).isLt
  have hi1 : (i 1).val < 1024 := (i 1).isLt
  obtain ⟨e0, e1, e2, e3, e4, e5⟩ := idx t
  rw [← V_main_arg2 m c]
  blk_ext [iblk, e4, e5]
  done

theorem G3_eq : Value.G3 m c = out (m ((c : Thread nD τ).loc main_arg0)) (m ((c : Thread nD τ).loc main_arg1)) (m ((c : Thread nD τ).loc main_arg2)) := by
  funext i
  have hi0 : (i 0).val < 16640 := (i 0).isLt
  have hi1 : (i 1).val < 1024 := (i 1).isLt
  have hr : Value.run3Of i = (i 0).val / 1280 := by dsimp only [Value.run3Of]; omega
  have hq : Value.pt3Of i = 2 * ((i 0).val / 1280) + 1 := by dsimp only [Value.pt3Of]; rw [hr]
  have hp : Value.pt3Of i < cfg0.N := by rw [show cfg0.N = 26 from N_0, hq]; omega
  unfold Value.G3
  rw [dif_pos hp, ← Value.outsAt0_sweep m c _ hp, out_eq m c ⟨_, hp⟩ (by show Value.pt3Of i % 2 = 1; omega),
    scratch m c ⟨_, hp⟩ (by show Value.pt3Of i % 2 = 1; omega), zero_add, res_eq m c i ⟨_, hp⟩ hq]
  unfold out
  rw [← V_w m c, ← Fin.sum_mul_add_fin 2 1408 (prod (m ((c : Thread nD τ).loc main_arg0)) (V m c main_v0) i)]
  exact congrArg (· * Cert.Ffn.half + _) (Finset.sum_congr rfl fun s _ => term_eq m c i _ s (by
    show 2 * (Value.pt3Of i / 2) + s.val = _; omega))

/-- The reference's term is the same array. -/
theorem ref_eq (a : Vec Ideal S16640x2816 .bf16) (w : Vec Ideal S2816x1024 .f32) (x : Vec Ideal S16640x1024 .f32) :
    addf (F := Ideal) x (mulf (broadcastInDim Cert.Reference6Ideal.S16640x1024 ![] Cert.Reference6Ideal.Gen.bcast_S_S16640x1024 (constant Cert.Reference6Ideal.S_ .f32 0x3F000000#32))
      (Host.dotGeneral (φ₂ := .f32) Cert.Reference6Ideal.dot_S16640x2816_S2816x1024_S16640x1024_1_0_0_1_n_n none (extf .f32 a Cert.Reference6Ideal.Gen.bitsLt_bf16_f32) w)) = out a w x := by
  funext i
  unfold out prod
  rw [add_comm, mul_comm]
  pointwise
  done

end Cert.Kernel6Ideal.Ffn

end
-- ==== Proof.Ffn.Gu.lean ====
/-
  The gate and up products: the kernel's array and the reference's, entry by entry.
-/
module

public import proofs.«01_k».proof.Proof.Gen.Kernel7Ideal.Value
public import proofs.«01_k».proof.Proof.Gen.Reference7Ideal.Run
public import proofs.«01_k».proof.Proof.Ffn.Sums

@[expose] public section

set_option maxHeartbeats 1000000

noncomputable section

namespace Cert.Kernel7Ideal.Ffn

open Cert.Kernel7Ideal Cert.Kernel7Ideal.Gen Idealize.ShloMosaic Idealize.ShloMosaic.TcCoe Idealize.SL.Sem
open Idealize.ShloMosaic.Pipeline (Dat)

/-- One block's product added to what was there. -/
theorem pay2_apply (acc : Vec Ideal S1280x1408 .f32) (a : Vec Ideal S1280x1024 .bf16) (b : Vec Ideal S1024x1408 .bf16) (j : S1280x1408.Idx) :
    k0_pay2 (F := Ideal) acc a b j = acc j + ∑ k : Fin 1024, a (ix2 (j 0) k) * b (ix2 k (j 1)) := by
  unfold k0_pay2
  pointwise

theorem pay1_apply (j : S1280x1408.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1408.Idx) : EReal :=
  let a : Vec Ideal S1280x1024 .bf16 := iblk m c 0 t
  let b : Vec Ideal S1024x1408 .bf16 := iblk m c 1 t
  ∑ k : Fin 1024, a (ix2 (j 0) k) * b (ix2 k (j 1))

/-- What a point leaves in the output block. -/
theorem out_eq (t : Fin cfg0.N) (j : S1280x1408.Idx) : outsAt0 m c t j = term m c t j := by
  unfold outsAt0
  frame_out
  unfold k0_pay3
  pointwise
  rw [pay2_apply, pay1_apply, zero_add]
  rfl

/-- Where the blocks of the operands lie. -/
theorem idx (t : Fin cfg0.N) : win0_0.index t (0 : Fin 2) = t.val / 4
    ∧ win0_0.index t (1 : Fin 2) = 0
    ∧ win0_1.index t (0 : Fin 2) = 0
    ∧ win0_1.index t (1 : Fin 2) = t.val % 4
    ∧ win0_2.index t (0 : Fin 2) = t.val / 4
    ∧ win0_2.index t (1 : Fin 2) = t.val % 4 :=
  (by decide +kernel : ∀ t : Fin grid0.N, win0_0.index t (0 : Fin 2) = t.val / 4
    ∧ win0_0.index t (1 : Fin 2) = 0
    ∧ win0_1.index t (0 : Fin 2) = 0
    ∧ win0_1.index t (1 : Fin 2) = t.val % 4
    ∧ win0_2.index t (0 : Fin 2) = t.val / 4
    ∧ win0_2.index t (1 : Fin 2) = t.val % 4) t

/-- Every point writes its output block back. -/
theorem flush (t : Fin cfg0.N) : (cfg0.win 2).flush t = true := (by decide +kernel : ∀ t : Fin grid0.N, win0_2.flush t = true) t

/-- The point whose output block holds an entry, and the entry's place in the block. -/
def ptOf (i : S16640x5632.Idx) : Fin cfg0.N := ⟨4 * ((i 0).val / 1280) + (i 1).val / 1408, by
  have hi0 : (i 0).val < 16640 := (i 0).isLt
  have hi1 : (i 1).val < 5632 := (i 1).isLt
  rw [show cfg0.N = 52 from N_0]; omega⟩

def locOf (i : S16640x5632.Idx) : S1280x1408.Idx :=
  ix2 ⟨(i 0).val % 1280, Nat.mod_lt _ (by decide)⟩ ⟨(i 1).val % 1408, Nat.mod_lt _ (by decide)⟩

theorem read2 (W : Vec Ideal S16640x5632 .bf16) (i : S16640x5632.Idx) :
    (((cfg0.win 2).blk (ptOf i)).view.read (Elt Ideal) W : Vec Ideal S1280x1408 .bf16) (locOf i) = W i := by
  obtain ⟨e0, e1, e2, e3, e4, e5⟩ := idx (ptOf i)
  have hi0 : (i 0).val < 16640 := (i 0).isLt
  have hi1 : (i 1).val < 5632 := (i 1).isLt
  have hp : (ptOf i).val = 4 * ((i 0).val / 1280) + (i 1).val / 1408 := rfl
  have l0 : (locOf i 0).val = (i 0).val % 1280 := rfl
  have l1 : (locOf i 1).val = (i 1).val % 1408 := rfl
  blk_ext [e4, e5, hp, l0, l1]

/-- An entry of the result, after the run. -/
theorem arr_apply (i : S16640x5632.Idx) : ((dats m 0 c).arrAt 2 cfg0.N : Vec Ideal S16640x5632 .bf16) i = outsAt0 m c (ptOf i) (locOf i) := by
  refine (read2 _ i).symm.trans ?_
  exact (congrFun ((Value.blocks2 m c (ptOf i) (flush _)).trans (Value.flushed2 m c (ptOf i))) (locOf i)).trans rfl

/-- The two weights side by side. -/
def both (wg wu : Vec Ideal S1024x2816 .f32) (i : S1024x5632.Idx) : EReal :=
  if h : (i 1).val < 2816 then wg (ix2 (i 0) ⟨(i 1).val, h⟩)
  else wu (ix2 (i 0) ⟨(i 1).val - 2816, by have : (i 1).val < 5632 := (i 1).isLt; omega⟩)

/-- The call's second operand holds them. -/
theorem V_both : V m c main_v1 = both (m ((c : Thread nD τ).loc main_arg1)) (m ((c : Thread nD τ).loc main_arg2)) := by
  have h : V m c main_v1 = truncf (F := Ideal) .bf16 (φ := .f32) (concatenate S1024x5632 1 [⟨S1024x2816, m ((c : Thread nD τ).loc main_arg1)⟩, ⟨S1024x2816, m ((c : Thread nD τ).loc main_arg2)⟩]
      concatenates_S1024x2816_S1024x2816_S1024x5632_d1) bitsLt_bf16_f32 := by
    show StableHlo.after hostOps0 _ _ = _
    unfold hostOps0
    after_results
  rw [h]
  funext i
  unfold both
  pointwise
  done

/-- The product of the input and the two weights. -/
def gu (x : Vec Ideal S16640x1024 .bf16) (wg wu : Vec Ideal S1024x2816 .f32) (i : S16640x5632.Idx) : EReal :=
  ∑ l : Fin 1024, x (ix2 (i 0) l) * both wg wu (ix2 l (i 1))

/-- The two operands' blocks at the point of an entry. -/
theorem blk0 (i : S16640x5632.Idx) (k : Fin 1024) : (iblk m c 0 (ptOf i) : Vec Ideal S1280x1024 .bf16) (ix2 (locOf i 0) k)
    = (m ((c : Thread nD τ).loc main_arg0) : Vec Ideal S16640x1024 .bf16) (ix2 (i 0) k) := by
  obtain ⟨e0, e1, e2, e3, e4, e5⟩ := idx (ptOf i)
  have hi0 : (i 0).val < 16640 := (i 0).isLt
  have hi1 : (i 1).val < 5632 := (i 1).isLt
  have hp : (ptOf i).val = 4 * ((i 0).val / 1280) + (i 1).val / 1408 := rfl
  have l0 : (locOf i 0).val = (i 0).val % 1280 := rfl
  rw [← V_main_arg0 m c]
  unfold iblk
  show (((cfg0.win 0).blk (ptOf i)).view.read (Elt Ideal) (V m c main_arg0) : Vec Ideal S1280x1024 .bf16) _ = (V m c main_arg0 : Vec Ideal S16640x1024 .bf16) _
  generalize V m c main_arg0 = W
  blk_ext [e0, e1, hp, l0]

theorem read1 (W : Vec Ideal S1024x5632 .bf16) (i : S16640x5632.Idx) (k : Fin 1024) :
    (((cfg0.win 1).blk (ptOf i)).view.read (Elt Ideal) W : Vec Ideal S1024x1408 .bf16) (ix2 k (locOf i 1)) = W (ix2 k (i 1)) := by
  obtain ⟨e0, e1, e2, e3, e4, e5⟩ := idx (ptOf i)
  have hi0 : (i 0).val < 16640 := (i 0).isLt
  have hi1 : (i 1).val < 5632 := (i 1).isLt
  have hp : (ptOf i).val = 4 * ((i 0).val / 1280) + (i 1).val / 1408 := rfl
  have l1 : (locOf i 1).val = (i 1).val % 1408 := rfl
  blk_ext [e2, e3, hp, l1]

theorem blk1 (i : S16640x5632.Idx) (k : Fin 1024) : (iblk m c 1 (ptOf i) : Vec Ideal S1024x1408 .bf16) (ix2 k (locOf i 1))
    = both (m ((c : Thread nD τ).loc main_arg1)) (m ((c : Thread nD τ).loc main_arg2)) (ix2 k (i 1)) := by
  refine Eq.trans ?_ (read1 _ i k)
  unfold iblk
  exact congrFun (congrArg (fun W : Vec Ideal S1024x5632 .bf16 => (((cfg0.win 1).blk (ptOf i)).view.read (Elt Ideal) W : Vec Ideal S1024x1408 .bf16)) (V_both m c)) _

theorem arr_eq : (dats m 0 c).arrAt 2 cfg0.N = gu (m ((c : Thread nD τ).loc main_arg0)) (m ((c : Thread nD τ).loc main_arg1)) (m ((c : Thread nD τ).loc main_arg2)) := by
  funext i
  refine (arr_apply m c i).trans ((out_eq m c _ _).trans ?_)
  unfold term gu
  exact Finset.sum_congr (M := EReal) rfl fun k _ => congrArg₂ (· * ·) (blk0 m c i k) (blk1 m c i k)

/-- The reference's term is the same array. -/
theorem ref_eq (x : Vec Ideal S16640x1024 .bf16) (wg wu : Vec Ideal S1024x2816 .f32) :
    (concatenate Cert.Reference7Ideal.S16640x5632 1 [⟨Cert.Reference7Ideal.S16640x2816, (truncf .bf16 (Host.dotGeneral (φ₂ := .f32) Cert.Reference7Ideal.dot_S16640x1024_S1024x2816_S16640x2816_1_0_0_1_n_n none
        (extf .f32 x Cert.Reference7Ideal.Gen.bitsLt_bf16_f32) wg) Cert.Reference7Ideal.Gen.bitsLt_bf16_f32)⟩,
      ⟨Cert.Reference7Ideal.S16640x2816, (truncf .bf16 (Host.dotGeneral (φ₂ := .f32) Cert.Reference7Ideal.dot_S16640x1024_S1024x2816_S16640x2816_1_0_0_1_n_n none
        (extf .f32 x Cert.Reference7Ideal.Gen.bitsLt_bf16_f32) wu) Cert.Reference7Ideal.Gen.bitsLt_bf16_f32)⟩]
      Cert.Reference7Ideal.Gen.concatenates_S16640x2816_S16640x2816_S16640x5632_d1 : FVec Ideal Cert.Reference7Ideal.S16640x5632 .bf16) = gu x wg wu := by
  funext i
  unfold gu
  pointwise
  by_cases h : (i 1).val < 2816
  · rw [dif_pos h]
    refine Finset.sum_congr rfl fun l _ => congrArg (x (ix2 (i 0) l) * ·) ?_
    unfold both
    refine Eq.symm ((dif_pos ?_).trans ?_)
    · exact h
    · rfl
  · rw [dif_neg h]
    refine Finset.sum_congr rfl fun l _ => congrArg (x (ix2 (i 0) l) * ·) ?_
    unfold both
    refine Eq.symm ((dif_neg ?_).trans ?_)
    · exact h
    · rfl

end Cert.Kernel7Ideal.Ffn

end
-- ==== Proof.Ffn.Claims.lean ====
/-
  The claims on the six products of the feed-forward block: every program ends with its arguments unchanged and every
  semaphore at zero, and each call's result over the extended reals is its reference's.
-/
module

public import proofs.«01_k».proof.Defs
public import proofs.«01_k».proof.Proof.Gen.Kernel2.Frame
public import proofs.«01_k».proof.Proof.Ffn.DownDx
public import proofs.«01_k».proof.Proof.Gen.Kernel3.Frame
public import proofs.«01_k».proof.Proof.Ffn.DownDw
public import proofs.«01_k».proof.Proof.Gen.Kernel4.Frame
public import proofs.«01_k».proof.Proof.Ffn.GuDx
public import proofs.«01_k».proof.Proof.Gen.Kernel5.Frame
public import proofs.«01_k».proof.Proof.Ffn.GuDw
public import proofs.«01_k».proof.Proof.Gen.Kernel6.Frame
public import proofs.«01_k».proof.Proof.Ffn.Down
public import proofs.«01_k».proof.Proof.Gen.Kernel7.Frame
public import proofs.«01_k».proof.Proof.Ffn.Gu
public import Idealize.ShloMosaic.Lib.Quiescent

@[expose] public section

set_option maxHeartbeats 1000000

noncomputable section

namespace Cert.Ffn

open Idealize.ShloMosaic Idealize.ShloMosaic.TcCoe Idealize.SL.Sem

/-! ## The gradient of the down product's input -/

/-- In machine arithmetic the call ends with its arguments unchanged and every semaphore at zero. -/
theorem frame_kernel2 : Cert.quiescent_Kernel2 (hKernel2 := Cert.Kernel2.Gen.facts) := fun m ρ _ => Cert.Kernel2.Gen.frame (F := Bits) m ρ

/-- The same over the extended reals. -/
theorem frame_kernel2Ideal : Cert.quiescent_Kernel2Ideal (hKernel2Ideal := Cert.Kernel2Ideal.Gen.facts) := fun m ρ _ => Cert.Kernel2Ideal.Gen.frame (F := Ideal) m ρ

/-- The same of the reference. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run (F := Ideal) m ρ)

/-- Over the extended reals the call's result is the reference's. -/
theorem equation2 : Cert.algebraic_Kernel2Ideal_Reference2Ideal (hKernel2Ideal := Cert.Kernel2Ideal.Gen.facts) (hReference2Ideal := Cert.Reference2Ideal.Gen.facts) :=
  fun m g m' g' _ hargs =>
  ⟨fun c => Cert.Kernel2Ideal.Ffn.dx (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
   (θ_run Cert.Kernel2Ideal.defs _ _).mono (fun r h c => ⟨(h c).1.trans (Cert.Kernel2Ideal.Ffn.arr_eq m c), (h c).2⟩) (Cert.Kernel2Ideal.Value.run_blocks (F := Ideal) m g),
   (θ_run Cert.Reference2Ideal.defs _ _).mono (fun r h c => ⟨(h c).1.trans ((Cert.Kernel2Ideal.Ffn.ref_eq _ _).trans (by
     obtain ⟨h0, h1⟩ := hargs c
     rw [h0, h1])), (h c).2⟩) (Cert.Reference2Ideal.Value.run (F := Ideal) m' g')⟩

/-! ## The gradient of the down weight -/

/-- In machine arithmetic the call ends with its arguments unchanged and every semaphore at zero. -/
theorem frame_kernel3 : Cert.quiescent_Kernel3 (hKernel3 := Cert.Kernel3.Gen.facts) := fun m ρ _ => Cert.Kernel3.Gen.frame (F := Bits) m ρ

/-- The same over the extended reals. -/
theorem frame_kernel3Ideal : Cert.quiescent_Kernel3Ideal (hKernel3Ideal := Cert.Kernel3Ideal.Gen.facts) := fun m ρ _ => Cert.Kernel3Ideal.Gen.frame (F := Ideal) m ρ

/-- The same of the reference. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩) (Cert.Reference3Ideal.Value.run (F := Ideal) m ρ)

/-- Over the extended reals the call's result is the reference's. -/
theorem equation3 : Cert.algebraic_Kernel3Ideal_Reference3Ideal (hKernel3Ideal := Cert.Kernel3Ideal.Gen.facts) (hReference3Ideal := Cert.Reference3Ideal.Gen.facts) :=
  fun m g m' g' _ hargs =>
  ⟨fun c => Cert.Kernel3Ideal.Ffn.dw (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
   (θ_run Cert.Kernel3Ideal.defs _ _).mono (fun r h c => ⟨(h c).1.trans (Cert.Kernel3Ideal.Ffn.G2_eq m c), (h c).2⟩) (Cert.Kernel3Ideal.Value.run (F := Ideal) m g),
   (θ_run Cert.Reference3Ideal.defs _ _).mono (fun r h c => ⟨(h c).1.trans ((Cert.Kernel3Ideal.Ffn.ref_eq _ _).trans (by
     obtain ⟨h0, h1⟩ := hargs c
     rw [h0, h1])), (h c).2⟩) (Cert.Reference3Ideal.Value.run (F := Ideal) m' g')⟩

/-! ## The gradient of the gate and up products' input -/

/-- In machine arithmetic the call ends with its arguments unchanged and every semaphore at zero. -/
theorem frame_kernel4 : Cert.quiescent_Kernel4 (hKernel4 := Cert.Kernel4.Gen.facts) := fun m ρ _ => Cert.Kernel4.Gen.frame (F := Bits) m ρ

/-- The same over the extended reals. -/
theorem frame_kernel4Ideal : Cert.quiescent_Kernel4Ideal (hKernel4Ideal := Cert.Kernel4Ideal.Gen.facts) := fun m ρ _ => Cert.Kernel4Ideal.Gen.frame (F := Ideal) m ρ

/-- The same of the reference. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run (F := Ideal) m ρ)

/-- Over the extended reals the call's result is the reference's. -/
theorem equation4 : Cert.algebraic_Kernel4Ideal_Reference4Ideal (hKernel4Ideal := Cert.Kernel4Ideal.Gen.facts) (hReference4Ideal := Cert.Reference4Ideal.Gen.facts) :=
  fun m g m' g' _ hargs =>
  ⟨fun c => Cert.Kernel4Ideal.Ffn.dx (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
   (θ_run Cert.Kernel4Ideal.defs _ _).mono (fun r h c => ⟨(h c).1.trans (Cert.Kernel4Ideal.Ffn.G2_eq m c), (h c).2⟩) (Cert.Kernel4Ideal.Value.run (F := Ideal) m g),
   (θ_run Cert.Reference4Ideal.defs _ _).mono (fun r h c => ⟨(h c).1.trans ((Cert.Kernel4Ideal.Ffn.ref_eq _ _ _).trans (by
     obtain ⟨h0, h1, h2⟩ := hargs c
     rw [h0, h1, h2])), (h c).2⟩) (Cert.Reference4Ideal.Value.run (F := Ideal) m' g')⟩

/-! ## The gradient of the gate and up weights -/

/-- In machine arithmetic the call ends with its arguments unchanged and every semaphore at zero. -/
theorem frame_kernel5 : Cert.quiescent_Kernel5 (hKernel5 := Cert.Kernel5.Gen.facts) := fun m ρ _ => Cert.Kernel5.Gen.frame (F := Bits) m ρ

/-- The same over the extended reals. -/
theorem frame_kernel5Ideal : Cert.quiescent_Kernel5Ideal (hKernel5Ideal := Cert.Kernel5Ideal.Gen.facts) := fun m ρ _ => Cert.Kernel5Ideal.Gen.frame (F := Ideal) m ρ

/-- The same of the reference. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩) (Cert.Reference5Ideal.Value.run (F := Ideal) m ρ)

/-- Over the extended reals the call's result is the reference's. -/
theorem equation5 : Cert.algebraic_Kernel5Ideal_Reference5Ideal (hKernel5Ideal := Cert.Kernel5Ideal.Gen.facts) (hReference5Ideal := Cert.Reference5Ideal.Gen.facts) :=
  fun m g m' g' _ hargs =>
  ⟨fun c => Cert.Kernel5Ideal.Ffn.dw (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
   (θ_run Cert.Kernel5Ideal.defs _ _).mono (fun r h c => ⟨(h c).1.trans (Cert.Kernel5Ideal.Ffn.G2_eq m c), (h c).2⟩) (Cert.Kernel5Ideal.Value.run (F := Ideal) m g),
   (θ_run Cert.Reference5Ideal.defs _ _).mono (fun r h c => ⟨(h c).1.trans ((Cert.Kernel5Ideal.Ffn.ref_eq _ _).trans (by
     obtain ⟨h0, h1⟩ := hargs c
     rw [h0, h1])), (h c).2⟩) (Cert.Reference5Ideal.Value.run (F := Ideal) m' g')⟩

/-! ## The down product on the residual stream -/

/-- In machine arithmetic the call ends with its arguments unchanged and every semaphore at zero. -/
theorem frame_kernel6 : Cert.quiescent_Kernel6 (hKernel6 := Cert.Kernel6.Gen.facts) := fun m ρ _ => Cert.Kernel6.Gen.frame (F := Bits) m ρ

/-- The same over the extended reals. -/
theorem frame_kernel6Ideal : Cert.quiescent_Kernel6Ideal (hKernel6Ideal := Cert.Kernel6Ideal.Gen.facts) := fun m ρ _ => Cert.Kernel6Ideal.Gen.frame (F := Ideal) m ρ

/-- The same of the reference. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩) (Cert.Reference6Ideal.Value.run (F := Ideal) m ρ)

/-- Over the extended reals the call's result is the reference's. -/
theorem equation6 : Cert.algebraic_Kernel6Ideal_Reference6Ideal (hKernel6Ideal := Cert.Kernel6Ideal.Gen.facts) (hReference6Ideal := Cert.Reference6Ideal.Gen.facts) :=
  fun m g m' g' _ hargs =>
  ⟨fun c => Cert.Kernel6Ideal.Ffn.out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
   (θ_run Cert.Kernel6Ideal.defs _ _).mono (fun r h c => ⟨(h c).1.trans (Cert.Kernel6Ideal.Ffn.G3_eq m c), (h c).2⟩) (Cert.Kernel6Ideal.Value.run (F := Ideal) m g),
   (θ_run Cert.Reference6Ideal.defs _ _).mono (fun r h c => ⟨(h c).1.trans ((Cert.Kernel6Ideal.Ffn.ref_eq _ _ _).trans (by
     obtain ⟨h0, h1, h2⟩ := hargs c
     rw [h0, h1, h2])), (h c).2⟩) (Cert.Reference6Ideal.Value.run (F := Ideal) m' g')⟩

/-! ## The gate and up products -/

/-- In machine arithmetic the call ends with its arguments unchanged and every semaphore at zero. -/
theorem frame_kernel7 : Cert.quiescent_Kernel7 (hKernel7 := Cert.Kernel7.Gen.facts) := fun m ρ _ => Cert.Kernel7.Gen.frame (F := Bits) m ρ

/-- The same over the extended reals. -/
theorem frame_kernel7Ideal : Cert.quiescent_Kernel7Ideal (hKernel7Ideal := Cert.Kernel7Ideal.Gen.facts) := fun m ρ _ => Cert.Kernel7Ideal.Gen.frame (F := Ideal) m ρ

/-- The same of the reference. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩) (Cert.Reference7Ideal.Value.run (F := Ideal) m ρ)

/-- Over the extended reals the call's result is the reference's. -/
theorem equation7 : Cert.algebraic_Kernel7Ideal_Reference7Ideal (hKernel7Ideal := Cert.Kernel7Ideal.Gen.facts) (hReference7Ideal := Cert.Reference7Ideal.Gen.facts) :=
  fun m g m' g' _ hargs =>
  ⟨fun c => Cert.Kernel7Ideal.Ffn.gu (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
   (θ_run Cert.Kernel7Ideal.defs _ _).mono (fun r h c => ⟨(h c).1.trans (Cert.Kernel7Ideal.Ffn.arr_eq m c), (h c).2⟩) (Cert.Kernel7Ideal.Value.run_blocks (F := Ideal) m g),
   (θ_run Cert.Reference7Ideal.defs _ _).mono (fun r h c => ⟨(h c).1.trans ((Cert.Kernel7Ideal.Ffn.ref_eq _ _ _).trans (by
     obtain ⟨h0, h1, h2⟩ := hargs c
     rw [h0, h1, h2])), (h c).2⟩) (Cert.Reference7Ideal.Value.run (F := Ideal) m' g')⟩

end Cert.Ffn

end
-- ==== Proof.Mix.Out.lean ====
/-
  The mixer's output product, added to the residual stream: the kernel's array and the reference's, entry by entry.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel8Ideal.Mix

open Cert.Kernel8Ideal Cert.Kernel8Ideal.Gen Idealize.ShloMosaic Idealize.ShloMosaic.TcCoe Idealize.SL.Sem
open Idealize.ShloMosaic.Pipeline (Dat)

/-- One block's product added to what was there. -/
theorem pay2_apply (acc : Vec Ideal S1280x1024 .f32) (a : Vec Ideal S1280x1024 .f32) (b : Vec Ideal S1024x1024 .bf16) (j : S1280x1024.Idx) :
    k0_pay2 (F := Ideal) acc a b j = acc j + ∑ k : Fin 1024, a (ix2 (j 0) k) * b (ix2 k (j 1)) := by
  unfold k0_pay2
  pointwise

theorem pay1_apply (j : S1280x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1024.Idx) : EReal :=
  let a : Vec Ideal S1280x1024 .f32 := iblk m c 0 t
  let b : Vec Ideal S1024x1024 .bf16 := iblk m c 1 t
  ∑ k : Fin 1024, a (ix2 (j 0) k) * b (ix2 k (j 1))

/-- What a point leaves in the output block. -/
theorem out_eq (t : Fin cfg0.N) (j : S1280x1024.Idx) : outsAt0 m c t j = term m c t j + (iblk m c 2 t : Vec Ideal S1280x1024 .f32) j := by
  unfold outsAt0
  frame_out
  unfold k0_pay3
  pointwise
  rw [pay2_apply, pay1_apply, zero_add]
  rfl

/-- Where the blocks of the operands lie. -/
theorem idx (t : Fin cfg0.N) : win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0) t

/-- Every point writes its output block back. -/
theorem flush (t : Fin cfg0.N) : (cfg0.win 3).flush t = true := (by decide +kernel : ∀ t : Fin grid0.N, win0_3.flush t = true) t

/-- The point whose output block holds an entry, and the entry's place in the block. -/
def ptOf (i : S16640x1024.Idx) : Fin cfg0.N := ⟨(i 0).val / 1280, by
  have hi0 : (i 0).val < 16640 := (i 0).isLt
  have hi1 : (i 1).val < 1024 := (i 1).isLt
  rw [show cfg0.N = 13 from N_0]; omega⟩

def locOf (i : S16640x1024.Idx) : S1280x1024.Idx :=
  ix2 ⟨(i 0).val % 1280, Nat.mod_lt _ (by decide)⟩ ⟨(i 1).val % 1024, Nat.mod_lt _ (by decide)⟩

theorem read3 (W : Vec Ideal S16640x1024 .f32) (i : S16640x1024.Idx) :
    (((cfg0.win 3).blk (ptOf i)).view.read (Elt Ideal) W : Vec Ideal S1280x1024 .f32) (locOf i) = W i := by
  obtain ⟨e0, e1, e2, e3, e4, e5, e6, e7⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  blk_ext [e6, e7, hp, l0, l1]

/-- An entry of the result, after the run. -/
theorem arr_apply (i : S16640x1024.Idx) : ((dats m 0 c).arrAt 3 cfg0.N : Vec Ideal S16640x1024 .f32) i = outsAt0 m c (ptOf i) (locOf i) := by
  refine (read3 _ i).symm.trans ?_
  exact (congrFun ((Value.blocks3 m c (ptOf i) (flush _)).trans (Value.flushed3 m c (ptOf i))) (locOf i)).trans rfl

/-- The call's second operand is the weight. -/
theorem V_w : V m c main_v0 = m ((c : Thread nD τ).loc main_arg1) := by
  have h : V m c main_v0 = (truncf (F := Ideal) .bf16 (φ := .f32) (m ((c : Thread nD τ).loc main_arg1)) bitsLt_bf16_f32 : FVec Ideal S1024x1024 .bf16) := by
    show StableHlo.after hostOps0 _ _ = _
    unfold hostOps0
    after_results
  rw [h]
  funext i
  pointwise
  done

/-- The product, added to the residual stream. -/
def out (x : Vec Ideal S16640x1024 .f32) (w : Vec Ideal S1024x1024 .f32) (h : Vec Ideal S16640x1024 .f32) (i : S16640x1024.Idx) : EReal :=
  (∑ l : Fin 1024, x (ix2 (i 0) l) * w (ix2 l (i 1))) + h i

/-- The operands' blocks at the point of an entry. -/
theorem blk0 (i : S16640x1024.Idx) (k : Fin 1024) : (iblk m c 0 (ptOf i) : Vec Ideal S1280x1024 .f32) (ix2 (locOf i 0) k)
    = (m ((c : Thread nD τ).loc main_arg0) : Vec Ideal S16640x1024 .f32) (ix2 (i 0) k) := by
  obtain ⟨e0, e1, e2, e3, e4, e5, e6, e7⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  rw [← V_main_arg0 m c]
  unfold iblk
  show (((cfg0.win 0).blk (ptOf i)).view.read (Elt Ideal) (V m c main_arg0) : Vec Ideal S1280x1024 .f32) _ = (V m c main_arg0 : Vec Ideal S16640x1024 .f32) _
  generalize V m c main_arg0 = W
  blk_ext [e0, e1, hp, l0, l1]

theorem blk1 (i : S16640x1024.Idx) (k : Fin 1024) : (iblk m c 1 (ptOf i) : Vec Ideal S1024x1024 .bf16) (ix2 k (locOf i 1))
    = (m ((c : Thread nD τ).loc main_arg1) : Vec Ideal S1024x1024 .f32) (ix2 k (i 1)) := by
  obtain ⟨e0, e1, e2, e3, e4, e5, e6, e7⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  refine Eq.trans ?_ (congrFun (V_w m c) _)
  unfold iblk
  show (((cfg0.win 1).blk (ptOf i)).view.read (Elt Ideal) (V m c main_v0) : Vec Ideal S1024x1024 .bf16) _ = (V m c main_v0 : Vec Ideal S1024x1024 .bf16) _
  generalize V m c main_v0 = W
  blk_ext [e2, e3, hp, l0, l1]

theorem blk2 (i : S16640x1024.Idx) : (iblk m c 2 (ptOf i) : Vec Ideal S1280x1024 .f32) (locOf i) = (m ((c : Thread nD τ).loc main_arg2) : Vec Ideal S16640x1024 .f32) i := by
  obtain ⟨e0, e1, e2, e3, e4, e5, e6, e7⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  rw [← V_main_arg2 m c]
  unfold iblk
  show (((cfg0.win 2).blk (ptOf i)).view.read (Elt Ideal) (V m c main_arg2) : Vec Ideal S1280x1024 .f32) _ = (V m c main_arg2 : Vec Ideal S16640x1024 .f32) _
  generalize V m c main_arg2 = W
  blk_ext [e4, e5, hp, l0, l1]

theorem arr_eq : (dats m 0 c).arrAt 3 cfg0.N = out (m ((c : Thread nD τ).loc main_arg0)) (m ((c : Thread nD τ).loc main_arg1)) (m ((c : Thread nD τ).loc main_arg2)) := by
  funext i
  refine (arr_apply m c i).trans ((out_eq m c _ _).trans ?_)
  unfold term out
  exact congrArg₂ (· + ·) (Finset.sum_congr (M := EReal) rfl fun k _ => congrArg₂ (· * ·) (blk0 m c i k) (blk1 m c i k)) (blk2 m c i)

/-- The reference's term is the same array. -/
theorem ref_eq (x : Vec Ideal S16640x1024 .f32) (w : Vec Ideal S1024x1024 .f32) (h : Vec Ideal S16640x1024 .f32) :
    addf (F := Ideal) h (Host.dotGeneral (φ₁ := .f32) (φ₂ := .f32) Cert.Reference8Ideal.dot_S16640x1024_S1024x1024_S16640x1024_1_0_0_1_n_n none x w) = out x w h := by
  funext i
  unfold out
  rw [add_comm]
  pointwise
  done

end Cert.Kernel8Ideal.Mix

end
-- ==== Proof.Mix.OutDx.lean ====
/-
  The gradient of the input of the mixer's output product: the kernel's array and the reference's, entry by entry.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel9Ideal.Mix

open Cert.Kernel9Ideal Cert.Kernel9Ideal.Gen Idealize.ShloMosaic Idealize.ShloMosaic.TcCoe Idealize.SL.Sem
open Idealize.ShloMosaic.Pipeline (Dat)

/-- One block's product added to what was there. -/
theorem pay2_apply (acc : Vec Ideal S1280x1024 .f32) (a : Vec Ideal S1280x1024 .f32) (b : Vec Ideal S1024x1024 .bf16) (j : S1280x1024.Idx) :
    k0_pay2 (F := Ideal) acc a b j = acc j + ∑ k : Fin 1024, a (ix2 (j 0) k) * b (ix2 (j 1) k) := by
  unfold k0_pay2
  pointwise

theorem pay1_apply (j : S1280x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1024.Idx) : EReal :=
  let a : Vec Ideal S1280x1024 .f32 := iblk m c 0 t
  let b : Vec Ideal S1024x1024 .bf16 := iblk m c 1 t
  ∑ k : Fin 1024, a (ix2 (j 0) k) * b (ix2 (j 1) k)

/-- What a point leaves in the output block. -/
theorem out_eq (t : Fin cfg0.N) (j : S1280x1024.Idx) : outsAt0 m c t j = term m c t j := by
  unfold outsAt0
  frame_out
  rw [pay2_apply, pay1_apply, zero_add]
  rfl

/-- Where the blocks of the operands lie. -/
theorem idx (t : Fin cfg0.N) : win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0) t

/-- Every point writes its output block back. -/
theorem flush (t : Fin cfg0.N) : (cfg0.win 2).flush t = true := (by decide +kernel : ∀ t : Fin grid0.N, win0_2.flush t = true) t

/-- The point whose output block holds an entry, and the entry's place in the block. -/
def ptOf (i : S16640x1024.Idx) : Fin cfg0.N := ⟨(i 0).val / 1280, by
  have hi0 : (i 0).val < 16640 := (i 0).isLt
  have hi1 : (i 1).val < 1024 := (i 1).isLt
  rw [show cfg0.N = 13 from N_0]; omega⟩

def locOf (i : S16640x1024.Idx) : S1280x1024.Idx :=
  ix2 ⟨(i 0).val % 1280, Nat.mod_lt _ (by decide)⟩ ⟨(i 1).val % 1024, Nat.mod_lt _ (by decide)⟩

theorem read2 (W : Vec Ideal S16640x1024 .f32) (i : S16640x1024.Idx) :
    (((cfg0.win 2).blk (ptOf i)).view.read (Elt Ideal) W : Vec Ideal S1280x1024 .f32) (locOf i) = W i := by
  obtain ⟨e0, e1, e2, e3, e4, e5⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  blk_ext [e4, e5, hp, l0, l1]

/-- An entry of the result, after the run. -/
theorem arr_apply (i : S16640x1024.Idx) : ((dats m 0 c).arrAt 2 cfg0.N : Vec Ideal S16640x1024 .f32) i = outsAt0 m c (ptOf i) (locOf i) := by
  refine (read2 _ i).symm.trans ?_
  exact (congrFun ((Value.blocks2 m c (ptOf i) (flush _)).trans (Value.flushed2 m c (ptOf i))) (locOf i)).trans rfl

/-- The call's second operand is the weight. -/
theorem V_w : V m c main_v0 = m ((c : Thread nD τ).loc main_arg0) := by
  have h : V m c main_v0 = (truncf (F := Ideal) .bf16 (φ := .f32) (m ((c : Thread nD τ).loc main_arg0)) bitsLt_bf16_f32 : FVec Ideal S1024x1024 .bf16) := by
    show StableHlo.after hostOps0 _ _ = _
    unfold hostOps0
    after_results
  rw [h]
  funext i
  pointwise
  done

/-- The gradient of the input: the product of the gradient and the transposed weight. -/
def dx (w : Vec Ideal S1024x1024 .f32) (g : Vec Ideal S16640x1024 .f32) (i : S16640x1024.Idx) : EReal :=
  ∑ l : Fin 1024, g (ix2 (i 0) l) * w (ix2 (i 1) l)

/-- The operands' blocks at the point of an entry. -/
theorem blk0 (i : S16640x1024.Idx) (k : Fin 1024) : (iblk m c 0 (ptOf i) : Vec Ideal S1280x1024 .f32) (ix2 (locOf i 0) k)
    = (m ((c : Thread nD τ).loc main_arg1) : Vec Ideal S16640x1024 .f32) (ix2 (i 0) k) := by
  obtain ⟨e0, e1, e2, e3, e4, e5⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  rw [← V_main_arg1 m c]
  unfold iblk
  show (((cfg0.win 0).blk (ptOf i)).view.read (Elt Ideal) (V m c main_arg1) : Vec Ideal S1280x1024 .f32) _ = (V m c main_arg1 : Vec Ideal S16640x1024 .f32) _
  generalize V m c main_arg1 = W
  blk_ext [e0, e1, hp, l0, l1]

theorem blk1 (i : S16640x1024.Idx) (k : Fin 1024) : (iblk m c 1 (ptOf i) : Vec Ideal S1024x1024 .bf16) (ix2 (locOf i 1) k)
    = (m ((c : Thread nD τ).loc main_arg0) : Vec Ideal S1024x1024 .f32) (ix2 (i 1) k) := by
  obtain ⟨e0, e1, e2, e3, e4, e5⟩ := idx (ptOf i)
  have hi0 : (i 0).val < 16640 := (i 0).isLt
  have hi1 : (i 1).val < 1024 := (i 1).isLt
  have hp : (ptOf i).val = (i 0).val / 1280 := rfl
  have l0 : (locOf i 0).val = (i 0).val % 1280 := rfl
  have l1 : (locOf i 1).val = (i 1).val % 1024 := rfl
  refine Eq.trans ?_ (congrFun (V_w m c) _)
  unfold iblk
  show (((cfg0.win 1).blk (ptOf i)).view.read (Elt Ideal) (V m c main_v0) : Vec Ideal S1024x1024 .bf16) _ = (V m c main_v0 : Vec Ideal S1024x1024 .bf16) _
  generalize V m c main_v0 = W
  blk_ext [e2, e3, hp, l0, l1]

theorem arr_eq : (dats m 0 c).arrAt 2 cfg0.N = dx (m ((c : Thread nD τ).loc main_arg0)) (m ((c : Thread nD τ).loc main_arg1)) := by
  funext i
  refine (arr_apply m c i).trans ((out_eq m c _ _).trans ?_)
  unfold term dx
  exact Finset.sum_congr (M := EReal) rfl fun k _ => congrArg₂ (· * ·) (blk0 m c i k) (blk1 m c i k)

/-- The reference's term is the same array. -/
theorem ref_eq (w : Vec Ideal S1024x1024 .f32) (g : Vec Ideal S16640x1024 .f32) :
    (Host.dotGeneral (F := Ideal) (φ₁ := .f32) (φ₂ := .f32) Cert.Reference9Ideal.dot_S16640x1024_S1024x1024_S16640x1024_1_1_0_0_n_n none g w : FVec Ideal Cert.Reference9Ideal.S16640x1024 .f32) = dx w g := by
  funext i
  unfold dx
  pointwise
  done

end Cert.Kernel9Ideal.Mix

end
-- ==== Proof.Mix.OutDw.lean ====
/-
  The gradient of the mixer's output weight: the kernel's array and the reference's, entry by entry.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel10Ideal.Mix

open Cert.Kernel10Ideal Cert.Kernel10Ideal.Gen Idealize.ShloMosaic Idealize.ShloMosaic.TcCoe Idealize.SL.Sem
open Idealize.ShloMosaic.Pipeline (Dat)

/-- One block's product added to what was there. -/
theorem pay2_apply (acc : Vec Ideal S1024x1024 .f32) (a : Vec Ideal S640x1024 .f32) (b : Vec Ideal S640x1024 .f32) (j : S1024x1024.Idx) :
    k0_pay2 (F := Ideal) acc a b j = acc j + ∑ k : Fin 640, a (ix2 k (j 0)) * b (ix2 k (j 1)) := by
  unfold k0_pay2
  pointwise

theorem pay1_apply (j : S1024x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1024x1024.Idx) : EReal :=
  let a : Vec Ideal S640x1024 .f32 := iblk m c 0 t
  let b : Vec Ideal S640x1024 .f32 := iblk m c 1 t
  ∑ k : Fin 640, a (ix2 k (j 0)) * b (ix2 k (j 1))

theorem scratch (t : Fin cfg0.N) (h : t.val % 26 = 26 - 1) (j : S1024x1024.Idx) :
    (outsAt0 m c t.val t.isLt).2 j = 0 + ∑ s : Fin 26, term m c ⟨26 * (t.val / 26) + s.val, Pipeline.run_point_lt_of_flush t h s⟩ j := by
  refine Pipeline.eq_sum_fin_of_reset_step_apply_of_flush (fun n h => (outsAt0 m c n h).2) 26 (fun _ => 0) (term m c) ?_ ?_ t h j
  · intro t h0 i
    rw [outsAt0_A m c t h0 (by omega)]
    frame_out
    rw [pay2_apply, pay1_apply]; rfl
  · intro t h0 i
    by_cases h1 : t.val % 26 = 25
    · rw [outsAt0_C m c t h0 h1]
      frame_out
      rw [pay2_apply]; exact congrArg₂ (· + ·) (congrFun (Memref.IsWhole.read_unread _ _) i) rfl
    · rw [outsAt0_B m c t h0 h1]
      frame_out
      rw [pay2_apply]; exact congrArg₂ (· + ·) (congrFun (Memref.IsWhole.read_unread _ _) i) rfl

/-- At a point that writes back, the output block is the scratch. -/
theorem out_eq (t : Fin cfg0.N) (h : t.val % 26 = 25) (j : S1024x1024.Idx) :
    (outsAt0 m c t.val t.isLt).1 j = (outsAt0 m c t.val t.isLt).2 j := by
  rw [outsAt0_C m c t (by omega) h]
  frame_out

/-- Where the blocks of the operands lie. -/
theorem idx (t : Fin cfg0.N) : win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, win0_0.index t (0 : Fin 2) = t.val
    ∧ win0_0.index t (1 : Fin 2) = 0
    ∧ win0_1.index t (0 : Fin 2) = t.val
    ∧ win0_1.index t (1 : Fin 2) = 0) t

/-- Both operands at row l of the contraction, for entry i of the result. -/
def prod (x : Vec Ideal S16640x1024 .f32) (d : Vec Ideal S16640x1024 .f32) (i : S1024x1024.Idx) (l : Fin 16640) : EReal :=
  x (ix2 l (i 0)) * d (ix2 l (i 1))

/-- The gradient of the weight: the product of the transposed input and the gradient. -/
def dw (x : Vec Ideal S16640x1024 .f32) (d : Vec Ideal S16640x1024 .f32) (i : S1024x1024.Idx) : EReal :=
  ∑ l : Fin 16640, prod x d i l

/-- What a point of an entry's run adds to it, in the arrays. -/
theorem term_eq (i : S1024x1024.Idx) (t : Fin cfg0.N) (s : Fin 26) (h : t.val = 26 * ((i 1).val / 1024) + s.val) :
    term m c t (Value.loc2Of i) = ∑ k : Fin 640, prod (m ((c : Thread nD τ).loc main_arg0)) (m ((c : Thread nD τ).loc main_arg1)) i
      ⟨s.val * 640 + k.val, by have := s.isLt; have := k.isLt; omega⟩ := by
  unfold term
  have hi0 : (i 0).val < 1024 := (i 0).isLt
  have hi1 : (i 1).val < 1024 := (i 1).isLt
  obtain ⟨e0, e1, e2, e3⟩ := idx t
  refine Finset.sum_congr rfl fun k _ => ?_
  unfold prod
  have hs : s.val < 26 := s.isLt
  have hk : k.val < 640 := k.isLt
  congr 1 <;> blk_ext [iblk, V, e0, e1, e2, e3]
  done

theorem G2_eq : Value.G2 m c = dw (m ((c : Thread nD τ).loc main_arg0)) (m ((c : Thread nD τ).loc main_arg1)) := by
  funext i
  have hi0 : (i 0).val < 1024 := (i 0).isLt
  have hi1 : (i 1).val < 1024 := (i 1).isLt
  have hr : Value.run2Of i = (i 1).val / 1024 := by dsimp only [Value.run2Of]; omega
  have hq : Value.pt2Of i = 26 * ((i 1).val / 1024) + 25 := by dsimp only [Value.pt2Of]; rw [hr]
  have hp : Value.pt2Of i < cfg0.N := by rw [show cfg0.N = 26 from N_0, hq]; omega
  unfold Value.G2
  rw [dif_pos hp, ← Value.outsAt0_sweep m c _ hp, out_eq m c ⟨_, hp⟩ (by show Value.pt2Of i % 26 = 25; omega),
    scratch m c ⟨_, hp⟩ (by show Value.pt2Of i % 26 = 25; omega), zero_add]
  unfold dw
  rw [← Fin.sum_mul_add_fin 26 640 (prod (m ((c : Thread nD τ).loc main_arg0)) (m ((c : Thread nD τ).loc main_arg1)) i)]
  exact Finset.sum_congr (M := EReal) rfl fun s _ => term_eq m c i _ s (by
    show 26 * (Value.pt2Of i / 26) + s.val = _; omega)

/-- The reference's term is the same array. -/
theorem ref_eq (x : Vec Ideal S16640x1024 .f32) (d : Vec Ideal S16640x1024 .f32) :
    (transpose Cert.Reference10Ideal.S1024x1024 [1, 0] (Host.dotGeneral (F := Ideal) (φ₁ := .f32) (φ₂ := .f32) Cert.Reference10Ideal.dot_S16640x1024_S16640x1024_S1024x1024_0_0_1_1_n_n none d
      x) Cert.Reference10Ideal.Gen.transposes_S1024x1024_S1024x1024_1_0 : FVec Ideal Cert.Reference10Ideal.S1024x1024 .f32) = dw x d := by
  funext i
  unfold dw prod
  refine Eq.trans (b := ∑ l : Fin 16640, d (ix2 l (i 1)) * x (ix2 l (i 0))) ?_ (Finset.sum_congr rfl fun l _ => mul_comm _ _)
  pointwise
  done

end Cert.Kernel10Ideal.Mix

end
-- ==== Proof.Mix.In.lean ====
/-
  The mixer's input product: the kernel's array and the reference's, entry by entry.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel11Ideal.Mix

open Cert.Kernel11Ideal Cert.Kernel11Ideal.Gen Idealize.ShloMosaic Idealize.ShloMosaic.TcCoe Idealize.SL.Sem
open Idealize.ShloMosaic.Pipeline (Dat)

/-- One block's product added to what was there. -/
theorem pay2_apply (acc : Vec Ideal S1280x1280 .f32) (a : Vec Ideal S1280x1024 .bf16) (b : Vec Ideal S1024x1280 .bf16) (j : S1280x1280.Idx) :
    k0_pay2 (F := Ideal) acc a b j = acc j + ∑ k : Fin 1024, a (ix2 (j 0) k) * b (ix2 k (j 1)) := by
  unfold k0_pay2
  pointwise

theorem pay1_apply (j : S1280x1280.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1280.Idx) : EReal :=
  let a : Vec Ideal S1280x1024 .bf16 := iblk m c 0 t
  let b : Vec Ideal S1024x1280 .bf16 := iblk m c 1 t
  ∑ k : Fin 1024, a (ix2 (j 0) k) * b (ix2 k (j 1))

/-- What a point leaves in the output block. -/
theorem out_eq (t : Fin cfg0.N) (j : S1280x1280.Idx) : outsAt0 m c t j = term m c t j := by
  unfold outsAt0
  frame_out
  rw [pay2_apply, pay1_apply, zero_add]
  rfl

/-- Where the blocks of the operands lie. -/
theorem idx (t : Fin cfg0.N) : win0_0.index t (0 : Fin 2) = t.val / 2
    ∧ win0_0.index t (1 : Fin 2) = 0
    ∧ win0_1.index t (0 : Fin 2) = 0
    ∧ win0_1.index t (1 : Fin 2) = t.val % 2
    ∧ win0_2.index t (0 : Fin 2) = t.val / 2
    ∧ win0_2.index t (1 : Fin 2) = t.val % 2 :=
  (by decide +kernel : ∀ t : Fin grid0.N, win0_0.index t (0 : Fin 2) = t.val / 2
    ∧ win0_0.index t (1 : Fin 2) = 0
    ∧ win0_1.index t (0 : Fin 2) = 0
    ∧ win0_1.index t (1 : Fin 2) = t.val % 2
    ∧ win0_2.index t (0 : Fin 2) = t.val / 2
    ∧ win0_2.index t (1 : Fin 2) = t.val % 2) t

/-- Every point writes its output block back. -/
theorem flush (t : Fin cfg0.N) : (cfg0.win 2).flush t = true := (by decide +kernel : ∀ t : Fin grid0.N, win0_2.flush t = true) t

/-- The point whose output block holds an entry, and the entry's place in the block. -/
def ptOf (i : S16640x2560.Idx) : Fin cfg0.N := ⟨2 * ((i 0).val / 1280) + (i 1).val / 1280, by
  have hi0 : (i 0).val < 16640 := (i 0).isLt
  have hi1 : (i 1).val < 2560 := (i 1).isLt
  rw [show cfg0.N = 26 from N_0]; omega⟩

def locOf (i : S16640x2560.Idx) : S1280x1280.Idx :=
  ix2 ⟨(i 0).val % 1280, Nat.mod_lt _ (by decide)⟩ ⟨(i 1).val % 1280, Nat.mod_lt _ (by decide)⟩

theorem read2 (W : Vec Ideal S16640x2560 .f32) (i : S16640x2560.Idx) :
    (((cfg0.win 2).blk (ptOf i)).view.read (Elt Ideal) W : Vec Ideal S1280x1280 .f32) (locOf i) = W i := by
  obtain ⟨e0, e1, e2, e3, e4, e5⟩ := idx (ptOf i)
  have hi0 : (i 0).val < 16640 := (i 0).isLt
  have hi1 : (i 1).val < 2560 := (i 1).isLt
  have hp : (ptOf i).val = 2 * ((i 0).val / 1280) + (i 1).val / 1280 := rfl
  have l0 : (locOf i 0).val = (i 0).val % 1280 := rfl
  have l1 : (locOf i 1).val = (i 1).val % 1280 := rfl
  blk_ext [e4, e5, hp, l0, l1]

/-- An entry of the result, after the run. -/
theorem arr_apply (i : S16640x2560.Idx) : ((dats m 0 c).arrAt 2 cfg0.N : Vec Ideal S16640x2560 .f32) i = outsAt0 m c (ptOf i) (locOf i) := by
  refine (read2 _ i).symm.trans ?_
  exact (congrFun ((Value.blocks2 m c (ptOf i) (flush _)).trans (Value.flushed2 m c (ptOf i))) (locOf i)).trans rfl

/-- The weight with zero columns between the DeltaNet's and S5's, and after S5's. -/
def padded (w : Vec Ideal S1024x2312 .f32) (i : S1024x2560.Idx) : EReal :=
  if h : (i 1).val < 1800 then w (ix2 (i 0) ⟨(i 1).val, by omega⟩)
  else if h : 1920 ≤ (i 1).val ∧ (i 1).val < 2432 then w (ix2 (i 0) ⟨(i 1).val - 120, by omega⟩) else 0

/-- The call's second operand is the padded weight. -/
theorem V_w : V m c main_v5 = padded (m ((c : Thread nD τ).loc main_arg1)) := by
  have h : V m c main_v5 = truncf (F := Ideal) .bf16 (φ := .f32) (concatenate S1024x2560 1
      [⟨S1024x1800, extractStridedSlice S1024x1800 ![0, 0] (m ((c : Thread nD τ).loc main_arg1)) slices_S1024x2312_S1024x1800_0_0⟩,
       ⟨S1024x120, broadcastInDim S1024x120 ![] bcast_S_S1024x120 (constant (F := Ideal) S_ .f32 0x00000000#32)⟩,
       ⟨S1024x512, extractStridedSlice S1024x512 ![0, 1800] (m ((c : Thread nD τ).loc main_arg1)) slices_S1024x2312_S1024x512_0_1800⟩,
       ⟨S1024x128, broadcastInDim S1024x128 ![] bcast_S_S1024x128 (constant (F := Ideal) S_ .f32 0x00000000#32)⟩]
      concatenates_S1024x1800_S1024x120_S1024x512_S1024x128_S1024x2560_d1) bitsLt_bf16_f32 := by
    show StableHlo.after hostOps0 _ _ = _
    unfold hostOps0
    simp only [StableHlo.after_cons, StableHlo.after_nil]
    rw [StableHlo.unary_result, StableHlo.nary4_result]
    repeat (first
      | rw [StableHlo.nullary_result] | rw [StableHlo.unary_result]
      | (rw [StableHlo.nullary_result_ne]; rotate_left; decide)
      | (rw [StableHlo.unary_result_ne]; rotate_left; decide))
    rfl
  rw [h]
  funext i
  unfold padded
  pointwise
  have hi1 : (i 1).val < 2560 := (i 1).isLt
  by_cases h1 : (i 1).val < 1800
  · refine (dif_pos h1).trans (Eq.trans ?_ (dif_pos h1).symm); rfl
  refine (dif_neg h1).trans (Eq.trans ?_ (dif_neg h1).symm)
  by_cases h2 : (i 1).val - 1800 < 120
  · refine (dif_pos h2).trans (Eq.trans ?_ (dif_neg (show ¬ (1920 ≤ (i 1).val ∧ (i 1).val < 2432) by omega)).symm); rfl
  refine (dif_neg h2).trans ?_
  by_cases h3 : (i 1).val - 1800 - 120 < 512
  · refine (dif_pos h3).trans (Eq.trans ?_ (dif_pos (show 1920 ≤ (i 1).val ∧ (i 1).val < 2432 by omega)).symm)
    exact congrArg (fun y : Fin 2312 => (m ((c : Thread nD τ).loc main_arg1) : Vec Ideal S1024x2312 .f32) (ix2 (i 0) y))
      (Fin.mk_eq_mk.2 (by omega : 1800 + ((i 1).val - 1800 - 120) = (i 1).val - 120))
  · refine (dif_neg h3).trans (Eq.trans ?_ (dif_neg (show ¬ (1920 ≤ (i 1).val ∧ (i 1).val < 2432) by omega)).symm); rfl

/-- The product of the input and the padded weight. -/
def proj (x : Vec Ideal S16640x1024 .bf16) (w : Vec Ideal S1024x2312 .f32) (i : S16640x2560.Idx) : EReal :=
  ∑ l : Fin 1024, x (ix2 (i 0) l) * padded w (ix2 l (i 1))

/-- The operands' blocks at the point of an entry. -/
theorem blk0 (i : S16640x2560.Idx) (k : Fin 1024) : (iblk m c 0 (ptOf i) : Vec Ideal S1280x1024 .bf16) (ix2 (locOf i 0) k)
    = (m ((c : Thread nD τ).loc main_arg0) : Vec Ideal S16640x1024 .bf16) (ix2 (i 0) k) := by
  obtain ⟨e0, e1, e2, e3, e4, e5⟩ := idx (ptOf i)
  have hi0 : (i 0).val < 16640 := (i 0).isLt
  have hi1 : (i 1).val < 2560 := (i 1).isLt
  have hp : (ptOf i).val = 2 * ((i 0).val / 1280) + (i 1).val / 1280 := rfl
  have l0 : (locOf i 0).val = (i 0).val % 1280 := rfl
  have l1 : (locOf i 1).val = (i 1).val % 1280 := rfl
  rw [← V_main_arg0 m c]
  unfold iblk
  show (((cfg0.win 0).blk (ptOf i)).view.read (Elt Ideal) (V m c main_arg0) : Vec Ideal S1280x1024 .bf16) _ = (V m c main_arg0 : Vec Ideal S16640x1024 .bf16) _
  generalize V m c main_arg0 = W
  blk_ext [e0, e1, hp, l0, l1]

theorem read1 (W : Vec Ideal S1024x2560 .bf16) (i : S16640x2560.Idx) (k : Fin 1024) :
    (((cfg0.win 1).blk (ptOf i)).view.read (Elt Ideal) W : Vec Ideal S1024x1280 .bf16) (ix2 k (locOf i 1)) = W (ix2 k (i 1)) := by
  obtain ⟨e0, e1, e2, e3, e4, e5⟩ := idx (ptOf i)
  have hi0 : (i 0).val < 16640 := (i 0).isLt
  have hi1 : (i 1).val < 2560 := (i 1).isLt
  have hp : (ptOf i).val = 2 * ((i 0).val / 1280) + (i 1).val / 1280 := rfl
  have l1 : (locOf i 1).val = (i 1).val % 1280 := rfl
  blk_ext [e2, e3, hp, l1]

theorem blk1 (i : S16640x2560.Idx) (k : Fin 1024) : (iblk m c 1 (ptOf i) : Vec Ideal S1024x1280 .bf16) (ix2 k (locOf i 1))
    = padded (m ((c : Thread nD τ).loc main_arg1)) (ix2 k (i 1)) := by
  refine Eq.trans ?_ (read1 _ i k)
  unfold iblk
  exact congrFun (congrArg (fun W : Vec Ideal S1024x2560 .bf16 => (((cfg0.win 1).blk (ptOf i)).view.read (Elt Ideal) W : Vec Ideal S1024x1280 .bf16)) (V_w m c)) _

theorem arr_eq : (dats m 0 c).arrAt 2 cfg0.N = proj (m ((c : Thread nD τ).loc main_arg0)) (m ((c : Thread nD τ).loc main_arg1)) := by
  funext i
  refine (arr_apply m c i).trans ((out_eq m c _ _).trans ?_)
  unfold term proj
  exact Finset.sum_congr (M := EReal) rfl fun k _ => congrArg₂ (· * ·) (blk0 m c i k) (blk1 m c i k)

/-- The reference's term is the same array. -/
theorem ref_eq (x : Vec Ideal S16640x1024 .bf16) (w : Vec Ideal S1024x2312 .f32) :
    (concatenate Cert.Reference11Ideal.S16640x2560 1 [⟨Cert.Reference11Ideal.S16640x1800, ((extractStridedSlice Cert.Reference11Ideal.S16640x1800 ![0, 0] (Host.dotGeneral (F := Ideal) (φ₁ := .f32) (φ₂ := .f32) Cert.Reference11Ideal.dot_S16640x1024_S1024x2312_S16640x2312_1_0_0_1_n_n none (extf .f32 x Cert.Reference11Ideal.Gen.bitsLt_bf16_f32) w) Cert.Reference11Ideal.Gen.slices_S16640x2312_S16640x1800_0_0) : (⟨Cert.Reference11Ideal.S16640x1800, .f32⟩ : BufTy).Contents (Elt Ideal))⟩,
      ⟨Cert.Reference11Ideal.S16640x120, ((broadcastInDim Cert.Reference11Ideal.S16640x120 ![] Cert.Reference11Ideal.Gen.bcast_S_S16640x120 (constant (F := Ideal) Cert.Reference11Ideal.S_ .f32 0x00000000#32)) : (⟨Cert.Reference11Ideal.S16640x120, .f32⟩ : BufTy).Contents (Elt Ideal))⟩,
      ⟨Cert.Reference11Ideal.S16640x512, ((extractStridedSlice Cert.Reference11Ideal.S16640x512 ![0, 1800] (Host.dotGeneral (F := Ideal) (φ₁ := .f32) (φ₂ := .f32) Cert.Reference11Ideal.dot_S16640x1024_S1024x2312_S16640x2312_1_0_0_1_n_n none (extf .f32 x Cert.Reference11Ideal.Gen.bitsLt_bf16_f32) w) Cert.Reference11Ideal.Gen.slices_S16640x2312_S16640x512_0_1800) : (⟨Cert.Reference11Ideal.S16640x512, .f32⟩ : BufTy).Contents (Elt Ideal))⟩,
      ⟨Cert.Reference11Ideal.S16640x128, ((broadcastInDim Cert.Reference11Ideal.S16640x128 ![] Cert.Reference11Ideal.Gen.bcast_S_S16640x128 (constant (F := Ideal) Cert.Reference11Ideal.S_ .f32 0x00000000#32)) : (⟨Cert.Reference11Ideal.S16640x128, .f32⟩ : BufTy).Contents (Elt Ideal))⟩]
      Cert.Reference11Ideal.Gen.concatenates_S16640x1800_S16640x120_S16640x512_S16640x128_S16640x2560_d1 : (⟨Cert.Reference11Ideal.S16640x2560, .f32⟩ : BufTy).Contents (Elt Ideal)) = proj x w := by
  funext i
  unfold proj
  have hi1 : (i 1).val < 2560 := (i 1).isLt
  have hw (l : Fin 1024) : padded w (ix2 l (i 1)) = if h : (i 1).val < 1800 then w (ix2 l ⟨(i 1).val, by omega⟩)
      else if h : 1920 ≤ (i 1).val ∧ (i 1).val < 2432 then w (ix2 l ⟨(i 1).val - 120, by omega⟩) else 0 := rfl
  pointwise
  by_cases h1 : (i 1).val < 1800
  · exact (dif_pos h1).trans (Finset.sum_congr rfl fun l _ => congrArg (x (ix2 (i 0) l) * ·) ((hw l).trans (dif_pos h1)).symm)
  refine (dif_neg h1).trans (Eq.trans ?_ (Finset.sum_congr rfl fun l _ => congrArg (x (ix2 (i 0) l) * ·) ((hw l).trans (dif_neg h1)).symm))
  by_cases h2 : (i 1).val - 1800 < 120
  · exact (dif_pos h2).trans (Finset.sum_eq_zero fun l _ => (congrArg (x (ix2 (i 0) l) * ·) (dif_neg (show ¬ (1920 ≤ (i 1).val ∧ (i 1).val < 2432) by omega))).trans (mul_zero _)).symm
  refine (dif_neg h2).trans ?_
  by_cases h3 : (i 1).val - 1800 - 120 < 512
  · refine (dif_pos h3).trans (Finset.sum_congr rfl fun l _ => congrArg (x (ix2 (i 0) l) * ·) (Eq.trans ?_ (dif_pos (show 1920 ≤ (i 1).val ∧ (i 1).val < 2432 by omega)).symm))
    exact congrArg (fun y : Fin 2312 => w (ix2 l y)) (Fin.mk_eq_mk.2 (by omega : 1800 + ((i 1).val - 1800 - 120) = (i 1).val - 120))
  · exact (dif_neg h3).trans (Finset.sum_eq_zero fun l _ => (congrArg (x (ix2 (i 0) l) * ·) (dif_neg (show ¬ (1920 ≤ (i 1).val ∧ (i 1).val < 2432) by omega))).trans (mul_zero _)).symm

end Cert.Kernel11Ideal.Mix

end
-- ==== Proof.Mix.InDx.lean ====
/-
  The gradient of the input of the mixer's input product: the kernel's array and the reference's, entry by entry.
-/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel12Ideal.Mix

open Cert.Kernel12Ideal Cert.Kernel12Ideal.Gen Idealize.ShloMosaic Idealize.ShloMosaic.TcCoe Idealize.SL.Sem
open Idealize.ShloMosaic.Pipeline (Dat)

/-- One block's product added to what was there. -/
theorem pay2_apply (acc : Vec Ideal S1280x1024 .f32) (a : Vec Ideal S1280x1280 .f32) (b : Vec Ideal S1024x1280 .bf16) (j : S1280x1024.Idx) :
    k0_pay2 (F := Ideal) acc a b j = acc j + ∑ k : Fin 1280, a (ix2 (j 0) k) * b (ix2 (j 1) k) := by
  unfold k0_pay2
  pointwise

theorem pay1_apply (j : S1280x1024.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1280x1024.Idx) : EReal :=
  let a : Vec Ideal S1280x1280 .f32 := iblk m c 0 t
  let b : Vec Ideal S1024x1280 .bf16 := iblk m c 1 t
  ∑ k : Fin 1280, a (ix2 (j 0) k) * b (ix2 (j 1) k)

theorem scratch (t : Fin cfg0.N) (h : t.val % 2 = 2 - 1) (j : S1280x1024.Idx) :
    (outsAt0 m c t.val t.isLt).2 j = 0 + ∑ s : Fin 2, term m c ⟨2 * (t.val / 2) + s.val, Pipeline.run_point_lt_of_flush t h s⟩ j := by
  refine Pipeline.eq_sum_fin_of_reset_step_apply_of_flush (fun n h => (outsAt0 m c n h).2) 2 (fun _ => 0) (term m c) ?_ ?_ t h j
  · intro t h0 i
    rw [outsAt0_A m c t h0 (by omega)]
    frame_out
    rw [pay2_apply, pay1_apply]; rfl
  · intro t h0 i
    rw [outsAt0_B m c t h0 (by omega)]
    frame_out
    rw [pay2_apply]; exact congrArg₂ (· + ·) (congrFun (Memref.IsWhole.read_unread _ _) i) rfl

/-- At a point that writes back, the output block is the scratch. -/
theorem out_eq (t : Fin cfg0.N) (h : t.val % 2 = 1) (j : S1280x1024.Idx) :
    (outsAt0 m c t.val t.isLt).1 j = (outsAt0 m c t.val t.isLt).2 j := by
  rw [outsAt0_B m c t (by omega) h]
  frame_out
  unfold k0_pay3
  pointwise
  done

/-- Where the blocks of the operands lie. -/
theorem idx (t : Fin cfg0.N) : win0_0.index t (0 : Fin 2) = t.val / 2
    ∧ win0_0.index t (1 : Fin 2) = t.val % 2
    ∧ win0_1.index t (0 : Fin 2) = 0
    ∧ win0_1.index t (1 : Fin 2) = t.val % 2 :=
  (by decide +kernel : ∀ t : Fin grid0.N, win0_0.index t (0 : Fin 2) = t.val / 2
    ∧ win0_0.index t (1 : Fin 2) = t.val % 2
    ∧ win0_1.index t (0 : Fin 2) = 0
    ∧ win0_1.index t (1 : Fin 2) = t.val % 2) t

/-- The weight with zero columns between the DeltaNet's and S5's, and after S5's. -/
def padded (w : Vec Ideal S1024x2312 .f32) (i : S1024x2560.Idx) : EReal :=
  if h : (i 1).val < 1800 then w (ix2 (i 0) ⟨(i 1).val, by omega⟩)
  else if h : 1920 ≤ (i 1).val ∧ (i 1).val < 2432 then w (ix2 (i 0) ⟨(i 1).val - 120, by omega⟩) else 0

/-- The call's second operand is the padded weight. -/
theorem V_w : V m c main_v5 = padded (m ((c : Thread nD τ).loc main_arg0)) := by
  have h : V m c main_v5 = truncf (F := Ideal) .bf16 (φ := .f32) (concatenate S1024x2560 1
      [⟨S1024x1800, extractStridedSlice S1024x1800 ![0, 0] (m ((c : Thread nD τ).loc main_arg0)) slices_S1024x2312_S1024x1800_0_0⟩,
       ⟨S1024x120, broadcastInDim S1024x120 ![] bcast_S_S1024x120 (constant (F := Ideal) S_ .f32 0x00000000#32)⟩,
       ⟨S1024x512, extractStridedSlice S1024x512 ![0, 1800] (m ((c : Thread nD τ).loc main_arg0)) slices_S1024x2312_S1024x512_0_1800⟩,
       ⟨S1024x128, broadcastInDim S1024x128 ![] bcast_S_S1024x128 (constant (F := Ideal) S_ .f32 0x00000000#32)⟩]
      concatenates_S1024x1800_S1024x120_S1024x512_S1024x128_S1024x2560_d1) bitsLt_bf16_f32 := by
    show StableHlo.after hostOps0 _ _ = _
    unfold hostOps0
    simp only [StableHlo.after_cons, StableHlo.after_nil]
    rw [StableHlo.unary_result, StableHlo.nary4_result]
    repeat (first
      | rw [StableHlo.nullary_result] | rw [StableHlo.unary_result]
      | (rw [StableHlo.nullary_result_ne]; rotate_left; decide)
      | (rw [StableHlo.unary_result_ne]; rotate_left; decide))
    rfl
  rw [h]
  funext i
  unfold padded
  pointwise
  have hi1 : (i 1).val < 2560 := (i 1).isLt
  by_cases h1 : (i 1).val < 1800
  · refine (dif_pos h1).trans (Eq.trans ?_ (dif_pos h1).symm); rfl
  refine (dif_neg h1).trans (Eq.trans ?_ (dif_neg h1).symm)
  by_cases h2 : (i 1).val - 1800 < 120
  · refine (dif_pos h2).trans (Eq.trans ?_ (dif_neg (show ¬ (1920 ≤ (i 1).val ∧ (i 1).val < 2432) by omega)).symm); rfl
  refine (dif_neg h2).trans ?_
  by_cases h3 : (i 1).val - 1800 - 120 < 512
  · refine (dif_pos h3).trans (Eq.trans ?_ (dif_pos (show 1920 ≤ (i 1).val ∧ (i 1).val < 2432 by omega)).symm)
    exact congrArg (fun y : Fin 2312 => (m ((c : Thread nD τ).loc main_arg0) : Vec Ideal S1024x2312 .f32) (ix2 (i 0) y))
      (Fin.mk_eq_mk.2 (by omega : 1800 + ((i 1).val - 1800 - 120) = (i 1).val - 120))
  · refine (dif_neg h3).trans (Eq.trans ?_ (dif_neg (show ¬ (1920 ≤ (i 1).val ∧ (i 1).val < 2432) by omega)).symm); rfl

/-- Both operands at column l of the contraction, for entry i of the result. -/
def prod (w : Vec Ideal S1024x2560 .bf16) (d : Vec Ideal S16640x2560 .f32) (i : S16640x1024.Idx) (l : Fin 2560) : EReal :=
  d (ix2 (i 0) l) * w (ix2 (i 1) l)

/-- The gradient of the input: the product of the gradient and the transposed padded weight. -/
def dx (w : Vec Ideal S1024x2312 .f32) (d : Vec Ideal S16640x2560 .f32) (i : S16640x1024.Idx) : EReal :=
  ∑ l : Fin 2560, prod (padded w) d i l

/-- The first operand's block, read off the gradient. -/
theorem blk0 (t : Fin cfg0.N) (j : S1280x1280.Idx) : (iblk m c 0 t : Vec Ideal S1280x1280 .f32) j
    = (m ((c : Thread nD τ).loc main_arg1) : Vec Ideal S16640x2560 .f32) (ix2 ⟨t.val / 2 * 1280 + (j 0).val, by
        have : (j 0).val < 1280 := (j 0).isLt; have := lt_of_lt_of_eq t.isLt (show cfg0.N = 26 from N_0); omega⟩
      ⟨t.val % 2 * 1280 + (j 1).val, by have : (j 1).val < 1280 := (j 1).isLt; omega⟩) := by
  obtain ⟨e0, e1, e2, e3⟩ := idx t
  rw [← V_main_arg1 m c]
  unfold iblk
  show (((cfg0.win 0).blk t).view.read (Elt Ideal) (V m c main_arg1) : Vec Ideal S1280x1280 .f32) _ = (V m c main_arg1 : Vec Ideal S16640x2560 .f32) _
  generalize V m c main_arg1 = W
  blk_ext [e0, e1]

/-- A block of an array in the second operand's place. -/
theorem read1 (W : Vec Ideal S1024x2560 .bf16) (t : Fin cfg0.N) (j : S1024x1280.Idx) :
    (((cfg0.win 1).blk t).view.read (Elt Ideal) W : Vec Ideal S1024x1280 .bf16) j
    = W (ix2 (j 0) ⟨t.val % 2 * 1280 + (j 1).val, by have : (j 1).val < 1280 := (j 1).isLt; omega⟩) := by
  obtain ⟨e0, e1, e2, e3⟩ := idx t
  blk_ext [e2, e3]

/-- The second operand's block, read off the weight. -/
theorem blk1 (t : Fin cfg0.N) (j : S1024x1280.Idx) : (iblk m c 1 t : Vec Ideal S1024x1280 .bf16) j
    = padded (m ((c : Thread nD τ).loc main_arg0))
        (ix2 (j 0) ⟨t.val % 2 * 1280 + (j 1).val, by have : (j 1).val < 1280 := (j 1).isLt; omega⟩) := by
  refine Eq.trans ?_ (read1 _ t j)
  unfold iblk
  exact congrFun (congrArg (fun W : Vec Ideal S1024x2560 .bf16 => (((cfg0.win 1).blk t).view.read (Elt Ideal) W : Vec Ideal S1024x1280 .bf16)) (V_w m c)) j

/-- What a point of an entry's run adds to it, in the arrays. -/
theorem term_eq (i : S16640x1024.Idx) (t : Fin cfg0.N) (s : Fin 2) (h : t.val = 2 * ((i 0).val / 1280) + s.val) :
    term m c t (Value.loc2Of i) = ∑ k : Fin 1280, prod (padded (m ((c : Thread nD τ).loc main_arg0))) (m ((c : Thread nD τ).loc main_arg1)) i
      ⟨s.val * 1280 + k.val, by have := s.isLt; have := k.isLt; omega⟩ := by
  unfold term
  refine Finset.sum_congr rfl fun k _ => ?_
  rw [blk0, blk1]
  have hi0 : (i 0).val < 16640 := (i 0).isLt
  have hi1 : (i 1).val < 1024 := (i 1).isLt
  have hs : s.val < 2 := s.isLt
  unfold prod
  refine congrArg₂ (· * ·) (congrArg _ (congrArg₂ ix2 (Fin.ext ?_) (Fin.ext ?_))) (congrArg _ (congrArg₂ ix2 (Fin.ext ?_) (Fin.ext ?_)))
  · show t.val / 2 * 1280 + (i 0).val % 1280 = (i 0).val; omega
  · show t.val % 2 * 1280 + k.val = s.val * 1280 + k.val; omega
  · show (i 1).val % 1024 = (i 1).val; omega
  · show t.val % 2 * 1280 + k.val = s.val * 1280 + k.val; omega

theorem G2_eq : Value.G2 m c = dx (m ((c : Thread nD τ).loc main_arg0)) (m ((c : Thread nD τ).loc main_arg1)) := by
  funext i
  have hi0 : (i 0).val < 16640 := (i 0).isLt
  have hi1 : (i 1).val < 1024 := (i 1).isLt
  have hr : Value.run2Of i = (i 0).val / 1280 := by dsimp only [Value.run2Of]; omega
  have hq : Value.pt2Of i = 2 * ((i 0).val / 1280) + 1 := by dsimp only [Value.pt2Of]; rw [hr]
  have hp : Value.pt2Of i < cfg0.N := by rw [show cfg0.N = 26 from N_0, hq]; omega
  unfold Value.G2
  rw [dif_pos hp, ← Value.outsAt0_sweep m c _ hp, out_eq m c ⟨_, hp⟩ (by show Value.pt2Of i % 2 = 1; omega),
    scratch m c ⟨_, hp⟩ (by show Value.pt2Of i % 2 = 1; omega), zero_add]
  unfold dx
  rw [← Fin.sum_mul_add_fin 2 1280 (prod (padded (m ((c : Thread nD τ).loc main_arg0))) (m ((c : Thread nD τ).loc main_arg1)) i)]
  exact Finset.sum_congr (M := EReal) rfl fun s _ => term_eq m c i _ s (by
    show 2 * (Value.pt2Of i / 2) + s.val = _; omega)

/-- The sum over the padded columns is the sum over the weight's own. -/
theorem sum_padded (w : Vec Ideal S1024x2312 .f32) (d : Vec Ideal S16640x2560 .f32) (i : S16640x1024.Idx) :
    dx w d i = (∑ l : Fin 1800, d (ix2 (i 0) ⟨l.val, by have := l.isLt; omega⟩) * w (ix2 (i 1) ⟨l.val, by have := l.isLt; omega⟩))
      + ∑ l : Fin 512, d (ix2 (i 0) ⟨1920 + l.val, by have := l.isLt; omega⟩) * w (ix2 (i 1) ⟨1800 + l.val, by have := l.isLt; omega⟩) := by
  unfold dx
  refine (Fin.sum_univ_add (a := 1800) (b := 760) (prod (padded w) d i)).trans (congrArg₂ (· + ·) (Finset.sum_congr rfl fun l _ => ?_) ?_)
  · unfold prod padded
    exact congrArg (d _ * ·) (dif_pos (show l.val < 1800 from l.isLt))
  refine (Fin.sum_univ_add (a := 120) (b := 640) (fun l : Fin 760 => prod (padded w) d i (Fin.natAdd 1800 l))).trans ?_
  have hz (l : Fin 120) : prod (padded w) d i (Fin.natAdd 1800 (Fin.castAdd 640 l)) = 0 := by
    have hl := l.isLt
    unfold prod padded
    exact (congrArg (d _ * ·) ((dif_neg (show ¬ 1800 + l.val < 1800 by omega)).trans (dif_neg (show ¬ (1920 ≤ 1800 + l.val ∧ 1800 + l.val < 2432) by omega)))).trans (mul_zero _)
  rw [Finset.sum_congr rfl fun l _ => hz l, Finset.sum_const_zero, zero_add]
  refine (Fin.sum_univ_add (a := 512) (b := 128) (fun l : Fin 640 => prod (padded w) d i (Fin.natAdd 1800 (Fin.natAdd 120 l)))).trans ?_
  have hz (l : Fin 128) : prod (padded w) d i (Fin.natAdd 1800 (Fin.natAdd 120 (Fin.natAdd 512 l))) = 0 := by
    have hl := l.isLt
    unfold prod padded
    exact (congrArg (d _ * ·) ((dif_neg (show ¬ 1800 + (120 + (512 + l.val)) < 1800 by omega)).trans (dif_neg (show ¬ (1920 ≤ 1800 + (120 + (512 + l.val)) ∧ 1800 + (120 + (512 + l.val)) < 2432) by omega)))).trans (mul_zero _)
  rw [Finset.sum_congr rfl fun l _ => hz l, Finset.sum_const_zero, add_zero]
  refine Finset.sum_congr rfl fun l _ => ?_
  have hl := l.isLt
  unfold prod padded
  refine congrArg₂ (· * ·) (congrArg (fun y : Fin 2560 => d (ix2 (i 0) y)) (Fin.ext ?_)) ?_
  · show 1800 + (120 + l.val) = 1920 + l.val; omega
  · refine ((dif_neg (show ¬ 1800 + (120 + l.val) < 1800 by omega)).trans (dif_pos (show 1920 ≤ 1800 + (120 + l.val) ∧ 1800 + (120 + l.val) < 2432 by omega))).trans ?_
    exact congrArg (fun y : Fin 2312 => w (ix2 (i 1) y)) (Fin.ext (by show 1800 + (120 + l.val) - 120 = 1800 + l.val; omega))

/-- The reference's term is the same array. -/
theorem ref_eq (w : Vec Ideal S1024x2312 .f32) (d : Vec Ideal S16640x2560 .f32) :
    truncf (F := Ideal) .bf16 (Host.dotGeneral (φ₁ := .f32) (φ₂ := .f32) Cert.Reference12Ideal.dot_S16640x2312_S1024x2312_S16640x1024_1_1_0_0_n_n none
      (concatenate Cert.Reference12Ideal.S16640x2312 1 [⟨Cert.Reference12Ideal.S16640x1800, (extractStridedSlice Cert.Reference12Ideal.S16640x1800 ![0, 0] d Cert.Reference12Ideal.Gen.slices_S16640x2560_S16640x1800_0_0)⟩,
        ⟨Cert.Reference12Ideal.S16640x512, (extractStridedSlice Cert.Reference12Ideal.S16640x512 ![0, 1920] d Cert.Reference12Ideal.Gen.slices_S16640x2560_S16640x512_0_1920)⟩]
        Cert.Reference12Ideal.Gen.concatenates_S16640x1800_S16640x512_S16640x2312_d1) w) Cert.Reference12Ideal.Gen.bitsLt_bf16_f32 = (dx w d : Vec Ideal S16640x1024 .bf16) := by
  funext i
  rw [sum_padded]
  pointwise
  done

end Cert.Kernel12Ideal.Mix

end
-- ==== Proof.Mix.InDw.lean ====
/-
  The gradient of the mixer's input weight: the kernel's array and the reference's, entry by entry.
-/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel13Ideal.Mix

open Cert.Kernel13Ideal Cert.Kernel13Ideal.Gen Idealize.ShloMosaic Idealize.ShloMosaic.TcCoe Idealize.SL.Sem
open Idealize.ShloMosaic.Pipeline (Dat)

/-- One block's product added to what was there. -/
theorem pay2_apply (acc : Vec Ideal S1024x1280 .f32) (a : Vec Ideal S640x1024 .bf16) (b : Vec Ideal S640x1280 .f32) (j : S1024x1280.Idx) :
    k0_pay2 (F := Ideal) acc a b j = acc j + ∑ k : Fin 640, a (ix2 k (j 0)) * b (ix2 k (j 1)) := by
  unfold k0_pay2
  pointwise

theorem pay1_apply (j : S1024x1280.Idx) : k0_pay1 (F := Ideal) j = 0 := by
  unfold k0_pay1
  pointwise
  done

variable (m : (ℓ : Loc nD τ sig) → Buf (Elt Ideal) ℓ) (c : Dev nD)

/-- What a point adds. -/
def term (t : Fin cfg0.N) (j : S1024x1280.Idx) : EReal :=
  let a : Vec Ideal S640x1024 .bf16 := iblk m c 0 t
  let b : Vec Ideal S640x1280 .f32 := iblk m c 1 t
  ∑ k : Fin 640, a (ix2 k (j 0)) * b (ix2 k (j 1))

theorem scratch (t : Fin cfg0.N) (h : t.val % 26 = 26 - 1) (j : S1024x1280.Idx) :
    (outsAt0 m c t.val t.isLt).2 j = 0 + ∑ s : Fin 26, term m c ⟨26 * (t.val / 26) + s.val, Pipeline.run_point_lt_of_flush t h s⟩ j := by
  refine Pipeline.eq_sum_fin_of_reset_step_apply_of_flush (fun n h => (outsAt0 m c n h).2) 26 (fun _ => 0) (term m c) ?_ ?_ t h j
  · intro t h0 i
    rw [outsAt0_A m c t h0 (by omega)]
    frame_out
    rw [pay2_apply, pay1_apply]; rfl
  · intro t h0 i
    by_cases h1 : t.val % 26 = 25
    · rw [outsAt0_C m c t h0 h1]
      frame_out
      rw [pay2_apply]; exact congrArg₂ (· + ·) (congrFun (Memref.IsWhole.read_unread _ _) i) rfl
    · rw [outsAt0_B m c t h0 h1]
      frame_out
      rw [pay2_apply]; exact congrArg₂ (· + ·) (congrFun (Memref.IsWhole.read_unread _ _) i) rfl

/-- At a point that writes back, the output block is the scratch. -/
theorem out_eq (t : Fin cfg0.N) (h : t.val % 26 = 25) (j : S1024x1280.Idx) :
    (outsAt0 m c t.val t.isLt).1 j = (outsAt0 m c t.val t.isLt).2 j := by
  rw [outsAt0_C m c t (by omega) h]
  frame_out

/-- Where the blocks of the operands lie. -/
theorem idx (t : Fin cfg0.N) : win0_0.index t (0 : Fin 2) = t.val % 26
    ∧ win0_0.index t (1 : Fin 2) = 0
    ∧ win0_1.index t (0 : Fin 2) = t.val % 26
    ∧ win0_1.index t (1 : Fin 2) = t.val / 26 :=
  (by decide +kernel : ∀ t : Fin grid0.N, win0_0.index t (0 : Fin 2) = t.val % 26
    ∧ win0_0.index t (1 : Fin 2) = 0
    ∧ win0_1.index t (0 : Fin 2) = t.val % 26
    ∧ win0_1.index t (1 : Fin 2) = t.val / 26) t

/-- Both operands at row l of the contraction, for entry i of the result. -/
def prod (x : Vec Ideal S16640x1024 .bf16) (d : Vec Ideal S16640x2560 .f32) (i : S1024x2560.Idx) (l : Fin 16640) : EReal :=
  x (ix2 l (i 0)) * d (ix2 l (i 1))

/-- The gradient of the weight: the product of the transposed input and the gradient. -/
def dw (x : Vec Ideal S16640x1024 .bf16) (d : Vec Ideal S16640x2560 .f32) (i : S1024x2560.Idx) : EReal :=
  ∑ l : Fin 16640, prod x d i l

/-- What a point of an entry's run adds to it, in the arrays. -/
theorem term_eq (i : S1024x2560.Idx) (t : Fin cfg0.N) (s : Fin 26) (h : t.val = 26 * ((i 1).val / 1280) + s.val) :
    term m c t (Value.loc2Of i) = ∑ k : Fin 640, prod (m ((c : Thread nD τ).loc main_arg0)) (m ((c : Thread nD τ).loc main_arg1)) i
      ⟨s.val * 640 + k.val, by have := s.isLt; have := k.isLt; omega⟩ := by
  unfold term
  have hi0 : (i 0).val < 1024 := (i 0).isLt
  have hi1 : (i 1).val < 2560 := (i 1).isLt
  obtain ⟨e0, e1, e2, e3⟩ := idx t
  refine Finset.sum_congr rfl fun k _ => ?_
  unfold prod
  have hs : s.val < 26 := s.isLt
  have hk : k.val < 640 := k.isLt
  congr 1 <;> blk_ext [iblk, V, e0, e1, e2, e3]
  done

theorem G2_eq : Value.G2 m c = dw (m ((c : Thread nD τ).loc main_arg0)) (m ((c : Thread nD τ).loc main_arg1)) := by
  funext i
  have hi0 : (i 0).val < 1024 := (i 0).isLt
  have hi1 : (i 1).val < 2560 := (i 1).isLt
  have hr : Value.run2Of i = (i 1).val / 1280 := by dsimp only [Value.run2Of]; omega
  have hq : Value.pt2Of i = 26 * ((i 1).val / 1280) + 25 := by dsimp only [Value.pt2Of]; rw [hr]
  have hp : Value.pt2Of i < cfg0.N := by rw [show cfg0.N = 52 from N_0, hq]; omega
  unfold Value.G2
  rw [dif_pos hp, ← Value.outsAt0_sweep m c _ hp, out_eq m c ⟨_, hp⟩ (by show Value.pt2Of i % 26 = 25; omega),
    scratch m c ⟨_, hp⟩ (by show Value.pt2Of i % 26 = 25; omega), zero_add]
  unfold dw
  rw [← Fin.sum_mul_add_fin 26 640 (prod (m ((c : Thread nD τ).loc main_arg0)) (m ((c : Thread nD τ).loc main_arg1)) i)]
  exact Finset.sum_congr (M := EReal) rfl fun s _ => term_eq m c i _ s (by
    show 26 * (Value.pt2Of i / 26) + s.val = _; omega)

/-- The reference's term is the same array. -/
theorem ref_eq (x : Vec Ideal S16640x1024 .bf16) (d : Vec Ideal S16640x2560 .f32) :
    (transpose Cert.Reference13Ideal.S1024x2560 [1, 0] (Host.dotGeneral (F := Ideal) (φ₁ := .f32) (φ₂ := .f32) Cert.Reference13Ideal.dot_S16640x2560_S16640x1024_S2560x1024_0_0_1_1_n_n none d
      (extf .f32 x Cert.Reference13Ideal.Gen.bitsLt_bf16_f32)) Cert.Reference13Ideal.Gen.transposes_S2560x1024_S1024x2560_1_0 : FVec Ideal Cert.Reference13Ideal.S1024x2560 .f32) = dw x d := by
  funext i
  unfold dw prod
  refine Eq.trans (b := ∑ l : Fin 16640, d (ix2 l (i 1)) * x (ix2 l (i 0))) ?_ (Finset.sum_congr rfl fun l _ => mul_comm _ _)
  pointwise
  done

end Cert.Kernel13Ideal.Mix

end
-- ==== Proof.Mix.Claims.lean ====
/-
  The claims on the six products of the mixer's projections: every program ends with its arguments unchanged and every
  semaphore at zero, and each call's result over the extended reals is its reference's.
-/
module

public import proofs.«01_k».proof.Defs
public import proofs.«01_k».proof.Proof.Gen.Kernel8.Frame
public import proofs.«01_k».proof.Proof.Mix.Out
public import proofs.«01_k».proof.Proof.Gen.Kernel9.Frame
public import proofs.«01_k».proof.Proof.Mix.OutDx
public import proofs.«01_k».proof.Proof.Gen.Kernel10.Frame
public import proofs.«01_k».proof.Proof.Mix.OutDw
public import proofs.«01_k».proof.Proof.Gen.Kernel11.Frame
public import proofs.«01_k».proof.Proof.Mix.In
public import proofs.«01_k».proof.Proof.Gen.Kernel12.Frame
public import proofs.«01_k».proof.Proof.Mix.InDx
public import proofs.«01_k».proof.Proof.Gen.Kernel13.Frame
public import proofs.«01_k».proof.Proof.Mix.InDw
public import Idealize.ShloMosaic.Lib.Quiescent

@[expose] public section

set_option maxHeartbeats 1000000

noncomputable section

namespace Cert.Mix

open Idealize.ShloMosaic Idealize.ShloMosaic.TcCoe Idealize.SL.Sem

/-! ## The mixer's output product on the residual stream -/

/-- In machine arithmetic the call ends with its arguments unchanged and every semaphore at zero. -/
theorem frame_kernel8 : Cert.quiescent_Kernel8 (hKernel8 := Cert.Kernel8.Gen.facts) := fun m ρ _ => Cert.Kernel8.Gen.frame (F := Bits) m ρ

/-- The same over the extended reals. -/
theorem frame_kernel8Ideal : Cert.quiescent_Kernel8Ideal (hKernel8Ideal := Cert.Kernel8Ideal.Gen.facts) := fun m ρ _ => Cert.Kernel8Ideal.Gen.frame (F := Ideal) m ρ

/-- The same of the reference. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems rfl r.2⟩) (Cert.Reference8Ideal.Value.run (F := Ideal) m ρ)

/-- Over the extended reals the call's result is the reference's. -/
theorem equation8 : Cert.algebraic_Kernel8Ideal_Reference8Ideal (hKernel8Ideal := Cert.Kernel8Ideal.Gen.facts) (hReference8Ideal := Cert.Reference8Ideal.Gen.facts) :=
  fun m g m' g' _ hargs =>
  ⟨fun c => Cert.Kernel8Ideal.Mix.out (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
   (θ_run Cert.Kernel8Ideal.defs _ _).mono (fun r h c => ⟨(h c).1.trans (Cert.Kernel8Ideal.Mix.arr_eq m c), (h c).2⟩) (Cert.Kernel8Ideal.Value.run_blocks (F := Ideal) m g),
   (θ_run Cert.Reference8Ideal.defs _ _).mono (fun r h c => ⟨(h c).1.trans ((Cert.Kernel8Ideal.Mix.ref_eq _ _ _).trans (by
     obtain ⟨h0, h1, h2⟩ := hargs c
     rw [h0, h1, h2])), (h c).2⟩) (Cert.Reference8Ideal.Value.run (F := Ideal) m' g')⟩

/-! ## The gradient of the output product's input -/

/-- In machine arithmetic the call ends with its arguments unchanged and every semaphore at zero. -/
theorem frame_kernel9 : Cert.quiescent_Kernel9 (hKernel9 := Cert.Kernel9.Gen.facts) := fun m ρ _ => Cert.Kernel9.Gen.frame (F := Bits) m ρ

/-- The same over the extended reals. -/
theorem frame_kernel9Ideal : Cert.quiescent_Kernel9Ideal (hKernel9Ideal := Cert.Kernel9Ideal.Gen.facts) := fun m ρ _ => Cert.Kernel9Ideal.Gen.frame (F := Ideal) m ρ

/-- The same of the reference. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems rfl r.2⟩) (Cert.Reference9Ideal.Value.run (F := Ideal) m ρ)

/-- Over the extended reals the call's result is the reference's. -/
theorem equation9 : Cert.algebraic_Kernel9Ideal_Reference9Ideal (hKernel9Ideal := Cert.Kernel9Ideal.Gen.facts) (hReference9Ideal := Cert.Reference9Ideal.Gen.facts) :=
  fun m g m' g' _ hargs =>
  ⟨fun c => Cert.Kernel9Ideal.Mix.dx (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
   (θ_run Cert.Kernel9Ideal.defs _ _).mono (fun r h c => ⟨(h c).1.trans (Cert.Kernel9Ideal.Mix.arr_eq m c), (h c).2⟩) (Cert.Kernel9Ideal.Value.run_blocks (F := Ideal) m g),
   (θ_run Cert.Reference9Ideal.defs _ _).mono (fun r h c => ⟨(h c).1.trans ((Cert.Kernel9Ideal.Mix.ref_eq _ _).trans (by
     obtain ⟨h0, h1⟩ := hargs c
     rw [h0, h1])), (h c).2⟩) (Cert.Reference9Ideal.Value.run (F := Ideal) m' g')⟩

/-! ## The gradient of the output weight -/

/-- In machine arithmetic the call ends with its arguments unchanged and every semaphore at zero. -/
theorem frame_kernel10 : Cert.quiescent_Kernel10 (hKernel10 := Cert.Kernel10.Gen.facts) := fun m ρ _ => Cert.Kernel10.Gen.frame (F := Bits) m ρ

/-- The same over the extended reals. -/
theorem frame_kernel10Ideal : Cert.quiescent_Kernel10Ideal (hKernel10Ideal := Cert.Kernel10Ideal.Gen.facts) := fun m ρ _ => Cert.Kernel10Ideal.Gen.frame (F := Ideal) m ρ

/-- The same of the reference. -/
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems rfl r.2⟩) (Cert.Reference10Ideal.Value.run (F := Ideal) m ρ)

/-- Over the extended reals the call's result is the reference's. -/
theorem equation10 : Cert.algebraic_Kernel10Ideal_Reference10Ideal (hKernel10Ideal := Cert.Kernel10Ideal.Gen.facts) (hReference10Ideal := Cert.Reference10Ideal.Gen.facts) :=
  fun m g m' g' _ hargs =>
  ⟨fun c => Cert.Kernel10Ideal.Mix.dw (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
   (θ_run Cert.Kernel10Ideal.defs _ _).mono (fun r h c => ⟨(h c).1.trans (Cert.Kernel10Ideal.Mix.G2_eq m c), (h c).2⟩) (Cert.Kernel10Ideal.Value.run (F := Ideal) m g),
   (θ_run Cert.Reference10Ideal.defs _ _).mono (fun r h c => ⟨(h c).1.trans ((Cert.Kernel10Ideal.Mix.ref_eq _ _).trans (by
     obtain ⟨h0, h1⟩ := hargs c
     rw [h0, h1])), (h c).2⟩) (Cert.Reference10Ideal.Value.run (F := Ideal) m' g')⟩

/-! ## The mixer's input product -/

/-- In machine arithmetic the call ends with its arguments unchanged and every semaphore at zero. -/
theorem frame_kernel11 : Cert.quiescent_Kernel11 (hKernel11 := Cert.Kernel11.Gen.facts) := fun m ρ _ => Cert.Kernel11.Gen.frame (F := Bits) m ρ

/-- The same over the extended reals. -/
theorem frame_kernel11Ideal : Cert.quiescent_Kernel11Ideal (hKernel11Ideal := Cert.Kernel11Ideal.Gen.facts) := fun m ρ _ => Cert.Kernel11Ideal.Gen.frame (F := Ideal) m ρ

/-- The same of the reference. -/
theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems rfl r.2⟩) (Cert.Reference11Ideal.Value.run (F := Ideal) m ρ)

/-- Over the extended reals the call's result is the reference's. -/
theorem equation11 : Cert.algebraic_Kernel11Ideal_Reference11Ideal (hKernel11Ideal := Cert.Kernel11Ideal.Gen.facts) (hReference11Ideal := Cert.Reference11Ideal.Gen.facts) :=
  fun m g m' g' _ hargs =>
  ⟨fun c => Cert.Kernel11Ideal.Mix.proj (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
   (θ_run Cert.Kernel11Ideal.defs _ _).mono (fun r h c => ⟨(h c).1.trans (Cert.Kernel11Ideal.Mix.arr_eq m c), (h c).2⟩) (Cert.Kernel11Ideal.Value.run_blocks (F := Ideal) m g),
   (θ_run Cert.Reference11Ideal.defs _ _).mono (fun r h c => ⟨(h c).1.trans ((Cert.Kernel11Ideal.Mix.ref_eq _ _).trans (by
     obtain ⟨h0, h1⟩ := hargs c
     rw [h0, h1])), (h c).2⟩) (Cert.Reference11Ideal.Value.run (F := Ideal) m' g')⟩

/-! ## The gradient of the input product's input -/

/-- In machine arithmetic the call ends with its arguments unchanged and every semaphore at zero. -/
theorem frame_kernel12 : Cert.quiescent_Kernel12 (hKernel12 := Cert.Kernel12.Gen.facts) := fun m ρ _ => Cert.Kernel12.Gen.frame (F := Bits) m ρ

/-- The same over the extended reals. -/
theorem frame_kernel12Ideal : Cert.quiescent_Kernel12Ideal (hKernel12Ideal := Cert.Kernel12Ideal.Gen.facts) := fun m ρ _ => Cert.Kernel12Ideal.Gen.frame (F := Ideal) m ρ

/-- The same of the reference. -/
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems rfl r.2⟩) (Cert.Reference12Ideal.Value.run (F := Ideal) m ρ)

/-- Over the extended reals the call's result is the reference's. -/
theorem equation12 : Cert.algebraic_Kernel12Ideal_Reference12Ideal (hKernel12Ideal := Cert.Kernel12Ideal.Gen.facts) (hReference12Ideal := Cert.Reference12Ideal.Gen.facts) :=
  fun m g m' g' _ hargs =>
  ⟨fun c => Cert.Kernel12Ideal.Mix.dx (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
   (θ_run Cert.Kernel12Ideal.defs _ _).mono (fun r h c => ⟨(h c).1.trans (Cert.Kernel12Ideal.Mix.G2_eq m c), (h c).2⟩) (Cert.Kernel12Ideal.Value.run (F := Ideal) m g),
   (θ_run Cert.Reference12Ideal.defs _ _).mono (fun r h c => ⟨(h c).1.trans ((Cert.Kernel12Ideal.Mix.ref_eq _ _).trans (by
     obtain ⟨h0, h1⟩ := hargs c
     rw [h0, h1])), (h c).2⟩) (Cert.Reference12Ideal.Value.run (F := Ideal) m' g')⟩

/-! ## The gradient of the input weight -/

/-- In machine arithmetic the call ends with its arguments unchanged and every semaphore at zero. -/
theorem frame_kernel13 : Cert.quiescent_Kernel13 (hKernel13 := Cert.Kernel13.Gen.facts) := fun m ρ _ => Cert.Kernel13.Gen.frame (F := Bits) m ρ

/-- The same over the extended reals. -/
theorem frame_kernel13Ideal : Cert.quiescent_Kernel13Ideal (hKernel13Ideal := Cert.Kernel13Ideal.Gen.facts) := fun m ρ _ => Cert.Kernel13Ideal.Gen.frame (F := Ideal) m ρ

/-- The same of the reference. -/
theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems rfl r.2⟩) (Cert.Reference13Ideal.Value.run (F := Ideal) m ρ)

/-- Over the extended reals the call's result is the reference's. -/
theorem equation13 : Cert.algebraic_Kernel13Ideal_Reference13Ideal (hKernel13Ideal := Cert.Kernel13Ideal.Gen.facts) (hReference13Ideal := Cert.Reference13Ideal.Gen.facts) :=
  fun m g m' g' _ hargs =>
  ⟨fun c => Cert.Kernel13Ideal.Mix.dw (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
   (θ_run Cert.Kernel13Ideal.defs _ _).mono (fun r h c => ⟨(h c).1.trans (Cert.Kernel13Ideal.Mix.G2_eq m c), (h c).2⟩) (Cert.Kernel13Ideal.Value.run (F := Ideal) m g),
   (θ_run Cert.Reference13Ideal.defs _ _).mono (fun r h c => ⟨(h c).1.trans ((Cert.Kernel13Ideal.Mix.ref_eq _ _).trans (by
     obtain ⟨h0, h1⟩ := hargs c
     rw [h0, h1])), (h c).2⟩) (Cert.Reference13Ideal.Value.run (F := Ideal) m' g')⟩

end Cert.Mix

end
-- ==== Proof.Elem.Swiglu.lean ====
/-
  The gated unit: the kernel's array and the reference's, entry by entry.
-/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel14Ideal.Elem

open Cert.Kernel14Ideal Cert.Kernel14Ideal.Gen Idealize.ShloMosaic Idealize.ShloMosaic.TcCoe Idealize.SL.Sem
open Idealize.ShloMosaic.Pipeline (Dat)

/-- The logistic function. -/
def sg (x : EReal) : EReal := Ideal.div 1 (1 + Ideal.exp (-x))

/-- The gated unit of a row of gates and ups side by side: at each column, gate times its logistic, times up. -/
def act {r : ℕ} (gu : (⟨2, ![r, 5632]⟩ : Shape).Idx → EReal) (i : (⟨2, ![r, 2816]⟩ : Shape).Idx) : EReal :=
  gu (ix2 (i 0) ⟨(i 1).val, lt_of_lt_of_le (i 1).isLt (by decide : 2816 ≤ 5632)⟩)
    * sg (gu (ix2 (i 0) ⟨(i 1).val, lt_of_lt_of_le (i 1).isLt (by decide : 2816 ≤ 5632)⟩))
    * gu (ix2 (i 0) ⟨2816 + (i 1).val, Nat.add_lt_add_left (i 1).isLt 2816⟩)

/-- What a point leaves in the output block. -/
theorem out_eq (P0 : Vec Ideal S256x5632 .bf16) (j : S256x2816.Idx) : out0_1 P0 j = act (r := 256) P0 j := by
  unfold out0_1
  frame_out
  unfold k0_pay1 act sg
  pointwise
  rfl

/-- Where the blocks of the operands lie. -/
theorem idx (t : Fin cfg0.N) : win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, win0_0.index t (0 : Fin 2) = t.val
    ∧ win0_0.index t (1 : Fin 2) = 0
    ∧ win0_1.index t (0 : Fin 2) = t.val
    ∧ win0_1.index t (1 : Fin 2) = 0) t

/-- Every point writes its output block back. -/
theorem flush (t : Fin cfg0.N) : (cfg0.win 1).flush t = true := (by decide +kernel : ∀ t : Fin grid0.N, win0_1.flush t = true) t

/-- The point whose output block holds an entry, and the entry's place in the block. -/
def ptOf (i : S16640x2816.Idx) : Fin cfg0.N := ⟨(i 0).val / 256, by
  have hi0 : (i 0).val < 16640 := (i 0).isLt
  rw [show cfg0.N = 65 from N_0]; omega⟩

def locOf (i : S16640x2816.Idx) : S256x2816.Idx :=
  ix2 ⟨(i 0).val % 256, Nat.mod_lt _ (by decide)⟩ ⟨(i 1).val, (i 1).isLt⟩

theorem read1 (W : Vec Ideal S16640x2816 .bf16) (i : S16640x2816.Idx) :
    (((cfg0.win 1).blk (ptOf i)).view.read (Elt Ideal) W : Vec Ideal S256x2816 .bf16) (locOf i) = W i := by
  obtain ⟨e0, e1, e2, e3⟩ := idx (ptOf i)
  have hi0 : (i 0).val < 16640 := (i 0).isLt
  have hp : (ptOf i).val = (i 0).val / 256 := rfl
  have l0 : (locOf i 0).val = (i 0).val % 256 := rfl
  have l1 : (locOf i 1).val = (i 1).val := rfl
  blk_ext [e2, e3, hp, l0, l1]

variable (m : (ℓ : Loc nD τ sig) → Buf (Elt Ideal) ℓ) (c : Dev nD)

theorem blk0 (i : S16640x2816.Idx) (k : Fin 5632) : (iblk m c 0 (ptOf i) : Vec Ideal S256x5632 .bf16) (ix2 (locOf i 0) k)
    = (m ((c : Thread nD τ).loc main_arg0) : Vec Ideal S16640x5632 .bf16) (ix2 (i 0) k) := by
  obtain ⟨e0, e1, e2, e3⟩ := idx (ptOf i)
  have hi0 : (i 0).val < 16640 := (i 0).isLt
  have hp : (ptOf i).val = (i 0).val / 256 := rfl
  have l0 : (locOf i 0).val = (i 0).val % 256 := rfl
  rw [← V_main_arg0 m c]
  unfold iblk
  show (((cfg0.win 0).blk (ptOf i)).view.read (Elt Ideal) (V m c main_arg0) : Vec Ideal S256x5632 .bf16) _ = (V m c main_arg0 : Vec Ideal S16640x5632 .bf16) _
  generalize V m c main_arg0 = W
  blk_ext [e0, e1, hp, l0]

/-- The call's result. -/
theorem arr_eq : (dats m 0 c).arrAt 1 cfg0.N = act (r := 16640) (m ((c : Thread nD τ).loc main_arg0)) := by
  funext i
  refine (read1 _ i).symm.trans ?_
  refine (congrFun ((Value.blocks1 m c (ptOf i) (flush _)).trans (Value.flushed1 m c (ptOf i))) (locOf i)).trans ?_
  refine (out_eq (iblk m c 0 (ptOf i)) (locOf i)).trans ?_
  unfold act
  exact congrArg₂ (· * ·) (congrArg₂ (· * ·) (blk0 m c i _) (congrArg sg (blk0 m c i _))) (blk0 m c i _)

end Cert.Kernel14Ideal.Elem

namespace Cert.Reference14Ideal.Elem

open Cert.Reference14Ideal Cert.Reference14Ideal.Gen Idealize.ShloMosaic Idealize.ShloMosaic.TcCoe Idealize.SL.Sem
open Cert.Kernel14Ideal.Elem (act sg)

/-- The reference's term is the same array. -/
theorem ref_eq (gu : Vec Ideal S16640x5632 .bf16) :
    (truncf .bf16 (mulf (mulf (extf .f32 (extractStridedSlice S16640x2816 ![0, 0] gu slices_S16640x5632_S16640x2816_0_0) bitsLt_bf16_f32) (Host.divf (broadcastInDim S16640x2816 ![] bcast_S_S16640x2816 (constant S_ .f32 0x3F800000#32)) (addf (broadcastInDim S16640x2816 ![] bcast_S_S16640x2816 (constant S_ .f32 0x3F800000#32)) (Host.exp (Host.negf (extf .f32 (extractStridedSlice S16640x2816 ![0, 0] gu slices_S16640x5632_S16640x2816_0_0) bitsLt_bf16_f32)))))) (extf .f32 (extractStridedSlice S16640x2816 ![0, 2816] gu slices_S16640x5632_S16640x2816_0_2816) bitsLt_bf16_f32)) bitsLt_bf16_f32 : FVec Ideal S16640x2816 .bf16) = act (r := 16640) gu := by
  funext i
  unfold act sg
  pointwise
  done

end Cert.Reference14Ideal.Elem

end
-- ==== Proof.Elem.DSwiglu.lean ====
/-
  The gradient of the gated unit: the kernel's array and the reference's, entry by entry.
-/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel15Ideal.Elem

open Cert.Kernel15Ideal Cert.Kernel15Ideal.Gen Idealize.ShloMosaic Idealize.ShloMosaic.TcCoe Idealize.SL.Sem
open Idealize.ShloMosaic.Pipeline (Dat)

/-- The logistic function. -/
def sg (x : EReal) : EReal := Ideal.div 1 (1 + Ideal.exp (-x))

/-- The gradients of the gates and of the ups side by side: of a gate by the product rule on gate times logistic, of an up
    the gated factor. -/
def dgu {r : ℕ} (gu : (⟨2, ![r, 5632]⟩ : Shape).Idx → EReal) (da : (⟨2, ![r, 2816]⟩ : Shape).Idx → EReal) (i : (⟨2, ![r, 5632]⟩ : Shape).Idx) : EReal :=
  if h : (i 1).val < 2816 then
    da (ix2 (i 0) ⟨(i 1).val, h⟩) * gu (ix2 (i 0) ⟨2816 + (i 1).val, Nat.add_lt_add_left h 2816⟩) * sg (gu (ix2 (i 0) (i 1)))
      + gu (ix2 (i 0) (i 1)) * (da (ix2 (i 0) ⟨(i 1).val, h⟩) * gu (ix2 (i 0) ⟨2816 + (i 1).val, Nat.add_lt_add_left h 2816⟩))
        * (sg (gu (ix2 (i 0) (i 1))) * (1 - sg (gu (ix2 (i 0) (i 1)))))
  else
    gu (ix2 (i 0) ⟨(i 1).val - 2816, lt_of_le_of_lt (Nat.sub_le _ _) (i 1).isLt⟩)
      * sg (gu (ix2 (i 0) ⟨(i 1).val - 2816, lt_of_le_of_lt (Nat.sub_le _ _) (i 1).isLt⟩))
      * da (ix2 (i 0) ⟨(i 1).val - 2816, Nat.sub_lt_left_of_lt_add (Nat.le_of_not_lt h) (i 1).isLt⟩)

/-- What a point leaves in the output block. -/
theorem out_eq (P0 : Vec Ideal S256x5632 .bf16) (P1 : Vec Ideal S256x2816 .bf16) (j : S256x5632.Idx) : out0_2 P0 P1 j = dgu (r := 256) P0 P1 j := by
  unfold out0_2
  frame_out
  unfold k0_pay1 dgu sg
  have hj : (j 1).val < 5632 := (j 1).isLt
  by_cases h : (j 1).val < 2816
  · rw [dif_pos h]
    pointwise
    refine congrArg₂ (· + ·) (dif_pos h) (dif_pos h) |>.trans ?_
    exact zero_add _
  · rw [dif_neg h]
    pointwise
    refine congrArg₂ (· + ·) (dif_neg h) (dif_neg h) |>.trans ?_
    exact add_zero _

/-- Where the blocks of the operands lie. -/
theorem idx (t : Fin cfg0.N) : win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0) t

/-- Every point writes its output block back. -/
theorem flush (t : Fin cfg0.N) : (cfg0.win 2).flush t = true := (by decide +kernel : ∀ t : Fin grid0.N, win0_2.flush t = true) t

/-- The point whose output block holds an entry, and the entry's place in the block. -/
def ptOf (i : S16640x5632.Idx) : Fin cfg0.N := ⟨(i 0).val / 256, by
  have hi0 : (i 0).val < 16640 := (i 0).isLt
  rw [show cfg0.N = 65 from N_0]; omega⟩

def locOf (i : S16640x5632.Idx) : S256x5632.Idx :=
  ix2 ⟨(i 0).val % 256, Nat.mod_lt _ (by decide)⟩ ⟨(i 1).val, (i 1).isLt⟩

theorem read2 (W : Vec Ideal S16640x5632 .bf16) (i : S16640x5632.Idx) :
    (((cfg0.win 2).blk (ptOf i)).view.read (Elt Ideal) W : Vec Ideal S256x5632 .bf16) (locOf i) = W i := by
  obtain ⟨e0, e1, e2, e3, e4, e5⟩ := idx (ptOf i)
  have hi0 : (i 0).val < 16640 := (i 0).isLt
  have hp : (ptOf i).val = (i 0).val / 256 := rfl
  have l0 : (locOf i 0).val = (i 0).val % 256 := rfl
  have l1 : (locOf i 1).val = (i 1).val := rfl
  blk_ext [e4, e5, hp, l0, l1]

variable (m : (ℓ : Loc nD τ sig) → Buf (Elt Ideal) ℓ) (c : Dev nD)

theorem blk0 (i : S16640x5632.Idx) (k : Fin 5632) : (iblk m c 0 (ptOf i) : Vec Ideal S256x5632 .bf16) (ix2 (locOf i 0) k)
    = (m ((c : Thread nD τ).loc main_arg0) : Vec Ideal S16640x5632 .bf16) (ix2 (i 0) k) := by
  obtain ⟨e0, e1, e2, e3, e4, e5⟩ := idx (ptOf i)
  have hi0 : (i 0).val < 16640 := (i 0).isLt
  have hp : (ptOf i).val = (i 0).val / 256 := rfl
  have l0 : (locOf i 0).val = (i 0).val % 256 := rfl
  rw [← V_main_arg0 m c]
  unfold iblk
  show (((cfg0.win 0).blk (ptOf i)).view.read (Elt Ideal) (V m c main_arg0) : Vec Ideal S256x5632 .bf16) _ = (V m c main_arg0 : Vec Ideal S16640x5632 .bf16) _
  generalize V m c main_arg0 = W
  blk_ext [e0, e1, hp, l0]

theorem blk1 (i : S16640x5632.Idx) (k : Fin 2816) : (iblk m c 1 (ptOf i) : Vec Ideal S256x2816 .bf16) (ix2 (locOf i 0) k)
    = (m ((c : Thread nD τ).loc main_arg1) : Vec Ideal S16640x2816 .bf16) (ix2 (i 0) k) := by
  obtain ⟨e0, e1, e2, e3, e4, e5⟩ := idx (ptOf i)
  have hi0 : (i 0).val < 16640 := (i 0).isLt
  have hp : (ptOf i).val = (i 0).val / 256 := rfl
  have l0 : (locOf i 0).val = (i 0).val % 256 := rfl
  rw [← V_main_arg1 m c]
  unfold iblk
  show (((cfg0.win 1).blk (ptOf i)).view.read (Elt Ideal) (V m c main_arg1) : Vec Ideal S256x2816 .bf16) _ = (V m c main_arg1 : Vec Ideal S16640x2816 .bf16) _
  generalize V m c main_arg1 = W
  blk_ext [e2, e3, hp, l0]

/-- The call's result. -/
theorem arr_eq : (dats m 0 c).arrAt 2 cfg0.N = dgu (r := 16640) (m ((c : Thread nD τ).loc main_arg0)) (m ((c : Thread nD τ).loc main_arg1)) := by
  funext i
  refine (read2 _ i).symm.trans ?_
  refine (congrFun ((Value.blocks2 m c (ptOf i) (flush _)).trans (Value.flushed2 m c (ptOf i))) (locOf i)).trans ?_
  refine (out_eq (iblk m c 0 (ptOf i)) (iblk m c 1 (ptOf i)) (locOf i)).trans ?_
  unfold dgu
  by_cases h : (i 1).val < 2816
  · refine (dif_pos h).trans (Eq.trans ?_ (dif_pos h).symm)
    have u := blk0 m c i ⟨2816 + (i 1).val, Nat.add_lt_add_left h 2816⟩
    exact congrArg₂ (· + ·) (congrArg₂ (· * ·) (congrArg₂ (· * ·) (blk1 m c i _) u) (congrArg sg (blk0 m c i _)))
      (congrArg₂ (· * ·) (congrArg₂ (· * ·) (blk0 m c i _) (congrArg₂ (· * ·) (blk1 m c i _) u))
        (congrArg₂ (· * ·) (congrArg sg (blk0 m c i _)) (congrArg (fun x => 1 - sg x) (blk0 m c i _))))
  · refine (dif_neg h).trans (Eq.trans ?_ (dif_neg h).symm)
    exact congrArg₂ (· * ·) (congrArg₂ (· * ·) (blk0 m c i _) (congrArg sg (blk0 m c i _))) (blk1 m c i _)

end Cert.Kernel15Ideal.Elem

namespace Cert.Reference15Ideal.Elem

open Cert.Reference15Ideal Cert.Reference15Ideal.Gen Idealize.ShloMosaic Idealize.ShloMosaic.TcCoe Idealize.SL.Sem
open Cert.Kernel15Ideal.Elem (dgu sg)

/-- The reference's term is the same array. -/
theorem ref_eq (gu : Vec Ideal S16640x5632 .bf16) (da : Vec Ideal S16640x2816 .bf16) :
    (addf (pad S16640x5632 ![0, 2816] ![0, 0] ![0, 0] (truncf .bf16 (mulf (mulf (extf .f32 (extractStridedSlice S16640x2816 ![0, 0] gu slices_S16640x5632_S16640x2816_0_0) bitsLt_bf16_f32) (Host.divf (broadcastInDim S16640x2816 ![] bcast_S_S16640x2816 (constant S_ .f32 0x3F800000#32)) (addf (broadcastInDim S16640x2816 ![] bcast_S_S16640x2816 (constant S_ .f32 0x3F800000#32)) (Host.exp (Host.negf (extf .f32 (extractStridedSlice S16640x2816 ![0, 0] gu slices_S16640x5632_S16640x2816_0_0) bitsLt_bf16_f32)))))) (extf .f32 da bitsLt_bf16_f32)) bitsLt_bf16_f32) (constant S_ .bf16 0x0000#16) pads_S16640x2816_S16640x5632_000_281600 h_S_) (pad S16640x5632 ![0, 0] ![0, 2816] ![0, 0] (truncf .bf16 (addf (mulf (mulf (extf .f32 da bitsLt_bf16_f32) (extf .f32 (extractStridedSlice S16640x2816 ![0, 2816] gu slices_S16640x5632_S16640x2816_0_2816) bitsLt_bf16_f32)) (Host.divf (broadcastInDim S16640x2816 ![] bcast_S_S16640x2816 (constant S_ .f32 0x3F800000#32)) (addf (broadcastInDim S16640x2816 ![] bcast_S_S16640x2816 (constant S_ .f32 0x3F800000#32)) (Host.exp (Host.negf (extf .f32 (extractStridedSlice S16640x2816 ![0, 0] gu slices_S16640x5632_S16640x2816_0_0) bitsLt_bf16_f32)))))) (mulf (mulf (extf .f32 (extractStridedSlice S16640x2816 ![0, 0] gu slices_S16640x5632_S16640x2816_0_0) bitsLt_bf16_f32) (mulf (extf .f32 da bitsLt_bf16_f32) (extf .f32 (extractStridedSlice S16640x2816 ![0, 2816] gu slices_S16640x5632_S16640x2816_0_2816) bitsLt_bf16_f32))) (mulf (Host.divf (broadcastInDim S16640x2816 ![] bcast_S_S16640x2816 (constant S_ .f32 0x3F800000#32)) (addf (broadcastInDim S16640x2816 ![] bcast_S_S16640x2816 (constant S_ .f32 0x3F800000#32)) (Host.exp (Host.negf (extf .f32 (extractStridedSlice S16640x2816 ![0, 0] gu slices_S16640x5632_S16640x2816_0_0) bitsLt_bf16_f32))))) (subf (broadcastInDim S16640x2816 ![] bcast_S_S16640x2816 (constant S_ .f32 0x3F800000#32)) (Host.divf (broadcastInDim S16640x2816 ![] bcast_S_S16640x2816 (constant S_ .f32 0x3F800000#32)) (addf (broadcastInDim S16640x2816 ![] bcast_S_S16640x2816 (constant S_ .f32 0x3F800000#32)) (Host.exp (Host.negf (extf .f32 (extractStridedSlice S16640x2816 ![0, 0] gu slices_S16640x5632_S16640x2816_0_0) bitsLt_bf16_f32))))))))) bitsLt_bf16_f32) (constant S_ .bf16 0x0000#16) pads_S16640x2816_S16640x5632_000_028160 h_S_) : FVec Ideal S16640x5632 .bf16) = dgu (r := 16640) gu da := by
  funext i
  unfold dgu sg
  have hi : (i 1).val < 5632 := (i 1).isLt
  by_cases h : (i 1).val < 2816
  · rw [dif_pos h]
    pointwise
    refine congrArg₂ (· + ·) (dif_neg (by omega)) (dif_pos h) |>.trans ?_
    exact zero_add _
  · rw [dif_neg h]
    pointwise
    refine congrArg₂ (· + ·) (dif_pos ⟨by omega, by omega⟩) (dif_neg h) |>.trans ?_
    exact add_zero _

end Cert.Reference15Ideal.Elem

end
-- ==== Proof.Elem.Conv.lean ====
/-
  DeltaNet's causal convolution: the kernel's array and the reference's, entry by entry.
-/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel16Ideal.Elem

open Cert.Kernel16Ideal Cert.Kernel16Ideal.Gen Idealize.ShloMosaic Idealize.ShloMosaic.TcCoe Idealize.SL.Sem
open Idealize.ShloMosaic.Pipeline (Dat)

/-- A choice by comparing two small numbers. -/
theorem sel_slt {r s : ℕ} (hr : r < 8) (hs : s < 8) (x y : EReal) :
    Scalar.select (IntOp.cmpi .slt (BitVec.ofNat 32 r) (BitVec.ofNat 32 s)) x y = if r < s then x else y := by
  interval_cases r <;> interval_cases s <;> rfl

/-- A choice by whether a point is after the first. -/
theorem sel_pos {n : ℕ} (hn : n < 26) (x y : EReal) :
    Scalar.select (Scalar.cmpi .sgt (BitVec.ofNat 32 n) 0#32) x y = if n = 0 then y else x := by
  interval_cases n <;> rfl

/-- The row a number of rows before, zero before the first. -/
def back (x : S16640x768.Idx → EReal) (s r : ℕ) (k : Fin 768) : EReal :=
  if h : s ≤ r ∧ r - s < 16640 then x (ix2 ⟨r - s, h.2⟩ k) else 0

/-- The convolution at row r and channel k: the four rows up to r, each times its row of the weight. -/
def conv (x : S16640x768.Idx → EReal) (w : S4x768.Idx → EReal) (i : S16640x768.Idx) : EReal :=
  w (ix2 0 (i 1)) * back x 3 (i 0).val (i 1) + w (ix2 1 (i 1)) * back x 2 (i 0).val (i 1)
    + w (ix2 2 (i 1)) * back x 1 (i 0).val (i 1) + w (ix2 3 (i 1)) * back x 0 (i 0).val (i 1)

/-- Where the blocks of the operands lie. -/
theorem idx (t : Fin cfg0.N) : win0_0.index t (0 : Fin 2) = t.val
    ∧ win0_0.index t (1 : Fin 2) = 0
    ∧ win0_1.index t (0 : Fin 2) = 80 * t.val - 1
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, win0_0.index t (0 : Fin 2) = t.val
    ∧ win0_0.index t (1 : Fin 2) = 0
    ∧ win0_1.index t (0 : Fin 2) = 80 * t.val - 1
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0) t

/-- A point's only coordinate is its number. -/
theorem coord (t : Fin cfg0.N) : (grid0.coords t (0 : Fin 1)).val = t.val :=
  (by decide +kernel : ∀ t : Fin grid0.N, (grid0.coords t (0 : Fin 1)).val = t.val) t

theorem lt26 (t : Fin cfg0.N) : t.val < 26 := lt_of_lt_of_eq t.isLt (show cfg0.N = 26 from N_0)

variable (m : (ℓ : Loc nD τ sig) → Buf (Elt Ideal) ℓ) (c : Dev nD)

/-- The arguments. -/
def a0 : Vec Ideal S16640x768 .f32 := m ((c : Thread nD τ).loc main_arg0)
def a1 : Vec Ideal S4x768 .f32 := m ((c : Thread nD τ).loc main_arg1)

/-- The blocks of the operands at a point. -/
def x0 (t : Fin cfg0.N) : Vec Ideal S640x768 .f32 := iblk m c 0 t
def x1 (t : Fin cfg0.N) : Vec Ideal S8x768 .f32 := iblk m c 1 t
def x2 (t : Fin cfg0.N) : Vec Ideal S8x768 .f32 := iblk m c 2 t

theorem blk0 (t : Fin cfg0.N) {r : ℕ} (hr : r < 640) (k : Fin 768) : x0 m c t (ix2 ⟨r, hr⟩ k)
    = a0 m c (ix2 ⟨640 * t.val + r, by have := lt26 t; omega⟩ k) := by
  obtain ⟨e0, e1, e2, e3, e4, e5, e6, e7⟩ := idx t
  have ht := lt26 t
  unfold x0 a0 iblk
  rw [← V_main_arg0 m c]
  show (((cfg0.win 0).blk t).view.read (Elt Ideal) (V m c main_arg0) : Vec Ideal S640x768 .f32) _ = (V m c main_arg0 : Vec Ideal S16640x768 .f32) _
  generalize V m c main_arg0 = W
  blk_ext [e0, e1]

theorem blk1 (t : Fin cfg0.N) (h0 : 0 < t.val) {r : ℕ} (hr : r < 8) (k : Fin 768) : x1 m c t (ix2 ⟨r, hr⟩ k)
    = a0 m c (ix2 ⟨640 * t.val - 8 + r, by have := lt26 t; omega⟩ k) := by
  obtain ⟨e0, e1, e2, e3, e4, e5, e6, e7⟩ := idx t
  have ht := lt26 t
  unfold x1 a0 iblk
  rw [← V_main_arg0 m c]
  show (((cfg0.win 1).blk t).view.read (Elt Ideal) (V m c main_arg0) : Vec Ideal S8x768 .f32) _ = (V m c main_arg0 : Vec Ideal S16640x768 .f32) _
  generalize V m c main_arg0 = W
  blk_ext [e2, e3]

/-- A block's row a number of rows before, where the block holds it. -/
theorem row_in (t : Fin cfg0.N) {s r q : ℕ} (hr : r < 640) (hs : s ≤ r) (hq : q = r - s) (hl : q < 640) (k : Fin 768) :
    x0 m c t (ix2 ⟨q, hl⟩ k) = back (a0 m c) s (640 * t.val + r) k := by
  subst hq
  have ht := lt26 t
  unfold back
  rw [dif_pos ⟨by omega, by omega⟩, blk0 m c t (by omega) k]
  exact congrArg (a0 m c) (congrArg (ix2 · k) (Fin.mk_eq_mk.2 (by omega)))

/-- The first rows of a block, moved down: from the block before, zero in the first block. -/
theorem row_top (t : Fin cfg0.N) {s r : ℕ} (h1 : 1 ≤ s) (h3 : s ≤ 3) (hr : r < 8) (k : Fin 768) :
    Scalar.select (IntOp.cmpi .slt (BitVec.ofNat 32 r) (BitVec.ofNat 32 s))
        (Scalar.select (Scalar.cmpi .sgt (BitVec.ofNat 32 (grid0.coords t (0 : Fin 1)).val) 0#32)
          (x1 m c t (ix2 ⟨(r + 8 - s) % 8, Nat.mod_lt _ (by decide)⟩ k)) 0)
        (x0 m c t (ix2 ⟨(r + 640 - s) % 640, Nat.mod_lt _ (by decide)⟩ k))
      = back (a0 m c) s (640 * t.val + r) k := by
  have ht := lt26 t
  rw [sel_slt hr (by omega), coord t, sel_pos ht]
  by_cases hrs : r < s
  · rw [if_pos hrs]
    by_cases h0 : t.val = 0
    · rw [if_pos h0]
      unfold back
      rw [dif_neg (by omega)]
    · rw [if_neg h0]
      unfold back
      rw [dif_pos ⟨by omega, by omega⟩, blk1 m c t (by omega)]
      exact congrArg (a0 m c) (congrArg (ix2 · k) (Fin.mk_eq_mk.2 (by omega)))
  · rw [if_neg hrs]
    exact row_in m c t (by omega) (by omega) (by omega) _ k

/-- A block moved down, read at one of its rows. -/
theorem shift (t : Fin cfg0.N) {s r : ℕ} (h1 : 1 ≤ s) (h3 : s ≤ 3) (hr : r < 640) (k : Fin 768) :
    (if h : r < 8 then Scalar.select (IntOp.cmpi .slt (BitVec.ofNat 32 r) (BitVec.ofNat 32 s))
        (Scalar.select (Scalar.cmpi .sgt (BitVec.ofNat 32 (grid0.coords t (0 : Fin 1)).val) 0#32)
          (x1 m c t (ix2 ⟨(r + 8 - s) % 8, Nat.mod_lt _ (by decide)⟩ k)) 0)
        (x0 m c t (ix2 ⟨(r + 640 - s) % 640, Nat.mod_lt _ (by decide)⟩ k))
      else x0 m c t (ix2 ⟨(8 + (r - 8) + 640 - s) % 640, Nat.mod_lt _ (by decide)⟩ k))
      = back (a0 m c) s (640 * t.val + r) k := by
  by_cases h : r < 8
  · rw [dif_pos h]
    exact row_top m c t h1 h3 h k
  · rw [dif_neg h]
    exact row_in m c t hr (by omega) (by omega) _ k

/-- The call's weight operand is the weight, below it zeros. -/
theorem V_w (j : Fin 4) (k : Fin 768) : (V m c main_v0 : Vec Ideal S8x768 .f32) (ix2 ⟨j.val, lt_of_lt_of_le j.isLt (by decide)⟩ k)
    = a1 m c (ix2 j k) := by
  have hj := j.isLt
  have h : V m c main_v0 = (pad (α := Ideal .f32) S8x768 ![0, 0] ![4, 0] ![0, 0] (a1 m c) (sitofp (F := Ideal) .f32 (constantI S_ 32 0#32)) pads_S4x768_S8x768_040_000 h_S_ : Vec Ideal S8x768 .f32) := by
    show StableHlo.after (List.flatten [hostOps0, hostOps0_1]) _ _ = _
    unfold hostOps0 hostOps0_1
    simp only [List.flatten_cons, List.flatten_nil, List.append_nil, List.cons_append, List.nil_append]
    after_results
    rfl
  rw [h]
  generalize a1 m c = W
  pointwise

theorem blk2 (t : Fin cfg0.N) (j : Fin 4) (k : Fin 768) : x2 m c t (ix2 ⟨j.val, lt_of_lt_of_le j.isLt (by decide)⟩ k)
    = a1 m c (ix2 j k) := by
  obtain ⟨e0, e1, e2, e3, e4, e5, e6, e7⟩ := idx t
  have hj := j.isLt
  refine Eq.trans ?_ (V_w m c j k)
  unfold x2 iblk
  show (((cfg0.win 2).blk t).view.read (Elt Ideal) (V m c main_v0) : Vec Ideal S8x768 .f32) _ = (V m c main_v0 : Vec Ideal S8x768 .f32) _
  generalize V m c main_v0 = W
  blk_ext [e4, e5]

/-- What a point leaves in the output block. -/
theorem out_eq (t : Fin cfg0.N) (j : S640x768.Idx) : out0_3 (grid0.coords t) (x0 m c t) (x1 m c t) (x2 m c t) j
    = a1 m c (ix2 0 (j 1)) * back (a0 m c) 3 (640 * t.val + (j 0).val) (j 1)
      + a1 m c (ix2 1 (j 1)) * back (a0 m c) 2 (640 * t.val + (j 0).val) (j 1)
      + a1 m c (ix2 2 (j 1)) * back (a0 m c) 1 (640 * t.val + (j 0).val) (j 1)
      + a1 m c (ix2 3 (j 1)) * back (a0 m c) 0 (640 * t.val + (j 0).val) (j 1) := by
  have hj : (j 0).val < 640 := (j 0).isLt
  have s3 := shift m c t (s := 3) (by decide) (by decide) hj (j 1)
  have s2 := shift m c t (s := 2) (by decide) (by decide) hj (j 1)
  have s1 := shift m c t (s := 1) (by decide) (by decide) hj (j 1)
  have s0 := row_in m c t (s := 0) hj (Nat.zero_le _) rfl hj (j 1)
  have w0 := blk2 m c t 0 (j 1)
  have w1 := blk2 m c t 1 (j 1)
  have w2 := blk2 m c t 2 (j 1)
  have w3 := blk2 m c t 3 (j 1)
  revert s3 s2 s1 s0 w0 w1 w2 w3
  generalize x0 m c t = P0
  generalize x1 m c t = P1
  generalize x2 m c t = P2
  intro s3 s2 s1 s0 w0 w1 w2 w3
  unfold out0_3
  frame_out
  unfold k0_pay1 k0_pay3 k0_pay4 k0_pay5 k0_pay6 k0_pay2
  pointwise
  have ej : P0 j = P0 (ix2 ⟨(j 0).val - 0, hj⟩ (j 1)) := congrArg P0 (by funext a; fin_cases a <;> rfl)
  exact congrArg₂ (· + ·) (congrArg₂ (· + ·) (congrArg₂ (· + ·) (congrArg₂ (· * ·) w0 s3) (congrArg₂ (· * ·) w1 s2)) (congrArg₂ (· * ·) w2 s1))
    (congrArg₂ (· * ·) w3 (ej.trans s0))

/-- Every point writes its output block back. -/
theorem flush (t : Fin cfg0.N) : (cfg0.win 3).flush t = true := (by decide +kernel : ∀ t : Fin grid0.N, win0_3.flush t = true) t

/-- The point whose output block holds an entry, and the entry's place in the block. -/
def ptOf (i : S16640x768.Idx) : Fin cfg0.N := ⟨(i 0).val / 640, by
  have hi0 : (i 0).val < 16640 := (i 0).isLt
  rw [show cfg0.N = 26 from N_0]; omega⟩

def locOf (i : S16640x768.Idx) : S640x768.Idx :=
  ix2 ⟨(i 0).val % 640, Nat.mod_lt _ (by decide)⟩ (i 1)

theorem read3 (W : Vec Ideal S16640x768 .f32) (i : S16640x768.Idx) :
    (((cfg0.win 3).blk (ptOf i)).view.read (Elt Ideal) W : Vec Ideal S640x768 .f32) (locOf i) = W i := by
  obtain ⟨e0, e1, e2, e3, e4, e5, e6, e7⟩ := idx (ptOf i)
  have hi0 : (i 0).val < 16640 := (i 0).isLt
  have hp : (ptOf i).val = (i 0).val / 640 := rfl
  have l0 : (locOf i 0).val = (i 0).val % 640 := rfl
  have l1 : (locOf i 1).val = (i 1).val := rfl
  blk_ext [e6, e7, hp, l0, l1]

/-- The call's result. -/
theorem arr_eq : (dats m 0 c).arrAt 3 cfg0.N = conv (a0 m c) (a1 m c) := by
  funext i
  refine (read3 _ i).symm.trans ?_
  refine (congrFun ((Value.blocks3 m c (ptOf i) (flush _)).trans (Value.flushed3 m c (ptOf i))) (locOf i)).trans ?_
  refine (out_eq m c (ptOf i) (locOf i)).trans ?_
  have hr : 640 * (ptOf i).val + (locOf i 0).val = (i 0).val := Nat.div_add_mod _ _
  unfold conv
  rw [hr]
  rfl

end Cert.Kernel16Ideal.Elem

namespace Cert.Reference16Ideal.Elem

open Cert.Reference16Ideal Cert.Reference16Ideal.Gen Idealize.ShloMosaic Idealize.ShloMosaic.TcCoe Idealize.SL.Sem
open Cert.Kernel16Ideal.Elem (conv back)

/-- The reference's term is the same array. -/
theorem ref_eq (x : Vec Ideal S16640x768 .f32) (w : Vec Ideal S4x768 .f32) :
    (addf (addf (addf (addf (broadcastInDim S16640x768 ![] bcast_S_S16640x768 (constant S_ .f32 0x00000000#32)) (mulf (broadcastInDim S16640x768 ![0, 1] bcast_S1x768_S16640x768_0_1 (broadcastInDim S1x768 ![1] bcast_S768_S1x768_1 (shapeCast _ (extractStridedSlice S1x768 ![0, 0] w slices_S4x768_S1x768_0_0) shapeCasts_S1x768_S768))) (extractStridedSlice S16640x768 ![0, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_0_0))) (mulf (broadcastInDim S16640x768 ![0, 1] bcast_S1x768_S16640x768_0_1 (broadcastInDim S1x768 ![1] bcast_S768_S1x768_1 (shapeCast _ (extractStridedSlice S1x768 ![1, 0] w slices_S4x768_S1x768_1_0) shapeCasts_S1x768_S768))) (extractStridedSlice S16640x768 ![1, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_1_0))) (mulf (broadcastInDim S16640x768 ![0, 1] bcast_S1x768_S16640x768_0_1 (broadcastInDim S1x768 ![1] bcast_S768_S1x768_1 (shapeCast _ (extractStridedSlice S1x768 ![2, 0] w slices_S4x768_S1x768_2_0) shapeCasts_S1x768_S768))) (extractStridedSlice S16640x768 ![2, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_2_0))) (mulf (broadcastInDim S16640x768 ![0, 1] bcast_S1x768_S16640x768_0_1 (broadcastInDim S1x768 ![1] bcast_S768_S1x768_1 (shapeCast _ (extractStridedSlice S1x768 ![3, 0] w slices_S4x768_S1x768_3_0) shapeCasts_S1x768_S768))) (extractStridedSlice S16640x768 ![3, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_3_0)) : FVec Ideal S16640x768 .f32) = conv x w := by
  funext i
  have hi : (i 0).val < 16640 := (i 0).isLt
  have b : ∀ s j : ℕ, (hs : j + s = 3) → back x s (i 0).val (i 1) = if h : j + (i 0).val < 3 then 0 else x (ix2 ⟨j + (i 0).val - 3, by omega⟩ (i 1)) := by
    intro s j hs
    unfold back
    by_cases h : j + (i 0).val < 3
    · rw [dif_pos h, dif_neg (by omega)]
    · rw [dif_neg h, dif_pos ⟨by omega, by omega⟩]
      exact congrArg x (congrArg (ix2 · (i 1)) (Fin.mk_eq_mk.2 (by omega)))
  have b3 : back x 3 (i 0).val (i 1) = if h : (i 0).val < 3 then 0 else x (ix2 ⟨(i 0).val - 3, by omega⟩ (i 1)) := by
    refine (b 3 0 rfl).trans ?_
    by_cases h : (i 0).val < 3
    · rw [dif_pos h, dif_pos (by omega)]
    · rw [dif_neg h, dif_neg (by omega)]
      exact congrArg x (congrArg (ix2 · (i 1)) (Fin.mk_eq_mk.2 (by omega)))
  have b0 : back x 0 (i 0).val (i 1) = x i := by
    unfold back
    rw [dif_pos ⟨by omega, by omega⟩]
    exact congrArg x (by funext a; fin_cases a <;> rfl)
  unfold conv
  rw [b3, b 2 1 rfl, b 1 2 rfl, b0]
  pointwise

end Cert.Reference16Ideal.Elem

end
-- ==== Proof.Elem.ConvDx.lean ====
/-
  The gradient of the causal convolution's input: the kernel's array and the reference's, entry by entry.
-/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel17Ideal.Elem

open Cert.Kernel17Ideal Cert.Kernel17Ideal.Gen Idealize.ShloMosaic Idealize.ShloMosaic.TcCoe Idealize.SL.Sem
open Idealize.ShloMosaic.Pipeline (Dat)

/-- A choice by comparing two small numbers. -/
theorem sel_sge {r s : ℕ} (hr : r < 8) (hs : s < 8) (x y : EReal) :
    Scalar.select (IntOp.cmpi .sge (BitVec.ofNat 32 r) (BitVec.ofNat 32 s)) x y = if s ≤ r then x else y := by
  interval_cases r <;> interval_cases s <;> rfl

/-- A choice by whether a point is before the last. -/
theorem sel_last {n : ℕ} (hn : n < 26) (x y : EReal) :
    Scalar.select (Scalar.cmpi .slt (BitVec.ofNat 32 n) 25#32) x y = if n = 25 then y else x := by
  interval_cases n <;> rfl

/-- The row a number of rows after, zero after the last. -/
def ahead (x : S16640x768.Idx → EReal) (s r : ℕ) (k : Fin 768) : EReal :=
  if h : r + s < 16640 then x (ix2 ⟨r + s, h⟩ k) else 0

/-- The gradient at row r and channel k: the four rows from r, each times its row of the weight. -/
def dx (w : S4x768.Idx → EReal) (dc : S16640x768.Idx → EReal) (i : S16640x768.Idx) : EReal :=
  w (ix2 0 (i 1)) * ahead dc 3 (i 0).val (i 1) + w (ix2 1 (i 1)) * ahead dc 2 (i 0).val (i 1)
    + w (ix2 2 (i 1)) * ahead dc 1 (i 0).val (i 1) + w (ix2 3 (i 1)) * ahead dc 0 (i 0).val (i 1)

/-- Where the blocks of the operands lie. -/
theorem idx (t : Fin cfg0.N) : win0_0.index t (0 : Fin 2) = t.val
    ∧ win0_0.index t (1 : Fin 2) = 0
    ∧ win0_1.index t (0 : Fin 2) = min (80 * t.val + 80) 2079
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, win0_0.index t (0 : Fin 2) = t.val
    ∧ win0_0.index t (1 : Fin 2) = 0
    ∧ win0_1.index t (0 : Fin 2) = min (80 * t.val + 80) 2079
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0) t

/-- A point's only coordinate is its number. -/
theorem coord (t : Fin cfg0.N) : (grid0.coords t (0 : Fin 1)).val = t.val :=
  (by decide +kernel : ∀ t : Fin grid0.N, (grid0.coords t (0 : Fin 1)).val = t.val) t

theorem lt26 (t : Fin cfg0.N) : t.val < 26 := lt_of_lt_of_eq t.isLt (show cfg0.N = 26 from N_0)

variable (m : (ℓ : Loc nD τ sig) → Buf (Elt Ideal) ℓ) (c : Dev nD)

/-- The arguments. -/
def a0 : Vec Ideal S4x768 .f32 := m ((c : Thread nD τ).loc main_arg0)
def a1 : Vec Ideal S16640x768 .f32 := m ((c : Thread nD τ).loc main_arg1)

/-- The blocks of the operands at a point. -/
def x0 (t : Fin cfg0.N) : Vec Ideal S640x768 .f32 := iblk m c 0 t
def x1 (t : Fin cfg0.N) : Vec Ideal S8x768 .f32 := iblk m c 1 t
def x2 (t : Fin cfg0.N) : Vec Ideal S8x768 .f32 := iblk m c 2 t

theorem blk0 (t : Fin cfg0.N) {r : ℕ} (hr : r < 640) (k : Fin 768) : x0 m c t (ix2 ⟨r, hr⟩ k)
    = a1 m c (ix2 ⟨640 * t.val + r, by have := lt26 t; omega⟩ k) := by
  obtain ⟨e0, e1, e2, e3, e4, e5, e6, e7⟩ := idx t
  have ht := lt26 t
  unfold x0 a1 iblk
  rw [← V_main_arg1 m c]
  show (((cfg0.win 0).blk t).view.read (Elt Ideal) (V m c main_arg1) : Vec Ideal S640x768 .f32) _ = (V m c main_arg1 : Vec Ideal S16640x768 .f32) _
  generalize V m c main_arg1 = W
  blk_ext [e0, e1]

theorem blk1 (t : Fin cfg0.N) (h0 : t.val < 25) {r : ℕ} (hr : r < 8) (k : Fin 768) : x1 m c t (ix2 ⟨r, hr⟩ k)
    = a1 m c (ix2 ⟨640 * t.val + 640 + r, by have := lt26 t; omega⟩ k) := by
  obtain ⟨e0, e1, e2, e3, e4, e5, e6, e7⟩ := idx t
  have ht := lt26 t
  unfold x1 a1 iblk
  rw [← V_main_arg1 m c]
  show (((cfg0.win 1).blk t).view.read (Elt Ideal) (V m c main_arg1) : Vec Ideal S8x768 .f32) _ = (V m c main_arg1 : Vec Ideal S16640x768 .f32) _
  generalize V m c main_arg1 = W
  blk_ext [e2, e3]

/-- A block's row a number of rows after, where the block holds it. -/
theorem row_in (t : Fin cfg0.N) {s r q : ℕ} (hq : q = r + s) (hl : q < 640) (k : Fin 768) :
    x0 m c t (ix2 ⟨q, hl⟩ k) = ahead (a1 m c) s (640 * t.val + r) k := by
  subst hq
  have ht := lt26 t
  unfold ahead
  rw [dif_pos (by omega), blk0 m c t hl k]
  exact congrArg (a1 m c) (congrArg (ix2 · k) (Fin.mk_eq_mk.2 (by omega)))

/-- A block moved up: its last rows from the block after, zero in the last block. -/
theorem shift (t : Fin cfg0.N) {s u v r : ℕ} (h1 : 1 ≤ s) (h3 : s ≤ 3) (hu : u = 8 - s) (hv : v = 640 - s) (hr : r < 640) (k : Fin 768) :
    (if h : r < 632 then x0 m c t (ix2 ⟨(r + 640 - v) % 640, Nat.mod_lt _ (by decide)⟩ k)
      else Scalar.select (IntOp.cmpi .sge (BitVec.ofNat 32 (r - 632)) (BitVec.ofNat 32 u))
        (Scalar.select (Scalar.cmpi .slt (BitVec.ofNat 32 (grid0.coords t (0 : Fin 1)).val) 25#32)
          (x1 m c t (ix2 ⟨(r - 632 + 8 - u) % 8, Nat.mod_lt _ (by decide)⟩ k)) 0)
        (x0 m c t (ix2 ⟨(632 + (r - 632) + 640 - v) % 640, Nat.mod_lt _ (by decide)⟩ k)))
      = ahead (a1 m c) s (640 * t.val + r) k := by
  have ht := lt26 t
  by_cases h : r < 632
  · rw [dif_pos h]
    exact row_in m c t (by omega) _ k
  · rw [dif_neg h, sel_sge (by omega) (by omega), coord t, sel_last ht]
    by_cases hrs : u ≤ r - 632
    · rw [if_pos hrs]
      by_cases h0 : t.val = 25
      · rw [if_pos h0]
        unfold ahead
        rw [dif_neg (by omega)]
      · rw [if_neg h0]
        unfold ahead
        rw [dif_pos (by omega), blk1 m c t (by omega)]
        exact congrArg (a1 m c) (congrArg (ix2 · k) (Fin.mk_eq_mk.2 (by omega)))
    · rw [if_neg hrs]
      exact row_in m c t (by omega) _ k

/-- The call's weight operand is the weight, below it zeros. -/
theorem V_w (j : Fin 4) (k : Fin 768) : (V m c main_v0 : Vec Ideal S8x768 .f32) (ix2 ⟨j.val, lt_of_lt_of_le j.isLt (by decide)⟩ k)
    = a0 m c (ix2 j k) := by
  have hj := j.isLt
  have h : V m c main_v0 = (pad (α := Ideal .f32) S8x768 ![0, 0] ![4, 0] ![0, 0] (a0 m c) (sitofp (F := Ideal) .f32 (constantI S_ 32 0#32)) pads_S4x768_S8x768_040_000 h_S_ : Vec Ideal S8x768 .f32) := by
    show StableHlo.after (List.flatten [hostOps0, hostOps0_1]) _ _ = _
    unfold hostOps0 hostOps0_1
    simp only [List.flatten_cons, List.flatten_nil, List.append_nil, List.cons_append, List.nil_append]
    after_results
    rfl
  rw [h]
  generalize a0 m c = W
  pointwise

theorem blk2 (t : Fin cfg0.N) (j : Fin 4) (k : Fin 768) : x2 m c t (ix2 ⟨j.val, lt_of_lt_of_le j.isLt (by decide)⟩ k)
    = a0 m c (ix2 j k) := by
  obtain ⟨e0, e1, e2, e3, e4, e5, e6, e7⟩ := idx t
  have hj := j.isLt
  refine Eq.trans ?_ (V_w m c j k)
  unfold x2 iblk
  show (((cfg0.win 2).blk t).view.read (Elt Ideal) (V m c main_v0) : Vec Ideal S8x768 .f32) _ = (V m c main_v0 : Vec Ideal S8x768 .f32) _
  generalize V m c main_v0 = W
  blk_ext [e4, e5]

/-- What a point leaves in the output block. -/
theorem out_eq (t : Fin cfg0.N) (j : S640x768.Idx) : out0_3 (grid0.coords t) (x0 m c t) (x1 m c t) (x2 m c t) j
    = a0 m c (ix2 0 (j 1)) * ahead (a1 m c) 3 (640 * t.val + (j 0).val) (j 1)
      + a0 m c (ix2 1 (j 1)) * ahead (a1 m c) 2 (640 * t.val + (j 0).val) (j 1)
      + a0 m c (ix2 2 (j 1)) * ahead (a1 m c) 1 (640 * t.val + (j 0).val) (j 1)
      + a0 m c (ix2 3 (j 1)) * ahead (a1 m c) 0 (640 * t.val + (j 0).val) (j 1) := by
  have hj : (j 0).val < 640 := (j 0).isLt
  have s3 := shift m c t (s := 3) (by decide) (by decide) rfl rfl hj (j 1)
  have s2 := shift m c t (s := 2) (by decide) (by decide) rfl rfl hj (j 1)
  have s1 := shift m c t (s := 1) (by decide) (by decide) rfl rfl hj (j 1)
  have s0 := row_in m c t (s := 0) (r := (j 0).val) rfl hj (j 1)
  have w0 := blk2 m c t 0 (j 1)
  have w1 := blk2 m c t 1 (j 1)
  have w2 := blk2 m c t 2 (j 1)
  have w3 := blk2 m c t 3 (j 1)
  revert s3 s2 s1 s0 w0 w1 w2 w3
  generalize x0 m c t = P0
  generalize x1 m c t = P1
  generalize x2 m c t = P2
  intro s3 s2 s1 s0 w0 w1 w2 w3
  unfold out0_3
  frame_out
  unfold k0_pay1 k0_pay3 k0_pay4 k0_pay5 k0_pay6 k0_pay2
  pointwise
  have ej : P0 j = P0 (ix2 ⟨(j 0).val, hj⟩ (j 1)) := congrArg P0 (by funext a; fin_cases a <;> rfl)
  exact congrArg₂ (· + ·) (congrArg₂ (· + ·) (congrArg₂ (· + ·) (congrArg₂ (· * ·) w0 s3) (congrArg₂ (· * ·) w1 s2)) (congrArg₂ (· * ·) w2 s1))
    (congrArg₂ (· * ·) w3 (ej.trans s0))

/-- Every point writes its output block back. -/
theorem flush (t : Fin cfg0.N) : (cfg0.win 3).flush t = true := (by decide +kernel : ∀ t : Fin grid0.N, win0_3.flush t = true) t

/-- The point whose output block holds an entry, and the entry's place in the block. -/
def ptOf (i : S16640x768.Idx) : Fin cfg0.N := ⟨(i 0).val / 640, by
  have hi0 : (i 0).val < 16640 := (i 0).isLt
  rw [show cfg0.N = 26 from N_0]; omega⟩

def locOf (i : S16640x768.Idx) : S640x768.Idx :=
  ix2 ⟨(i 0).val % 640, Nat.mod_lt _ (by decide)⟩ (i 1)

theorem read3 (W : Vec Ideal S16640x768 .f32) (i : S16640x768.Idx) :
    (((cfg0.win 3).blk (ptOf i)).view.read (Elt Ideal) W : Vec Ideal S640x768 .f32) (locOf i) = W i := by
  obtain ⟨e0, e1, e2, e3, e4, e5, e6, e7⟩ := idx (ptOf i)
  have hi0 : (i 0).val < 16640 := (i 0).isLt
  have hp : (ptOf i).val = (i 0).val / 640 := rfl
  have l0 : (locOf i 0).val = (i 0).val % 640 := rfl
  have l1 : (locOf i 1).val = (i 1).val := rfl
  blk_ext [e6, e7, hp, l0, l1]

/-- The call's result. -/
theorem arr_eq : (dats m 0 c).arrAt 3 cfg0.N = dx (a0 m c) (a1 m c) := by
  funext i
  refine (read3 _ i).symm.trans ?_
  refine (congrFun ((Value.blocks3 m c (ptOf i) (flush _)).trans (Value.flushed3 m c (ptOf i))) (locOf i)).trans ?_
  refine (out_eq m c (ptOf i) (locOf i)).trans ?_
  have hr : 640 * (ptOf i).val + (locOf i 0).val = (i 0).val := Nat.div_add_mod _ _
  unfold dx
  rw [hr]
  rfl

end Cert.Kernel17Ideal.Elem

namespace Cert.Reference17Ideal.Elem

open Cert.Reference17Ideal Cert.Reference17Ideal.Gen Idealize.ShloMosaic Idealize.ShloMosaic.TcCoe Idealize.SL.Sem
open Cert.Kernel17Ideal.Elem (dx ahead)

/-- The reference's term is the same array. -/
theorem ref_eq (w : Vec Ideal S4x768 .f32) (dc : Vec Ideal S16640x768 .f32) :
    (extractStridedSlice S16640x768 ![3, 0] (addf (addf (addf (pad S16643x768 ![3, 0] ![0, 0] ![0, 0] (mulf (broadcastInDim S16640x768 ![0, 1] bcast_S1x768_S16640x768_0_1 (broadcastInDim S1x768 ![1] bcast_S768_S1x768_1 (shapeCast _ (extractStridedSlice S1x768 ![3, 0] w slices_S4x768_S1x768_3_0) shapeCasts_S1x768_S768))) (shapeCast _ dc shapeCasts_S16640x768_S16640x768)) (constant S_ .f32 0x00000000#32) pads_S16640x768_S16643x768_300_000 h_S_) (pad S16643x768 ![2, 0] ![1, 0] ![0, 0] (mulf (broadcastInDim S16640x768 ![0, 1] bcast_S1x768_S16640x768_0_1 (broadcastInDim S1x768 ![1] bcast_S768_S1x768_1 (shapeCast _ (extractStridedSlice S1x768 ![2, 0] w slices_S4x768_S1x768_2_0) shapeCasts_S1x768_S768))) (shapeCast _ dc shapeCasts_S16640x768_S16640x768)) (constant S_ .f32 0x00000000#32) pads_S16640x768_S16643x768_210_000 h_S_)) (pad S16643x768 ![1, 0] ![2, 0] ![0, 0] (mulf (broadcastInDim S16640x768 ![0, 1] bcast_S1x768_S16640x768_0_1 (broadcastInDim S1x768 ![1] bcast_S768_S1x768_1 (shapeCast _ (extractStridedSlice S1x768 ![1, 0] w slices_S4x768_S1x768_1_0) shapeCasts_S1x768_S768))) (shapeCast _ dc shapeCasts_S16640x768_S16640x768)) (constant S_ .f32 0x00000000#32) pads_S16640x768_S16643x768_120_000 h_S_)) (pad S16643x768 ![0, 0] ![3, 0] ![0, 0] (mulf (broadcastInDim S16640x768 ![0, 1] bcast_S1x768_S16640x768_0_1 (broadcastInDim S1x768 ![1] bcast_S768_S1x768_1 (shapeCast _ (extractStridedSlice S1x768 ![0, 0] w slices_S4x768_S1x768_0_0) shapeCasts_S1x768_S768))) (shapeCast _ dc shapeCasts_S16640x768_S16640x768)) (constant S_ .f32 0x00000000#32) pads_S16640x768_S16643x768_030_000 h_S_)) slices_S16643x768_S16640x768_3_0 : FVec Ideal S16640x768 .f32) = dx w dc := by
  funext i
  have hi : (i 0).val < 16640 := (i 0).isLt
  have b : ∀ (s j : ℕ) (hs : j + s = 3) (v : EReal), v * ahead dc s (i 0).val (i 1)
      = if h : j ≤ 3 + (i 0).val ∧ 3 + (i 0).val - j < 16640 then v * dc (ix2 ⟨3 + (i 0).val - j, h.2⟩ (i 1)) else 0 := by
    intro s j hs v
    unfold ahead
    by_cases h : (i 0).val + s < 16640
    · rw [dif_pos h, dif_pos ⟨by omega, by omega⟩]
      exact congrArg (fun k => v * dc (ix2 k (i 1))) (Fin.mk_eq_mk.2 (by omega))
    · rw [dif_neg h, dif_neg (by omega), mul_zero]
  have b3 : ∀ v : EReal, v * ahead dc 3 (i 0).val (i 1) = if h : 3 + (i 0).val < 16640 then v * dc (ix2 ⟨3 + (i 0).val, h⟩ (i 1)) else 0 := by
    intro v
    unfold ahead
    by_cases h : 3 + (i 0).val < 16640
    · rw [dif_pos h, dif_pos (by omega)]
      exact congrArg (fun k => v * dc (ix2 k (i 1))) (Fin.mk_eq_mk.2 (by omega))
    · rw [dif_neg h, dif_neg (by omega), mul_zero]
  have b0 : ahead dc 0 (i 0).val (i 1) = dc i := by
    unfold ahead
    rw [dif_pos (by omega)]
    exact congrArg dc (by funext a; fin_cases a <;> rfl)
  have comm : ∀ p q r s : EReal, p + q + r + s = s + r + q + p := fun p q r s => by
    ac_rfl
  unfold dx
  rw [b3, b 2 1 rfl, b 1 2 rfl, b0]
  refine Eq.trans ?_ (comm _ _ _ _)
  pointwise

end Cert.Reference17Ideal.Elem

end
-- ==== Proof.Elem.ConvDw.lean ====
/-
  The gradient of the causal convolution's weight: the kernel's array and the reference's, entry by entry.
-/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel18Ideal.Elem

open Cert.Kernel18Ideal Cert.Kernel18Ideal.Gen Idealize.ShloMosaic Idealize.ShloMosaic.TcCoe Idealize.SL.Sem
open Idealize.ShloMosaic.Pipeline (Dat)

/-- A choice by comparing two small numbers. -/
theorem sel_slt {r s : ℕ} (hr : r < 8) (hs : s < 8) (x y : EReal) :
    Scalar.select (IntOp.cmpi .slt (BitVec.ofNat 32 r) (BitVec.ofNat 32 s)) x y = if r < s then x else y := by
  interval_cases r <;> interval_cases s <;> rfl

/-- A choice by whether a point is after the first. -/
theorem sel_pos {n : ℕ} (hn : n < 26) (x y : EReal) :
    Scalar.select (Scalar.cmpi .sgt (BitVec.ofNat 32 n) 0#32) x y = if n = 0 then y else x := by
  interval_cases n <;> rfl

/-- A choice by comparing two small numbers for equality. -/
theorem sel_eq {r s : ℕ} (hr : r < 8) (hs : s < 8) (x y : EReal) :
    Scalar.select (IntOp.cmpi .eq (BitVec.ofNat 32 r) (BitVec.ofNat 32 s)) x y = if r = s then x else y := by
  interval_cases r <;> interval_cases s <;> rfl

/-- The row a number of rows before, zero before the first. -/
def back (x : S16640x768.Idx → EReal) (s r : ℕ) (k : Fin 768) : EReal :=
  if h : s ≤ r ∧ r - s < 16640 then x (ix2 ⟨r - s, h.2⟩ k) else 0

/-- One row's part of the gradient of a weight row: the input that many rows before times the result's gradient. -/
def prod (x dc : S16640x768.Idx → EReal) (s : ℕ) (k : Fin 768) (n : Fin 16640) : EReal := back x s n.val k * dc (ix2 n k)

/-- The gradient of the weight: row j sums over all rows, below row 3 zeros. -/
def dw (x dc : S16640x768.Idx → EReal) (i : S8x768.Idx) : EReal :=
  if (i 0).val < 4 then ∑ n : Fin 16640, prod x dc (3 - (i 0).val) (i 1) n else 0

/-- Where the blocks of the operands lie. -/
theorem idx (t : Fin cfg0.N) : win0_0.index t (0 : Fin 2) = t.val
    ∧ win0_0.index t (1 : Fin 2) = 0
    ∧ win0_1.index t (0 : Fin 2) = 80 * t.val - 1
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0 :=
  (by decide +kernel : ∀ t : Fin grid0.N, win0_0.index t (0 : Fin 2) = t.val
    ∧ win0_0.index t (1 : Fin 2) = 0
    ∧ win0_1.index t (0 : Fin 2) = 80 * t.val - 1
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0) t

/-- A point's only coordinate is its number. -/
theorem coord (t : Fin cfg0.N) : (grid0.coords t (0 : Fin 1)).val = t.val :=
  (by decide +kernel : ∀ t : Fin grid0.N, (grid0.coords t (0 : Fin 1)).val = t.val) t

theorem lt26 (t : Fin cfg0.N) : t.val < 26 := lt_of_lt_of_eq t.isLt (show cfg0.N = 26 from N_0)

variable (m : (ℓ : Loc nD τ sig) → Buf (Elt Ideal) ℓ) (c : Dev nD)

/-- The arguments. -/
def a0 : Vec Ideal S16640x768 .f32 := m ((c : Thread nD τ).loc main_arg0)
def a1 : Vec Ideal S16640x768 .f32 := m ((c : Thread nD τ).loc main_arg1)

/-- The blocks of the operands at a point. -/
def x0 (t : Fin cfg0.N) : Vec Ideal S640x768 .f32 := iblk m c 0 t
def x1 (t : Fin cfg0.N) : Vec Ideal S8x768 .f32 := iblk m c 1 t
def x2 (t : Fin cfg0.N) : Vec Ideal S640x768 .f32 := iblk m c 2 t

theorem blk0 (t : Fin cfg0.N) {r : ℕ} (hr : r < 640) (k : Fin 768) : x0 m c t (ix2 ⟨r, hr⟩ k)
    = a0 m c (ix2 ⟨640 * t.val + r, by have := lt26 t; omega⟩ k) := by
  obtain ⟨e0, e1, e2, e3, e4, e5, e6, e7⟩ := idx t
  have ht := lt26 t
  unfold x0 a0 iblk
  show (((cfg0.win 0).blk t).view.read (Elt Ideal) (V m c main_arg0) : Vec Ideal S640x768 .f32) _ = (V m c main_arg0 : Vec Ideal S16640x768 .f32) _
  generalize V m c main_arg0 = W
  blk_ext [e0, e1]

theorem blk2 (t : Fin cfg0.N) {r : ℕ} (hr : r < 640) (k : Fin 768) : x2 m c t (ix2 ⟨r, hr⟩ k)
    = a1 m c (ix2 ⟨640 * t.val + r, by have := lt26 t; omega⟩ k) := by
  obtain ⟨e0, e1, e2, e3, e4, e5, e6, e7⟩ := idx t
  have ht := lt26 t
  unfold x2 a1 iblk
  show (((cfg0.win 2).blk t).view.read (Elt Ideal) (V m c main_arg1) : Vec Ideal S640x768 .f32) _ = (V m c main_arg1 : Vec Ideal S16640x768 .f32) _
  generalize V m c main_arg1 = W
  blk_ext [e4, e5]

theorem blk1 (t : Fin cfg0.N) (h0 : 0 < t.val) {r : ℕ} (hr : r < 8) (k : Fin 768) : x1 m c t (ix2 ⟨r, hr⟩ k)
    = a0 m c (ix2 ⟨640 * t.val - 8 + r, by have := lt26 t; omega⟩ k) := by
  obtain ⟨e0, e1, e2, e3, e4, e5, e6, e7⟩ := idx t
  have ht := lt26 t
  unfold x1 a0 iblk
  show (((cfg0.win 1).blk t).view.read (Elt Ideal) (V m c main_arg0) : Vec Ideal S8x768 .f32) _ = (V m c main_arg0 : Vec Ideal S16640x768 .f32) _
  generalize V m c main_arg0 = W
  blk_ext [e2, e3]

/-- A block's row a number of rows before, where the block holds it. -/
theorem row_in (t : Fin cfg0.N) {s r q : ℕ} (hr : r < 640) (hs : s ≤ r) (hq : q = r - s) (hl : q < 640) (k : Fin 768) :
    x0 m c t (ix2 ⟨q, hl⟩ k) = back (a0 m c) s (640 * t.val + r) k := by
  subst hq
  have ht := lt26 t
  unfold back
  rw [dif_pos ⟨by omega, by omega⟩, blk0 m c t (by omega) k]
  exact congrArg (a0 m c) (congrArg (ix2 · k) (Fin.mk_eq_mk.2 (by omega)))

/-- The first rows of a block, moved down: from the block before, zero in the first block. -/
theorem row_top (t : Fin cfg0.N) {s r : ℕ} (h1 : 1 ≤ s) (h3 : s ≤ 3) (hr : r < 8) (k : Fin 768) :
    Scalar.select (IntOp.cmpi .slt (BitVec.ofNat 32 r) (BitVec.ofNat 32 s))
        (Scalar.select (Scalar.cmpi .sgt (BitVec.ofNat 32 (grid0.coords t (0 : Fin 1)).val) 0#32)
          (x1 m c t (ix2 ⟨(r + 8 - s) % 8, Nat.mod_lt _ (by decide)⟩ k)) 0)
        (x0 m c t (ix2 ⟨(r + 640 - s) % 640, Nat.mod_lt _ (by decide)⟩ k))
      = back (a0 m c) s (640 * t.val + r) k := by
  have ht := lt26 t
  rw [sel_slt hr (by omega), coord t, sel_pos ht]
  by_cases hrs : r < s
  · rw [if_pos hrs]
    by_cases h0 : t.val = 0
    · rw [if_pos h0]
      unfold back
      rw [dif_neg (by omega)]
    · rw [if_neg h0]
      unfold back
      rw [dif_pos ⟨by omega, by omega⟩, blk1 m c t (by omega)]
      exact congrArg (a0 m c) (congrArg (ix2 · k) (Fin.mk_eq_mk.2 (by omega)))
  · rw [if_neg hrs]
    exact row_in m c t (by omega) (by omega) (by omega) _ k

/-- What a point adds. -/
def term (t : Fin cfg0.N) (j : S8x768.Idx) : EReal :=
  if (j 0).val < 4 then
    ∑ r : Fin 640, prod (a0 m c) (a1 m c) (3 - (j 0).val) (j 1)
      ⟨640 * t.val + r.val, by have := lt26 t; have := r.isLt; omega⟩
  else 0

/-- One moved block times the gradient's block, summed: its first eight rows and the rest. -/
theorem sums (t : Fin cfg0.N) {s : ℕ} (h1 : 1 ≤ s) (h3 : s ≤ 3) (k : Fin 768) :
    (∑ r : Fin 8, Scalar.select (IntOp.cmpi .slt (BitVec.ofNat 32 r.val) (BitVec.ofNat 32 s))
        (Scalar.select (Scalar.cmpi .sgt (BitVec.ofNat 32 (grid0.coords t (0 : Fin 1)).val) 0#32)
          (x1 m c t (ix2 ⟨(r.val + 8 - s) % 8, Nat.mod_lt _ (by decide)⟩ k)) 0)
        (x0 m c t (ix2 ⟨(r.val + 640 - s) % 640, Nat.mod_lt _ (by decide)⟩ k))
        * x2 m c t (ix2 ⟨r.val, lt_of_lt_of_le r.isLt (by decide)⟩ k))
      + ∑ r : Fin 632, x0 m c t (ix2 ⟨(8 + r.val + 640 - s) % 640, Nat.mod_lt _ (by decide)⟩ k)
        * x2 m c t (ix2 ⟨8 + r.val, Nat.add_lt_add_left r.isLt 8⟩ k)
    = ∑ r : Fin 640, prod (a0 m c) (a1 m c) s k
      ⟨640 * t.val + r.val, by have := lt26 t; have := r.isLt; omega⟩ := by
  refine Eq.trans ?_ (Fin.sum_univ_add (a := 8) (b := 632) (fun r : Fin (8 + 632) => prod (a0 m c) (a1 m c) s k
      ⟨640 * t.val + r.val, by have := lt26 t; have := r.isLt; omega⟩)).symm
  refine congrArg₂ (· + ·) (Finset.sum_congr (M := EReal) rfl fun r _ => ?_) (Finset.sum_congr (M := EReal) rfl fun r _ => ?_)
  · exact congrArg₂ (· * ·) (row_top m c t h1 h3 r.isLt k) (blk2 m c t _ k)
  · have hr := r.isLt
    exact congrArg₂ (· * ·) (row_in m c t (r := 8 + r.val) (by omega) (by omega) (by omega) _ k) (blk2 m c t _ k)

/-- What a point does to the output block. -/
theorem step_apply (t : Fin cfg0.N) (acc : Vec Ideal S8x768 .f32) (j : S8x768.Idx) :
    k0_pay2 (F := Ideal) (iota .tc S8x768 32 [0] iota_S8x768_d0_w32) (k0_pay3 (grid0.coords t) (x1 m c t)) (x0 m c t) (x2 m c t)
      (k0_pay4 (grid0.coords t) (x1 m c t) (x0 m c t) (x2 m c t)) (k0_pay5 (grid0.coords t) (x1 m c t) (x0 m c t) (x2 m c t)) k0_pay6 acc j
    = acc j + term m c t j := by
  have hj : (j 0).val < 8 := (j 0).isLt
  have s3 := sums m c t (s := 3) (by decide) (by decide) (j 1)
  have s2 := sums m c t (s := 2) (by decide) (by decide) (j 1)
  have s1 := sums m c t (s := 1) (by decide) (by decide) (j 1)
  have s0 : (∑ r : Fin 640, x0 m c t (ix2 r (j 1)) * x2 m c t (ix2 r (j 1)))
      = ∑ r : Fin 640, prod (a0 m c) (a1 m c) 0 (j 1)
        ⟨640 * t.val + r.val, by have := lt26 t; have := r.isLt; omega⟩ :=
    Finset.sum_congr (M := EReal) rfl fun r _ => congrArg₂ (· * ·) (row_in m c t (s := 0) r.isLt (Nat.zero_le _) rfl r.isLt (j 1)) (blk2 m c t r.isLt (j 1))
  have e : ∀ s : ℕ, (j 0).val < 4 → 3 - (j 0).val = s → term m c t j = ∑ r : Fin 640, prod (a0 m c) (a1 m c) s (j 1)
      ⟨640 * t.val + r.val, by have := lt26 t; have := r.isLt; omega⟩ := by
    intro s h4 hs
    subst hs
    unfold term
    exact if_pos h4
  have e4 : 4 ≤ (j 0).val → term m c t j = 0 := fun h => if_neg (by omega)
  revert s3 s2 s1 s0
  generalize x0 m c t = P0
  generalize x1 m c t = P1
  generalize x2 m c t = P2
  intro s3 s2 s1 s0
  unfold k0_pay2 k0_pay4 k0_pay5 k0_pay3 k0_pay6
  pointwise
  refine congrArg (acc j + ·) ?_
  rw [sel_eq hj (by decide), sel_eq hj (by decide), sel_eq hj (by decide), sel_eq hj (by decide)]
  obtain h | h | h | h | h : (j 0).val = 0 ∨ (j 0).val = 1 ∨ (j 0).val = 2 ∨ (j 0).val = 3 ∨ 4 ≤ (j 0).val := by omega
  · refine Eq.trans (congrArg₂ (· + ·) (congrArg₂ (· + ·) (congrArg₂ (· + ·) (if_pos h) (if_neg (by omega))) (if_neg (by omega))) (if_neg (by omega))) ?_
    rw [add_zero, add_zero, add_zero, e 3 (by omega) (by omega)]
    exact s3
  · refine Eq.trans (congrArg₂ (· + ·) (congrArg₂ (· + ·) (congrArg₂ (· + ·) (if_neg (by omega)) (if_pos h)) (if_neg (by omega))) (if_neg (by omega))) ?_
    rw [zero_add, add_zero, add_zero, e 2 (by omega) (by omega)]
    exact s2
  · refine Eq.trans (congrArg₂ (· + ·) (congrArg₂ (· + ·) (congrArg₂ (· + ·) (if_neg (by omega)) (if_neg (by omega))) (if_pos h)) (if_neg (by omega))) ?_
    rw [add_zero, add_zero, zero_add, e 1 (by omega) (by omega)]
    exact s1
  · refine Eq.trans (congrArg₂ (· + ·) (congrArg₂ (· + ·) (congrArg₂ (· + ·) (if_neg (by omega)) (if_neg (by omega))) (if_neg (by omega))) (if_pos h)) ?_
    rw [add_zero, add_zero, zero_add, e 0 (by omega) (by omega)]
    exact s0
  · refine Eq.trans (congrArg₂ (· + ·) (congrArg₂ (· + ·) (congrArg₂ (· + ·) (if_neg (by omega)) (if_neg (by omega))) (if_neg (by omega))) (if_neg (by omega))) ?_
    rw [add_zero, add_zero, add_zero, e4 h]

theorem pay1_apply (j : S8x768.Idx) : k0_pay1 (F := Ideal) j = 0 := by
  unfold k0_pay1
  pointwise
  done

/-- The output block at the last point: the points' parts added up. -/
theorem total (t : Fin cfg0.N) (h : t.val % 26 = 26 - 1) (j : S8x768.Idx) :
    outsAt0 m c t.val t.isLt j = 0 + ∑ s : Fin 26, term m c ⟨26 * (t.val / 26) + s.val, Pipeline.run_point_lt_of_flush t h s⟩ j := by
  refine Pipeline.eq_sum_fin_of_reset_step_apply_of_flush (fun n h => outsAt0 m c n h) 26 (fun _ => 0) (term m c) ?_ ?_ t h j
  · intro t h0 i
    rw [outsAt0_A m c t h0]
    refine (congrFun (Value.out_A_3_eq ..) i).trans ((step_apply m c t _ i).trans ?_)
    rw [pay1_apply]
  · intro t h0 i
    rw [outsAt0_B m c t h0]
    exact (congrFun (Value.out_B_3_eq ..) i).trans (step_apply m c t _ i)

/-- The call's result. -/
theorem G3_eq : Value.G3 m c = dw (a0 m c) (a1 m c) := by
  funext i
  have hi0 : (i 0).val < 8 := (i 0).isLt
  have hi1 : (i 1).val < 768 := (i 1).isLt
  have hN : cfg0.N = 26 := N_0
  have hr : Value.run3Of i = 0 := by dsimp only [Value.run3Of]; omega
  have hp : 26 * Value.run3Of i + 25 < cfg0.N := by rw [hN, hr]; decide
  have hl : Value.loc3Of i = i := by
    funext a; fin_cases a <;> exact Fin.ext (Nat.mod_eq_of_lt (by first | exact hi0 | exact hi1))
  obtain ⟨t, ht⟩ : ∃ t : Fin cfg0.N, t.val = 25 := ⟨⟨25, by rw [hN]; decide⟩, rfl⟩
  have acc : ∀ (b n : ℕ) (h : b + n < cfg0.N) (b' n' : ℕ) (h' : b' + n' < cfg0.N), b = b' → n = n' →
      Pipeline.accAt (Value.reset3 m c) (Value.step3 m c) b n h = Pipeline.accAt (Value.reset3 m c) (Value.step3 m c) b' n' h' := by
    intro b n h b' n' h' hb hn
    subst hb
    subst hn
    rfl
  have tot := total m c t (by omega) i
  rw [Value.outsAt_3_eq m c t] at tot
  unfold Value.G3
  rw [dif_pos hp, hl]
  refine (congrFun (acc _ _ _ _ _ _ (by rw [hr]; omega) (by omega)) i).trans (tot.trans ?_)
  rw [zero_add]
  unfold dw term
  by_cases h4 : (i 0).val < 4
  · refine Eq.trans ?_ (if_pos h4).symm
    rw [← Fin.sum_mul_add_fin 26 640 (prod (a0 m c) (a1 m c) (3 - (i 0).val) (i 1))]
    refine Finset.sum_congr (M := EReal) rfl fun s _ => (if_pos h4).trans (Finset.sum_congr (M := EReal) rfl fun r _ => congrArg _ (Fin.ext ?_))
    show 640 * (26 * (t.val / 26) + s.val) + r.val = _
    simp only [Fin.val_mk]
    omega
  · refine Eq.trans ?_ (if_neg h4).symm
    exact Finset.sum_eq_zero fun s _ => if_neg h4

end Cert.Kernel18Ideal.Elem

namespace Cert.Reference18Ideal.Elem

open Cert.Reference18Ideal Cert.Reference18Ideal.Gen Idealize.ShloMosaic Idealize.ShloMosaic.TcCoe Idealize.SL.Sem
open Cert.Kernel18Ideal.Elem (dw prod back)

/-- The reference's term is the same array. -/
theorem ref_eq (x dc : Vec Ideal S16640x768 .f32) :
    (pad S8x768 ![0, 0] ![4, 0] ![0, 0] (addf (addf (addf (pad S4x768 ![3, 0] ![0, 0] ![0, 0] (broadcastInDim S1x768 ![1] bcast_S768_S1x768_1 (Host.reduceAdd (shapeCast _ (Host.reduceAdd (mulf (shapeCast _ dc shapeCasts_S16640x768_S16640x768) (extractStridedSlice S16640x768 ![3, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_3_0)) (constant S_ .f32 0x00000000#32) reducesTo_S16640x768_S768_d0 h_S_) shapeCasts_S768_S1x768) (constant S_ .f32 0x00000000#32) reducesTo_S1x768_S768_d0 h_S_)) (constant S_ .f32 0x00000000#32) pads_S1x768_S4x768_300_000 h_S_) (pad S4x768 ![2, 0] ![1, 0] ![0, 0] (broadcastInDim S1x768 ![1] bcast_S768_S1x768_1 (Host.reduceAdd (shapeCast _ (Host.reduceAdd (mulf (shapeCast _ dc shapeCasts_S16640x768_S16640x768) (extractStridedSlice S16640x768 ![2, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_2_0)) (constant S_ .f32 0x00000000#32) reducesTo_S16640x768_S768_d0 h_S_) shapeCasts_S768_S1x768) (constant S_ .f32 0x00000000#32) reducesTo_S1x768_S768_d0 h_S_)) (constant S_ .f32 0x00000000#32) pads_S1x768_S4x768_210_000 h_S_)) (pad S4x768 ![1, 0] ![2, 0] ![0, 0] (broadcastInDim S1x768 ![1] bcast_S768_S1x768_1 (Host.reduceAdd (shapeCast _ (Host.reduceAdd (mulf (shapeCast _ dc shapeCasts_S16640x768_S16640x768) (extractStridedSlice S16640x768 ![1, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_1_0)) (constant S_ .f32 0x00000000#32) reducesTo_S16640x768_S768_d0 h_S_) shapeCasts_S768_S1x768) (constant S_ .f32 0x00000000#32) reducesTo_S1x768_S768_d0 h_S_)) (constant S_ .f32 0x00000000#32) pads_S1x768_S4x768_120_000 h_S_)) (pad S4x768 ![0, 0] ![3, 0] ![0, 0] (broadcastInDim S1x768 ![1] bcast_S768_S1x768_1 (Host.reduceAdd (shapeCast _ (Host.reduceAdd (mulf (shapeCast _ dc shapeCasts_S16640x768_S16640x768) (extractStridedSlice S16640x768 ![0, 0] (concatenate S16643x768 0 [⟨S3x768, (broadcastInDim S3x768 ![] bcast_S_S3x768 (constant S_ .f32 0x00000000#32))⟩, ⟨S16640x768, x⟩] concatenates_S3x768_S16640x768_S16643x768_d0) slices_S16643x768_S16640x768_0_0)) (constant S_ .f32 0x00000000#32) reducesTo_S16640x768_S768_d0 h_S_) shapeCasts_S768_S1x768) (constant S_ .f32 0x00000000#32) reducesTo_S1x768_S768_d0 h_S_)) (constant S_ .f32 0x00000000#32) pads_S1x768_S4x768_030_000 h_S_)) (sitofp .f32 (constantI S_ 32 0#32)) pads_S4x768_S8x768_040_000 h_S_ : FVec Ideal S8x768 .f32) = dw x dc := by
  funext i
  have hi : (i 0).val < 8 := (i 0).isLt
  have p0 : ∀ n : Fin 16640, prod x dc 0 (i 1) n = dc (ix2 n (i 1)) * x (ix2 n (i 1)) := by
    intro n
    unfold prod back
    rw [dif_pos ⟨Nat.zero_le _, n.isLt⟩, mul_comm]
    rfl
  have p : ∀ (s j : ℕ) (hs : j + s = 3) (n : Fin 16640), prod x dc s (i 1) n = dc (ix2 n (i 1)) * if h : j + n.val < 3 then 0 else x (ix2 ⟨j + n.val - 3, by omega⟩ (i 1)) := by
    intro s j hs n
    have hn := n.isLt
    unfold prod back
    by_cases h : j + n.val < 3
    · rw [dif_pos h, dif_neg (by omega), mul_comm]
    · rw [dif_neg h, dif_pos ⟨by omega, by omega⟩, mul_comm]
      exact congrArg (fun k => dc (ix2 n (i 1)) * x (ix2 k (i 1))) (Fin.mk_eq_mk.2 (by omega))
  have p3 : (∑ n : Fin 16640, prod x dc 3 (i 1) n) = (∑ n : Fin 3, dc (ix2 ⟨n.val, lt_of_lt_of_le n.isLt (by decide)⟩ (i 1)) * 0)
      + ∑ n : Fin 16637, dc (ix2 ⟨3 + n.val, Nat.add_lt_add_left n.isLt 3⟩ (i 1)) * x (ix2 ⟨n.val, lt_of_lt_of_le n.isLt (by decide)⟩ (i 1)) := by
    refine (Fin.sum_univ_add (a := 3) (b := 16637) (fun n : Fin (3 + 16637) => prod x dc 3 (i 1) n)).trans ?_
    refine congrArg₂ (· + ·) (Finset.sum_congr (M := EReal) rfl fun n _ => ?_) (Finset.sum_congr (M := EReal) rfl fun n _ => ?_)
    · unfold prod back
      rw [dif_neg (by simp only [Fin.val_castAdd]; omega), mul_comm]
      rfl
    · refine (p 3 0 rfl _).trans ?_
      rw [dif_neg (by simp only [Fin.val_natAdd]; omega)]
      exact congrArg₂ (· * ·) rfl (congrArg x (congrArg (ix2 · (i 1)) (Fin.mk_eq_mk.2 (by simp only [Fin.val_natAdd]; omega))))
  unfold dw
  pointwise
  simp only [Finset.univ_unique, Finset.sum_singleton]
  by_cases h4 : (i 0).val < 4
  · refine (dif_pos h4).trans (Eq.trans ?_ (if_pos h4).symm)
    obtain h | h | h | h : (i 0).val = 0 ∨ (i 0).val = 1 ∨ (i 0).val = 2 ∨ (i 0).val = 3 := by omega
    · refine Eq.trans (congrArg₂ (· + ·) (congrArg₂ (· + ·) (congrArg₂ (· + ·) (dif_neg (by omega)) (dif_neg (by omega))) (dif_neg (by omega))) (dif_pos (by omega))) ?_
      rw [add_zero, add_zero, zero_add, show 3 - (i 0).val = 3 by omega]
      exact p3.symm
    · refine Eq.trans (congrArg₂ (· + ·) (congrArg₂ (· + ·) (congrArg₂ (· + ·) (dif_neg (by omega)) (dif_neg (by omega))) (dif_pos (by omega))) (dif_neg (by omega))) ?_
      rw [add_zero, add_zero, zero_add, show 3 - (i 0).val = 2 by omega]
      exact Finset.sum_congr (M := EReal) rfl fun n _ => (p 2 1 rfl n).symm
    · refine Eq.trans (congrArg₂ (· + ·) (congrArg₂ (· + ·) (congrArg₂ (· + ·) (dif_neg (by omega)) (dif_pos (by omega))) (dif_neg (by omega))) (dif_neg (by omega))) ?_
      rw [add_zero, add_zero, zero_add, show 3 - (i 0).val = 1 by omega]
      exact Finset.sum_congr (M := EReal) rfl fun n _ => (p 1 2 rfl n).symm
    · refine Eq.trans (congrArg₂ (· + ·) (congrArg₂ (· + ·) (congrArg₂ (· + ·) (dif_pos (by omega)) (dif_neg (by omega))) (dif_neg (by omega))) (dif_neg (by omega))) ?_
      rw [add_zero, add_zero, add_zero, show 3 - (i 0).val = 0 by omega]
      exact Finset.sum_congr (M := EReal) rfl fun n _ => (p0 n).symm
  · refine (dif_neg h4).trans (Eq.trans ?_ (if_neg h4).symm)
    show ((((0#32 : BitVec 32).toInt : ℝ)) : EReal) = 0
    simp

end Cert.Reference18Ideal.Elem

end
-- ==== Proof.Elem.Rms.lean ====
/-
  The root-mean-square norm of one row and the gradient of the row, as functions of the row.
-/
module

public import Idealize.ShloMosaic.Lib.Pointwise
public import Idealize.ShloMosaic.PureOps.Ideal.Laws

@[expose] public section

noncomputable section

namespace Cert.Norm

open Idealize.ShloMosaic

/-- The number of columns, as the programs hold it. -/
abbrev width : EReal := Ideal.ofBits .f32 1149239296#32

/-- The small number added to the mean of the squares. -/
abbrev tiny : EReal := Ideal.ofBits .f32 897988541#32

/-- Minus one half. -/
abbrev minusHalf : EReal := Ideal.ofBits .f32 3204448256#32

theorem width_ne_zero : width ≠ 0 := by
  have h : width = ((1024 : ℝ) : EReal) := by
    simp [width, Ideal.ofBits, Ideal.ieee, -EReal.coe_mul]; norm_num
  rw [h]
  exact EReal.coe_ne_zero.2 (by norm_num)

/-- The mean of a row's squares, with the small number. -/
def ms (x : Fin 1024 → EReal) : EReal := Ideal.div (∑ k, x k * x k) width + tiny

/-- A row's norm, times the gain. -/
def norm (x g : Fin 1024 → EReal) (k : Fin 1024) : EReal := x k * Ideal.rsqrt (ms x) * g k

/-- What the mean of the squares passes back to every entry of a row, once for each factor of a square. -/
def pull (x d : Fin 1024 → EReal) : EReal :=
  Ideal.div ((∑ k, x k * d k) * (minusHalf * Ideal.div (Ideal.rsqrt (ms x)) (ms x))) width

/-- The gradient of a row, given the gradient of its norm. -/
def dnorm (x g d : Fin 1024 → EReal) (k : Fin 1024) : EReal :=
  d k * g k * Ideal.rsqrt (ms x) + x k * pull x (fun k => d k * g k) + pull x (fun k => d k * g k) * x k

/-- A row whose norm has no gradient gets none. -/
theorem dnorm_zero (x g : Fin 1024 → EReal) (k : Fin 1024) : dnorm x g (fun _ => 0) k = 0 := by
  have h : pull x (fun k => 0 * g k) = 0 := by
    unfold pull Ideal.div
    rw [if_neg width_ne_zero]
    simp only [zero_mul, mul_zero, Finset.sum_const_zero]
  unfold dnorm
  rw [h]
  simp only [zero_mul, mul_zero, add_zero]

/-- The mask of the rows that only fill up the blocks, by a block's number and the row's place in it: zero for the first
    240 rows, one after. -/
theorem mask {n r : ℕ} (hn : n < 26) (hr : r < 640) :
    (FloatOps.sitofp (F := Ideal) .f32 (BitVec.setWidth 32 (IntOp.cmpi .sge
      (IntOp.addi (Scalar.muli (BitVec.ofNat 32 n) 640#32) (BitVec.ofNat 32 r)) 240#32)) : EReal)
      = if 640 * n + r < 240 then 0 else 1 := by
  have e : IntOp.addi (Scalar.muli (BitVec.ofNat 32 n) 640#32) (BitVec.ofNat 32 r) = BitVec.ofNat 32 (640 * n + r) := by
    show BitVec.ofNat 32 n * 640#32 + BitVec.ofNat 32 r = _
    apply BitVec.eq_of_toNat_eq
    simp only [BitVec.toNat_add, BitVec.toNat_mul, BitVec.toNat_ofNat]
    omega
  have hi : (BitVec.ofNat 32 (640 * n + r)).toInt = ((640 * n + r : ℕ) : ℤ) := by
    have hlt : 640 * n + r < 2 ^ 31 := by omega
    have ht : (BitVec.ofNat 32 (640 * n + r)).toNat = 640 * n + r := by
      rw [BitVec.toNat_ofNat]
      exact Nat.mod_eq_of_lt (by omega)
    rw [BitVec.toInt_eq_toNat_of_lt (by rw [ht]; omega), ht]
  have h2 : (240#32 : BitVec 32).toInt = 240 := by decide
  have hc : IntOp.cmpi .sge (BitVec.ofNat 32 (640 * n + r)) 240#32 = BitVec.ofBool (decide (240 ≤ 640 * n + r)) := by
    show BitVec.ofBool (decide ((240#32 : BitVec 32).toInt ≤ (BitVec.ofNat 32 (640 * n + r)).toInt)) = _
    rw [hi, h2]
    congr 1
    exact decide_eq_decide.2 (by omega)
  rw [e, hc]
  by_cases h : 640 * n + r < 240
  · rw [if_pos h, decide_eq_false (by omega)]
    show (((BitVec.setWidth 32 (BitVec.ofBool false)).toInt : ℝ) : EReal) = 0
    simp
  · rw [if_neg h, decide_eq_true (by omega)]
    show (((BitVec.setWidth 32 (BitVec.ofBool true)).toInt : ℝ) : EReal) = 1
    rw [show (BitVec.setWidth 32 (BitVec.ofBool true)).toInt = 1 from by decide]
    simp

end Cert.Norm

end
-- ==== Proof.Elem.Norm.lean ====
/-
  The root-mean-square norm: the kernel's arrays and the reference's, entry by entry.
-/
module

public import proofs.«01_k».proof.Proof.Gen.Kernel19Ideal.Value
public import proofs.«01_k».proof.Proof.Gen.Reference19Ideal.Run
public import proofs.«01_k».proof.Proof.Elem.Rms
public import Idealize.ShloMosaic.Lib.Pipeline.ValueKit
public import Idealize.ShloMosaic.Lib.Pointwise
public import Idealize.ShloMosaic.PureOps.Ideal.Laws

@[expose] public section

set_option maxHeartbeats 2000000

noncomputable section

namespace Cert.Kernel19Ideal.Elem

open Cert.Kernel19Ideal Cert.Kernel19Ideal.Gen Idealize.ShloMosaic Idealize.ShloMosaic.TcCoe Idealize.SL.Sem
open Idealize.ShloMosaic.Pipeline (Dat)

/-- The norm of every row; zero in the first 240 rows. -/
def xn (h : S16640x1024.Idx → EReal) (g : S1024.Idx → EReal) (i : S16640x1024.Idx) : EReal :=
  if (i 0).val < 240 then 0 else Norm.norm (fun k => h (ix2 (i 0) k)) (fun k => g (ix1 k)) (i 1)

/-- What a point leaves in the first output block. -/
theorem out_eq (co : grid0.Coords) (P0 : Vec Ideal S640x1024 .f32) (P1 : Vec Ideal S1x1024 .f32) (j : S640x1024.Idx) :
    out0_2 co P0 P1 j = if 640 * (co 0).val + (j 0).val < 240 then 0 else Norm.norm (fun k => P0 (ix2 (j 0) k)) (fun k => P1 (ix2 0 k)) (j 1) := by
  have e : P0 j = P0 (ix2 (j 0) (j 1)) := congrArg P0 (by funext a; fin_cases a <;> rfl)
  unfold out0_2
  frame_out
  unfold k0_pay1
  pointwise
  rw [Norm.mask (co 0).isLt (j 0).isLt]
  by_cases h : 640 * (co 0).val + (j 0).val < 240
  · rw [if_pos h, if_pos h, mul_zero]
  · rw [if_neg h, if_neg h, mul_one, e]
    rfl

/-- What a point leaves in the second output block. -/
theorem out3_eq (co : grid0.Coords) (P0 : Vec Ideal S640x1024 .f32) (P1 : Vec Ideal S1x1024 .f32) (j : S640x1024.Idx) : out0_3 co P0 P1 j = P0 j := by
  unfold out0_3
  frame_out

/-- Where the blocks of the operands lie. -/
theorem idx (t : Fin cfg0.N) : win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0) t

/-- A point's only coordinate is its number. -/
theorem coord (t : Fin cfg0.N) : (grid0.coords t (0 : Fin 1)).val = t.val :=
  (by decide +kernel : ∀ t : Fin grid0.N, (grid0.coords t (0 : Fin 1)).val = t.val) t

/-- Every point writes its output blocks back. -/
theorem flush2 (t : Fin cfg0.N) : (cfg0.win 2).flush t = true := (by decide +kernel : ∀ t : Fin grid0.N, win0_2.flush t = true) t
theorem flush3 (t : Fin cfg0.N) : (cfg0.win 3).flush t = true := (by decide +kernel : ∀ t : Fin grid0.N, win0_3.flush t = true) t

/-- The point whose output blocks hold an entry, and the entry's place in the block. -/
def ptOf (i : S16640x1024.Idx) : Fin cfg0.N := ⟨(i 0).val / 640, by
  have hi0 : (i 0).val < 16640 := (i 0).isLt
  rw [show cfg0.N = 26 from N_0]; omega⟩

def locOf (i : S16640x1024.Idx) : S640x1024.Idx :=
  ix2 ⟨(i 0).val % 640, Nat.mod_lt _ (by decide)⟩ ⟨(i 1).val, (i 1).isLt⟩

theorem read2 (W : Vec Ideal S16640x1024 .bf16) (i : S16640x1024.Idx) :
    (((cfg0.win 2).blk (ptOf i)).view.read (Elt Ideal) W : Vec Ideal S640x1024 .bf16) (locOf i) = W i := by
  obtain ⟨e0, e1, e2, e3, e4, e5, e6, e7⟩ := idx (ptOf i)
  have hi0 : (i 0).val < 16640 := (i 0).isLt
  have hp : (ptOf i).val = (i 0).val / 640 := rfl
  have l0 : (locOf i 0).val = (i 0).val % 640 := rfl
  have l1 : (locOf i 1).val = (i 1).val := rfl
  blk_ext [e4, e5, hp, l0, l1]

theorem read3 (W : Vec Ideal S16640x1024 .f32) (i : S16640x1024.Idx) :
    (((cfg0.win 3).blk (ptOf i)).view.read (Elt Ideal) W : Vec Ideal S640x1024 .f32) (locOf i) = W i := by
  obtain ⟨e0, e1, e2, e3, e4, e5, e6, e7⟩ := idx (ptOf i)
  have hi0 : (i 0).val < 16640 := (i 0).isLt
  have hp : (ptOf i).val = (i 0).val / 640 := rfl
  have l0 : (locOf i 0).val = (i 0).val % 640 := rfl
  have l1 : (locOf i 1).val = (i 1).val := rfl
  blk_ext [e6, e7, hp, l0, l1]

variable (m : (ℓ : Loc nD τ sig) → Buf (Elt Ideal) ℓ) (c : Dev nD)

/-- The arguments. -/
def a0 : Vec Ideal S16640x1024 .f32 := m ((c : Thread nD τ).loc main_arg0)
def a1 : Vec Ideal S1024 .f32 := m ((c : Thread nD τ).loc main_arg1)

/-- The blocks of the operands at a point. -/
def x0 (t : Fin cfg0.N) : Vec Ideal S640x1024 .f32 := iblk m c 0 t
def x1 (t : Fin cfg0.N) : Vec Ideal S1x1024 .f32 := iblk m c 1 t

theorem blk0 (i : S16640x1024.Idx) (k : Fin 1024) : x0 m c (ptOf i) (ix2 (locOf i 0) k) = a0 m c (ix2 (i 0) k) := by
  obtain ⟨e0, e1, e2, e3, e4, e5, e6, e7⟩ := idx (ptOf i)
  have hi0 : (i 0).val < 16640 := (i 0).isLt
  have hp : (ptOf i).val = (i 0).val / 640 := rfl
  have l0 : (locOf i 0).val = (i 0).val % 640 := rfl
  unfold x0 a0 iblk
  rw [← V_main_arg0 m c]
  show (((cfg0.win 0).blk (ptOf i)).view.read (Elt Ideal) (V m c main_arg0) : Vec Ideal S640x1024 .f32) _ = (V m c main_arg0 : Vec Ideal S16640x1024 .f32) _
  generalize V m c main_arg0 = W
  blk_ext [e0, e1, hp, l0]

/-- The call's gain operand is the gain, as one row. -/
theorem V_g (k : Fin 1024) : (V m c main_v0 : Vec Ideal S1x1024 .f32) (ix2 0 k) = a1 m c (ix1 k) := by
  have h : V m c main_v0 = (broadcastInDim S1x1024 ![1] bcast_S1024_S1x1024_1 (a1 m c) : Vec Ideal S1x1024 .f32) := by
    unfold V
    after_results
    rfl
  rw [h]
  generalize a1 m c = W
  pointwise

theorem blk1 (t : Fin cfg0.N) (k : Fin 1024) : x1 m c t (ix2 0 k) = a1 m c (ix1 k) := by
  obtain ⟨e0, e1, e2, e3, e4, e5, e6, e7⟩ := idx t
  refine Eq.trans ?_ (V_g m c k)
  unfold x1 iblk
  show (((cfg0.win 1).blk t).view.read (Elt Ideal) (V m c main_v0) : Vec Ideal S1x1024 .f32) _ = (V m c main_v0 : Vec Ideal S1x1024 .f32) _
  generalize V m c main_v0 = W
  blk_ext [e2, e3]

/-- The call's first result. -/
theorem arr2_eq : (dats m 0 c).arrAt 2 cfg0.N = xn (a0 m c) (a1 m c) := by
  funext i
  refine (read2 _ i).symm.trans ?_
  refine (congrFun ((Value.blocks2 m c (ptOf i) (flush2 _)).trans (Value.flushed2 m c (ptOf i))) (locOf i)).trans ?_
  refine (out_eq (grid0.coords (ptOf i)) (x0 m c (ptOf i)) (x1 m c (ptOf i)) (locOf i)).trans ?_
  have hr : 640 * (grid0.coords (ptOf i) 0).val + (locOf i 0).val = (i 0).val := by
    rw [show (grid0.coords (ptOf i) 0).val = (ptOf i).val from coord (ptOf i)]
    show 640 * ((i 0).val / 640) + (i 0).val % 640 = _
    omega
  have h0 : (fun k => x0 m c (ptOf i) (ix2 (locOf i 0) k)) = fun k => a0 m c (ix2 (i 0) k) := funext (blk0 m c i)
  have h1 : (fun k => x1 m c (ptOf i) (ix2 0 k)) = fun k => a1 m c (ix1 k) := funext (blk1 m c (ptOf i))
  rw [hr, h0, h1]
  rfl

/-- The call's second result: its first argument. -/
theorem arr3_eq : (dats m 0 c).arrAt 3 cfg0.N = a0 m c := by
  funext i
  refine (read3 _ i).symm.trans ?_
  refine (congrFun ((Value.blocks3 m c (ptOf i) (flush3 _)).trans (Value.flushed3 m c (ptOf i))) (locOf i)).trans ?_
  refine (out3_eq (grid0.coords (ptOf i)) (x0 m c (ptOf i)) (x1 m c (ptOf i)) (locOf i)).trans ?_
  have e : locOf i = ix2 (locOf i 0) (i 1) := by funext a; fin_cases a <;> rfl
  have e' : ix2 (i 0) (i 1) = i := by funext a; fin_cases a <;> rfl
  exact (congrArg (x0 m c (ptOf i)) e).trans ((blk0 m c i (i 1)).trans (congrArg (a0 m c) e'))

end Cert.Kernel19Ideal.Elem

namespace Cert.Reference19Ideal.Elem

open Cert.Reference19Ideal Cert.Reference19Ideal.Gen Idealize.ShloMosaic Idealize.ShloMosaic.TcCoe Idealize.SL.Sem
open Cert.Kernel19Ideal.Elem (xn)

/-- The reference's term is the same array. -/
theorem ref_eq (h : Vec Ideal S16640x1024 .f32) (g : Vec Ideal S1024 .f32) :
    (truncf .bf16 (concatenate S16640x1024 0 [⟨S240x1024, (broadcastInDim S240x1024 ![] bcast_S_S240x1024 (constant S_ .f32 0x00000000#32))⟩, ⟨S16400x1024, (mulf (mulf (extractStridedSlice S16400x1024 ![240, 0] h slices_S16640x1024_S16400x1024_240_0) (broadcastInDim S16400x1024 ![0, 1] bcast_S16400x1_S16400x1024_0_1 (Host.rsqrt (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1024 ![0, 1] bcast_S1x1024_S16400x1024_0_1 (broadcastInDim S1x1024 ![1] bcast_S1024_S1x1024_1 g)))⟩] concatenates_S240x1024_S16400x1024_S16640x1024_d0) bitsLt_bf16_f32 : FVec Ideal S16640x1024 .bf16) = xn h g := by
  funext i
  unfold xn
  by_cases hi : (i 0).val < 240
  · rw [if_pos hi]
    pointwise
    exact dif_pos hi
  · rw [if_neg hi]
    pointwise
    refine (dif_neg hi).trans ?_
    have e : ∀ (p : 240 + ((i 0).val - 240) < 16640), (⟨240 + ((i 0).val - 240), p⟩ : Fin 16640) = i 0 := fun p => Fin.ext (by show 240 + ((i 0).val - 240) = (i 0).val; omega)
    simp only [e]
    rfl

end Cert.Reference19Ideal.Elem

end
-- ==== Proof.Elem.DNormGrad.lean ====
/-
  The gradient of the root-mean-square norm: the arrays that the kernel and the reference both compute.
-/
module

public import proofs.«01_k».proof.Proof.Gen.Kernel20Ideal.Value
public import proofs.«01_k».proof.Proof.Elem.Rms
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel20Ideal.Elem

open Cert.Kernel20Ideal Cert.Kernel20Ideal.Gen Idealize.ShloMosaic Idealize.ShloMosaic.TcCoe Idealize.SL.Sem
open Idealize.ShloMosaic.Pipeline (Dat)

/-- The gradient of every row: that of the residual, and below the first 240 rows that of the norm. -/
def dh (h : S16640x1024.Idx → EReal) (g : S1024.Idx → EReal) (dxn dskip : S16640x1024.Idx → EReal) (i : S16640x1024.Idx) : EReal :=
  dskip i + if (i 0).val < 240 then 0
    else Norm.dnorm (fun k => h (ix2 (i 0) k)) (fun k => g (ix1 k)) (fun k => dxn (ix2 (i 0) k)) (i 1)

/-- One row's part of the gain's gradient, nothing in the first 240 rows. -/
def part (h dxn : S16640x1024.Idx → EReal) (k : Fin 1024) (n : Fin 16640) : EReal :=
  if n.val < 240 then 0 else h (ix2 n k) * Ideal.rsqrt (Norm.ms fun l => h (ix2 n l)) * dxn (ix2 n k)

/-- The gradient of the gain, as one row. -/
def dg (h dxn : S16640x1024.Idx → EReal) (i : S1x1024.Idx) : EReal := ∑ n : Fin 16640, part h dxn (i 1) n

end Cert.Kernel20Ideal.Elem

end
-- ==== Proof.Elem.DNormBlock.lean ====
/-
  The gradient of the root-mean-square norm: what a block of rows gives.
-/
module

public import proofs.«01_k».proof.Proof.Gen.Kernel20Ideal.Value
public import proofs.«01_k».proof.Proof.Elem.Rms
public import proofs.«01_k».proof.Proof.Elem.DNormGrad
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel20Ideal.Elem

open Cert.Kernel20Ideal Cert.Kernel20Ideal.Gen Idealize.ShloMosaic Idealize.ShloMosaic.TcCoe Idealize.SL.Sem
open Idealize.ShloMosaic.Pipeline (Dat)

/-- The row gradients of a block. -/
theorem rows_apply (co : grid0.Coords) (P0 : Vec Ideal S640x1024 .f32) (P1 : Vec Ideal S1x1024 .f32) (P2 : Vec Ideal S640x1024 .bf16) (P3 : Vec Ideal S640x1024 .f32) (j : S640x1024.Idx) :
    k0_pay1 P0 (k0_pay9 co P0 P1 P2 P3) (k0_pay10 co P0 P1 P2) k0_pay11 j
      = P3 j + if 640 * (co 0).val + (j 0).val < 240 then 0
        else Norm.dnorm (fun k => P0 (ix2 (j 0) k)) (fun k => P1 (ix2 0 k)) (fun k => P2 (ix2 (j 0) k)) (j 1) := by
  have e : j = ix2 (j 0) (j 1) := by funext a; fin_cases a <;> rfl
  have e0 : P0 j = P0 (ix2 (j 0) (j 1)) := congrArg P0 e
  have e2 : P2 j = P2 (ix2 (j 0) (j 1)) := congrArg P2 e
  have key : ∀ (q : EReal), k0_pay1 P0 (k0_pay9 co P0 P1 P2 P3) (k0_pay10 co P0 P1 P2) k0_pay11 j
      = P3 j + Norm.dnorm (fun k => P0 (ix2 (j 0) k)) (fun k => P1 (ix2 0 k)) (fun k => P2 (ix2 (j 0) k) * (if 640 * (co 0).val + (j 0).val < 240 then 0 else 1)) (j 1) := by
    intro q
    unfold k0_pay1 k0_pay9 k0_pay10 k0_pay11 k0_pay8 k0_pay6 k0_pay5 k0_pay4
    pointwise
    simp only [Finset.univ_unique, Finset.sum_singleton]
    rw [Norm.mask (co 0).isLt (j 0).isLt, add_assoc, add_assoc, e0, e2]
    refine congrArg (P3 j + ·) ?_
    rw [← add_assoc]
    rfl
  rw [key 0]
  refine congrArg (P3 j + ·) ?_
  by_cases h : 640 * (co 0).val + (j 0).val < 240
  · simp only [if_pos h, mul_zero]
    exact Norm.dnorm_zero _ _ _
  · simp only [if_neg h, mul_one]

/-- What a block adds to the gain's gradient. -/
theorem gain_apply (co : grid0.Coords) (P0 : Vec Ideal S640x1024 .f32) (P2 : Vec Ideal S640x1024 .bf16) (P5 : Vec Ideal S1x1024 .f32) (j : S1x1024.Idx) :
    k0_pay3 (k0_pay7 co P0 P2) P5 j = P5 j + ∑ r : Fin 640, if 640 * (co 0).val + r.val < 240 then (0 : EReal)
      else P0 (ix2 r (j 1)) * Ideal.rsqrt (Norm.ms fun l => P0 (ix2 r l)) * P2 (ix2 r (j 1)) := by
  unfold k0_pay3 k0_pay7 k0_pay6 k0_pay5 k0_pay4
  pointwise
  refine congrArg (P5 j + ·) (Finset.sum_congr (M := EReal) rfl fun r _ => ?_)
  rw [Norm.mask (co 0).isLt r.isLt]
  by_cases h : 640 * (co 0).val + r.val < 240
  · rw [if_pos h, if_pos h, mul_zero, mul_zero]
  · rw [if_neg h, if_neg h, mul_one]
    rfl

theorem zero_apply (j : S1x1024.Idx) : k0_pay2 (F := Ideal) j = 0 := by
  unfold k0_pay2
  pointwise
  done

end Cert.Kernel20Ideal.Elem

end
-- ==== Proof.Elem.DNormPoint.lean ====
/-
  The gradient of the root-mean-square norm: what a grid point writes, and where its operands lie.
-/
module

public import proofs.«01_k».proof.Proof.Gen.Kernel20Ideal.Value
public import proofs.«01_k».proof.Proof.Elem.Rms
public import proofs.«01_k».proof.Proof.Elem.DNormGrad
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel20Ideal.Elem

open Cert.Kernel20Ideal Cert.Kernel20Ideal.Gen Idealize.ShloMosaic Idealize.ShloMosaic.TcCoe Idealize.SL.Sem
open Idealize.ShloMosaic.Pipeline (Dat)

/-- Where the blocks of the operands lie. -/
theorem idx (t : Fin cfg0.N) : win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0 :=
  (by decide +kernel : ∀ t : Fin grid0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0) t

/-- A point's only coordinate is its number. -/
theorem coord (t : Fin cfg0.N) : (grid0.coords t (0 : Fin 1)).val = t.val :=
  (by decide +kernel : ∀ t : Fin grid0.N, (grid0.coords t (0 : Fin 1)).val = t.val) t

theorem lt26 (t : Fin cfg0.N) : t.val < 26 := lt_of_lt_of_eq t.isLt (show cfg0.N = 26 from N_0)

variable (m : (ℓ : Loc nD τ sig) → Buf (Elt Ideal) ℓ) (c : Dev nD)

/-- Two zeros are the zero offset. -/
theorem hz2 : (![0, 0] : Fin 2 → Nat) = fun _ => 0 := funext fun a => by fin_cases a <;> rfl

/-- What the first point leaves in the block of the row gradients. -/
theorem first_dh (t : Fin cfg0.N) (h0 : t.val % 26 = 0) (P0 : Vec Ideal S640x1024 .f32) (P1 : Vec Ideal S1x1024 .f32) (P2 : Vec Ideal S640x1024 .bf16) (P3 : Vec Ideal S640x1024 .f32) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) P0 P1 P2 P3 = k0_pay1 P0 (k0_pay9 (grid0.coords t) P0 P1 P2 P3) (k0_pay10 (grid0.coords t) P0 P1 P2) k0_pay11 := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) P0 P1 P2 P3)]
  unfold kernelRun0_A
  dsimp only
  try sl_unfold_words
  rw [View.canon_unit_zero hz2]
  simp only [View.readAt_eq_ld, (hs0_0 t).read_unread, (hs0_1 t).read_unread, (hs0_2 t).read_unread, (hs0_3 t).read_unread, (hs0_5 t).read_unread, View.ld_unit_zero (S := S640x1024) hz2, View.ld_unit_zero (S := S1x1024) hz2, shapeCast_self]

/-- What the first point leaves in the block of the gain's gradient. -/
theorem first_dg (t : Fin cfg0.N) (h0 : t.val % 26 = 0) (P0 : Vec Ideal S640x1024 .f32) (P1 : Vec Ideal S1x1024 .f32) (P2 : Vec Ideal S640x1024 .bf16) (P3 : Vec Ideal S640x1024 .f32) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) P0 P1 P2 P3 = k0_pay3 (k0_pay7 (grid0.coords t) P0 P2) (k0_pay2 (F := Ideal)) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) P0 P1 P2 P3)]
  unfold kernelRun0_A
  dsimp only
  try sl_unfold_words
  rw [View.canon_cons_unit_zero (S := S1x1024) hz2, View.readCov_unit_zero (S := S1x1024) _ hz2]
  simp only [View.readAt_eq_ld, (hs0_0 t).read_unread, (hs0_1 t).read_unread, (hs0_2 t).read_unread, (hs0_3 t).read_unread, (hs0_5 t).read_unread, View.ld_unit_zero (S := S640x1024) hz2, View.ld_unit_zero (S := S1x1024) hz2, shapeCast_self]

/-- What a later point leaves in the block of the row gradients. -/
theorem later_dh (t : Fin cfg0.N) (h0 : ¬ t.val % 26 = 0) (P0 : Vec Ideal S640x1024 .f32) (P1 : Vec Ideal S1x1024 .f32) (P2 : Vec Ideal S640x1024 .bf16) (P3 : Vec Ideal S640x1024 .f32) (P5 : Vec Ideal S1x1024 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) P0 P1 P2 P3 P5 = k0_pay1 P0 (k0_pay9 (grid0.coords t) P0 P1 P2 P3) (k0_pay10 (grid0.coords t) P0 P1 P2) k0_pay11 := by
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) P0 P1 P2 P3 P5)]
  unfold kernelRun0_B
  dsimp only
  try sl_unfold_words
  rw [View.canon_unit_zero hz2]
  simp only [View.readAt_eq_ld, (hs0_0 t).read_unread, (hs0_1 t).read_unread, (hs0_2 t).read_unread, (hs0_3 t).read_unread, (hs0_5 t).read_unread, View.ld_unit_zero (S := S640x1024) hz2, View.ld_unit_zero (S := S1x1024) hz2, shapeCast_self]

/-- What a later point leaves in the block of the gain's gradient, over what it found there. -/
theorem later_dg (t : Fin cfg0.N) (h0 : ¬ t.val % 26 = 0) (P0 : Vec Ideal S640x1024 .f32) (P1 : Vec Ideal S1x1024 .f32) (P2 : Vec Ideal S640x1024 .bf16) (P3 : Vec Ideal S640x1024 .f32) (P5 : Vec Ideal S1x1024 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) P0 P1 P2 P3 P5 = k0_pay3 (k0_pay7 (grid0.coords t) P0 P2) P5 := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) P0 P1 P2 P3 P5)]
  unfold kernelRun0_B
  dsimp only
  try sl_unfold_words
  rw [View.canon_unit_zero hz2]
  simp only [View.readAt_eq_ld, (hs0_0 t).read_unread, (hs0_1 t).read_unread, (hs0_2 t).read_unread, (hs0_3 t).read_unread, (hs0_5 t).read_unread, View.ld_unit_zero (S := S640x1024) hz2, View.ld_unit_zero (S := S1x1024) hz2, shapeCast_self]

/-- The arguments. -/
def a0 : Vec Ideal S16640x1024 .f32 := m ((c : Thread nD τ).loc main_arg0)
def a1 : Vec Ideal S1024 .f32 := m ((c : Thread nD τ).loc main_arg1)
def a2 : Vec Ideal S16640x1024 .bf16 := m ((c : Thread nD τ).loc main_arg2)
def a3 : Vec Ideal S16640x1024 .f32 := m ((c : Thread nD τ).loc main_arg3)

/-- The blocks of the operands at a point. -/
def x0 (t : Fin cfg0.N) : Vec Ideal S640x1024 .f32 := iblk m c 0 t
def x1 (t : Fin cfg0.N) : Vec Ideal S1x1024 .f32 := iblk m c 1 t
def x2 (t : Fin cfg0.N) : Vec Ideal S640x1024 .bf16 := iblk m c 2 t
def x3 (t : Fin cfg0.N) : Vec Ideal S640x1024 .f32 := iblk m c 3 t

theorem blk0 (t : Fin cfg0.N) {r : ℕ} (hr : r < 640) (k : Fin 1024) : x0 m c t (ix2 ⟨r, hr⟩ k)
    = a0 m c (ix2 ⟨640 * t.val + r, by have := lt26 t; omega⟩ k) := by
  obtain ⟨e0, e1, e2, e3, e4, e5, e6, e7, e8, e9, e10, e11⟩ := idx t
  have ht := lt26 t
  unfold x0 a0 iblk
  rw [← V_main_arg0 m c]
  show (((cfg0.win 0).blk t).view.read (Elt Ideal) (V m c main_arg0) : Vec Ideal S640x1024 .f32) _ = (V m c main_arg0 : Vec Ideal S16640x1024 .f32) _
  generalize V m c main_arg0 = W
  blk_ext [e0, e1]

theorem blk2 (t : Fin cfg0.N) {r : ℕ} (hr : r < 640) (k : Fin 1024) : x2 m c t (ix2 ⟨r, hr⟩ k)
    = a2 m c (ix2 ⟨640 * t.val + r, by have := lt26 t; omega⟩ k) := by
  obtain ⟨e0, e1, e2, e3, e4, e5, e6, e7, e8, e9, e10, e11⟩ := idx t
  have ht := lt26 t
  unfold x2 a2 iblk
  rw [← V_main_arg2 m c]
  show (((cfg0.win 2).blk t).view.read (Elt Ideal) (V m c main_arg2) : Vec Ideal S640x1024 .bf16) _ = (V m c main_arg2 : Vec Ideal S16640x1024 .bf16) _
  generalize V m c main_arg2 = W
  blk_ext [e4, e5]

theorem blk3 (t : Fin cfg0.N) {r : ℕ} (hr : r < 640) (k : Fin 1024) : x3 m c t (ix2 ⟨r, hr⟩ k)
    = a3 m c (ix2 ⟨640 * t.val + r, by have := lt26 t; omega⟩ k) := by
  obtain ⟨e0, e1, e2, e3, e4, e5, e6, e7, e8, e9, e10, e11⟩ := idx t
  have ht := lt26 t
  unfold x3 a3 iblk
  rw [← V_main_arg3 m c]
  show (((cfg0.win 3).blk t).view.read (Elt Ideal) (V m c main_arg3) : Vec Ideal S640x1024 .f32) _ = (V m c main_arg3 : Vec Ideal S16640x1024 .f32) _
  generalize V m c main_arg3 = W
  blk_ext [e6, e7]

/-- The call's gain operand is the gain, as one row. -/
theorem V_g (k : Fin 1024) : (V m c main_v0 : Vec Ideal S1x1024 .f32) (ix2 0 k) = a1 m c (ix1 k) := by
  have h : V m c main_v0 = (broadcastInDim S1x1024 ![1] bcast_S1024_S1x1024_1 (a1 m c) : Vec Ideal S1x1024 .f32) := by
    unfold V
    after_results
    rfl
  rw [h]
  generalize a1 m c = W
  pointwise

theorem blk1 (t : Fin cfg0.N) (k : Fin 1024) : x1 m c t (ix2 0 k) = a1 m c (ix1 k) := by
  obtain ⟨e0, e1, e2, e3, e4, e5, e6, e7, e8, e9, e10, e11⟩ := idx t
  refine Eq.trans ?_ (V_g m c k)
  unfold x1 iblk
  show (((cfg0.win 1).blk t).view.read (Elt Ideal) (V m c main_v0) : Vec Ideal S1x1024 .f32) _ = (V m c main_v0 : Vec Ideal S1x1024 .f32) _
  generalize V m c main_v0 = W
  blk_ext [e2, e3]

end Cert.Kernel20Ideal.Elem

end
-- ==== Proof.Elem.DNorm.lean ====
/-
  The gradient of the root-mean-square norm: the kernel's arrays, entry by entry.
-/
module

public import proofs.«01_k».proof.Proof.Gen.Kernel20Ideal.Value
public import proofs.«01_k».proof.Proof.Elem.Rms
public import proofs.«01_k».proof.Proof.Elem.DNormBlock
public import proofs.«01_k».proof.Proof.Elem.DNormPoint
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Kernel20Ideal.Elem

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- What a point leaves in its block of row gradients. -/
theorem fst_eq (t : Fin cfg0.N) : (outsAt0 m c t.val t.isLt).1
    = k0_pay1 (x0 m c t) (k0_pay9 (grid0.coords t) (x0 m c t) (x1 m c t) (x2 m c t) (x3 m c t)) (k0_pay10 (grid0.coords t) (x0 m c t) (x1 m c t) (x2 m c t)) k0_pay11 := by
  unfold x0 x1 x2 x3
  by_cases h0 : t.val % 26 = 0
  · rw [outsAt0_A m c t h0]
    dsimp only
    exact first_dh c t h0 (iblk m c 0 t) (iblk m c 1 t) (iblk m c 2 t) (iblk m c 3 t)
  · rw [outsAt0_B m c t h0]
    dsimp only
    exact later_dh c t h0 (iblk m c 0 t) (iblk m c 1 t) (iblk m c 2 t) (iblk m c 3 t) (outsAt0 m c (t.val - 1) (Nat.lt_of_le_of_lt (Nat.sub_le _ _) t.isLt)).2

/-- What the first point leaves in the block of the gain's gradient. -/
theorem snd_first (t : Fin cfg0.N) (h0 : t.val % 26 = 0) : (outsAt0 m c t.val t.isLt).2
    = k0_pay3 (k0_pay7 (grid0.coords t) (x0 m c t) (x2 m c t)) (k0_pay2 (F := Ideal)) := by
  unfold x0 x2
  rw [outsAt0_A m c t h0]
  dsimp only
  exact first_dg c t h0 (iblk m c 0 t) (iblk m c 1 t) (iblk m c 2 t) (iblk m c 3 t)

/-- What a later point leaves there. -/
theorem snd_later (t : Fin cfg0.N) (h0 : ¬ t.val % 26 = 0) : (outsAt0 m c t.val t.isLt).2
    = k0_pay3 (k0_pay7 (grid0.coords t) (x0 m c t) (x2 m c t)) (outsAt0 m c (t.val - 1) (Nat.lt_of_le_of_lt (Nat.sub_le _ _) t.isLt)).2 := by
  unfold x0 x2
  rw [outsAt0_B m c t h0]
  dsimp only
  exact later_dg c t h0 (iblk m c 0 t) (iblk m c 1 t) (iblk m c 2 t) (iblk m c 3 t) (outsAt0 m c (t.val - 1) (Nat.lt_of_le_of_lt (Nat.sub_le _ _) t.isLt)).2

/-- Every point writes its block of row gradients back. -/
theorem flush4 (t : Fin cfg0.N) : (cfg0.win 4).flush t = true := (by decide +kernel : ∀ t : Fin grid0.N, win0_4.flush t = true) t

/-- The point whose block holds an entry, and the entry's place in the block. -/
def ptOf (i : S16640x1024.Idx) : Fin cfg0.N := ⟨(i 0).val / 640, by
  have hi0 : (i 0).val < 16640 := (i 0).isLt
  rw [show cfg0.N = 26 from N_0]; omega⟩

def locOf (i : S16640x1024.Idx) : S640x1024.Idx :=
  ix2 ⟨(i 0).val % 640, Nat.mod_lt _ (by decide)⟩ ⟨(i 1).val, (i 1).isLt⟩

theorem read4 (W : Vec Ideal S16640x1024 .f32) (i : S16640x1024.Idx) :
    (((cfg0.win 4).blk (ptOf i)).view.read (Elt Ideal) W : Vec Ideal S640x1024 .f32) (locOf i) = W i := by
  obtain ⟨e0, e1, e2, e3, e4, e5, e6, e7, e8, e9, e10, e11⟩ := idx (ptOf i)
  have hi0 : (i 0).val < 16640 := (i 0).isLt
  have hp : (ptOf i).val = (i 0).val / 640 := rfl
  have l0 : (locOf i 0).val = (i 0).val % 640 := rfl
  have l1 : (locOf i 1).val = (i 1).val := rfl
  blk_ext [e8, e9, hp, l0, l1]

/-- The call's first result. -/
theorem arr4_eq : (dats m 0 c).arrAt 4 cfg0.N = dh (a0 m c) (a1 m c) (a2 m c) (a3 m c) := by
  funext i
  refine (read4 _ i).symm.trans ?_
  refine (congrFun ((Value.blocks4 m c (ptOf i) (flush4 _)).trans (Value.flushed4 m c (ptOf i))) (locOf i)).trans ?_
  refine (congrFun (fst_eq m c (ptOf i)) (locOf i)).trans ?_
  refine (rows_apply (grid0.coords (ptOf i)) (x0 m c (ptOf i)) (x1 m c (ptOf i)) (x2 m c (ptOf i)) (x3 m c (ptOf i)) (locOf i)).trans ?_
  have hi0 : (i 0).val < 16640 := (i 0).isLt
  have hn : 640 * (ptOf i).val + (i 0).val % 640 = (i 0).val := by
    show 640 * ((i 0).val / 640) + (i 0).val % 640 = _
    omega
  have hr : 640 * (grid0.coords (ptOf i) 0).val + (locOf i 0).val = (i 0).val := by
    rw [show (grid0.coords (ptOf i) 0).val = (ptOf i).val from coord (ptOf i)]
    exact hn
  have hf : ∀ (p : 640 * (ptOf i).val + (i 0).val % 640 < 16640), (⟨640 * (ptOf i).val + (i 0).val % 640, p⟩ : Fin 16640) = i 0 := fun p => Fin.ext hn
  have b0 : (fun k => x0 m c (ptOf i) (ix2 (locOf i 0) k)) = fun k => a0 m c (ix2 (i 0) k) :=
    funext fun k => (blk0 m c (ptOf i) (Nat.mod_lt _ (by decide)) k).trans (congrArg (fun n => a0 m c (ix2 n k)) (hf _))
  have b1 : (fun k => x1 m c (ptOf i) (ix2 0 k)) = fun k => a1 m c (ix1 k) := funext (blk1 m c (ptOf i))
  have b2 : (fun k => x2 m c (ptOf i) (ix2 (locOf i 0) k)) = fun k => a2 m c (ix2 (i 0) k) :=
    funext fun k => (blk2 m c (ptOf i) (Nat.mod_lt _ (by decide)) k).trans (congrArg (fun n => a2 m c (ix2 n k)) (hf _))
  have b3 : x3 m c (ptOf i) (locOf i) = a3 m c i :=
    (blk3 m c (ptOf i) (Nat.mod_lt _ (by decide)) (i 1)).trans ((congrArg (fun n => a3 m c (ix2 n (i 1))) (hf _)).trans
      (congrArg (a3 m c) (by funext a; fin_cases a <;> rfl)))
  rw [hr, b0, b1, b2, b3]
  rfl

/-- What a point adds to the gain's gradient. -/
def term (t : Fin cfg0.N) (j : S1x1024.Idx) : EReal :=
  ∑ r : Fin 640, part (a0 m c) (a2 m c) (j 1) ⟨640 * t.val + r.val, by have := lt26 t; have := r.isLt; omega⟩

theorem step_apply (t : Fin cfg0.N) (acc : Vec Ideal S1x1024 .f32) (j : S1x1024.Idx) :
    k0_pay3 (k0_pay7 (grid0.coords t) (x0 m c t) (x2 m c t)) acc j = acc j + term m c t j := by
  refine (gain_apply (grid0.coords t) (x0 m c t) (x2 m c t) acc j).trans ?_
  refine congrArg (acc j + ·) (Finset.sum_congr (M := EReal) rfl fun r _ => ?_)
  rw [show (grid0.coords t 0).val = t.val from coord t]
  unfold part
  by_cases h : 640 * t.val + r.val < 240
  · exact (if_pos h).trans (if_pos h).symm
  · refine (if_neg h).trans (Eq.trans ?_ (if_neg h).symm)
    exact congrArg₂ (· * ·) (congrArg₂ (· * ·) (blk0 m c t r.isLt _) (congrArg (fun f => Ideal.rsqrt (Norm.ms f)) (funext fun l => blk0 m c t r.isLt l)))
      (blk2 m c t r.isLt _)

/-- The gain's gradient at the last point: the points' parts added up. -/
theorem total (t : Fin cfg0.N) (h : t.val % 26 = 26 - 1) (j : S1x1024.Idx) :
    (outsAt0 m c t.val t.isLt).2 j = 0 + ∑ s : Fin 26, term m c ⟨26 * (t.val / 26) + s.val, Pipeline.run_point_lt_of_flush t h s⟩ j := by
  refine Pipeline.eq_sum_fin_of_reset_step_apply_of_flush (fun n h => (outsAt0 m c n h).2) 26 (fun _ => 0) (term m c) ?_ ?_ t h j
  · intro t h0 i
    refine (congrFun (snd_first m c t h0) i).trans ((step_apply m c t _ i).trans ?_)
    rw [zero_apply]
  · intro t h0 i
    exact (congrFun (snd_later m c t h0) i).trans (step_apply m c t _ i)

theorem read5 (t : Fin cfg0.N) (W : Vec Ideal S1x1024 .f32) (i : S1x1024.Idx) :
    (((cfg0.win 5).blk t).view.read (Elt Ideal) W : Vec Ideal S1x1024 .f32) i = W i := by
  obtain ⟨e0, e1, e2, e3, e4, e5, e6, e7, e8, e9, e10, e11⟩ := idx t
  blk_ext [e10, e11]

/-- The call's second result. -/
theorem arr5_eq : (dats m 0 c).arrAt 5 cfg0.N = dg (a0 m c) (a2 m c) := by
  funext i
  have hN : cfg0.N = 26 := N_0
  obtain ⟨t, ht⟩ : ∃ t : Fin cfg0.N, t.val = 25 := ⟨⟨25, by rw [hN]; decide⟩, rfl⟩
  have hf : (cfg0.win 5).flush t = true := (flush0_5 t).mpr (by omega)
  have hd : ∀ t t' : Fin cfg0.N, (cfg0.win 5).flush t = true → (cfg0.win 5).flush t' = true → t ≠ t' →
      Disjoint ((cfg0.win 5).blk t).view.set ((cfg0.win 5).blk t').view.set := by
    intro t t' h h' hne
    have h1 := (flush0_5 t).mp h
    have h2 := (flush0_5 t').mp h'
    have := lt26 t
    have := lt26 t'
    exact absurd (Fin.ext (by omega)) hne
  refine (read5 t _ i).symm.trans ?_
  refine (congrFun (((dats m 0 c).read_blk_arrAt_eq_flushed 5 hd cfg0.N t t.isLt hf).trans (Value.flushed5 m c t)) i).trans ?_
  refine (total m c t (by omega) i).trans ?_
  rw [zero_add]
  unfold dg
  rw [← Fin.sum_mul_add_fin 26 640 (part (a0 m c) (a2 m c) (i 1))]
  refine Finset.sum_congr (M := EReal) rfl fun s _ => Finset.sum_congr (M := EReal) rfl fun r _ => congrArg _ (Fin.ext ?_)
  show 640 * (26 * (t.val / 26) + s.val) + r.val = _
  simp only [Fin.val_mk]
  omega

end Cert.Kernel20Ideal.Elem

end
-- ==== Proof.Elem.DNormRef.lean ====
/-
  The gradient of the root-mean-square norm: the reference's arrays, entry by entry.
-/
module

public import proofs.«01_k».proof.Proof.Gen.Reference20Ideal.Run
public import proofs.«01_k».proof.Proof.Elem.Rms
public import proofs.«01_k».proof.Proof.Elem.DNormGrad
public import Idealize.ShloMosaic.Lib.Pipeline.ValueKit
public import Idealize.ShloMosaic.Lib.Pointwise
public import Idealize.ShloMosaic.PureOps.Ideal.Laws

@[expose] public section

set_option maxHeartbeats 1000000

noncomputable section

namespace Cert.Reference20Ideal.Elem

open Cert.Reference20Ideal Cert.Reference20Ideal.Gen Idealize.ShloMosaic Idealize.ShloMosaic.TcCoe Idealize.SL.Sem
open Cert.Kernel20Ideal.Elem (dh dg part)

/-- The reference's first result is the same array. -/
theorem ref_dh (h : Vec Ideal S16640x1024 .f32) (g : Vec Ideal S1024 .f32) (dxn : Vec Ideal S16640x1024 .bf16) (dskip : Vec Ideal S16640x1024 .f32) :
    (addf dskip (pad S16640x1024 ![240, 0] ![0, 0] ![0, 0] (addf (addf (mulf (mulf (extractStridedSlice S16400x1024 ![240, 0] (extf .f32 dxn bitsLt_bf16_f32) slices_S16640x1024_S16400x1024_240_0) (broadcastInDim S16400x1024 ![0, 1] bcast_S1x1024_S16400x1024_0_1 (broadcastInDim S1x1024 ![1] bcast_S1024_S1x1024_1 g))) (broadcastInDim S16400x1024 ![0, 1] bcast_S16400x1_S16400x1024_0_1 (Host.rsqrt (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (mulf (extractStridedSlice S16400x1024 ![240, 0] h slices_S16640x1024_S16400x1024_240_0) (broadcastInDim S16400x1024 ![0] bcast_S16400_S16400x1024_0 (Host.reduceAdd (Host.divf (mulf (shapeCast _ (Host.reduceAdd (mulf (extractStridedSlice S16400x1024 ![240, 0] h slices_S16640x1024_S16400x1024_240_0) (mulf (extractStridedSlice S16400x1024 ![240, 0] (extf .f32 dxn bitsLt_bf16_f32) slices_S16640x1024_S16400x1024_240_0) (broadcastInDim S16400x1024 ![0, 1] bcast_S1x1024_S16400x1024_0_1 (broadcastInDim S1x1024 ![1] bcast_S1024_S1x1024_1 g)))) (constant S_ .f32 0x00000000#32) reducesTo_S16400x1024_S16400_d1 h_S_) shapeCasts_S16400_S16400x1) (mulf (broadcastInDim S16400x1 ![] bcast_S_S16400x1 (constant S_ .f32 0xBF000000#32)) (Host.divf (Host.rsqrt (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))) (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1 ![] bcast_S_S16400x1 (constant S_ .f32 0x44800000#32))) (constant S_ .f32 0x00000000#32) reducesTo_S16400x1_S16400_d1 h_S_)))) (mulf (broadcastInDim S16400x1024 ![0] bcast_S16400_S16400x1024_0 (Host.reduceAdd (Host.divf (mulf (shapeCast _ (Host.reduceAdd (mulf (extractStridedSlice S16400x1024 ![240, 0] h slices_S16640x1024_S16400x1024_240_0) (mulf (extractStridedSlice S16400x1024 ![240, 0] (extf .f32 dxn bitsLt_bf16_f32) slices_S16640x1024_S16400x1024_240_0) (broadcastInDim S16400x1024 ![0, 1] bcast_S1x1024_S16400x1024_0_1 (broadcastInDim S1x1024 ![1] bcast_S1024_S1x1024_1 g)))) (constant S_ .f32 0x00000000#32) reducesTo_S16400x1024_S16400_d1 h_S_) shapeCasts_S16400_S16400x1) (mulf (broadcastInDim S16400x1 ![] bcast_S_S16400x1 (constant S_ .f32 0xBF000000#32)) (Host.divf (Host.rsqrt (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))) (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (broadcastInDim S16400x1 ![] bcast_S_S16400x1 (constant S_ .f32 0x44800000#32))) (constant S_ .f32 0x00000000#32) reducesTo_S16400x1_S16400_d1 h_S_)) (extractStridedSlice S16400x1024 ![240, 0] h slices_S16640x1024_S16400x1024_240_0))) (constant S_ .f32 0x00000000#32) pads_S16400x1024_S16640x1024_24000_000 h_S_) : FVec Ideal S16640x1024 .f32) = dh h g dxn dskip := by
  funext i
  have hi0 : (i 0).val < 16640 := (i 0).isLt
  unfold dh
  by_cases hi : (i 0).val < 240
  · rw [if_pos hi]
    pointwise
    have q : ¬ (240 ≤ (i 0).val ∧ (i 0).val - 240 < 16400) := by omega
    exact (congrArg (dskip i + ·) (dif_neg q)).trans (add_zero _)
  · rw [if_neg hi]
    pointwise
    have q : 240 ≤ (i 0).val ∧ (i 0).val - 240 < 16400 := by omega
    refine congrArg (dskip i + ·) ((dif_pos q).trans ?_)
    have e : ∀ (p : 240 + ((i 0).val - 240) < 16640), (⟨240 + ((i 0).val - 240), p⟩ : Fin 16640) = i 0 := fun p => Fin.ext (by show 240 + ((i 0).val - 240) = (i 0).val; omega)
    simp only [Finset.univ_unique, Finset.sum_singleton, e]
    rfl

/-- The reference's second result is the same array. -/
theorem ref_dg (h : Vec Ideal S16640x1024 .f32) (dxn : Vec Ideal S16640x1024 .bf16) :
    (broadcastInDim S1x1024 ![1] bcast_S1024_S1x1024_1 (Host.reduceAdd (shapeCast _ (Host.reduceAdd (mulf (mulf (extractStridedSlice S16400x1024 ![240, 0] h slices_S16640x1024_S16400x1024_240_0) (broadcastInDim S16400x1024 ![0, 1] bcast_S16400x1_S16400x1024_0_1 (Host.rsqrt (addf (Host.divf (broadcastInDim S16400x1 ![0] bcast_S16400_S16400x1_0 (Host.reduceAdd (mulf (extractStridedSlice S16400x1024 ![240, 0] h slices_S16640x1024_S16400x1024_240_0) (extractStridedSlice S16400x1024 ![240, 0] h slices_S16640x1024_S16400x1024_240_0)) (constant S_ .f32 0x00000000#32) reducesTo_S16400x1024_S16400_d1 h_S_)) (broadcastInDim S16400x1 ![] bcast_S_S16400x1 (constant S_ .f32 0x44800000#32))) (broadcastInDim S16400x1 ![] bcast_S_S16400x1 (constant S_ .f32 0x358637BD#32)))))) (extractStridedSlice S16400x1024 ![240, 0] (extf .f32 dxn bitsLt_bf16_f32) slices_S16640x1024_S16400x1024_240_0)) (constant S_ .f32 0x00000000#32) reducesTo_S16400x1024_S1024_d0 h_S_) shapeCasts_S1024_S1x1024) (constant S_ .f32 0x00000000#32) reducesTo_S1x1024_S1024_d0 h_S_) : FVec Ideal S1x1024 .f32) = dg h dxn := by
  funext i
  unfold dg
  refine Eq.trans ?_ (Fin.sum_univ_add (a := 240) (b := 16400) (fun n : Fin (240 + 16400) => part h dxn (i 1) n)).symm
  have z : (∑ n : Fin 240, part h dxn (i 1) (Fin.castAdd 16400 n)) = 0 := Finset.sum_eq_zero fun n _ => if_pos n.isLt
  refine Eq.trans ?_ (congrArg (· + _) z).symm
  rw [zero_add]
  pointwise
  simp only [Finset.univ_unique, Finset.sum_singleton]
  refine Finset.sum_congr (M := EReal) rfl fun n _ => ?_
  refine Eq.trans ?_ (if_neg (by simp only [Fin.val_natAdd]; omega)).symm
  rfl

end Cert.Reference20Ideal.Elem

end
-- ==== Proof.Elem.Claims.lean ====
/-
  The claims on swiglu's gated unit, the causal convolution, the root-mean-square norm and their gradients: every program ends with its arguments unchanged and every
  semaphore at zero, and each call's result over the extended reals is its reference's.
-/
module

public import proofs.«01_k».proof.Defs
public import proofs.«01_k».proof.Proof.Gen.Kernel14.Frame
public import proofs.«01_k».proof.Proof.Elem.Swiglu
public import proofs.«01_k».proof.Proof.Gen.Kernel15.Frame
public import proofs.«01_k».proof.Proof.Elem.DSwiglu
public import proofs.«01_k».proof.Proof.Gen.Kernel16.Frame
public import proofs.«01_k».proof.Proof.Elem.Conv
public import proofs.«01_k».proof.Proof.Gen.Kernel17.Frame
public import proofs.«01_k».proof.Proof.Elem.ConvDx
public import proofs.«01_k».proof.Proof.Gen.Kernel18.Frame
public import proofs.«01_k».proof.Proof.Elem.ConvDw
public import proofs.«01_k».proof.Proof.Gen.Kernel19.Frame
public import proofs.«01_k».proof.Proof.Elem.Norm
public import proofs.«01_k».proof.Proof.Gen.Kernel20.Frame
public import proofs.«01_k».proof.Proof.Elem.DNorm
public import proofs.«01_k».proof.Proof.Elem.DNormRef
public import Idealize.ShloMosaic.Lib.Quiescent

@[expose] public section

set_option maxHeartbeats 1000000

noncomputable section

namespace Cert.Elem

open Idealize.ShloMosaic Idealize.ShloMosaic.TcCoe Idealize.SL.Sem

/-! ## Swiglu's gated unit -/

/-- In machine arithmetic the call ends with its arguments unchanged and every semaphore at zero. -/
theorem frame_kernel14 : Cert.quiescent_Kernel14 (hKernel14 := Cert.Kernel14.Gen.facts) := fun m ρ _ => Cert.Kernel14.Gen.frame (F := Bits) m ρ

/-- The same over the extended reals. -/
theorem frame_kernel14Ideal : Cert.quiescent_Kernel14Ideal (hKernel14Ideal := Cert.Kernel14Ideal.Gen.facts) := fun m ρ _ => Cert.Kernel14Ideal.Gen.frame (F := Ideal) m ρ

/-- The same of the reference. -/
theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems rfl r.2⟩) (Cert.Reference14Ideal.Value.run (F := Ideal) m ρ)

/-- Over the extended reals the call's result is the reference's. -/
theorem equation14 : Cert.algebraic_Kernel14Ideal_Reference14Ideal (hKernel14Ideal := Cert.Kernel14Ideal.Gen.facts) (hReference14Ideal := Cert.Reference14Ideal.Gen.facts) :=
  fun m g m' g' _ hargs =>
  ⟨fun c => Cert.Kernel14Ideal.Elem.act (r := 16640) (m ((c.tc : Thread Cert.Kernel14Ideal.nD Cert.Kernel14Ideal.τ).loc Cert.Kernel14Ideal.main_arg0)),
   (θ_run Cert.Kernel14Ideal.defs _ _).mono (fun r h c => ⟨(h c).1.trans (Cert.Kernel14Ideal.Elem.arr_eq m c), (h c).2⟩) (Cert.Kernel14Ideal.Value.run_blocks (F := Ideal) m g),
   (θ_run Cert.Reference14Ideal.defs _ _).mono (fun r h c => ⟨(h c).1.trans ((Cert.Reference14Ideal.Elem.ref_eq _).trans (by
     rw [hargs c])), (h c).2⟩) (Cert.Reference14Ideal.Value.run (F := Ideal) m' g')⟩

/-! ## The gradient of the gated unit -/

/-- In machine arithmetic the call ends with its arguments unchanged and every semaphore at zero. -/
theorem frame_kernel15 : Cert.quiescent_Kernel15 (hKernel15 := Cert.Kernel15.Gen.facts) := fun m ρ _ => Cert.Kernel15.Gen.frame (F := Bits) m ρ

/-- The same over the extended reals. -/
theorem frame_kernel15Ideal : Cert.quiescent_Kernel15Ideal (hKernel15Ideal := Cert.Kernel15Ideal.Gen.facts) := fun m ρ _ => Cert.Kernel15Ideal.Gen.frame (F := Ideal) m ρ

/-- The same of the reference. -/
theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems rfl r.2⟩) (Cert.Reference15Ideal.Value.run (F := Ideal) m ρ)

/-- Over the extended reals the call's result is the reference's. -/
theorem equation15 : Cert.algebraic_Kernel15Ideal_Reference15Ideal (hKernel15Ideal := Cert.Kernel15Ideal.Gen.facts) (hReference15Ideal := Cert.Reference15Ideal.Gen.facts) :=
  fun m g m' g' _ hargs =>
  ⟨fun c => Cert.Kernel15Ideal.Elem.dgu (r := 16640) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
   (θ_run Cert.Kernel15Ideal.defs _ _).mono (fun r h c => ⟨(h c).1.trans (Cert.Kernel15Ideal.Elem.arr_eq m c), (h c).2⟩) (Cert.Kernel15Ideal.Value.run_blocks (F := Ideal) m g),
   (θ_run Cert.Reference15Ideal.defs _ _).mono (fun r h c => ⟨(h c).1.trans ((Cert.Reference15Ideal.Elem.ref_eq _ _).trans (by
     obtain ⟨h0, h1⟩ := hargs c
     rw [h0, h1])), (h c).2⟩) (Cert.Reference15Ideal.Value.run (F := Ideal) m' g')⟩

/-! ## DeltaNet's causal convolution -/

/-- In machine arithmetic the call ends with its arguments unchanged and every semaphore at zero. -/
theorem frame_kernel16 : Cert.quiescent_Kernel16 (hKernel16 := Cert.Kernel16.Gen.facts) := fun m ρ _ => Cert.Kernel16.Gen.frame (F := Bits) m ρ

/-- The same over the extended reals. -/
theorem frame_kernel16Ideal : Cert.quiescent_Kernel16Ideal (hKernel16Ideal := Cert.Kernel16Ideal.Gen.facts) := fun m ρ _ => Cert.Kernel16Ideal.Gen.frame (F := Ideal) m ρ

/-- The same of the reference. -/
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems rfl r.2⟩) (Cert.Reference16Ideal.Value.run (F := Ideal) m ρ)

/-- Over the extended reals the call's result is the reference's. -/
theorem equation16 : Cert.algebraic_Kernel16Ideal_Reference16Ideal (hKernel16Ideal := Cert.Kernel16Ideal.Gen.facts) (hReference16Ideal := Cert.Reference16Ideal.Gen.facts) :=
  fun m g m' g' _ hargs =>
  ⟨fun c => Cert.Kernel16Ideal.Elem.conv (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
   (θ_run Cert.Kernel16Ideal.defs _ _).mono (fun r h c => ⟨(h c).1.trans (Cert.Kernel16Ideal.Elem.arr_eq m c), (h c).2⟩) (Cert.Kernel16Ideal.Value.run_blocks (F := Ideal) m g),
   (θ_run Cert.Reference16Ideal.defs _ _).mono (fun r h c => ⟨(h c).1.trans ((Cert.Reference16Ideal.Elem.ref_eq _ _).trans (by
     obtain ⟨h0, h1⟩ := hargs c
     rw [h0, h1])), (h c).2⟩) (Cert.Reference16Ideal.Value.run (F := Ideal) m' g')⟩

/-! ## The gradient of the convolution's input -/

/-- In machine arithmetic the call ends with its arguments unchanged and every semaphore at zero. -/
theorem frame_kernel17 : Cert.quiescent_Kernel17 (hKernel17 := Cert.Kernel17.Gen.facts) := fun m ρ _ => Cert.Kernel17.Gen.frame (F := Bits) m ρ

/-- The same over the extended reals. -/
theorem frame_kernel17Ideal : Cert.quiescent_Kernel17Ideal (hKernel17Ideal := Cert.Kernel17Ideal.Gen.facts) := fun m ρ _ => Cert.Kernel17Ideal.Gen.frame (F := Ideal) m ρ

/-- The same of the reference. -/
theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems rfl r.2⟩) (Cert.Reference17Ideal.Value.run (F := Ideal) m ρ)

/-- Over the extended reals the call's result is the reference's. -/
theorem equation17 : Cert.algebraic_Kernel17Ideal_Reference17Ideal (hKernel17Ideal := Cert.Kernel17Ideal.Gen.facts) (hReference17Ideal := Cert.Reference17Ideal.Gen.facts) :=
  fun m g m' g' _ hargs =>
  ⟨fun c => Cert.Kernel17Ideal.Elem.dx (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
   (θ_run Cert.Kernel17Ideal.defs _ _).mono (fun r h c => ⟨(h c).1.trans (Cert.Kernel17Ideal.Elem.arr_eq m c), (h c).2⟩) (Cert.Kernel17Ideal.Value.run_blocks (F := Ideal) m g),
   (θ_run Cert.Reference17Ideal.defs _ _).mono (fun r h c => ⟨(h c).1.trans ((Cert.Reference17Ideal.Elem.ref_eq _ _).trans (by
     obtain ⟨h0, h1⟩ := hargs c
     rw [h0, h1])), (h c).2⟩) (Cert.Reference17Ideal.Value.run (F := Ideal) m' g')⟩

/-! ## The gradient of the convolution's weight -/

/-- In machine arithmetic the call ends with its arguments unchanged and every semaphore at zero. -/
theorem frame_kernel18 : Cert.quiescent_Kernel18 (hKernel18 := Cert.Kernel18.Gen.facts) := fun m ρ _ => Cert.Kernel18.Gen.frame (F := Bits) m ρ

/-- The same over the extended reals. -/
theorem frame_kernel18Ideal : Cert.quiescent_Kernel18Ideal (hKernel18Ideal := Cert.Kernel18Ideal.Gen.facts) := fun m ρ _ => Cert.Kernel18Ideal.Gen.frame (F := Ideal) m ρ

/-- The same of the reference. -/
theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems rfl r.2⟩) (Cert.Reference18Ideal.Value.run (F := Ideal) m ρ)

/-- Over the extended reals the call's result is the reference's. -/
theorem equation18 : Cert.algebraic_Kernel18Ideal_Reference18Ideal (hKernel18Ideal := Cert.Kernel18Ideal.Gen.facts) (hReference18Ideal := Cert.Reference18Ideal.Gen.facts) :=
  fun m g m' g' _ hargs =>
  ⟨fun c => Cert.Kernel18Ideal.Elem.dw (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
   (θ_run Cert.Kernel18Ideal.defs _ _).mono (fun r h c => ⟨(h c).1.trans (Cert.Kernel18Ideal.Elem.G3_eq m c), (h c).2⟩) (Cert.Kernel18Ideal.Value.run (F := Ideal) m g),
   (θ_run Cert.Reference18Ideal.defs _ _).mono (fun r h c => ⟨(h c).1.trans ((Cert.Reference18Ideal.Elem.ref_eq _ _).trans (by
     obtain ⟨h0, h1⟩ := hargs c
     rw [h0, h1])), (h c).2⟩) (Cert.Reference18Ideal.Value.run (F := Ideal) m' g')⟩

/-! ## The root-mean-square norm -/

/-- In machine arithmetic the call ends with its arguments unchanged and every semaphore at zero. -/
theorem frame_kernel19 : Cert.quiescent_Kernel19 (hKernel19 := Cert.Kernel19.Gen.facts) := fun m ρ _ => Cert.Kernel19.Gen.frame (F := Bits) m ρ

/-- The same over the extended reals. -/
theorem frame_kernel19Ideal : Cert.quiescent_Kernel19Ideal (hKernel19Ideal := Cert.Kernel19Ideal.Gen.facts) := fun m ρ _ => Cert.Kernel19Ideal.Gen.frame (F := Ideal) m ρ

/-- The same of the reference. -/
theorem frame_reference19 : Cert.quiescent_Reference19Ideal (hReference19Ideal := Cert.Reference19Ideal.Gen.facts) := fun m ρ _ =>
  (θ_run Cert.Reference19Ideal.defs _ _).mono (fun r h => ⟨fun c => (h c).2.2, sem_eq_zero_of_no_sems rfl r.2⟩) (Cert.Reference19Ideal.Value.run (F := Ideal) m ρ)

/-- Over the extended reals the call's two results are the reference's. -/
theorem equation19 : Cert.algebraic_Kernel19Ideal_Reference19Ideal (hKernel19Ideal := Cert.Kernel19Ideal.Gen.facts) (hReference19Ideal := Cert.Reference19Ideal.Gen.facts) :=
  fun m g m' g' _ hargs =>
  ⟨fun c => Cert.Kernel19Ideal.Elem.xn (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
   fun c => m ((c.tc : Thread Cert.Kernel19Ideal.nD Cert.Kernel19Ideal.τ).loc Cert.Kernel19Ideal.main_arg0),
   (θ_run Cert.Kernel19Ideal.defs _ _).mono (fun r h c => ⟨(h c).1.trans (Cert.Kernel19Ideal.Elem.arr2_eq m c), (h c).2.1.trans (Cert.Kernel19Ideal.Elem.arr3_eq m c), (h c).2.2⟩) (Cert.Kernel19Ideal.Value.run_blocks (F := Ideal) m g),
   (θ_run Cert.Reference19Ideal.defs _ _).mono (fun r h c => ⟨(h c).1.trans ((Cert.Reference19Ideal.Elem.ref_eq _ _).trans (by
     obtain ⟨h0, h1⟩ := hargs c
     rw [h0, h1])), (h c).2.1.trans (hargs c).1, (h c).2.2⟩) (Cert.Reference19Ideal.Value.run (F := Ideal) m' g')⟩

/-! ## The gradient of the norm -/

/-- In machine arithmetic the call ends with its arguments unchanged and every semaphore at zero. -/
theorem frame_kernel20 : Cert.quiescent_Kernel20 (hKernel20 := Cert.Kernel20.Gen.facts) := fun m ρ _ => Cert.Kernel20.Gen.frame (F := Bits) m ρ

/-- The same over the extended reals. -/
theorem frame_kernel20Ideal : Cert.quiescent_Kernel20Ideal (hKernel20Ideal := Cert.Kernel20Ideal.Gen.facts) := fun m ρ _ => Cert.Kernel20Ideal.Gen.frame (F := Ideal) m ρ

/-- The same of the reference. -/
theorem frame_reference20 : Cert.quiescent_Reference20Ideal (hReference20Ideal := Cert.Reference20Ideal.Gen.facts) := fun m ρ _ =>
  (θ_run Cert.Reference20Ideal.defs _ _).mono (fun r h => ⟨fun c => (h c).2.2, sem_eq_zero_of_no_sems rfl r.2⟩) (Cert.Reference20Ideal.Value.run (F := Ideal) m ρ)

/-- Over the extended reals the call's two results are the reference's. -/
theorem equation20 : Cert.algebraic_Kernel20Ideal_Reference20Ideal (hKernel20Ideal := Cert.Kernel20Ideal.Gen.facts) (hReference20Ideal := Cert.Reference20Ideal.Gen.facts) :=
  fun m g m' g' _ hargs =>
  ⟨fun c => Cert.Kernel20Ideal.Elem.dh (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)),
   fun c => Cert.Kernel20Ideal.Elem.dg (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg2)),
   (θ_run Cert.Kernel20Ideal.defs _ _).mono (fun r h c => ⟨(h c).1.trans (Cert.Kernel20Ideal.Elem.arr4_eq m c), (h c).2.1.trans (Cert.Kernel20Ideal.Elem.arr5_eq m c), (h c).2.2⟩) (Cert.Kernel20Ideal.Value.run_blocks (F := Ideal) m g),
   (θ_run Cert.Reference20Ideal.defs _ _).mono (fun r h c => ⟨(h c).1.trans ((Cert.Reference20Ideal.Elem.ref_dh _ _ _ _).trans (by
     obtain ⟨h0, h1, h2, h3⟩ := hargs c
     rw [h0, h1, h2, h3])), (h c).2.1.trans ((Cert.Reference20Ideal.Elem.ref_dg _ _).trans (by
     obtain ⟨h0, h1, h2, h3⟩ := hargs c
     rw [h0, h2])), (h c).2.2⟩) (Cert.Reference20Ideal.Value.run (F := Ideal) m' g')⟩

end Cert.Elem

end
-- ==== Proof.Scan.Tiles.lean ====
module

public import proofs.«01_k».proof.Proof.Gen.KernelIdeal.Skeleton
public import Idealize.ShloMosaic.Lib.VecWindow
public import Idealize.ShloMosaic.Lib.ValueIdxCore
public import Idealize.ShloMosaic.Lib.Pipeline.Value
public import Idealize.ShloMosaic.Lib.Pointwise.Reshape

/-! The blocks of the two scan kernels as families of 64 by 64 tiles, and the arithmetic of one chunk on tiles. -/

@[expose] public section

noncomputable section

namespace Cert.KernelIdeal.Scan

open Cert.KernelIdeal Cert.KernelIdeal.Gen
open Idealize.ShloMosaic

variable {F : FTy → Type} [FloatOps F]

/-- A 64 by 64 tile of f32 values. -/
abbrev Tile (F : FTy → Type) := FVec F S64x64 .f32

/-- Chunk `n` (64 rows) of head `h` of a block of 640 rows. -/
def rowsOf (X : Vec F S4x640x64 .f32) (n : ℕ) (h : Fin 4) : Tile F :=
  fun j => X (ValueIdx.ix3 h ⟨(64 * n + (j 0).val) % 640, Nat.mod_lt _ (by decide)⟩ (j 1))

/-- Head `h` of a state of four heads. -/
def headOf (X : Vec F S4x64x64 .f32) (h : Fin 4) : Tile F := fun j => X (ValueIdx.ix3 h (j 0) (j 1))

/-- Four tiles as one state array. -/
def pack (s : Fin 4 → Tile F) : Vec F S4x64x64 .f32 := fun y => s (y 0) (ValueIdx.ix2 (y 1) (y 2))

/-- The state of head `h` before chunk `n` of a block of ten recorded states. -/
def histOf (X : Vec F S10x4x64x64 .f32) (n : ℕ) (h : Fin 4) : Tile F :=
  fun j => X (ValueIdx.ix4 ⟨n % 10, Nat.mod_lt _ (by decide)⟩ h (j 0) (j 1))

/-- A block with chunk `n` of every head replaced. -/
def setRows (X : Vec F S4x640x64 .f32) (n : ℕ) (W : Fin 4 → Tile F) : Vec F S4x640x64 .f32 :=
  fun y => if (y 1).val / 64 = n then W (y 0) (ValueIdx.ix2 ⟨(y 1).val % 64, Nat.mod_lt _ (by decide)⟩ (y 2)) else X y

/-- Ten recorded states with number `n` replaced. -/
def setHist (X : Vec F S10x4x64x64 .f32) (n : ℕ) (W : Fin 4 → Tile F) : Vec F S10x4x64x64 .f32 :=
  fun y => if (y 0).val = n then W (y 1) (ValueIdx.ix2 (y 2) (y 3)) else X y

/-- A block whose chunks `m` with `g m < k` hold the tiles `W (g m)`, the rest as in `X`. -/
def fillRows (g : ℕ → ℕ) (k : ℕ) (X : Vec F S4x640x64 .f32) (W : ℕ → Fin 4 → Tile F) : Vec F S4x640x64 .f32 :=
  fun y => if g ((y 1).val / 64) < k then W (g ((y 1).val / 64)) (y 0) (ValueIdx.ix2 ⟨(y 1).val % 64, Nat.mod_lt _ (by decide)⟩ (y 2)) else X y

/-- Recorded states whose numbers below `k` hold the tiles `W`, the rest as in `X`. -/
def fillHist (k : ℕ) (X : Vec F S10x4x64x64 .f32) (W : ℕ → Fin 4 → Tile F) : Vec F S10x4x64x64 .f32 :=
  fun y => if (y 0).val < k then W (y 0).val (y 1) (ValueIdx.ix2 (y 2) (y 3)) else X y

theorem headOf_pack (s : Fin 4 → Tile F) : headOf (pack s) = s := by
  funext h j; exact congrArg (s h) (ValueIdx.eq_ix2 j).symm

theorem fillRows_zero (g : ℕ → ℕ) (X : Vec F S4x640x64 .f32) (W : ℕ → Fin 4 → Tile F) : fillRows g 0 X W = X := by
  funext y; exact if_neg (Nat.not_lt_zero _)

theorem fillHist_zero (X : Vec F S10x4x64x64 .f32) (W : ℕ → Fin 4 → Tile F) : fillHist 0 X W = X := by
  funext y; exact if_neg (Nat.not_lt_zero _)

/-- Filling one more chunk is replacing it. -/
theorem setRows_fillRows (g : ℕ → ℕ) (k n : ℕ) (hg : ∀ m < 10, g m = k ↔ m = n) (X : Vec F S4x640x64 .f32) (W : ℕ → Fin 4 → Tile F) :
    setRows (fillRows g k X W) n (W k) = fillRows g (k + 1) X W := by
  funext y
  have hy : (y 1).val / 64 < 10 := by have : (y 1).val < 640 := (y 1).isLt; omega
  have e := hg _ hy
  unfold setRows fillRows
  by_cases h : (y 1).val / 64 = n
  · rw [if_pos h, if_pos (by rw [e.mpr h]; exact Nat.lt_succ_self k), e.mpr h]
  · rw [if_neg h]
    by_cases h' : g ((y 1).val / 64) < k
    · rw [if_pos h', if_pos (Nat.lt_succ_of_lt h')]
    · rw [if_neg h', if_neg (fun h2 => h (e.mp (by omega)))]

theorem setHist_fillHist (k : ℕ) (X : Vec F S10x4x64x64 .f32) (W : ℕ → Fin 4 → Tile F) :
    setHist (fillHist k X W) k (W k) = fillHist (k + 1) X W := by
  funext y
  unfold setHist fillHist
  by_cases h : (y 0).val = k
  · rw [if_pos h, if_pos (by omega), h]
  · rw [if_neg h]
    by_cases h' : (y 0).val < k
    · rw [if_pos h', if_pos (Nat.lt_succ_of_lt h')]
    · rw [if_neg h', if_neg (by omega)]

/-- A tile as a one-head window. -/
def up (W : Tile F) : Vec F S1x64x64 .f32 := shapeCast S1x64x64 W shapeCasts_S64x64_S1x64x64
/-- A tile as a one-state, one-head window. -/
def up4 (W : Tile F) : Vec F S1x1x64x64 .f32 := shapeCast S1x1x64x64 W shapeCasts_S64x64_S1x1x64x64

theorem up_apply (W : Tile F) (j : S1x64x64.Idx) : up W j = W (ValueIdx.ix2 (j 1) (j 2)) := by
  refine (shapeCast_addUnit_apply ![64, 64] W shapeCasts_S64x64_S1x64x64 j).trans (congrArg W ?_)
  funext a; match a with | ⟨0, _⟩ => rfl | ⟨1, _⟩ => rfl

theorem up4_apply (W : Tile F) (j : S1x1x64x64.Idx) : up4 W j = W (ValueIdx.ix2 (j 2) (j 3)) := by
  have e : up4 W = shapeCast S1x1x64x64 (up W) (by decide) := (shapeCast_comp W shapeCasts_S64x64_S1x64x64 (by decide)).symm
  rw [e]
  refine (shapeCast_addUnit_apply ![1, 64, 64] (up W) _ j).trans ?_
  exact up_apply W _

section views
variable {κ : Kind} {sp : Space}

/-- A load of one chunk of one head, read as a tile. -/
theorem tile_read (v : View sig κ sp S4x640x64 .f32) (f : v.ty.Contents (Elt F)) (x : Vec F S4x640x64 .f32) (hx : v.read (Elt F) f = x)
    {off : Fin 3 → ℕ} (inb : ∀ a, off a + S1x64x64.size a ≤ S4x640x64.size a) (n : ℕ) (h : Fin 4) (ho : off = ![h.val, 64 * n, 0]) (hn : n < 10) :
    shapeCast S64x64 (v.readAt (Elt F) (Rect.unit (s := S4x640x64) off S1x64x64.size inb).toLoadRect f) shapeCasts_S1x64x64_S64x64 = rowsOf x n h := by
  subst hx ho
  funext j
  refine (shapeCast_dropUnit_apply ![64, 64] _ shapeCasts_S1x64x64_S64x64 j).trans ?_
  refine congrArg (v.read (Elt F) f) ?_
  funext a; refine Fin.ext ?_
  have h0 : (j 0).val < 64 := (j 0).isLt
  match a with
  | ⟨0, _⟩ => show h.val + 1 * 0 = h.val; omega
  | ⟨1, _⟩ => show 64 * n + 1 * (j 0).val = (64 * n + (j 0).val) % 640; omega
  | ⟨2, _⟩ => show 0 + 1 * (j 1).val = (j 1).val; omega

/-- A load of one head of the state, read as a tile. -/
theorem head_read (v : View sig κ sp S4x64x64 .f32) (f : v.ty.Contents (Elt F)) (x : Vec F S4x64x64 .f32) (hx : v.read (Elt F) f = x)
    {off : Fin 3 → ℕ} (inb : ∀ a, off a + S1x64x64.size a ≤ S4x64x64.size a) (h : Fin 4) (ho : off = ![h.val, 0, 0]) :
    shapeCast S64x64 (v.readAt (Elt F) (Rect.unit (s := S4x64x64) off S1x64x64.size inb).toLoadRect f) shapeCasts_S1x64x64_S64x64 = headOf x h := by
  subst hx ho
  funext j
  refine (shapeCast_dropUnit_apply ![64, 64] _ shapeCasts_S1x64x64_S64x64 j).trans ?_
  refine congrArg (v.read (Elt F) f) ?_
  funext a; refine Fin.ext ?_
  match a with
  | ⟨0, _⟩ => show h.val + 1 * 0 = h.val; omega
  | ⟨1, _⟩ => show 0 + 1 * (j 0).val = (j 0).val; omega
  | ⟨2, _⟩ => show 0 + 1 * (j 1).val = (j 1).val; omega

/-- A load of one recorded state, read as a tile. -/
theorem hist_read (v : View sig κ sp S10x4x64x64 .f32) (f : v.ty.Contents (Elt F)) (x : Vec F S10x4x64x64 .f32) (hx : v.read (Elt F) f = x)
    {off : Fin 4 → ℕ} (inb : ∀ a, off a + S1x1x64x64.size a ≤ S10x4x64x64.size a) (n : ℕ) (h : Fin 4) (ho : off = ![n, h.val, 0, 0]) (hn : n < 10) :
    shapeCast S64x64 (v.readAt (Elt F) (Rect.unit (s := S10x4x64x64) off S1x1x64x64.size inb).toLoadRect f) shapeCasts_S1x1x64x64_S64x64 = histOf x n h := by
  subst hx ho
  funext j
  have e : shapeCast S64x64 (v.readAt (Elt F) (Rect.unit (s := S10x4x64x64) ![n, h.val, 0, 0] S1x1x64x64.size inb).toLoadRect f) shapeCasts_S1x1x64x64_S64x64
      = shapeCast S64x64 (shapeCast S1x64x64 (v.readAt (Elt F) (Rect.unit (s := S10x4x64x64) ![n, h.val, 0, 0] S1x1x64x64.size inb).toLoadRect f) (show S1x1x64x64.ShapeCasts S1x64x64 by decide))
        shapeCasts_S1x64x64_S64x64 := (shapeCast_comp _ _ _).symm
  rw [e]
  refine (shapeCast_dropUnit_apply ![64, 64] _ shapeCasts_S1x64x64_S64x64 j).trans ?_
  refine (shapeCast_dropUnit_apply ![1, 64, 64] _ _ _).trans ?_
  refine congrArg (v.read (Elt F) f) ?_
  funext a; refine Fin.ext ?_
  match a with
  | ⟨0, _⟩ => show n + 1 * 0 = n % 10; omega
  | ⟨1, _⟩ => show h.val + 1 * 0 = h.val; omega
  | ⟨2, _⟩ => show 0 + 1 * (j 0).val = (j 0).val; omega
  | ⟨3, _⟩ => show 0 + 1 * (j 1).val = (j 1).val; omega

/-- One chunk of one head put into a block, at an index. -/
theorem put_rows (X : Vec F S4x640x64 .f32) (n : ℕ) (h : Fin 4) (hn : n < 10) (W : Tile F) (y : S4x640x64.Idx) :
    VecWindow.put X ![h.val, 64 * n, 0] S1x64x64.size (up W) y
      = if (y 0).val = h.val ∧ (y 1).val / 64 = n then W (ValueIdx.ix2 ⟨(y 1).val % 64, Nat.mod_lt _ (by decide)⟩ (y 2)) else X y := by
  have hy : (y 2).val < 64 := (y 2).isLt
  unfold VecWindow.put
  by_cases hc : (y 0).val = h.val ∧ (y 1).val / 64 = n
  · have hm : ∀ a : Fin 3, (![h.val, 64 * n, 0] : Fin 3 → ℕ) a ≤ (y a).val ∧ (y a).val < (![h.val, 64 * n, 0] : Fin 3 → ℕ) a + S1x64x64.size a := by
      intro a
      match a with
      | ⟨0, _⟩ => show h.val ≤ (y 0).val ∧ (y 0).val < h.val + 1; rw [hc.1]; omega
      | ⟨1, _⟩ => show 64 * n ≤ (y 1).val ∧ (y 1).val < 64 * n + 64; have := hc.2; omega
      | ⟨2, _⟩ => show 0 ≤ (y 2).val ∧ (y 2).val < 0 + 64; omega
    rw [if_pos hc]
    refine (dif_pos hm).trans ((up_apply W _).trans (congrArg W ?_))
    funext a; refine Fin.ext ?_
    match a with
    | ⟨0, _⟩ => show (y 1).val - 64 * n = (y 1).val % 64; have := hc.2; omega
    | ⟨1, _⟩ => show (y 2).val - 0 = (y 2).val; omega
  · rw [if_neg hc]
    refine dif_neg fun hm => hc ⟨?_, ?_⟩
    · have := hm (0 : Fin 3)
      have h1 : h.val ≤ (y 0).val := this.1
      have h2 : (y 0).val < h.val + 1 := this.2
      omega
    · have := hm (1 : Fin 3)
      have h1 : 64 * n ≤ (y 1).val := this.1
      have h2 : (y 1).val < 64 * n + 64 := this.2
      omega

/-- One head put into a state, at an index. -/
theorem put_head (X : Vec F S4x64x64 .f32) (h : Fin 4) (W : Tile F) (y : S4x64x64.Idx) :
    VecWindow.put X ![h.val, 0, 0] S1x64x64.size (up W) y = if (y 0).val = h.val then W (ValueIdx.ix2 (y 1) (y 2)) else X y := by
  have hy1 : (y 1).val < 64 := (y 1).isLt
  have hy : (y 2).val < 64 := (y 2).isLt
  unfold VecWindow.put
  by_cases hc : (y 0).val = h.val
  · have hm : ∀ a : Fin 3, (![h.val, 0, 0] : Fin 3 → ℕ) a ≤ (y a).val ∧ (y a).val < (![h.val, 0, 0] : Fin 3 → ℕ) a + S1x64x64.size a := by
      intro a
      match a with
      | ⟨0, _⟩ => show h.val ≤ (y 0).val ∧ (y 0).val < h.val + 1; rw [hc]; omega
      | ⟨1, _⟩ => show 0 ≤ (y 1).val ∧ (y 1).val < 0 + 64; omega
      | ⟨2, _⟩ => show 0 ≤ (y 2).val ∧ (y 2).val < 0 + 64; omega
    rw [if_pos hc]
    refine (dif_pos hm).trans ((up_apply W _).trans (congrArg W ?_))
    funext a; refine Fin.ext ?_
    match a with
    | ⟨0, _⟩ => show (y 1).val - 0 = (y 1).val; omega
    | ⟨1, _⟩ => show (y 2).val - 0 = (y 2).val; omega
  · rw [if_neg hc]
    refine dif_neg fun hm => hc ?_
    have := hm (0 : Fin 3)
    have h1 : h.val ≤ (y 0).val := this.1
    have h2 : (y 0).val < h.val + 1 := this.2
    omega

/-- One state of one head put into the recorded states, at an index. -/
theorem put_hist (X : Vec F S10x4x64x64 .f32) (n : ℕ) (h : Fin 4) (W : Tile F) (y : S10x4x64x64.Idx) :
    VecWindow.put X ![n, h.val, 0, 0] S1x1x64x64.size (up4 W) y = if (y 1).val = h.val ∧ (y 0).val = n then W (ValueIdx.ix2 (y 2) (y 3)) else X y := by
  have hy1 : (y 2).val < 64 := (y 2).isLt
  have hy : (y 3).val < 64 := (y 3).isLt
  unfold VecWindow.put
  by_cases hc : (y 1).val = h.val ∧ (y 0).val = n
  · have hm : ∀ a : Fin 4, (![n, h.val, 0, 0] : Fin 4 → ℕ) a ≤ (y a).val ∧ (y a).val < (![n, h.val, 0, 0] : Fin 4 → ℕ) a + S1x1x64x64.size a := by
      intro a
      match a with
      | ⟨0, _⟩ => show n ≤ (y 0).val ∧ (y 0).val < n + 1; have := hc.2; omega
      | ⟨1, _⟩ => show h.val ≤ (y 1).val ∧ (y 1).val < h.val + 1; rw [hc.1]; omega
      | ⟨2, _⟩ => show 0 ≤ (y 2).val ∧ (y 2).val < 0 + 64; omega
      | ⟨3, _⟩ => show 0 ≤ (y 3).val ∧ (y 3).val < 0 + 64; omega
    rw [if_pos hc]
    refine (dif_pos hm).trans ((up4_apply W _).trans (congrArg W ?_))
    funext a; refine Fin.ext ?_
    match a with
    | ⟨0, _⟩ => show (y 2).val - 0 = (y 2).val; omega
    | ⟨1, _⟩ => show (y 3).val - 0 = (y 3).val; omega
  · rw [if_neg hc]
    refine dif_neg fun hm => hc ⟨?_, ?_⟩
    · have := hm (1 : Fin 4)
      have h1 : h.val ≤ (y 1).val := this.1
      have h2 : (y 1).val < h.val + 1 := this.2
      omega
    · have := hm (0 : Fin 4)
      have h1 : n ≤ (y 0).val := this.1
      have h2 : (y 0).val < n + 1 := this.2
      omega

/-- Four stores, one chunk of each head, replace the chunk. -/
theorem rows_written (v : View sig κ sp S4x640x64 .f32) (f : v.ty.Contents (Elt F)) (x : Vec F S4x640x64 .f32) (hx : v.read (Elt F) f = x)
    {o0 o1 o2 o3 : Fin 3 → ℕ} (i0 : ∀ a, o0 a + S1x64x64.size a ≤ S4x640x64.size a) (i1 : ∀ a, o1 a + S1x64x64.size a ≤ S4x640x64.size a)
    (i2 : ∀ a, o2 a + S1x64x64.size a ≤ S4x640x64.size a) (i3 : ∀ a, o3 a + S1x64x64.size a ≤ S4x640x64.size a)
    (n : ℕ) (hn : n < 10) (h0 : o0 = ![0, 64 * n, 0]) (h1 : o1 = ![1, 64 * n, 0]) (h2 : o2 = ![2, 64 * n, 0]) (h3 : o3 = ![3, 64 * n, 0])
    (p0 p1 p2 p3 : Vec F S1x64x64 .f32) (W : Fin 4 → Tile F) (e0 : p0 = up (W 0)) (e1 : p1 = up (W 1)) (e2 : p2 = up (W 2)) (e3 : p3 = up (W 3)) :
    v.read (Elt F) (v.writes (Elt F) f [⟨Rect.unit (s := S4x640x64) o3 S1x64x64.size i3, p3⟩, ⟨Rect.unit (s := S4x640x64) o2 S1x64x64.size i2, p2⟩,
      ⟨Rect.unit (s := S4x640x64) o1 S1x64x64.size i1, p1⟩, ⟨Rect.unit (s := S4x640x64) o0 S1x64x64.size i0, p0⟩]) = setRows x n W := by
  subst e0 e1 e2 e3
  rw [View.read_writes_cons_put v f i3 _ _ h3, View.read_writes_cons_put v f i2 _ _ h2, View.read_writes_cons_put v f i1 _ _ h1,
    View.read_writes_cons_put v f i0 _ _ h0, View.writes_nil, hx]
  funext y
  refine (put_rows _ n 3 hn _ y).trans ?_
  unfold setRows
  by_cases hr : (y 1).val / 64 = n
  · rw [if_pos hr]
    by_cases g3 : y 0 = (3 : Fin 4)
    · rw [if_pos ⟨congrArg Fin.val g3, hr⟩, g3]
    rw [if_neg (fun h => g3 (Fin.ext h.1))]
    refine (put_rows _ n 2 hn _ y).trans ?_
    by_cases g2 : y 0 = (2 : Fin 4)
    · rw [if_pos ⟨congrArg Fin.val g2, hr⟩, g2]
    rw [if_neg (fun h => g2 (Fin.ext h.1))]
    refine (put_rows _ n 1 hn _ y).trans ?_
    by_cases g1 : y 0 = (1 : Fin 4)
    · rw [if_pos ⟨congrArg Fin.val g1, hr⟩, g1]
    rw [if_neg (fun h => g1 (Fin.ext h.1))]
    refine (put_rows _ n 0 hn _ y).trans ?_
    have g0 : y 0 = (0 : Fin 4) := by
      have l : (y 0).val < 4 := (y 0).isLt
      have n1 : (y 0).val ≠ 1 := fun h => g1 (Fin.ext h)
      have n2 : (y 0).val ≠ 2 := fun h => g2 (Fin.ext h)
      have n3 : (y 0).val ≠ 3 := fun h => g3 (Fin.ext h)
      exact Fin.ext (show (y 0).val = 0 by omega)
    rw [if_pos ⟨congrArg Fin.val g0, hr⟩, g0]
  · rw [if_neg hr, if_neg (fun h => hr h.2)]
    refine (put_rows _ n 2 hn _ y).trans ?_
    rw [if_neg (fun h => hr h.2)]
    refine (put_rows _ n 1 hn _ y).trans ?_
    rw [if_neg (fun h => hr h.2)]
    refine (put_rows _ n 0 hn _ y).trans ?_
    rw [if_neg (fun h => hr h.2)]

/-- Four stores, one head each, replace the whole state. -/
theorem state_written (v : View sig κ sp S4x64x64 .f32) (f : v.ty.Contents (Elt F))
    {o0 o1 o2 o3 : Fin 3 → ℕ} (i0 : ∀ a, o0 a + S1x64x64.size a ≤ S4x64x64.size a) (i1 : ∀ a, o1 a + S1x64x64.size a ≤ S4x64x64.size a)
    (i2 : ∀ a, o2 a + S1x64x64.size a ≤ S4x64x64.size a) (i3 : ∀ a, o3 a + S1x64x64.size a ≤ S4x64x64.size a)
    (h0 : o0 = ![0, 0, 0]) (h1 : o1 = ![1, 0, 0]) (h2 : o2 = ![2, 0, 0]) (h3 : o3 = ![3, 0, 0])
    (p0 p1 p2 p3 : Vec F S1x64x64 .f32) (W : Fin 4 → Tile F) (e0 : p0 = up (W 0)) (e1 : p1 = up (W 1)) (e2 : p2 = up (W 2)) (e3 : p3 = up (W 3)) :
    v.read (Elt F) (v.writes (Elt F) f [⟨Rect.unit (s := S4x64x64) o3 S1x64x64.size i3, p3⟩, ⟨Rect.unit (s := S4x64x64) o2 S1x64x64.size i2, p2⟩,
      ⟨Rect.unit (s := S4x64x64) o1 S1x64x64.size i1, p1⟩, ⟨Rect.unit (s := S4x64x64) o0 S1x64x64.size i0, p0⟩]) = pack W := by
  subst e0 e1 e2 e3
  rw [View.read_writes_cons_put v f i3 _ _ h3, View.read_writes_cons_put v f i2 _ _ h2, View.read_writes_cons_put v f i1 _ _ h1,
    View.read_writes_cons_put v f i0 _ _ h0, View.writes_nil]
  funext y
  refine (put_head _ 3 _ y).trans ?_
  unfold pack
  by_cases g3 : y 0 = (3 : Fin 4)
  · rw [if_pos (congrArg Fin.val g3), g3]
  rw [if_neg (fun h => g3 (Fin.ext h))]
  refine (put_head _ 2 _ y).trans ?_
  by_cases g2 : y 0 = (2 : Fin 4)
  · rw [if_pos (congrArg Fin.val g2), g2]
  rw [if_neg (fun h => g2 (Fin.ext h))]
  refine (put_head _ 1 _ y).trans ?_
  by_cases g1 : y 0 = (1 : Fin 4)
  · rw [if_pos (congrArg Fin.val g1), g1]
  rw [if_neg (fun h => g1 (Fin.ext h))]
  refine (put_head _ 0 _ y).trans ?_
  have g0 : y 0 = (0 : Fin 4) := by
    have l : (y 0).val < 4 := (y 0).isLt
    have n1 : (y 0).val ≠ 1 := fun h => g1 (Fin.ext h)
    have n2 : (y 0).val ≠ 2 := fun h => g2 (Fin.ext h)
    have n3 : (y 0).val ≠ 3 := fun h => g3 (Fin.ext h)
    exact Fin.ext (show (y 0).val = 0 by omega)
  rw [if_pos (congrArg Fin.val g0), g0]

/-- Four stores, one recorded state of each head, replace that state. -/
theorem hist_written (v : View sig κ sp S10x4x64x64 .f32) (f : v.ty.Contents (Elt F)) (x : Vec F S10x4x64x64 .f32) (hx : v.read (Elt F) f = x)
    {o0 o1 o2 o3 : Fin 4 → ℕ} (i0 : ∀ a, o0 a + S1x1x64x64.size a ≤ S10x4x64x64.size a) (i1 : ∀ a, o1 a + S1x1x64x64.size a ≤ S10x4x64x64.size a)
    (i2 : ∀ a, o2 a + S1x1x64x64.size a ≤ S10x4x64x64.size a) (i3 : ∀ a, o3 a + S1x1x64x64.size a ≤ S10x4x64x64.size a)
    (n : ℕ) (h0 : o0 = ![n, 0, 0, 0]) (h1 : o1 = ![n, 1, 0, 0]) (h2 : o2 = ![n, 2, 0, 0]) (h3 : o3 = ![n, 3, 0, 0])
    (p0 p1 p2 p3 : Vec F S1x1x64x64 .f32) (W : Fin 4 → Tile F) (e0 : p0 = up4 (W 0)) (e1 : p1 = up4 (W 1)) (e2 : p2 = up4 (W 2)) (e3 : p3 = up4 (W 3)) :
    v.read (Elt F) (v.writes (Elt F) f [⟨Rect.unit (s := S10x4x64x64) o3 S1x1x64x64.size i3, p3⟩, ⟨Rect.unit (s := S10x4x64x64) o2 S1x1x64x64.size i2, p2⟩,
      ⟨Rect.unit (s := S10x4x64x64) o1 S1x1x64x64.size i1, p1⟩, ⟨Rect.unit (s := S10x4x64x64) o0 S1x1x64x64.size i0, p0⟩]) = setHist x n W := by
  subst e0 e1 e2 e3
  rw [View.read_writes_cons_put v f i3 _ _ h3, View.read_writes_cons_put v f i2 _ _ h2, View.read_writes_cons_put v f i1 _ _ h1,
    View.read_writes_cons_put v f i0 _ _ h0, View.writes_nil, hx]
  funext y
  refine (put_hist _ n 3 _ y).trans ?_
  unfold setHist
  by_cases hr : (y 0).val = n
  · rw [if_pos hr]
    by_cases g3 : y 1 = (3 : Fin 4)
    · rw [if_pos ⟨congrArg Fin.val g3, hr⟩, g3]
    rw [if_neg (fun h => g3 (Fin.ext h.1))]
    refine (put_hist _ n 2 _ y).trans ?_
    by_cases g2 : y 1 = (2 : Fin 4)
    · rw [if_pos ⟨congrArg Fin.val g2, hr⟩, g2]
    rw [if_neg (fun h => g2 (Fin.ext h.1))]
    refine (put_hist _ n 1 _ y).trans ?_
    by_cases g1 : y 1 = (1 : Fin 4)
    · rw [if_pos ⟨congrArg Fin.val g1, hr⟩, g1]
    rw [if_neg (fun h => g1 (Fin.ext h.1))]
    refine (put_hist _ n 0 _ y).trans ?_
    have g0 : y 1 = (0 : Fin 4) := by
      have l : (y 1).val < 4 := (y 1).isLt
      have n1 : (y 1).val ≠ 1 := fun h => g1 (Fin.ext h)
      have n2 : (y 1).val ≠ 2 := fun h => g2 (Fin.ext h)
      have n3 : (y 1).val ≠ 3 := fun h => g3 (Fin.ext h)
      exact Fin.ext (show (y 1).val = 0 by omega)
    rw [if_pos ⟨congrArg Fin.val g0, hr⟩, g0]
  · rw [if_neg hr, if_neg (fun h => hr h.2)]
    refine (put_hist _ n 2 _ y).trans ?_
    rw [if_neg (fun h => hr h.2)]
    refine (put_hist _ n 1 _ y).trans ?_
    rw [if_neg (fun h => hr h.2)]
    refine (put_hist _ n 0 _ y).trans ?_
    rw [if_neg (fun h => hr h.2)]

end views

end Cert.KernelIdeal.Scan
-- ==== Proof.Scan.Steps.lean ====
module

public import proofs.«01_k».proof.Proof.Scan.Tiles

/-! The arithmetic of one chunk of the scan, forward and backward, on 64 by 64 tiles, and the states it carries from chunk to chunk. -/

@[expose] public section

noncomputable section

namespace Cert.KernelIdeal.Scan

open Cert.KernelIdeal Cert.KernelIdeal.Gen
open Idealize.ShloMosaic

variable {F : FTy → Type} [FloatOps F]

/-- The tile of zeros. -/
def zeroT : Tile F := broadcast S64x64 (Scalar.ofBits .f32 0x00000000#32 : F .f32)

/-- The product `a b` of bfloat16 operands, accumulated in f32. -/
def mm (a b : Tile F) : Tile F :=
  matmul dot_S64x64_S64x64_S64x64_1_0_0_1_n_n none (truncf .bf16 a bitsLt_bf16_f32) (truncf .bf16 b bitsLt_bf16_f32)
    (constant S64x64 .f32 0x00000000#32)
/-- The product `aᵀ b`. -/
def mtn (a b : Tile F) : Tile F :=
  matmul dot_S64x64_S64x64_S64x64_0_0_1_1_n_n none (truncf .bf16 a bitsLt_bf16_f32) (truncf .bf16 b bitsLt_bf16_f32)
    (constant S64x64 .f32 0x00000000#32)
/-- The product `a bᵀ`. -/
def mnt (a b : Tile F) : Tile F :=
  matmul dot_S64x64_S64x64_S64x64_1_1_0_0_n_n none (truncf .bf16 a bitsLt_bf16_f32) (truncf .bf16 b bitsLt_bf16_f32)
    (constant S64x64 .f32 0x00000000#32)
/-- The first row of `e` on every row. -/
def row0 (e : Tile F) : Tile F :=
  broadcastTo S64x64 (extractStridedSlice S1x64 ![0, 0] e slices_S64x64_o0_0_S1x64) broadcasts_S1x64_S64x64

/-- What one chunk of one head reads in the forward scan. -/
structure FChunk (F : FTy → Type) where
  u : Tile F
  w : Tile F
  q : Tile F
  k : Tile F
  a : Tile F
  e : Tile F

/-- The corrected values `u - w s`. -/
def FChunk.v (c : FChunk F) (s : Tile F) : Tile F := subf c.u (mm c.w s)
/-- The chunk's output `q s + a v`. -/
def FChunk.o (c : FChunk F) (s : Tile F) : Tile F := addf (mm c.q s) (mm c.a (c.v s))
/-- The state after the chunk, `s e + kᵀ v`. -/
def FChunk.next (c : FChunk F) (s : Tile F) : Tile F := addf (mulf s (row0 c.e)) (mtn c.k (c.v s))

/-- The states before chunk `n`, starting from `s`. -/
def fstate (C : ℕ → Fin 4 → FChunk F) (s : Fin 4 → Tile F) : ℕ → Fin 4 → Tile F
  | 0 => s
  | n + 1 => fun h => (C n h).next (fstate C s n h)

/-- The output of chunk `n`. -/
def fout (C : ℕ → Fin 4 → FChunk F) (s : Fin 4 → Tile F) (n : ℕ) : Fin 4 → Tile F := fun h => (C n h).o (fstate C s n h)

/-- What one chunk of one head reads in the backward scan: the forward operands, the state `s` before the chunk, the output's gradient `d`. -/
structure BChunk (F : FTy → Type) extends FChunk F where
  s : Tile F
  d : Tile F

/-- The gradient of the corrected values, `aᵀ d + k ds`. -/
def BChunk.dv (c : BChunk F) (ds : Tile F) : Tile F := addf (mtn c.a c.d) (mm c.k ds)
/-- The gradient of `w`. -/
def BChunk.dw (c : BChunk F) (ds : Tile F) : Tile F := subf zeroT (mnt (c.dv ds) c.s)
/-- The gradient of `q`. -/
def BChunk.dq (c : BChunk F) : Tile F := mnt c.d c.s
/-- The gradient of `k`. -/
def BChunk.dk (c : BChunk F) (ds : Tile F) : Tile F := mnt (c.v c.s) ds
/-- The gradient of `a`. -/
def BChunk.da (c : BChunk F) : Tile F := mnt c.d (c.v c.s)
/-- The gradient of `e`: column sums of `s ds` in the first row, zeros elsewhere. -/
def BChunk.de (c : BChunk F) (ds : Tile F) : Tile F :=
  select k1_pay2 (broadcastTo S64x64 (shapeCast S1x64 (shapeCast S1x64
    (multiReduction .add [0] S64 (mulf c.s ds) 0x00000000#32 reduces_S64x64_S64 (.inl rfl) rfl) shapeCasts_S64_S1x64) shapeCasts_S1x64_S1x64)
    broadcasts_S1x64_S64x64) zeroT
/-- The gradient of the state before the chunk, `ds e + qᵀ d - wᵀ dv`. -/
def BChunk.next (c : BChunk F) (ds : Tile F) : Tile F := subf (addf (mulf ds (row0 c.e)) (mtn c.q c.d)) (mtn c.w (c.dv ds))

/-- The state gradients before step `n` of the backward scan, starting from `s`. -/
def bstate (C : ℕ → Fin 4 → BChunk F) (s : Fin 4 → Tile F) : ℕ → Fin 4 → Tile F
  | 0 => s
  | n + 1 => fun h => (C n h).next (bstate C s n h)

theorem fstate_congr {C C' : ℕ → Fin 4 → FChunk F} (s : Fin 4 → Tile F) (k : ℕ) (h : ∀ n < k, C n = C' n) :
    fstate C s k = fstate C' s k := by
  induction k with
  | zero => rfl
  | succ k ih =>
    funext x
    show (C k x).next (fstate C s k x) = (C' k x).next (fstate C' s k x)
    rw [h k (Nat.lt_succ_self k), ih fun n hn => h n (Nat.lt_succ_of_lt hn)]

theorem bstate_congr {C C' : ℕ → Fin 4 → BChunk F} (s : Fin 4 → Tile F) (k : ℕ) (h : ∀ n < k, C n = C' n) :
    bstate C s k = bstate C' s k := by
  induction k with
  | zero => rfl
  | succ k ih =>
    funext x
    show (C k x).next (bstate C s k x) = (C' k x).next (bstate C' s k x)
    rw [h k (Nat.lt_succ_self k), ih fun n hn => h n (Nat.lt_succ_of_lt hn)]

/-- Continuing the scan at chunk `m` is the scan of the later chunks from the state there. -/
theorem fstate_add (C : ℕ → Fin 4 → FChunk F) (s : Fin 4 → Tile F) (m k : ℕ) :
    fstate (fun n => C (m + n)) (fstate C s m) k = fstate C s (m + k) := by
  induction k with
  | zero => rfl
  | succ k ih => funext x; show (C (m + k) x).next _ = (C (m + k) x).next _; rw [ih]; rfl

theorem bstate_add (C : ℕ → Fin 4 → BChunk F) (s : Fin 4 → Tile F) (m k : ℕ) :
    bstate (fun n => C (m + n)) (bstate C s m) k = bstate C s (m + k) := by
  induction k with
  | zero => rfl
  | succ k ih => funext x; show (C (m + k) x).next _ = (C (m + k) x).next _; rw [ih]; rfl

/-- The forward chunks of six blocks. -/
def fblock (x1 x2 x3 x4 x5 x6 : Vec F S4x640x64 .f32) (n : ℕ) (h : Fin 4) : FChunk F :=
  ⟨rowsOf x1 n h, rowsOf x2 n h, rowsOf x3 n h, rowsOf x4 n h, rowsOf x5 n h, rowsOf x6 n h⟩

/-- The backward chunks of eight blocks, last chunk first. -/
def bblock (x1 x2 x3 x4 x5 x6 : Vec F S4x640x64 .f32) (x7 : Vec F S10x4x64x64 .f32) (x8 : Vec F S4x640x64 .f32) (n : ℕ) (h : Fin 4) : BChunk F :=
  ⟨fblock x1 x2 x3 x4 x5 x6 (9 - n) h, histOf x7 (9 - n) h, rowsOf x8 (9 - n) h⟩

end Cert.KernelIdeal.Scan
-- ==== Proof.Scan.Arrays.lean ====
module

public import proofs.«01_k».proof.Proof.Scan.Steps

/-! The whole arrays as families of 260 chunks of 64 rows, the scan over all of them, and what the kernels leave in the arrays. -/

@[expose] public section

noncomputable section

namespace Cert.KernelIdeal.Scan

open Cert.KernelIdeal Cert.KernelIdeal.Gen
open Idealize.ShloMosaic

variable {F : FTy → Type} [FloatOps F]

/-- Chunk `n` of head `h` of a whole array. -/
def chunkOf (X : Vec F S4x16640x64 .f32) (n : ℕ) (h : Fin 4) : Tile F :=
  fun j => X (ValueIdx.ix3 h ⟨(64 * n + (j 0).val) % 16640, Nat.mod_lt _ (by decide)⟩ (j 1))

/-- Recorded state `n` of head `h`. -/
def stateOf (X : Vec F S260x4x64x64 .f32) (n : ℕ) (h : Fin 4) : Tile F :=
  fun j => X (ValueIdx.ix4 ⟨n % 260, Nat.mod_lt _ (by decide)⟩ h (j 0) (j 1))

/-- The whole array of the given chunks. -/
def ofChunks (W : ℕ → Fin 4 → Tile F) : Vec F S4x16640x64 .f32 :=
  fun y => W ((y 1).val / 64) (y 0) (ValueIdx.ix2 ⟨(y 1).val % 64, Nat.mod_lt _ (by decide)⟩ (y 2))

/-- The whole array of the given recorded states. -/
def ofStates (W : ℕ → Fin 4 → Tile F) : Vec F S260x4x64x64 .f32 := fun y => W (y 0).val (y 1) (ValueIdx.ix2 (y 2) (y 3))

theorem stateOf_ofStates (W : ℕ → Fin 4 → Tile F) (n : ℕ) (hn : n < 260) (h : Fin 4) : stateOf (ofStates W) n h = W n h := by
  funext j
  show W (n % 260) h (ValueIdx.ix2 (j 0) (j 1)) = W n h j
  rw [Nat.mod_eq_of_lt hn]; exact congrArg _ (ValueIdx.eq_ix2 j).symm

/-- The forward chunks of six whole arrays. -/
def fgrid (X1 X2 X3 X4 X5 X6 : Vec F S4x16640x64 .f32) (n : ℕ) (h : Fin 4) : FChunk F :=
  ⟨chunkOf X1 n h, chunkOf X2 n h, chunkOf X3 n h, chunkOf X4 n h, chunkOf X5 n h, chunkOf X6 n h⟩

/-- The backward chunks of eight whole arrays, last chunk first. -/
def bgrid (X1 X2 X3 X4 X5 X6 : Vec F S4x16640x64 .f32) (X7 : Vec F S260x4x64x64 .f32) (X8 : Vec F S4x16640x64 .f32) (n : ℕ) (h : Fin 4) : BChunk F :=
  ⟨fgrid X1 X2 X3 X4 X5 X6 (259 - n) h, stateOf X7 (259 - n) h, chunkOf X8 (259 - n) h⟩

/-- The state from which both scans start. -/
def zeros : Fin 4 → Tile F := fun _ => zeroT

/-- A block of 640 rows at row `640 t` holds the chunks from `10 t` on. -/
theorem rowsOf_block (X : Vec F S4x16640x64 .f32) (x : Vec F S4x640x64 .f32) (t : ℕ) (ht : t < 26)
    (hx : ∀ y, x y = X (ValueIdx.ix3 (y 0) ⟨(640 * t + (y 1).val) % 16640, Nat.mod_lt _ (by decide)⟩ (y 2))) (n : ℕ) (hn : n < 10) (h : Fin 4) :
    rowsOf x n h = chunkOf X (10 * t + n) h := by
  funext j
  have h0 : (j 0).val < 64 := (j 0).isLt
  refine (hx _).trans (congrArg X ?_)
  funext a; refine Fin.ext ?_
  match a with
  | ⟨0, _⟩ => rfl
  | ⟨1, _⟩ =>
    show (640 * t + (64 * n + (j 0).val) % 640) % 16640 = (64 * (10 * t + n) + (j 0).val) % 16640
    rw [Nat.mod_eq_of_lt (show 64 * n + (j 0).val < 640 by omega)]; congr 1; omega
  | ⟨2, _⟩ => rfl

/-- Ten recorded states at number `10 t`. -/
theorem histOf_block (X : Vec F S260x4x64x64 .f32) (x : Vec F S10x4x64x64 .f32) (t : ℕ) (ht : t < 26)
    (hx : ∀ y, x y = X (ValueIdx.ix4 ⟨(10 * t + (y 0).val) % 260, Nat.mod_lt _ (by decide)⟩ (y 1) (y 2) (y 3))) (n : ℕ) (hn : n < 10) (h : Fin 4) :
    histOf x n h = stateOf X (10 * t + n) h := by
  funext j
  refine (hx _).trans (congrArg X ?_)
  funext a; refine Fin.ext ?_
  match a with
  | ⟨0, _⟩ => show (10 * t + n % 10) % 260 = (10 * t + n) % 260; rw [Nat.mod_eq_of_lt hn]
  | ⟨1, _⟩ => rfl
  | ⟨2, _⟩ => rfl
  | ⟨3, _⟩ => rfl

/-- A block with all ten chunks filled, at an index. -/
theorem fillRows_all (g : ℕ → ℕ) (hg : ∀ m < 10, g m < 10) (X : Vec F S4x640x64 .f32) (W : ℕ → Fin 4 → Tile F) (y : S4x640x64.Idx) :
    fillRows g 10 X W y = W (g ((y 1).val / 64)) (y 0) (ValueIdx.ix2 ⟨(y 1).val % 64, Nat.mod_lt _ (by decide)⟩ (y 2)) :=
  if_pos (hg _ (by have : (y 1).val < 640 := (y 1).isLt; omega))

/-- Ten recorded states, all filled, at an index. -/
theorem fillHist_all (X : Vec F S10x4x64x64 .f32) (W : ℕ → Fin 4 → Tile F) (y : S10x4x64x64.Idx) :
    fillHist 10 X W y = W (y 0).val (y 1) (ValueIdx.ix2 (y 2) (y 3)) := if_pos (y 0).isLt

/-- The block of the array of chunks `W` at rows `640 t ..`. -/
def blockOf (W : ℕ → Fin 4 → Tile F) (t : ℕ) : Vec F S4x640x64 .f32 :=
  fun y => W (10 * t + (y 1).val / 64) (y 0) (ValueIdx.ix2 ⟨(y 1).val % 64, Nat.mod_lt _ (by decide)⟩ (y 2))

/-- The block of the array of states `W` at number `10 t ..`. -/
def histBlockOf (W : ℕ → Fin 4 → Tile F) (t : ℕ) : Vec F S10x4x64x64 .f32 :=
  fun y => W (10 * t + (y 0).val) (y 1) (ValueIdx.ix2 (y 2) (y 3))

theorem fillRows_eq_blockOf (g : ℕ → ℕ) (hg : ∀ m < 10, g m < 10) (X : Vec F S4x640x64 .f32) (W W' : ℕ → Fin 4 → Tile F) (t : ℕ)
    (hW : ∀ m < 10, W (g m) = W' (10 * t + m)) : fillRows g 10 X W = blockOf W' t := by
  funext y
  refine (fillRows_all g hg X W y).trans ?_
  rw [hW _ (by have : (y 1).val < 640 := (y 1).isLt; omega)]; rfl

theorem fillHist_eq_histBlockOf (X : Vec F S10x4x64x64 .f32) (W W' : ℕ → Fin 4 → Tile F) (t : ℕ)
    (hW : ∀ m < 10, W m = W' (10 * t + m)) : fillHist 10 X W = histBlockOf W' t := by
  funext y
  refine (fillHist_all X W y).trans ?_
  rw [hW _ (y 0).isLt]; rfl

/-- The block of an array of chunks is read off the array. -/
theorem blockOf_eq (W : ℕ → Fin 4 → Tile F) (t : ℕ) (y : S4x640x64.Idx) (i : S4x16640x64.Idx)
    (h0 : (i 0).val = (y 0).val) (h1 : (i 1).val = t * 640 + (y 1).val) (h2 : (i 2).val = (y 2).val) : blockOf W t y = ofChunks W i := by
  have e : (i 1).val / 64 = 10 * t + (y 1).val / 64 := by omega
  have e' : (i 1).val % 64 = (y 1).val % 64 := by omega
  show W _ _ _ = W _ _ _
  rw [e, show i 0 = y 0 from Fin.ext h0, show i 2 = y 2 from Fin.ext h2]
  refine congrArg (W _ _) ?_
  funext a; refine Fin.ext ?_
  match a with
  | ⟨0, _⟩ => exact e'.symm
  | ⟨1, _⟩ => rfl

theorem histBlockOf_eq (W : ℕ → Fin 4 → Tile F) (t : ℕ) (y : S10x4x64x64.Idx) (i : S260x4x64x64.Idx)
    (h0 : (i 0).val = t * 10 + (y 0).val) (h1 : (i 1).val = (y 1).val) (h2 : (i 2).val = (y 2).val) (h3 : (i 3).val = (y 3).val) :
    histBlockOf W t y = ofStates W i := by
  have e : (i 0).val = 10 * t + (y 0).val := by omega
  show W _ _ _ = W _ _ _
  rw [e, show i 1 = y 1 from Fin.ext h1, show i 2 = y 2 from Fin.ext h2, show i 3 = y 3 from Fin.ext h3]

/-- The forward scan of one block from the state reached before it is the scan of the whole array there. -/
theorem fstate_block (C : ℕ → Fin 4 → FChunk F) (B : ℕ → Fin 4 → FChunk F) (s : Fin 4 → Tile F) (t k : ℕ) (hk : k ≤ 10)
    (hB : ∀ n < 10, B n = C (10 * t + n)) : fstate B (fstate C s (10 * t)) k = fstate C s (10 * t + k) :=
  (fstate_congr _ k fun n hn => hB n (by omega)).trans (fstate_add C s (10 * t) k)

/-- The same for the backward scan. -/
theorem bstate_block (C : ℕ → Fin 4 → BChunk F) (B : ℕ → Fin 4 → BChunk F) (s : Fin 4 → Tile F) (t k : ℕ) (hk : k ≤ 10)
    (hB : ∀ n < 10, B n = C (10 * t + n)) : bstate B (bstate C s (10 * t)) k = bstate C s (10 * t + k) :=
  (bstate_congr _ k fun n hn => hB n (by omega)).trans (bstate_add C s (10 * t) k)

end Cert.KernelIdeal.Scan
-- ==== Proof.Scan.FwdTrip.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.Frame
public import proofs.«01_k».proof.Proof.Scan.Steps

/-! One trip of the forward kernel's loop over the chunks of a block. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- Trip `k` of the loop writes chunk `k` of the output and the state before it, and leaves the state after it in the scratch. -/
theorem fwd_trip (c : Dev nD) (i : grid0.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S4x640x64 .f32) (harg7 : arg7.IsWhole) (arg8 : Memref sig .tc .vmem S10x4x64x64 .f32) (harg8 : arg8.IsWhole) (arg9 : Memref sig .tc .vmem S4x64x64 .f32) (harg9 : arg9.IsWhole)
    (k : Fin k0_t1_loop.trips) (E : Set ℕ)
    (x1 x2 x3 x4 x5 x6 x7 : Vec F S4x640x64 .f32) (x8 : Vec F S10x4x64x64 .f32) (s : Fin 4 → Tile F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (pack s)) : sProp 𝕄)
    ⊢ wp frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 k PUnit.unit)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (setRows x7 k.val fun h => (fblock x1 x2 x3 x4 x5 x6 k.val h).o (s h)) ∗ owns (c : Thread nD τ) arg8 fullShare (setHist x8 k.val s) ∗ owns (c : Thread nD τ) arg9 fullShare (pack fun h => (fblock x1 x2 x3 x4 x5 x6 k.val h).next (s h)))) := by
  have hk : k.val < 10 := Nat.lt_of_lt_of_le k.isLt k0_t1_abs.2.1
  unfold k0_t1_body
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  have c0 : fblock x1 x2 x3 x4 x5 x6 k.val 0 = ⟨shapeCast S64x64 (arg1.view.readAt (Elt F) (Rect.unit (s := S4x640x64) (k0_off2 k) S1x64x64.size (k0_off2_inb k)).toLoadRect f1) shapeCasts_S1x64x64_S64x64, shapeCast S64x64 (arg2.view.readAt (Elt F) (Rect.unit (s := S4x640x64) (k0_off2 k) S1x64x64.size (k0_off2_inb k)).toLoadRect f2) shapeCasts_S1x64x64_S64x64, shapeCast S64x64 (arg3.view.readAt (Elt F) (Rect.unit (s := S4x640x64) (k0_off2 k) S1x64x64.size (k0_off2_inb k)).toLoadRect f3) shapeCasts_S1x64x64_S64x64, shapeCast S64x64 (arg4.view.readAt (Elt F) (Rect.unit (s := S4x640x64) (k0_off2 k) S1x64x64.size (k0_off2_inb k)).toLoadRect f4) shapeCasts_S1x64x64_S64x64, shapeCast S64x64 (arg5.view.readAt (Elt F) (Rect.unit (s := S4x640x64) (k0_off2 k) S1x64x64.size (k0_off2_inb k)).toLoadRect f5) shapeCasts_S1x64x64_S64x64, shapeCast S64x64 (arg6.view.readAt (Elt F) (Rect.unit (s := S4x640x64) (k0_off2 k) S1x64x64.size (k0_off2_inb k)).toLoadRect f6) shapeCasts_S1x64x64_S64x64⟩ := by
    unfold fblock
    rw [tile_read arg1.view f1 x1 h1 (k0_off2_inb k) k.val 0 (k0_off2_eq k) hk, tile_read arg2.view f2 x2 h2 (k0_off2_inb k) k.val 0 (k0_off2_eq k) hk, tile_read arg3.view f3 x3 h3 (k0_off2_inb k) k.val 0 (k0_off2_eq k) hk, tile_read arg4.view f4 x4 h4 (k0_off2_inb k) k.val 0 (k0_off2_eq k) hk, tile_read arg5.view f5 x5 h5 (k0_off2_inb k) k.val 0 (k0_off2_eq k) hk, tile_read arg6.view f6 x6 h6 (k0_off2_inb k) k.val 0 (k0_off2_eq k) hk]
  have s0 : s 0 = shapeCast S64x64 (arg9.view.readAt (Elt F) (Rect.unit (s := S4x64x64) ![0, 0, 0] S1x64x64.size inb_S4x64x64_S1x64x64_0_0_0).toLoadRect f9) shapeCasts_S1x64x64_S64x64 := by
    rw [head_read arg9.view f9 (pack s) h9 inb_S4x64x64_S1x64x64_0_0_0 0 rfl, headOf_pack]
  have c1 : fblock x1 x2 x3 x4 x5 x6 k.val 1 = ⟨shapeCast S64x64 (arg1.view.readAt (Elt F) (Rect.unit (s := S4x640x64) (k0_off4 k) S1x64x64.size (k0_off4_inb k)).toLoadRect f1) shapeCasts_S1x64x64_S64x64, shapeCast S64x64 (arg2.view.readAt (Elt F) (Rect.unit (s := S4x640x64) (k0_off4 k) S1x64x64.size (k0_off4_inb k)).toLoadRect f2) shapeCasts_S1x64x64_S64x64, shapeCast S64x64 (arg3.view.readAt (Elt F) (Rect.unit (s := S4x640x64) (k0_off4 k) S1x64x64.size (k0_off4_inb k)).toLoadRect f3) shapeCasts_S1x64x64_S64x64, shapeCast S64x64 (arg4.view.readAt (Elt F) (Rect.unit (s := S4x640x64) (k0_off4 k) S1x64x64.size (k0_off4_inb k)).toLoadRect f4) shapeCasts_S1x64x64_S64x64, shapeCast S64x64 (arg5.view.readAt (Elt F) (Rect.unit (s := S4x640x64) (k0_off4 k) S1x64x64.size (k0_off4_inb k)).toLoadRect f5) shapeCasts_S1x64x64_S64x64, shapeCast S64x64 (arg6.view.readAt (Elt F) (Rect.unit (s := S4x640x64) (k0_off4 k) S1x64x64.size (k0_off4_inb k)).toLoadRect f6) shapeCasts_S1x64x64_S64x64⟩ := by
    unfold fblock
    rw [tile_read arg1.view f1 x1 h1 (k0_off4_inb k) k.val 1 (k0_off4_eq k) hk, tile_read arg2.view f2 x2 h2 (k0_off4_inb k) k.val 1 (k0_off4_eq k) hk, tile_read arg3.view f3 x3 h3 (k0_off4_inb k) k.val 1 (k0_off4_eq k) hk, tile_read arg4.view f4 x4 h4 (k0_off4_inb k) k.val 1 (k0_off4_eq k) hk, tile_read arg5.view f5 x5 h5 (k0_off4_inb k) k.val 1 (k0_off4_eq k) hk, tile_read arg6.view f6 x6 h6 (k0_off4_inb k) k.val 1 (k0_off4_eq k) hk]
  have s1 : s 1 = shapeCast S64x64 (arg9.view.readAt (Elt F) (Rect.unit (s := S4x64x64) ![1, 0, 0] S1x64x64.size inb_S4x64x64_S1x64x64_1_0_0).toLoadRect f9) shapeCasts_S1x64x64_S64x64 := by
    rw [head_read arg9.view f9 (pack s) h9 inb_S4x64x64_S1x64x64_1_0_0 1 rfl, headOf_pack]
  have c2 : fblock x1 x2 x3 x4 x5 x6 k.val 2 = ⟨shapeCast S64x64 (arg1.view.readAt (Elt F) (Rect.unit (s := S4x640x64) (k0_off6 k) S1x64x64.size (k0_off6_inb k)).toLoadRect f1) shapeCasts_S1x64x64_S64x64, shapeCast S64x64 (arg2.view.readAt (Elt F) (Rect.unit (s := S4x640x64) (k0_off6 k) S1x64x64.size (k0_off6_inb k)).toLoadRect f2) shapeCasts_S1x64x64_S64x64, shapeCast S64x64 (arg3.view.readAt (Elt F) (Rect.unit (s := S4x640x64) (k0_off6 k) S1x64x64.size (k0_off6_inb k)).toLoadRect f3) shapeCasts_S1x64x64_S64x64, shapeCast S64x64 (arg4.view.readAt (Elt F) (Rect.unit (s := S4x640x64) (k0_off6 k) S1x64x64.size (k0_off6_inb k)).toLoadRect f4) shapeCasts_S1x64x64_S64x64, shapeCast S64x64 (arg5.view.readAt (Elt F) (Rect.unit (s := S4x640x64) (k0_off6 k) S1x64x64.size (k0_off6_inb k)).toLoadRect f5) shapeCasts_S1x64x64_S64x64, shapeCast S64x64 (arg6.view.readAt (Elt F) (Rect.unit (s := S4x640x64) (k0_off6 k) S1x64x64.size (k0_off6_inb k)).toLoadRect f6) shapeCasts_S1x64x64_S64x64⟩ := by
    unfold fblock
    rw [tile_read arg1.view f1 x1 h1 (k0_off6_inb k) k.val 2 (k0_off6_eq k) hk, tile_read arg2.view f2 x2 h2 (k0_off6_inb k) k.val 2 (k0_off6_eq k) hk, tile_read arg3.view f3 x3 h3 (k0_off6_inb k) k.val 2 (k0_off6_eq k) hk, tile_read arg4.view f4 x4 h4 (k0_off6_inb k) k.val 2 (k0_off6_eq k) hk, tile_read arg5.view f5 x5 h5 (k0_off6_inb k) k.val 2 (k0_off6_eq k) hk, tile_read arg6.view f6 x6 h6 (k0_off6_inb k) k.val 2 (k0_off6_eq k) hk]
  have s2 : s 2 = shapeCast S64x64 (arg9.view.readAt (Elt F) (Rect.unit (s := S4x64x64) ![2, 0, 0] S1x64x64.size inb_S4x64x64_S1x64x64_2_0_0).toLoadRect f9) shapeCasts_S1x64x64_S64x64 := by
    rw [head_read arg9.view f9 (pack s) h9 inb_S4x64x64_S1x64x64_2_0_0 2 rfl, headOf_pack]
  have c3 : fblock x1 x2 x3 x4 x5 x6 k.val 3 = ⟨shapeCast S64x64 (arg1.view.readAt (Elt F) (Rect.unit (s := S4x640x64) (k0_off8 k) S1x64x64.size (k0_off8_inb k)).toLoadRect f1) shapeCasts_S1x64x64_S64x64, shapeCast S64x64 (arg2.view.readAt (Elt F) (Rect.unit (s := S4x640x64) (k0_off8 k) S1x64x64.size (k0_off8_inb k)).toLoadRect f2) shapeCasts_S1x64x64_S64x64, shapeCast S64x64 (arg3.view.readAt (Elt F) (Rect.unit (s := S4x640x64) (k0_off8 k) S1x64x64.size (k0_off8_inb k)).toLoadRect f3) shapeCasts_S1x64x64_S64x64, shapeCast S64x64 (arg4.view.readAt (Elt F) (Rect.unit (s := S4x640x64) (k0_off8 k) S1x64x64.size (k0_off8_inb k)).toLoadRect f4) shapeCasts_S1x64x64_S64x64, shapeCast S64x64 (arg5.view.readAt (Elt F) (Rect.unit (s := S4x640x64) (k0_off8 k) S1x64x64.size (k0_off8_inb k)).toLoadRect f5) shapeCasts_S1x64x64_S64x64, shapeCast S64x64 (arg6.view.readAt (Elt F) (Rect.unit (s := S4x640x64) (k0_off8 k) S1x64x64.size (k0_off8_inb k)).toLoadRect f6) shapeCasts_S1x64x64_S64x64⟩ := by
    unfold fblock
    rw [tile_read arg1.view f1 x1 h1 (k0_off8_inb k) k.val 3 (k0_off8_eq k) hk, tile_read arg2.view f2 x2 h2 (k0_off8_inb k) k.val 3 (k0_off8_eq k) hk, tile_read arg3.view f3 x3 h3 (k0_off8_inb k) k.val 3 (k0_off8_eq k) hk, tile_read arg4.view f4 x4 h4 (k0_off8_inb k) k.val 3 (k0_off8_eq k) hk, tile_read arg5.view f5 x5 h5 (k0_off8_inb k) k.val 3 (k0_off8_eq k) hk, tile_read arg6.view f6 x6 h6 (k0_off8_inb k) k.val 3 (k0_off8_eq k) hk]
  have s3 : s 3 = shapeCast S64x64 (arg9.view.readAt (Elt F) (Rect.unit (s := S4x64x64) ![3, 0, 0] S1x64x64.size inb_S4x64x64_S1x64x64_3_0_0).toLoadRect f9) shapeCasts_S1x64x64_S64x64 := by
    rw [head_read arg9.view f9 (pack s) h9 inb_S4x64x64_S1x64x64_3_0_0 3 rfl, headOf_pack]
  sl_exec
  sl_step
  isplitl [H1]
  · iexists _; isplitr
    · ipureintro; exact h1
    iexact H1
  isplitl [H2]
  · iexists _; isplitr
    · ipureintro; exact h2
    iexact H2
  isplitl [H3]
  · iexists _; isplitr
    · ipureintro; exact h3
    iexact H3
  isplitl [H4]
  · iexists _; isplitr
    · ipureintro; exact h4
    iexact H4
  isplitl [H5]
  · iexists _; isplitr
    · ipureintro; exact h5
    iexact H5
  isplitl [H6]
  · iexists _; isplitr
    · ipureintro; exact h6
    iexact H6
  isplitl [H7]
  · iexists _; isplitr
    · ipureintro
      exact rows_written arg7.view f7 x7 h7 (k0_off2_inb k) (k0_off4_inb k) (k0_off6_inb k) (k0_off8_inb k) k.val hk (k0_off2_eq k) (k0_off4_eq k)
        (k0_off6_eq k) (k0_off8_eq k) _ _ _ _ _ (by rw [c0, s0]) (by rw [c1, s1]) (by rw [c2, s2]) (by rw [c3, s3])
    iexact H7
  isplitl [H8]
  · iexists _; isplitr
    · ipureintro
      exact hist_written arg8.view f8 x8 h8 (k0_off1_inb k) (k0_off3_inb k) (k0_off5_inb k) (k0_off7_inb k) k.val (k0_off1_eq k) (k0_off3_eq k)
        (k0_off5_eq k) (k0_off7_eq k) _ _ _ _ _ (by rw [s0]) (by rw [s1]) (by rw [s2]) (by rw [s3])
    iexact H8
  iexists _; isplitr
  · ipureintro
    exact state_written arg9.view f9 inb_S4x64x64_S1x64x64_0_0_0 inb_S4x64x64_S1x64x64_1_0_0 inb_S4x64x64_S1x64x64_2_0_0 inb_S4x64x64_S1x64x64_3_0_0
      rfl rfl rfl rfl _ _ _ _ _ (by rw [c0, s0]) (by rw [c1, s1]) (by rw [c2, s2]) (by rw [c3, s3])
  iexact H9

end Cert.KernelIdeal.Scan
-- ==== Proof.Scan.FwdBody.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.Frame
public import proofs.«01_k».proof.Proof.Scan.FwdTrip

/-! The forward kernel's body: its loop of ten chunks from a given state, and the reset of the state at the first grid point. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Before trip `k`: the inputs' blocks, the chunks handled so far in the outputs' blocks, the state in the scratch. -/
def fwdInv (c : Dev nD) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S4x640x64 .f32) (harg7 : arg7.IsWhole) (arg8 : Memref sig .tc .vmem S10x4x64x64 .f32) (harg8 : arg8.IsWhole) (arg9 : Memref sig .tc .vmem S4x64x64 .f32) (harg9 : arg9.IsWhole)
    (x1 x2 x3 x4 x5 x6 x7 : Vec F S4x640x64 .f32) (x8 : Vec F S10x4x64x64 .f32) (s : Fin 4 → Tile F) (k : ℕ) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (fillRows id k x7 (fout (fblock x1 x2 x3 x4 x5 x6) s)) ∗ owns (c : Thread nD τ) arg8 fullShare (fillHist k x8 (fstate (fblock x1 x2 x3 x4 x5 x6) s)) ∗ owns (c : Thread nD τ) arg9 fullShare (pack (fstate (fblock x1 x2 x3 x4 x5 x6) s k)))

set_option maxHeartbeats 2000000 in
/-- One trip keeps the invariant. -/
theorem fwd_step (c : Dev nD) (i : grid0.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S4x640x64 .f32) (harg7 : arg7.IsWhole) (arg8 : Memref sig .tc .vmem S10x4x64x64 .f32) (harg8 : arg8.IsWhole) (arg9 : Memref sig .tc .vmem S4x64x64 .f32) (harg9 : arg9.IsWhole)
    (E : Set ℕ) (x1 x2 x3 x4 x5 x6 x7 : Vec F S4x640x64 .f32) (x8 : Vec F S10x4x64x64 .f32) (s : Fin 4 → Tile F) (k : Fin k0_t1_loop.trips) :
    fwdInv c arg1 harg1 arg2 harg2 arg3 harg3 arg4 harg4 arg5 harg5 arg6 harg6 arg7 harg7 arg8 harg8 arg9 harg9 x1 x2 x3 x4 x5 x6 x7 x8 s k.val
    ⊢ wp frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 k PUnit.unit)
        (fun _ => fwdInv c arg1 harg1 arg2 harg2 arg3 harg3 arg4 harg4 arg5 harg5 arg6 harg6 arg7 harg7 arg8 harg8 arg9 harg9 x1 x2 x3 x4 x5 x6 x7 x8 s (k.val + 1)) := by
  have hk : k.val < 10 := Nat.lt_of_lt_of_le k.isLt k0_t1_abs.2.1
  have hg : ∀ m < 10, 9 - m = k.val ↔ m = 9 - k.val := fun m hm => by omega
  unfold fwdInv
  rw [← setRows_fillRows id k.val k.val (fun _ _ => Iff.rfl), ← setHist_fillHist]
  exact fwd_trip c i arg1 harg1 arg2 harg2 arg3 harg3 arg4 harg4 arg5 harg5 arg6 harg6 arg7 harg7 arg8 harg8 arg9 harg9 k E x1 x2 x3 x4 x5 x6 (fillRows id k.val x7 (fout (fblock x1 x2 x3 x4 x5 x6) s)) (fillHist k.val x8 (fstate (fblock x1 x2 x3 x4 x5 x6) s)) (fstate (fblock x1 x2 x3 x4 x5 x6) s k.val)

/-- The block of a state of zeros. -/
theorem fwd_zero : (k0_pay1 (F := F)) = pack (fun _ => zeroT) := rfl

set_option maxHeartbeats 2000000 in
/-- The body at a grid point where the state is reset: the loop from zeros. -/
theorem fwd_body_first (c : Dev nD) (i : grid0.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S4x640x64 .f32) (harg7 : arg7.IsWhole) (arg8 : Memref sig .tc .vmem S10x4x64x64 .f32) (harg8 : arg8.IsWhole) (arg9 : Memref sig .tc .vmem S4x64x64 .f32) (harg9 : arg9.IsWhole)
    (hc : (Scalar.cmpi .ne (Scalar.extui (Scalar.cmpi .eq (BitVec.ofNat 32 (i 0).val) 0#32)) 0#32 : BitVec 1) = 1#1) (x1 x2 x3 x4 x5 x6 x7 : Vec F S4x640x64 .f32) (x8 : Vec F S10x4x64x64 .f32) (x9 : Vec F S4x64x64 .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9) : sProp 𝕄)
    ⊢ wp frame (wpE (defs₀ (F := F)) Variants.none (c : Thread nD τ) none) Set.univ
        (cc0_dn_scan_fwd (F := F) i arg1 harg1 arg2 harg2 arg3 harg3 arg4 harg4 arg5 harg5 arg6 harg6 arg7 harg7 arg8 harg8 arg9 harg9)
        (fun _ => fwdInv c arg1 harg1 arg2 harg2 arg3 harg3 arg4 harg4 arg5 harg5 arg6 harg6 arg7 harg7 arg8 harg8 arg9 harg9 x1 x2 x3 x4 x5 x6 x7 x8 (fun _ => zeroT) 10) := by
  simp only [cc0_dn_scan_fwd_eq_skeleton]
  unfold cc0_dn_scan_fwd_skel
  iintro ⟨H1, H2, H3, H4, H5, H6, H7, H8, H9⟩
  unfold owns
  icases H9 with ⟨%fs, %hs, H9⟩
  sl_exec (disch := first | sl_exact hc)
  sl_for (fun k _ => fwdInv c arg1 harg1 arg2 harg2 arg3 harg3 arg4 harg4 arg5 harg5 arg6 harg6 arg7 harg7 arg8 harg8 arg9 harg9 x1 x2 x3 x4 x5 x6 x7 x8 (fun _ => zeroT) k) $$ [H1 H2 H3 H4 H5 H6 H7 H8 H9]
  · intro k acc
    exact fwd_step c i arg1 harg1 arg2 harg2 arg3 harg3 arg4 harg4 arg5 harg5 arg6 harg6 arg7 harg7 arg8 harg8 arg9 harg9 Set.univ x1 x2 x3 x4 x5 x6 x7 x8 (fun _ => zeroT) k
  · unfold fwdInv
    rw [fillRows_zero id x7 (fout (fblock x1 x2 x3 x4 x5 x6) (fun _ => zeroT)), fillHist_zero x8 (fstate (fblock x1 x2 x3 x4 x5 x6) (fun _ => zeroT))]
    unfold owns
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists (arg9.view.writes (Elt F) arg9.view.junk [⟨Rect.unit (s := S4x64x64) ![0, 0, 0] S4x64x64.size inb_S4x64x64_S4x64x64_0_0_0, k0_pay1⟩]); isplitr
    · ipureintro
      exact (View.read_writes_full _ _ _ _ _).trans fwd_zero
    iexact H9
  iintro %acc HI
  sl_exec
  sl_step
  iexact HI

set_option maxHeartbeats 2000000 in
/-- The body at a later grid point: the loop from the state in the scratch. -/
theorem fwd_body_later (c : Dev nD) (i : grid0.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S4x640x64 .f32) (harg7 : arg7.IsWhole) (arg8 : Memref sig .tc .vmem S10x4x64x64 .f32) (harg8 : arg8.IsWhole) (arg9 : Memref sig .tc .vmem S4x64x64 .f32) (harg9 : arg9.IsWhole)
    (hc : ¬ (Scalar.cmpi .ne (Scalar.extui (Scalar.cmpi .eq (BitVec.ofNat 32 (i 0).val) 0#32)) 0#32 : BitVec 1) = 1#1) (x1 x2 x3 x4 x5 x6 x7 : Vec F S4x640x64 .f32) (x8 : Vec F S10x4x64x64 .f32) (s : Fin 4 → Tile F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (pack s)) : sProp 𝕄)
    ⊢ wp frame (wpE (defs₀ (F := F)) Variants.none (c : Thread nD τ) none) Set.univ
        (cc0_dn_scan_fwd (F := F) i arg1 harg1 arg2 harg2 arg3 harg3 arg4 harg4 arg5 harg5 arg6 harg6 arg7 harg7 arg8 harg8 arg9 harg9)
        (fun _ => fwdInv c arg1 harg1 arg2 harg2 arg3 harg3 arg4 harg4 arg5 harg5 arg6 harg6 arg7 harg7 arg8 harg8 arg9 harg9 x1 x2 x3 x4 x5 x6 x7 x8 s 10) := by
  simp only [cc0_dn_scan_fwd_eq_skeleton]
  unfold cc0_dn_scan_fwd_skel
  iintro ⟨H1, H2, H3, H4, H5, H6, H7, H8, H9⟩
  sl_exec (disch := first | sl_exact hc)
  sl_for (fun k _ => fwdInv c arg1 harg1 arg2 harg2 arg3 harg3 arg4 harg4 arg5 harg5 arg6 harg6 arg7 harg7 arg8 harg8 arg9 harg9 x1 x2 x3 x4 x5 x6 x7 x8 s k) $$ [H1 H2 H3 H4 H5 H6 H7 H8 H9]
  · intro k acc
    exact fwd_step c i arg1 harg1 arg2 harg2 arg3 harg3 arg4 harg4 arg5 harg5 arg6 harg6 arg7 harg7 arg8 harg8 arg9 harg9 Set.univ x1 x2 x3 x4 x5 x6 x7 x8 s k
  · unfold fwdInv
    rw [fillRows_zero id x7 (fout (fblock x1 x2 x3 x4 x5 x6) s), fillHist_zero x8 (fstate (fblock x1 x2 x3 x4 x5 x6) s)]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %acc HI
  sl_exec
  sl_step
  iexact HI

end Cert.KernelIdeal.Scan
-- ==== Proof.Scan.FwdRegion.lean ====
module

public import proofs.«01_k».proof.Proof.Gen.KernelIdeal.Points
public import proofs.«01_k».proof.Proof.Gen.KernelIdeal.Regions
public import Idealize.ShloMosaic.Lib.Pipeline.ValueKit
public import Idealize.ShloMosaic.Lib.Pipeline.FrameBody
public import Idealize.ShloMosaic.Lib.WordCmp
public import proofs.«01_k».proof.Proof.Scan.Arrays
public import proofs.«01_k».proof.Proof.Scan.FwdBody

/-! The forward kernel on its grid of 26 points: what each point finds and leaves, and what the arrays hold afterwards. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : Dev nD → Valuation τ sig (Elt F)) (c : Dev nD)

/-- Operand 0 as the region finds it. -/
def fwdA0 : Vec F S4x16640x64 .f32 := V c (Proc.devRef .tc main_arg0)
/-- Operand 1 as the region finds it. -/
def fwdA1 : Vec F S4x16640x64 .f32 := V c (Proc.devRef .tc main_arg1)
/-- Operand 2 as the region finds it. -/
def fwdA2 : Vec F S4x16640x64 .f32 := V c (Proc.devRef .tc main_arg2)
/-- Operand 3 as the region finds it. -/
def fwdA3 : Vec F S4x16640x64 .f32 := V c (Proc.devRef .tc main_arg3)
/-- Operand 4 as the region finds it. -/
def fwdA4 : Vec F S4x16640x64 .f32 := V c (Proc.devRef .tc main_arg4)
/-- Operand 5 as the region finds it. -/
def fwdA5 : Vec F S4x16640x64 .f32 := V c (Proc.devRef .tc main_arg5)

/-- The chunks of the whole scan. -/
def fwdC : ℕ → Fin 4 → FChunk F := fgrid (fwdA0 V c) (fwdA1 V c) (fwdA2 V c) (fwdA3 V c) (fwdA4 V c) (fwdA5 V c)
/-- The states of the whole scan. -/
def fwdS : ℕ → Fin 4 → Tile F := fstate (fwdC V c) zeros
/-- The outputs of the whole scan. -/
def fwdO : ℕ → Fin 4 → Tile F := fout (fwdC V c) zeros

/-! ## The blocks -/

/-- Window `w`'s block at point `t`. -/
def fwdBlk (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem fwdIdx0 : ∀ t : Fin cfg0.N, win0_0.index t = ![0, t.val, 0] := (by decide +kernel : ∀ t : Fin grid0.N, _)
theorem fwdIdx1 : ∀ t : Fin cfg0.N, win0_1.index t = ![0, t.val, 0] := (by decide +kernel : ∀ t : Fin grid0.N, _)
theorem fwdIdx2 : ∀ t : Fin cfg0.N, win0_2.index t = ![0, t.val, 0] := (by decide +kernel : ∀ t : Fin grid0.N, _)
theorem fwdIdx3 : ∀ t : Fin cfg0.N, win0_3.index t = ![0, t.val, 0] := (by decide +kernel : ∀ t : Fin grid0.N, _)
theorem fwdIdx4 : ∀ t : Fin cfg0.N, win0_4.index t = ![0, t.val, 0] := (by decide +kernel : ∀ t : Fin grid0.N, _)
theorem fwdIdx5 : ∀ t : Fin cfg0.N, win0_5.index t = ![0, t.val, 0] := (by decide +kernel : ∀ t : Fin grid0.N, _)
theorem fwdIdx6 : ∀ t : Fin cfg0.N, win0_6.index t = ![0, t.val, 0] := (by decide +kernel : ∀ t : Fin grid0.N, _)
theorem fwdIdx7 : ∀ t : Fin cfg0.N, win0_7.index t = ![t.val, 0, 0, 0] := (by decide +kernel : ∀ t : Fin grid0.N, _)

theorem fwdBlk0 (t : Fin cfg0.N) (n : ℕ) (hn : n < 10) (h : Fin 4) :
    rowsOf (fwdBlk V c 0 t) n h = chunkOf (fwdA0 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA0
  refine congrArg (V c (Proc.devRef .tc main_arg0)) ?_
  funext a; refine Fin.ext ?_
  match a with
  | ⟨0, _⟩ => blk_simp [fwdIdx0]; rfl
  | ⟨1, _⟩ => blk_simp [fwdIdx0]; show t.val * 640 + (y 1).val = (640 * t.val + (y 1).val) % 16640; omega
  | ⟨2, _⟩ => blk_simp [fwdIdx0]; rfl
theorem fwdBlk1 (t : Fin cfg0.N) (n : ℕ) (hn : n < 10) (h : Fin 4) :
    rowsOf (fwdBlk V c 1 t) n h = chunkOf (fwdA1 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA1
  refine congrArg (V c (Proc.devRef .tc main_arg1)) ?_
  funext a; refine Fin.ext ?_
  match a with
  | ⟨0, _⟩ => blk_simp [fwdIdx1]; rfl
  | ⟨1, _⟩ => blk_simp [fwdIdx1]; show t.val * 640 + (y 1).val = (640 * t.val + (y 1).val) % 16640; omega
  | ⟨2, _⟩ => blk_simp [fwdIdx1]; rfl
theorem fwdBlk2 (t : Fin cfg0.N) (n : ℕ) (hn : n < 10) (h : Fin 4) :
    rowsOf (fwdBlk V c 2 t) n h = chunkOf (fwdA2 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA2
  refine congrArg (V c (Proc.devRef .tc main_arg2)) ?_
  funext a; refine Fin.ext ?_
  match a with
  | ⟨0, _⟩ => blk_simp [fwdIdx2]; rfl
  | ⟨1, _⟩ => blk_simp [fwdIdx2]; show t.val * 640 + (y 1).val = (640 * t.val + (y 1).val) % 16640; omega
  | ⟨2, _⟩ => blk_simp [fwdIdx2]; rfl
theorem fwdBlk3 (t : Fin cfg0.N) (n : ℕ) (hn : n < 10) (h : Fin 4) :
    rowsOf (fwdBlk V c 3 t) n h = chunkOf (fwdA3 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA3
  refine congrArg (V c (Proc.devRef .tc main_arg3)) ?_
  funext a; refine Fin.ext ?_
  match a with
  | ⟨0, _⟩ => blk_simp [fwdIdx3]; rfl
  | ⟨1, _⟩ => blk_simp [fwdIdx3]; show t.val * 640 + (y 1).val = (640 * t.val + (y 1).val) % 16640; omega
  | ⟨2, _⟩ => blk_simp [fwdIdx3]; rfl
theorem fwdBlk4 (t : Fin cfg0.N) (n : ℕ) (hn : n < 10) (h : Fin 4) :
    rowsOf (fwdBlk V c 4 t) n h = chunkOf (fwdA4 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA4
  refine congrArg (V c (Proc.devRef .tc main_arg4)) ?_
  funext a; refine Fin.ext ?_
  match a with
  | ⟨0, _⟩ => blk_simp [fwdIdx4]; rfl
  | ⟨1, _⟩ => blk_simp [fwdIdx4]; show t.val * 640 + (y 1).val = (640 * t.val + (y 1).val) % 16640; omega
  | ⟨2, _⟩ => blk_simp [fwdIdx4]; rfl
theorem fwdBlk5 (t : Fin cfg0.N) (n : ℕ) (hn : n < 10) (h : Fin 4) :
    rowsOf (fwdBlk V c 5 t) n h = chunkOf (fwdA5 V c) (10 * t.val + n) h := by
  have ht : t.val < 26 := lt_of_lt_of_eq t.isLt (show cfg0.N = 26 from N_0)
  refine rowsOf_block _ _ _ (by omega) (fun y => ?_) n hn h
  have hy : (y 1).val < 640 := (y 1).isLt
  unfold fwdBlk fwdA5
  refine congrArg (V c (Proc.devRef .tc main_arg5)) ?_
  funext a; refine Fin.ext ?_
  match a with
  | ⟨0, _⟩ => blk_simp [fwdIdx5]; rfl
  | ⟨1, _⟩ => blk_simp [fwdIdx5]; show t.val * 640 + (y 1).val = (640 * t.val + (y 1).val) % 16640; omega
  | ⟨2, _⟩ => blk_simp [fwdIdx5]; rfl

/-- The chunks of point `t`'s blocks are those of the arrays from chunk `10 t` on. -/
theorem fwd_chunks (t : Fin cfg0.N) (n : ℕ) (hn : n < 10) : fblock (fwdBlk V c 0 t) (fwdBlk V c 1 t) (fwdBlk V c 2 t) (fwdBlk V c 3 t) (fwdBlk V c 4 t) (fwdBlk V c 5 t) n = fwdC V c (10 * t.val + n) := by
  funext h
  unfold fblock fwdC fgrid
  rw [fwdBlk0 V c t n hn, fwdBlk1 V c t n hn, fwdBlk2 V c t n hn, fwdBlk3 V c t n hn, fwdBlk4 V c t n hn, fwdBlk5 V c t n hn]

theorem fwd_states (t : Fin cfg0.N) (k : ℕ) (hk : k ≤ 10) :
    fstate (fblock (fwdBlk V c 0 t) (fwdBlk V c 1 t) (fwdBlk V c 2 t) (fwdBlk V c 3 t) (fwdBlk V c 4 t) (fwdBlk V c 5 t)) (fwdS V c (10 * t.val)) k = fwdS V c (10 * t.val + k) :=
  fstate_block _ _ _ _ _ hk fun n hn => fwd_chunks V c t n hn

theorem fwd_left6 (t : Fin cfg0.N) (X : Vec F S4x640x64 .f32) :
    fillRows id 10 X (fout (fblock (fwdBlk V c 0 t) (fwdBlk V c 1 t) (fwdBlk V c 2 t) (fwdBlk V c 3 t) (fwdBlk V c 4 t) (fwdBlk V c 5 t)) (fwdS V c (10 * t.val))) = blockOf (fwdO V c) t.val := by
  refine fillRows_eq_blockOf _ (fun m hm => hm) _ _ _ _ fun m hm => ?_
  funext h
  show (fblock (fwdBlk V c 0 t) (fwdBlk V c 1 t) (fwdBlk V c 2 t) (fwdBlk V c 3 t) (fwdBlk V c 4 t) (fwdBlk V c 5 t) m h).o (fstate _ _ m h) = (fwdC V c (10 * t.val + m) h).o (fwdS V c (10 * t.val + m) h)
  rw [fwd_chunks V c t m hm, fwd_states V c t m hm.le]

theorem fwd_left7 (t : Fin cfg0.N) (X : Vec F S10x4x64x64 .f32) :
    fillHist 10 X (fstate (fblock (fwdBlk V c 0 t) (fwdBlk V c 1 t) (fwdBlk V c 2 t) (fwdBlk V c 3 t) (fwdBlk V c 4 t) (fwdBlk V c 5 t)) (fwdS V c (10 * t.val))) = histBlockOf (fwdS V c) t.val :=
  fillHist_eq_histBlockOf _ _ _ _ fun m hm => fwd_states V c t m hm.le

/-! ## The condition of the reset -/

/-- The state is reset at the first point, only. -/
theorem fwd_cond (t : Fin cfg0.N) :
    (Scalar.cmpi .ne (Scalar.extui (Scalar.cmpi .eq (BitVec.ofNat 32 ((grid0.coords t) 0).val) 0#32)) 0#32 : BitVec 1) = 1#1 ↔ t.val = 0 :=
  (by decide +kernel : ∀ t : Fin grid0.N, (Scalar.cmpi .ne (Scalar.extui (Scalar.cmpi .eq (BitVec.ofNat 32 ((grid0.coords t) 0).val) 0#32)) 0#32 : BitVec 1) = 1#1 ↔ t.val = 0) t

/-! ## What the points hand on -/

/-- The scratch, whole. -/
abbrev fwdSc : Memref sig .tc .vmem S4x64x64 .f32 := Memref.whole cc0_scratch0

/-- The other scoped buffers and the generator register. -/
def fwdRest : sProp 𝕄 :=
  iprop(Pipeline.scopedRestBut (Ix := Unit) (Name := ℕ) (U := UR sig nD τ) (Lvl := ℕ) (Val := Elt F) spec0 c [cc0_scratch0] ∗ ∃ r, prngReg c r)

/-- Before point `n`: the scratch at anything before the first, at the state reached otherwise. -/
def fwdPhi (n : ℕ) : sProp 𝕄 :=
  if n = 0 then iprop((∃ d, owns (c : Thread nD τ) fwdSc fullShare d) ∗ fwdRest c)
  else iprop(owns (c : Thread nD τ) fwdSc fullShare (pack (fwdS V c (10 * n))) ∗ fwdRest c)

/-- The region's data: the arrays as found, each operand's block in place, each result's block as the body leaves it. -/
def fwdDat : Dat τ (Elt F) Unit ℕ (UR sig nD τ) ℕ cfg0 c where
  A w := V c (Proc.devRef .tc (Pipeline.arrRef spec0 w))
  after w t := match w with
    | ⟨0, _⟩ => fwdBlk V c 0 t
    | ⟨1, _⟩ => fwdBlk V c 1 t
    | ⟨2, _⟩ => fwdBlk V c 2 t
    | ⟨3, _⟩ => fwdBlk V c 3 t
    | ⟨4, _⟩ => fwdBlk V c 4 t
    | ⟨5, _⟩ => fwdBlk V c 5 t
    | ⟨6, _⟩ => blockOf (fwdO V c) t.val
    | ⟨7, _⟩ => histBlockOf (fwdS V c) t.val
  Φ t := fwdPhi V c t.val
  q _ := fullShare
  owed _ := 0

theorem fwdA_eq (w : Fin cfg0.W) : (fwdDat V c).A w = V c (Proc.devRef .tc (Pipeline.arrRef spec0 w)) := by dsimp only [fwdDat]

theorem fwdAfter0 (t : Fin cfg0.N) : (fwdDat V c).after 0 t = fwdBlk V c 0 t := by dsimp only [fwdDat]
theorem fwdAfter1 (t : Fin cfg0.N) : (fwdDat V c).after 1 t = fwdBlk V c 1 t := by dsimp only [fwdDat]
theorem fwdAfter2 (t : Fin cfg0.N) : (fwdDat V c).after 2 t = fwdBlk V c 2 t := by dsimp only [fwdDat]
theorem fwdAfter3 (t : Fin cfg0.N) : (fwdDat V c).after 3 t = fwdBlk V c 3 t := by dsimp only [fwdDat]
theorem fwdAfter4 (t : Fin cfg0.N) : (fwdDat V c).after 4 t = fwdBlk V c 4 t := by dsimp only [fwdDat]
theorem fwdAfter5 (t : Fin cfg0.N) : (fwdDat V c).after 5 t = fwdBlk V c 5 t := by dsimp only [fwdDat]
theorem fwdAfter6 (t : Fin cfg0.N) : (fwdDat V c).after 6 t = blockOf (fwdO V c) t.val := by dsimp only [fwdDat]
theorem fwdAfter7 (t : Fin cfg0.N) : (fwdDat V c).after 7 t = histBlockOf (fwdS V c) t.val := by dsimp only [fwdDat]
theorem fwdBefore0 (t : Fin cfg0.N) (d) : (fwdDat V c).before 0 t d = fwdBlk V c 0 t :=
  ((fwdDat V c).before_in_eq_fetched 0 rfl (fun _ => rfl) (fun _ _ _ => rfl) (fun t => by rw [fwdAfter0]; unfold Dat.blockOf fwdBlk; rw [fwdA_eq]) t d).trans
    (by unfold Dat.fetched Dat.blockOf fwdBlk; rw [fwdA_eq]; try rfl)
theorem fwdBefore1 (t : Fin cfg0.N) (d) : (fwdDat V c).before 1 t d = fwdBlk V c 1 t :=
  ((fwdDat V c).before_in_eq_fetched 1 rfl (fun _ => rfl) (fun _ _ _ => rfl) (fun t => by rw [fwdAfter1]; unfold Dat.blockOf fwdBlk; rw [fwdA_eq]) t d).trans
    (by unfold Dat.fetched Dat.blockOf fwdBlk; rw [fwdA_eq]; try rfl)
theorem fwdBefore2 (t : Fin cfg0.N) (d) : (fwdDat V c).before 2 t d = fwdBlk V c 2 t :=
  ((fwdDat V c).before_in_eq_fetched 2 rfl (fun _ => rfl) (fun _ _ _ => rfl) (fun t => by rw [fwdAfter2]; unfold Dat.blockOf fwdBlk; rw [fwdA_eq]) t d).trans
    (by unfold Dat.fetched Dat.blockOf fwdBlk; rw [fwdA_eq]; try rfl)
theorem fwdBefore3 (t : Fin cfg0.N) (d) : (fwdDat V c).before 3 t d = fwdBlk V c 3 t :=
  ((fwdDat V c).before_in_eq_fetched 3 rfl (fun _ => rfl) (fun _ _ _ => rfl) (fun t => by rw [fwdAfter3]; unfold Dat.blockOf fwdBlk; rw [fwdA_eq]) t d).trans
    (by unfold Dat.fetched Dat.blockOf fwdBlk; rw [fwdA_eq]; try rfl)
theorem fwdBefore4 (t : Fin cfg0.N) (d) : (fwdDat V c).before 4 t d = fwdBlk V c 4 t :=
  ((fwdDat V c).before_in_eq_fetched 4 rfl (fun _ => rfl) (fun _ _ _ => rfl) (fun t => by rw [fwdAfter4]; unfold Dat.blockOf fwdBlk; rw [fwdA_eq]) t d).trans
    (by unfold Dat.fetched Dat.blockOf fwdBlk; rw [fwdA_eq]; try rfl)
theorem fwdBefore5 (t : Fin cfg0.N) (d) : (fwdDat V c).before 5 t d = fwdBlk V c 5 t :=
  ((fwdDat V c).before_in_eq_fetched 5 rfl (fun _ => rfl) (fun _ _ _ => rfl) (fun t => by rw [fwdAfter5]; unfold Dat.blockOf fwdBlk; rw [fwdA_eq]) t d).trans
    (by unfold Dat.fetched Dat.blockOf fwdBlk; rw [fwdA_eq]; try rfl)

/-! ## The body at a point -/

/-- What the body finds at point `t`. -/
def fwdPre (t : Fin cfg0.N) : sProp 𝕄 :=
  iprop((fwdDat V c).Φ t.castSucc ∗ (fwdDat V c).owesAt () t.castSucc
    ∗ (∃ d, owns (c : Thread nD τ) (st0_0 t) fullShare ((fwdDat V c).before 0 t d))
    ∗ (∃ d, owns (c : Thread nD τ) (st0_1 t) fullShare ((fwdDat V c).before 1 t d))
    ∗ (∃ d, owns (c : Thread nD τ) (st0_2 t) fullShare ((fwdDat V c).before 2 t d))
    ∗ (∃ d, owns (c : Thread nD τ) (st0_3 t) fullShare ((fwdDat V c).before 3 t d))
    ∗ (∃ d, owns (c : Thread nD τ) (st0_4 t) fullShare ((fwdDat V c).before 4 t d))
    ∗ (∃ d, owns (c : Thread nD τ) (st0_5 t) fullShare ((fwdDat V c).before 5 t d))
    ∗ (∃ d, owns (c : Thread nD τ) (st0_6 t) fullShare ((fwdDat V c).before 6 t d))
    ∗ (∃ d, owns (c : Thread nD τ) (st0_7 t) fullShare ((fwdDat V c).before 7 t d)))

/-- What it leaves. -/
def fwdPost (t : Fin cfg0.N) : sProp 𝕄 :=
  iprop((fwdDat V c).Φ t.succ ∗ (fwdDat V c).owesAt () t.succ
    ∗ owns (c : Thread nD τ) (st0_0 t) fullShare ((fwdDat V c).after 0 t)
    ∗ owns (c : Thread nD τ) (st0_1 t) fullShare ((fwdDat V c).after 1 t)
    ∗ owns (c : Thread nD τ) (st0_2 t) fullShare ((fwdDat V c).after 2 t)
    ∗ owns (c : Thread nD τ) (st0_3 t) fullShare ((fwdDat V c).after 3 t)
    ∗ owns (c : Thread nD τ) (st0_4 t) fullShare ((fwdDat V c).after 4 t)
    ∗ owns (c : Thread nD τ) (st0_5 t) fullShare ((fwdDat V c).after 5 t)
    ∗ owns (c : Thread nD τ) (st0_6 t) fullShare ((fwdDat V c).after 6 t)
    ∗ owns (c : Thread nD τ) (st0_7 t) fullShare ((fwdDat V c).after 7 t))

/-- The loop's last state of the blocks is what the next point starts from. -/
theorem fwd_end (t : Fin cfg0.N) (s : Fin 4 → Tile F) (hs : s = fwdS V c (10 * t.val)) (X6 : Vec F S4x640x64 .f32) (X7 : Vec F S10x4x64x64 .f32) :
    fwdInv c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) fwdSc (Memref.isWhole_whole _) (fwdBlk V c 0 t) (fwdBlk V c 1 t) (fwdBlk V c 2 t) (fwdBlk V c 3 t) (fwdBlk V c 4 t) (fwdBlk V c 5 t) X6 X7 s 10
    ⊢ iprop(owns (c : Thread nD τ) (st0_0 t) fullShare ((fwdDat V c).after 0 t) ∗ owns (c : Thread nD τ) (st0_1 t) fullShare ((fwdDat V c).after 1 t) ∗ owns (c : Thread nD τ) (st0_2 t) fullShare ((fwdDat V c).after 2 t) ∗ owns (c : Thread nD τ) (st0_3 t) fullShare ((fwdDat V c).after 3 t) ∗ owns (c : Thread nD τ) (st0_4 t) fullShare ((fwdDat V c).after 4 t) ∗ owns (c : Thread nD τ) (st0_5 t) fullShare ((fwdDat V c).after 5 t) ∗ owns (c : Thread nD τ) (st0_6 t) fullShare ((fwdDat V c).after 6 t) ∗ owns (c : Thread nD τ) (st0_7 t) fullShare ((fwdDat V c).after 7 t) ∗ owns (c : Thread nD τ) fwdSc fullShare (pack (fwdS V c (10 * (t.val + 1))))) := by
  subst hs
  unfold fwdInv
  rw [fwdAfter0, fwdAfter1, fwdAfter2, fwdAfter3, fwdAfter4, fwdAfter5, fwdAfter6, fwdAfter7, fwd_left6 V c t, fwd_left7 V c t, fwd_states V c t 10 le_rfl]
  exact .rfl

set_option maxHeartbeats 6400000 in
/-- The body at any point. -/
theorem fwd_sound (t : Fin cfg0.N) :
    fwdPre V c t ⊢ wp frame (wpE (defs₀ (F := F)) Variants.none c none) Set.univ (bodyAt0 t) (fun _ => fwdPost V c t) := by
  unfold fwdPre fwdPost bodyAt0
  simp only [fwdBefore0, fwdBefore1, fwdBefore2, fwdBefore3, fwdBefore4, fwdBefore5]
  rw [show (fwdDat V c).owesAt () t.succ = (fwdDat V c).owesAt () t.castSucc from rfl,
    show (fwdDat V c).Φ t.castSucc = fwdPhi V c t.val from rfl, show (fwdDat V c).Φ t.succ = fwdPhi V c (t.val + 1) from rfl]
  unfold fwdPhi
  rw [if_neg (Nat.succ_ne_zero t.val)]
  by_cases hz : t.val = 0
  · rw [if_pos hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand_r frame (wpE (defs₀ (F := F)) Variants.none (c : Thread nD τ) none) Set.univ)
    isplitl [H0 H1 H2 H3 H4 H5 H6 H7 HS]
    · iapply (fwd_body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) fwdSc (Memref.isWhole_whole _) ((fwd_cond t).mpr hz) (fwdBlk V c 0 t) (fwdBlk V c 1 t) (fwdBlk V c 2 t) (fwdBlk V c 3 t) (fwdBlk V c 4 t) (fwdBlk V c 5 t) ((fwdDat V c).before 6 t d6) ((fwdDat V c).before 7 t d7) ds)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iintro %u HQ
    ihave HE := (fwd_end V c t (fun _ => zeroT) (by rw [hz]; rfl) ((fwdDat V c).before 6 t d6) ((fwdDat V c).before 7 t d7)) $$ HQ
    icases HE with ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand_r frame (wpE (defs₀ (F := F)) Variants.none (c : Thread nD τ) none) Set.univ)
    isplitl [H0 H1 H2 H3 H4 H5 H6 H7 HS]
    · iapply (fwd_body_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) fwdSc (Memref.isWhole_whole _) (fun h => hz ((fwd_cond t).mp h)) (fwdBlk V c 0 t) (fwdBlk V c 1 t) (fwdBlk V c 2 t) (fwdBlk V c 3 t) (fwdBlk V c 4 t) (fwdBlk V c 5 t) ((fwdDat V c).before 6 t d6) ((fwdDat V c).before 7 t d7) (fwdS V c (10 * t.val)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iintro %u HQ
    ihave HE := (fwd_end V c t (fwdS V c (10 * t.val)) rfl ((fwdDat V c).before 6 t d6) ((fwdDat V c).before 7 t d7)) $$ HQ
    icases HE with ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The region's body obligation. -/
theorem fwd_obligation : BodyObligation (fwdDat V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (fwd_sound V c t) rfl .rfl fun _ => .rfl

/-- The scoped buffers and the generator register give what the first point needs. -/
theorem fwd_in : iprop(Pipeline.scopedRest (Ix := Unit) (Name := ℕ) (U := UR sig nD τ) (Lvl := ℕ) (Val := Elt F) spec0 c ∗ ∃ r, prngReg c r)
    ⊢ (fwdDat V c).Φ 0 := by
  rw [show (fwdDat V c).Φ 0 = fwdPhi V c 0 from rfl, scopedRest0_split]
  unfold fwdPhi fwdRest
  rw [if_pos rfl]
  simp only [fwdSc, owns_whole]
  iintro ⟨⟨HS, HR⟩, Hg⟩
  isplitl [HS]; · iexact HS
  isplitl [HR]; · iexact HR
  iexact Hg

/-- The last point gives them back. -/
theorem fwd_out : (fwdDat V c).Φ (Fin.last cfg0.N)
    ⊢ iprop(Pipeline.scopedRest (Ix := Unit) (Name := ℕ) (U := UR sig nD τ) (Lvl := ℕ) (Val := Elt F) spec0 c ∗ ∃ r, prngReg c r) := by
  rw [show (fwdDat V c).Φ (Fin.last cfg0.N) = fwdPhi V c (Fin.last cfg0.N).val from rfl, scopedRest0_split]
  unfold fwdPhi fwdRest
  rw [if_neg (by rw [Fin.val_last, show cfg0.N = 26 from N_0]; decide)]
  simp only [fwdSc, owns_whole]
  iintro ⟨HS, HR, Hg⟩
  isplitl [HS HR]
  · isplitl [HS]
    · iexists _; iexact HS
    iexact HR
  iexact Hg

/-! ## The arrays afterwards -/

theorem fwdFinal6 : (fwdDat V c).arrAt 6 cfg0.N = ofChunks (fwdO V c) := by
  refine (fwdDat V c).arrAt_eq_of_covers 6 _ (by decide +kernel) fun t hf y => ?_
  refine (congrFun (fwdAfter6 V c t) _).trans ?_
  refine blockOf_eq _ _ _ _ ?_ ?_ ?_ <;> blk_simp [fwdIdx6] <;> rfl

theorem fwdFinal7 : (fwdDat V c).arrAt 7 cfg0.N = ofStates (fwdS V c) := by
  refine (fwdDat V c).arrAt_eq_of_covers 7 _ (by decide +kernel) fun t hf y => ?_
  refine (congrFun (fwdAfter7 V c t) _).trans ?_
  refine histBlockOf_eq _ _ _ _ ?_ ?_ ?_ ?_ <;> blk_simp [fwdIdx7] <;> rfl

end Cert.KernelIdeal.Scan
-- ==== Proof.Scan.BwdTrip.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.Frame
public import proofs.«01_k».proof.Proof.Scan.Steps

/-! One trip of the backward kernel's loop over the chunks of a block. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Trip `k` of the loop writes the six gradients of chunk `9 - k` and leaves the state gradient before that chunk in the scratch. -/
theorem bwd_trip (c : Dev nD) (i : grid1.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S10x4x64x64 .f32) (harg7 : arg7.IsWhole) (arg8 : Memref sig .tc .vmem S4x640x64 .f32) (harg8 : arg8.IsWhole) (arg9 : Memref sig .tc .vmem S4x640x64 .f32) (harg9 : arg9.IsWhole) (arg10 : Memref sig .tc .vmem S4x640x64 .f32) (harg10 : arg10.IsWhole) (arg11 : Memref sig .tc .vmem S4x640x64 .f32) (harg11 : arg11.IsWhole) (arg12 : Memref sig .tc .vmem S4x640x64 .f32) (harg12 : arg12.IsWhole) (arg13 : Memref sig .tc .vmem S4x640x64 .f32) (harg13 : arg13.IsWhole) (arg14 : Memref sig .tc .vmem S4x640x64 .f32) (harg14 : arg14.IsWhole) (arg15 : Memref sig .tc .vmem S4x64x64 .f32) (harg15 : arg15.IsWhole)
    (k : Fin k1_t1_loop.trips) (E : Set ℕ)
    (x1 x2 x3 x4 x5 x6 : Vec F S4x640x64 .f32) (x7 : Vec F S10x4x64x64 .f32) (x8 x9 x10 x11 x12 x13 x14 : Vec F S4x640x64 .f32) (s : Fin 4 → Tile F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (pack s)) : sProp 𝕄)
    ⊢ wp frame (wpE (defs₀ (F := F)) Variants.none (c : Thread nD τ) none) E
        (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (setRows x9 (9 - k.val) fun h => (bblock x1 x2 x3 x4 x5 x6 x7 x8 k.val h).dv (s h)) ∗ owns (c : Thread nD τ) arg10 fullShare (setRows x10 (9 - k.val) fun h => (bblock x1 x2 x3 x4 x5 x6 x7 x8 k.val h).dw (s h)) ∗ owns (c : Thread nD τ) arg11 fullShare (setRows x11 (9 - k.val) fun h => (bblock x1 x2 x3 x4 x5 x6 x7 x8 k.val h).dq) ∗ owns (c : Thread nD τ) arg12 fullShare (setRows x12 (9 - k.val) fun h => (bblock x1 x2 x3 x4 x5 x6 x7 x8 k.val h).dk (s h)) ∗ owns (c : Thread nD τ) arg13 fullShare (setRows x13 (9 - k.val) fun h => (bblock x1 x2 x3 x4 x5 x6 x7 x8 k.val h).da) ∗ owns (c : Thread nD τ) arg14 fullShare (setRows x14 (9 - k.val) fun h => (bblock x1 x2 x3 x4 x5 x6 x7 x8 k.val h).de (s h)) ∗ owns (c : Thread nD τ) arg15 fullShare (pack fun h => (bblock x1 x2 x3 x4 x5 x6 x7 x8 k.val h).next (s h)))) := by
  have hk : k.val < 10 := Nat.lt_of_lt_of_le k.isLt k1_t1_abs.2.1
  have hn : 9 - k.val < 10 := by omega
  have hm : 576 - 64 * k.val = 64 * (9 - k.val) := by omega
  have o0 : k1_off2 k = ![0, 64 * (9 - k.val), 0] := by rw [k1_off2_eq, hm]
  have o1 : k1_off4 k = ![1, 64 * (9 - k.val), 0] := by rw [k1_off4_eq, hm]
  have o2 : k1_off6 k = ![2, 64 * (9 - k.val), 0] := by rw [k1_off6_eq, hm]
  have o3 : k1_off8 k = ![3, 64 * (9 - k.val), 0] := by rw [k1_off8_eq, hm]
  unfold k1_t1_body
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩
  have c0 : bblock x1 x2 x3 x4 x5 x6 x7 x8 k.val 0 = ⟨⟨shapeCast S64x64 (arg1.view.readAt (Elt F) (Rect.unit (s := S4x640x64) (k1_off2 k) S1x64x64.size (k1_off2_inb k)).toLoadRect f1) shapeCasts_S1x64x64_S64x64, shapeCast S64x64 (arg2.view.readAt (Elt F) (Rect.unit (s := S4x640x64) (k1_off2 k) S1x64x64.size (k1_off2_inb k)).toLoadRect f2) shapeCasts_S1x64x64_S64x64, shapeCast S64x64 (arg3.view.readAt (Elt F) (Rect.unit (s := S4x640x64) (k1_off2 k) S1x64x64.size (k1_off2_inb k)).toLoadRect f3) shapeCasts_S1x64x64_S64x64, shapeCast S64x64 (arg4.view.readAt (Elt F) (Rect.unit (s := S4x640x64) (k1_off2 k) S1x64x64.size (k1_off2_inb k)).toLoadRect f4) shapeCasts_S1x64x64_S64x64, shapeCast S64x64 (arg5.view.readAt (Elt F) (Rect.unit (s := S4x640x64) (k1_off2 k) S1x64x64.size (k1_off2_inb k)).toLoadRect f5) shapeCasts_S1x64x64_S64x64, shapeCast S64x64 (arg6.view.readAt (Elt F) (Rect.unit (s := S4x640x64) (k1_off2 k) S1x64x64.size (k1_off2_inb k)).toLoadRect f6) shapeCasts_S1x64x64_S64x64⟩,
      shapeCast S64x64 (arg7.view.readAt (Elt F) (Rect.unit (s := S10x4x64x64) (k1_off1 k) S1x1x64x64.size (k1_off1_inb k)).toLoadRect f7) shapeCasts_S1x1x64x64_S64x64, shapeCast S64x64 (arg8.view.readAt (Elt F) (Rect.unit (s := S4x640x64) (k1_off2 k) S1x64x64.size (k1_off2_inb k)).toLoadRect f8) shapeCasts_S1x64x64_S64x64⟩ := by
    unfold bblock fblock
    rw [tile_read arg1.view f1 x1 h1 (k1_off2_inb k) (9 - k.val) 0 o0 hn, tile_read arg2.view f2 x2 h2 (k1_off2_inb k) (9 - k.val) 0 o0 hn, tile_read arg3.view f3 x3 h3 (k1_off2_inb k) (9 - k.val) 0 o0 hn, tile_read arg4.view f4 x4 h4 (k1_off2_inb k) (9 - k.val) 0 o0 hn, tile_read arg5.view f5 x5 h5 (k1_off2_inb k) (9 - k.val) 0 o0 hn, tile_read arg6.view f6 x6 h6 (k1_off2_inb k) (9 - k.val) 0 o0 hn, tile_read arg8.view f8 x8 h8 (k1_off2_inb k) (9 - k.val) 0 o0 hn,
      hist_read arg7.view f7 x7 h7 (k1_off1_inb k) (9 - k.val) 0 (k1_off1_eq k) hn]
  have s0 : s 0 = shapeCast S64x64 (arg15.view.readAt (Elt F) (Rect.unit (s := S4x64x64) ![0, 0, 0] S1x64x64.size inb_S4x64x64_S1x64x64_0_0_0).toLoadRect f15) shapeCasts_S1x64x64_S64x64 := by
    rw [head_read arg15.view f15 (pack s) h15 inb_S4x64x64_S1x64x64_0_0_0 0 rfl, headOf_pack]
  have c1 : bblock x1 x2 x3 x4 x5 x6 x7 x8 k.val 1 = ⟨⟨shapeCast S64x64 (arg1.view.readAt (Elt F) (Rect.unit (s := S4x640x64) (k1_off4 k) S1x64x64.size (k1_off4_inb k)).toLoadRect f1) shapeCasts_S1x64x64_S64x64, shapeCast S64x64 (arg2.view.readAt (Elt F) (Rect.unit (s := S4x640x64) (k1_off4 k) S1x64x64.size (k1_off4_inb k)).toLoadRect f2) shapeCasts_S1x64x64_S64x64, shapeCast S64x64 (arg3.view.readAt (Elt F) (Rect.unit (s := S4x640x64) (k1_off4 k) S1x64x64.size (k1_off4_inb k)).toLoadRect f3) shapeCasts_S1x64x64_S64x64, shapeCast S64x64 (arg4.view.readAt (Elt F) (Rect.unit (s := S4x640x64) (k1_off4 k) S1x64x64.size (k1_off4_inb k)).toLoadRect f4) shapeCasts_S1x64x64_S64x64, shapeCast S64x64 (arg5.view.readAt (Elt F) (Rect.unit (s := S4x640x64) (k1_off4 k) S1x64x64.size (k1_off4_inb k)).toLoadRect f5) shapeCasts_S1x64x64_S64x64, shapeCast S64x64 (arg6.view.readAt (Elt F) (Rect.unit (s := S4x640x64) (k1_off4 k) S1x64x64.size (k1_off4_inb k)).toLoadRect f6) shapeCasts_S1x64x64_S64x64⟩,
      shapeCast S64x64 (arg7.view.readAt (Elt F) (Rect.unit (s := S10x4x64x64) (k1_off3 k) S1x1x64x64.size (k1_off3_inb k)).toLoadRect f7) shapeCasts_S1x1x64x64_S64x64, shapeCast S64x64 (arg8.view.readAt (Elt F) (Rect.unit (s := S4x640x64) (k1_off4 k) S1x64x64.size (k1_off4_inb k)).toLoadRect f8) shapeCasts_S1x64x64_S64x64⟩ := by
    unfold bblock fblock
    rw [tile_read arg1.view f1 x1 h1 (k1_off4_inb k) (9 - k.val) 1 o1 hn, tile_read arg2.view f2 x2 h2 (k1_off4_inb k) (9 - k.val) 1 o1 hn, tile_read arg3.view f3 x3 h3 (k1_off4_inb k) (9 - k.val) 1 o1 hn, tile_read arg4.view f4 x4 h4 (k1_off4_inb k) (9 - k.val) 1 o1 hn, tile_read arg5.view f5 x5 h5 (k1_off4_inb k) (9 - k.val) 1 o1 hn, tile_read arg6.view f6 x6 h6 (k1_off4_inb k) (9 - k.val) 1 o1 hn, tile_read arg8.view f8 x8 h8 (k1_off4_inb k) (9 - k.val) 1 o1 hn,
      hist_read arg7.view f7 x7 h7 (k1_off3_inb k) (9 - k.val) 1 (k1_off3_eq k) hn]
  have s1 : s 1 = shapeCast S64x64 (arg15.view.readAt (Elt F) (Rect.unit (s := S4x64x64) ![1, 0, 0] S1x64x64.size inb_S4x64x64_S1x64x64_1_0_0).toLoadRect f15) shapeCasts_S1x64x64_S64x64 := by
    rw [head_read arg15.view f15 (pack s) h15 inb_S4x64x64_S1x64x64_1_0_0 1 rfl, headOf_pack]
  have c2 : bblock x1 x2 x3 x4 x5 x6 x7 x8 k.val 2 = ⟨⟨shapeCast S64x64 (arg1.view.readAt (Elt F) (Rect.unit (s := S4x640x64) (k1_off6 k) S1x64x64.size (k1_off6_inb k)).toLoadRect f1) shapeCasts_S1x64x64_S64x64, shapeCast S64x64 (arg2.view.readAt (Elt F) (Rect.unit (s := S4x640x64) (k1_off6 k) S1x64x64.size (k1_off6_inb k)).toLoadRect f2) shapeCasts_S1x64x64_S64x64, shapeCast S64x64 (arg3.view.readAt (Elt F) (Rect.unit (s := S4x640x64) (k1_off6 k) S1x64x64.size (k1_off6_inb k)).toLoadRect f3) shapeCasts_S1x64x64_S64x64, shapeCast S64x64 (arg4.view.readAt (Elt F) (Rect.unit (s := S4x640x64) (k1_off6 k) S1x64x64.size (k1_off6_inb k)).toLoadRect f4) shapeCasts_S1x64x64_S64x64, shapeCast S64x64 (arg5.view.readAt (Elt F) (Rect.unit (s := S4x640x64) (k1_off6 k) S1x64x64.size (k1_off6_inb k)).toLoadRect f5) shapeCasts_S1x64x64_S64x64, shapeCast S64x64 (arg6.view.readAt (Elt F) (Rect.unit (s := S4x640x64) (k1_off6 k) S1x64x64.size (k1_off6_inb k)).toLoadRect f6) shapeCasts_S1x64x64_S64x64⟩,
      shapeCast S64x64 (arg7.view.readAt (Elt F) (Rect.unit (s := S10x4x64x64) (k1_off5 k) S1x1x64x64.size (k1_off5_inb k)).toLoadRect f7) shapeCasts_S1x1x64x64_S64x64, shapeCast S64x64 (arg8.view.readAt (Elt F) (Rect.unit (s := S4x640x64) (k1_off6 k) S1x64x64.size (k1_off6_inb k)).toLoadRect f8) shapeCasts_S1x64x64_S64x64⟩ := by
    unfold bblock fblock
    rw [tile_read arg1.view f1 x1 h1 (k1_off6_inb k) (9 - k.val) 2 o2 hn, tile_read arg2.view f2 x2 h2 (k1_off6_inb k) (9 - k.val) 2 o2 hn, tile_read arg3.view f3 x3 h3 (k1_off6_inb k) (9 - k.val) 2 o2 hn, tile_read arg4.view f4 x4 h4 (k1_off6_inb k) (9 - k.val) 2 o2 hn, tile_read arg5.view f5 x5 h5 (k1_off6_inb k) (9 - k.val) 2 o2 hn, tile_read arg6.view f6 x6 h6 (k1_off6_inb k) (9 - k.val) 2 o2 hn, tile_read arg8.view f8 x8 h8 (k1_off6_inb k) (9 - k.val) 2 o2 hn,
      hist_read arg7.view f7 x7 h7 (k1_off5_inb k) (9 - k.val) 2 (k1_off5_eq k) hn]
  have s2 : s 2 = shapeCast S64x64 (arg15.view.readAt (Elt F) (Rect.unit (s := S4x64x64) ![2, 0, 0] S1x64x64.size inb_S4x64x64_S1x64x64_2_0_0).toLoadRect f15) shapeCasts_S1x64x64_S64x64 := by
    rw [head_read arg15.view f15 (pack s) h15 inb_S4x64x64_S1x64x64_2_0_0 2 rfl, headOf_pack]
  have c3 : bblock x1 x2 x3 x4 x5 x6 x7 x8 k.val 3 = ⟨⟨shapeCast S64x64 (arg1.view.readAt (Elt F) (Rect.unit (s := S4x640x64) (k1_off8 k) S1x64x64.size (k1_off8_inb k)).toLoadRect f1) shapeCasts_S1x64x64_S64x64, shapeCast S64x64 (arg2.view.readAt (Elt F) (Rect.unit (s := S4x640x64) (k1_off8 k) S1x64x64.size (k1_off8_inb k)).toLoadRect f2) shapeCasts_S1x64x64_S64x64, shapeCast S64x64 (arg3.view.readAt (Elt F) (Rect.unit (s := S4x640x64) (k1_off8 k) S1x64x64.size (k1_off8_inb k)).toLoadRect f3) shapeCasts_S1x64x64_S64x64, shapeCast S64x64 (arg4.view.readAt (Elt F) (Rect.unit (s := S4x640x64) (k1_off8 k) S1x64x64.size (k1_off8_inb k)).toLoadRect f4) shapeCasts_S1x64x64_S64x64, shapeCast S64x64 (arg5.view.readAt (Elt F) (Rect.unit (s := S4x640x64) (k1_off8 k) S1x64x64.size (k1_off8_inb k)).toLoadRect f5) shapeCasts_S1x64x64_S64x64, shapeCast S64x64 (arg6.view.readAt (Elt F) (Rect.unit (s := S4x640x64) (k1_off8 k) S1x64x64.size (k1_off8_inb k)).toLoadRect f6) shapeCasts_S1x64x64_S64x64⟩,
      shapeCast S64x64 (arg7.view.readAt (Elt F) (Rect.unit (s := S10x4x64x64) (k1_off7 k) S1x1x64x64.size (k1_off7_inb k)).toLoadRect f7) shapeCasts_S1x1x64x64_S64x64, shapeCast S64x64 (arg8.view.readAt (Elt F) (Rect.unit (s := S4x640x64) (k1_off8 k) S1x64x64.size (k1_off8_inb k)).toLoadRect f8) shapeCasts_S1x64x64_S64x64⟩ := by
    unfold bblock fblock
    rw [tile_read arg1.view f1 x1 h1 (k1_off8_inb k) (9 - k.val) 3 o3 hn, tile_read arg2.view f2 x2 h2 (k1_off8_inb k) (9 - k.val) 3 o3 hn, tile_read arg3.view f3 x3 h3 (k1_off8_inb k) (9 - k.val) 3 o3 hn, tile_read arg4.view f4 x4 h4 (k1_off8_inb k) (9 - k.val) 3 o3 hn, tile_read arg5.view f5 x5 h5 (k1_off8_inb k) (9 - k.val) 3 o3 hn, tile_read arg6.view f6 x6 h6 (k1_off8_inb k) (9 - k.val) 3 o3 hn, tile_read arg8.view f8 x8 h8 (k1_off8_inb k) (9 - k.val) 3 o3 hn,
      hist_read arg7.view f7 x7 h7 (k1_off7_inb k) (9 - k.val) 3 (k1_off7_eq k) hn]
  have s3 : s 3 = shapeCast S64x64 (arg15.view.readAt (Elt F) (Rect.unit (s := S4x64x64) ![3, 0, 0] S1x64x64.size inb_S4x64x64_S1x64x64_3_0_0).toLoadRect f15) shapeCasts_S1x64x64_S64x64 := by
    rw [head_read arg15.view f15 (pack s) h15 inb_S4x64x64_S1x64x64_3_0_0 3 rfl, headOf_pack]
  sl_exec
  sl_step
  isplitl [H1]
  · iexists _; isplitr
    · ipureintro; exact h1
    iexact H1
  isplitl [H2]
  · iexists _; isplitr
    · ipureintro; exact h2
    iexact H2
  isplitl [H3]
  · iexists _; isplitr
    · ipureintro; exact h3
    iexact H3
  isplitl [H4]
  · iexists _; isplitr
    · ipureintro; exact h4
    iexact H4
  isplitl [H5]
  · iexists _; isplitr
    · ipureintro; exact h5
    iexact H5
  isplitl [H6]
  · iexists _; isplitr
    · ipureintro; exact h6
    iexact H6
  isplitl [H7]
  · iexists _; isplitr
    · ipureintro; exact h7
    iexact H7
  isplitl [H8]
  · iexists _; isplitr
    · ipureintro; exact h8
    iexact H8
  isplitl [H9]
  · iexists _; isplitr
    · ipureintro
      exact rows_written arg9.view f9 x9 h9 (k1_off2_inb k) (k1_off4_inb k) (k1_off6_inb k) (k1_off8_inb k) (9 - k.val) hn o0 o1 o2 o3
        _ _ _ _ _ (by rw [c0, s0]) (by rw [c1, s1]) (by rw [c2, s2]) (by rw [c3, s3])
    iexact H9
  isplitl [H10]
  · iexists _; isplitr
    · ipureintro
      exact rows_written arg10.view f10 x10 h10 (k1_off2_inb k) (k1_off4_inb k) (k1_off6_inb k) (k1_off8_inb k) (9 - k.val) hn o0 o1 o2 o3
        _ _ _ _ _ (by rw [c0, s0]) (by rw [c1, s1]) (by rw [c2, s2]) (by rw [c3, s3])
    iexact H10
  isplitl [H11]
  · iexists _; isplitr
    · ipureintro
      exact rows_written arg11.view f11 x11 h11 (k1_off2_inb k) (k1_off4_inb k) (k1_off6_inb k) (k1_off8_inb k) (9 - k.val) hn o0 o1 o2 o3
        _ _ _ _ _ (by rw [c0]) (by rw [c1]) (by rw [c2]) (by rw [c3])
    iexact H11
  isplitl [H12]
  · iexists _; isplitr
    · ipureintro
      exact rows_written arg12.view f12 x12 h12 (k1_off2_inb k) (k1_off4_inb k) (k1_off6_inb k) (k1_off8_inb k) (9 - k.val) hn o0 o1 o2 o3
        _ _ _ _ _ (by rw [c0, s0]) (by rw [c1, s1]) (by rw [c2, s2]) (by rw [c3, s3])
    iexact H12
  isplitl [H13]
  · iexists _; isplitr
    · ipureintro
      exact rows_written arg13.view f13 x13 h13 (k1_off2_inb k) (k1_off4_inb k) (k1_off6_inb k) (k1_off8_inb k) (9 - k.val) hn o0 o1 o2 o3
        _ _ _ _ _ (by rw [c0]) (by rw [c1]) (by rw [c2]) (by rw [c3])
    iexact H13
  isplitl [H14]
  · iexists _; isplitr
    · ipureintro
      exact rows_written arg14.view f14 x14 h14 (k1_off2_inb k) (k1_off4_inb k) (k1_off6_inb k) (k1_off8_inb k) (9 - k.val) hn o0 o1 o2 o3
        _ _ _ _ _ (by rw [c0, s0]) (by rw [c1, s1]) (by rw [c2, s2]) (by rw [c3, s3])
    iexact H14
  iexists _; isplitr
  · ipureintro
    exact state_written arg15.view f15 inb_S4x64x64_S1x64x64_0_0_0 inb_S4x64x64_S1x64x64_1_0_0 inb_S4x64x64_S1x64x64_2_0_0 inb_S4x64x64_S1x64x64_3_0_0
      rfl rfl rfl rfl _ _ _ _ _ (by rw [c0, s0]) (by rw [c1, s1]) (by rw [c2, s2]) (by rw [c3, s3])
  iexact H15

end Cert.KernelIdeal.Scan
-- ==== Proof.Scan.BwdBody.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.Frame
public import proofs.«01_k».proof.Proof.Scan.BwdTrip

/-! The backward kernel's body: its loop of ten chunks from a given state, and the reset of the state at the first grid point. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Before trip `k`: the inputs' blocks, the chunks handled so far in the outputs' blocks, the state in the scratch. -/
def bwdInv (c : Dev nD) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S10x4x64x64 .f32) (harg7 : arg7.IsWhole) (arg8 : Memref sig .tc .vmem S4x640x64 .f32) (harg8 : arg8.IsWhole) (arg9 : Memref sig .tc .vmem S4x640x64 .f32) (harg9 : arg9.IsWhole) (arg10 : Memref sig .tc .vmem S4x640x64 .f32) (harg10 : arg10.IsWhole) (arg11 : Memref sig .tc .vmem S4x640x64 .f32) (harg11 : arg11.IsWhole) (arg12 : Memref sig .tc .vmem S4x640x64 .f32) (harg12 : arg12.IsWhole) (arg13 : Memref sig .tc .vmem S4x640x64 .f32) (harg13 : arg13.IsWhole) (arg14 : Memref sig .tc .vmem S4x640x64 .f32) (harg14 : arg14.IsWhole) (arg15 : Memref sig .tc .vmem S4x64x64 .f32) (harg15 : arg15.IsWhole)
    (x1 x2 x3 x4 x5 x6 : Vec F S4x640x64 .f32) (x7 : Vec F S10x4x64x64 .f32) (x8 x9 x10 x11 x12 x13 x14 : Vec F S4x640x64 .f32) (s : Fin 4 → Tile F) (k : ℕ) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (fillRows (9 - ·) k x9 (fun n h => ((bblock x1 x2 x3 x4 x5 x6 x7 x8) n h).dv (bstate (bblock x1 x2 x3 x4 x5 x6 x7 x8) s n h))) ∗ owns (c : Thread nD τ) arg10 fullShare (fillRows (9 - ·) k x10 (fun n h => ((bblock x1 x2 x3 x4 x5 x6 x7 x8) n h).dw (bstate (bblock x1 x2 x3 x4 x5 x6 x7 x8) s n h))) ∗ owns (c : Thread nD τ) arg11 fullShare (fillRows (9 - ·) k x11 (fun n h => ((bblock x1 x2 x3 x4 x5 x6 x7 x8) n h).dq)) ∗ owns (c : Thread nD τ) arg12 fullShare (fillRows (9 - ·) k x12 (fun n h => ((bblock x1 x2 x3 x4 x5 x6 x7 x8) n h).dk (bstate (bblock x1 x2 x3 x4 x5 x6 x7 x8) s n h))) ∗ owns (c : Thread nD τ) arg13 fullShare (fillRows (9 - ·) k x13 (fun n h => ((bblock x1 x2 x3 x4 x5 x6 x7 x8) n h).da)) ∗ owns (c : Thread nD τ) arg14 fullShare (fillRows (9 - ·) k x14 (fun n h => ((bblock x1 x2 x3 x4 x5 x6 x7 x8) n h).de (bstate (bblock x1 x2 x3 x4 x5 x6 x7 x8) s n h))) ∗ owns (c : Thread nD τ) arg15 fullShare (pack (bstate (bblock x1 x2 x3 x4 x5 x6 x7 x8) s k)))

set_option maxHeartbeats 2000000 in
/-- One trip keeps the invariant. -/
theorem bwd_step (c : Dev nD) (i : grid1.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S10x4x64x64 .f32) (harg7 : arg7.IsWhole) (arg8 : Memref sig .tc .vmem S4x640x64 .f32) (harg8 : arg8.IsWhole) (arg9 : Memref sig .tc .vmem S4x640x64 .f32) (harg9 : arg9.IsWhole) (arg10 : Memref sig .tc .vmem S4x640x64 .f32) (harg10 : arg10.IsWhole) (arg11 : Memref sig .tc .vmem S4x640x64 .f32) (harg11 : arg11.IsWhole) (arg12 : Memref sig .tc .vmem S4x640x64 .f32) (harg12 : arg12.IsWhole) (arg13 : Memref sig .tc .vmem S4x640x64 .f32) (harg13 : arg13.IsWhole) (arg14 : Memref sig .tc .vmem S4x640x64 .f32) (harg14 : arg14.IsWhole) (arg15 : Memref sig .tc .vmem S4x64x64 .f32) (harg15 : arg15.IsWhole)
    (E : Set ℕ) (x1 x2 x3 x4 x5 x6 : Vec F S4x640x64 .f32) (x7 : Vec F S10x4x64x64 .f32) (x8 x9 x10 x11 x12 x13 x14 : Vec F S4x640x64 .f32) (s : Fin 4 → Tile F) (k : Fin k1_t1_loop.trips) :
    bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 s k.val
    ⊢ wp frame (wpE (defs₀ (F := F)) Variants.none (c : Thread nD τ) none) E
        (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k PUnit.unit)
        (fun _ => bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 s (k.val + 1)) := by
  have hk : k.val < 10 := Nat.lt_of_lt_of_le k.isLt k1_t1_abs.2.1
  have hg : ∀ m < 10, 9 - m = k.val ↔ m = 9 - k.val := fun m hm => by omega
  unfold bwdInv
  rw [← setRows_fillRows (9 - ·) k.val (9 - k.val) hg, ← setRows_fillRows (9 - ·) k.val (9 - k.val) hg, ← setRows_fillRows (9 - ·) k.val (9 - k.val) hg, ← setRows_fillRows (9 - ·) k.val (9 - k.val) hg, ← setRows_fillRows (9 - ·) k.val (9 - k.val) hg, ← setRows_fillRows (9 - ·) k.val (9 - k.val) hg]
  exact bwd_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 k E x1 x2 x3 x4 x5 x6 x7 x8 (fillRows (9 - ·) k.val x9 (fun n h => ((bblock x1 x2 x3 x4 x5 x6 x7 x8) n h).dv (bstate (bblock x1 x2 x3 x4 x5 x6 x7 x8) s n h))) (fillRows (9 - ·) k.val x10 (fun n h => ((bblock x1 x2 x3 x4 x5 x6 x7 x8) n h).dw (bstate (bblock x1 x2 x3 x4 x5 x6 x7 x8) s n h))) (fillRows (9 - ·) k.val x11 (fun n h => ((bblock x1 x2 x3 x4 x5 x6 x7 x8) n h).dq)) (fillRows (9 - ·) k.val x12 (fun n h => ((bblock x1 x2 x3 x4 x5 x6 x7 x8) n h).dk (bstate (bblock x1 x2 x3 x4 x5 x6 x7 x8) s n h))) (fillRows (9 - ·) k.val x13 (fun n h => ((bblock x1 x2 x3 x4 x5 x6 x7 x8) n h).da)) (fillRows (9 - ·) k.val x14 (fun n h => ((bblock x1 x2 x3 x4 x5 x6 x7 x8) n h).de (bstate (bblock x1 x2 x3 x4 x5 x6 x7 x8) s n h))) (bstate (bblock x1 x2 x3 x4 x5 x6 x7 x8) s k.val)

/-- The block of a state of zeros. -/
theorem bwd_zero : (k1_pay1 (F := F)) = pack (fun _ => zeroT) := rfl

set_option maxHeartbeats 2000000 in
/-- The body at a grid point where the state is reset: the loop from zeros. -/
theorem bwd_body_first (c : Dev nD) (i : grid1.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S10x4x64x64 .f32) (harg7 : arg7.IsWhole) (arg8 : Memref sig .tc .vmem S4x640x64 .f32) (harg8 : arg8.IsWhole) (arg9 : Memref sig .tc .vmem S4x640x64 .f32) (harg9 : arg9.IsWhole) (arg10 : Memref sig .tc .vmem S4x640x64 .f32) (harg10 : arg10.IsWhole) (arg11 : Memref sig .tc .vmem S4x640x64 .f32) (harg11 : arg11.IsWhole) (arg12 : Memref sig .tc .vmem S4x640x64 .f32) (harg12 : arg12.IsWhole) (arg13 : Memref sig .tc .vmem S4x640x64 .f32) (harg13 : arg13.IsWhole) (arg14 : Memref sig .tc .vmem S4x640x64 .f32) (harg14 : arg14.IsWhole) (arg15 : Memref sig .tc .vmem S4x64x64 .f32) (harg15 : arg15.IsWhole)
    (hc : (Scalar.cmpi .ne (Scalar.extui (Scalar.cmpi .eq (BitVec.ofNat 32 (i 0).val) 0#32)) 0#32 : BitVec 1) = 1#1) (x1 x2 x3 x4 x5 x6 : Vec F S4x640x64 .f32) (x7 : Vec F S10x4x64x64 .f32) (x8 x9 x10 x11 x12 x13 x14 : Vec F S4x640x64 .f32) (x15 : Vec F S4x64x64 .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15) : sProp 𝕄)
    ⊢ wp frame (wpE (defs₀ (F := F)) Variants.none (c : Thread nD τ) none) Set.univ
        (cc1_dn_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 (fun _ => zeroT) 10) := by
  simp only [cc1_dn_scan_bwd_eq_skeleton]
  unfold cc1_dn_scan_bwd_skel
  iintro ⟨H1, H2, H3, H4, H5, H6, H7, H8, H9, H10, H11, H12, H13, H14, H15⟩
  unfold owns
  icases H15 with ⟨%fs, %hs, H15⟩
  sl_exec (disch := first | sl_exact hc)
  sl_for (fun k _ => bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 (fun _ => zeroT) k) $$ [H1 H2 H3 H4 H5 H6 H7 H8 H9 H10 H11 H12 H13 H14 H15]
  · intro k acc
    exact bwd_step c i arg1 harg1 arg2 harg2 arg3 harg3 arg4 harg4 arg5 harg5 arg6 harg6 arg7 harg7 arg8 harg8 arg9 harg9 arg10 harg10 arg11 harg11 arg12 harg12 arg13 harg13 arg14 harg14 arg15 harg15 Set.univ x1 x2 x3 x4 x5 x6 x7 x8 x9 x10 x11 x12 x13 x14 (fun _ => zeroT) k
  · unfold bwdInv
    rw [fillRows_zero (9 - ·) x9 (fun n h => ((bblock x1 x2 x3 x4 x5 x6 x7 x8) n h).dv (bstate (bblock x1 x2 x3 x4 x5 x6 x7 x8) (fun _ => zeroT) n h)), fillRows_zero (9 - ·) x10 (fun n h => ((bblock x1 x2 x3 x4 x5 x6 x7 x8) n h).dw (bstate (bblock x1 x2 x3 x4 x5 x6 x7 x8) (fun _ => zeroT) n h)), fillRows_zero (9 - ·) x11 (fun n h => ((bblock x1 x2 x3 x4 x5 x6 x7 x8) n h).dq), fillRows_zero (9 - ·) x12 (fun n h => ((bblock x1 x2 x3 x4 x5 x6 x7 x8) n h).dk (bstate (bblock x1 x2 x3 x4 x5 x6 x7 x8) (fun _ => zeroT) n h)), fillRows_zero (9 - ·) x13 (fun n h => ((bblock x1 x2 x3 x4 x5 x6 x7 x8) n h).da), fillRows_zero (9 - ·) x14 (fun n h => ((bblock x1 x2 x3 x4 x5 x6 x7 x8) n h).de (bstate (bblock x1 x2 x3 x4 x5 x6 x7 x8) (fun _ => zeroT) n h))]
    unfold owns
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists (arg15.view.writes (Elt F) arg15.view.junk [⟨Rect.unit (s := S4x64x64) ![0, 0, 0] S4x64x64.size inb_S4x64x64_S4x64x64_0_0_0, k1_pay1⟩]); isplitr
    · ipureintro
      exact (View.read_writes_full _ _ _ _ _).trans bwd_zero
    iexact H15
  iintro %acc HI
  sl_exec
  sl_step
  iexact HI

set_option maxHeartbeats 2000000 in
/-- The body at a later grid point: the loop from the state in the scratch. -/
theorem bwd_body_later (c : Dev nD) (i : grid1.Coords) (arg1 : Memref sig .tc .vmem S4x640x64 .f32) (harg1 : arg1.IsWhole) (arg2 : Memref sig .tc .vmem S4x640x64 .f32) (harg2 : arg2.IsWhole) (arg3 : Memref sig .tc .vmem S4x640x64 .f32) (harg3 : arg3.IsWhole) (arg4 : Memref sig .tc .vmem S4x640x64 .f32) (harg4 : arg4.IsWhole) (arg5 : Memref sig .tc .vmem S4x640x64 .f32) (harg5 : arg5.IsWhole) (arg6 : Memref sig .tc .vmem S4x640x64 .f32) (harg6 : arg6.IsWhole) (arg7 : Memref sig .tc .vmem S10x4x64x64 .f32) (harg7 : arg7.IsWhole) (arg8 : Memref sig .tc .vmem S4x640x64 .f32) (harg8 : arg8.IsWhole) (arg9 : Memref sig .tc .vmem S4x640x64 .f32) (harg9 : arg9.IsWhole) (arg10 : Memref sig .tc .vmem S4x640x64 .f32) (harg10 : arg10.IsWhole) (arg11 : Memref sig .tc .vmem S4x640x64 .f32) (harg11 : arg11.IsWhole) (arg12 : Memref sig .tc .vmem S4x640x64 .f32) (harg12 : arg12.IsWhole) (arg13 : Memref sig .tc .vmem S4x640x64 .f32) (harg13 : arg13.IsWhole) (arg14 : Memref sig .tc .vmem S4x640x64 .f32) (harg14 : arg14.IsWhole) (arg15 : Memref sig .tc .vmem S4x64x64 .f32) (harg15 : arg15.IsWhole)
    (hc : ¬ (Scalar.cmpi .ne (Scalar.extui (Scalar.cmpi .eq (BitVec.ofNat 32 (i 0).val) 0#32)) 0#32 : BitVec 1) = 1#1) (x1 x2 x3 x4 x5 x6 : Vec F S4x640x64 .f32) (x7 : Vec F S10x4x64x64 .f32) (x8 x9 x10 x11 x12 x13 x14 : Vec F S4x640x64 .f32) (s : Fin 4 → Tile F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (pack s)) : sProp 𝕄)
    ⊢ wp frame (wpE (defs₀ (F := F)) Variants.none (c : Thread nD τ) none) Set.univ
        (cc1_dn_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 s 10) := by
  simp only [cc1_dn_scan_bwd_eq_skeleton]
  unfold cc1_dn_scan_bwd_skel
  iintro ⟨H1, H2, H3, H4, H5, H6, H7, H8, H9, H10, H11, H12, H13, H14, H15⟩
  sl_exec (disch := first | sl_exact hc)
  sl_for (fun k _ => bwdInv c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 s k) $$ [H1 H2 H3 H4 H5 H6 H7 H8 H9 H10 H11 H12 H13 H14 H15]
  · intro k acc
    exact bwd_step c i arg1 harg1 arg2 harg2 arg3 harg3 arg4 harg4 arg5 harg5 arg6 harg6 arg7 harg7 arg8 harg8 arg9 harg9 arg10 harg10 arg11 harg11 arg12 harg12 arg13 harg13 arg14 harg14 arg15 harg15 Set.univ x1 x2 x3 x4 x5 x6 x7 x8 x9 x10 x11 x12 x13 x14 s k
  · unfold bwdInv
    rw [fillRows_zero (9 - ·) x9 (fun n h => ((bblock x1 x2 x3 x4 x5 x6 x7 x8) n h).dv (bstate (bblock x1 x2 x3 x4 x5 x6 x7 x8) s n h)), fillRows_zero (9 - ·) x10 (fun n h => ((bblock x1 x2 x3 x4 x5 x6 x7 x8) n h).dw (bstate (bblock x1 x2 x3 x4 x5 x6 x7 x8) s n h)), fillRows_zero (9 - ·) x11 (fun n h => ((bblock x1 x2 x3 x4 x5 x6 x7 x8) n h).dq), fillRows_zero (9 - ·) x12 (fun n h => ((bblock x1 x2 x3 x4 x5 x6 x7 x8) n h).dk (bstate (bblock x1 x2 x3 x4 x5 x6 x7 x8) s n h)), fillRows_zero (9 - ·) x13 (fun n h => ((bblock x1 x2 x3 x4 x5 x6 x7 x8) n h).da), fillRows_zero (9 - ·) x14 (fun n h => ((bblock x1 x2 x3 x4 x5 x6 x7 x8) n h).de (bstate (bblock x1 x2 x3 x4 x5 x6 x7 x8) s n h))]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %acc HI
  sl_exec
  sl_step
  iexact HI

end Cert.KernelIdeal.Scan
-- ==== Proof.Scan.BwdRegion.lean ====
module

public import proofs.«01_k».proof.Proof.Gen.KernelIdeal.Points
public import proofs.«01_k».proof.Proof.Gen.KernelIdeal.Regions
public import Idealize.ShloMosaic.Lib.Pipeline.ValueKit
public import Idealize.ShloMosaic.Lib.Pipeline.FrameBody
public import Idealize.ShloMosaic.Lib.WordCmp
public import proofs.«01_k».proof.Proof.Scan.Arrays
public import proofs.«01_k».proof.Proof.Scan.BwdBody

/-! The backward kernel on its grid of 26 points: what each point finds and leaves, and what the arrays hold afterwards. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : Dev nD → Valuation τ sig (Elt F)) (c : Dev nD)

/-- Operand 0 as the region finds it. -/
def bwdA0 : Vec F S4x16640x64 .f32 := V c (Proc.devRef .tc main_arg0)
/-- Operand 1 as the region finds it. -/
def bwdA1 : Vec F S4x16640x64 .f32 := V c (Proc.devRef .tc main_arg1)
/-- Operand 2 as the region finds it. -/
def bwdA2 : Vec F S4x16640x64 .f32 := V c (Proc.devRef .tc main_arg2)
/-- Operand 3 as the region finds it. -/
def bwdA3 : Vec F S4x16640x64 .f32 := V c (Proc.devRef .tc main_arg3)
/-- Operand 4 as the region finds it. -/
def bwdA4 : Vec F S4x16640x64 .f32 := V c (Proc.devRef .tc main_arg4)
/-- Operand 5 as the region finds it. -/
def bwdA5 : Vec F S4x16640x64 .f32 := V c (Proc.devRef .tc main_arg5)
/-- Operand 6 as the region finds it. -/
def bwdA6 : Vec F S260x4x64x64 .f32 := V c (Proc.devRef .tc main_v0_1)
/-- Operand 7 as the region finds it. -/
def bwdA7 : Vec F S4x16640x64 .f32 := V c (Proc.devRef .tc main_arg6)

/-- The chunks of the whole scan, last first. -/
def bwdC : ℕ → Fin 4 → BChunk F := bgrid (bwdA0 V c) (bwdA1 V c) (bwdA2 V c) (bwdA3 V c) (bwdA4 V c) (bwdA5 V c) (bwdA6 V c) (bwdA7 V c)
/-- The state gradients of the whole scan, last chunk first. -/
def bwdS : ℕ → Fin 4 → Tile F := bstate (bwdC V c) zeros

/-- The gradient of `u`, chunk by chunk. -/
def bwdDv (n : ℕ) (h : Fin 4) : Tile F := (bwdC V c (259 - n) h).dv (bwdS V c (259 - n) h)
/-- The gradient of `w`, chunk by chunk. -/
def bwdDw (n : ℕ) (h : Fin 4) : Tile F := (bwdC V c (259 - n) h).dw (bwdS V c (259 - n) h)
/-- The gradient of `q`, chunk by chunk. -/
def bwdDq (n : ℕ) (h : Fin 4) : Tile F := (bwdC V c (259 - n) h).dq
/-- The gradient of `k`, chunk by chunk. -/
def bwdDk (n : ℕ) (h : Fin 4) : Tile F := (bwdC V c (259 - n) h).dk (bwdS V c (259 - n) h)
/-- The gradient of `a`, chunk by chunk. -/
def bwdDa (n : ℕ) (h : Fin 4) : Tile F := (bwdC V c (259 - n) h).da
/-- The gradient of `e`, chunk by chunk. -/
def bwdDe (n : ℕ) (h : Fin 4) : Tile F := (bwdC V c (259 - n) h).de (bwdS V c (259 - n) h)

/-! ## The blocks -/

/-- Window `w`'s block at point `t`. -/
def bwdBlk (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem bwdIdx0 : ∀ t : Fin cfg1.N, win1_0.index t = ![0, (25 - t.val), 0] := (by decide +kernel : ∀ t : Fin grid1.N, _)
theorem bwdIdx1 : ∀ t : Fin cfg1.N, win1_1.index t = ![0, (25 - t.val), 0] := (by decide +kernel : ∀ t : Fin grid1.N, _)
theorem bwdIdx2 : ∀ t : Fin cfg1.N, win1_2.index t = ![0, (25 - t.val), 0] := (by decide +kernel : ∀ t : Fin grid1.N, _)
theorem bwdIdx3 : ∀ t : Fin cfg1.N, win1_3.index t = ![0, (25 - t.val), 0] := (by decide +kernel : ∀ t : Fin grid1.N, _)
theorem bwdIdx4 : ∀ t : Fin cfg1.N, win1_4.index t = ![0, (25 - t.val), 0] := (by decide +kernel : ∀ t : Fin grid1.N, _)
theorem bwdIdx5 : ∀ t : Fin cfg1.N, win1_5.index t = ![0, (25 - t.val), 0] := (by decide +kernel : ∀ t : Fin grid1.N, _)
theorem bwdIdx6 : ∀ t : Fin cfg1.N, win1_6.index t = ![(25 - t.val), 0, 0, 0] := (by decide +kernel : ∀ t : Fin grid1.N, _)
theorem bwdIdx7 : ∀ t : Fin cfg1.N, win1_7.index t = ![0, (25 - t.val), 0] := (by decide +kernel : ∀ t : Fin grid1.N, _)
theorem bwdIdx8 : ∀ t : Fin cfg1.N, win1_8.index t = ![0, (25 - t.val), 0] := (by decide +kernel : ∀ t : Fin grid1.N, _)
theorem bwdIdx9 : ∀ t : Fin cfg1.N, win1_9.index t = ![0, (25 - t.val), 0] := (by decide +kernel : ∀ t : Fin grid1.N, _)
theorem bwdIdx10 : ∀ t : Fin cfg1.N, win1_10.index t = ![0, (25 - t.val), 0] := (by decide +kernel : ∀ t : Fin grid1.N, _)
theorem bwdIdx11 : ∀ t : Fin cfg1.N, win1_11.index t = ![0, (25 - t.val), 0] := (by decide +kernel : ∀ t : Fin grid1.N, _)
theorem bwdIdx12 : ∀ t : Fin cfg1.N, win1_12.index t = ![0, (25 - t.val), 0] := (by decide +kernel : ∀ t : Fin grid1.N, _)
theorem bwdIdx13 : ∀ t : Fin cfg1.N, win1_13.index t = ![0, (25 - t.val), 0] := (by decide +kernel : ∀ t : Fin grid1.N, _)

theorem bwdBlk0 (t : Fin cfg1.N) (n : ℕ) (hn : n < 10) (h : Fin 4) :
    rowsOf (bwdBlk V c 0 t) n h = chunkOf (bwdA0 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA0
  refine congrArg (V c (Proc.devRef .tc main_arg0)) ?_
  funext a; refine Fin.ext ?_
  match a with
  | ⟨0, _⟩ => blk_simp [bwdIdx0]; rfl
  | ⟨1, _⟩ => blk_simp [bwdIdx0]; show (25 - t.val) * 640 + (y 1).val = (640 * (25 - t.val) + (y 1).val) % 16640; omega
  | ⟨2, _⟩ => blk_simp [bwdIdx0]; rfl
theorem bwdBlk1 (t : Fin cfg1.N) (n : ℕ) (hn : n < 10) (h : Fin 4) :
    rowsOf (bwdBlk V c 1 t) n h = chunkOf (bwdA1 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA1
  refine congrArg (V c (Proc.devRef .tc main_arg1)) ?_
  funext a; refine Fin.ext ?_
  match a with
  | ⟨0, _⟩ => blk_simp [bwdIdx1]; rfl
  | ⟨1, _⟩ => blk_simp [bwdIdx1]; show (25 - t.val) * 640 + (y 1).val = (640 * (25 - t.val) + (y 1).val) % 16640; omega
  | ⟨2, _⟩ => blk_simp [bwdIdx1]; rfl
theorem bwdBlk2 (t : Fin cfg1.N) (n : ℕ) (hn : n < 10) (h : Fin 4) :
    rowsOf (bwdBlk V c 2 t) n h = chunkOf (bwdA2 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA2
  refine congrArg (V c (Proc.devRef .tc main_arg2)) ?_
  funext a; refine Fin.ext ?_
  match a with
  | ⟨0, _⟩ => blk_simp [bwdIdx2]; rfl
  | ⟨1, _⟩ => blk_simp [bwdIdx2]; show (25 - t.val) * 640 + (y 1).val = (640 * (25 - t.val) + (y 1).val) % 16640; omega
  | ⟨2, _⟩ => blk_simp [bwdIdx2]; rfl
theorem bwdBlk3 (t : Fin cfg1.N) (n : ℕ) (hn : n < 10) (h : Fin 4) :
    rowsOf (bwdBlk V c 3 t) n h = chunkOf (bwdA3 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA3
  refine congrArg (V c (Proc.devRef .tc main_arg3)) ?_
  funext a; refine Fin.ext ?_
  match a with
  | ⟨0, _⟩ => blk_simp [bwdIdx3]; rfl
  | ⟨1, _⟩ => blk_simp [bwdIdx3]; show (25 - t.val) * 640 + (y 1).val = (640 * (25 - t.val) + (y 1).val) % 16640; omega
  | ⟨2, _⟩ => blk_simp [bwdIdx3]; rfl
theorem bwdBlk4 (t : Fin cfg1.N) (n : ℕ) (hn : n < 10) (h : Fin 4) :
    rowsOf (bwdBlk V c 4 t) n h = chunkOf (bwdA4 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA4
  refine congrArg (V c (Proc.devRef .tc main_arg4)) ?_
  funext a; refine Fin.ext ?_
  match a with
  | ⟨0, _⟩ => blk_simp [bwdIdx4]; rfl
  | ⟨1, _⟩ => blk_simp [bwdIdx4]; show (25 - t.val) * 640 + (y 1).val = (640 * (25 - t.val) + (y 1).val) % 16640; omega
  | ⟨2, _⟩ => blk_simp [bwdIdx4]; rfl
theorem bwdBlk5 (t : Fin cfg1.N) (n : ℕ) (hn : n < 10) (h : Fin 4) :
    rowsOf (bwdBlk V c 5 t) n h = chunkOf (bwdA5 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA5
  refine congrArg (V c (Proc.devRef .tc main_arg5)) ?_
  funext a; refine Fin.ext ?_
  match a with
  | ⟨0, _⟩ => blk_simp [bwdIdx5]; rfl
  | ⟨1, _⟩ => blk_simp [bwdIdx5]; show (25 - t.val) * 640 + (y 1).val = (640 * (25 - t.val) + (y 1).val) % 16640; omega
  | ⟨2, _⟩ => blk_simp [bwdIdx5]; rfl
theorem bwdBlk6 (t : Fin cfg1.N) (n : ℕ) (hn : n < 10) (h : Fin 4) :
    histOf (bwdBlk V c 6 t) n h = stateOf (bwdA6 V c) (10 * (25 - t.val) + n) h := by
  have ht : t.val < 26 := lt_of_lt_of_eq t.isLt (show cfg1.N = 26 from N_1)
  refine histOf_block _ _ _ (by omega) (fun y => ?_) n hn h
  have hy : (y 0).val < 10 := (y 0).isLt
  unfold bwdBlk bwdA6
  refine congrArg (V c (Proc.devRef .tc main_v0_1)) ?_
  funext a; refine Fin.ext ?_
  match a with
  | ⟨0, _⟩ => blk_simp [bwdIdx6]; show (25 - t.val) * 10 + (y 0).val = (10 * (25 - t.val) + (y 0).val) % 260; omega
  | ⟨1, _⟩ => blk_simp [bwdIdx6]; rfl
  | ⟨2, _⟩ => blk_simp [bwdIdx6]; rfl
  | ⟨3, _⟩ => blk_simp [bwdIdx6]; rfl
theorem bwdBlk7 (t : Fin cfg1.N) (n : ℕ) (hn : n < 10) (h : Fin 4) :
    rowsOf (bwdBlk V c 7 t) n h = chunkOf (bwdA7 V c) (10 * (25 - t.val) + n) h := by
  have ht : t.val < 26 := lt_of_lt_of_eq t.isLt (show cfg1.N = 26 from N_1)
  refine rowsOf_block _ _ _ (by omega) (fun y => ?_) n hn h
  have hy : (y 1).val < 640 := (y 1).isLt
  unfold bwdBlk bwdA7
  refine congrArg (V c (Proc.devRef .tc main_arg6)) ?_
  funext a; refine Fin.ext ?_
  match a with
  | ⟨0, _⟩ => blk_simp [bwdIdx7]; rfl
  | ⟨1, _⟩ => blk_simp [bwdIdx7]; show (25 - t.val) * 640 + (y 1).val = (640 * (25 - t.val) + (y 1).val) % 16640; omega
  | ⟨2, _⟩ => blk_simp [bwdIdx7]; rfl

/-- The chunks of point `t`'s blocks, last first, are those of the arrays from step `10 t` on. -/
theorem bwd_chunks (t : Fin cfg1.N) (n : ℕ) (hn : n < 10) : bblock (bwdBlk V c 0 t) (bwdBlk V c 1 t) (bwdBlk V c 2 t) (bwdBlk V c 3 t) (bwdBlk V c 4 t) (bwdBlk V c 5 t) (bwdBlk V c 6 t) (bwdBlk V c 7 t) n = bwdC V c (10 * t.val + n) := by
  have ht : t.val < 26 := lt_of_lt_of_eq t.isLt (show cfg1.N = 26 from N_1)
  have hn' : 9 - n < 10 := by omega
  have e : 259 - (10 * t.val + n) = 10 * (25 - t.val) + (9 - n) := by omega
  funext h
  unfold bblock bwdC bgrid fblock fgrid
  rw [e, bwdBlk0 V c t _ hn', bwdBlk1 V c t _ hn', bwdBlk2 V c t _ hn', bwdBlk3 V c t _ hn', bwdBlk4 V c t _ hn', bwdBlk5 V c t _ hn', bwdBlk6 V c t _ hn', bwdBlk7 V c t _ hn']

theorem bwd_states (t : Fin cfg1.N) (k : ℕ) (hk : k ≤ 10) :
    bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) k = bwdS V c (10 * t.val + k) :=
  bstate_block _ _ _ _ _ hk fun n hn => bwd_chunks V c t n hn

theorem bwd_left8 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).dv (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) n h)) = blockOf (bwdDv V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).dv (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) (9 - m) h) = (bwdC V c (259 - (10 * (25 - t.val) + m)) h).dv (bwdS V c (259 - (10 * (25 - t.val) + m)) h)
  rw [e, bwd_chunks V c t _ hm', bwd_states V c t _ hm'.le]

theorem bwd_left9 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).dw (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) n h)) = blockOf (bwdDw V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).dw (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) (9 - m) h) = (bwdC V c (259 - (10 * (25 - t.val) + m)) h).dw (bwdS V c (259 - (10 * (25 - t.val) + m)) h)
  rw [e, bwd_chunks V c t _ hm', bwd_states V c t _ hm'.le]

theorem bwd_left10 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).dq) = blockOf (bwdDq V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).dq = (bwdC V c (259 - (10 * (25 - t.val) + m)) h).dq
  rw [e, bwd_chunks V c t _ hm']

theorem bwd_left11 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).dk (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) n h)) = blockOf (bwdDk V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).dk (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) (9 - m) h) = (bwdC V c (259 - (10 * (25 - t.val) + m)) h).dk (bwdS V c (259 - (10 * (25 - t.val) + m)) h)
  rw [e, bwd_chunks V c t _ hm', bwd_states V c t _ hm'.le]

theorem bwd_left12 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).da) = blockOf (bwdDa V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).da = (bwdC V c (259 - (10 * (25 - t.val) + m)) h).da
  rw [e, bwd_chunks V c t _ hm']

theorem bwd_left13 (t : Fin cfg1.N) (X : Vec F S4x640x64 .f32) :
    fillRows (9 - ·) 10 X (fun n h => (bblock (bwdBlk V c 0 t) (bwdBlk V c 1 t) (bwdBlk V c 2 t) (bwdBlk V c 3 t) (bwdBlk V c 4 t) (bwdBlk V c 5 t) (bwdBlk V c 6 t) (bwdBlk V c 7 t) n h).de (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) n h)) = blockOf (bwdDe V c) (25 - t.val) := by
  have ht : t.val < 26 := lt_of_lt_of_eq t.isLt (show cfg1.N = 26 from N_1)
  refine fillRows_eq_blockOf _ (fun m hm => by show 9 - m < 10; omega) _ _ _ _ fun m hm => ?_
  have hm' : 9 - m < 10 := by omega
  have e : 259 - (10 * (25 - t.val) + m) = 10 * t.val + (9 - m) := by omega
  funext h
  show (bblock (bwdBlk V c 0 t) (bwdBlk V c 1 t) (bwdBlk V c 2 t) (bwdBlk V c 3 t) (bwdBlk V c 4 t) (bwdBlk V c 5 t) (bwdBlk V c 6 t) (bwdBlk V c 7 t) (9 - m) h).de (bstate (bblock (bwdBlk V c 0 t) (bwdBlk V c 1 t) (bwdBlk V c 2 t) (bwdBlk V c 3 t) (bwdBlk V c 4 t) (bwdBlk V c 5 t) (bwdBlk V c 6 t) (bwdBlk V c 7 t)) (bwdS V c (10 * t.val)) (9 - m) h) = (bwdC V c (259 - (10 * (25 - t.val) + m)) h).de (bwdS V c (259 - (10 * (25 - t.val) + m)) h)
  rw [e, bwd_chunks V c t _ hm', bwd_states V c t _ hm'.le]

/-! ## The condition of the reset -/

/-- The state is reset at the first point, only. -/
theorem bwd_cond (t : Fin cfg1.N) :
    (Scalar.cmpi .ne (Scalar.extui (Scalar.cmpi .eq (BitVec.ofNat 32 ((grid1.coords t) 0).val) 0#32)) 0#32 : BitVec 1) = 1#1 ↔ t.val = 0 :=
  (by decide +kernel : ∀ t : Fin grid1.N, (Scalar.cmpi .ne (Scalar.extui (Scalar.cmpi .eq (BitVec.ofNat 32 ((grid1.coords t) 0).val) 0#32)) 0#32 : BitVec 1) = 1#1 ↔ t.val = 0) t

/-! ## What the points hand on -/

/-- The scratch, whole. -/
abbrev bwdSc : Memref sig .tc .vmem S4x64x64 .f32 := Memref.whole cc1_scratch0

/-- The other scoped buffers and the generator register. -/
def bwdRest : sProp 𝕄 :=
  iprop(Pipeline.scopedRestBut (Ix := Unit) (Name := ℕ) (U := UR sig nD τ) (Lvl := ℕ) (Val := Elt F) spec1 c [cc1_scratch0] ∗ ∃ r, prngReg c r)

/-- Before point `n`: the scratch at anything before the first, at the state reached otherwise. -/
def bwdPhi (n : ℕ) : sProp 𝕄 :=
  if n = 0 then iprop((∃ d, owns (c : Thread nD τ) bwdSc fullShare d) ∗ bwdRest c)
  else iprop(owns (c : Thread nD τ) bwdSc fullShare (pack (bwdS V c (10 * n))) ∗ bwdRest c)

/-- The region's data: the arrays as found, each operand's block in place, each result's block as the body leaves it. -/
def bwdDat : Dat τ (Elt F) Unit ℕ (UR sig nD τ) ℕ cfg1 c where
  A w := V c (Proc.devRef .tc (Pipeline.arrRef spec1 w))
  after w t := match w with
    | ⟨0, _⟩ => bwdBlk V c 0 t
    | ⟨1, _⟩ => bwdBlk V c 1 t
    | ⟨2, _⟩ => bwdBlk V c 2 t
    | ⟨3, _⟩ => bwdBlk V c 3 t
    | ⟨4, _⟩ => bwdBlk V c 4 t
    | ⟨5, _⟩ => bwdBlk V c 5 t
    | ⟨6, _⟩ => bwdBlk V c 6 t
    | ⟨7, _⟩ => bwdBlk V c 7 t
    | ⟨8, _⟩ => blockOf (bwdDv V c) (25 - t.val)
    | ⟨9, _⟩ => blockOf (bwdDw V c) (25 - t.val)
    | ⟨10, _⟩ => blockOf (bwdDq V c) (25 - t.val)
    | ⟨11, _⟩ => blockOf (bwdDk V c) (25 - t.val)
    | ⟨12, _⟩ => blockOf (bwdDa V c) (25 - t.val)
    | ⟨13, _⟩ => blockOf (bwdDe V c) (25 - t.val)
  Φ t := bwdPhi V c t.val
  q _ := fullShare
  owed _ := 0

theorem bwdA_eq (w : Fin cfg1.W) : (bwdDat V c).A w = V c (Proc.devRef .tc (Pipeline.arrRef spec1 w)) := by dsimp only [bwdDat]

theorem bwdAfter0 (t : Fin cfg1.N) : (bwdDat V c).after 0 t = bwdBlk V c 0 t := by dsimp only [bwdDat]
theorem bwdAfter1 (t : Fin cfg1.N) : (bwdDat V c).after 1 t = bwdBlk V c 1 t := by dsimp only [bwdDat]
theorem bwdAfter2 (t : Fin cfg1.N) : (bwdDat V c).after 2 t = bwdBlk V c 2 t := by dsimp only [bwdDat]
theorem bwdAfter3 (t : Fin cfg1.N) : (bwdDat V c).after 3 t = bwdBlk V c 3 t := by dsimp only [bwdDat]
theorem bwdAfter4 (t : Fin cfg1.N) : (bwdDat V c).after 4 t = bwdBlk V c 4 t := by dsimp only [bwdDat]
theorem bwdAfter5 (t : Fin cfg1.N) : (bwdDat V c).after 5 t = bwdBlk V c 5 t := by dsimp only [bwdDat]
theorem bwdAfter6 (t : Fin cfg1.N) : (bwdDat V c).after 6 t = bwdBlk V c 6 t := by dsimp only [bwdDat]
theorem bwdAfter7 (t : Fin cfg1.N) : (bwdDat V c).after 7 t = bwdBlk V c 7 t := by dsimp only [bwdDat]
theorem bwdAfter8 (t : Fin cfg1.N) : (bwdDat V c).after 8 t = blockOf (bwdDv V c) (25 - t.val) := by dsimp only [bwdDat]
theorem bwdAfter9 (t : Fin cfg1.N) : (bwdDat V c).after 9 t = blockOf (bwdDw V c) (25 - t.val) := by dsimp only [bwdDat]
theorem bwdAfter10 (t : Fin cfg1.N) : (bwdDat V c).after 10 t = blockOf (bwdDq V c) (25 - t.val) := by dsimp only [bwdDat]
theorem bwdAfter11 (t : Fin cfg1.N) : (bwdDat V c).after 11 t = blockOf (bwdDk V c) (25 - t.val) := by dsimp only [bwdDat]
theorem bwdAfter12 (t : Fin cfg1.N) : (bwdDat V c).after 12 t = blockOf (bwdDa V c) (25 - t.val) := by dsimp only [bwdDat]
theorem bwdAfter13 (t : Fin cfg1.N) : (bwdDat V c).after 13 t = blockOf (bwdDe V c) (25 - t.val) := by dsimp only [bwdDat]
theorem bwdBefore0 (t : Fin cfg1.N) (d) : (bwdDat V c).before 0 t d = bwdBlk V c 0 t :=
  ((bwdDat V c).before_in_eq_fetched 0 rfl (fun _ => rfl) (fun _ _ _ => rfl) (fun t => by rw [bwdAfter0]; unfold Dat.blockOf bwdBlk; rw [bwdA_eq]) t d).trans
    (by unfold Dat.fetched Dat.blockOf bwdBlk; rw [bwdA_eq]; try rfl)
theorem bwdBefore1 (t : Fin cfg1.N) (d) : (bwdDat V c).before 1 t d = bwdBlk V c 1 t :=
  ((bwdDat V c).before_in_eq_fetched 1 rfl (fun _ => rfl) (fun _ _ _ => rfl) (fun t => by rw [bwdAfter1]; unfold Dat.blockOf bwdBlk; rw [bwdA_eq]) t d).trans
    (by unfold Dat.fetched Dat.blockOf bwdBlk; rw [bwdA_eq]; try rfl)
theorem bwdBefore2 (t : Fin cfg1.N) (d) : (bwdDat V c).before 2 t d = bwdBlk V c 2 t :=
  ((bwdDat V c).before_in_eq_fetched 2 rfl (fun _ => rfl) (fun _ _ _ => rfl) (fun t => by rw [bwdAfter2]; unfold Dat.blockOf bwdBlk; rw [bwdA_eq]) t d).trans
    (by unfold Dat.fetched Dat.blockOf bwdBlk; rw [bwdA_eq]; try rfl)
theorem bwdBefore3 (t : Fin cfg1.N) (d) : (bwdDat V c).before 3 t d = bwdBlk V c 3 t :=
  ((bwdDat V c).before_in_eq_fetched 3 rfl (fun _ => rfl) (fun _ _ _ => rfl) (fun t => by rw [bwdAfter3]; unfold Dat.blockOf bwdBlk; rw [bwdA_eq]) t d).trans
    (by unfold Dat.fetched Dat.blockOf bwdBlk; rw [bwdA_eq]; try rfl)
theorem bwdBefore4 (t : Fin cfg1.N) (d) : (bwdDat V c).before 4 t d = bwdBlk V c 4 t :=
  ((bwdDat V c).before_in_eq_fetched 4 rfl (fun _ => rfl) (fun _ _ _ => rfl) (fun t => by rw [bwdAfter4]; unfold Dat.blockOf bwdBlk; rw [bwdA_eq]) t d).trans
    (by unfold Dat.fetched Dat.blockOf bwdBlk; rw [bwdA_eq]; try rfl)
theorem bwdBefore5 (t : Fin cfg1.N) (d) : (bwdDat V c).before 5 t d = bwdBlk V c 5 t :=
  ((bwdDat V c).before_in_eq_fetched 5 rfl (fun _ => rfl) (fun _ _ _ => rfl) (fun t => by rw [bwdAfter5]; unfold Dat.blockOf bwdBlk; rw [bwdA_eq]) t d).trans
    (by unfold Dat.fetched Dat.blockOf bwdBlk; rw [bwdA_eq]; try rfl)
theorem bwdBefore6 (t : Fin cfg1.N) (d) : (bwdDat V c).before 6 t d = bwdBlk V c 6 t :=
  ((bwdDat V c).before_in_eq_fetched 6 rfl (fun _ => rfl) (fun _ _ _ => rfl) (fun t => by rw [bwdAfter6]; unfold Dat.blockOf bwdBlk; rw [bwdA_eq]) t d).trans
    (by unfold Dat.fetched Dat.blockOf bwdBlk; rw [bwdA_eq]; try rfl)
theorem bwdBefore7 (t : Fin cfg1.N) (d) : (bwdDat V c).before 7 t d = bwdBlk V c 7 t :=
  ((bwdDat V c).before_in_eq_fetched 7 rfl (fun _ => rfl) (fun _ _ _ => rfl) (fun t => by rw [bwdAfter7]; unfold Dat.blockOf bwdBlk; rw [bwdA_eq]) t d).trans
    (by unfold Dat.fetched Dat.blockOf bwdBlk; rw [bwdA_eq]; try rfl)

/-! ## The body at a point -/

/-- What the body finds at point `t`. -/
def bwdPre (t : Fin cfg1.N) : sProp 𝕄 :=
  iprop((bwdDat V c).Φ t.castSucc ∗ (bwdDat V c).owesAt () t.castSucc
    ∗ (∃ d, owns (c : Thread nD τ) (st1_0 t) fullShare ((bwdDat V c).before 0 t d))
    ∗ (∃ d, owns (c : Thread nD τ) (st1_1 t) fullShare ((bwdDat V c).before 1 t d))
    ∗ (∃ d, owns (c : Thread nD τ) (st1_2 t) fullShare ((bwdDat V c).before 2 t d))
    ∗ (∃ d, owns (c : Thread nD τ) (st1_3 t) fullShare ((bwdDat V c).before 3 t d))
    ∗ (∃ d, owns (c : Thread nD τ) (st1_4 t) fullShare ((bwdDat V c).before 4 t d))
    ∗ (∃ d, owns (c : Thread nD τ) (st1_5 t) fullShare ((bwdDat V c).before 5 t d))
    ∗ (∃ d, owns (c : Thread nD τ) (st1_6 t) fullShare ((bwdDat V c).before 6 t d))
    ∗ (∃ d, owns (c : Thread nD τ) (st1_7 t) fullShare ((bwdDat V c).before 7 t d))
    ∗ (∃ d, owns (c : Thread nD τ) (st1_8 t) fullShare ((bwdDat V c).before 8 t d))
    ∗ (∃ d, owns (c : Thread nD τ) (st1_9 t) fullShare ((bwdDat V c).before 9 t d))
    ∗ (∃ d, owns (c : Thread nD τ) (st1_10 t) fullShare ((bwdDat V c).before 10 t d))
    ∗ (∃ d, owns (c : Thread nD τ) (st1_11 t) fullShare ((bwdDat V c).before 11 t d))
    ∗ (∃ d, owns (c : Thread nD τ) (st1_12 t) fullShare ((bwdDat V c).before 12 t d))
    ∗ (∃ d, owns (c : Thread nD τ) (st1_13 t) fullShare ((bwdDat V c).before 13 t d)))

/-- What it leaves. -/
def bwdPost (t : Fin cfg1.N) : sProp 𝕄 :=
  iprop((bwdDat V c).Φ t.succ ∗ (bwdDat V c).owesAt () t.succ
    ∗ owns (c : Thread nD τ) (st1_0 t) fullShare ((bwdDat V c).after 0 t)
    ∗ owns (c : Thread nD τ) (st1_1 t) fullShare ((bwdDat V c).after 1 t)
    ∗ owns (c : Thread nD τ) (st1_2 t) fullShare ((bwdDat V c).after 2 t)
    ∗ owns (c : Thread nD τ) (st1_3 t) fullShare ((bwdDat V c).after 3 t)
    ∗ owns (c : Thread nD τ) (st1_4 t) fullShare ((bwdDat V c).after 4 t)
    ∗ owns (c : Thread nD τ) (st1_5 t) fullShare ((bwdDat V c).after 5 t)
    ∗ owns (c : Thread nD τ) (st1_6 t) fullShare ((bwdDat V c).after 6 t)
    ∗ owns (c : Thread nD τ) (st1_7 t) fullShare ((bwdDat V c).after 7 t)
    ∗ owns (c : Thread nD τ) (st1_8 t) fullShare ((bwdDat V c).after 8 t)
    ∗ owns (c : Thread nD τ) (st1_9 t) fullShare ((bwdDat V c).after 9 t)
    ∗ owns (c : Thread nD τ) (st1_10 t) fullShare ((bwdDat V c).after 10 t)
    ∗ owns (c : Thread nD τ) (st1_11 t) fullShare ((bwdDat V c).after 11 t)
    ∗ owns (c : Thread nD τ) (st1_12 t) fullShare ((bwdDat V c).after 12 t)
    ∗ owns (c : Thread nD τ) (st1_13 t) fullShare ((bwdDat V c).after 13 t))

/-- The loop's last state of the blocks is what the next point starts from. -/
theorem bwd_end (t : Fin cfg1.N) (s : Fin 4 → Tile F) (hs : s = bwdS V c (10 * t.val)) (X8 : Vec F S4x640x64 .f32) (X9 : Vec F S4x640x64 .f32) (X10 : Vec F S4x640x64 .f32) (X11 : Vec F S4x640x64 .f32) (X12 : Vec F S4x640x64 .f32) (X13 : Vec F S4x640x64 .f32) :
    bwdInv c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) bwdSc (Memref.isWhole_whole _) (bwdBlk V c 0 t) (bwdBlk V c 1 t) (bwdBlk V c 2 t) (bwdBlk V c 3 t) (bwdBlk V c 4 t) (bwdBlk V c 5 t) (bwdBlk V c 6 t) (bwdBlk V c 7 t) X8 X9 X10 X11 X12 X13 s 10
    ⊢ iprop(owns (c : Thread nD τ) (st1_0 t) fullShare ((bwdDat V c).after 0 t) ∗ owns (c : Thread nD τ) (st1_1 t) fullShare ((bwdDat V c).after 1 t) ∗ owns (c : Thread nD τ) (st1_2 t) fullShare ((bwdDat V c).after 2 t) ∗ owns (c : Thread nD τ) (st1_3 t) fullShare ((bwdDat V c).after 3 t) ∗ owns (c : Thread nD τ) (st1_4 t) fullShare ((bwdDat V c).after 4 t) ∗ owns (c : Thread nD τ) (st1_5 t) fullShare ((bwdDat V c).after 5 t) ∗ owns (c : Thread nD τ) (st1_6 t) fullShare ((bwdDat V c).after 6 t) ∗ owns (c : Thread nD τ) (st1_7 t) fullShare ((bwdDat V c).after 7 t) ∗ owns (c : Thread nD τ) (st1_8 t) fullShare ((bwdDat V c).after 8 t) ∗ owns (c : Thread nD τ) (st1_9 t) fullShare ((bwdDat V c).after 9 t) ∗ owns (c : Thread nD τ) (st1_10 t) fullShare ((bwdDat V c).after 10 t) ∗ owns (c : Thread nD τ) (st1_11 t) fullShare ((bwdDat V c).after 11 t) ∗ owns (c : Thread nD τ) (st1_12 t) fullShare ((bwdDat V c).after 12 t) ∗ owns (c : Thread nD τ) (st1_13 t) fullShare ((bwdDat V c).after 13 t) ∗ owns (c : Thread nD τ) bwdSc fullShare (pack (bwdS V c (10 * (t.val + 1))))) := by
  subst hs
  unfold bwdInv
  rw [bwdAfter0, bwdAfter1, bwdAfter2, bwdAfter3, bwdAfter4, bwdAfter5, bwdAfter6, bwdAfter7, bwdAfter8, bwdAfter9, bwdAfter10, bwdAfter11, bwdAfter12, bwdAfter13, bwd_left8 V c t, bwd_left9 V c t, bwd_left10 V c t, bwd_left11 V c t, bwd_left12 V c t, bwd_left13 V c t, bwd_states V c t 10 le_rfl]
  exact .rfl

set_option maxHeartbeats 6400000 in
/-- The body at any point. -/
theorem bwd_sound (t : Fin cfg1.N) :
    bwdPre V c t ⊢ wp frame (wpE (defs₀ (F := F)) Variants.none c none) Set.univ (bodyAt1 t) (fun _ => bwdPost V c t) := by
  unfold bwdPre bwdPost bodyAt1
  simp only [bwdBefore0, bwdBefore1, bwdBefore2, bwdBefore3, bwdBefore4, bwdBefore5, bwdBefore6, bwdBefore7]
  rw [show (bwdDat V c).owesAt () t.succ = (bwdDat V c).owesAt () t.castSucc from rfl,
    show (bwdDat V c).Φ t.castSucc = bwdPhi V c t.val from rfl, show (bwdDat V c).Φ t.succ = bwdPhi V c (t.val + 1) from rfl]
  unfold bwdPhi
  rw [if_neg (Nat.succ_ne_zero t.val)]
  by_cases hz : t.val = 0
  · rw [if_pos hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (wp_wand_r frame (wpE (defs₀ (F := F)) Variants.none (c : Thread nD τ) none) Set.univ)
    isplitl [H0 H1 H2 H3 H4 H5 H6 H7 H8 H9 H10 H11 H12 H13 HS]
    · iapply (bwd_body_first c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) bwdSc (Memref.isWhole_whole _) ((bwd_cond t).mpr hz) (bwdBlk V c 0 t) (bwdBlk V c 1 t) (bwdBlk V c 2 t) (bwdBlk V c 3 t) (bwdBlk V c 4 t) (bwdBlk V c 5 t) (bwdBlk V c 6 t) (bwdBlk V c 7 t) ((bwdDat V c).before 8 t d8) ((bwdDat V c).before 9 t d9) ((bwdDat V c).before 10 t d10) ((bwdDat V c).before 11 t d11) ((bwdDat V c).before 12 t d12) ((bwdDat V c).before 13 t d13) ds)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    iintro %u HQ
    ihave HE := (bwd_end V c t (fun _ => zeroT) (by rw [hz]; rfl) ((bwdDat V c).before 8 t d8) ((bwdDat V c).before 9 t d9) ((bwdDat V c).before 10 t d10) ((bwdDat V c).before 11 t d11) ((bwdDat V c).before 12 t d12) ((bwdDat V c).before 13 t d13)) $$ HQ
    icases HE with ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [if_neg hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (wp_wand_r frame (wpE (defs₀ (F := F)) Variants.none (c : Thread nD τ) none) Set.univ)
    isplitl [H0 H1 H2 H3 H4 H5 H6 H7 H8 H9 H10 H11 H12 H13 HS]
    · iapply (bwd_body_later c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) bwdSc (Memref.isWhole_whole _) (fun h => hz ((bwd_cond t).mp h)) (bwdBlk V c 0 t) (bwdBlk V c 1 t) (bwdBlk V c 2 t) (bwdBlk V c 3 t) (bwdBlk V c 4 t) (bwdBlk V c 5 t) (bwdBlk V c 6 t) (bwdBlk V c 7 t) ((bwdDat V c).before 8 t d8) ((bwdDat V c).before 9 t d9) ((bwdDat V c).before 10 t d10) ((bwdDat V c).before 11 t d11) ((bwdDat V c).before 12 t d12) ((bwdDat V c).before 13 t d13) (bwdS V c (10 * t.val)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HS
    iintro %u HQ
    ihave HE := (bwd_end V c t (bwdS V c (10 * t.val)) rfl ((bwdDat V c).before 8 t d8) ((bwdDat V c).before 9 t d9) ((bwdDat V c).before 10 t d10) ((bwdDat V c).before 11 t d11) ((bwdDat V c).before 12 t d12) ((bwdDat V c).before 13 t d13)) $$ HQ
    icases HE with ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The scoped buffers beside the staging buffers, the state's scratch first. -/
theorem bwd_scoped : (Pipeline.scopedRest (Ix := Unit) (Name := ℕ) (U := UR sig nD τ) (Lvl := ℕ) (Val := Elt F) spec1 c : sProp 𝕄)
    = iprop(iprop(∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's body obligation. -/
theorem bwd_obligation : BodyObligation (bwdDat V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (bwd_sound V c t) rfl .rfl fun _ => .rfl

/-- The scoped buffers and the generator register give what the first point needs. -/
theorem bwd_in : iprop(Pipeline.scopedRest (Ix := Unit) (Name := ℕ) (U := UR sig nD τ) (Lvl := ℕ) (Val := Elt F) spec1 c ∗ ∃ r, prngReg c r)
    ⊢ (bwdDat V c).Φ 0 := by
  rw [show (bwdDat V c).Φ 0 = bwdPhi V c 0 from rfl, bwd_scoped]
  unfold bwdPhi bwdRest
  rw [if_pos rfl]
  simp only [bwdSc, owns_whole]
  iintro ⟨⟨HS, HR⟩, Hg⟩
  isplitl [HS]; · iexact HS
  isplitl [HR]; · iexact HR
  iexact Hg

/-- The last point gives them back. -/
theorem bwd_out : (bwdDat V c).Φ (Fin.last cfg1.N)
    ⊢ iprop(Pipeline.scopedRest (Ix := Unit) (Name := ℕ) (U := UR sig nD τ) (Lvl := ℕ) (Val := Elt F) spec1 c ∗ ∃ r, prngReg c r) := by
  rw [show (bwdDat V c).Φ (Fin.last cfg1.N) = bwdPhi V c (Fin.last cfg1.N).val from rfl, bwd_scoped]
  unfold bwdPhi bwdRest
  rw [if_neg (by rw [Fin.val_last, show cfg1.N = 26 from N_1]; decide)]
  simp only [bwdSc, owns_whole]
  iintro ⟨HS, HR, Hg⟩
  isplitl [HS HR]
  · isplitl [HS]
    · iexists _; iexact HS
    iexact HR
  iexact Hg

/-! ## The arrays afterwards -/

theorem bwdFinal8 : (bwdDat V c).arrAt 8 cfg1.N = ofChunks (bwdDv V c) := by
  refine (bwdDat V c).arrAt_eq_of_covers 8 _ (by decide +kernel) fun t hf y => ?_
  refine (congrFun (bwdAfter8 V c t) _).trans ?_
  refine blockOf_eq _ _ _ _ ?_ ?_ ?_ <;> blk_simp [bwdIdx8] <;> rfl

theorem bwdFinal9 : (bwdDat V c).arrAt 9 cfg1.N = ofChunks (bwdDw V c) := by
  refine (bwdDat V c).arrAt_eq_of_covers 9 _ (by decide +kernel) fun t hf y => ?_
  refine (congrFun (bwdAfter9 V c t) _).trans ?_
  refine blockOf_eq _ _ _ _ ?_ ?_ ?_ <;> blk_simp [bwdIdx9] <;> rfl

theorem bwdFinal10 : (bwdDat V c).arrAt 10 cfg1.N = ofChunks (bwdDq V c) := by
  refine (bwdDat V c).arrAt_eq_of_covers 10 _ (by decide +kernel) fun t hf y => ?_
  refine (congrFun (bwdAfter10 V c t) _).trans ?_
  refine blockOf_eq _ _ _ _ ?_ ?_ ?_ <;> blk_simp [bwdIdx10] <;> rfl

theorem bwdFinal11 : (bwdDat V c).arrAt 11 cfg1.N = ofChunks (bwdDk V c) := by
  refine (bwdDat V c).arrAt_eq_of_covers 11 _ (by decide +kernel) fun t hf y => ?_
  refine (congrFun (bwdAfter11 V c t) _).trans ?_
  refine blockOf_eq _ _ _ _ ?_ ?_ ?_ <;> blk_simp [bwdIdx11] <;> rfl

theorem bwdFinal12 : (bwdDat V c).arrAt 12 cfg1.N = ofChunks (bwdDa V c) := by
  refine (bwdDat V c).arrAt_eq_of_covers 12 _ (by decide +kernel) fun t hf y => ?_
  refine (congrFun (bwdAfter12 V c t) _).trans ?_
  refine blockOf_eq _ _ _ _ ?_ ?_ ?_ <;> blk_simp [bwdIdx12] <;> rfl

theorem bwdFinal13 : (bwdDat V c).arrAt 13 cfg1.N = ofChunks (bwdDe V c) := by
  refine (bwdDat V c).arrAt_eq_of_covers 13 _ (by decide +kernel) fun t hf y => ?_
  refine (congrFun (bwdAfter13 V c t) _).trans ?_
  refine blockOf_eq _ _ _ _ ?_ ?_ ?_ <;> blk_simp [bwdIdx13] <;> rfl

end Cert.KernelIdeal.Scan
-- ==== Proof.Scan.Run.lean ====
module

public import proofs.«01_k».proof.Proof.Scan.FwdRegion
public import proofs.«01_k».proof.Proof.Scan.BwdRegion
public import Idealize.ShloMosaic.Lib.Pipeline.RegionArraysS

/-! The run of both kernels, one after the other: it ends, the arguments are as before, and the six gradients hold what the scan gives. -/

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg)

variable {F : FTy → Type} [FloatOps F]

local notation "𝕄" => MT nD τ sig Unit (Elt F) ℕ (UR sig nD τ) ℕ

variable (m : (ℓ : Loc nD τ sig) → Buf (Elt F) ℓ)

/-- The buffers when the forward kernel starts. -/
def W0 (c : Dev nD) : Valuation τ sig (Elt F) := fun b => m (c, b)
/-- The buffers between the two kernels. -/
def W1 (c : Dev nD) : Valuation τ sig (Elt F) := Pipeline.afterRegion (fwdDat (W0 m) c) (W0 m c)
/-- The buffers at the end. -/
def W2 (c : Dev nD) : Valuation τ sig (Elt F) := Pipeline.afterRegion (bwdDat (W1 m) c) (W1 m c)

/-- The data of the two regions. -/
def pdats : (p : Fin 2) → (c : Dev nD) → Dat τ (Elt F) Unit ℕ (UR sig nD τ) ℕ (cfgs p) c
  | 0, c => fwdDat (W0 m) c
  | 1, c => bwdDat (W1 m) c

/-- The waits on the staging buffers have the one index, at the TensorCore's semaphores. -/
def lvIx : GSem nD τ sig → Finset Unit := fun g => if g.1.2 = .tc then {()} else ∅
/-- All at level zero. -/
def lvOf : GSem nD τ sig → Unit → ℕ := fun _ _ => 0

theorem levels (p : Fin 2) : Pipeline.LevelCut (pcfgs (F := F)) adm () lvIx lvOf p (0 : Dev nD → CellTallies nD τ sig Unit) (fun _ => 0) where
  hι c w s := by unfold lvIx; rw [if_pos rfl]; exact Finset.mem_singleton_self _
  hιb _ _ _ := le_rfl
  hD _ _ _ h := absurd h (Nat.lt_irrefl 0)

/-- The generator register at some state. -/
def gen (c : Dev nD) : sProp 𝕄 := iprop(∃ r, prngReg c r)
/-- What a core holds beside its buffers between the regions. -/
def beside (c : Dev nD) : sProp 𝕄 :=
  iprop((∃ Wd, owes (c : Thread nD τ) (0 : CellTallies nD τ sig Unit) Wd) ∗ gen (F := F) c ∗ emp)

/-- The forward region. -/
def reg0 : RegionSeg (pcfgs (F := F)) adm (pdats m) () defs₀ Variants.none lvIx lvOf 0 :=
  RegionSeg.ofHeldIn (pcfgs (F := F)) adm (pdats m) () defs₀ Variants.none lvIx lvOf 0 0 (Pipeline.ucRefs τ sig) gen gen launch0.toP rfl
    (fun c => (fwd_obligation (W0 m) c).loose) (fun _ _ => rfl) (fun _ => rfl) (fun c => (fwdDat (W0 m) c).share_full fun _ => rfl)
    (fun c => fwd_in (W0 m) c) (fun c => fwd_out (W0 m) c) (fun _ => 0) (levels 0) (fun _ => iprop(emp)) (W0 m) (fun c w => fwdA_eq (W0 m) c w)

/-- The backward region. -/
def reg1 : RegionSeg (pcfgs (F := F)) adm (pdats m) () defs₀ Variants.none lvIx lvOf 1 :=
  RegionSeg.ofHeldIn (pcfgs (F := F)) adm (pdats m) () defs₀ Variants.none lvIx lvOf 1 0 (Pipeline.ucRefs τ sig) gen gen launch1.toP rfl
    (fun c => (bwd_obligation (W1 m) c).loose) (fun _ _ => rfl) (fun _ => rfl) (fun c => (bwdDat (W1 m) c).share_full fun _ => rfl)
    (fun c => bwd_in (W1 m) c) (fun c => bwd_out (W1 m) c) (fun _ => 0) (levels 1) (fun _ => iprop(emp)) (W1 m) (fun c w => bwdA_eq (W1 m) c w)

theorem reg0_pre (c : Dev nD) : iprop(StableHlo.held (c : Thread nD τ) (Pipeline.ucRefs τ sig) (W0 m c) ∗ beside c) ⊢ (reg0 m).pre c := by
  unfold beside reg0
  exact RegionSeg.ofHeldIn_pre (pcs := pcfgs (F := F)) (a := adm) (pdats := pdats m) (ι := ()) (defs₀ := defs₀) (𝒱₀ := Variants.none) (L := lvIx) (lv := lvOf) (p := 0) (D := 0)
    (S := Pipeline.ucRefs τ sig) (Pipeline.arrRefs_sub_ucRefs spec0 launch0.win.arr_unscoped) (X := gen) (Y := gen) (R := fun _ => iprop(emp)) (W := W0 m) c
theorem reg0_post (c : Dev nD) : (reg0 m).post c ⊢ iprop(StableHlo.held (c : Thread nD τ) (Pipeline.ucRefs τ sig) (W1 m c) ∗ beside c) := by
  unfold beside reg0 W1
  exact RegionSeg.ofHeldIn_post (pcs := pcfgs (F := F)) (a := adm) (pdats := pdats m) (ι := ()) (defs₀ := defs₀) (𝒱₀ := Variants.none) (L := lvIx) (lv := lvOf) (p := 0) (D := 0)
    (S := Pipeline.ucRefs τ sig) (Pipeline.arrRefs_sub_ucRefs spec0 launch0.win.arr_unscoped) (X := gen) (Y := gen) (R := fun _ => iprop(emp)) (W := W0 m) c
theorem reg1_pre (c : Dev nD) : iprop(StableHlo.held (c : Thread nD τ) (Pipeline.ucRefs τ sig) (W1 m c) ∗ beside c) ⊢ (reg1 m).pre c := by
  unfold beside reg1
  exact RegionSeg.ofHeldIn_pre (pcs := pcfgs (F := F)) (a := adm) (pdats := pdats m) (ι := ()) (defs₀ := defs₀) (𝒱₀ := Variants.none) (L := lvIx) (lv := lvOf) (p := 1) (D := 0)
    (S := Pipeline.ucRefs τ sig) (Pipeline.arrRefs_sub_ucRefs spec1 launch1.win.arr_unscoped) (X := gen) (Y := gen) (R := fun _ => iprop(emp)) (W := W1 m) c
theorem reg1_post (c : Dev nD) : (reg1 m).post c ⊢ iprop(StableHlo.held (c : Thread nD τ) (Pipeline.ucRefs τ sig) (W2 m c) ∗ beside c) := by
  unfold beside reg1 W2
  exact RegionSeg.ofHeldIn_post (pcs := pcfgs (F := F)) (a := adm) (pdats := pdats m) (ι := ()) (defs₀ := defs₀) (𝒱₀ := Variants.none) (L := lvIx) (lv := lvOf) (p := 1) (D := 0)
    (S := Pipeline.ucRefs τ sig) (Pipeline.arrRefs_sub_ucRefs spec1 launch1.win.arr_unscoped) (X := gen) (Y := gen) (R := fun _ => iprop(emp)) (W := W1 m) c

/-- The forward region changes its two results only. -/
theorem W1_of (c : Dev nD) (r : Ref sig .tc) (h : ∀ w, Pipeline.arrRef spec0 w = r → (cfg0.win w).isOut = false) :
    W1 m c (Proc.devRef .tc r) = m (c, Proc.devRef .tc r) :=
  Pipeline.afterRegion_keeps (fwdDat (W0 m) c) (W0 m c) launch0.win.arr_inj (fwdA_eq (W0 m) c) r h
/-- The backward region changes its six results only. -/
theorem W2_of (c : Dev nD) (r : Ref sig .tc) (h : ∀ w, Pipeline.arrRef spec1 w = r → (cfg1.win w).isOut = false) :
    W2 m c (Proc.devRef .tc r) = W1 m c (Proc.devRef .tc r) :=
  Pipeline.afterRegion_keeps (bwdDat (W1 m) c) (W1 m c) launch1.win.arr_inj (bwdA_eq (W1 m) c) r h

/-- What the run leaves on core `c`: the arguments as before, the results at the last buffers. -/
def Post (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6))
  ∧ ∀ b ∈ Pipeline.ucRefs τ sig, s.mem (c, b) = W2 m c b

set_option backward.isDefEq.respectTransparency.types false in
/-- The run: it ends, every core is as `Post` says, every semaphore is at zero. -/
theorem run_main (ρ : Dev nD → PrngReg) :
    θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (pdats m) () cellOf_inj emb₁ defs₀ Variants.none lvIx lvOf m ρ main
    (fun _ => [.region (reg0 m), .region (reg1 m)])
    (fun c Q => by
      rewrite [main_chain c, Seg.run_eq_chain]
      exact .rfl)
    (fun c => by simp only [Seg.pipes_host, Seg.pipes_region, Seg.pipes_nil]; decide) (fun _ => 0) (fun g h => if_neg h)
    (fun _ => iprop(emp)) (initOf (Pipeline.cells cfgs cellOf_inj) (Pipeline.launchToks cfgs cellOf_inj)) ?_
    (T₀ := fun c => iprop(StableHlo.held (c : Thread nD τ) (Pipeline.ucRefs τ sig) (W0 m c) ∗ beside c))
    (Tₙ := fun c => StableHlo.held (c : Thread nD τ) (Pipeline.ucRefs τ sig) (W2 m c))
    (hch := fun c => ⟨reg0_pre m c, (reg0_post m c).trans (reg1_pre m c), (reg1_post m c).trans (sep_mono .rfl sep_elim_left)⟩)
    (hinit := ?_) (QY := fun c s => Post m c s)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lvIx lvOf fun c => ?_
    rw [show unscopedBufs c (fun b => m ((c : Thread nD τ).loc b)) = StableHlo.held (c : Thread nD τ) (Pipeline.ucRefs τ sig) (W0 m c) from
      Pipeline.unscopedBufs_held (Ix := Unit) (Name := ℕ) (U := UR sig nD τ) (Lvl := ℕ) c (W0 m c)]
    unfold beside gen
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      refine ⟨⟨?_, ?_, ?_, ?_, ?_, ?_, ?_⟩, h⟩
      · exact (h (Proc.devRef .tc main_arg0) (Finset.mem_filter.mpr ⟨StableHlo.devRef_mem_tcRefs main_arg0, by decide⟩)).trans ((W2_of m c main_arg0 (by decide)).trans (W1_of m c main_arg0 (by decide)))
      · exact (h (Proc.devRef .tc main_arg1) (Finset.mem_filter.mpr ⟨StableHlo.devRef_mem_tcRefs main_arg1, by decide⟩)).trans ((W2_of m c main_arg1 (by decide)).trans (W1_of m c main_arg1 (by decide)))
      · exact (h (Proc.devRef .tc main_arg2) (Finset.mem_filter.mpr ⟨StableHlo.devRef_mem_tcRefs main_arg2, by decide⟩)).trans ((W2_of m c main_arg2 (by decide)).trans (W1_of m c main_arg2 (by decide)))
      · exact (h (Proc.devRef .tc main_arg3) (Finset.mem_filter.mpr ⟨StableHlo.devRef_mem_tcRefs main_arg3, by decide⟩)).trans ((W2_of m c main_arg3 (by decide)).trans (W1_of m c main_arg3 (by decide)))
      · exact (h (Proc.devRef .tc main_arg4) (Finset.mem_filter.mpr ⟨StableHlo.devRef_mem_tcRefs main_arg4, by decide⟩)).trans ((W2_of m c main_arg4 (by decide)).trans (W1_of m c main_arg4 (by decide)))
      · exact (h (Proc.devRef .tc main_arg5) (Finset.mem_filter.mpr ⟨StableHlo.devRef_mem_tcRefs main_arg5, by decide⟩)).trans ((W2_of m c main_arg5 (by decide)).trans (W1_of m c main_arg5 (by decide)))
      · exact (h (Proc.devRef .tc main_arg6) (Finset.mem_filter.mpr ⟨StableHlo.devRef_mem_tcRefs main_arg6, by decide⟩)).trans ((W2_of m c main_arg6 (by decide)).trans (W1_of m c main_arg6 (by decide)))
    · iexact HSI

end Cert.KernelIdeal.Scan
-- ==== Proof.Scan.SameText.lean ====
/-
  The kernel's program and its program over the extended reals have the same text, so what is proved of the second over
  any values is a fact about the first.
-/
module

public import proofs.«01_k».proof.Defs
public import proofs.«01_k».proof.Proof.Gen.Kernel
public import proofs.«01_k».proof.Proof.Gen.KernelIdeal

@[expose] public section

set_option maxRecDepth 100000
set_option maxHeartbeats 4000000

noncomputable section

namespace Cert.Scan

open Idealize.ShloMosaic Idealize.ShloMosaic.TcCoe

/-- The kernels' bodies are the same. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨1, _⟩, (t, s) => rfl

/-- The calls with their pipelines are the same. -/
theorem defs_eq : Cert.Kernel.defs (F := Bits) = Cert.KernelIdeal.defs (F := Bits) :=
  congrArg (Pipeline.defs (Cert.KernelIdeal.pcfgs (F := Bits))) bodies_eq

/-- The host programs are the same. -/
theorem main_eq : Cert.Kernel.main (F := Bits) = Cert.KernelIdeal.main (F := Bits) := rfl

end Cert.Scan
-- ==== Proof.Scan.RefOps.lean ====
/-
  The host operations of the reference, by stretches: the straight line before the forward loop, one trip of it, the
  line between the two loops, one trip of the backward loop, and the line after it. One trip reads the chunk its
  counter names out of each stack (`idxOps`), computes, and writes the chunk's results into the stacks (`updOps`).
-/
module

public import proofs.«01_k».proof.ReferenceIdeal
public import proofs.«01_k».proof.Proof.Gen.ReferenceIdeal
public import Idealize.ShloMosaic.Lib.StableHlo.RunLoop

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- The operations of one call of @dynamic_index_in_dim. -/
def idxOps (arg0 : TRef sig ⟨S260x4x64x64, .f32⟩) (arg1 : TRef sig ⟨S_, .i32⟩) (φ : fn_dynamic_index_in_dim.Bufs) : List (HloOp τ sig (Elt F)) :=
  [ TRef.nullary φ.c (constantI S_ 32 0#32)
  , TRef.nullary φ.c_0 (constantI S_ 32 0#32)
  , TRef.nullary φ.c_1 (constantI S_ 32 0#32)
  , TRef.unaryIndexed arg0 ![arg1, φ.c, φ.c_0, φ.c_1] φ.v0 (fun x i => Host.dynamicSlice S1x4x64x64 x (fun k => (i k (Shape.Idx.first h_S_)).toInt) sliceFits_S260x4x64x64_S1x4x64x64)
  , TRef.reshape φ.v0 φ.v1 (rfl : (.f32 : EltTy) = .f32) shapeCasts_S1x4x64x64_S4x64x64 ]

theorem idx_body (arg0 : TRef sig ⟨S260x4x64x64, .f32⟩) (arg1 : TRef sig ⟨S_, .i32⟩) (φ : fn_dynamic_index_in_dim.Bufs) : fn_dynamic_index_in_dim.body (F := F) arg0 arg1 φ = seq (idxOps arg0 arg1 φ) := rfl

theorem idx_sub (arg0 : TRef sig ⟨S260x4x64x64, .f32⟩) (arg1 : TRef sig ⟨S_, .i32⟩) (φ : fn_dynamic_index_in_dim.Bufs) : (idxOps (F := F) arg0 arg1 φ).Forall fun op => op.bufs ⊆ tcRefs τ sig :=
  ⟨nullary_bufs_sub .., nullary_bufs_sub .., nullary_bufs_sub .., unaryIndexed_bufs_sub .., reshape_bufs_sub ..⟩

theorem idx_fresh (arg0 : TRef sig ⟨S260x4x64x64, .f32⟩) (arg1 : TRef sig ⟨S_, .i32⟩) (φ : fn_dynamic_index_in_dim.Bufs) : ∀ op ∈ idxOps (F := F) arg0 arg1 φ, op.fresh = ∅ :=
  List.forall_iff_forall_mem.mp (forall_fresh_of_map rfl)

/-- The operations of one call of @dynamic_update_index_in_dim. -/
def updOps (arg0 : TRef sig ⟨S260x4x64x64, .f32⟩) (arg1 : TRef sig ⟨S4x64x64, .f32⟩) (arg2 : TRef sig ⟨S_, .i32⟩) (φ : fn_dynamic_update_index_in_dim.Bufs) : List (HloOp τ sig (Elt F)) :=
  [ TRef.unary arg1 φ.v0 (broadcastInDim S1x4x64x64 ![1, 2, 3] bcast_S4x64x64_S1x4x64x64_1_2_3)
  , TRef.nullary φ.c (constantI S_ 32 0#32)
  , TRef.nullary φ.c_0 (constantI S_ 32 0#32)
  , TRef.nullary φ.c_1 (constantI S_ 32 0#32)
  , TRef.binaryIndexed arg0 φ.v0 ![arg2, φ.c, φ.c_0, φ.c_1] φ.v1 (fun x u i => Host.dynamicUpdateSlice x u (fun k => (i k (Shape.Idx.first h_S_)).toInt) updateFits_S260x4x64x64_S1x4x64x64) ]

theorem upd_body (arg0 : TRef sig ⟨S260x4x64x64, .f32⟩) (arg1 : TRef sig ⟨S4x64x64, .f32⟩) (arg2 : TRef sig ⟨S_, .i32⟩) (φ : fn_dynamic_update_index_in_dim.Bufs) : fn_dynamic_update_index_in_dim.body (F := F) arg0 arg1 arg2 φ = seq (updOps arg0 arg1 arg2 φ) := rfl

theorem upd_sub (arg0 : TRef sig ⟨S260x4x64x64, .f32⟩) (arg1 : TRef sig ⟨S4x64x64, .f32⟩) (arg2 : TRef sig ⟨S_, .i32⟩) (φ : fn_dynamic_update_index_in_dim.Bufs) : (updOps (F := F) arg0 arg1 arg2 φ).Forall fun op => op.bufs ⊆ tcRefs τ sig :=
  ⟨unary_bufs_sub .., nullary_bufs_sub .., nullary_bufs_sub .., nullary_bufs_sub .., binaryIndexed_bufs_sub ..⟩

theorem upd_fresh (arg0 : TRef sig ⟨S260x4x64x64, .f32⟩) (arg1 : TRef sig ⟨S4x64x64, .f32⟩) (arg2 : TRef sig ⟨S_, .i32⟩) (φ : fn_dynamic_update_index_in_dim.Bufs) : ∀ op ∈ updOps (F := F) arg0 arg1 arg2 φ, op.fresh = ∅ :=
  List.forall_iff_forall_mem.mp (forall_fresh_of_map rfl)

/-- The operations of one call of @dynamic_update_index_in_dim_0. -/
def updRowOps (arg0 : TRef sig ⟨S260x4x1x64, .f32⟩) (arg1 : TRef sig ⟨S4x1x64, .f32⟩) (arg2 : TRef sig ⟨S_, .i32⟩) (φ : fn_dynamic_update_index_in_dim_0.Bufs) : List (HloOp τ sig (Elt F)) :=
  [ TRef.unary arg1 φ.v0 (broadcastInDim S1x4x1x64 ![1, 2, 3] bcast_S4x1x64_S1x4x1x64_1_2_3)
  , TRef.nullary φ.c (constantI S_ 32 0#32)
  , TRef.nullary φ.c_0 (constantI S_ 32 0#32)
  , TRef.nullary φ.c_1 (constantI S_ 32 0#32)
  , TRef.binaryIndexed arg0 φ.v0 ![arg2, φ.c, φ.c_0, φ.c_1] φ.v1 (fun x u i => Host.dynamicUpdateSlice x u (fun k => (i k (Shape.Idx.first h_S_)).toInt) updateFits_S260x4x1x64_S1x4x1x64) ]

theorem updRow_body (arg0 : TRef sig ⟨S260x4x1x64, .f32⟩) (arg1 : TRef sig ⟨S4x1x64, .f32⟩) (arg2 : TRef sig ⟨S_, .i32⟩) (φ : fn_dynamic_update_index_in_dim_0.Bufs) : fn_dynamic_update_index_in_dim_0.body (F := F) arg0 arg1 arg2 φ = seq (updRowOps arg0 arg1 arg2 φ) := rfl

theorem updRow_sub (arg0 : TRef sig ⟨S260x4x1x64, .f32⟩) (arg1 : TRef sig ⟨S4x1x64, .f32⟩) (arg2 : TRef sig ⟨S_, .i32⟩) (φ : fn_dynamic_update_index_in_dim_0.Bufs) : (updRowOps (F := F) arg0 arg1 arg2 φ).Forall fun op => op.bufs ⊆ tcRefs τ sig :=
  ⟨unary_bufs_sub .., nullary_bufs_sub .., nullary_bufs_sub .., nullary_bufs_sub .., binaryIndexed_bufs_sub ..⟩

theorem updRow_fresh (arg0 : TRef sig ⟨S260x4x1x64, .f32⟩) (arg1 : TRef sig ⟨S4x1x64, .f32⟩) (arg2 : TRef sig ⟨S_, .i32⟩) (φ : fn_dynamic_update_index_in_dim_0.Bufs) : ∀ op ∈ updRowOps (F := F) arg0 arg1 arg2 φ, op.fresh = ∅ :=
  List.forall_iff_forall_mem.mp (forall_fresh_of_map rfl)

/-- The operations of one call of @dynamic_index_in_dim_1. -/
def idxRowOps (arg0 : TRef sig ⟨S260x4x1x64, .f32⟩) (arg1 : TRef sig ⟨S_, .i32⟩) (φ : fn_dynamic_index_in_dim_1.Bufs) : List (HloOp τ sig (Elt F)) :=
  [ TRef.nullary φ.c (constantI S_ 32 0#32)
  , TRef.nullary φ.c_0 (constantI S_ 32 0#32)
  , TRef.nullary φ.c_1 (constantI S_ 32 0#32)
  , TRef.unaryIndexed arg0 ![arg1, φ.c, φ.c_0, φ.c_1] φ.v0 (fun x i => Host.dynamicSlice S1x4x1x64 x (fun k => (i k (Shape.Idx.first h_S_)).toInt) sliceFits_S260x4x1x64_S1x4x1x64)
  , TRef.reshape φ.v0 φ.v1 (rfl : (.f32 : EltTy) = .f32) shapeCasts_S1x4x1x64_S4x1x64 ]

theorem idxRow_body (arg0 : TRef sig ⟨S260x4x1x64, .f32⟩) (arg1 : TRef sig ⟨S_, .i32⟩) (φ : fn_dynamic_index_in_dim_1.Bufs) : fn_dynamic_index_in_dim_1.body (F := F) arg0 arg1 φ = seq (idxRowOps arg0 arg1 φ) := rfl

theorem idxRow_sub (arg0 : TRef sig ⟨S260x4x1x64, .f32⟩) (arg1 : TRef sig ⟨S_, .i32⟩) (φ : fn_dynamic_index_in_dim_1.Bufs) : (idxRowOps (F := F) arg0 arg1 φ).Forall fun op => op.bufs ⊆ tcRefs τ sig :=
  ⟨nullary_bufs_sub .., nullary_bufs_sub .., nullary_bufs_sub .., unaryIndexed_bufs_sub .., reshape_bufs_sub ..⟩

theorem idxRow_fresh (arg0 : TRef sig ⟨S260x4x1x64, .f32⟩) (arg1 : TRef sig ⟨S_, .i32⟩) (φ : fn_dynamic_index_in_dim_1.Bufs) : ∀ op ∈ idxRowOps (F := F) arg0 arg1 φ, op.fresh = ∅ :=
  List.forall_iff_forall_mem.mp (forall_fresh_of_map rfl)

/-- The chunk's output and next state from its operands and the state. -/
def fwdA : List (HloOp τ sig (Elt F)) :=
  [ binary main_while0b_v46 main_v17_7 main_while0b_v49 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F))
  , binary main_while0b_v45 main_while0b_v49 main_while0b_v50 (subf : (⟨S4x64x64, .f32⟩ : BufTy).Contents (Elt F) → (⟨S4x64x64, .f32⟩ : BufTy).Contents (Elt F) → (⟨S4x64x64, .f32⟩ : BufTy).Contents (Elt F))
  , binary main_while0b_v43 main_v17_7 main_while0b_v51 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F))
  , binary main_while0b_v47 main_while0b_v50 main_while0b_v52 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F))
  , binary main_while0b_v51 main_while0b_v52 main_while0b_v53 (addf : (⟨S4x64x64, .f32⟩ : BufTy).Contents (Elt F) → (⟨S4x64x64, .f32⟩ : BufTy).Contents (Elt F) → (⟨S4x64x64, .f32⟩ : BufTy).Contents (Elt F))
  , unary main_while0b_v48 main_while0b_v54 ((extractStridedSlice S4x1x64 ![0, 0, 0] · slices_S4x64x64_S4x1x64_0_0_0) : (⟨S4x64x64, .f32⟩ : BufTy).Contents (Elt F) → (⟨S4x1x64, .f32⟩ : BufTy).Contents (Elt F))
  , unary main_while0b_v54 main_while0b_v55 (broadcastInDim S4x64x64 ![0, 1, 2] bcast_S4x1x64_S4x64x64_0_1_2 : (⟨S4x1x64, .f32⟩ : BufTy).Contents (Elt F) → (⟨S4x64x64, .f32⟩ : BufTy).Contents (Elt F))
  , binary main_v17_7 main_while0b_v55 main_while0b_v56 (mulf : (⟨S4x64x64, .f32⟩ : BufTy).Contents (Elt F) → (⟨S4x64x64, .f32⟩ : BufTy).Contents (Elt F) → (⟨S4x64x64, .f32⟩ : BufTy).Contents (Elt F))
  , binary main_while0b_v44 main_while0b_v50 main_while0b_v57 ((fun l r => Host.dotGeneral dot_S4x64x64_S4x64x64_S4x64x64_1_1_2_2_0_0 none l r) : (⟨S4x64x64, .f32⟩ : BufTy).Contents (Elt F) → (⟨S4x64x64, .f32⟩ : BufTy).Contents (Elt F) → (⟨S4x64x64, .f32⟩ : BufTy).Contents (Elt F))
  , binary main_while0b_v56 main_while0b_v57 main_while0b_v58 (addf : (⟨S4x64x64, .f32⟩ : BufTy).Contents (Elt F) → (⟨S4x64x64, .f32⟩ : BufTy).Contents (Elt F) → (⟨S4x64x64, .f32⟩ : BufTy).Contents (Elt F)) ]

theorem fwdA_sub : (fwdA (F := F)).Forall fun op => op.bufs ⊆ tcRefs τ sig :=
  ⟨binary_bufs_sub .., binary_bufs_sub .., binary_bufs_sub .., binary_bufs_sub .., binary_bufs_sub .., unary_bufs_sub .., unary_bufs_sub .., binary_bufs_sub .., binary_bufs_sub .., binary_bufs_sub ..⟩

theorem fwdA_fresh : ∀ op ∈ fwdA (F := F), op.fresh = ∅ :=
  List.forall_iff_forall_mem.mp (forall_fresh_of_map rfl)

theorem fwdA_ne (V : Valuation τ sig (Elt F)) (r : Ref sig .tc)
    (h : r ∉ [main_while0b_v49, main_while0b_v50, main_while0b_v51, main_while0b_v52, main_while0b_v53, main_while0b_v54, main_while0b_v55, main_while0b_v56, main_while0b_v57, main_while0b_v58]) : after fwdA V (Proc.devRef .tc r) = V (Proc.devRef .tc r) :=
  after_of_writes_sub _ V (forall_writes_sub_of_map rfl) h

/-- The counter and the carried buffers moved on. -/
def fwdB : List (HloOp τ sig (Elt F)) :=
  [ nullary main_while0b_c_24 (constantI S_ 32 1#32)
  , binary main_v17_6 main_while0b_c_24 main_while0b_v63 (addi : (⟨S_, .i32⟩ : BufTy).Contents (Elt F) → (⟨S_, .i32⟩ : BufTy).Contents (Elt F) → (⟨S_, .i32⟩ : BufTy).Contents (Elt F))
  , unary main_while0b_v63 main_v17_6 id
  , unary main_while0b_v58 main_v17_7 id
  , unary main_while0b_v59 main_v17_8 id
  , unary main_while0b_v60 main_v17_9 id
  , unary main_while0b_v61 main_v17_10 id
  , unary main_while0b_v62 main_v17_11 id ]

theorem fwdB_sub : (fwdB (F := F)).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩

theorem fwdB_fresh : ∀ op ∈ fwdB (F := F), op.fresh = ∅ :=
  List.forall_iff_forall_mem.mp (forall_fresh_of_map rfl)

theorem fwdB_ne (V : Valuation τ sig (Elt F)) (r : Ref sig .tc)
    (h : r ∉ [main_while0b_c_24, main_while0b_v63, main_v17_6, main_v17_7, main_v17_8, main_v17_9, main_v17_10, main_v17_11]) : after fwdB V (Proc.devRef .tc r) = V (Proc.devRef .tc r) :=
  after_of_writes_sub _ V (forall_writes_sub_of_map rfl) h

/-- One trip of loop fwd, by stretches. -/
def fwdItems : List (List (HloOp τ sig (Elt F))) :=
  [ idxOps (.of main_v17_0) (.of main_v17_6) main_while0b_call0
  , idxOps (.of main_v17_1) (.of main_v17_6) main_while0b_call1
  , idxOps (.of main_v17_2) (.of main_v17_6) main_while0b_call2
  , idxOps (.of main_v17_3) (.of main_v17_6) main_while0b_call3
  , idxOps (.of main_v17_4) (.of main_v17_6) main_while0b_call4
  , idxOps (.of main_v17_5) (.of main_v17_6) main_while0b_call5
  , fwdA
  , updOps (.of main_v17_8) (.of main_while0b_v53) (.of main_v17_6) main_while0b_call6
  , updOps (.of main_v17_9) (.of main_v17_7) (.of main_v17_6) main_while0b_call7
  , updOps (.of main_v17_10) (.of main_while0b_v50) (.of main_v17_6) main_while0b_call8
  , updRowOps (.of main_v17_11) (.of main_while0b_v54) (.of main_v17_6) main_while0b_call9
  , fwdB ]

theorem fwdItems_plain : Plain (fwdItems (F := F)) := by
  unfold fwdItems
  exact Plain.cons (idx_sub _ _ _) (Plain.cons (idx_sub _ _ _) (Plain.cons (idx_sub _ _ _) (Plain.cons (idx_sub _ _ _) (Plain.cons (idx_sub _ _ _) (Plain.cons (idx_sub _ _ _) (Plain.cons fwdA_sub (Plain.cons (upd_sub _ _ _ _) (Plain.cons (upd_sub _ _ _ _) (Plain.cons (upd_sub _ _ _ _) (Plain.cons (updRow_sub _ _ _ _) (Plain.cons fwdB_sub (Plain.nil) fwdB_fresh) (updRow_fresh _ _ _ _)) (upd_fresh _ _ _ _)) (upd_fresh _ _ _ _)) (upd_fresh _ _ _ _)) fwdA_fresh) (idx_fresh _ _ _)) (idx_fresh _ _ _)) (idx_fresh _ _ _)) (idx_fresh _ _ _)) (idx_fresh _ _ _)) (idx_fresh _ _ _)

theorem fwdItems_body : main_while0_body (F := F) = Pipeline.chain (fwdItems.map fun ops => (seq ops : Prog _ PUnit)) := rfl

/-- The chunk's number, counted down. -/
def bwdA : List (HloOp τ sig (Elt F)) :=
  [ nullary main_while1b_c_28 (constantI S_ 32 260#32)
  , binary main_while1b_c_28 main_v30_8 main_while1b_v43 (subi : (⟨S_, .i32⟩ : BufTy).Contents (Elt F) → (⟨S_, .i32⟩ : BufTy).Contents (Elt F) → (⟨S_, .i32⟩ : BufTy).Contents (Elt F))
  , nullary main_while1b_c_29 (constantI S_ 32 1#32)
  , binary main_while1b_v43 main_while1b_c_29 main_while1b_v44 (subi : (⟨S_, .i32⟩ : BufTy).Contents (Elt F) → (⟨S_, .i32⟩ : BufTy).Contents (Elt F) → (⟨S_, .i32⟩ : BufTy).Contents (Elt F)) ]

theorem bwdA_sub : (bwdA (F := F)).Forall fun op => op.bufs ⊆ tcRefs τ sig :=
  ⟨nullary_bufs_sub .., binary_bufs_sub .., nullary_bufs_sub .., binary_bufs_sub ..⟩

theorem bwdA_fresh : ∀ op ∈ bwdA (F := F), op.fresh = ∅ :=
  List.forall_iff_forall_mem.mp (forall_fresh_of_map rfl)

theorem bwdA_ne (V : Valuation τ sig (Elt F)) (r : Ref sig .tc)
    (h : r ∉ [main_while1b_c_28, main_while1b_v43, main_while1b_c_29, main_while1b_v44]) : after bwdA V (Proc.devRef .tc r) = V (Proc.devRef .tc r) :=
  after_of_writes_sub _ V (forall_writes_sub_of_map rfl) h

/-- The chunk's gradients from its operands and the running state gradient. -/
def bwdB : List (HloOp τ sig (Elt F)) :=
  [ binary main_v30_9 main_while1b_v52 main_while1b_v53 ((fun l r => Host.dotGeneral dot_S4x64x64_S4x64x64_S4x64x64_1_2_2_1_0_0 none l r) : (⟨S4x64x64, .f32⟩ : BufTy).Contents (Elt F) → (⟨S4x64x64, .f32⟩ : BufTy).Contents (Elt F) → (⟨S4x64x64, .f32⟩ : BufTy).Contents (Elt F))
  , unary main_while1b_v53 main_while1b_v54 ((transpose S4x64x64 [0, 2, 1] · transposes_S4x64x64_S4x64x64_0_2_1) : (⟨S4x64x64, .f32⟩ : BufTy).Contents (Elt F) → (⟨S4x64x64, .f32⟩ : BufTy).Contents (Elt F))
  , binary main_v30_9 main_while1b_v49 main_while1b_v55 ((fun l r => Host.dotGeneral dot_S4x64x64_S4x64x64_S4x64x64_2_2_1_1_0_0 none l r) : (⟨S4x64x64, .f32⟩ : BufTy).Contents (Elt F) → (⟨S4x64x64, .f32⟩ : BufTy).Contents (Elt F) → (⟨S4x64x64, .f32⟩ : BufTy).Contents (Elt F))
  , unary main_while1b_v55 main_while1b_v56 ((transpose S4x64x64 [0, 2, 1] · transposes_S4x64x64_S4x64x64_0_2_1) : (⟨S4x64x64, .f32⟩ : BufTy).Contents (Elt F) → (⟨S4x64x64, .f32⟩ : BufTy).Contents (Elt F))
  , binary main_while1b_v46 main_v30_9 main_while1b_v57 (mulf : (⟨S4x64x64, .f32⟩ : BufTy).Contents (Elt F) → (⟨S4x64x64, .f32⟩ : BufTy).Contents (Elt F) → (⟨S4x64x64, .f32⟩ : BufTy).Contents (Elt F))
  , nullary main_while1b_cst_30 (constant S_ .f32 0x00000000#32)
  , binary main_while1b_v57 main_while1b_cst_30 main_while1b_v58 ((fun x v => Host.reduceAdd x v reducesTo_S4x64x64_S4x64_d1 h_S_) : (⟨S4x64x64, .f32⟩ : BufTy).Contents (Elt F) → (⟨S_, .f32⟩ : BufTy).Contents (Elt F) → (⟨S4x64, .f32⟩ : BufTy).Contents (Elt F))
  , reshape main_while1b_v58 main_while1b_v59 (rfl : (.f32 : EltTy) = .f32) shapeCasts_S4x64_S4x1x64
  , unary main_while1b_v51 main_while1b_v60 (broadcastInDim S4x64x64 ![0, 1, 2] bcast_S4x1x64_S4x64x64_0_1_2 : (⟨S4x1x64, .f32⟩ : BufTy).Contents (Elt F) → (⟨S4x64x64, .f32⟩ : BufTy).Contents (Elt F))
  , binary main_v30_9 main_while1b_v60 main_while1b_v61 (mulf : (⟨S4x64x64, .f32⟩ : BufTy).Contents (Elt F) → (⟨S4x64x64, .f32⟩ : BufTy).Contents (Elt F) → (⟨S4x64x64, .f32⟩ : BufTy).Contents (Elt F))
  , nullary main_while1b_cst_31 (constant S_ .f32 0x00000000#32)
  , binary main_while1b_v59 main_while1b_cst_31 main_while1b_v62 ((fun x v => pad S4x64x64 ![0, 0, 0] ![0, 63, 0] ![0, 0, 0] x v pads_S4x1x64_S4x64x64_000_0630_000 h_S_) : (⟨S4x1x64, .f32⟩ : BufTy).Contents (Elt F) → (⟨S_, .f32⟩ : BufTy).Contents (Elt F) → (⟨S4x64x64, .f32⟩ : BufTy).Contents (Elt F))
  , binary main_while1b_v45 main_while1b_v50 main_while1b_v63 ((fun l r => Host.dotGeneral dot_S4x64x64_S4x64x64_S4x64x64_1_1_2_2_0_0 none l r) : (⟨S4x64x64, .f32⟩ : BufTy).Contents (Elt F) → (⟨S4x64x64, .f32⟩ : BufTy).Contents (Elt F) → (⟨S4x64x64, .f32⟩ : BufTy).Contents (Elt F))
  , unary main_while1b_v63 main_while1b_v64 ((transpose S4x64x64 [0, 2, 1] · transposes_S4x64x64_S4x64x64_0_2_1) : (⟨S4x64x64, .f32⟩ : BufTy).Contents (Elt F) → (⟨S4x64x64, .f32⟩ : BufTy).Contents (Elt F))
  , binary main_while1b_v54 main_while1b_v64 main_while1b_v65 (addf : (⟨S4x64x64, .f32⟩ : BufTy).Contents (Elt F) → (⟨S4x64x64, .f32⟩ : BufTy).Contents (Elt F) → (⟨S4x64x64, .f32⟩ : BufTy).Contents (Elt F))
  , binary main_while1b_v45 main_while1b_v49 main_while1b_v66 ((fun l r => Host.dotGeneral dot_S4x64x64_S4x64x64_S4x64x64_2_2_1_1_0_0 none l r) : (⟨S4x64x64, .f32⟩ : BufTy).Contents (Elt F) → (⟨S4x64x64, .f32⟩ : BufTy).Contents (Elt F) → (⟨S4x64x64, .f32⟩ : BufTy).Contents (Elt F))
  , binary main_while1b_v45 main_while1b_v48 main_while1b_v67 ((fun l r => Host.dotGeneral dot_S4x64x64_S4x64x64_S4x64x64_1_1_2_2_0_0 none l r) : (⟨S4x64x64, .f32⟩ : BufTy).Contents (Elt F) → (⟨S4x64x64, .f32⟩ : BufTy).Contents (Elt F) → (⟨S4x64x64, .f32⟩ : BufTy).Contents (Elt F))
  , unary main_while1b_v67 main_while1b_v68 ((transpose S4x64x64 [0, 2, 1] · transposes_S4x64x64_S4x64x64_0_2_1) : (⟨S4x64x64, .f32⟩ : BufTy).Contents (Elt F) → (⟨S4x64x64, .f32⟩ : BufTy).Contents (Elt F))
  , binary main_while1b_v61 main_while1b_v68 main_while1b_v69 (addf : (⟨S4x64x64, .f32⟩ : BufTy).Contents (Elt F) → (⟨S4x64x64, .f32⟩ : BufTy).Contents (Elt F) → (⟨S4x64x64, .f32⟩ : BufTy).Contents (Elt F))
  , binary main_while1b_v45 main_while1b_v46 main_while1b_v70 ((fun l r => Host.dotGeneral dot_S4x64x64_S4x64x64_S4x64x64_2_2_1_1_0_0 none l r) : (⟨S4x64x64, .f32⟩ : BufTy).Contents (Elt F) → (⟨S4x64x64, .f32⟩ : BufTy).Contents (Elt F) → (⟨S4x64x64, .f32⟩ : BufTy).Contents (Elt F))
  , unary main_while1b_v65 main_while1b_v71 (Host.negf : (⟨S4x64x64, .f32⟩ : BufTy).Contents (Elt F) → (⟨S4x64x64, .f32⟩ : BufTy).Contents (Elt F))
  , binary main_while1b_v71 main_while1b_v47 main_while1b_v72 ((fun l r => Host.dotGeneral dot_S4x64x64_S4x64x64_S4x64x64_1_1_2_2_0_0 none l r) : (⟨S4x64x64, .f32⟩ : BufTy).Contents (Elt F) → (⟨S4x64x64, .f32⟩ : BufTy).Contents (Elt F) → (⟨S4x64x64, .f32⟩ : BufTy).Contents (Elt F))
  , unary main_while1b_v72 main_while1b_v73 ((transpose S4x64x64 [0, 2, 1] · transposes_S4x64x64_S4x64x64_0_2_1) : (⟨S4x64x64, .f32⟩ : BufTy).Contents (Elt F) → (⟨S4x64x64, .f32⟩ : BufTy).Contents (Elt F))
  , binary main_while1b_v69 main_while1b_v73 main_while1b_v74 (addf : (⟨S4x64x64, .f32⟩ : BufTy).Contents (Elt F) → (⟨S4x64x64, .f32⟩ : BufTy).Contents (Elt F) → (⟨S4x64x64, .f32⟩ : BufTy).Contents (Elt F))
  , binary main_while1b_v71 main_while1b_v46 main_while1b_v75 ((fun l r => Host.dotGeneral dot_S4x64x64_S4x64x64_S4x64x64_2_2_1_1_0_0 none l r) : (⟨S4x64x64, .f32⟩ : BufTy).Contents (Elt F) → (⟨S4x64x64, .f32⟩ : BufTy).Contents (Elt F) → (⟨S4x64x64, .f32⟩ : BufTy).Contents (Elt F)) ]

theorem bwdB_sub : (bwdB (F := F)).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩

theorem bwdB_fresh : ∀ op ∈ bwdB (F := F), op.fresh = ∅ :=
  List.forall_iff_forall_mem.mp (forall_fresh_of_map rfl)

theorem bwdB_ne (V : Valuation τ sig (Elt F)) (r : Ref sig .tc)
    (h : r ∉ [main_while1b_v53, main_while1b_v54, main_while1b_v55, main_while1b_v56, main_while1b_v57, main_while1b_cst_30, main_while1b_v58, main_while1b_v59, main_while1b_v60, main_while1b_v61, main_while1b_cst_31, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75]) : after bwdB V (Proc.devRef .tc r) = V (Proc.devRef .tc r) :=
  after_of_writes_sub _ V (forall_writes_sub_of_map rfl) h

/-- The counter and the carried buffers moved on. -/
def bwdC : List (HloOp τ sig (Elt F)) :=
  [ nullary main_while1b_c_32 (constantI S_ 32 1#32)
  , binary main_v30_8 main_while1b_c_32 main_while1b_v82 (addi : (⟨S_, .i32⟩ : BufTy).Contents (Elt F) → (⟨S_, .i32⟩ : BufTy).Contents (Elt F) → (⟨S_, .i32⟩ : BufTy).Contents (Elt F))
  , unary main_while1b_v82 main_v30_8 id
  , unary main_while1b_v74 main_v30_9 id
  , unary main_while1b_v76 main_v30_10 id
  , unary main_while1b_v77 main_v30_11 id
  , unary main_while1b_v78 main_v30_12 id
  , unary main_while1b_v79 main_v30_13 id
  , unary main_while1b_v80 main_v30_14 id
  , unary main_while1b_v81 main_v30_15 id ]

theorem bwdC_sub : (bwdC (F := F)).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub ..⟩

theorem bwdC_fresh : ∀ op ∈ bwdC (F := F), op.fresh = ∅ :=
  List.forall_iff_forall_mem.mp (forall_fresh_of_map rfl)

theorem bwdC_ne (V : Valuation τ sig (Elt F)) (r : Ref sig .tc)
    (h : r ∉ [main_while1b_c_32, main_while1b_v82, main_v30_8, main_v30_9, main_v30_10, main_v30_11, main_v30_12, main_v30_13, main_v30_14, main_v30_15]) : after bwdC V (Proc.devRef .tc r) = V (Proc.devRef .tc r) :=
  after_of_writes_sub _ V (forall_writes_sub_of_map rfl) h

/-- One trip of loop bwd, by stretches. -/
def bwdItems : List (List (HloOp τ sig (Elt F))) :=
  [ bwdA
  , idxOps (.of main_v30_0) (.of main_while1b_v44) main_while1b_call10
  , idxOps (.of main_v30_1) (.of main_while1b_v44) main_while1b_call11
  , idxOps (.of main_v30_2) (.of main_while1b_v44) main_while1b_call12
  , idxOps (.of main_v30_3) (.of main_while1b_v44) main_while1b_call13
  , idxOps (.of main_v30_4) (.of main_while1b_v44) main_while1b_call14
  , idxOps (.of main_v30_5) (.of main_while1b_v44) main_while1b_call15
  , idxRowOps (.of main_v30_6) (.of main_while1b_v44) main_while1b_call16
  , idxOps (.of main_v30_7) (.of main_while1b_v44) main_while1b_call17
  , bwdB
  , updOps (.of main_v30_10) (.of main_while1b_v70) (.of main_while1b_v44) main_while1b_call18
  , updOps (.of main_v30_11) (.of main_while1b_v56) (.of main_while1b_v44) main_while1b_call19
  , updOps (.of main_v30_12) (.of main_while1b_v65) (.of main_while1b_v44) main_while1b_call20
  , updOps (.of main_v30_13) (.of main_while1b_v75) (.of main_while1b_v44) main_while1b_call21
  , updOps (.of main_v30_14) (.of main_while1b_v66) (.of main_while1b_v44) main_while1b_call22
  , updOps (.of main_v30_15) (.of main_while1b_v62) (.of main_while1b_v44) main_while1b_call23
  , bwdC ]

theorem bwdItems_plain : Plain (bwdItems (F := F)) := by
  unfold bwdItems
  exact Plain.cons bwdA_sub (Plain.cons (idx_sub _ _ _) (Plain.cons (idx_sub _ _ _) (Plain.cons (idx_sub _ _ _) (Plain.cons (idx_sub _ _ _) (Plain.cons (idx_sub _ _ _) (Plain.cons (idx_sub _ _ _) (Plain.cons (idxRow_sub _ _ _) (Plain.cons (idx_sub _ _ _) (Plain.cons bwdB_sub (Plain.cons (upd_sub _ _ _ _) (Plain.cons (upd_sub _ _ _ _) (Plain.cons (upd_sub _ _ _ _) (Plain.cons (upd_sub _ _ _ _) (Plain.cons (upd_sub _ _ _ _) (Plain.cons (upd_sub _ _ _ _) (Plain.cons bwdC_sub (Plain.nil) bwdC_fresh) (upd_fresh _ _ _ _)) (upd_fresh _ _ _ _)) (upd_fresh _ _ _ _)) (upd_fresh _ _ _ _)) (upd_fresh _ _ _ _)) (upd_fresh _ _ _ _)) bwdB_fresh) (idx_fresh _ _ _)) (idxRow_fresh _ _ _)) (idx_fresh _ _ _)) (idx_fresh _ _ _)) (idx_fresh _ _ _)) (idx_fresh _ _ _)) (idx_fresh _ _ _)) (idx_fresh _ _ _)) bwdA_fresh

theorem bwdItems_body : main_while1_body (F := F) = Pipeline.chain (bwdItems.map fun ops => (seq ops : Prog _ PUnit)) := rfl

/-- Before the forward loop: the operands cut into chunks, and the loop's carried buffers. -/
def preOps : List (HloOp τ sig (Elt F)) :=
  [ reshape main_arg2 main_v0 (rfl : (.f32 : EltTy) = .f32) shapeCasts_S4x16640x64_S4x260x64x64
  , unary main_v0 main_v1 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , reshape main_arg3 main_v2 (rfl : (.f32 : EltTy) = .f32) shapeCasts_S4x16640x64_S4x260x64x64
  , unary main_v2 main_v3 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , reshape main_arg0 main_v4 (rfl : (.f32 : EltTy) = .f32) shapeCasts_S4x16640x64_S4x260x64x64
  , unary main_v4 main_v5 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , reshape main_arg1 main_v6 (rfl : (.f32 : EltTy) = .f32) shapeCasts_S4x16640x64_S4x260x64x64
  , unary main_v6 main_v7 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , reshape main_arg4 main_v8 (rfl : (.f32 : EltTy) = .f32) shapeCasts_S4x16640x64_S4x260x64x64
  , unary main_v8 main_v9 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , reshape main_arg5 main_v10 (rfl : (.f32 : EltTy) = .f32) shapeCasts_S4x16640x64_S4x260x64x64
  , unary main_v10 main_v11 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , nullary main_cst (constant S_ .f32 0x00000000#32)
  , unary main_cst main_v12 (broadcastInDim S4x64x64 ![] bcast_S_S4x64x64 : (⟨S_, .f32⟩ : BufTy).Contents (Elt F) → (⟨S4x64x64, .f32⟩ : BufTy).Contents (Elt F))
  , nullary main_cst_0 (constant S_ .f32 0x00000000#32)
  , unary main_cst_0 main_v13 (broadcastInDim S260x4x64x64 ![] bcast_S_S260x4x64x64 : (⟨S_, .f32⟩ : BufTy).Contents (Elt F) → (⟨S260x4x64x64, .f32⟩ : BufTy).Contents (Elt F))
  , nullary main_cst_1 (constant S_ .f32 0x00000000#32)
  , unary main_cst_1 main_v14 (broadcastInDim S260x4x64x64 ![] bcast_S_S260x4x64x64 : (⟨S_, .f32⟩ : BufTy).Contents (Elt F) → (⟨S260x4x64x64, .f32⟩ : BufTy).Contents (Elt F))
  , nullary main_cst_2 (constant S_ .f32 0x00000000#32)
  , unary main_cst_2 main_v15 (broadcastInDim S260x4x64x64 ![] bcast_S_S260x4x64x64 : (⟨S_, .f32⟩ : BufTy).Contents (Elt F) → (⟨S260x4x64x64, .f32⟩ : BufTy).Contents (Elt F))
  , nullary main_cst_3 (constant S_ .f32 0x00000000#32)
  , unary main_cst_3 main_v16 (broadcastInDim S260x4x1x64 ![] bcast_S_S260x4x1x64 : (⟨S_, .f32⟩ : BufTy).Contents (Elt F) → (⟨S260x4x1x64, .f32⟩ : BufTy).Contents (Elt F))
  , nullary main_c (constantI S_ 32 0#32)
  , unary main_v1 main_v17_0 id
  , unary main_v3 main_v17_1 id
  , unary main_v5 main_v17_2 id
  , unary main_v7 main_v17_3 id
  , unary main_v9 main_v17_4 id
  , unary main_v11 main_v17_5 id
  , unary main_c main_v17_6 id
  , unary main_v12 main_v17_7 id
  , unary main_v13 main_v17_8 id
  , unary main_v14 main_v17_9 id
  , unary main_v15 main_v17_10 id
  , unary main_v16 main_v17_11 id ]

theorem preOps_sub : (preOps (F := F)).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem preOps_fresh : ∀ op ∈ preOps (F := F), op.fresh = ∅ :=
  List.forall_iff_forall_mem.mp (forall_fresh_of_map rfl)

theorem preOps_ne (V : Valuation τ sig (Elt F)) (r : Ref sig .tc)
    (h : r ∉ [main_v0, main_v1, main_v2, main_v3, main_v4, main_v5, main_v6, main_v7, main_v8, main_v9, main_v10, main_v11, main_cst, main_v12, main_cst_0, main_v13, main_cst_1, main_v14, main_cst_2, main_v15, main_cst_3, main_v16, main_c, main_v17_0, main_v17_1, main_v17_2, main_v17_3, main_v17_4, main_v17_5, main_v17_6, main_v17_7, main_v17_8, main_v17_9, main_v17_10, main_v17_11]) : after preOps V (Proc.devRef .tc r) = V (Proc.devRef .tc r) :=
  after_of_writes_sub _ V (forall_writes_sub_of_map rfl) h

/-- Between the loops. -/
def midOps : List (HloOp τ sig (Elt F)) :=
  [ unary main_v17_8 main_v18 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v18 main_v19 (rfl : (.f32 : EltTy) = .f32) shapeCasts_S4x260x64x64_S4x16640x64
  , nullary main_cst_4 (constant S_ .f32 0x00000000#32)
  , unary main_cst_4 main_v20 (broadcastInDim S4x64x64 ![] bcast_S_S4x64x64 : (⟨S_, .f32⟩ : BufTy).Contents (Elt F) → (⟨S4x64x64, .f32⟩ : BufTy).Contents (Elt F))
  , reshape main_arg6 main_v21 (rfl : (.f32 : EltTy) = .f32) shapeCasts_S4x16640x64_S4x260x64x64
  , unary main_v21 main_v22 ((transpose S260x4x64x64 [1, 0, 2, 3] · transposes_S4x260x64x64_S260x4x64x64_1_0_2_3) : (⟨S4x260x64x64, .f32⟩ : BufTy).Contents (Elt F) → (⟨S260x4x64x64, .f32⟩ : BufTy).Contents (Elt F))
  , nullary main_cst_5 (constant S_ .f32 0x00000000#32)
  , unary main_cst_5 main_v23 (broadcastInDim S4x64x64 ![] bcast_S_S4x64x64 : (⟨S_, .f32⟩ : BufTy).Contents (Elt F) → (⟨S4x64x64, .f32⟩ : BufTy).Contents (Elt F))
  , nullary main_cst_6 (constant S_ .f32 0x00000000#32)
  , unary main_cst_6 main_v24 (broadcastInDim S260x4x64x64 ![] bcast_S_S260x4x64x64 : (⟨S_, .f32⟩ : BufTy).Contents (Elt F) → (⟨S260x4x64x64, .f32⟩ : BufTy).Contents (Elt F))
  , nullary main_cst_7 (constant S_ .f32 0x00000000#32)
  , unary main_cst_7 main_v25 (broadcastInDim S260x4x64x64 ![] bcast_S_S260x4x64x64 : (⟨S_, .f32⟩ : BufTy).Contents (Elt F) → (⟨S260x4x64x64, .f32⟩ : BufTy).Contents (Elt F))
  , nullary main_cst_8 (constant S_ .f32 0x00000000#32)
  , unary main_cst_8 main_v26 (broadcastInDim S260x4x64x64 ![] bcast_S_S260x4x64x64 : (⟨S_, .f32⟩ : BufTy).Contents (Elt F) → (⟨S260x4x64x64, .f32⟩ : BufTy).Contents (Elt F))
  , nullary main_cst_9 (constant S_ .f32 0x00000000#32)
  , unary main_cst_9 main_v27 (broadcastInDim S260x4x64x64 ![] bcast_S_S260x4x64x64 : (⟨S_, .f32⟩ : BufTy).Contents (Elt F) → (⟨S260x4x64x64, .f32⟩ : BufTy).Contents (Elt F))
  , nullary main_cst_10 (constant S_ .f32 0x00000000#32)
  , unary main_cst_10 main_v28 (broadcastInDim S260x4x64x64 ![] bcast_S_S260x4x64x64 : (⟨S_, .f32⟩ : BufTy).Contents (Elt F) → (⟨S260x4x64x64, .f32⟩ : BufTy).Contents (Elt F))
  , nullary main_cst_11 (constant S_ .f32 0x00000000#32)
  , unary main_cst_11 main_v29 (broadcastInDim S260x4x64x64 ![] bcast_S_S260x4x64x64 : (⟨S_, .f32⟩ : BufTy).Contents (Elt F) → (⟨S260x4x64x64, .f32⟩ : BufTy).Contents (Elt F))
  , nullary main_c_12 (constantI S_ 32 0#32)
  , unary main_v22 main_v30_0 id
  , unary main_v17_9 main_v30_1 id
  , unary main_v7 main_v30_2 id
  , unary main_v1 main_v30_3 id
  , unary main_v17_10 main_v30_4 id
  , unary main_v9 main_v30_5 id
  , unary main_v17_11 main_v30_6 id
  , unary main_v3 main_v30_7 id
  , unary main_c_12 main_v30_8 id
  , unary main_v23 main_v30_9 id
  , unary main_v24 main_v30_10 id
  , unary main_v25 main_v30_11 id
  , unary main_v26 main_v30_12 id
  , unary main_v27 main_v30_13 id
  , unary main_v28 main_v30_14 id
  , unary main_v29 main_v30_15 id ]

theorem midOps_sub : (midOps (F := F)).Forall fun op => op.bufs ⊆ tcRefs τ sig :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem midOps_fresh : ∀ op ∈ midOps (F := F), op.fresh = ∅ :=
  List.forall_iff_forall_mem.mp (forall_fresh_of_map rfl)

theorem midOps_ne (V : Valuation τ sig (Elt F)) (r : Ref sig .tc)
    (h : r ∉ [main_v18, main_v19, main_cst_4, main_v20, main_v21, main_v22, main_cst_5, main_v23, main_cst_6, main_v24, main_cst_7, main_v25, main_cst_8, main_v26, main_cst_9, main_v27, main_cst_10, main_v28, main_cst_11, main_v29, main_c_12, main_v30_0, main_v30_1, main_v30_2, main_v30_3, main_v30_4, main_v30_5, main_v30_6, main_v30_7, main_v30_8, main_v30_9, main_v30_10, main_v30_11, main_v30_12, main_v30_13, main_v30_14, main_v30_15]) : after midOps V (Proc.devRef .tc r) = V (Proc.devRef .tc r) :=
  after_of_writes_sub _ V (forall_writes_sub_of_map rfl) h

/-- After the backward loop: the stacks of chunks put back into rows. -/
def postOps : List (HloOp τ sig (Elt F)) :=
  [ unary main_v30_15 main_v31 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v31 main_v32 (rfl : (.f32 : EltTy) = .f32) shapeCasts_S4x260x64x64_S4x16640x64
  , unary main_v30_14 main_v33 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v33 main_v34 (rfl : (.f32 : EltTy) = .f32) shapeCasts_S4x260x64x64_S4x16640x64
  , unary main_v30_13 main_v35 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v35 main_v36 (rfl : (.f32 : EltTy) = .f32) shapeCasts_S4x260x64x64_S4x16640x64
  , unary main_v30_12 main_v37 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v37 main_v38 (rfl : (.f32 : EltTy) = .f32) shapeCasts_S4x260x64x64_S4x16640x64
  , unary main_v30_11 main_v39 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v39 main_v40 (rfl : (.f32 : EltTy) = .f32) shapeCasts_S4x260x64x64_S4x16640x64
  , unary main_v30_10 main_v41 ((transpose S4x260x64x64 [1, 0, 2, 3] · transposes_S260x4x64x64_S4x260x64x64_1_0_2_3) : (⟨S260x4x64x64, .f32⟩ : BufTy).Contents (Elt F) → (⟨S4x260x64x64, .f32⟩ : BufTy).Contents (Elt F))
  , reshape main_v41 main_v42 (rfl : (.f32 : EltTy) = .f32) shapeCasts_S4x260x64x64_S4x16640x64 ]

theorem postOps_sub : (postOps (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem postOps_fresh : ∀ op ∈ postOps (F := F), op.fresh = ∅ :=
  List.forall_iff_forall_mem.mp (forall_fresh_of_map rfl)

theorem postOps_ne (V : Valuation τ sig (Elt F)) (r : Ref sig .tc)
    (h : r ∉ [main_v31, main_v32, main_v33, main_v34, main_v35, main_v36, main_v37, main_v38, main_v39, main_v40, main_v41, main_v42]) : after postOps V (Proc.devRef .tc r) = V (Proc.devRef .tc r) :=
  after_of_writes_sub _ V (forall_writes_sub_of_map rfl) h

/-- The loop's test: the counter below the number of chunks. -/
def fwdCond : List (HloOp τ sig (Elt F)) :=
  [ nullary main_while0c_c_24 (constantI S_ 32 260#32)
  , binary main_v17_6 main_while0c_c_24 main_while0c_v43 (cmpi .slt : (⟨S_, .i32⟩ : BufTy).Contents (Elt F) → (⟨S_, .i32⟩ : BufTy).Contents (Elt F) → (⟨S_, .i1⟩ : BufTy).Contents (Elt F)) ]

theorem fwdCond_sub : (fwdCond (F := F)).Forall fun op => op.bufs ⊆ tcRefs τ sig :=
  ⟨nullary_bufs_sub .., binary_bufs_sub ..⟩

theorem fwdCond_fresh : ∀ op ∈ fwdCond (F := F), op.fresh = ∅ :=
  List.forall_iff_forall_mem.mp (forall_fresh_of_map rfl)

theorem fwdCond_ne (V : Valuation τ sig (Elt F)) (r : Ref sig .tc)
    (h : r ∉ [main_while0c_c_24, main_while0c_v43]) : after fwdCond V (Proc.devRef .tc r) = V (Proc.devRef .tc r) :=
  after_of_writes_sub _ V (forall_writes_sub_of_map rfl) h

/-- The loop's test: the counter below the number of chunks. -/
def bwdCond : List (HloOp τ sig (Elt F)) :=
  [ nullary main_while1c_c_28 (constantI S_ 32 260#32)
  , binary main_v30_8 main_while1c_c_28 main_while1c_v43 (cmpi .slt : (⟨S_, .i32⟩ : BufTy).Contents (Elt F) → (⟨S_, .i32⟩ : BufTy).Contents (Elt F) → (⟨S_, .i1⟩ : BufTy).Contents (Elt F)) ]

theorem bwdCond_sub : (bwdCond (F := F)).Forall fun op => op.bufs ⊆ tcRefs τ sig :=
  ⟨nullary_bufs_sub .., binary_bufs_sub ..⟩

theorem bwdCond_fresh : ∀ op ∈ bwdCond (F := F), op.fresh = ∅ :=
  List.forall_iff_forall_mem.mp (forall_fresh_of_map rfl)

theorem bwdCond_ne (V : Valuation τ sig (Elt F)) (r : Ref sig .tc)
    (h : r ∉ [main_while1c_c_28, main_while1c_v43]) : after bwdCond V (Proc.devRef .tc r) = V (Proc.devRef .tc r) :=
  after_of_writes_sub _ V (forall_writes_sub_of_map rfl) h

theorem main_items (c : Dev nD) : main (F := F) c = Pipeline.chain
    [seq preOps, HostLoop.enter 0, seq midOps, HostLoop.enter 1, seq postOps] := rfl

end Cert.ReferenceIdeal.Scan

end
-- ==== Proof.Scan.RefTrip.lean ====
/-
  What one trip of each loop of the reference leaves in the buffers, as functions of what they held before it: the
  chunk's operands read out of the stacks at the counter, the chunk's results, and the stacks with the results put in.
-/
module

public import proofs.«01_k».proof.Proof.Scan.RefOps
public import Idealize.ShloMosaic.Lib.StableHlo.RunClose

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- A stack of the 260 chunks of an array, each chunk the four heads' 64 × 64 tiles. -/
abbrev Stack (F : FTy → Type) := FVec F S260x4x64x64 .f32
/-- One chunk: the four heads' tiles. -/
abbrev Chunk (F : FTy → Type) := FVec F S4x64x64 .f32
/-- A stack of one row per chunk and head. -/
abbrev RowStack (F : FTy → Type) := FVec F S260x4x1x64 .f32
/-- One row per head. -/
abbrev Row (F : FTy → Type) := FVec F S4x1x64 .f32

/-- The start words of a slab at chunk `i`. -/
abbrev starts (i : IVec S_ 32) : Fin 4 → Int :=
  fun k => ((![i, constantI S_ 32 0#32, constantI S_ 32 0#32, constantI S_ 32 0#32] : Fin 4 → IVec S_ 32) k (Shape.Idx.first h_S_)).toInt

/-- Chunk `i` of a stack. -/
def slab (X : Stack F) (i : IVec S_ 32) : Chunk F :=
  shapeCast S4x64x64 (Host.dynamicSlice S1x4x64x64 X (starts i) sliceFits_S260x4x64x64_S1x4x64x64) shapeCasts_S1x4x64x64_S4x64x64
/-- Row `i` of a stack of rows. -/
def slabRow (X : RowStack F) (i : IVec S_ 32) : Row F :=
  shapeCast S4x1x64 (Host.dynamicSlice S1x4x1x64 X (starts i) sliceFits_S260x4x1x64_S1x4x1x64) shapeCasts_S1x4x1x64_S4x1x64
/-- A stack with chunk `i` replaced. -/
def put (X : Stack F) (T : Chunk F) (i : IVec S_ 32) : Stack F :=
  Host.dynamicUpdateSlice X (broadcastInDim S1x4x64x64 ![1, 2, 3] bcast_S4x64x64_S1x4x64x64_1_2_3 T) (starts i) updateFits_S260x4x64x64_S1x4x64x64
/-- A stack of rows with row `i` replaced. -/
def putRow (X : RowStack F) (T : Row F) (i : IVec S_ 32) : RowStack F :=
  Host.dynamicUpdateSlice X (broadcastInDim S1x4x1x64 ![1, 2, 3] bcast_S4x1x64_S1x4x1x64_1_2_3 T) (starts i) updateFits_S260x4x1x64_S1x4x1x64

/-- The heads' products `l r`. -/
def mm4 (l r : Chunk F) : Chunk F := Host.dotGeneral dot_S4x64x64_S4x64x64_S4x64x64_2_1_1_2_0_0 none l r
/-- The heads' products `lᵀ r`. -/
def mtn4 (l r : Chunk F) : Chunk F := Host.dotGeneral dot_S4x64x64_S4x64x64_S4x64x64_1_1_2_2_0_0 none l r
/-- The heads' products `l rᵀ`. -/
def mnt4 (l r : Chunk F) : Chunk F := Host.dotGeneral dot_S4x64x64_S4x64x64_S4x64x64_2_2_1_1_0_0 none l r
/-- The heads' products `lᵀ rᵀ`. -/
def mtt4 (l r : Chunk F) : Chunk F := Host.dotGeneral dot_S4x64x64_S4x64x64_S4x64x64_1_2_2_1_0_0 none l r
/-- The heads' tiles transposed. -/
def tr4 (x : Chunk F) : Chunk F := transpose S4x64x64 [0, 2, 1] x transposes_S4x64x64_S4x64x64_0_2_1
/-- The heads' first rows. -/
def egl (e : Chunk F) : Row F := extractStridedSlice S4x1x64 ![0, 0, 0] e slices_S4x64x64_S4x1x64_0_0_0
/-- A row per head, at every row of the tile. -/
def rows4 (r : Row F) : Chunk F := broadcastInDim S4x64x64 ![0, 1, 2] bcast_S4x1x64_S4x64x64_0_1_2 r

/-- The new values of a chunk: `u - w s`. -/
def rV (u w s : Chunk F) : Chunk F := subf u (mm4 w s)
/-- The output of a chunk: `q s + a v`. -/
def rO (q a v s : Chunk F) : Chunk F := addf (mm4 q s) (mm4 a v)
/-- The state after a chunk: `s · egl + kᵀ v`. -/
def rNext (k e v s : Chunk F) : Chunk F := addf (mulf s (rows4 (egl e))) (mtn4 k v)

/-- The gradient of a chunk's new values. -/
def rDv (k a d ds : Chunk F) : Chunk F := addf (tr4 (mtt4 ds k)) (tr4 (mtn4 d a))
/-- The gradient of a chunk's keys. -/
def rDk (v ds : Chunk F) : Chunk F := tr4 (mnt4 ds v)
/-- The gradient of a chunk's decay: it reaches the first row alone. -/
def rDe (s ds : Chunk F) : Chunk F :=
  pad S4x64x64 ![0, 0, 0] ![0, 63, 0] ![0, 0, 0]
    (shapeCast S4x1x64 (Host.reduceAdd (mulf s ds) (constant S_ .f32 0x00000000#32) reducesTo_S4x64x64_S4x64_d1 h_S_) shapeCasts_S4x64_S4x1x64)
    (constant S_ .f32 0x00000000#32) pads_S4x1x64_S4x64x64_000_0630_000 h_S_
/-- The gradient of a chunk's `w`, from that of its new values. -/
def rDw (dv s : Chunk F) : Chunk F := mnt4 (Host.negf dv) s
/-- The gradient of the state before a chunk, from that of its new values and of the state after it. -/
def rDs (q w : Chunk F) (r : Row F) (d dv ds : Chunk F) : Chunk F :=
  addf (addf (mulf ds (rows4 r)) (tr4 (mtn4 d q))) (tr4 (mtn4 (Host.negf dv) w))

theorem idx_ne (a : TRef sig ⟨S260x4x64x64, .f32⟩) (i : TRef sig ⟨S_, .i32⟩) (φ : fn_dynamic_index_in_dim.Bufs) (V : Valuation τ sig (Elt F)) (r : Ref sig .tc)
    (h : r ∉ [φ.c.ref, φ.c_0.ref, φ.c_1.ref, φ.v0.ref, φ.v1.ref]) : after (idxOps a i φ) V (Proc.devRef .tc r) = V (Proc.devRef .tc r) :=
  after_of_writes_sub _ V (forall_writes_sub_of_map rfl) h

theorem idxRow_ne (a : TRef sig ⟨S260x4x1x64, .f32⟩) (i : TRef sig ⟨S_, .i32⟩) (φ : fn_dynamic_index_in_dim_1.Bufs) (V : Valuation τ sig (Elt F)) (r : Ref sig .tc)
    (h : r ∉ [φ.c.ref, φ.c_0.ref, φ.c_1.ref, φ.v0.ref, φ.v1.ref]) : after (idxRowOps a i φ) V (Proc.devRef .tc r) = V (Proc.devRef .tc r) :=
  after_of_writes_sub _ V (forall_writes_sub_of_map rfl) h

theorem upd_ne (a : TRef sig ⟨S260x4x64x64, .f32⟩) (t : TRef sig ⟨S4x64x64, .f32⟩) (i : TRef sig ⟨S_, .i32⟩) (φ : fn_dynamic_update_index_in_dim.Bufs) (V : Valuation τ sig (Elt F)) (r : Ref sig .tc)
    (h : r ∉ [φ.v0.ref, φ.c.ref, φ.c_0.ref, φ.c_1.ref, φ.v1.ref]) : after (updOps a t i φ) V (Proc.devRef .tc r) = V (Proc.devRef .tc r) :=
  after_of_writes_sub _ V (forall_writes_sub_of_map rfl) h

theorem updRow_ne (a : TRef sig ⟨S260x4x1x64, .f32⟩) (t : TRef sig ⟨S4x1x64, .f32⟩) (i : TRef sig ⟨S_, .i32⟩) (φ : fn_dynamic_update_index_in_dim_0.Bufs) (V : Valuation τ sig (Elt F)) (r : Ref sig .tc)
    (h : r ∉ [φ.v0.ref, φ.c.ref, φ.c_0.ref, φ.c_1.ref, φ.v1.ref]) : after (updRowOps a t i φ) V (Proc.devRef .tc r) = V (Proc.devRef .tc r) :=
  after_of_writes_sub _ V (forall_writes_sub_of_map rfl) h

theorem fwd_call0 (V : Valuation τ sig (Elt F)) :
    after (idxOps (.of main_v17_0) (.of main_v17_6) main_while0b_call0) V (Proc.devRef .tc main_while0b_v43) = slab (V (Proc.devRef .tc main_v17_0)) (V (Proc.devRef .tc main_v17_6)) := by
  unfold idxOps
  after_results_simp_entrywise
  rfl

theorem fwd_call1 (V : Valuation τ sig (Elt F)) :
    after (idxOps (.of main_v17_1) (.of main_v17_6) main_while0b_call1) V (Proc.devRef .tc main_while0b_v44) = slab (V (Proc.devRef .tc main_v17_1)) (V (Proc.devRef .tc main_v17_6)) := by
  unfold idxOps
  after_results_simp_entrywise
  rfl

theorem fwd_call2 (V : Valuation τ sig (Elt F)) :
    after (idxOps (.of main_v17_2) (.of main_v17_6) main_while0b_call2) V (Proc.devRef .tc main_while0b_v45) = slab (V (Proc.devRef .tc main_v17_2)) (V (Proc.devRef .tc main_v17_6)) := by
  unfold idxOps
  after_results_simp_entrywise
  rfl

theorem fwd_call3 (V : Valuation τ sig (Elt F)) :
    after (idxOps (.of main_v17_3) (.of main_v17_6) main_while0b_call3) V (Proc.devRef .tc main_while0b_v46) = slab (V (Proc.devRef .tc main_v17_3)) (V (Proc.devRef .tc main_v17_6)) := by
  unfold idxOps
  after_results_simp_entrywise
  rfl

theorem fwd_call4 (V : Valuation τ sig (Elt F)) :
    after (idxOps (.of main_v17_4) (.of main_v17_6) main_while0b_call4) V (Proc.devRef .tc main_while0b_v47) = slab (V (Proc.devRef .tc main_v17_4)) (V (Proc.devRef .tc main_v17_6)) := by
  unfold idxOps
  after_results_simp_entrywise
  rfl

theorem fwd_call5 (V : Valuation τ sig (Elt F)) :
    after (idxOps (.of main_v17_5) (.of main_v17_6) main_while0b_call5) V (Proc.devRef .tc main_while0b_v48) = slab (V (Proc.devRef .tc main_v17_5)) (V (Proc.devRef .tc main_v17_6)) := by
  unfold idxOps
  after_results_simp_entrywise
  rfl

theorem fwd_call6 (V : Valuation τ sig (Elt F)) :
    after (updOps (.of main_v17_8) (.of main_while0b_v53) (.of main_v17_6) main_while0b_call6) V (Proc.devRef .tc main_while0b_v59) = put (V (Proc.devRef .tc main_v17_8)) (V (Proc.devRef .tc main_while0b_v53)) (V (Proc.devRef .tc main_v17_6)) := by
  unfold updOps
  after_results_simp_entrywise
  rfl

theorem fwd_call7 (V : Valuation τ sig (Elt F)) :
    after (updOps (.of main_v17_9) (.of main_v17_7) (.of main_v17_6) main_while0b_call7) V (Proc.devRef .tc main_while0b_v60) = put (V (Proc.devRef .tc main_v17_9)) (V (Proc.devRef .tc main_v17_7)) (V (Proc.devRef .tc main_v17_6)) := by
  unfold updOps
  after_results_simp_entrywise
  rfl

theorem fwd_call8 (V : Valuation τ sig (Elt F)) :
    after (updOps (.of main_v17_10) (.of main_while0b_v50) (.of main_v17_6) main_while0b_call8) V (Proc.devRef .tc main_while0b_v61) = put (V (Proc.devRef .tc main_v17_10)) (V (Proc.devRef .tc main_while0b_v50)) (V (Proc.devRef .tc main_v17_6)) := by
  unfold updOps
  after_results_simp_entrywise
  rfl

theorem fwd_call9 (V : Valuation τ sig (Elt F)) :
    after (updRowOps (.of main_v17_11) (.of main_while0b_v54) (.of main_v17_6) main_while0b_call9) V (Proc.devRef .tc main_while0b_v62) = putRow (V (Proc.devRef .tc main_v17_11)) (V (Proc.devRef .tc main_while0b_v54)) (V (Proc.devRef .tc main_v17_6)) := by
  unfold updRowOps
  after_results_simp_entrywise
  rfl

theorem bwd_call10 (V : Valuation τ sig (Elt F)) :
    after (idxOps (.of main_v30_0) (.of main_while1b_v44) main_while1b_call10) V (Proc.devRef .tc main_while1b_v45) = slab (V (Proc.devRef .tc main_v30_0)) (V (Proc.devRef .tc main_while1b_v44)) := by
  unfold idxOps
  after_results_simp_entrywise
  rfl

theorem bwd_call11 (V : Valuation τ sig (Elt F)) :
    after (idxOps (.of main_v30_1) (.of main_while1b_v44) main_while1b_call11) V (Proc.devRef .tc main_while1b_v46) = slab (V (Proc.devRef .tc main_v30_1)) (V (Proc.devRef .tc main_while1b_v44)) := by
  unfold idxOps
  after_results_simp_entrywise
  rfl

theorem bwd_call12 (V : Valuation τ sig (Elt F)) :
    after (idxOps (.of main_v30_2) (.of main_while1b_v44) main_while1b_call12) V (Proc.devRef .tc main_while1b_v47) = slab (V (Proc.devRef .tc main_v30_2)) (V (Proc.devRef .tc main_while1b_v44)) := by
  unfold idxOps
  after_results_simp_entrywise
  rfl

theorem bwd_call13 (V : Valuation τ sig (Elt F)) :
    after (idxOps (.of main_v30_3) (.of main_while1b_v44) main_while1b_call13) V (Proc.devRef .tc main_while1b_v48) = slab (V (Proc.devRef .tc main_v30_3)) (V (Proc.devRef .tc main_while1b_v44)) := by
  unfold idxOps
  after_results_simp_entrywise
  rfl

theorem bwd_call14 (V : Valuation τ sig (Elt F)) :
    after (idxOps (.of main_v30_4) (.of main_while1b_v44) main_while1b_call14) V (Proc.devRef .tc main_while1b_v49) = slab (V (Proc.devRef .tc main_v30_4)) (V (Proc.devRef .tc main_while1b_v44)) := by
  unfold idxOps
  after_results_simp_entrywise
  rfl

theorem bwd_call15 (V : Valuation τ sig (Elt F)) :
    after (idxOps (.of main_v30_5) (.of main_while1b_v44) main_while1b_call15) V (Proc.devRef .tc main_while1b_v50) = slab (V (Proc.devRef .tc main_v30_5)) (V (Proc.devRef .tc main_while1b_v44)) := by
  unfold idxOps
  after_results_simp_entrywise
  rfl

theorem bwd_call16 (V : Valuation τ sig (Elt F)) :
    after (idxRowOps (.of main_v30_6) (.of main_while1b_v44) main_while1b_call16) V (Proc.devRef .tc main_while1b_v51) = slabRow (V (Proc.devRef .tc main_v30_6)) (V (Proc.devRef .tc main_while1b_v44)) := by
  unfold idxRowOps
  after_results_simp_entrywise
  rfl

theorem bwd_call17 (V : Valuation τ sig (Elt F)) :
    after (idxOps (.of main_v30_7) (.of main_while1b_v44) main_while1b_call17) V (Proc.devRef .tc main_while1b_v52) = slab (V (Proc.devRef .tc main_v30_7)) (V (Proc.devRef .tc main_while1b_v44)) := by
  unfold idxOps
  after_results_simp_entrywise
  rfl

theorem bwd_call18 (V : Valuation τ sig (Elt F)) :
    after (updOps (.of main_v30_10) (.of main_while1b_v70) (.of main_while1b_v44) main_while1b_call18) V (Proc.devRef .tc main_while1b_v76) = put (V (Proc.devRef .tc main_v30_10)) (V (Proc.devRef .tc main_while1b_v70)) (V (Proc.devRef .tc main_while1b_v44)) := by
  unfold updOps
  after_results_simp_entrywise
  rfl

theorem bwd_call19 (V : Valuation τ sig (Elt F)) :
    after (updOps (.of main_v30_11) (.of main_while1b_v56) (.of main_while1b_v44) main_while1b_call19) V (Proc.devRef .tc main_while1b_v77) = put (V (Proc.devRef .tc main_v30_11)) (V (Proc.devRef .tc main_while1b_v56)) (V (Proc.devRef .tc main_while1b_v44)) := by
  unfold updOps
  after_results_simp_entrywise
  rfl

theorem bwd_call20 (V : Valuation τ sig (Elt F)) :
    after (updOps (.of main_v30_12) (.of main_while1b_v65) (.of main_while1b_v44) main_while1b_call20) V (Proc.devRef .tc main_while1b_v78) = put (V (Proc.devRef .tc main_v30_12)) (V (Proc.devRef .tc main_while1b_v65)) (V (Proc.devRef .tc main_while1b_v44)) := by
  unfold updOps
  after_results_simp_entrywise
  rfl

theorem bwd_call21 (V : Valuation τ sig (Elt F)) :
    after (updOps (.of main_v30_13) (.of main_while1b_v75) (.of main_while1b_v44) main_while1b_call21) V (Proc.devRef .tc main_while1b_v79) = put (V (Proc.devRef .tc main_v30_13)) (V (Proc.devRef .tc main_while1b_v75)) (V (Proc.devRef .tc main_while1b_v44)) := by
  unfold updOps
  after_results_simp_entrywise
  rfl

theorem bwd_call22 (V : Valuation τ sig (Elt F)) :
    after (updOps (.of main_v30_14) (.of main_while1b_v66) (.of main_while1b_v44) main_while1b_call22) V (Proc.devRef .tc main_while1b_v80) = put (V (Proc.devRef .tc main_v30_14)) (V (Proc.devRef .tc main_while1b_v66)) (V (Proc.devRef .tc main_while1b_v44)) := by
  unfold updOps
  after_results_simp_entrywise
  rfl

theorem bwd_call23 (V : Valuation τ sig (Elt F)) :
    after (updOps (.of main_v30_15) (.of main_while1b_v62) (.of main_while1b_v44) main_while1b_call23) V (Proc.devRef .tc main_while1b_v81) = put (V (Proc.devRef .tc main_v30_15)) (V (Proc.devRef .tc main_while1b_v62)) (V (Proc.devRef .tc main_while1b_v44)) := by
  unfold updOps
  after_results_simp_entrywise
  rfl

theorem fwdA_while0b_v50 (V : Valuation τ sig (Elt F)) : after fwdA V (Proc.devRef .tc main_while0b_v50) = rV (V (Proc.devRef .tc main_while0b_v45)) (V (Proc.devRef .tc main_while0b_v46)) (V (Proc.devRef .tc main_v17_7)) := by
  unfold fwdA
  after_results_simp
  rfl

theorem fwdA_while0b_v53 (V : Valuation τ sig (Elt F)) : after fwdA V (Proc.devRef .tc main_while0b_v53) = rO (V (Proc.devRef .tc main_while0b_v43)) (V (Proc.devRef .tc main_while0b_v47)) (rV (V (Proc.devRef .tc main_while0b_v45)) (V (Proc.devRef .tc main_while0b_v46)) (V (Proc.devRef .tc main_v17_7))) (V (Proc.devRef .tc main_v17_7)) := by
  unfold fwdA
  after_results_simp
  rfl

theorem fwdA_while0b_v54 (V : Valuation τ sig (Elt F)) : after fwdA V (Proc.devRef .tc main_while0b_v54) = egl (V (Proc.devRef .tc main_while0b_v48)) := by
  unfold fwdA
  after_results_simp
  rfl

theorem fwdA_while0b_v58 (V : Valuation τ sig (Elt F)) : after fwdA V (Proc.devRef .tc main_while0b_v58) = rNext (V (Proc.devRef .tc main_while0b_v44)) (V (Proc.devRef .tc main_while0b_v48)) (rV (V (Proc.devRef .tc main_while0b_v45)) (V (Proc.devRef .tc main_while0b_v46)) (V (Proc.devRef .tc main_v17_7))) (V (Proc.devRef .tc main_v17_7)) := by
  unfold fwdA
  after_results_simp
  rfl

theorem fwdB_v17_6 (V : Valuation τ sig (Elt F)) : after fwdB V (Proc.devRef .tc main_v17_6) = addi (V (Proc.devRef .tc main_v17_6)) (constantI S_ 32 1#32) := by
  unfold fwdB
  after_results_simp
  rfl

theorem fwdB_v17_7 (V : Valuation τ sig (Elt F)) : after fwdB V (Proc.devRef .tc main_v17_7) = (V (Proc.devRef .tc main_while0b_v58)) := by
  unfold fwdB
  after_results_simp
  rfl

theorem fwdB_v17_8 (V : Valuation τ sig (Elt F)) : after fwdB V (Proc.devRef .tc main_v17_8) = (V (Proc.devRef .tc main_while0b_v59)) := by
  unfold fwdB
  after_results_simp
  rfl

theorem fwdB_v17_9 (V : Valuation τ sig (Elt F)) : after fwdB V (Proc.devRef .tc main_v17_9) = (V (Proc.devRef .tc main_while0b_v60)) := by
  unfold fwdB
  after_results_simp
  rfl

theorem fwdB_v17_10 (V : Valuation τ sig (Elt F)) : after fwdB V (Proc.devRef .tc main_v17_10) = (V (Proc.devRef .tc main_while0b_v61)) := by
  unfold fwdB
  after_results_simp
  rfl

theorem fwdB_v17_11 (V : Valuation τ sig (Elt F)) : after fwdB V (Proc.devRef .tc main_v17_11) = (V (Proc.devRef .tc main_while0b_v62)) := by
  unfold fwdB
  after_results_simp
  rfl

theorem bwdA_while1b_v44 (V : Valuation τ sig (Elt F)) : after bwdA V (Proc.devRef .tc main_while1b_v44) = subi (subi (constantI S_ 32 260#32) (V (Proc.devRef .tc main_v30_8))) (constantI S_ 32 1#32) := by
  unfold bwdA
  after_results_simp

theorem bwdB_while1b_v70 (V : Valuation τ sig (Elt F)) : after bwdB V (Proc.devRef .tc main_while1b_v70) = mnt4 (V (Proc.devRef .tc main_while1b_v45)) (V (Proc.devRef .tc main_while1b_v46)) := by
  unfold bwdB
  after_results_simp
  rfl

theorem bwdB_while1b_v56 (V : Valuation τ sig (Elt F)) : after bwdB V (Proc.devRef .tc main_while1b_v56) = rDk (V (Proc.devRef .tc main_while1b_v49)) (V (Proc.devRef .tc main_v30_9)) := by
  unfold bwdB
  after_results_simp
  rfl

theorem bwdB_while1b_v65 (V : Valuation τ sig (Elt F)) : after bwdB V (Proc.devRef .tc main_while1b_v65) = (rDv (V (Proc.devRef .tc main_while1b_v52)) (V (Proc.devRef .tc main_while1b_v50)) (V (Proc.devRef .tc main_while1b_v45)) (V (Proc.devRef .tc main_v30_9))) := by
  unfold bwdB
  after_results_simp
  rfl

theorem bwdB_while1b_v75 (V : Valuation τ sig (Elt F)) : after bwdB V (Proc.devRef .tc main_while1b_v75) = rDw (rDv (V (Proc.devRef .tc main_while1b_v52)) (V (Proc.devRef .tc main_while1b_v50)) (V (Proc.devRef .tc main_while1b_v45)) (V (Proc.devRef .tc main_v30_9))) (V (Proc.devRef .tc main_while1b_v46)) := by
  unfold bwdB
  after_results_simp
  rfl

theorem bwdB_while1b_v66 (V : Valuation τ sig (Elt F)) : after bwdB V (Proc.devRef .tc main_while1b_v66) = mnt4 (V (Proc.devRef .tc main_while1b_v45)) (V (Proc.devRef .tc main_while1b_v49)) := by
  unfold bwdB
  after_results_simp
  rfl

theorem bwdB_while1b_v62 (V : Valuation τ sig (Elt F)) : after bwdB V (Proc.devRef .tc main_while1b_v62) = rDe (V (Proc.devRef .tc main_while1b_v46)) (V (Proc.devRef .tc main_v30_9)) := by
  unfold bwdB
  after_results_simp
  rfl

theorem bwdB_while1b_v74 (V : Valuation τ sig (Elt F)) : after bwdB V (Proc.devRef .tc main_while1b_v74) = rDs (V (Proc.devRef .tc main_while1b_v48)) (V (Proc.devRef .tc main_while1b_v47)) (V (Proc.devRef .tc main_while1b_v51)) (V (Proc.devRef .tc main_while1b_v45)) (rDv (V (Proc.devRef .tc main_while1b_v52)) (V (Proc.devRef .tc main_while1b_v50)) (V (Proc.devRef .tc main_while1b_v45)) (V (Proc.devRef .tc main_v30_9))) (V (Proc.devRef .tc main_v30_9)) := by
  unfold bwdB
  after_results_simp
  rfl

theorem bwdC_v30_8 (V : Valuation τ sig (Elt F)) : after bwdC V (Proc.devRef .tc main_v30_8) = addi (V (Proc.devRef .tc main_v30_8)) (constantI S_ 32 1#32) := by
  unfold bwdC
  after_results_simp
  rfl

theorem bwdC_v30_9 (V : Valuation τ sig (Elt F)) : after bwdC V (Proc.devRef .tc main_v30_9) = (V (Proc.devRef .tc main_while1b_v74)) := by
  unfold bwdC
  after_results_simp
  rfl

theorem bwdC_v30_10 (V : Valuation τ sig (Elt F)) : after bwdC V (Proc.devRef .tc main_v30_10) = (V (Proc.devRef .tc main_while1b_v76)) := by
  unfold bwdC
  after_results_simp
  rfl

theorem bwdC_v30_11 (V : Valuation τ sig (Elt F)) : after bwdC V (Proc.devRef .tc main_v30_11) = (V (Proc.devRef .tc main_while1b_v77)) := by
  unfold bwdC
  after_results_simp
  rfl

theorem bwdC_v30_12 (V : Valuation τ sig (Elt F)) : after bwdC V (Proc.devRef .tc main_v30_12) = (V (Proc.devRef .tc main_while1b_v78)) := by
  unfold bwdC
  after_results_simp
  rfl

theorem bwdC_v30_13 (V : Valuation τ sig (Elt F)) : after bwdC V (Proc.devRef .tc main_v30_13) = (V (Proc.devRef .tc main_while1b_v79)) := by
  unfold bwdC
  after_results_simp
  rfl

theorem bwdC_v30_14 (V : Valuation τ sig (Elt F)) : after bwdC V (Proc.devRef .tc main_v30_14) = (V (Proc.devRef .tc main_while1b_v80)) := by
  unfold bwdC
  after_results_simp
  rfl

theorem bwdC_v30_15 (V : Valuation τ sig (Elt F)) : after bwdC V (Proc.devRef .tc main_v30_15) = (V (Proc.devRef .tc main_while1b_v81)) := by
  unfold bwdC
  after_results_simp
  rfl

end Cert.ReferenceIdeal.Scan

end
-- ==== Proof.Scan.Dots.lean ====
/-
  The products of the two programs read at an index over the extended reals: the reference's products of four stacked
  tiles, and the kernel's products of single tiles, and the equations between them, head by head.
-/
module

public import proofs.«01_k».proof.Proof.Scan.Steps
public import proofs.«01_k».proof.Proof.Scan.RefTrip
public import Idealize.ShloMosaic.PureOps.Ideal.Laws

@[expose] public section

set_option maxHeartbeats 1000000

noncomputable section

namespace Cert.Scan

open Idealize.ShloMosaic
open Cert.ReferenceIdeal.Scan (Chunk Row)
open Cert.KernelIdeal.Scan (Tile headOf)

/-- Entry (g, a, b) of the stacked plain product. -/
theorem mm4_apply (A B : Chunk Ideal) (g : Fin 4) (a b : Fin 64) :
    Cert.ReferenceIdeal.Scan.mm4 A B (ValueIdx.ix3 g a b) = ∑ c : Fin 64, A (ValueIdx.ix3 g a c) * B (ValueIdx.ix3 g c b) := by
  show FloatOps.dotGeneral Cert.ReferenceIdeal.dot_S4x64x64_S4x64x64_S4x64x64_2_1_1_2_0_0 none _ A B (ValueIdx.ix3 g a b) = _
  rw [Ideal.dotGeneral_apply, ← Equiv.sum_comp (ValueIdx.contrEquiv1 Cert.ReferenceIdeal.dot_S4x64x64_S4x64x64_S4x64x64_2_1_1_2_0_0 64 rfl rfl).symm]
  refine Finset.sum_congr rfl fun c _ => ?_
  have c3 := ValueIdx.contrEquiv1_symm_val Cert.ReferenceIdeal.dot_S4x64x64_S4x64x64_S4x64x64_2_1_1_2_0_0 64 rfl rfl c
  have l3 : (Cert.ReferenceIdeal.dot_S4x64x64_S4x64x64_S4x64x64_2_1_1_2_0_0).lhsIdx (ValueIdx.ix3 g a b) ((ValueIdx.contrEquiv1 Cert.ReferenceIdeal.dot_S4x64x64_S4x64x64_S4x64x64_2_1_1_2_0_0 64 rfl rfl).symm c) = ValueIdx.ix3 g a c := by
    funext ax; apply Fin.ext
    match ax with
    | ⟨0, _⟩ => rfl
    | ⟨1, _⟩ => rfl
    | ⟨2, _⟩ => exact c3
  have r3 : (Cert.ReferenceIdeal.dot_S4x64x64_S4x64x64_S4x64x64_2_1_1_2_0_0).rhsIdx (ValueIdx.ix3 g a b) ((ValueIdx.contrEquiv1 Cert.ReferenceIdeal.dot_S4x64x64_S4x64x64_S4x64x64_2_1_1_2_0_0 64 rfl rfl).symm c) = ValueIdx.ix3 g c b := by
    funext ax; apply Fin.ext
    match ax with
    | ⟨0, _⟩ => rfl
    | ⟨1, _⟩ => exact c3
    | ⟨2, _⟩ => rfl
  rw [l3, r3]

/-- Entry (g, a, b) of the stacked product with the left factor transposed. -/
theorem mtn4_apply (A B : Chunk Ideal) (g : Fin 4) (a b : Fin 64) :
    Cert.ReferenceIdeal.Scan.mtn4 A B (ValueIdx.ix3 g a b) = ∑ c : Fin 64, A (ValueIdx.ix3 g c a) * B (ValueIdx.ix3 g c b) := by
  show FloatOps.dotGeneral Cert.ReferenceIdeal.dot_S4x64x64_S4x64x64_S4x64x64_1_1_2_2_0_0 none _ A B (ValueIdx.ix3 g a b) = _
  rw [Ideal.dotGeneral_apply, ← Equiv.sum_comp (ValueIdx.contrEquiv1 Cert.ReferenceIdeal.dot_S4x64x64_S4x64x64_S4x64x64_1_1_2_2_0_0 64 rfl rfl).symm]
  refine Finset.sum_congr rfl fun c _ => ?_
  have c3 := ValueIdx.contrEquiv1_symm_val Cert.ReferenceIdeal.dot_S4x64x64_S4x64x64_S4x64x64_1_1_2_2_0_0 64 rfl rfl c
  have l3 : (Cert.ReferenceIdeal.dot_S4x64x64_S4x64x64_S4x64x64_1_1_2_2_0_0).lhsIdx (ValueIdx.ix3 g a b) ((ValueIdx.contrEquiv1 Cert.ReferenceIdeal.dot_S4x64x64_S4x64x64_S4x64x64_1_1_2_2_0_0 64 rfl rfl).symm c) = ValueIdx.ix3 g c a := by
    funext ax; apply Fin.ext
    match ax with
    | ⟨0, _⟩ => rfl
    | ⟨1, _⟩ => exact c3
    | ⟨2, _⟩ => rfl
  have r3 : (Cert.ReferenceIdeal.dot_S4x64x64_S4x64x64_S4x64x64_1_1_2_2_0_0).rhsIdx (ValueIdx.ix3 g a b) ((ValueIdx.contrEquiv1 Cert.ReferenceIdeal.dot_S4x64x64_S4x64x64_S4x64x64_1_1_2_2_0_0 64 rfl rfl).symm c) = ValueIdx.ix3 g c b := by
    funext ax; apply Fin.ext
    match ax with
    | ⟨0, _⟩ => rfl
    | ⟨1, _⟩ => exact c3
    | ⟨2, _⟩ => rfl
  rw [l3, r3]

/-- Entry (g, a, b) of the stacked product with the right factor transposed. -/
theorem mnt4_apply (A B : Chunk Ideal) (g : Fin 4) (a b : Fin 64) :
    Cert.ReferenceIdeal.Scan.mnt4 A B (ValueIdx.ix3 g a b) = ∑ c : Fin 64, A (ValueIdx.ix3 g a c) * B (ValueIdx.ix3 g b c) := by
  show FloatOps.dotGeneral Cert.ReferenceIdeal.dot_S4x64x64_S4x64x64_S4x64x64_2_2_1_1_0_0 none _ A B (ValueIdx.ix3 g a b) = _
  rw [Ideal.dotGeneral_apply, ← Equiv.sum_comp (ValueIdx.contrEquiv1 Cert.ReferenceIdeal.dot_S4x64x64_S4x64x64_S4x64x64_2_2_1_1_0_0 64 rfl rfl).symm]
  refine Finset.sum_congr rfl fun c _ => ?_
  have c3 := ValueIdx.contrEquiv1_symm_val Cert.ReferenceIdeal.dot_S4x64x64_S4x64x64_S4x64x64_2_2_1_1_0_0 64 rfl rfl c
  have l3 : (Cert.ReferenceIdeal.dot_S4x64x64_S4x64x64_S4x64x64_2_2_1_1_0_0).lhsIdx (ValueIdx.ix3 g a b) ((ValueIdx.contrEquiv1 Cert.ReferenceIdeal.dot_S4x64x64_S4x64x64_S4x64x64_2_2_1_1_0_0 64 rfl rfl).symm c) = ValueIdx.ix3 g a c := by
    funext ax; apply Fin.ext
    match ax with
    | ⟨0, _⟩ => rfl
    | ⟨1, _⟩ => rfl
    | ⟨2, _⟩ => exact c3
  have r3 : (Cert.ReferenceIdeal.dot_S4x64x64_S4x64x64_S4x64x64_2_2_1_1_0_0).rhsIdx (ValueIdx.ix3 g a b) ((ValueIdx.contrEquiv1 Cert.ReferenceIdeal.dot_S4x64x64_S4x64x64_S4x64x64_2_2_1_1_0_0 64 rfl rfl).symm c) = ValueIdx.ix3 g b c := by
    funext ax; apply Fin.ext
    match ax with
    | ⟨0, _⟩ => rfl
    | ⟨1, _⟩ => rfl
    | ⟨2, _⟩ => exact c3
  rw [l3, r3]

/-- Entry (g, a, b) of the stacked product with both factors transposed. -/
theorem mtt4_apply (A B : Chunk Ideal) (g : Fin 4) (a b : Fin 64) :
    Cert.ReferenceIdeal.Scan.mtt4 A B (ValueIdx.ix3 g a b) = ∑ c : Fin 64, A (ValueIdx.ix3 g c a) * B (ValueIdx.ix3 g b c) := by
  show FloatOps.dotGeneral Cert.ReferenceIdeal.dot_S4x64x64_S4x64x64_S4x64x64_1_2_2_1_0_0 none _ A B (ValueIdx.ix3 g a b) = _
  rw [Ideal.dotGeneral_apply, ← Equiv.sum_comp (ValueIdx.contrEquiv1 Cert.ReferenceIdeal.dot_S4x64x64_S4x64x64_S4x64x64_1_2_2_1_0_0 64 rfl rfl).symm]
  refine Finset.sum_congr rfl fun c _ => ?_
  have c3 := ValueIdx.contrEquiv1_symm_val Cert.ReferenceIdeal.dot_S4x64x64_S4x64x64_S4x64x64_1_2_2_1_0_0 64 rfl rfl c
  have l3 : (Cert.ReferenceIdeal.dot_S4x64x64_S4x64x64_S4x64x64_1_2_2_1_0_0).lhsIdx (ValueIdx.ix3 g a b) ((ValueIdx.contrEquiv1 Cert.ReferenceIdeal.dot_S4x64x64_S4x64x64_S4x64x64_1_2_2_1_0_0 64 rfl rfl).symm c) = ValueIdx.ix3 g c a := by
    funext ax; apply Fin.ext
    match ax with
    | ⟨0, _⟩ => rfl
    | ⟨1, _⟩ => exact c3
    | ⟨2, _⟩ => rfl
  have r3 : (Cert.ReferenceIdeal.dot_S4x64x64_S4x64x64_S4x64x64_1_2_2_1_0_0).rhsIdx (ValueIdx.ix3 g a b) ((ValueIdx.contrEquiv1 Cert.ReferenceIdeal.dot_S4x64x64_S4x64x64_S4x64x64_1_2_2_1_0_0 64 rfl rfl).symm c) = ValueIdx.ix3 g b c := by
    funext ax; apply Fin.ext
    match ax with
    | ⟨0, _⟩ => rfl
    | ⟨1, _⟩ => rfl
    | ⟨2, _⟩ => exact c3
  rw [l3, r3]

/-- Entry (a, b) of the plain product of two tiles. -/
theorem tile_mm_apply (A B : Tile Ideal) (a b : Fin 64) :
    Cert.KernelIdeal.Scan.mm A B (ValueIdx.ix2 a b) = ∑ c : Fin 64, A (ValueIdx.ix2 a c) * B (ValueIdx.ix2 c b) := by
  show FloatOps.matmul Cert.KernelIdeal.dot_S64x64_S64x64_S64x64_1_0_0_1_n_n none A B _ (ValueIdx.ix2 a b) = _
  rw [Ideal.matmul_constant_zero_apply, ← Equiv.sum_comp (ValueIdx.contrEquiv1 Cert.KernelIdeal.dot_S64x64_S64x64_S64x64_1_0_0_1_n_n 64 rfl rfl).symm]
  refine Finset.sum_congr rfl fun c _ => ?_
  have c2 := ValueIdx.contrEquiv1_symm_val Cert.KernelIdeal.dot_S64x64_S64x64_S64x64_1_0_0_1_n_n 64 rfl rfl c
  have l2 : (Cert.KernelIdeal.dot_S64x64_S64x64_S64x64_1_0_0_1_n_n).lhsIdx (ValueIdx.ix2 a b) ((ValueIdx.contrEquiv1 Cert.KernelIdeal.dot_S64x64_S64x64_S64x64_1_0_0_1_n_n 64 rfl rfl).symm c) = ValueIdx.ix2 a c := by
    funext ax; apply Fin.ext
    match ax with
    | ⟨0, _⟩ => rfl
    | ⟨1, _⟩ => exact c2
  have r2 : (Cert.KernelIdeal.dot_S64x64_S64x64_S64x64_1_0_0_1_n_n).rhsIdx (ValueIdx.ix2 a b) ((ValueIdx.contrEquiv1 Cert.KernelIdeal.dot_S64x64_S64x64_S64x64_1_0_0_1_n_n 64 rfl rfl).symm c) = ValueIdx.ix2 c b := by
    funext ax; apply Fin.ext
    match ax with
    | ⟨0, _⟩ => exact c2
    | ⟨1, _⟩ => rfl
  rw [l2, r2]

/-- Entry (a, b) of the product of two tiles, the left one transposed. -/
theorem tile_mtn_apply (A B : Tile Ideal) (a b : Fin 64) :
    Cert.KernelIdeal.Scan.mtn A B (ValueIdx.ix2 a b) = ∑ c : Fin 64, A (ValueIdx.ix2 c a) * B (ValueIdx.ix2 c b) := by
  show FloatOps.matmul Cert.KernelIdeal.dot_S64x64_S64x64_S64x64_0_0_1_1_n_n none A B _ (ValueIdx.ix2 a b) = _
  rw [Ideal.matmul_constant_zero_apply, ← Equiv.sum_comp (ValueIdx.contrEquiv1 Cert.KernelIdeal.dot_S64x64_S64x64_S64x64_0_0_1_1_n_n 64 rfl rfl).symm]
  refine Finset.sum_congr rfl fun c _ => ?_
  have c2 := ValueIdx.contrEquiv1_symm_val Cert.KernelIdeal.dot_S64x64_S64x64_S64x64_0_0_1_1_n_n 64 rfl rfl c
  have l2 : (Cert.KernelIdeal.dot_S64x64_S64x64_S64x64_0_0_1_1_n_n).lhsIdx (ValueIdx.ix2 a b) ((ValueIdx.contrEquiv1 Cert.KernelIdeal.dot_S64x64_S64x64_S64x64_0_0_1_1_n_n 64 rfl rfl).symm c) = ValueIdx.ix2 c a := by
    funext ax; apply Fin.ext
    match ax with
    | ⟨0, _⟩ => exact c2
    | ⟨1, _⟩ => rfl
  have r2 : (Cert.KernelIdeal.dot_S64x64_S64x64_S64x64_0_0_1_1_n_n).rhsIdx (ValueIdx.ix2 a b) ((ValueIdx.contrEquiv1 Cert.KernelIdeal.dot_S64x64_S64x64_S64x64_0_0_1_1_n_n 64 rfl rfl).symm c) = ValueIdx.ix2 c b := by
    funext ax; apply Fin.ext
    match ax with
    | ⟨0, _⟩ => exact c2
    | ⟨1, _⟩ => rfl
  rw [l2, r2]

/-- Entry (a, b) of the product of two tiles, the right one transposed. -/
theorem tile_mnt_apply (A B : Tile Ideal) (a b : Fin 64) :
    Cert.KernelIdeal.Scan.mnt A B (ValueIdx.ix2 a b) = ∑ c : Fin 64, A (ValueIdx.ix2 a c) * B (ValueIdx.ix2 b c) := by
  show FloatOps.matmul Cert.KernelIdeal.dot_S64x64_S64x64_S64x64_1_1_0_0_n_n none A B _ (ValueIdx.ix2 a b) = _
  rw [Ideal.matmul_constant_zero_apply, ← Equiv.sum_comp (ValueIdx.contrEquiv1 Cert.KernelIdeal.dot_S64x64_S64x64_S64x64_1_1_0_0_n_n 64 rfl rfl).symm]
  refine Finset.sum_congr rfl fun c _ => ?_
  have c2 := ValueIdx.contrEquiv1_symm_val Cert.KernelIdeal.dot_S64x64_S64x64_S64x64_1_1_0_0_n_n 64 rfl rfl c
  have l2 : (Cert.KernelIdeal.dot_S64x64_S64x64_S64x64_1_1_0_0_n_n).lhsIdx (ValueIdx.ix2 a b) ((ValueIdx.contrEquiv1 Cert.KernelIdeal.dot_S64x64_S64x64_S64x64_1_1_0_0_n_n 64 rfl rfl).symm c) = ValueIdx.ix2 a c := by
    funext ax; apply Fin.ext
    match ax with
    | ⟨0, _⟩ => rfl
    | ⟨1, _⟩ => exact c2
  have r2 : (Cert.KernelIdeal.dot_S64x64_S64x64_S64x64_1_1_0_0_n_n).rhsIdx (ValueIdx.ix2 a b) ((ValueIdx.contrEquiv1 Cert.KernelIdeal.dot_S64x64_S64x64_S64x64_1_1_0_0_n_n 64 rfl rfl).symm c) = ValueIdx.ix2 b c := by
    funext ax; apply Fin.ext
    match ax with
    | ⟨0, _⟩ => rfl
    | ⟨1, _⟩ => exact c2
  rw [l2, r2]

/-- The tiles of a chunk with every tile transposed. -/
theorem tr4_apply (A : Chunk Ideal) (g : Fin 4) (a b : Fin 64) :
    Cert.ReferenceIdeal.Scan.tr4 A (ValueIdx.ix3 g a b) = A (ValueIdx.ix3 g b a) := by
  refine transpose_apply _ _ _ _ _ fun ax => ?_
  match ax with
  | ⟨0, _⟩ => rfl
  | ⟨1, _⟩ => rfl
  | ⟨2, _⟩ => rfl

/-- Two tiles are equal when their entries are. -/
theorem tile_ext {A B : Tile Ideal} (h : ∀ a b, A (ValueIdx.ix2 a b) = B (ValueIdx.ix2 a b)) : A = B := by
  funext j; rw [ValueIdx.eq_ix2 j]; exact h _ _

/-- Head by head the stacked plain product is the product of the tiles. -/
theorem headOf_mm4 (A B : Chunk Ideal) (h : Fin 4) :
    headOf (Cert.ReferenceIdeal.Scan.mm4 A B) h = Cert.KernelIdeal.Scan.mm (headOf A h) (headOf B h) :=
  tile_ext fun a b => (mm4_apply A B h a b).trans (tile_mm_apply (headOf A h) (headOf B h) a b).symm

/-- The same with the left factor transposed. -/
theorem headOf_mtn4 (A B : Chunk Ideal) (h : Fin 4) :
    headOf (Cert.ReferenceIdeal.Scan.mtn4 A B) h = Cert.KernelIdeal.Scan.mtn (headOf A h) (headOf B h) :=
  tile_ext fun a b => (mtn4_apply A B h a b).trans (tile_mtn_apply (headOf A h) (headOf B h) a b).symm

/-- The same with the right factor transposed. -/
theorem headOf_mnt4 (A B : Chunk Ideal) (h : Fin 4) :
    headOf (Cert.ReferenceIdeal.Scan.mnt4 A B) h = Cert.KernelIdeal.Scan.mnt (headOf A h) (headOf B h) :=
  tile_ext fun a b => (mnt4_apply A B h a b).trans (tile_mnt_apply (headOf A h) (headOf B h) a b).symm

/-- The transpose of the product of two transposed factors is the plain product in the other order. -/
theorem headOf_tr4_mtt4 (A B : Chunk Ideal) (h : Fin 4) :
    headOf (Cert.ReferenceIdeal.Scan.tr4 (Cert.ReferenceIdeal.Scan.mtt4 A B)) h
      = Cert.KernelIdeal.Scan.mm (headOf B h) (headOf A h) :=
  tile_ext fun a b => ((tr4_apply _ h a b).trans (mtt4_apply A B h b a)).trans
    ((Finset.sum_congr rfl fun _ _ => mul_comm _ _).trans (tile_mm_apply (headOf B h) (headOf A h) a b).symm)

/-- The transpose of a product with the left factor transposed is that product with the factors exchanged. -/
theorem headOf_tr4_mtn4 (A B : Chunk Ideal) (h : Fin 4) :
    headOf (Cert.ReferenceIdeal.Scan.tr4 (Cert.ReferenceIdeal.Scan.mtn4 A B)) h
      = Cert.KernelIdeal.Scan.mtn (headOf B h) (headOf A h) :=
  tile_ext fun a b => ((tr4_apply _ h a b).trans (mtn4_apply A B h b a)).trans
    ((Finset.sum_congr rfl fun _ _ => mul_comm _ _).trans (tile_mtn_apply (headOf B h) (headOf A h) a b).symm)

/-- The transpose of a product with the right factor transposed is that product with the factors exchanged. -/
theorem headOf_tr4_mnt4 (A B : Chunk Ideal) (h : Fin 4) :
    headOf (Cert.ReferenceIdeal.Scan.tr4 (Cert.ReferenceIdeal.Scan.mnt4 A B)) h
      = Cert.KernelIdeal.Scan.mnt (headOf B h) (headOf A h) :=
  tile_ext fun a b => ((tr4_apply _ h a b).trans (mnt4_apply A B h b a)).trans
    ((Finset.sum_congr rfl fun _ _ => mul_comm _ _).trans (tile_mnt_apply (headOf B h) (headOf A h) a b).symm)

end Cert.Scan
-- ==== Proof.Scan.Reals.lean ====
/-
  Tiles whose entries are real numbers: the arithmetic of a chunk keeps them real, and for them a product with a negated
  factor is the negated product (which fails where infinities of both signs meet in one sum).
-/
module

public import proofs.«01_k».proof.Proof.Scan.Dots

@[expose] public section

set_option maxHeartbeats 1000000

noncomputable section

namespace Cert.Scan

open Idealize.ShloMosaic
open Cert.ReferenceIdeal.Scan (Chunk Row egl rows4)
open Cert.KernelIdeal.Scan (Tile headOf)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_zero : IsReal 0 := ⟨0, rfl⟩

/-- A finite sum of reals is real. -/
theorem isReal_sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- Negation goes through a finite sum of reals. -/
theorem sum_neg_real {ι : Type*} (s : Finset ι) (f : ι → EReal) (h : ∀ i, IsReal (f i)) : ∑ i ∈ s, -f i = -∑ i ∈ s, f i := by
  classical
  induction s using Finset.induction_on with
  | empty => simp
  | insert a s ha ih =>
    rw [Finset.sum_insert ha, Finset.sum_insert ha, ih]
    obtain ⟨x, hx⟩ := h a
    obtain ⟨y, hy⟩ := isReal_sum s f h
    rw [hx, hy, ← EReal.coe_neg, ← EReal.coe_neg, ← EReal.coe_add, ← EReal.coe_add, ← EReal.coe_neg, neg_add]

/-- Every entry of a tile is a real number. -/
def RealT (A : Tile Ideal) : Prop := ∀ j, IsReal (A j)

theorem real_mm {A B : Tile Ideal} (hA : RealT A) (hB : RealT B) : RealT (Cert.KernelIdeal.Scan.mm A B) := fun j => by
  rw [ValueIdx.eq_ix2 j]
  exact (tile_mm_apply A B (j 0) (j 1)).symm ▸ isReal_sum _ _ fun c => (hA _).mul (hB _)

theorem real_mtn {A B : Tile Ideal} (hA : RealT A) (hB : RealT B) : RealT (Cert.KernelIdeal.Scan.mtn A B) := fun j => by
  rw [ValueIdx.eq_ix2 j]
  exact (tile_mtn_apply A B (j 0) (j 1)).symm ▸ isReal_sum _ _ fun c => (hA _).mul (hB _)

theorem real_addf {A B : Tile Ideal} (hA : RealT A) (hB : RealT B) : RealT (addf A B) := fun j => (hA j).add (hB j)

theorem real_subf {A B : Tile Ideal} (hA : RealT A) (hB : RealT B) : RealT (subf A B) := fun j => (hA j).sub (hB j)

theorem real_mulf {A B : Tile Ideal} (hA : RealT A) (hB : RealT B) : RealT (mulf A B) := fun j => (hA j).mul (hB j)

/-- The first row on every row, entry by entry. -/
theorem row0_apply (A : Tile Ideal) (a b : Fin 64) : Cert.KernelIdeal.Scan.row0 A (ValueIdx.ix2 a b) = A (ValueIdx.ix2 0 b) := by
  unfold Cert.KernelIdeal.Scan.row0
  refine (broadcastTo_apply _ _ _ (ValueIdx.ix2 (0 : Fin 1) b) fun ax => ?_).trans
    (extractStridedSlice_apply _ _ _ _ (ValueIdx.ix2 (0 : Fin 64) b) fun ax => ?_)
  · match ax with
    | ⟨0, _⟩ => rfl
    | ⟨1, _⟩ => rfl
  · match ax with
    | ⟨0, _⟩ => rfl
    | ⟨1, _⟩ => exact (Nat.zero_add b.val).symm

theorem real_row0 {A : Tile Ideal} (hA : RealT A) : RealT (Cert.KernelIdeal.Scan.row0 A) := fun j => by
  rw [ValueIdx.eq_ix2 j]
  exact (row0_apply A (j 0) (j 1)).symm ▸ hA _

theorem zeroT_apply (j) : (Cert.KernelIdeal.Scan.zeroT : Tile Ideal) j = 0 := Ideal.ofBits_zero_f32

theorem real_zeroT : RealT Cert.KernelIdeal.Scan.zeroT := fun j => (zeroT_apply j).symm ▸ isReal_zero

/-- The tile of the negated entries. -/
def negT (A : Tile Ideal) : Tile Ideal := fun j => -A j

/-- A product with its right factor negated, for real tiles. -/
theorem mtn_neg {A B : Tile Ideal} (hA : RealT A) (hB : RealT B) :
    Cert.KernelIdeal.Scan.mtn A (negT B) = negT (Cert.KernelIdeal.Scan.mtn A B) := tile_ext fun a b => by
  refine (tile_mtn_apply A (negT B) a b).trans (Eq.trans ?_ (congrArg Neg.neg (tile_mtn_apply A B a b)).symm)
  rw [← sum_neg_real _ _ fun c => (hA _).mul (hB _)]
  exact Finset.sum_congr rfl fun c _ => mul_neg _ _

/-- A product with its left factor negated, for real tiles. -/
theorem mnt_neg {A B : Tile Ideal} (hA : RealT A) (hB : RealT B) :
    Cert.KernelIdeal.Scan.mnt (negT A) B = negT (Cert.KernelIdeal.Scan.mnt A B) := tile_ext fun a b => by
  refine (tile_mnt_apply (negT A) B a b).trans (Eq.trans ?_ (congrArg Neg.neg (tile_mnt_apply A B a b)).symm)
  rw [← sum_neg_real _ _ fun c => (hA _).mul (hB _)]
  exact Finset.sum_congr rfl fun c _ => neg_mul _ _

/-- Head by head, the rows of the decay are the first row of the tile on every row. -/
theorem headOf_rows4 (A : Chunk Ideal) (h : Fin 4) :
    headOf (rows4 (egl A)) h = Cert.KernelIdeal.Scan.row0 (headOf A h) := tile_ext fun a b => by
  refine Eq.trans ?_ (row0_apply (headOf A h) a b).symm
  show rows4 (egl A) (ValueIdx.ix3 h a b) = A (ValueIdx.ix3 h 0 b)
  unfold rows4 egl
  refine (broadcastInDim_apply _ _ _ _ (ValueIdx.ix3 h (0 : Fin 1) b) fun ax => ?_).trans
    (extractStridedSlice_apply _ _ _ _ (ValueIdx.ix3 h (0 : Fin 64) b) fun ax => ?_)
  · match ax with
    | ⟨0, _⟩ => rfl
    | ⟨1, _⟩ => rfl
    | ⟨2, _⟩ => rfl
  · match ax with
    | ⟨0, _⟩ => exact (Nat.zero_add h.val).symm
    | ⟨1, _⟩ => rfl
    | ⟨2, _⟩ => exact (Nat.zero_add b.val).symm

/-- Head by head, the chunk of zeros is the tile of zeros. -/
theorem headOf_zeroChunk (h : Fin 4) (X : Chunk Ideal) (hX : ∀ y, X y = 0) : headOf (F := Ideal) X h = Cert.KernelIdeal.Scan.zeroT :=
  funext fun j => (hX _).trans (zeroT_apply j).symm

end Cert.Scan
-- ==== Proof.Scan.RefLoops.lean ====
/-
  One whole trip of each loop of the reference: what each carried buffer holds after it, and the buffers it leaves alone.
-/
module

public import proofs.«01_k».proof.Proof.Scan.RefTrip

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- The first part of a trip of the forward loop: the operands read. -/
def fwdIn : List (List (HloOp τ sig (Elt F))) := [idxOps (.of main_v17_0) (.of main_v17_6) main_while0b_call0, idxOps (.of main_v17_1) (.of main_v17_6) main_while0b_call1, idxOps (.of main_v17_2) (.of main_v17_6) main_while0b_call2, idxOps (.of main_v17_3) (.of main_v17_6) main_while0b_call3, idxOps (.of main_v17_4) (.of main_v17_6) main_while0b_call4, idxOps (.of main_v17_5) (.of main_v17_6) main_while0b_call5]

/-- The buffers it writes. -/
def fwdInWrites : List (Ref sig .tc) :=
  [main_while0b_call0_c, main_while0b_call0_c_0, main_while0b_call0_c_1, main_while0b_call0_v0, main_while0b_v43, main_while0b_call1_c, main_while0b_call1_c_0, main_while0b_call1_c_1, main_while0b_call1_v0, main_while0b_v44, main_while0b_call2_c, main_while0b_call2_c_0, main_while0b_call2_c_1, main_while0b_call2_v0, main_while0b_v45, main_while0b_call3_c, main_while0b_call3_c_0, main_while0b_call3_c_1, main_while0b_call3_v0, main_while0b_v46, main_while0b_call4_c, main_while0b_call4_c_0, main_while0b_call4_c_1, main_while0b_call4_v0, main_while0b_v47, main_while0b_call5_c, main_while0b_call5_c_0, main_while0b_call5_c_1, main_while0b_call5_v0, main_while0b_v48]

/-- It leaves every other buffer alone. -/
theorem fwdIn_ne (V : Valuation τ sig (Elt F)) (r : Ref sig .tc) (h : r ∉ fwdInWrites) :
    afterL fwdIn V (Proc.devRef .tc r) = V (Proc.devRef .tc r) := by
  have g : ∀ W : List (Ref sig .tc), W ⊆ fwdInWrites → r ∉ W := fun W hW h' => h (hW h')
  simp only [fwdIn, afterL_cons, afterL_nil]
  rw [idx_ne (.of main_v17_5) (.of main_v17_6) main_while0b_call5 _ r (g _ (by decide)), idx_ne (.of main_v17_4) (.of main_v17_6) main_while0b_call4 _ r (g _ (by decide)), idx_ne (.of main_v17_3) (.of main_v17_6) main_while0b_call3 _ r (g _ (by decide)), idx_ne (.of main_v17_2) (.of main_v17_6) main_while0b_call2 _ r (g _ (by decide)), idx_ne (.of main_v17_1) (.of main_v17_6) main_while0b_call1 _ r (g _ (by decide)), idx_ne (.of main_v17_0) (.of main_v17_6) main_while0b_call0 _ r (g _ (by decide))]

/-- The second part of a trip of the forward loop: the results computed and stored. -/
def fwdOut : List (List (HloOp τ sig (Elt F))) := [fwdA, updOps (.of main_v17_8) (.of main_while0b_v53) (.of main_v17_6) main_while0b_call6, updOps (.of main_v17_9) (.of main_v17_7) (.of main_v17_6) main_while0b_call7, updOps (.of main_v17_10) (.of main_while0b_v50) (.of main_v17_6) main_while0b_call8, updRowOps (.of main_v17_11) (.of main_while0b_v54) (.of main_v17_6) main_while0b_call9, fwdB]

/-- The buffers it writes. -/
def fwdOutWrites : List (Ref sig .tc) :=
  [main_while0b_v49, main_while0b_v50, main_while0b_v51, main_while0b_v52, main_while0b_v53, main_while0b_v54, main_while0b_v55, main_while0b_v56, main_while0b_v57, main_while0b_v58, main_while0b_call6_v0, main_while0b_call6_c, main_while0b_call6_c_0, main_while0b_call6_c_1, main_while0b_v59, main_while0b_call7_v0, main_while0b_call7_c, main_while0b_call7_c_0, main_while0b_call7_c_1, main_while0b_v60, main_while0b_call8_v0, main_while0b_call8_c, main_while0b_call8_c_0, main_while0b_call8_c_1, main_while0b_v61, main_while0b_call9_v0, main_while0b_call9_c, main_while0b_call9_c_0, main_while0b_call9_c_1, main_while0b_v62, main_while0b_c_24, main_while0b_v63, main_v17_6, main_v17_7, main_v17_8, main_v17_9, main_v17_10, main_v17_11]

/-- It leaves every other buffer alone. -/
theorem fwdOut_ne (V : Valuation τ sig (Elt F)) (r : Ref sig .tc) (h : r ∉ fwdOutWrites) :
    afterL fwdOut V (Proc.devRef .tc r) = V (Proc.devRef .tc r) := by
  have g : ∀ W : List (Ref sig .tc), W ⊆ fwdOutWrites → r ∉ W := fun W hW h' => h (hW h')
  simp only [fwdOut, afterL_cons, afterL_nil]
  rw [fwdB_ne _ r (g _ (by decide)), updRow_ne (.of main_v17_11) (.of main_while0b_v54) (.of main_v17_6) main_while0b_call9 _ r (g _ (by decide)), upd_ne (.of main_v17_10) (.of main_while0b_v50) (.of main_v17_6) main_while0b_call8 _ r (g _ (by decide)), upd_ne (.of main_v17_9) (.of main_v17_7) (.of main_v17_6) main_while0b_call7 _ r (g _ (by decide)), upd_ne (.of main_v17_8) (.of main_while0b_v53) (.of main_v17_6) main_while0b_call6 _ r (g _ (by decide)), fwdA_ne _ r (g _ (by decide))]

theorem fwdItems_split (V : Valuation τ sig (Elt F)) : afterL fwdItems V = afterL fwdOut (afterL fwdIn V) := rfl

theorem fwdIn_v43 (V : Valuation τ sig (Elt F)) : afterL fwdIn V (Proc.devRef .tc main_while0b_v43) =
    (slab (V (Proc.devRef .tc main_v17_0)) (V (Proc.devRef .tc main_v17_6))) := by
  simp only [fwdIn, afterL_cons, afterL_nil]
  rw [idx_ne (.of main_v17_5) (.of main_v17_6) main_while0b_call5 _ main_while0b_v43 (by decide), idx_ne (.of main_v17_4) (.of main_v17_6) main_while0b_call4 _ main_while0b_v43 (by decide), idx_ne (.of main_v17_3) (.of main_v17_6) main_while0b_call3 _ main_while0b_v43 (by decide), idx_ne (.of main_v17_2) (.of main_v17_6) main_while0b_call2 _ main_while0b_v43 (by decide), idx_ne (.of main_v17_1) (.of main_v17_6) main_while0b_call1 _ main_while0b_v43 (by decide), fwd_call0]

theorem fwdIn_v44 (V : Valuation τ sig (Elt F)) : afterL fwdIn V (Proc.devRef .tc main_while0b_v44) =
    (slab (V (Proc.devRef .tc main_v17_1)) (V (Proc.devRef .tc main_v17_6))) := by
  simp only [fwdIn, afterL_cons, afterL_nil]
  rw [idx_ne (.of main_v17_5) (.of main_v17_6) main_while0b_call5 _ main_while0b_v44 (by decide), idx_ne (.of main_v17_4) (.of main_v17_6) main_while0b_call4 _ main_while0b_v44 (by decide), idx_ne (.of main_v17_3) (.of main_v17_6) main_while0b_call3 _ main_while0b_v44 (by decide), idx_ne (.of main_v17_2) (.of main_v17_6) main_while0b_call2 _ main_while0b_v44 (by decide), fwd_call1, idx_ne (.of main_v17_0) (.of main_v17_6) main_while0b_call0 _ main_v17_1 (by decide), idx_ne (.of main_v17_0) (.of main_v17_6) main_while0b_call0 _ main_v17_6 (by decide)]

theorem fwdIn_v45 (V : Valuation τ sig (Elt F)) : afterL fwdIn V (Proc.devRef .tc main_while0b_v45) =
    (slab (V (Proc.devRef .tc main_v17_2)) (V (Proc.devRef .tc main_v17_6))) := by
  simp only [fwdIn, afterL_cons, afterL_nil]
  rw [idx_ne (.of main_v17_5) (.of main_v17_6) main_while0b_call5 _ main_while0b_v45 (by decide), idx_ne (.of main_v17_4) (.of main_v17_6) main_while0b_call4 _ main_while0b_v45 (by decide), idx_ne (.of main_v17_3) (.of main_v17_6) main_while0b_call3 _ main_while0b_v45 (by decide), fwd_call2, idx_ne (.of main_v17_1) (.of main_v17_6) main_while0b_call1 _ main_v17_2 (by decide), idx_ne (.of main_v17_1) (.of main_v17_6) main_while0b_call1 _ main_v17_6 (by decide), idx_ne (.of main_v17_0) (.of main_v17_6) main_while0b_call0 _ main_v17_2 (by decide), idx_ne (.of main_v17_0) (.of main_v17_6) main_while0b_call0 _ main_v17_6 (by decide)]

theorem fwdIn_v46 (V : Valuation τ sig (Elt F)) : afterL fwdIn V (Proc.devRef .tc main_while0b_v46) =
    (slab (V (Proc.devRef .tc main_v17_3)) (V (Proc.devRef .tc main_v17_6))) := by
  simp only [fwdIn, afterL_cons, afterL_nil]
  rw [idx_ne (.of main_v17_5) (.of main_v17_6) main_while0b_call5 _ main_while0b_v46 (by decide), idx_ne (.of main_v17_4) (.of main_v17_6) main_while0b_call4 _ main_while0b_v46 (by decide), fwd_call3, idx_ne (.of main_v17_2) (.of main_v17_6) main_while0b_call2 _ main_v17_3 (by decide), idx_ne (.of main_v17_2) (.of main_v17_6) main_while0b_call2 _ main_v17_6 (by decide), idx_ne (.of main_v17_1) (.of main_v17_6) main_while0b_call1 _ main_v17_3 (by decide), idx_ne (.of main_v17_1) (.of main_v17_6) main_while0b_call1 _ main_v17_6 (by decide), idx_ne (.of main_v17_0) (.of main_v17_6) main_while0b_call0 _ main_v17_3 (by decide), idx_ne (.of main_v17_0) (.of main_v17_6) main_while0b_call0 _ main_v17_6 (by decide)]

theorem fwdIn_v47 (V : Valuation τ sig (Elt F)) : afterL fwdIn V (Proc.devRef .tc main_while0b_v47) =
    (slab (V (Proc.devRef .tc main_v17_4)) (V (Proc.devRef .tc main_v17_6))) := by
  simp only [fwdIn, afterL_cons, afterL_nil]
  rw [idx_ne (.of main_v17_5) (.of main_v17_6) main_while0b_call5 _ main_while0b_v47 (by decide), fwd_call4, idx_ne (.of main_v17_3) (.of main_v17_6) main_while0b_call3 _ main_v17_4 (by decide), idx_ne (.of main_v17_3) (.of main_v17_6) main_while0b_call3 _ main_v17_6 (by decide), idx_ne (.of main_v17_2) (.of main_v17_6) main_while0b_call2 _ main_v17_4 (by decide), idx_ne (.of main_v17_2) (.of main_v17_6) main_while0b_call2 _ main_v17_6 (by decide), idx_ne (.of main_v17_1) (.of main_v17_6) main_while0b_call1 _ main_v17_4 (by decide), idx_ne (.of main_v17_1) (.of main_v17_6) main_while0b_call1 _ main_v17_6 (by decide), idx_ne (.of main_v17_0) (.of main_v17_6) main_while0b_call0 _ main_v17_4 (by decide), idx_ne (.of main_v17_0) (.of main_v17_6) main_while0b_call0 _ main_v17_6 (by decide)]

theorem fwdIn_v48 (V : Valuation τ sig (Elt F)) : afterL fwdIn V (Proc.devRef .tc main_while0b_v48) =
    (slab (V (Proc.devRef .tc main_v17_5)) (V (Proc.devRef .tc main_v17_6))) := by
  simp only [fwdIn, afterL_cons, afterL_nil]
  rw [fwd_call5, idx_ne (.of main_v17_4) (.of main_v17_6) main_while0b_call4 _ main_v17_5 (by decide), idx_ne (.of main_v17_4) (.of main_v17_6) main_while0b_call4 _ main_v17_6 (by decide), idx_ne (.of main_v17_3) (.of main_v17_6) main_while0b_call3 _ main_v17_5 (by decide), idx_ne (.of main_v17_3) (.of main_v17_6) main_while0b_call3 _ main_v17_6 (by decide), idx_ne (.of main_v17_2) (.of main_v17_6) main_while0b_call2 _ main_v17_5 (by decide), idx_ne (.of main_v17_2) (.of main_v17_6) main_while0b_call2 _ main_v17_6 (by decide), idx_ne (.of main_v17_1) (.of main_v17_6) main_while0b_call1 _ main_v17_5 (by decide), idx_ne (.of main_v17_1) (.of main_v17_6) main_while0b_call1 _ main_v17_6 (by decide), idx_ne (.of main_v17_0) (.of main_v17_6) main_while0b_call0 _ main_v17_5 (by decide), idx_ne (.of main_v17_0) (.of main_v17_6) main_while0b_call0 _ main_v17_6 (by decide)]

theorem fwdOut_v17_6 (V : Valuation τ sig (Elt F)) : afterL fwdOut V (Proc.devRef .tc main_v17_6) =
    (addi (V (Proc.devRef .tc main_v17_6)) (constantI S_ 32 1#32)) := by
  simp only [fwdOut, afterL_cons, afterL_nil]
  rw [fwdB_v17_6, updRow_ne (.of main_v17_11) (.of main_while0b_v54) (.of main_v17_6) main_while0b_call9 _ main_v17_6 (by decide), upd_ne (.of main_v17_10) (.of main_while0b_v50) (.of main_v17_6) main_while0b_call8 _ main_v17_6 (by decide), upd_ne (.of main_v17_9) (.of main_v17_7) (.of main_v17_6) main_while0b_call7 _ main_v17_6 (by decide), upd_ne (.of main_v17_8) (.of main_while0b_v53) (.of main_v17_6) main_while0b_call6 _ main_v17_6 (by decide), fwdA_ne _ main_v17_6 (by decide)]

theorem fwdItems_v17_6 (V : Valuation τ sig (Elt F)) : afterL fwdItems V (Proc.devRef .tc main_v17_6) =
    (addi (V (Proc.devRef .tc main_v17_6)) (constantI S_ 32 1#32)) := by
  rw [fwdItems_split, fwdOut_v17_6, fwdIn_ne _ main_v17_6 (by decide)]

theorem fwdOut_v17_7 (V : Valuation τ sig (Elt F)) : afterL fwdOut V (Proc.devRef .tc main_v17_7) =
    ((rNext (V (Proc.devRef .tc main_while0b_v44)) (V (Proc.devRef .tc main_while0b_v48)) (rV (V (Proc.devRef .tc main_while0b_v45)) (V (Proc.devRef .tc main_while0b_v46)) (V (Proc.devRef .tc main_v17_7))) (V (Proc.devRef .tc main_v17_7)))) := by
  simp only [fwdOut, afterL_cons, afterL_nil]
  rw [fwdB_v17_7, updRow_ne (.of main_v17_11) (.of main_while0b_v54) (.of main_v17_6) main_while0b_call9 _ main_while0b_v58 (by decide), upd_ne (.of main_v17_10) (.of main_while0b_v50) (.of main_v17_6) main_while0b_call8 _ main_while0b_v58 (by decide), upd_ne (.of main_v17_9) (.of main_v17_7) (.of main_v17_6) main_while0b_call7 _ main_while0b_v58 (by decide), upd_ne (.of main_v17_8) (.of main_while0b_v53) (.of main_v17_6) main_while0b_call6 _ main_while0b_v58 (by decide), fwdA_while0b_v58]

theorem fwdItems_v17_7 (V : Valuation τ sig (Elt F)) : afterL fwdItems V (Proc.devRef .tc main_v17_7) =
    ((rNext ((slab (V (Proc.devRef .tc main_v17_1)) (V (Proc.devRef .tc main_v17_6)))) ((slab (V (Proc.devRef .tc main_v17_5)) (V (Proc.devRef .tc main_v17_6)))) (rV ((slab (V (Proc.devRef .tc main_v17_2)) (V (Proc.devRef .tc main_v17_6)))) ((slab (V (Proc.devRef .tc main_v17_3)) (V (Proc.devRef .tc main_v17_6)))) (V (Proc.devRef .tc main_v17_7))) (V (Proc.devRef .tc main_v17_7)))) := by
  rw [fwdItems_split, fwdOut_v17_7, fwdIn_v44, fwdIn_v48, fwdIn_v45, fwdIn_v46, fwdIn_ne _ main_v17_7 (by decide)]

theorem fwdOut_v17_8 (V : Valuation τ sig (Elt F)) : afterL fwdOut V (Proc.devRef .tc main_v17_8) =
    ((put (V (Proc.devRef .tc main_v17_8)) (rO (V (Proc.devRef .tc main_while0b_v43)) (V (Proc.devRef .tc main_while0b_v47)) (rV (V (Proc.devRef .tc main_while0b_v45)) (V (Proc.devRef .tc main_while0b_v46)) (V (Proc.devRef .tc main_v17_7))) (V (Proc.devRef .tc main_v17_7))) (V (Proc.devRef .tc main_v17_6)))) := by
  simp only [fwdOut, afterL_cons, afterL_nil]
  rw [fwdB_v17_8, updRow_ne (.of main_v17_11) (.of main_while0b_v54) (.of main_v17_6) main_while0b_call9 _ main_while0b_v59 (by decide), upd_ne (.of main_v17_10) (.of main_while0b_v50) (.of main_v17_6) main_while0b_call8 _ main_while0b_v59 (by decide), upd_ne (.of main_v17_9) (.of main_v17_7) (.of main_v17_6) main_while0b_call7 _ main_while0b_v59 (by decide), fwd_call6, fwdA_ne _ main_v17_8 (by decide), fwdA_while0b_v53, fwdA_ne _ main_v17_6 (by decide)]

theorem fwdItems_v17_8 (V : Valuation τ sig (Elt F)) : afterL fwdItems V (Proc.devRef .tc main_v17_8) =
    ((put (V (Proc.devRef .tc main_v17_8)) (rO ((slab (V (Proc.devRef .tc main_v17_0)) (V (Proc.devRef .tc main_v17_6)))) ((slab (V (Proc.devRef .tc main_v17_4)) (V (Proc.devRef .tc main_v17_6)))) (rV ((slab (V (Proc.devRef .tc main_v17_2)) (V (Proc.devRef .tc main_v17_6)))) ((slab (V (Proc.devRef .tc main_v17_3)) (V (Proc.devRef .tc main_v17_6)))) (V (Proc.devRef .tc main_v17_7))) (V (Proc.devRef .tc main_v17_7))) (V (Proc.devRef .tc main_v17_6)))) := by
  rw [fwdItems_split, fwdOut_v17_8, fwdIn_ne _ main_v17_8 (by decide), fwdIn_v43, fwdIn_v47, fwdIn_v45, fwdIn_v46, fwdIn_ne _ main_v17_7 (by decide), fwdIn_ne _ main_v17_6 (by decide)]

theorem fwdOut_v17_9 (V : Valuation τ sig (Elt F)) : afterL fwdOut V (Proc.devRef .tc main_v17_9) =
    ((put (V (Proc.devRef .tc main_v17_9)) (V (Proc.devRef .tc main_v17_7)) (V (Proc.devRef .tc main_v17_6)))) := by
  simp only [fwdOut, afterL_cons, afterL_nil]
  rw [fwdB_v17_9, updRow_ne (.of main_v17_11) (.of main_while0b_v54) (.of main_v17_6) main_while0b_call9 _ main_while0b_v60 (by decide), upd_ne (.of main_v17_10) (.of main_while0b_v50) (.of main_v17_6) main_while0b_call8 _ main_while0b_v60 (by decide), fwd_call7, upd_ne (.of main_v17_8) (.of main_while0b_v53) (.of main_v17_6) main_while0b_call6 _ main_v17_9 (by decide), upd_ne (.of main_v17_8) (.of main_while0b_v53) (.of main_v17_6) main_while0b_call6 _ main_v17_7 (by decide), upd_ne (.of main_v17_8) (.of main_while0b_v53) (.of main_v17_6) main_while0b_call6 _ main_v17_6 (by decide), fwdA_ne _ main_v17_9 (by decide), fwdA_ne _ main_v17_7 (by decide), fwdA_ne _ main_v17_6 (by decide)]

theorem fwdItems_v17_9 (V : Valuation τ sig (Elt F)) : afterL fwdItems V (Proc.devRef .tc main_v17_9) =
    ((put (V (Proc.devRef .tc main_v17_9)) (V (Proc.devRef .tc main_v17_7)) (V (Proc.devRef .tc main_v17_6)))) := by
  rw [fwdItems_split, fwdOut_v17_9, fwdIn_ne _ main_v17_9 (by decide), fwdIn_ne _ main_v17_7 (by decide), fwdIn_ne _ main_v17_6 (by decide)]

theorem fwdOut_v17_10 (V : Valuation τ sig (Elt F)) : afterL fwdOut V (Proc.devRef .tc main_v17_10) =
    ((put (V (Proc.devRef .tc main_v17_10)) (rV (V (Proc.devRef .tc main_while0b_v45)) (V (Proc.devRef .tc main_while0b_v46)) (V (Proc.devRef .tc main_v17_7))) (V (Proc.devRef .tc main_v17_6)))) := by
  simp only [fwdOut, afterL_cons, afterL_nil]
  rw [fwdB_v17_10, updRow_ne (.of main_v17_11) (.of main_while0b_v54) (.of main_v17_6) main_while0b_call9 _ main_while0b_v61 (by decide), fwd_call8, upd_ne (.of main_v17_9) (.of main_v17_7) (.of main_v17_6) main_while0b_call7 _ main_v17_10 (by decide), upd_ne (.of main_v17_9) (.of main_v17_7) (.of main_v17_6) main_while0b_call7 _ main_while0b_v50 (by decide), upd_ne (.of main_v17_9) (.of main_v17_7) (.of main_v17_6) main_while0b_call7 _ main_v17_6 (by decide), upd_ne (.of main_v17_8) (.of main_while0b_v53) (.of main_v17_6) main_while0b_call6 _ main_v17_10 (by decide), upd_ne (.of main_v17_8) (.of main_while0b_v53) (.of main_v17_6) main_while0b_call6 _ main_while0b_v50 (by decide), upd_ne (.of main_v17_8) (.of main_while0b_v53) (.of main_v17_6) main_while0b_call6 _ main_v17_6 (by decide), fwdA_ne _ main_v17_10 (by decide), fwdA_while0b_v50, fwdA_ne _ main_v17_6 (by decide)]

theorem fwdItems_v17_10 (V : Valuation τ sig (Elt F)) : afterL fwdItems V (Proc.devRef .tc main_v17_10) =
    ((put (V (Proc.devRef .tc main_v17_10)) (rV ((slab (V (Proc.devRef .tc main_v17_2)) (V (Proc.devRef .tc main_v17_6)))) ((slab (V (Proc.devRef .tc main_v17_3)) (V (Proc.devRef .tc main_v17_6)))) (V (Proc.devRef .tc main_v17_7))) (V (Proc.devRef .tc main_v17_6)))) := by
  rw [fwdItems_split, fwdOut_v17_10, fwdIn_ne _ main_v17_10 (by decide), fwdIn_v45, fwdIn_v46, fwdIn_ne _ main_v17_7 (by decide), fwdIn_ne _ main_v17_6 (by decide)]

theorem fwdOut_v17_11 (V : Valuation τ sig (Elt F)) : afterL fwdOut V (Proc.devRef .tc main_v17_11) =
    ((putRow (V (Proc.devRef .tc main_v17_11)) (egl (V (Proc.devRef .tc main_while0b_v48))) (V (Proc.devRef .tc main_v17_6)))) := by
  simp only [fwdOut, afterL_cons, afterL_nil]
  rw [fwdB_v17_11, fwd_call9, upd_ne (.of main_v17_10) (.of main_while0b_v50) (.of main_v17_6) main_while0b_call8 _ main_v17_11 (by decide), upd_ne (.of main_v17_10) (.of main_while0b_v50) (.of main_v17_6) main_while0b_call8 _ main_while0b_v54 (by decide), upd_ne (.of main_v17_10) (.of main_while0b_v50) (.of main_v17_6) main_while0b_call8 _ main_v17_6 (by decide), upd_ne (.of main_v17_9) (.of main_v17_7) (.of main_v17_6) main_while0b_call7 _ main_v17_11 (by decide), upd_ne (.of main_v17_9) (.of main_v17_7) (.of main_v17_6) main_while0b_call7 _ main_while0b_v54 (by decide), upd_ne (.of main_v17_9) (.of main_v17_7) (.of main_v17_6) main_while0b_call7 _ main_v17_6 (by decide), upd_ne (.of main_v17_8) (.of main_while0b_v53) (.of main_v17_6) main_while0b_call6 _ main_v17_11 (by decide), upd_ne (.of main_v17_8) (.of main_while0b_v53) (.of main_v17_6) main_while0b_call6 _ main_while0b_v54 (by decide), upd_ne (.of main_v17_8) (.of main_while0b_v53) (.of main_v17_6) main_while0b_call6 _ main_v17_6 (by decide), fwdA_ne _ main_v17_11 (by decide), fwdA_while0b_v54, fwdA_ne _ main_v17_6 (by decide)]

theorem fwdItems_v17_11 (V : Valuation τ sig (Elt F)) : afterL fwdItems V (Proc.devRef .tc main_v17_11) =
    ((putRow (V (Proc.devRef .tc main_v17_11)) (egl ((slab (V (Proc.devRef .tc main_v17_5)) (V (Proc.devRef .tc main_v17_6))))) (V (Proc.devRef .tc main_v17_6)))) := by
  rw [fwdItems_split, fwdOut_v17_11, fwdIn_ne _ main_v17_11 (by decide), fwdIn_v48, fwdIn_ne _ main_v17_6 (by decide)]

/-- A trip of the forward loop leaves every buffer but those it writes alone. -/
theorem fwdItems_ne (V : Valuation τ sig (Elt F)) (r : Ref sig .tc) (h : r ∉ fwdInWrites) (h' : r ∉ fwdOutWrites) :
    afterL fwdItems V (Proc.devRef .tc r) = V (Proc.devRef .tc r) := by
  rw [fwdItems_split, fwdOut_ne _ r h', fwdIn_ne _ r h]

/-- The first part of a trip of the backward loop: the operands read. -/
def bwdIn : List (List (HloOp τ sig (Elt F))) := [bwdA, idxOps (.of main_v30_0) (.of main_while1b_v44) main_while1b_call10, idxOps (.of main_v30_1) (.of main_while1b_v44) main_while1b_call11, idxOps (.of main_v30_2) (.of main_while1b_v44) main_while1b_call12, idxOps (.of main_v30_3) (.of main_while1b_v44) main_while1b_call13, idxOps (.of main_v30_4) (.of main_while1b_v44) main_while1b_call14, idxOps (.of main_v30_5) (.of main_while1b_v44) main_while1b_call15, idxRowOps (.of main_v30_6) (.of main_while1b_v44) main_while1b_call16, idxOps (.of main_v30_7) (.of main_while1b_v44) main_while1b_call17]

/-- The buffers it writes. -/
def bwdInWrites : List (Ref sig .tc) :=
  [main_while1b_c_28, main_while1b_v43, main_while1b_c_29, main_while1b_v44, main_while1b_call10_c, main_while1b_call10_c_0, main_while1b_call10_c_1, main_while1b_call10_v0, main_while1b_v45, main_while1b_call11_c, main_while1b_call11_c_0, main_while1b_call11_c_1, main_while1b_call11_v0, main_while1b_v46, main_while1b_call12_c, main_while1b_call12_c_0, main_while1b_call12_c_1, main_while1b_call12_v0, main_while1b_v47, main_while1b_call13_c, main_while1b_call13_c_0, main_while1b_call13_c_1, main_while1b_call13_v0, main_while1b_v48, main_while1b_call14_c, main_while1b_call14_c_0, main_while1b_call14_c_1, main_while1b_call14_v0, main_while1b_v49, main_while1b_call15_c, main_while1b_call15_c_0, main_while1b_call15_c_1, main_while1b_call15_v0, main_while1b_v50, main_while1b_call16_c, main_while1b_call16_c_0, main_while1b_call16_c_1, main_while1b_call16_v0, main_while1b_v51, main_while1b_call17_c, main_while1b_call17_c_0, main_while1b_call17_c_1, main_while1b_call17_v0, main_while1b_v52]

/-- It leaves every other buffer alone. -/
theorem bwdIn_ne (V : Valuation τ sig (Elt F)) (r : Ref sig .tc) (h : r ∉ bwdInWrites) :
    afterL bwdIn V (Proc.devRef .tc r) = V (Proc.devRef .tc r) := by
  have g : ∀ W : List (Ref sig .tc), W ⊆ bwdInWrites → r ∉ W := fun W hW h' => h (hW h')
  simp only [bwdIn, afterL_cons, afterL_nil]
  rw [idx_ne (.of main_v30_7) (.of main_while1b_v44) main_while1b_call17 _ r (g _ (by decide)), idxRow_ne (.of main_v30_6) (.of main_while1b_v44) main_while1b_call16 _ r (g _ (by decide)), idx_ne (.of main_v30_5) (.of main_while1b_v44) main_while1b_call15 _ r (g _ (by decide)), idx_ne (.of main_v30_4) (.of main_while1b_v44) main_while1b_call14 _ r (g _ (by decide)), idx_ne (.of main_v30_3) (.of main_while1b_v44) main_while1b_call13 _ r (g _ (by decide)), idx_ne (.of main_v30_2) (.of main_while1b_v44) main_while1b_call12 _ r (g _ (by decide)), idx_ne (.of main_v30_1) (.of main_while1b_v44) main_while1b_call11 _ r (g _ (by decide)), idx_ne (.of main_v30_0) (.of main_while1b_v44) main_while1b_call10 _ r (g _ (by decide)), bwdA_ne _ r (g _ (by decide))]

/-- The second part of a trip of the backward loop: the results computed and stored. -/
def bwdOut : List (List (HloOp τ sig (Elt F))) := [bwdB, updOps (.of main_v30_10) (.of main_while1b_v70) (.of main_while1b_v44) main_while1b_call18, updOps (.of main_v30_11) (.of main_while1b_v56) (.of main_while1b_v44) main_while1b_call19, updOps (.of main_v30_12) (.of main_while1b_v65) (.of main_while1b_v44) main_while1b_call20, updOps (.of main_v30_13) (.of main_while1b_v75) (.of main_while1b_v44) main_while1b_call21, updOps (.of main_v30_14) (.of main_while1b_v66) (.of main_while1b_v44) main_while1b_call22, updOps (.of main_v30_15) (.of main_while1b_v62) (.of main_while1b_v44) main_while1b_call23, bwdC]

/-- The buffers it writes. -/
def bwdOutWrites : List (Ref sig .tc) :=
  [main_while1b_v53, main_while1b_v54, main_while1b_v55, main_while1b_v56, main_while1b_v57, main_while1b_cst_30, main_while1b_v58, main_while1b_v59, main_while1b_v60, main_while1b_v61, main_while1b_cst_31, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75, main_while1b_call18_v0, main_while1b_call18_c, main_while1b_call18_c_0, main_while1b_call18_c_1, main_while1b_v76, main_while1b_call19_v0, main_while1b_call19_c, main_while1b_call19_c_0, main_while1b_call19_c_1, main_while1b_v77, main_while1b_call20_v0, main_while1b_call20_c, main_while1b_call20_c_0, main_while1b_call20_c_1, main_while1b_v78, main_while1b_call21_v0, main_while1b_call21_c, main_while1b_call21_c_0, main_while1b_call21_c_1, main_while1b_v79, main_while1b_call22_v0, main_while1b_call22_c, main_while1b_call22_c_0, main_while1b_call22_c_1, main_while1b_v80, main_while1b_call23_v0, main_while1b_call23_c, main_while1b_call23_c_0, main_while1b_call23_c_1, main_while1b_v81, main_while1b_c_32, main_while1b_v82, main_v30_8, main_v30_9, main_v30_10, main_v30_11, main_v30_12, main_v30_13, main_v30_14, main_v30_15]

/-- It leaves every other buffer alone. -/
theorem bwdOut_ne (V : Valuation τ sig (Elt F)) (r : Ref sig .tc) (h : r ∉ bwdOutWrites) :
    afterL bwdOut V (Proc.devRef .tc r) = V (Proc.devRef .tc r) := by
  have g : ∀ W : List (Ref sig .tc), W ⊆ bwdOutWrites → r ∉ W := fun W hW h' => h (hW h')
  simp only [bwdOut, afterL_cons, afterL_nil]
  rw [bwdC_ne _ r (g _ (by decide)), upd_ne (.of main_v30_15) (.of main_while1b_v62) (.of main_while1b_v44) main_while1b_call23 _ r (g _ (by decide)), upd_ne (.of main_v30_14) (.of main_while1b_v66) (.of main_while1b_v44) main_while1b_call22 _ r (g _ (by decide)), upd_ne (.of main_v30_13) (.of main_while1b_v75) (.of main_while1b_v44) main_while1b_call21 _ r (g _ (by decide)), upd_ne (.of main_v30_12) (.of main_while1b_v65) (.of main_while1b_v44) main_while1b_call20 _ r (g _ (by decide)), upd_ne (.of main_v30_11) (.of main_while1b_v56) (.of main_while1b_v44) main_while1b_call19 _ r (g _ (by decide)), upd_ne (.of main_v30_10) (.of main_while1b_v70) (.of main_while1b_v44) main_while1b_call18 _ r (g _ (by decide)), bwdB_ne _ r (g _ (by decide))]

theorem bwdItems_split (V : Valuation τ sig (Elt F)) : afterL bwdItems V = afterL bwdOut (afterL bwdIn V) := rfl

theorem bwdIn_v44 (V : Valuation τ sig (Elt F)) : afterL bwdIn V (Proc.devRef .tc main_while1b_v44) =
    (subi (subi (constantI S_ 32 260#32) (V (Proc.devRef .tc main_v30_8))) (constantI S_ 32 1#32)) := by
  simp only [bwdIn, afterL_cons, afterL_nil]
  rw [idx_ne (.of main_v30_7) (.of main_while1b_v44) main_while1b_call17 _ main_while1b_v44 (by decide), idxRow_ne (.of main_v30_6) (.of main_while1b_v44) main_while1b_call16 _ main_while1b_v44 (by decide), idx_ne (.of main_v30_5) (.of main_while1b_v44) main_while1b_call15 _ main_while1b_v44 (by decide), idx_ne (.of main_v30_4) (.of main_while1b_v44) main_while1b_call14 _ main_while1b_v44 (by decide), idx_ne (.of main_v30_3) (.of main_while1b_v44) main_while1b_call13 _ main_while1b_v44 (by decide), idx_ne (.of main_v30_2) (.of main_while1b_v44) main_while1b_call12 _ main_while1b_v44 (by decide), idx_ne (.of main_v30_1) (.of main_while1b_v44) main_while1b_call11 _ main_while1b_v44 (by decide), idx_ne (.of main_v30_0) (.of main_while1b_v44) main_while1b_call10 _ main_while1b_v44 (by decide), bwdA_while1b_v44]

theorem bwdIn_v45 (V : Valuation τ sig (Elt F)) : afterL bwdIn V (Proc.devRef .tc main_while1b_v45) =
    (slab (V (Proc.devRef .tc main_v30_0)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v45 (by decide), idxRow_ne (.of main_v30_6) (.of main_while1b_v44) main_while1b_call16 _ main_while1b_v45 (by decide), idx_ne (.of main_v30_5) (.of main_while1b_v44) main_while1b_call15 _ main_while1b_v45 (by decide), idx_ne (.of main_v30_4) (.of main_while1b_v44) main_while1b_call14 _ main_while1b_v45 (by decide), idx_ne (.of main_v30_3) (.of main_while1b_v44) main_while1b_call13 _ main_while1b_v45 (by decide), idx_ne (.of main_v30_2) (.of main_while1b_v44) main_while1b_call12 _ main_while1b_v45 (by decide), idx_ne (.of main_v30_1) (.of main_while1b_v44) main_while1b_call11 _ main_while1b_v45 (by decide), bwd_call10, bwdA_ne _ main_v30_0 (by decide), bwdA_while1b_v44]

theorem bwdIn_v46 (V : Valuation τ sig (Elt F)) : afterL bwdIn V (Proc.devRef .tc main_while1b_v46) =
    (slab (V (Proc.devRef .tc main_v30_1)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v46 (by decide), idxRow_ne (.of main_v30_6) (.of main_while1b_v44) main_while1b_call16 _ main_while1b_v46 (by decide), idx_ne (.of main_v30_5) (.of main_while1b_v44) main_while1b_call15 _ main_while1b_v46 (by decide), idx_ne (.of main_v30_4) (.of main_while1b_v44) main_while1b_call14 _ main_while1b_v46 (by decide), idx_ne (.of main_v30_3) (.of main_while1b_v44) main_while1b_call13 _ main_while1b_v46 (by decide), idx_ne (.of main_v30_2) (.of main_while1b_v44) main_while1b_call12 _ main_while1b_v46 (by decide), bwd_call11, idx_ne (.of main_v30_0) (.of main_while1b_v44) main_while1b_call10 _ main_v30_1 (by decide), idx_ne (.of main_v30_0) (.of main_while1b_v44) main_while1b_call10 _ main_while1b_v44 (by decide), bwdA_ne _ main_v30_1 (by decide), bwdA_while1b_v44]

theorem bwdIn_v47 (V : Valuation τ sig (Elt F)) : afterL bwdIn V (Proc.devRef .tc main_while1b_v47) =
    (slab (V (Proc.devRef .tc main_v30_2)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v47 (by decide), idxRow_ne (.of main_v30_6) (.of main_while1b_v44) main_while1b_call16 _ main_while1b_v47 (by decide), idx_ne (.of main_v30_5) (.of main_while1b_v44) main_while1b_call15 _ main_while1b_v47 (by decide), idx_ne (.of main_v30_4) (.of main_while1b_v44) main_while1b_call14 _ main_while1b_v47 (by decide), idx_ne (.of main_v30_3) (.of main_while1b_v44) main_while1b_call13 _ main_while1b_v47 (by decide), bwd_call12, idx_ne (.of main_v30_1) (.of main_while1b_v44) main_while1b_call11 _ main_v30_2 (by decide), idx_ne (.of main_v30_1) (.of main_while1b_v44) main_while1b_call11 _ main_while1b_v44 (by decide), idx_ne (.of main_v30_0) (.of main_while1b_v44) main_while1b_call10 _ main_v30_2 (by decide), idx_ne (.of main_v30_0) (.of main_while1b_v44) main_while1b_call10 _ main_while1b_v44 (by decide), bwdA_ne _ main_v30_2 (by decide), bwdA_while1b_v44]

theorem bwdIn_v48 (V : Valuation τ sig (Elt F)) : afterL bwdIn V (Proc.devRef .tc main_while1b_v48) =
    (slab (V (Proc.devRef .tc main_v30_3)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v48 (by decide), idxRow_ne (.of main_v30_6) (.of main_while1b_v44) main_while1b_call16 _ main_while1b_v48 (by decide), idx_ne (.of main_v30_5) (.of main_while1b_v44) main_while1b_call15 _ main_while1b_v48 (by decide), idx_ne (.of main_v30_4) (.of main_while1b_v44) main_while1b_call14 _ main_while1b_v48 (by decide), bwd_call13, idx_ne (.of main_v30_2) (.of main_while1b_v44) main_while1b_call12 _ main_v30_3 (by decide), idx_ne (.of main_v30_2) (.of main_while1b_v44) main_while1b_call12 _ main_while1b_v44 (by decide), idx_ne (.of main_v30_1) (.of main_while1b_v44) main_while1b_call11 _ main_v30_3 (by decide), idx_ne (.of main_v30_1) (.of main_while1b_v44) main_while1b_call11 _ main_while1b_v44 (by decide), idx_ne (.of main_v30_0) (.of main_while1b_v44) main_while1b_call10 _ main_v30_3 (by decide), idx_ne (.of main_v30_0) (.of main_while1b_v44) main_while1b_call10 _ main_while1b_v44 (by decide), bwdA_ne _ main_v30_3 (by decide), bwdA_while1b_v44]

theorem bwdIn_v49 (V : Valuation τ sig (Elt F)) : afterL bwdIn V (Proc.devRef .tc main_while1b_v49) =
    (slab (V (Proc.devRef .tc main_v30_4)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v49 (by decide), idxRow_ne (.of main_v30_6) (.of main_while1b_v44) main_while1b_call16 _ main_while1b_v49 (by decide), idx_ne (.of main_v30_5) (.of main_while1b_v44) main_while1b_call15 _ main_while1b_v49 (by decide), bwd_call14, idx_ne (.of main_v30_3) (.of main_while1b_v44) main_while1b_call13 _ main_v30_4 (by decide), idx_ne (.of main_v30_3) (.of main_while1b_v44) main_while1b_call13 _ main_while1b_v44 (by decide), idx_ne (.of main_v30_2) (.of main_while1b_v44) main_while1b_call12 _ main_v30_4 (by decide), idx_ne (.of main_v30_2) (.of main_while1b_v44) main_while1b_call12 _ main_while1b_v44 (by decide), idx_ne (.of main_v30_1) (.of main_while1b_v44) main_while1b_call11 _ main_v30_4 (by decide), idx_ne (.of main_v30_1) (.of main_while1b_v44) main_while1b_call11 _ main_while1b_v44 (by decide), idx_ne (.of main_v30_0) (.of main_while1b_v44) main_while1b_call10 _ main_v30_4 (by decide), idx_ne (.of main_v30_0) (.of main_while1b_v44) main_while1b_call10 _ main_while1b_v44 (by decide), bwdA_ne _ main_v30_4 (by decide), bwdA_while1b_v44]

theorem bwdIn_v50 (V : Valuation τ sig (Elt F)) : afterL bwdIn V (Proc.devRef .tc main_while1b_v50) =
    (slab (V (Proc.devRef .tc main_v30_5)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v50 (by decide), idxRow_ne (.of main_v30_6) (.of main_while1b_v44) main_while1b_call16 _ main_while1b_v50 (by decide), bwd_call15, idx_ne (.of main_v30_4) (.of main_while1b_v44) main_while1b_call14 _ main_v30_5 (by decide), idx_ne (.of main_v30_4) (.of main_while1b_v44) main_while1b_call14 _ main_while1b_v44 (by decide), idx_ne (.of main_v30_3) (.of main_while1b_v44) main_while1b_call13 _ main_v30_5 (by decide), idx_ne (.of main_v30_3) (.of main_while1b_v44) main_while1b_call13 _ main_while1b_v44 (by decide), idx_ne (.of main_v30_2) (.of main_while1b_v44) main_while1b_call12 _ main_v30_5 (by decide), idx_ne (.of main_v30_2) (.of main_while1b_v44) main_while1b_call12 _ main_while1b_v44 (by decide), idx_ne (.of main_v30_1) (.of main_while1b_v44) main_while1b_call11 _ main_v30_5 (by decide), idx_ne (.of main_v30_1) (.of main_while1b_v44) main_while1b_call11 _ main_while1b_v44 (by decide), idx_ne (.of main_v30_0) (.of main_while1b_v44) main_while1b_call10 _ main_v30_5 (by decide), idx_ne (.of main_v30_0) (.of main_while1b_v44) main_while1b_call10 _ main_while1b_v44 (by decide), bwdA_ne _ main_v30_5 (by decide), bwdA_while1b_v44]

theorem bwdIn_v51 (V : Valuation τ sig (Elt F)) : afterL bwdIn V (Proc.devRef .tc main_while1b_v51) =
    (slabRow (V (Proc.devRef .tc main_v30_6)) (subi (subi (constantI S_ 32 260#32) (V (Proc.devRef .tc main_v30_8))) (constantI S_ 32 1#32))) := by
  simp only [bwdIn, afterL_cons, afterL_nil]
  rw [idx_ne (.of main_v30_7) (.of main_while1b_v44) main_while1b_call17 _ main_while1b_v51 (by decide), bwd_call16, idx_ne (.of main_v30_5) (.of main_while1b_v44) main_while1b_call15 _ main_v30_6 (by decide), idx_ne (.of main_v30_5) (.of main_while1b_v44) main_while1b_call15 _ main_while1b_v44 (by decide), idx_ne (.of main_v30_4) (.of main_while1b_v44) main_while1b_call14 _ main_v30_6 (by decide), idx_ne (.of main_v30_4) (.of main_while1b_v44) main_while1b_call14 _ main_while1b_v44 (by decide), idx_ne (.of main_v30_3) (.of main_while1b_v44) main_while1b_call13 _ main_v30_6 (by decide), idx_ne (.of main_v30_3) (.of main_while1b_v44) main_while1b_call13 _ main_while1b_v44 (by decide), idx_ne (.of main_v30_2) (.of main_while1b_v44) main_while1b_call12 _ main_v30_6 (by decide), idx_ne (.of main_v30_2) (.of main_while1b_v44) main_while1b_call12 _ main_while1b_v44 (by decide), idx_ne (.of main_v30_1) (.of main_while1b_v44) main_while1b_call11 _ main_v30_6 (by decide), idx_ne (.of main_v30_1) (.of main_while1b_v44) main_while1b_call11 _ main_while1b_v44 (by decide), idx_ne (.of main_v30_0) (.of main_while1b_v44) main_while1b_call10 _ main_v30_6 (by decide), idx_ne (.of main_v30_0) (.of main_while1b_v44) main_while1b_call10 _ main_while1b_v44 (by decide), bwdA_ne _ main_v30_6 (by decide), bwdA_while1b_v44]

theorem bwdIn_v52 (V : Valuation τ sig (Elt F)) : afterL bwdIn V (Proc.devRef .tc main_while1b_v52) =
    (slab (V (Proc.devRef .tc main_v30_7)) (subi (subi (constantI S_ 32 260#32) (V (Proc.devRef .tc main_v30_8))) (constantI S_ 32 1#32))) := by
  simp only [bwdIn, afterL_cons, afterL_nil]
  rw [bwd_call17, idxRow_ne (.of main_v30_6) (.of main_while1b_v44) main_while1b_call16 _ main_v30_7 (by decide), idxRow_ne (.of main_v30_6) (.of main_while1b_v44) main_while1b_call16 _ main_while1b_v44 (by decide), idx_ne (.of main_v30_5) (.of main_while1b_v44) main_while1b_call15 _ main_v30_7 (by decide), idx_ne (.of main_v30_5) (.of main_while1b_v44) main_while1b_call15 _ main_while1b_v44 (by decide), idx_ne (.of main_v30_4) (.of main_while1b_v44) main_while1b_call14 _ main_v30_7 (by decide), idx_ne (.of main_v30_4) (.of main_while1b_v44) main_while1b_call14 _ main_while1b_v44 (by decide), idx_ne (.of main_v30_3) (.of main_while1b_v44) main_while1b_call13 _ main_v30_7 (by decide), idx_ne (.of main_v30_3) (.of main_while1b_v44) main_while1b_call13 _ main_while1b_v44 (by decide), idx_ne (.of main_v30_2) (.of main_while1b_v44) main_while1b_call12 _ main_v30_7 (by decide), idx_ne (.of main_v30_2) (.of main_while1b_v44) main_while1b_call12 _ main_while1b_v44 (by decide), idx_ne (.of main_v30_1) (.of main_while1b_v44) main_while1b_call11 _ main_v30_7 (by decide), idx_ne (.of main_v30_1) (.of main_while1b_v44) main_while1b_call11 _ main_while1b_v44 (by decide), idx_ne (.of main_v30_0) (.of main_while1b_v44) main_while1b_call10 _ main_v30_7 (by decide), idx_ne (.of main_v30_0) (.of main_while1b_v44) main_while1b_call10 _ main_while1b_v44 (by decide), bwdA_ne _ main_v30_7 (by decide), bwdA_while1b_v44]

theorem bwdOut_v30_8 (V : Valuation τ sig (Elt F)) : afterL bwdOut V (Proc.devRef .tc main_v30_8) =
    (addi (V (Proc.devRef .tc main_v30_8)) (constantI S_ 32 1#32)) := by
  simp only [bwdOut, afterL_cons, afterL_nil]
  rw [bwdC_v30_8, upd_ne (.of main_v30_15) (.of main_while1b_v62) (.of main_while1b_v44) main_while1b_call23 _ main_v30_8 (by decide), upd_ne (.of main_v30_14) (.of main_while1b_v66) (.of main_while1b_v44) main_while1b_call22 _ main_v30_8 (by decide), upd_ne (.of main_v30_13) (.of main_while1b_v75) (.of main_while1b_v44) main_while1b_call21 _ main_v30_8 (by decide), upd_ne (.of main_v30_12) (.of main_while1b_v65) (.of main_while1b_v44) main_while1b_call20 _ main_v30_8 (by decide), upd_ne (.of main_v30_11) (.of main_while1b_v56) (.of main_while1b_v44) main_while1b_call19 _ main_v30_8 (by decide), upd_ne (.of main_v30_10) (.of main_while1b_v70) (.of main_while1b_v44) main_while1b_call18 _ main_v30_8 (by decide), bwdB_ne _ main_v30_8 (by decide)]

theorem bwdItems_v30_8 (V : Valuation τ sig (Elt F)) : afterL bwdItems V (Proc.devRef .tc main_v30_8) =
    (addi (V (Proc.devRef .tc main_v30_8)) (constantI S_ 32 1#32)) := by
  rw [bwdItems_split, bwdOut_v30_8, bwdIn_ne _ main_v30_8 (by decide)]

theorem bwdOut_v30_9 (V : Valuation τ sig (Elt F)) : afterL bwdOut V (Proc.devRef .tc main_v30_9) =
    ((rDs (V (Proc.devRef .tc main_while1b_v48)) (V (Proc.devRef .tc main_while1b_v47)) (V (Proc.devRef .tc main_while1b_v51)) (V (Proc.devRef .tc main_while1b_v45)) (rDv (V (Proc.devRef .tc main_while1b_v52)) (V (Proc.devRef .tc main_while1b_v50)) (V (Proc.devRef .tc main_while1b_v45)) (V (Proc.devRef .tc main_v30_9))) (V (Proc.devRef .tc main_v30_9)))) := by
  simp only [bwdOut, afterL_cons, afterL_nil]
  rw [bwdC_v30_9, upd_ne (.of main_v30_15) (.of main_while1b_v62) (.of main_while1b_v44) main_while1b_call23 _ main_while1b_v74 (by decide), upd_ne (.of main_v30_14) (.of main_while1b_v66) (.of main_while1b_v44) main_while1b_call22 _ main_while1b_v74 (by decide), upd_ne (.of main_v30_13) (.of main_while1b_v75) (.of main_while1b_v44) main_while1b_call21 _ main_while1b_v74 (by decide), upd_ne (.of main_v30_12) (.of main_while1b_v65) (.of main_while1b_v44) main_while1b_call20 _ main_while1b_v74 (by decide), upd_ne (.of main_v30_11) (.of main_while1b_v56) (.of main_while1b_v44) main_while1b_call19 _ main_while1b_v74 (by decide), upd_ne (.of main_v30_10) (.of main_while1b_v70) (.of main_while1b_v44) main_while1b_call18 _ main_while1b_v74 (by decide), bwdB_while1b_v74]

theorem bwdItems_v30_9 (V : Valuation τ sig (Elt F)) : afterL bwdItems V (Proc.devRef .tc main_v30_9) =
    ((rDs ((slab (V (Proc.devRef .tc main_v30_3)) (subi (subi (constantI S_ 32 260#32) (V (Proc.devRef .tc main_v30_8))) (constantI S_ 32 1#32)))) ((slab (V (Proc.devRef .tc main_v30_2)) (subi (subi (constantI S_ 32 260#32) (V (Proc.devRef .tc main_v30_8))) (constantI S_ 32 1#32)))) ((slabRow (V (Proc.devRef .tc main_v30_6)) (subi (subi (constantI S_ 32 260#32) (V (Proc.devRef .tc main_v30_8))) (constantI S_ 32 1#32)))) ((slab (V (Proc.devRef .tc main_v30_0)) (subi (subi (constantI S_ 32 260#32) (V (Proc.devRef .tc main_v30_8))) (constantI S_ 32 1#32)))) (rDv ((slab (V (Proc.devRef .tc main_v30_7)) (subi (subi (constantI S_ 32 260#32) (V (Proc.devRef .tc main_v30_8))) (constantI S_ 32 1#32)))) ((slab (V (Proc.devRef .tc main_v30_5)) (subi (subi (constantI S_ 32 260#32) (V (Proc.devRef .tc main_v30_8))) (constantI S_ 32 1#32)))) ((slab (V (Proc.devRef .tc main_v30_0)) (subi (subi (constantI S_ 32 260#32) (V (Proc.devRef .tc main_v30_8))) (constantI S_ 32 1#32)))) (V (Proc.devRef .tc main_v30_9))) (V (Proc.devRef .tc main_v30_9)))) := by
  rw [bwdItems_split, bwdOut_v30_9, bwdIn_v48, bwdIn_v47, bwdIn_v51, bwdIn_v45, bwdIn_v52, bwdIn_v50, bwdIn_ne _ main_v30_9 (by decide)]

theorem bwdOut_v30_10 (V : Valuation τ sig (Elt F)) : afterL bwdOut V (Proc.devRef .tc main_v30_10) =
    ((put (V (Proc.devRef .tc main_v30_10)) (mnt4 (V (Proc.devRef .tc main_while1b_v45)) (V (Proc.devRef .tc main_while1b_v46))) (V (Proc.devRef .tc main_while1b_v44)))) := by
  simp only [bwdOut, afterL_cons, afterL_nil]
  rw [bwdC_v30_10, upd_ne (.of main_v30_15) (.of main_while1b_v62) (.of main_while1b_v44) main_while1b_call23 _ main_while1b_v76 (by decide), upd_ne (.of main_v30_14) (.of main_while1b_v66) (.of main_while1b_v44) main_while1b_call22 _ main_while1b_v76 (by decide), upd_ne (.of main_v30_13) (.of main_while1b_v75) (.of main_while1b_v44) main_while1b_call21 _ main_while1b_v76 (by decide), upd_ne (.of main_v30_12) (.of main_while1b_v65) (.of main_while1b_v44) main_while1b_call20 _ main_while1b_v76 (by decide), upd_ne (.of main_v30_11) (.of main_while1b_v56) (.of main_while1b_v44) main_while1b_call19 _ main_while1b_v76 (by decide), bwd_call18, bwdB_ne _ main_v30_10 (by decide), bwdB_while1b_v70, bwdB_ne _ main_while1b_v44 (by decide)]

theorem bwdItems_v30_10 (V : Valuation τ sig (Elt F)) : afterL bwdItems V (Proc.devRef .tc main_v30_10) =
    ((put (V (Proc.devRef .tc main_v30_10)) (mnt4 ((slab (V (Proc.devRef .tc main_v30_0)) (subi (subi (constantI S_ 32 260#32) (V (Proc.devRef .tc main_v30_8))) (constantI S_ 32 1#32)))) ((slab (V (Proc.devRef .tc main_v30_1)) (subi (subi (constantI S_ 32 260#32) (V (Proc.devRef .tc main_v30_8))) (constantI S_ 32 1#32))))) ((subi (subi (constantI S_ 32 260#32) (V (Proc.devRef .tc main_v30_8))) (constantI S_ 32 1#32))))) := by
  rw [bwdItems_split, bwdOut_v30_10, bwdIn_ne _ main_v30_10 (by decide), bwdIn_v45, bwdIn_v46, bwdIn_v44]

theorem bwdOut_v30_11 (V : Valuation τ sig (Elt F)) : afterL bwdOut V (Proc.devRef .tc main_v30_11) =
    ((put (V (Proc.devRef .tc main_v30_11)) (rDk (V (Proc.devRef .tc main_while1b_v49)) (V (Proc.devRef .tc main_v30_9))) (V (Proc.devRef .tc main_while1b_v44)))) := by
  simp only [bwdOut, afterL_cons, afterL_nil]
  rw [bwdC_v30_11, upd_ne (.of main_v30_15) (.of main_while1b_v62) (.of main_while1b_v44) main_while1b_call23 _ main_while1b_v77 (by decide), upd_ne (.of main_v30_14) (.of main_while1b_v66) (.of main_while1b_v44) main_while1b_call22 _ main_while1b_v77 (by decide), upd_ne (.of main_v30_13) (.of main_while1b_v75) (.of main_while1b_v44) main_while1b_call21 _ main_while1b_v77 (by decide), upd_ne (.of main_v30_12) (.of main_while1b_v65) (.of main_while1b_v44) main_while1b_call20 _ main_while1b_v77 (by decide), bwd_call19, upd_ne (.of main_v30_10) (.of main_while1b_v70) (.of main_while1b_v44) main_while1b_call18 _ main_v30_11 (by decide), upd_ne (.of main_v30_10) (.of main_while1b_v70) (.of main_while1b_v44) main_while1b_call18 _ main_while1b_v56 (by decide), upd_ne (.of main_v30_10) (.of main_while1b_v70) (.of main_while1b_v44) main_while1b_call18 _ main_while1b_v44 (by decide), bwdB_ne _ main_v30_11 (by decide), bwdB_while1b_v56, bwdB_ne _ main_while1b_v44 (by decide)]

theorem bwdItems_v30_11 (V : Valuation τ sig (Elt F)) : afterL bwdItems V (Proc.devRef .tc main_v30_11) =
    ((put (V (Proc.devRef .tc main_v30_11)) (rDk ((slab (V (Proc.devRef .tc main_v30_4)) (subi (subi (constantI S_ 32 260#32) (V (Proc.devRef .tc main_v30_8))) (constantI S_ 32 1#32)))) (V (Proc.devRef .tc main_v30_9))) ((subi (subi (constantI S_ 32 260#32) (V (Proc.devRef .tc main_v30_8))) (constantI S_ 32 1#32))))) := by
  rw [bwdItems_split, bwdOut_v30_11, bwdIn_ne _ main_v30_11 (by decide), bwdIn_v49, bwdIn_ne _ main_v30_9 (by decide), bwdIn_v44]

theorem bwdOut_v30_12 (V : Valuation τ sig (Elt F)) : afterL bwdOut V (Proc.devRef .tc main_v30_12) =
    ((put (V (Proc.devRef .tc main_v30_12)) ((rDv (V (Proc.devRef .tc main_while1b_v52)) (V (Proc.devRef .tc main_while1b_v50)) (V (Proc.devRef .tc main_while1b_v45)) (V (Proc.devRef .tc main_v30_9)))) (V (Proc.devRef .tc main_while1b_v44)))) := by
  simp only [bwdOut, afterL_cons, afterL_nil]
  rw [bwdC_v30_12, upd_ne (.of main_v30_15) (.of main_while1b_v62) (.of main_while1b_v44) main_while1b_call23 _ main_while1b_v78 (by decide), upd_ne (.of main_v30_14) (.of main_while1b_v66) (.of main_while1b_v44) main_while1b_call22 _ main_while1b_v78 (by decide), upd_ne (.of main_v30_13) (.of main_while1b_v75) (.of main_while1b_v44) main_while1b_call21 _ main_while1b_v78 (by decide), bwd_call20, upd_ne (.of main_v30_11) (.of main_while1b_v56) (.of main_while1b_v44) main_while1b_call19 _ main_v30_12 (by decide), upd_ne (.of main_v30_11) (.of main_while1b_v56) (.of main_while1b_v44) main_while1b_call19 _ main_while1b_v65 (by decide), upd_ne (.of main_v30_11) (.of main_while1b_v56) (.of main_while1b_v44) main_while1b_call19 _ main_while1b_v44 (by decide), upd_ne (.of main_v30_10) (.of main_while1b_v70) (.of main_while1b_v44) main_while1b_call18 _ main_v30_12 (by decide), upd_ne (.of main_v30_10) (.of main_while1b_v70) (.of main_while1b_v44) main_while1b_call18 _ main_while1b_v65 (by decide), upd_ne (.of main_v30_10) (.of main_while1b_v70) (.of main_while1b_v44) main_while1b_call18 _ main_while1b_v44 (by decide), bwdB_ne _ main_v30_12 (by decide), bwdB_while1b_v65, bwdB_ne _ main_while1b_v44 (by decide)]

theorem bwdItems_v30_12 (V : Valuation τ sig (Elt F)) : afterL bwdItems V (Proc.devRef .tc main_v30_12) =
    ((put (V (Proc.devRef .tc main_v30_12)) ((rDv ((slab (V (Proc.devRef .tc main_v30_7)) (subi (subi (constantI S_ 32 260#32) (V (Proc.devRef .tc main_v30_8))) (constantI S_ 32 1#32)))) ((slab (V (Proc.devRef .tc main_v30_5)) (subi (subi (constantI S_ 32 260#32) (V (Proc.devRef .tc main_v30_8))) (constantI S_ 32 1#32)))) ((slab (V (Proc.devRef .tc main_v30_0)) (subi (subi (constantI S_ 32 260#32) (V (Proc.devRef .tc main_v30_8))) (constantI S_ 32 1#32)))) (V (Proc.devRef .tc main_v30_9)))) ((subi (subi (constantI S_ 32 260#32) (V (Proc.devRef .tc main_v30_8))) (constantI S_ 32 1#32))))) := by
  rw [bwdItems_split, bwdOut_v30_12, bwdIn_ne _ main_v30_12 (by decide), bwdIn_v52, bwdIn_v50, bwdIn_v45, bwdIn_ne _ main_v30_9 (by decide), bwdIn_v44]

theorem bwdOut_v30_13 (V : Valuation τ sig (Elt F)) : afterL bwdOut V (Proc.devRef .tc main_v30_13) =
    ((put (V (Proc.devRef .tc main_v30_13)) (rDw (rDv (V (Proc.devRef .tc main_while1b_v52)) (V (Proc.devRef .tc main_while1b_v50)) (V (Proc.devRef .tc main_while1b_v45)) (V (Proc.devRef .tc main_v30_9))) (V (Proc.devRef .tc main_while1b_v46))) (V (Proc.devRef .tc main_while1b_v44)))) := by
  simp only [bwdOut, afterL_cons, afterL_nil]
  rw [bwdC_v30_13, upd_ne (.of main_v30_15) (.of main_while1b_v62) (.of main_while1b_v44) main_while1b_call23 _ main_while1b_v79 (by decide), upd_ne (.of main_v30_14) (.of main_while1b_v66) (.of main_while1b_v44) main_while1b_call22 _ main_while1b_v79 (by decide), bwd_call21, upd_ne (.of main_v30_12) (.of main_while1b_v65) (.of main_while1b_v44) main_while1b_call20 _ main_v30_13 (by decide), upd_ne (.of main_v30_12) (.of main_while1b_v65) (.of main_while1b_v44) main_while1b_call20 _ main_while1b_v75 (by decide), upd_ne (.of main_v30_12) (.of main_while1b_v65) (.of main_while1b_v44) main_while1b_call20 _ main_while1b_v44 (by decide), upd_ne (.of main_v30_11) (.of main_while1b_v56) (.of main_while1b_v44) main_while1b_call19 _ main_v30_13 (by decide), upd_ne (.of main_v30_11) (.of main_while1b_v56) (.of main_while1b_v44) main_while1b_call19 _ main_while1b_v75 (by decide), upd_ne (.of main_v30_11) (.of main_while1b_v56) (.of main_while1b_v44) main_while1b_call19 _ main_while1b_v44 (by decide), upd_ne (.of main_v30_10) (.of main_while1b_v70) (.of main_while1b_v44) main_while1b_call18 _ main_v30_13 (by decide), upd_ne (.of main_v30_10) (.of main_while1b_v70) (.of main_while1b_v44) main_while1b_call18 _ main_while1b_v75 (by decide), upd_ne (.of main_v30_10) (.of main_while1b_v70) (.of main_while1b_v44) main_while1b_call18 _ main_while1b_v44 (by decide), bwdB_ne _ main_v30_13 (by decide), bwdB_while1b_v75, bwdB_ne _ main_while1b_v44 (by decide)]

theorem bwdItems_v30_13 (V : Valuation τ sig (Elt F)) : afterL bwdItems V (Proc.devRef .tc main_v30_13) =
    ((put (V (Proc.devRef .tc main_v30_13)) (rDw (rDv ((slab (V (Proc.devRef .tc main_v30_7)) (subi (subi (constantI S_ 32 260#32) (V (Proc.devRef .tc main_v30_8))) (constantI S_ 32 1#32)))) ((slab (V (Proc.devRef .tc main_v30_5)) (subi (subi (constantI S_ 32 260#32) (V (Proc.devRef .tc main_v30_8))) (constantI S_ 32 1#32)))) ((slab (V (Proc.devRef .tc main_v30_0)) (subi (subi (constantI S_ 32 260#32) (V (Proc.devRef .tc main_v30_8))) (constantI S_ 32 1#32)))) (V (Proc.devRef .tc main_v30_9))) ((slab (V (Proc.devRef .tc main_v30_1)) (subi (subi (constantI S_ 32 260#32) (V (Proc.devRef .tc main_v30_8))) (constantI S_ 32 1#32))))) ((subi (subi (constantI S_ 32 260#32) (V (Proc.devRef .tc main_v30_8))) (constantI S_ 32 1#32))))) := by
  rw [bwdItems_split, bwdOut_v30_13, bwdIn_ne _ main_v30_13 (by decide), bwdIn_v52, bwdIn_v50, bwdIn_v45, bwdIn_ne _ main_v30_9 (by decide), bwdIn_v46, bwdIn_v44]

theorem bwdOut_v30_14 (V : Valuation τ sig (Elt F)) : afterL bwdOut V (Proc.devRef .tc main_v30_14) =
    ((put (V (Proc.devRef .tc main_v30_14)) (mnt4 (V (Proc.devRef .tc main_while1b_v45)) (V (Proc.devRef .tc main_while1b_v49))) (V (Proc.devRef .tc main_while1b_v44)))) := by
  simp only [bwdOut, afterL_cons, afterL_nil]
  rw [bwdC_v30_14, upd_ne (.of main_v30_15) (.of main_while1b_v62) (.of main_while1b_v44) main_while1b_call23 _ main_while1b_v80 (by decide), bwd_call22, upd_ne (.of main_v30_13) (.of main_while1b_v75) (.of main_while1b_v44) main_while1b_call21 _ main_v30_14 (by decide), upd_ne (.of main_v30_13) (.of main_while1b_v75) (.of main_while1b_v44) main_while1b_call21 _ main_while1b_v66 (by decide), upd_ne (.of main_v30_13) (.of main_while1b_v75) (.of main_while1b_v44) main_while1b_call21 _ main_while1b_v44 (by decide), upd_ne (.of main_v30_12) (.of main_while1b_v65) (.of main_while1b_v44) main_while1b_call20 _ main_v30_14 (by decide), upd_ne (.of main_v30_12) (.of main_while1b_v65) (.of main_while1b_v44) main_while1b_call20 _ main_while1b_v66 (by decide), upd_ne (.of main_v30_12) (.of main_while1b_v65) (.of main_while1b_v44) main_while1b_call20 _ main_while1b_v44 (by decide), upd_ne (.of main_v30_11) (.of main_while1b_v56) (.of main_while1b_v44) main_while1b_call19 _ main_v30_14 (by decide), upd_ne (.of main_v30_11) (.of main_while1b_v56) (.of main_while1b_v44) main_while1b_call19 _ main_while1b_v66 (by decide), upd_ne (.of main_v30_11) (.of main_while1b_v56) (.of main_while1b_v44) main_while1b_call19 _ main_while1b_v44 (by decide), upd_ne (.of main_v30_10) (.of main_while1b_v70) (.of main_while1b_v44) main_while1b_call18 _ main_v30_14 (by decide), upd_ne (.of main_v30_10) (.of main_while1b_v70) (.of main_while1b_v44) main_while1b_call18 _ main_while1b_v66 (by decide), upd_ne (.of main_v30_10) (.of main_while1b_v70) (.of main_while1b_v44) main_while1b_call18 _ main_while1b_v44 (by decide), bwdB_ne _ main_v30_14 (by decide), bwdB_while1b_v66, bwdB_ne _ main_while1b_v44 (by decide)]

theorem bwdItems_v30_14 (V : Valuation τ sig (Elt F)) : afterL bwdItems V (Proc.devRef .tc main_v30_14) =
    ((put (V (Proc.devRef .tc main_v30_14)) (mnt4 ((slab (V (Proc.devRef .tc main_v30_0)) (subi (subi (constantI S_ 32 260#32) (V (Proc.devRef .tc main_v30_8))) (constantI S_ 32 1#32)))) ((slab (V (Proc.devRef .tc main_v30_4)) (subi (subi (constantI S_ 32 260#32) (V (Proc.devRef .tc main_v30_8))) (constantI S_ 32 1#32))))) ((subi (subi (constantI S_ 32 260#32) (V (Proc.devRef .tc main_v30_8))) (constantI S_ 32 1#32))))) := by
  rw [bwdItems_split, bwdOut_v30_14, bwdIn_ne _ main_v30_14 (by decide), bwdIn_v45, bwdIn_v49, bwdIn_v44]

theorem bwdOut_v30_15 (V : Valuation τ sig (Elt F)) : afterL bwdOut V (Proc.devRef .tc main_v30_15) =
    ((put (V (Proc.devRef .tc main_v30_15)) (rDe (V (Proc.devRef .tc main_while1b_v46)) (V (Proc.devRef .tc main_v30_9))) (V (Proc.devRef .tc main_while1b_v44)))) := by
  simp only [bwdOut, afterL_cons, afterL_nil]
  rw [bwdC_v30_15, bwd_call23, upd_ne (.of main_v30_14) (.of main_while1b_v66) (.of main_while1b_v44) main_while1b_call22 _ main_v30_15 (by decide), upd_ne (.of main_v30_14) (.of main_while1b_v66) (.of main_while1b_v44) main_while1b_call22 _ main_while1b_v62 (by decide), upd_ne (.of main_v30_14) (.of main_while1b_v66) (.of main_while1b_v44) main_while1b_call22 _ main_while1b_v44 (by decide), upd_ne (.of main_v30_13) (.of main_while1b_v75) (.of main_while1b_v44) main_while1b_call21 _ main_v30_15 (by decide), upd_ne (.of main_v30_13) (.of main_while1b_v75) (.of main_while1b_v44) main_while1b_call21 _ main_while1b_v62 (by decide), upd_ne (.of main_v30_13) (.of main_while1b_v75) (.of main_while1b_v44) main_while1b_call21 _ main_while1b_v44 (by decide), upd_ne (.of main_v30_12) (.of main_while1b_v65) (.of main_while1b_v44) main_while1b_call20 _ main_v30_15 (by decide), upd_ne (.of main_v30_12) (.of main_while1b_v65) (.of main_while1b_v44) main_while1b_call20 _ main_while1b_v62 (by decide), upd_ne (.of main_v30_12) (.of main_while1b_v65) (.of main_while1b_v44) main_while1b_call20 _ main_while1b_v44 (by decide), upd_ne (.of main_v30_11) (.of main_while1b_v56) (.of main_while1b_v44) main_while1b_call19 _ main_v30_15 (by decide), upd_ne (.of main_v30_11) (.of main_while1b_v56) (.of main_while1b_v44) main_while1b_call19 _ main_while1b_v62 (by decide), upd_ne (.of main_v30_11) (.of main_while1b_v56) (.of main_while1b_v44) main_while1b_call19 _ main_while1b_v44 (by decide), upd_ne (.of main_v30_10) (.of main_while1b_v70) (.of main_while1b_v44) main_while1b_call18 _ main_v30_15 (by decide), upd_ne (.of main_v30_10) (.of main_while1b_v70) (.of main_while1b_v44) main_while1b_call18 _ main_while1b_v62 (by decide), upd_ne (.of main_v30_10) (.of main_while1b_v70) (.of main_while1b_v44) main_while1b_call18 _ main_while1b_v44 (by decide), bwdB_ne _ main_v30_15 (by decide), bwdB_while1b_v62, bwdB_ne _ main_while1b_v44 (by decide)]

theorem bwdItems_v30_15 (V : Valuation τ sig (Elt F)) : afterL bwdItems V (Proc.devRef .tc main_v30_15) =
    ((put (V (Proc.devRef .tc main_v30_15)) (rDe ((slab (V (Proc.devRef .tc main_v30_1)) (subi (subi (constantI S_ 32 260#32) (V (Proc.devRef .tc main_v30_8))) (constantI S_ 32 1#32)))) (V (Proc.devRef .tc main_v30_9))) ((subi (subi (constantI S_ 32 260#32) (V (Proc.devRef .tc main_v30_8))) (constantI S_ 32 1#32))))) := by
  rw [bwdItems_split, bwdOut_v30_15, bwdIn_ne _ main_v30_15 (by decide), bwdIn_v46, bwdIn_ne _ main_v30_9 (by decide), bwdIn_v44]

/-- A trip of the backward loop leaves every buffer but those it writes alone. -/
theorem bwdItems_ne (V : Valuation τ sig (Elt F)) (r : Ref sig .tc) (h : r ∉ bwdInWrites) (h' : r ∉ bwdOutWrites) :
    afterL bwdItems V (Proc.devRef .tc r) = V (Proc.devRef .tc r) := by
  rw [bwdItems_split, bwdOut_ne _ r h', bwdIn_ne _ r h]

end Cert.ReferenceIdeal.Scan

end
-- ==== Proof.Scan.RefStack.lean ====
/-
  Chunks of a stack by number: reading a slab at a counter's word is taking that chunk, and putting one replaces it and
  leaves the others.
-/
module

public import proofs.«01_k».proof.Proof.Scan.RefTrip
public import Idealize.ShloMosaic.Lib.WordCmp
public import Idealize.ShloMosaic.Lib.ValueIdxCore
public import Idealize.ShloMosaic.Lib.Pipeline.Value

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- The counter's word. -/
def word (n : ℕ) : IVec S_ 32 := fun _ => BitVec.ofNat 32 n

/-- Chunk `n` of a stack. -/
def nth (X : Stack F) (n : ℕ) : Chunk F := fun y => X (ValueIdx.ix4 ⟨n % 260, Nat.mod_lt _ (by decide)⟩ (y 0) (y 1) (y 2))

/-- Row `n` of a stack of rows. -/
def nthRow (X : RowStack F) (n : ℕ) : Row F := fun y => X (ValueIdx.ix4 ⟨n % 260, Nat.mod_lt _ (by decide)⟩ (y 0) (y 1) (y 2))

theorem word_succ (n : ℕ) : addi (word n) (constantI S_ 32 1#32) = word (n + 1) := by
  funext y; exact (BitVec.ofNat_add n 1).symm

theorem word_toInt (n : ℕ) (hn : n < 261) : (BitVec.ofNat 32 n).toInt = (n : Int) := by
  rw [BitVec.toInt_eq_toNat_of_lt (by rw [BitVec.toNat_ofNat]; omega), BitVec.toNat_ofNat]; omega

theorem word_down (n : ℕ) (hn : n < 260) : subi (subi (constantI S_ 32 260#32) (word n)) (constantI S_ 32 1#32) = word (259 - n) := by
  funext y
  show (260#32 - BitVec.ofNat 32 n) - 1#32 = BitVec.ofNat 32 (259 - n)
  apply BitVec.eq_of_toNat_eq
  simp only [BitVec.toNat_sub, BitVec.toNat_ofNat]
  omega

theorem starts_word (n : ℕ) (hn : n < 260) (a : Fin 4) : starts (word n) a = ((![n, 0, 0, 0] : Fin 4 → ℕ) a : Int) := by
  match a with
  | ⟨0, _⟩ => exact word_toInt n (by omega)
  | ⟨1, _⟩ => rfl
  | ⟨2, _⟩ => rfl
  | ⟨3, _⟩ => rfl

theorem slab_word (X : Stack F) (n : ℕ) (hn : n < 260) : slab X (word n) = nth X n := by
  have hk : S260x4x64x64.Slices ![n, 0, 0, 0] S1x4x64x64 := ⟨rfl, fun a => match a with
    | ⟨0, _⟩ => by show n + 1 ≤ 260; omega
    | ⟨1, _⟩ => Nat.le_of_eq rfl
    | ⟨2, _⟩ => Nat.le_of_eq rfl
    | ⟨3, _⟩ => Nat.le_of_eq rfl⟩
  funext y
  unfold slab
  rw [WordCmp.dynamicSlice_eq_extract S1x4x64x64 X _ _ ![n, 0, 0, 0] hk (starts_word n hn)]
  refine (shapeCast_dropUnit_apply ![4, 64, 64] _ _ y).trans ?_
  exact extractStridedSlice_apply _ X hk _ _ fun a => match a with
    | ⟨0, _⟩ => Nat.mod_eq_of_lt hn
    | ⟨1, _⟩ => (Nat.zero_add _).symm
    | ⟨2, _⟩ => (Nat.zero_add _).symm
    | ⟨3, _⟩ => (Nat.zero_add _).symm

theorem slabRow_word (X : RowStack F) (n : ℕ) (hn : n < 260) : slabRow X (word n) = nthRow X n := by
  have hk : S260x4x1x64.Slices ![n, 0, 0, 0] S1x4x1x64 := ⟨rfl, fun a => match a with
    | ⟨0, _⟩ => by show n + 1 ≤ 260; omega
    | ⟨1, _⟩ => Nat.le_of_eq rfl
    | ⟨2, _⟩ => Nat.le_of_eq rfl
    | ⟨3, _⟩ => Nat.le_of_eq rfl⟩
  funext y
  unfold slabRow
  rw [WordCmp.dynamicSlice_eq_extract S1x4x1x64 X _ _ ![n, 0, 0, 0] hk (starts_word n hn)]
  refine (shapeCast_dropUnit_apply ![4, 1, 64] _ _ y).trans ?_
  exact extractStridedSlice_apply _ X hk _ _ fun a => match a with
    | ⟨0, _⟩ => Nat.mod_eq_of_lt hn
    | ⟨1, _⟩ => (Nat.zero_add _).symm
    | ⟨2, _⟩ => (Nat.zero_add _).symm
    | ⟨3, _⟩ => (Nat.zero_add _).symm

theorem nth_put (X : Stack F) (T : Chunk F) (n m : ℕ) (hn : n < 260) (hm : m < 260) :
    nth (put X T (word n)) m = if m = n then T else nth X m := by
  have hk : S260x4x64x64.Slices ![n, 0, 0, 0] S1x4x64x64 := ⟨rfl, fun a => match a with
    | ⟨0, _⟩ => by show n + 1 ≤ 260; omega
    | ⟨1, _⟩ => Nat.le_of_eq rfl
    | ⟨2, _⟩ => Nat.le_of_eq rfl
    | ⟨3, _⟩ => Nat.le_of_eq rfl⟩
  funext y
  show put X T (word n) _ = _
  unfold put
  rw [WordCmp.dynamicUpdateSlice_eq_update X _ _ _ ![n, 0, 0, 0] hk (starts_word n hn)]
  unfold updateSlice
  by_cases h : m = n
  · subst h
    rw [if_pos rfl, dif_pos (fun a => match a with
      | ⟨0, _⟩ => ⟨by show m ≤ m % 260; rw [Nat.mod_eq_of_lt hn], by show m % 260 < m + 1; rw [Nat.mod_eq_of_lt hn]; omega⟩
      | ⟨1, _⟩ => ⟨Nat.zero_le _, by show (y 0).val < 0 + 4; have : (y 0).val < 4 := (y 0).isLt; omega⟩
      | ⟨2, _⟩ => ⟨Nat.zero_le _, by show (y 1).val < 0 + 64; have : (y 1).val < 64 := (y 1).isLt; omega⟩
      | ⟨3, _⟩ => ⟨Nat.zero_le _, by show (y 2).val < 0 + 64; have : (y 2).val < 64 := (y 2).isLt; omega⟩)]
    exact broadcastInDim_apply _ _ T _ y fun a => match a with
      | ⟨0, _⟩ => rfl
      | ⟨1, _⟩ => rfl
      | ⟨2, _⟩ => rfl
  · rw [if_neg h, dif_neg (fun h' => h ?_)]
    · rfl
    · have h0 := h' 0
      have h1 : n ≤ m % 260 := h0.1
      have h2 : m % 260 < n + 1 := h0.2
      rw [Nat.mod_eq_of_lt hm] at h1 h2; omega

theorem nthRow_putRow (X : RowStack F) (T : Row F) (n m : ℕ) (hn : n < 260) (hm : m < 260) :
    nthRow (putRow X T (word n)) m = if m = n then T else nthRow X m := by
  have hk : S260x4x1x64.Slices ![n, 0, 0, 0] S1x4x1x64 := ⟨rfl, fun a => match a with
    | ⟨0, _⟩ => by show n + 1 ≤ 260; omega
    | ⟨1, _⟩ => Nat.le_of_eq rfl
    | ⟨2, _⟩ => Nat.le_of_eq rfl
    | ⟨3, _⟩ => Nat.le_of_eq rfl⟩
  funext y
  have hy : (y 1).val = 0 := by have : (y 1).val < 1 := (y 1).isLt; omega
  show putRow X T (word n) _ = _
  unfold putRow
  rw [WordCmp.dynamicUpdateSlice_eq_update X _ _ _ ![n, 0, 0, 0] hk (starts_word n hn)]
  unfold updateSlice
  by_cases h : m = n
  · subst h
    rw [if_pos rfl, dif_pos (fun a => match a with
      | ⟨0, _⟩ => ⟨by show m ≤ m % 260; rw [Nat.mod_eq_of_lt hn], by show m % 260 < m + 1; rw [Nat.mod_eq_of_lt hn]; omega⟩
      | ⟨1, _⟩ => ⟨Nat.zero_le _, by show (y 0).val < 0 + 4; have : (y 0).val < 4 := (y 0).isLt; omega⟩
      | ⟨2, _⟩ => ⟨Nat.zero_le _, by show (y 1).val < 0 + 1; omega⟩
      | ⟨3, _⟩ => ⟨Nat.zero_le _, by show (y 2).val < 0 + 64; have : (y 2).val < 64 := (y 2).isLt; omega⟩)]
    exact broadcastInDim_apply _ _ T _ y fun a => match a with
      | ⟨0, _⟩ => rfl
      | ⟨1, _⟩ => hy
      | ⟨2, _⟩ => rfl
  · rw [if_neg h, dif_neg (fun h' => h ?_)]
    · rfl
    · have h0 := h' 0
      have h1 : n ≤ m % 260 := h0.1
      have h2 : m % 260 < n + 1 := h0.2
      rw [Nat.mod_eq_of_lt hm] at h1 h2; omega

/-- The loops' test: the counter's word is below 260 exactly when the counter is. -/
theorem word_slt (n : ℕ) (hn : n ≤ 260) : IntOp.cmpi .slt (BitVec.ofNat 32 n) 260#32 = 1#1 ↔ n < 260 := by
  rw [show IntOp.cmpi .slt (BitVec.ofNat 32 n) 260#32 = BitVec.ofBool ((BitVec.ofNat 32 n).slt 260#32) from rfl]
  have e : (BitVec.ofNat 32 n).slt 260#32 = decide (n < 260) := by
    unfold BitVec.slt
    rw [word_toInt n (by omega), show (260#32).toInt = 260 from rfl]
    exact decide_eq_decide.mpr (by omega)
  rw [e]
  by_cases h : n < 260 <;> simp [h]

end Cert.ReferenceIdeal.Scan

end
-- ==== Proof.Scan.RefInv.lean ====
/-
  The two loops of the reference, trip by trip: after `k` trips of the forward loop its state is the recurrence run `k`
  chunks forward and the stacks hold the states and new values of the first `k` chunks; after `k` trips of the backward
  loop its running gradient is the recurrence run `k` chunks back and the stacks hold the last `k` chunks' gradients.
-/
module

public import proofs.«01_k».proof.Proof.Scan.RefLoops
public import proofs.«01_k».proof.Proof.Scan.RefStack

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- A buffer that neither the test nor a trip writes keeps its contents through the loop. -/
theorem atTrip_ne {condOps : List (HloOp τ sig (Elt F))} {bodyI : List (List (HloOp τ sig (Elt F)))} {W : Dev nD → Valuation τ sig (Elt F)}
    {r : Ref sig .tc} (hc : ∀ V : Valuation τ sig (Elt F), after condOps V (Proc.devRef .tc r) = V (Proc.devRef .tc r))
    (hb : ∀ V : Valuation τ sig (Elt F), afterL bodyI V (Proc.devRef .tc r) = V (Proc.devRef .tc r)) :
    ∀ (k : ℕ) (c : Dev nD), atTrip condOps bodyI W k c (Proc.devRef .tc r) = W c (Proc.devRef .tc r)
  | 0, _ => rfl
  | k + 1, c => by rw [atTrip_succ, hb, hc, atTrip_ne hc hb k c]

/-- The state before chunk `n`, from the loop's entry contents. -/
def fs (W : Valuation τ sig (Elt F)) : ℕ → Chunk F
  | 0 => (W (Proc.devRef .tc main_v17_7))
  | n + 1 => rNext (nth (W (Proc.devRef .tc main_v17_1)) n) (nth (W (Proc.devRef .tc main_v17_5)) n) (rV (nth (W (Proc.devRef .tc main_v17_2)) n) (nth (W (Proc.devRef .tc main_v17_3)) n) (fs W n)) (fs W n)

/-- The new values of chunk `n`. -/
def fv (W : Valuation τ sig (Elt F)) (n : ℕ) : Chunk F := rV (nth (W (Proc.devRef .tc main_v17_2)) n) (nth (W (Proc.devRef .tc main_v17_3)) n) (fs W n)

/-- What the forward loop's buffers hold after `k` trips from `W`. -/
structure FwdInv (W V : Valuation τ sig (Elt F)) (k : ℕ) : Prop where
  op0 : V (Proc.devRef .tc main_v17_0) = W (Proc.devRef .tc main_v17_0)
  op1 : V (Proc.devRef .tc main_v17_1) = W (Proc.devRef .tc main_v17_1)
  op2 : V (Proc.devRef .tc main_v17_2) = W (Proc.devRef .tc main_v17_2)
  op3 : V (Proc.devRef .tc main_v17_3) = W (Proc.devRef .tc main_v17_3)
  op4 : V (Proc.devRef .tc main_v17_4) = W (Proc.devRef .tc main_v17_4)
  op5 : V (Proc.devRef .tc main_v17_5) = W (Proc.devRef .tc main_v17_5)
  ctr : V (Proc.devRef .tc main_v17_6) = word k
  state : V (Proc.devRef .tc main_v17_7) = fs W k
  hist : ∀ n < k, nth (V (Proc.devRef .tc main_v17_9)) n = fs W n
  news : ∀ n < k, nth (V (Proc.devRef .tc main_v17_10)) n = fv W n
  egls : ∀ n < k, nthRow (V (Proc.devRef .tc main_v17_11)) n = egl (nth (W (Proc.devRef .tc main_v17_5)) n)

/-- One more trip. -/
theorem FwdInv.step {W V : Valuation τ sig (Elt F)} {k : ℕ} (h : FwdInv W V k) (hk : k < 260) : FwdInv W (afterL fwdItems V) (k + 1) where

  op0 := (fwdItems_ne V main_v17_0 (by decide) (by decide)).trans h.op0
  op1 := (fwdItems_ne V main_v17_1 (by decide) (by decide)).trans h.op1
  op2 := (fwdItems_ne V main_v17_2 (by decide) (by decide)).trans h.op2
  op3 := (fwdItems_ne V main_v17_3 (by decide) (by decide)).trans h.op3
  op4 := (fwdItems_ne V main_v17_4 (by decide) (by decide)).trans h.op4
  op5 := (fwdItems_ne V main_v17_5 (by decide) (by decide)).trans h.op5
  ctr := by rw [fwdItems_v17_6, h.ctr, word_succ]
  state := by
    rw [fwdItems_v17_7, h.ctr, h.state, h.op1, h.op2, h.op3, h.op5]
    simp only [slab_word _ k hk]; rfl
  hist := fun n hn => by
    rw [fwdItems_v17_9, h.ctr, h.state, nth_put _ _ k n hk (by omega)]
    split
    · next e => rw [e]
    · next e => exact h.hist n (by omega)
  news := fun n hn => by
    rw [fwdItems_v17_10, h.ctr, h.state, h.op2, h.op3, nth_put _ _ k n hk (by omega)]
    split
    · next e => rw [e]; simp only [slab_word _ k hk]; rfl
    · next e => exact h.news n (by omega)
  egls := fun n hn => by
    rw [fwdItems_v17_11, h.ctr, h.op5, nthRow_putRow _ _ k n hk (by omega)]
    split
    · next e => rw [e]; simp only [slab_word _ k hk]
    · next e => exact h.egls n (by omega)

/-- The forward loop after its test. -/
theorem FwdInv.cond {W V : Valuation τ sig (Elt F)} {k : ℕ} (h : FwdInv W V k) : FwdInv W (after fwdCond V) k where

  op0 := (fwdCond_ne V main_v17_0 (by decide)).trans h.op0
  op1 := (fwdCond_ne V main_v17_1 (by decide)).trans h.op1
  op2 := (fwdCond_ne V main_v17_2 (by decide)).trans h.op2
  op3 := (fwdCond_ne V main_v17_3 (by decide)).trans h.op3
  op4 := (fwdCond_ne V main_v17_4 (by decide)).trans h.op4
  op5 := (fwdCond_ne V main_v17_5 (by decide)).trans h.op5
  ctr := (fwdCond_ne V main_v17_6 (by decide)).trans h.ctr
  state := (fwdCond_ne V main_v17_7 (by decide)).trans h.state
  hist := fun n hn => by rw [fwdCond_ne V main_v17_9 (by decide)]; exact h.hist n hn
  news := fun n hn => by rw [fwdCond_ne V main_v17_10 (by decide)]; exact h.news n hn
  egls := fun n hn => by rw [fwdCond_ne V main_v17_11 (by decide)]; exact h.egls n hn

/-- The forward loop before its `k`-th test. -/
theorem fwd_inv (W : Dev nD → Valuation τ sig (Elt F)) (c : Dev nD) (h0 : W c (Proc.devRef .tc main_v17_6) = word 0) :
    ∀ k ≤ 260, FwdInv (W c) (atTrip fwdCond fwdItems W k c) k
  | 0, _ => ⟨rfl, rfl, rfl, rfl, rfl, rfl, h0, rfl, fun _ h => absurd h (Nat.not_lt_zero _), fun _ h => absurd h (Nat.not_lt_zero _),
      fun _ h => absurd h (Nat.not_lt_zero _)⟩
  | k + 1, hk => (fwd_inv W c h0 k (by omega)).cond.step (by omega)

/-- The gradient of the new values of chunk `259 - n`, from the running gradient there. -/
def bv (W : Valuation τ sig (Elt F)) (n : ℕ) (ds : Chunk F) : Chunk F := rDv (nth (W (Proc.devRef .tc main_v30_7)) (259 - n)) (nth (W (Proc.devRef .tc main_v30_5)) (259 - n)) (nth (W (Proc.devRef .tc main_v30_0)) (259 - n)) ds

/-- The gradient of the state after chunk `259 - n`. -/
def bs (W : Valuation τ sig (Elt F)) : ℕ → Chunk F
  | 0 => (W (Proc.devRef .tc main_v30_9))
  | n + 1 => rDs (nth (W (Proc.devRef .tc main_v30_3)) (259 - n)) (nth (W (Proc.devRef .tc main_v30_2)) (259 - n)) (nthRow (W (Proc.devRef .tc main_v30_6)) (259 - n)) (nth (W (Proc.devRef .tc main_v30_0)) (259 - n)) (bv W n (bs W n)) (bs W n)

/-- What the backward loop's buffers hold after `k` trips from `W`. -/
structure BwdInv (W V : Valuation τ sig (Elt F)) (k : ℕ) : Prop where

  op0 : V (Proc.devRef .tc main_v30_0) = W (Proc.devRef .tc main_v30_0)
  op1 : V (Proc.devRef .tc main_v30_1) = W (Proc.devRef .tc main_v30_1)
  op2 : V (Proc.devRef .tc main_v30_2) = W (Proc.devRef .tc main_v30_2)
  op3 : V (Proc.devRef .tc main_v30_3) = W (Proc.devRef .tc main_v30_3)
  op4 : V (Proc.devRef .tc main_v30_4) = W (Proc.devRef .tc main_v30_4)
  op5 : V (Proc.devRef .tc main_v30_5) = W (Proc.devRef .tc main_v30_5)
  op6 : V (Proc.devRef .tc main_v30_6) = W (Proc.devRef .tc main_v30_6)
  op7 : V (Proc.devRef .tc main_v30_7) = W (Proc.devRef .tc main_v30_7)
  ctr : V (Proc.devRef .tc main_v30_8) = word k
  grad : V (Proc.devRef .tc main_v30_9) = bs W k
  dq : ∀ n < k, nth (V (Proc.devRef .tc main_v30_10)) (259 - n) = mnt4 (nth (W (Proc.devRef .tc main_v30_0)) (259 - n)) (nth (W (Proc.devRef .tc main_v30_1)) (259 - n))
  dk : ∀ n < k, nth (V (Proc.devRef .tc main_v30_11)) (259 - n) = rDk (nth (W (Proc.devRef .tc main_v30_4)) (259 - n)) (bs W n)
  du : ∀ n < k, nth (V (Proc.devRef .tc main_v30_12)) (259 - n) = bv W n (bs W n)
  dw : ∀ n < k, nth (V (Proc.devRef .tc main_v30_13)) (259 - n) = rDw (bv W n (bs W n)) (nth (W (Proc.devRef .tc main_v30_1)) (259 - n))
  da : ∀ n < k, nth (V (Proc.devRef .tc main_v30_14)) (259 - n) = mnt4 (nth (W (Proc.devRef .tc main_v30_0)) (259 - n)) (nth (W (Proc.devRef .tc main_v30_4)) (259 - n))
  de : ∀ n < k, nth (V (Proc.devRef .tc main_v30_15)) (259 - n) = rDe (nth (W (Proc.devRef .tc main_v30_1)) (259 - n)) (bs W n)

/-- One more trip. -/
theorem BwdInv.step {W V : Valuation τ sig (Elt F)} {k : ℕ} (h : BwdInv W V k) (hk : k < 260) : BwdInv W (afterL bwdItems V) (k + 1) where

  op0 := (bwdItems_ne V main_v30_0 (by decide) (by decide)).trans h.op0
  op1 := (bwdItems_ne V main_v30_1 (by decide) (by decide)).trans h.op1
  op2 := (bwdItems_ne V main_v30_2 (by decide) (by decide)).trans h.op2
  op3 := (bwdItems_ne V main_v30_3 (by decide) (by decide)).trans h.op3
  op4 := (bwdItems_ne V main_v30_4 (by decide) (by decide)).trans h.op4
  op5 := (bwdItems_ne V main_v30_5 (by decide) (by decide)).trans h.op5
  op6 := (bwdItems_ne V main_v30_6 (by decide) (by decide)).trans h.op6
  op7 := (bwdItems_ne V main_v30_7 (by decide) (by decide)).trans h.op7
  ctr := by rw [bwdItems_v30_8, h.ctr, word_succ]
  grad := by
    rw [bwdItems_v30_9, h.ctr, h.grad, h.op0, h.op2, h.op3, h.op5, h.op6, h.op7, word_down k hk]
    simp only [slab_word _ (259 - k) (by omega), slabRow_word _ (259 - k) (by omega)]; rfl
  dq := fun n hn => by
    rw [bwdItems_v30_10, h.ctr, h.op0, h.op1, word_down k hk, nth_put _ _ (259 - k) (259 - n) (by omega) (by omega)]
    split
    · next e =>
      obtain rfl : n = k := by omega
      simp only [slab_word _ (259 - n) (by omega)]
    · next e => exact h.dq n (by omega)
  dk := fun n hn => by
    rw [bwdItems_v30_11, h.ctr, h.grad, h.op4, word_down k hk, nth_put _ _ (259 - k) (259 - n) (by omega) (by omega)]
    split
    · next e =>
      obtain rfl : n = k := by omega
      simp only [slab_word _ (259 - n) (by omega)]
    · next e => exact h.dk n (by omega)
  du := fun n hn => by
    rw [bwdItems_v30_12, h.ctr, h.grad, h.op0, h.op5, h.op7, word_down k hk, nth_put _ _ (259 - k) (259 - n) (by omega) (by omega)]
    split
    · next e =>
      obtain rfl : n = k := by omega
      simp only [slab_word _ (259 - n) (by omega)]; rfl
    · next e => exact h.du n (by omega)
  dw := fun n hn => by
    rw [bwdItems_v30_13, h.ctr, h.grad, h.op0, h.op5, h.op7, h.op1, word_down k hk, nth_put _ _ (259 - k) (259 - n) (by omega) (by omega)]
    split
    · next e =>
      obtain rfl : n = k := by omega
      simp only [slab_word _ (259 - n) (by omega)]; rfl
    · next e => exact h.dw n (by omega)
  da := fun n hn => by
    rw [bwdItems_v30_14, h.ctr, h.op0, h.op4, word_down k hk, nth_put _ _ (259 - k) (259 - n) (by omega) (by omega)]
    split
    · next e =>
      obtain rfl : n = k := by omega
      simp only [slab_word _ (259 - n) (by omega)]
    · next e => exact h.da n (by omega)
  de := fun n hn => by
    rw [bwdItems_v30_15, h.ctr, h.grad, h.op1, word_down k hk, nth_put _ _ (259 - k) (259 - n) (by omega) (by omega)]
    split
    · next e =>
      obtain rfl : n = k := by omega
      simp only [slab_word _ (259 - n) (by omega)]
    · next e => exact h.de n (by omega)

/-- The backward loop after its test. -/
theorem BwdInv.cond {W V : Valuation τ sig (Elt F)} {k : ℕ} (h : BwdInv W V k) : BwdInv W (after bwdCond V) k where

  op0 := (bwdCond_ne V main_v30_0 (by decide)).trans h.op0
  op1 := (bwdCond_ne V main_v30_1 (by decide)).trans h.op1
  op2 := (bwdCond_ne V main_v30_2 (by decide)).trans h.op2
  op3 := (bwdCond_ne V main_v30_3 (by decide)).trans h.op3
  op4 := (bwdCond_ne V main_v30_4 (by decide)).trans h.op4
  op5 := (bwdCond_ne V main_v30_5 (by decide)).trans h.op5
  op6 := (bwdCond_ne V main_v30_6 (by decide)).trans h.op6
  op7 := (bwdCond_ne V main_v30_7 (by decide)).trans h.op7
  ctr := (bwdCond_ne V main_v30_8 (by decide)).trans h.ctr
  grad := (bwdCond_ne V main_v30_9 (by decide)).trans h.grad
  dq := fun n hn => by rw [bwdCond_ne V main_v30_10 (by decide)]; exact h.dq n hn
  dk := fun n hn => by rw [bwdCond_ne V main_v30_11 (by decide)]; exact h.dk n hn
  du := fun n hn => by rw [bwdCond_ne V main_v30_12 (by decide)]; exact h.du n hn
  dw := fun n hn => by rw [bwdCond_ne V main_v30_13 (by decide)]; exact h.dw n hn
  da := fun n hn => by rw [bwdCond_ne V main_v30_14 (by decide)]; exact h.da n hn
  de := fun n hn => by rw [bwdCond_ne V main_v30_15 (by decide)]; exact h.de n hn

/-- The backward loop before its `k`-th test. -/
theorem bwd_inv (W : Dev nD → Valuation τ sig (Elt F)) (c : Dev nD) (h0 : W c (Proc.devRef .tc main_v30_8) = word 0) :
    ∀ k ≤ 260, BwdInv (W c) (atTrip bwdCond bwdItems W k c) k
  | 0, _ => ⟨rfl, rfl, rfl, rfl, rfl, rfl, rfl, rfl, h0, rfl, fun _ h => absurd h (Nat.not_lt_zero _), fun _ h => absurd h (Nat.not_lt_zero _), fun _ h => absurd h (Nat.not_lt_zero _), fun _ h => absurd h (Nat.not_lt_zero _), fun _ h => absurd h (Nat.not_lt_zero _), fun _ h => absurd h (Nat.not_lt_zero _)⟩
  | k + 1, hk => (bwd_inv W c h0 k (by omega)).cond.step (by omega)

end Cert.ReferenceIdeal.Scan

end
-- ==== Proof.Scan.RefRun.lean ====
/-
  The run of the reference: a straight line, the forward loop, a line, the backward loop and a last line, each from the
  contents the one before leaves. Every execution ends with every buffer at `W5` and every semaphore at zero.
-/
module

public import proofs.«01_k».proof.Proof.Scan.RefInv
public import Idealize.ShloMosaic.Lib.StableHlo.RunLoop

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-- The buffers before the forward loop. -/
def W1 (m : (ℓ : Loc nD τ sig) → Buf (Elt F) ℓ) (c : Dev nD) : Valuation τ sig (Elt F) := after preOps (launchContents m c)
/-- After it. -/
def W2 (m : (ℓ : Loc nD τ sig) → Buf (Elt F) ℓ) (c : Dev nD) : Valuation τ sig (Elt F) := after fwdCond (atTrip fwdCond fwdItems (W1 m) 260 c)
/-- Before the backward loop. -/
def W3 (m : (ℓ : Loc nD τ sig) → Buf (Elt F) ℓ) (c : Dev nD) : Valuation τ sig (Elt F) := after midOps (W2 m c)
/-- After it. -/
def W4 (m : (ℓ : Loc nD τ sig) → Buf (Elt F) ℓ) (c : Dev nD) : Valuation τ sig (Elt F) := after bwdCond (atTrip bwdCond bwdItems (W3 m) 260 c)
/-- At the end. -/
def W5 (m : (ℓ : Loc nD τ sig) → Buf (Elt F) ℓ) (c : Dev nD) : Valuation τ sig (Elt F) := after postOps (W4 m c)

theorem W1_ctr (m : (ℓ : Loc nD τ sig) → Buf (Elt F) ℓ) (c : Dev nD) : W1 m c (Proc.devRef .tc main_v17_6) = word 0 := by
  unfold W1 preOps
  after_results_simp
  rfl

theorem W3_ctr (m : (ℓ : Loc nD τ sig) → Buf (Elt F) ℓ) (c : Dev nD) : W3 m c (Proc.devRef .tc main_v30_8) = word 0 := by
  unfold W3 midOps
  after_results_simp
  rfl

/-- What rides along beside the buffers. -/
abbrev Rw (c : Dev nD) : sProp 𝕄 := iprop(∃ W, owes (c : Thread nD τ) (0 : CellTallies nD τ sig Unit) W)

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

set_option backward.isDefEq.respectTransparency.types false in
/-- The forward loop's test: one exactly when the counter is below 260. -/
theorem fwd_cond (m : (ℓ : Loc nD τ sig) → Buf (Elt F) ℓ) :
    LoopCond (pcfgs (F := F)) defs₀ Variants.none loops Rw main_while0_cond fwdCond fwdItems (W1 m) 260 := by
  intro k hk c bd
  have hctr := (fwd_inv (W1 m) c (W1_ctr m c) k hk).ctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fwdCond fwdItems (W1 m) k c) main_v17_6 HostLoop.idx0)
      (HloOp.result _ (atTrip fwdCond fwdItems (W1 m) k c) main_while0c_c_24 HostLoop.idx0) = 1#1) (k < 260)
    rw [nullary_result_ne _ _ _ _ (by decide), nullary_result, hctr]
    exact word_slt k hk
  isplitl [Hb]; · iexact Hb
  isplitl [Hh]; · iexact Hh
  iexact HR

set_option backward.isDefEq.respectTransparency.types false in
/-- The backward loop's test: one exactly when the counter is below 260. -/
theorem bwd_cond (m : (ℓ : Loc nD τ sig) → Buf (Elt F) ℓ) :
    LoopCond (pcfgs (F := F)) defs₀ Variants.none loops Rw main_while1_cond bwdCond bwdItems (W3 m) 260 := by
  intro k hk c bd
  have hctr := (bwd_inv (W3 m) c (W3_ctr m c) k hk).ctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip bwdCond bwdItems (W3 m) k c) main_v30_8 HostLoop.idx0)
      (HloOp.result _ (atTrip bwdCond bwdItems (W3 m) k c) main_while1c_c_28 HostLoop.idx0) = 1#1) (k < 260)
    rw [nullary_result_ne _ _ _ _ (by decide), nullary_result, hctr]
    exact word_slt k hk
  isplitl [Hb]; · iexact Hb
  isplitl [Hh]; · iexact Hh
  iexact HR

/-- Every semaphore the program could name is scoped. -/
theorem sems_scoped : ∀ sm : SemLoc sig, sm.isScoped .tc = true := by decide

/-- The program as segments. -/
def segs (m : (ℓ : Loc nD τ sig) → Buf (Elt F) ℓ) : List (CSeg (pcfgs (F := F)) adm defs₀ Variants.none L lv loops tk) :=
  segsOf _ _ _ _ _ _ _ _ Rw [preOps] (Plain.cons preOps_sub Plain.nil preOps_fresh) (launchContents m)
    ++ loopSeg _ _ _ _ _ _ _ _ 0 main_while0_cond main_while0_body rfl fwdCond fwdItems fwdItems_plain fwdItems_body 260 (W1 m) Rw (fwd_cond m)
      :: (segsOf _ _ _ _ _ _ _ _ Rw [midOps] (Plain.cons midOps_sub Plain.nil midOps_fresh) (W2 m)
        ++ loopSeg _ _ _ _ _ _ _ _ 1 main_while1_cond main_while1_body rfl bwdCond bwdItems bwdItems_plain bwdItems_body 260 (W3 m) Rw (bwd_cond m)
          :: segsOf _ _ _ _ _ _ _ _ Rw [postOps] (Plain.cons postOps_sub Plain.nil postOps_fresh) (W4 m))

theorem segs_prog (m : (ℓ : Loc nD τ sig) → Buf (Elt F) ℓ) :
    (segs m).map CSeg.prog = [seq preOps, HostLoop.enter 0, seq midOps, HostLoop.enter 1, seq postOps] := by
  unfold segs
  rw [List.map_append, List.map_cons, List.map_append, List.map_cons, segsOf_prog, segsOf_prog, segsOf_prog]
  rfl

theorem segs_chains (m : (ℓ : Loc nD τ sig) → Buf (Elt F) ℓ) :
    CSeg.Chains (fun c => iprop(held (c : Thread nD τ) (ucRefs τ sig) (launchContents m c) ∗ Rw c)) (segs m)
      (fun c => iprop(held (c : Thread nD τ) (ucRefs τ sig) (W5 m c) ∗ ∃ W, owes (c : Thread nD τ) (0 : CellTallies nD τ sig Unit) W)) := by
  unfold segs
  exact CSeg.Chains.append (segsOf_chains _ _ _ _ _ _ _ _ Rw _ _ _) ⟨fun _ => .rfl,
    CSeg.Chains.append (segsOf_chains _ _ _ _ _ _ _ _ Rw _ _ _) ⟨fun _ => .rfl, segsOf_chains _ _ _ _ _ _ _ _ Rw _ _ _⟩⟩

/-- Every execution of the reference ends, with every buffer at `W5` and every semaphore at zero. -/
theorem run_ref [∀ e, Nonempty (Elt F e)] (m : (ℓ : Loc nD τ sig) → Buf (Elt F) ℓ) (ρ : Dev nD → PrngReg) :
    θ_run defs (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = W5 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rw [main_items c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (W5 m c)))
    (hch := segs_chains m)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W5 m c b)
    (hfin := fun c s' => by
      unfold held
      iintro ⟨Hh, HSI⟩
      ihave Hr := (pointsTo_read_all (ucRefs τ sig) (fun b => ((c : Dev nD), b)) (fun b => W5 m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => hs g (.inr (sems_scoped g.2))⟩)

end Cert.ReferenceIdeal.Scan

end
-- ==== Proof.Scan.RefValue.lean ====
/-
  The contents the reference leaves: its operands as stacks of chunks before the loops, the six results as the rows of
  the stacks the backward loop fills, and the arguments, which nothing writes.
-/
module

public import proofs.«01_k».proof.Proof.Scan.RefRun

@[expose] public section

set_option maxRecDepth 100000
set_option maxHeartbeats 4000000

noncomputable section

namespace Cert.ReferenceIdeal.Scan

open Cert.ReferenceIdeal Cert.ReferenceIdeal.Facts₀
open Idealize.ShloMosaic Idealize.ShloMosaic.TcCoe Idealize.SL.Sem
open Idealize.ShloMosaic.StableHlo

variable {F : FTy → Type} [FloatOps F]

/-- An array of four heads of 16640 rows. -/
abbrev Rows (F : FTy → Type) := FVec F S4x16640x64 .f32

/-- The 260 chunks of 64 rows of an array. -/
def stackOf (X : Rows F) : Stack F :=
  transpose S260x4x64x64 [1, 0, 2, 3] (shapeCast S4x260x64x64 X shapeCasts_S4x16640x64_S4x260x64x64) transposes_S4x260x64x64_S260x4x64x64_1_0_2_3

/-- The array whose chunks a stack holds. -/
def unstack (Y : Stack F) : Rows F :=
  shapeCast S4x16640x64 (transpose S4x260x64x64 [1, 0, 2, 3] Y transposes_S260x4x64x64_S4x260x64x64_1_0_2_3) shapeCasts_S4x260x64x64_S4x16640x64

/-- A chunk of zeros. -/
def zeroChunk : Chunk F := broadcastInDim S4x64x64 ![] bcast_S_S4x64x64 (constant S_ .f32 0x00000000#32)

theorem pre_v17_0 (V : Valuation τ sig (Elt F)) : after preOps V (Proc.devRef .tc main_v17_0) = stackOf (V (Proc.devRef .tc main_arg2)) := by
  unfold preOps
  after_results_simp
  rfl

theorem pre_v17_1 (V : Valuation τ sig (Elt F)) : after preOps V (Proc.devRef .tc main_v17_1) = stackOf (V (Proc.devRef .tc main_arg3)) := by
  unfold preOps
  after_results_simp
  rfl

theorem pre_v17_2 (V : Valuation τ sig (Elt F)) : after preOps V (Proc.devRef .tc main_v17_2) = stackOf (V (Proc.devRef .tc main_arg0)) := by
  unfold preOps
  after_results_simp
  rfl

theorem pre_v17_3 (V : Valuation τ sig (Elt F)) : after preOps V (Proc.devRef .tc main_v17_3) = stackOf (V (Proc.devRef .tc main_arg1)) := by
  unfold preOps
  after_results_simp
  rfl

theorem pre_v17_4 (V : Valuation τ sig (Elt F)) : after preOps V (Proc.devRef .tc main_v17_4) = stackOf (V (Proc.devRef .tc main_arg4)) := by
  unfold preOps
  after_results_simp
  rfl

theorem pre_v17_5 (V : Valuation τ sig (Elt F)) : after preOps V (Proc.devRef .tc main_v17_5) = stackOf (V (Proc.devRef .tc main_arg5)) := by
  unfold preOps
  after_results_simp
  rfl

theorem pre_v1 (V : Valuation τ sig (Elt F)) : after preOps V (Proc.devRef .tc main_v1) = stackOf (V (Proc.devRef .tc main_arg2)) := by
  unfold preOps
  after_results_simp
  rfl

theorem pre_v3 (V : Valuation τ sig (Elt F)) : after preOps V (Proc.devRef .tc main_v3) = stackOf (V (Proc.devRef .tc main_arg3)) := by
  unfold preOps
  after_results_simp
  rfl

theorem pre_v7 (V : Valuation τ sig (Elt F)) : after preOps V (Proc.devRef .tc main_v7) = stackOf (V (Proc.devRef .tc main_arg1)) := by
  unfold preOps
  after_results_simp
  rfl

theorem pre_v9 (V : Valuation τ sig (Elt F)) : after preOps V (Proc.devRef .tc main_v9) = stackOf (V (Proc.devRef .tc main_arg4)) := by
  unfold preOps
  after_results_simp
  rfl

theorem pre_v17_7 (V : Valuation τ sig (Elt F)) : after preOps V (Proc.devRef .tc main_v17_7) = (zeroChunk : Chunk F) := by
  unfold preOps
  after_results_simp
  rfl

theorem mid_v30_9 (V : Valuation τ sig (Elt F)) : after midOps V (Proc.devRef .tc main_v30_9) = (zeroChunk : Chunk F) := by
  unfold midOps
  after_results_simp
  rfl

theorem mid_v30_0 (V : Valuation τ sig (Elt F)) : after midOps V (Proc.devRef .tc main_v30_0) = stackOf (V (Proc.devRef .tc main_arg6)) := by
  unfold midOps
  after_results_simp
  rfl

theorem mid_v30_1 (V : Valuation τ sig (Elt F)) : after midOps V (Proc.devRef .tc main_v30_1) = V (Proc.devRef .tc main_v17_9) := by
  unfold midOps
  after_results_simp
  rfl

theorem mid_v30_2 (V : Valuation τ sig (Elt F)) : after midOps V (Proc.devRef .tc main_v30_2) = V (Proc.devRef .tc main_v7) := by
  unfold midOps
  after_results_simp
  rfl

theorem mid_v30_3 (V : Valuation τ sig (Elt F)) : after midOps V (Proc.devRef .tc main_v30_3) = V (Proc.devRef .tc main_v1) := by
  unfold midOps
  after_results_simp
  rfl

theorem mid_v30_4 (V : Valuation τ sig (Elt F)) : after midOps V (Proc.devRef .tc main_v30_4) = V (Proc.devRef .tc main_v17_10) := by
  unfold midOps
  after_results_simp
  rfl

theorem mid_v30_5 (V : Valuation τ sig (Elt F)) : after midOps V (Proc.devRef .tc main_v30_5) = V (Proc.devRef .tc main_v9) := by
  unfold midOps
  after_results_simp
  rfl

theorem mid_v30_6 (V : Valuation τ sig (Elt F)) : after midOps V (Proc.devRef .tc main_v30_6) = V (Proc.devRef .tc main_v17_11) := by
  unfold midOps
  after_results_simp
  rfl

theorem mid_v30_7 (V : Valuation τ sig (Elt F)) : after midOps V (Proc.devRef .tc main_v30_7) = V (Proc.devRef .tc main_v3) := by
  unfold midOps
  after_results_simp
  rfl

theorem post_v32 (V : Valuation τ sig (Elt F)) : after postOps V (Proc.devRef .tc main_v32) = unstack (V (Proc.devRef .tc main_v30_15)) := by
  unfold postOps
  after_results_simp
  rfl

theorem post_v34 (V : Valuation τ sig (Elt F)) : after postOps V (Proc.devRef .tc main_v34) = unstack (V (Proc.devRef .tc main_v30_14)) := by
  unfold postOps
  after_results_simp
  rfl

theorem post_v36 (V : Valuation τ sig (Elt F)) : after postOps V (Proc.devRef .tc main_v36) = unstack (V (Proc.devRef .tc main_v30_13)) := by
  unfold postOps
  after_results_simp
  rfl

theorem post_v38 (V : Valuation τ sig (Elt F)) : after postOps V (Proc.devRef .tc main_v38) = unstack (V (Proc.devRef .tc main_v30_12)) := by
  unfold postOps
  after_results_simp
  rfl

theorem post_v40 (V : Valuation τ sig (Elt F)) : after postOps V (Proc.devRef .tc main_v40) = unstack (V (Proc.devRef .tc main_v30_11)) := by
  unfold postOps
  after_results_simp
  rfl

theorem post_v42 (V : Valuation τ sig (Elt F)) : after postOps V (Proc.devRef .tc main_v42) = unstack (V (Proc.devRef .tc main_v30_10)) := by
  unfold postOps
  after_results_simp
  rfl

variable (m : (ℓ : Loc nD τ sig) → Buf (Elt F) ℓ) (c : Dev nD)

/-- A buffer the first loop does not write is unchanged by it and its last test. -/
theorem W2_keep (r : Ref sig .tc) (hc : ∀ V : Valuation τ sig (Elt F), after fwdCond V (Proc.devRef .tc r) = V (Proc.devRef .tc r))
    (hb : ∀ V : Valuation τ sig (Elt F), afterL fwdItems V (Proc.devRef .tc r) = V (Proc.devRef .tc r)) :
    W2 m c (Proc.devRef .tc r) = W1 m c (Proc.devRef .tc r) := (hc _).trans (atTrip_ne hc hb 260 c)

/-- A buffer the second loop does not write is unchanged by it and its last test. -/
theorem W4_keep (r : Ref sig .tc) (hc : ∀ V : Valuation τ sig (Elt F), after bwdCond V (Proc.devRef .tc r) = V (Proc.devRef .tc r))
    (hb : ∀ V : Valuation τ sig (Elt F), afterL bwdItems V (Proc.devRef .tc r) = V (Proc.devRef .tc r)) :
    W4 m c (Proc.devRef .tc r) = W3 m c (Proc.devRef .tc r) := (hc _).trans (atTrip_ne hc hb 260 c)

/-- What the first loop's buffers hold after it. -/
theorem W2_inv : FwdInv (W1 m c) (W2 m c) 260 := (fwd_inv (W1 m) c (W1_ctr m c) 260 le_rfl).cond

/-- What the second loop's buffers hold after it. -/
theorem W4_inv : BwdInv (W3 m c) (W4 m c) 260 := (bwd_inv (W3 m) c (W3_ctr m c) 260 le_rfl).cond

theorem W2_arg0 : W2 m c (Proc.devRef .tc main_arg0) = m ((c.tc : Thread nD τ).loc main_arg0) :=
  (W2_keep m c main_arg0 (fun V => fwdCond_ne V _ (by decide)) (fun V => fwdItems_ne V _ (by decide) (by decide))).trans
    (preOps_ne _ _ (by decide))

theorem W5_arg0 : W5 m c (Proc.devRef .tc main_arg0) = m ((c.tc : Thread nD τ).loc main_arg0) :=
  (postOps_ne _ _ (by decide)).trans ((W4_keep m c main_arg0 (fun V => bwdCond_ne V _ (by decide))
    (fun V => bwdItems_ne V _ (by decide) (by decide))).trans ((midOps_ne _ _ (by decide)).trans (W2_arg0 m c)))

theorem W2_arg1 : W2 m c (Proc.devRef .tc main_arg1) = m ((c.tc : Thread nD τ).loc main_arg1) :=
  (W2_keep m c main_arg1 (fun V => fwdCond_ne V _ (by decide)) (fun V => fwdItems_ne V _ (by decide) (by decide))).trans
    (preOps_ne _ _ (by decide))

theorem W5_arg1 : W5 m c (Proc.devRef .tc main_arg1) = m ((c.tc : Thread nD τ).loc main_arg1) :=
  (postOps_ne _ _ (by decide)).trans ((W4_keep m c main_arg1 (fun V => bwdCond_ne V _ (by decide))
    (fun V => bwdItems_ne V _ (by decide) (by decide))).trans ((midOps_ne _ _ (by decide)).trans (W2_arg1 m c)))

theorem W2_arg2 : W2 m c (Proc.devRef .tc main_arg2) = m ((c.tc : Thread nD τ).loc main_arg2) :=
  (W2_keep m c main_arg2 (fun V => fwdCond_ne V _ (by decide)) (fun V => fwdItems_ne V _ (by decide) (by decide))).trans
    (preOps_ne _ _ (by decide))

theorem W5_arg2 : W5 m c (Proc.devRef .tc main_arg2) = m ((c.tc : Thread nD τ).loc main_arg2) :=
  (postOps_ne _ _ (by decide)).trans ((W4_keep m c main_arg2 (fun V => bwdCond_ne V _ (by decide))
    (fun V => bwdItems_ne V _ (by decide) (by decide))).trans ((midOps_ne _ _ (by decide)).trans (W2_arg2 m c)))

theorem W2_arg3 : W2 m c (Proc.devRef .tc main_arg3) = m ((c.tc : Thread nD τ).loc main_arg3) :=
  (W2_keep m c main_arg3 (fun V => fwdCond_ne V _ (by decide)) (fun V => fwdItems_ne V _ (by decide) (by decide))).trans
    (preOps_ne _ _ (by decide))

theorem W5_arg3 : W5 m c (Proc.devRef .tc main_arg3) = m ((c.tc : Thread nD τ).loc main_arg3) :=
  (postOps_ne _ _ (by decide)).trans ((W4_keep m c main_arg3 (fun V => bwdCond_ne V _ (by decide))
    (fun V => bwdItems_ne V _ (by decide) (by decide))).trans ((midOps_ne _ _ (by decide)).trans (W2_arg3 m c)))

theorem W2_arg4 : W2 m c (Proc.devRef .tc main_arg4) = m ((c.tc : Thread nD τ).loc main_arg4) :=
  (W2_keep m c main_arg4 (fun V => fwdCond_ne V _ (by decide)) (fun V => fwdItems_ne V _ (by decide) (by decide))).trans
    (preOps_ne _ _ (by decide))

theorem W5_arg4 : W5 m c (Proc.devRef .tc main_arg4) = m ((c.tc : Thread nD τ).loc main_arg4) :=
  (postOps_ne _ _ (by decide)).trans ((W4_keep m c main_arg4 (fun V => bwdCond_ne V _ (by decide))
    (fun V => bwdItems_ne V _ (by decide) (by decide))).trans ((midOps_ne _ _ (by decide)).trans (W2_arg4 m c)))

theorem W2_arg5 : W2 m c (Proc.devRef .tc main_arg5) = m ((c.tc : Thread nD τ).loc main_arg5) :=
  (W2_keep m c main_arg5 (fun V => fwdCond_ne V _ (by decide)) (fun V => fwdItems_ne V _ (by decide) (by decide))).trans
    (preOps_ne _ _ (by decide))

theorem W5_arg5 : W5 m c (Proc.devRef .tc main_arg5) = m ((c.tc : Thread nD τ).loc main_arg5) :=
  (postOps_ne _ _ (by decide)).trans ((W4_keep m c main_arg5 (fun V => bwdCond_ne V _ (by decide))
    (fun V => bwdItems_ne V _ (by decide) (by decide))).trans ((midOps_ne _ _ (by decide)).trans (W2_arg5 m c)))

theorem W2_arg6 : W2 m c (Proc.devRef .tc main_arg6) = m ((c.tc : Thread nD τ).loc main_arg6) :=
  (W2_keep m c main_arg6 (fun V => fwdCond_ne V _ (by decide)) (fun V => fwdItems_ne V _ (by decide) (by decide))).trans
    (preOps_ne _ _ (by decide))

theorem W5_arg6 : W5 m c (Proc.devRef .tc main_arg6) = m ((c.tc : Thread nD τ).loc main_arg6) :=
  (postOps_ne _ _ (by decide)).trans ((W4_keep m c main_arg6 (fun V => bwdCond_ne V _ (by decide))
    (fun V => bwdItems_ne V _ (by decide) (by decide))).trans ((midOps_ne _ _ (by decide)).trans (W2_arg6 m c)))

theorem W2_v1 : W2 m c (Proc.devRef .tc main_v1) = stackOf (m ((c.tc : Thread nD τ).loc main_arg2)) :=
  (W2_keep m c main_v1 (fun V => fwdCond_ne V _ (by decide)) (fun V => fwdItems_ne V _ (by decide) (by decide))).trans
    (pre_v1 _)

theorem W2_v3 : W2 m c (Proc.devRef .tc main_v3) = stackOf (m ((c.tc : Thread nD τ).loc main_arg3)) :=
  (W2_keep m c main_v3 (fun V => fwdCond_ne V _ (by decide)) (fun V => fwdItems_ne V _ (by decide) (by decide))).trans
    (pre_v3 _)

theorem W2_v7 : W2 m c (Proc.devRef .tc main_v7) = stackOf (m ((c.tc : Thread nD τ).loc main_arg1)) :=
  (W2_keep m c main_v7 (fun V => fwdCond_ne V _ (by decide)) (fun V => fwdItems_ne V _ (by decide) (by decide))).trans
    (pre_v7 _)

theorem W2_v9 : W2 m c (Proc.devRef .tc main_v9) = stackOf (m ((c.tc : Thread nD τ).loc main_arg4)) :=
  (W2_keep m c main_v9 (fun V => fwdCond_ne V _ (by decide)) (fun V => fwdItems_ne V _ (by decide) (by decide))).trans
    (pre_v9 _)

end Cert.ReferenceIdeal.Scan
-- ==== Proof.Scan.Stacks.lean ====
/-
  The stacks of chunks of the reference, head by head: a chunk of the stack of an array is the chunk of the array, and
  the rows of a stack are the rows of its chunks. The gradient of the decay, which reaches the first row alone.
-/
module

public import proofs.«01_k».proof.Proof.Scan.Reals
public import Idealize.ShloMosaic.Lib.KernelVsHost
public import proofs.«01_k».proof.Proof.Scan.RefValue
public import proofs.«01_k».proof.Proof.Scan.Arrays

@[expose] public section

set_option maxHeartbeats 1000000

noncomputable section

namespace Cert.Scan

open Idealize.ShloMosaic
open Cert.ReferenceIdeal.Scan (Chunk Row egl rows4 Stack Rows nth stackOf unstack rDe)
open Cert.KernelIdeal.Scan (Tile headOf)

/-- A head of a chunk of the stack of an array is that chunk of that head of the array. -/
theorem headOf_stackOf (X : Rows Ideal) (n : ℕ) (hn : n < 260) (h : Fin 4) :
    headOf (nth (stackOf X) n) h = Cert.KernelIdeal.Scan.chunkOf X n h := tile_ext fun a b => by
  show stackOf X (ValueIdx.ix4 ⟨n % 260, _⟩ h a b) = X (ValueIdx.ix3 h ⟨(64 * n + a.val) % 16640, _⟩ b)
  unfold stackOf
  refine (transpose_apply _ _ _ _ (ValueIdx.ix4 h (⟨n % 260, Nat.mod_lt _ (by decide)⟩ : Fin 260) a b) fun ax => ?_).trans
    (shapeCast_apply _ _ _ _ ?_)
  · match ax with
    | ⟨0, _⟩ => rfl
    | ⟨1, _⟩ => rfl
    | ⟨2, _⟩ => rfl
    | ⟨3, _⟩ => rfl
  · have ha := a.isLt
    have h1 : (64 * n + a.val) % 16640 = 64 * n + a.val := Nat.mod_eq_of_lt (by omega)
    have h2 : n % 260 = n := Nat.mod_eq_of_lt hn
    refine (Shape.rowMajor_val_three (d := ![4, 16640, 64]) _).trans (Eq.trans ?_ (Shape.rowMajor_val_four (d := ![4, 260, 64, 64]) _).symm)
    show (h.val * 16640 + (64 * n + a.val) % 16640) * 64 + b.val = ((h.val * 260 + n % 260) * 64 + a.val) * 64 + b.val
    rw [h1, h2]; ring

/-- The array a stack holds is that of its chunks, head by head. -/
theorem unstack_eq (Y : Stack Ideal) : unstack Y = Cert.KernelIdeal.Scan.ofChunks fun n h => headOf (nth Y n) h := by
  funext y
  rw [ValueIdx.eq_ix3 y]
  set h : Fin 4 := y 0
  set r : Fin 16640 := y 1
  set b : Fin 64 := y 2
  have hr := r.isLt
  show unstack Y (ValueIdx.ix3 h r b) = Y (ValueIdx.ix4 ⟨r.val / 64 % 260, _⟩ h ⟨r.val % 64, _⟩ b)
  unfold unstack
  refine (shapeCast_apply _ _ _ (ValueIdx.ix4 h (⟨r.val / 64 % 260, Nat.mod_lt _ (by decide)⟩ : Fin 260)
    (⟨r.val % 64, Nat.mod_lt _ (by decide)⟩ : Fin 64) b) ?_).trans (transpose_apply _ _ _ _ _ fun ax => ?_)
  · have h2 : r.val / 64 % 260 = r.val / 64 := Nat.mod_eq_of_lt (by omega)
    refine (Shape.rowMajor_val_four (d := ![4, 260, 64, 64]) _).trans (Eq.trans ?_ (Shape.rowMajor_val_three (d := ![4, 16640, 64]) _).symm)
    show ((h.val * 260 + r.val / 64 % 260) * 64 + r.val % 64) * 64 + b.val = (h.val * 16640 + r.val) * 64 + b.val
    rw [h2]; omega
  · match ax with
    | ⟨0, _⟩ => rfl
    | ⟨1, _⟩ => rfl
    | ⟨2, _⟩ => rfl
    | ⟨3, _⟩ => rfl

/-- The mask of the first row: set there and nowhere else. -/
theorem mask_apply (a b : Fin 64) : Cert.KernelIdeal.Gen.k1_pay2 (ValueIdx.ix2 a b) = if a = 0 then 1#1 else 0#1 := by
  show IntOp.cmpi .eq (BitVec.ofNat 32 (0 * 64 + a.val)) 0#32 = _
  rw [Nat.zero_mul, Nat.zero_add]
  revert a
  decide

/-- A set bit selects the first value. -/
theorem select_one {α : Type} (x y : α) : Scalar.select 1#1 x y = x := rfl

/-- A clear bit selects the second value. -/
theorem select_zero {α : Type} (x y : α) : Scalar.select 0#1 x y = y := rfl

/-- The kernel's gradient of the decay: the column sums in the first row, zeros below. -/
theorem de_apply (c : Cert.KernelIdeal.Scan.BChunk Ideal) (ds : Tile Ideal) (a b : Fin 64) :
    c.de ds (ValueIdx.ix2 a b) = if a = 0 then ∑ r : Fin 64, c.s (ValueIdx.ix2 r b) * ds (ValueIdx.ix2 r b) else 0 := by
  unfold Cert.KernelIdeal.Scan.BChunk.de
  rw [ValueIdx.select_apply, mask_apply]
  by_cases e : a = 0
  · rw [if_pos e, if_pos e]
    refine (select_one _ _).trans ((broadcastTo_apply _ _ _ (ValueIdx.ix2 (0 : Fin 1) b) fun ax => ?_).trans ?_)
    · match ax with
      | ⟨0, _⟩ => rfl
      | ⟨1, _⟩ => rfl
    refine (shapeCast_apply _ _ _ (ValueIdx.ix2 (0 : Fin 1) b) rfl).trans ?_
    refine (shapeCast_apply _ _ _ (ValueIdx.ix1 b) ?_).trans ?_
    · refine (Shape.rowMajor_val_one (d := ![64]) _).trans (Eq.trans ?_ (Shape.rowMajor_val_two (d := ![1, 64]) _).symm)
      show b.val = 0 * 64 + b.val
      omega
    · refine (Ideal.multiReduction_add_single _ _ _ _ _ _).trans (Finset.sum_congr rfl fun r _ => ?_)
      show c.s _ * ds _ = _
      have hl : Cert.KernelIdeal.Gen.reduces_S64x64_S64.lift (ValueIdx.ix1 b) r = ValueIdx.ix2 r b := by
        funext ax
        match ax with
        | ⟨0, _⟩ => rfl
        | ⟨1, _⟩ => rfl
      exact congrArg (fun j => c.s j * ds j) hl
  · rw [if_neg e, if_neg e]; exact (select_zero _ _).trans (zeroT_apply _)

/-- The reference's gradient of the decay, head by head. -/
theorem rDe_apply (S D : Chunk Ideal) (h : Fin 4) (a b : Fin 64) :
    rDe S D (ValueIdx.ix3 h a b) = if a = 0 then ∑ r : Fin 64, S (ValueIdx.ix3 h r b) * D (ValueIdx.ix3 h r b) else 0 := by
  unfold rDe
  by_cases e : a = 0
  · subst e
    rw [if_pos rfl]
    refine (pad_apply_of_inside _ _ _ _ _ _ _ _ (ValueIdx.ix3 h (0 : Fin 1) b) fun ax => ?_).trans ?_
    · match ax with
      | ⟨0, _⟩ => show h.val = 0 + h.val * 1; omega
      | ⟨1, _⟩ => rfl
      | ⟨2, _⟩ => show b.val = 0 + b.val * 1; omega
    refine (shapeCast_apply _ _ _ (ValueIdx.ix2 h b) ?_).trans ?_
    · refine (Shape.rowMajor_val_two (d := ![4, 64]) _).trans (Eq.trans ?_ (Shape.rowMajor_val_three (d := ![4, 1, 64]) _).symm)
      show h.val * 64 + b.val = (h.val * 1 + 0) * 64 + b.val
      omega
    · have hr : Cert.ReferenceIdeal.S4x64x64.Reduces [1] Cert.ReferenceIdeal.S4x64 := by decide
      refine (Ideal.hostReduceAdd_single Cert.ReferenceIdeal.Facts₀.reducesTo_S4x64x64_S4x64_d1 hr _ _ _).trans ?_
      refine (congrArg (· + _) Ideal.ofBits_zero_f32).trans ((zero_add _).trans (Finset.sum_congr rfl fun r _ => ?_))
      have hl : hr.lift (ValueIdx.ix2 h b) r = ValueIdx.ix3 h r b := by
        funext ax
        match ax with
        | ⟨0, _⟩ => rfl
        | ⟨1, _⟩ => rfl
        | ⟨2, _⟩ => rfl
      exact congrArg (fun j => S j * D j) hl
  · rw [if_neg e]
    refine (pad_apply_of_not_inside _ _ _ _ _ _ _ _ (1 : Fin 3) fun hin => e ?_).trans Ideal.ofBits_zero_f32
    have h1 : (a.val - 0) / 1 < 1 := hin.2.2
    exact Fin.ext (by have : a.val / 1 = a.val := Nat.div_one _; simp at h1 ⊢; omega)

end Cert.Scan
-- ==== Proof.Scan.ChunkEq.lean ====
/-
  One chunk, head by head: what the reference computes for a chunk of four heads is what the kernel computes for each
  head, where the gradients that negate an operand need the tiles real.
-/
module

public import proofs.«01_k».proof.Proof.Scan.Stacks

@[expose] public section

set_option maxHeartbeats 1000000

noncomputable section

namespace Cert.Scan

open Idealize.ShloMosaic Idealize.ShloMosaic.StableHlo Idealize.ShloMosaic.TcCoe Idealize.SL.Sem
open Cert.ReferenceIdeal.Scan (Chunk Row Stack Rows egl rows4 nth nthRow stackOf zeroChunk rV rNext rDv rDk rDe rDw rDs fs fv bs bv)
open Cert.KernelIdeal.Scan (Tile headOf FChunk BChunk fstate bstate fgrid bgrid zeros chunkOf stateOf ofStates)

variable {h : Fin 4}

/-- The corrected values. -/
theorem headOf_rV {c : FChunk Ideal} {u w s : Chunk Ideal} {st : Tile Ideal} (hu : headOf u h = c.u) (hw : headOf w h = c.w)
    (hs : headOf s h = st) : headOf (rV u w s) h = c.v st := by
  show subf (headOf u h) (headOf (Cert.ReferenceIdeal.Scan.mm4 w s) h) = _
  rw [headOf_mm4, hu, hw, hs]; rfl

/-- The state after the chunk. -/
theorem headOf_rNext {c : FChunk Ideal} {k e v s : Chunk Ideal} {st : Tile Ideal} (hk : headOf k h = c.k) (he : headOf e h = c.e)
    (hv : headOf v h = c.v st) (hs : headOf s h = st) : headOf (rNext k e v s) h = c.next st := by
  show addf (mulf (headOf s h) (headOf (rows4 (egl e)) h)) (headOf (Cert.ReferenceIdeal.Scan.mtn4 k v) h) = _
  rw [headOf_rows4, headOf_mtn4, hk, he, hv, hs]; rfl

/-- The gradient of the corrected values; the reference adds its two terms in the other order. -/
theorem headOf_rDv {c : BChunk Ideal} {k a d ds : Chunk Ideal} {g : Tile Ideal} (hk : headOf k h = c.k) (ha : headOf a h = c.a)
    (hd : headOf d h = c.d) (hg : headOf ds h = g) : headOf (rDv k a d ds) h = c.dv g := by
  show addf (headOf (Cert.ReferenceIdeal.Scan.tr4 (Cert.ReferenceIdeal.Scan.mtt4 ds k)) h)
    (headOf (Cert.ReferenceIdeal.Scan.tr4 (Cert.ReferenceIdeal.Scan.mtn4 d a)) h) = _
  rw [headOf_tr4_mtt4, headOf_tr4_mtn4, hk, ha, hd, hg]
  exact funext fun j => add_comm _ _

/-- The gradient of the keys. -/
theorem headOf_rDk {c : BChunk Ideal} {v ds : Chunk Ideal} {g : Tile Ideal} (hv : headOf v h = c.v c.s) (hg : headOf ds h = g) :
    headOf (rDk v ds) h = c.dk g := by
  show headOf (Cert.ReferenceIdeal.Scan.tr4 (Cert.ReferenceIdeal.Scan.mnt4 ds v)) h = _
  rw [headOf_tr4_mnt4, hv, hg]; rfl

/-- The gradient of the queries. -/
theorem headOf_dq {c : BChunk Ideal} {d s : Chunk Ideal} (hd : headOf d h = c.d) (hs : headOf s h = c.s) :
    headOf (Cert.ReferenceIdeal.Scan.mnt4 d s) h = c.dq := by
  rw [headOf_mnt4, hd, hs]; rfl

/-- The gradient of the products inside a chunk. -/
theorem headOf_da {c : BChunk Ideal} {d v : Chunk Ideal} (hd : headOf d h = c.d) (hv : headOf v h = c.v c.s) :
    headOf (Cert.ReferenceIdeal.Scan.mnt4 d v) h = c.da := by
  rw [headOf_mnt4, hd, hv]; rfl

/-- The gradient of the decay. -/
theorem headOf_rDe {c : BChunk Ideal} {s ds : Chunk Ideal} {g : Tile Ideal} (hs : headOf s h = c.s) (hg : headOf ds h = g) :
    headOf (rDe s ds) h = c.de g := tile_ext fun a b => by
  refine (rDe_apply s ds h a b).trans ((de_apply c g a b).trans ?_).symm
  rw [← hs, ← hg]; rfl

/-- The gradient of `w`, for real tiles. -/
theorem headOf_rDw {c : BChunk Ideal} {dv s : Chunk Ideal} {g : Tile Ideal} (hv : headOf dv h = c.dv g) (hs : headOf s h = c.s)
    (rv : RealT (c.dv g)) (rs : RealT c.s) : headOf (rDw dv s) h = c.dw g := by
  show headOf (Cert.ReferenceIdeal.Scan.mnt4 (Host.negf dv) s) h = _
  rw [headOf_mnt4, hs]
  show Cert.KernelIdeal.Scan.mnt (negT (headOf dv h)) c.s = _
  rw [hv, mnt_neg rv rs]
  funext j
  show -_ = (Cert.KernelIdeal.Scan.zeroT : Tile Ideal) j - _
  rw [zeroT_apply, sub_eq_add_neg, zero_add]

/-- The gradient of the state before the chunk, for real tiles. -/
theorem headOf_rDs {c : BChunk Ideal} {q w e d dv ds : Chunk Ideal} {g : Tile Ideal} (hq : headOf q h = c.q) (hw : headOf w h = c.w)
    (he : headOf e h = c.e) (hd : headOf d h = c.d) (hv : headOf dv h = c.dv g) (hg : headOf ds h = g)
    (rw' : RealT c.w) (rv : RealT (c.dv g)) : headOf (rDs q w (egl e) d dv ds) h = c.next g := by
  show addf (addf (mulf (headOf ds h) (headOf (rows4 (egl e)) h))
    (headOf (Cert.ReferenceIdeal.Scan.tr4 (Cert.ReferenceIdeal.Scan.mtn4 d q)) h))
    (headOf (Cert.ReferenceIdeal.Scan.tr4 (Cert.ReferenceIdeal.Scan.mtn4 (Host.negf dv) w)) h) = _
  rw [headOf_rows4, headOf_tr4_mtn4, headOf_tr4_mtn4, hq, hw, he, hd, hg]
  show addf _ (Cert.KernelIdeal.Scan.mtn c.w (negT (headOf dv h))) = _
  rw [hv, mtn_neg rw' rv]
  exact funext fun j => (sub_eq_add_neg _ _).symm

/-- All the operands of a chunk are real. -/
structure FReal (c : FChunk Ideal) : Prop where
  u : RealT c.u
  w : RealT c.w
  q : RealT c.q
  k : RealT c.k
  a : RealT c.a
  e : RealT c.e

theorem FReal.v {c : FChunk Ideal} (hc : FReal c) {s : Tile Ideal} (hs : RealT s) : RealT (c.v s) :=
  real_subf hc.u (real_mm hc.w hs)

theorem FReal.next {c : FChunk Ideal} (hc : FReal c) {s : Tile Ideal} (hs : RealT s) : RealT (c.next s) :=
  real_addf (real_mulf hs (real_row0 hc.e)) (real_mtn hc.k (hc.v hs))

/-- The states of a scan of real chunks are real. -/
theorem real_fstate {C : ℕ → Fin 4 → FChunk Ideal} (hC : ∀ n h, FReal (C n h)) (n : ℕ) (h : Fin 4) : RealT (fstate C zeros n h) := by
  induction n with
  | zero => exact real_zeroT
  | succ n ih => exact (hC n h).next ih

/-- All the operands of a backward chunk are real. -/
structure BReal (c : BChunk Ideal) : Prop where
  f : FReal c.toFChunk
  s : RealT c.s
  d : RealT c.d

theorem BReal.dv {c : BChunk Ideal} (hc : BReal c) {g : Tile Ideal} (hg : RealT g) : RealT (c.dv g) :=
  real_addf (real_mtn hc.f.a hc.d) (real_mm hc.f.k hg)

theorem BReal.next {c : BChunk Ideal} (hc : BReal c) {g : Tile Ideal} (hg : RealT g) : RealT (c.next g) :=
  real_subf (real_addf (real_mulf hg (real_row0 hc.f.e)) (real_mtn hc.f.q hc.d)) (real_mtn hc.f.w (hc.dv hg))

/-- The state gradients of a scan of real chunks are real. -/
theorem real_bstate {C : ℕ → Fin 4 → BChunk Ideal} (hC : ∀ n h, BReal (C n h)) (n : ℕ) (h : Fin 4) : RealT (bstate C zeros n h) := by
  induction n with
  | zero => exact real_zeroT
  | succ n ih => exact (hC n h).next ih

end Cert.Scan
-- ==== Proof.Scan.ScanEq.lean ====
/-
  The whole scans: the states of the reference are the kernel's, chunk after chunk and head by head, forward and
  backward, and so are the six gradients.
-/
module

public import proofs.«01_k».proof.Proof.Scan.ChunkEq

@[expose] public section

set_option maxHeartbeats 1000000

noncomputable section

namespace Cert.Scan

open Idealize.ShloMosaic Idealize.ShloMosaic.StableHlo Idealize.ShloMosaic.TcCoe Idealize.SL.Sem
open Cert.ReferenceIdeal.Scan (Chunk Row Stack Rows egl rows4 nth nthRow stackOf zeroChunk rV rNext rDv rDk rDe rDw rDs fs fv bs bv)
open Cert.KernelIdeal.Scan (Tile headOf FChunk BChunk fstate bstate fgrid bgrid zeros chunkOf stateOf ofStates)

/-- The seven operands of the scans. -/
structure Args where
  u : Rows Ideal
  w : Rows Ideal
  q : Rows Ideal
  k : Rows Ideal
  a : Rows Ideal
  e : Rows Ideal
  d : Rows Ideal

/-- Every entry of every operand is a real number. -/
structure Args.Real (X : Args) : Prop where
  u : ∀ y, IsReal (X.u y)
  w : ∀ y, IsReal (X.w y)
  q : ∀ y, IsReal (X.q y)
  k : ∀ y, IsReal (X.k y)
  a : ∀ y, IsReal (X.a y)
  e : ∀ y, IsReal (X.e y)
  d : ∀ y, IsReal (X.d y)

/-- The kernel's forward chunks. -/
def Args.fC (X : Args) : ℕ → Fin 4 → FChunk Ideal := fgrid X.u X.w X.q X.k X.a X.e
/-- The kernel's states. -/
def Args.fS (X : Args) : ℕ → Fin 4 → Tile Ideal := fstate X.fC zeros
/-- The kernel's backward chunks, the last one first. -/
def Args.bC (X : Args) : ℕ → Fin 4 → BChunk Ideal := bgrid X.u X.w X.q X.k X.a X.e (ofStates X.fS) X.d
/-- The kernel's state gradients. -/
def Args.bS (X : Args) : ℕ → Fin 4 → Tile Ideal := bstate X.bC zeros

theorem Args.Real.fC {X : Args} (hX : X.Real) (n : ℕ) (h : Fin 4) : FReal (X.fC n h) :=
  ⟨fun _ => hX.u _, fun _ => hX.w _, fun _ => hX.q _, fun _ => hX.k _, fun _ => hX.a _, fun _ => hX.e _⟩

theorem Args.Real.fS {X : Args} (hX : X.Real) (n : ℕ) (h : Fin 4) : RealT (X.fS n h) := real_fstate hX.fC n h

/-- The state a backward chunk reads is the one the forward scan recorded. -/
theorem Args.bC_s (X : Args) (n : ℕ) (h : Fin 4) : (X.bC n h).s = X.fS (259 - n) h :=
  Cert.KernelIdeal.Scan.stateOf_ofStates X.fS (259 - n) (by omega) h

theorem Args.Real.bC {X : Args} (hX : X.Real) (n : ℕ) (h : Fin 4) : BReal (X.bC n h) where
  f := hX.fC (259 - n) h
  s := by rw [X.bC_s]; exact hX.fS _ _
  d := fun _ => hX.d _

theorem Args.Real.bS {X : Args} (hX : X.Real) (n : ℕ) (h : Fin 4) : RealT (X.bS n h) := real_bstate hX.bC n h

/-- The buffers the reference's forward loop starts from hold the operands' stacks. -/
structure FwdIn (X : Args) (W : Valuation Cert.ReferenceIdeal.τ Cert.ReferenceIdeal.sig (Elt Ideal)) : Prop where
  k : W (Proc.devRef .tc Cert.ReferenceIdeal.main_v17_1) = stackOf X.k
  u : W (Proc.devRef .tc Cert.ReferenceIdeal.main_v17_2) = stackOf X.u
  w : W (Proc.devRef .tc Cert.ReferenceIdeal.main_v17_3) = stackOf X.w
  e : W (Proc.devRef .tc Cert.ReferenceIdeal.main_v17_5) = stackOf X.e
  z : W (Proc.devRef .tc Cert.ReferenceIdeal.main_v17_7) = (zeroChunk : Chunk Ideal)

variable {X : Args} {W : Valuation Cert.ReferenceIdeal.τ Cert.ReferenceIdeal.sig (Elt Ideal)}

theorem headOf_zero (h : Fin 4) : headOf (F := Ideal) (zeroChunk : Chunk Ideal) h = zeros h := headOf_zeroChunk h _ fun _ => Ideal.ofBits_zero_f32

/-- The reference's states are the kernel's. -/
theorem headOf_fs (hW : FwdIn X W) : ∀ n ≤ 260, ∀ h, headOf (fs W n) h = X.fS n h
  | 0, _, h => by
    show headOf (W (Proc.devRef .tc Cert.ReferenceIdeal.main_v17_7)) h = _
    rw [hW.z]; exact headOf_zero h
  | n + 1, hn, h => by
    have ih := headOf_fs hW n (by omega) h
    show headOf (rNext _ _ _ _) h = (X.fC n h).next (X.fS n h)
    rw [hW.k, hW.e, hW.u, hW.w]
    exact headOf_rNext (headOf_stackOf _ n (by omega) h) (headOf_stackOf _ n (by omega) h)
      (headOf_rV (headOf_stackOf _ n (by omega) h) (headOf_stackOf _ n (by omega) h) ih) ih

/-- The reference's corrected values are the kernel's. -/
theorem headOf_fv (hW : FwdIn X W) (n : ℕ) (hn : n < 260) (h : Fin 4) : headOf (fv W n) h = (X.fC n h).v (X.fS n h) := by
  unfold fv
  rw [hW.u, hW.w]
  exact headOf_rV (headOf_stackOf _ n hn h) (headOf_stackOf _ n hn h) (headOf_fs hW n (by omega) h)

/-- The buffers the reference's backward loop starts from, its forward loop having started from `W`. -/
structure BwdIn (X : Args) (W V : Valuation Cert.ReferenceIdeal.τ Cert.ReferenceIdeal.sig (Elt Ideal)) : Prop where
  d : V (Proc.devRef .tc Cert.ReferenceIdeal.main_v30_0) = stackOf X.d
  s : ∀ n < 260, nth (V (Proc.devRef .tc Cert.ReferenceIdeal.main_v30_1)) n = fs W n
  w : V (Proc.devRef .tc Cert.ReferenceIdeal.main_v30_2) = stackOf X.w
  q : V (Proc.devRef .tc Cert.ReferenceIdeal.main_v30_3) = stackOf X.q
  v : ∀ n < 260, nth (V (Proc.devRef .tc Cert.ReferenceIdeal.main_v30_4)) n = fv W n
  a : V (Proc.devRef .tc Cert.ReferenceIdeal.main_v30_5) = stackOf X.a
  e : ∀ n < 260, nthRow (V (Proc.devRef .tc Cert.ReferenceIdeal.main_v30_6)) n = egl (nth (stackOf X.e) n)
  k : V (Proc.devRef .tc Cert.ReferenceIdeal.main_v30_7) = stackOf X.k
  z : V (Proc.devRef .tc Cert.ReferenceIdeal.main_v30_9) = (zeroChunk : Chunk Ideal)

variable {V : Valuation Cert.ReferenceIdeal.τ Cert.ReferenceIdeal.sig (Elt Ideal)}

/-- The state a backward trip reads. -/
theorem headOf_s (hW : FwdIn X W) (hV : BwdIn X W V) (n : ℕ) (h : Fin 4) :
    headOf (nth (V (Proc.devRef .tc Cert.ReferenceIdeal.main_v30_1)) (259 - n)) h = (X.bC n h).s := by
  rw [hV.s _ (by omega), X.bC_s]; exact headOf_fs hW _ (by omega) h

/-- The corrected values a backward trip reads. -/
theorem headOf_v (hW : FwdIn X W) (hV : BwdIn X W V) (n : ℕ) (h : Fin 4) :
    headOf (nth (V (Proc.devRef .tc Cert.ReferenceIdeal.main_v30_4)) (259 - n)) h = (X.bC n h).v (X.bC n h).s := by
  rw [hV.v _ (by omega), X.bC_s]; exact headOf_fv hW _ (by omega) h

/-- The output's gradient a backward trip reads. -/
theorem headOf_d (hV : BwdIn X W V) (n : ℕ) (h : Fin 4) :
    headOf (nth (V (Proc.devRef .tc Cert.ReferenceIdeal.main_v30_0)) (259 - n)) h = (X.bC n h).d := by
  rw [hV.d]; exact headOf_stackOf _ _ (by omega) h

/-- The gradient of the corrected values, from the state's. -/
theorem headOf_bv (hV : BwdIn X W V) (n : ℕ) (h : Fin 4) {ds : Chunk Ideal} {g : Tile Ideal} (hg : headOf ds h = g) :
    headOf (bv V n ds) h = (X.bC n h).dv g := by
  unfold bv
  refine headOf_rDv ?_ ?_ (headOf_d hV n h) hg
  · rw [hV.k]; exact headOf_stackOf _ _ (by omega) h
  · rw [hV.a]; exact headOf_stackOf _ _ (by omega) h

/-- The reference's state gradients are the kernel's. -/
theorem headOf_bs (hX : X.Real) (hV : BwdIn X W V) : ∀ n ≤ 260, ∀ h, headOf (bs V n) h = X.bS n h
  | 0, _, h => by
    show headOf (V (Proc.devRef .tc Cert.ReferenceIdeal.main_v30_9)) h = _
    rw [hV.z]; exact headOf_zero h
  | n + 1, hn, h => by
    have ih := headOf_bs hX hV n (by omega) h
    show headOf (rDs _ _ _ _ _ _) h = (X.bC n h).next (X.bS n h)
    rw [hV.e _ (by omega)]
    refine headOf_rDs ?_ ?_ (headOf_stackOf _ _ (by omega) h) (headOf_d hV n h) (headOf_bv hV n h ih) ih (hX.bC n h).f.w
      ((hX.bC n h).dv (hX.bS n h))
    · rw [hV.q]; exact headOf_stackOf _ _ (by omega) h
    · rw [hV.w]; exact headOf_stackOf _ _ (by omega) h

/-- Two families of chunks of one array agree when they do at every chunk, counted from the last. -/
theorem ofChunks_congr {A B : ℕ → Fin 4 → Tile Ideal} (hAB : ∀ n < 260, ∀ h, A (259 - n) h = B (259 - n) h) :
    Cert.KernelIdeal.Scan.ofChunks A = Cert.KernelIdeal.Scan.ofChunks B := by
  funext y
  have hy : (y 1).val < 16640 := (y 1).isLt
  have := hAB (259 - (y 1).val / 64) (by omega) (y 0)
  rw [show 259 - (259 - (y 1).val / 64) = (y 1).val / 64 by omega] at this
  exact congrFun this _

end Cert.Scan
-- ==== Proof.Scan.KernelValue.lean ====
/-
  The kernel's results: the six arrays of gradients that its run leaves are those of the chunks of the whole scan.
-/
module

public import proofs.«01_k».proof.Proof.Scan.ScanEq
public import proofs.«01_k».proof.Proof.Scan.Run

@[expose] public section

set_option maxRecDepth 100000
set_option maxHeartbeats 1000000

noncomputable section

namespace Cert.Scan

open Idealize.ShloMosaic Idealize.ShloMosaic.StableHlo Idealize.ShloMosaic.TcCoe Idealize.SL.Sem
open Cert.KernelIdeal.Scan (Tile headOf FChunk BChunk fstate bstate fgrid bgrid zeros chunkOf stateOf ofStates ofChunks)

variable (m : (ℓ : Loc Cert.KernelIdeal.nD Cert.KernelIdeal.τ Cert.KernelIdeal.sig) → Buf (Elt Ideal) ℓ) (c : Dev Cert.KernelIdeal.nD)

/-- The kernel's seven arguments on a core. -/
def kArgs : Args where
  u := m ((c.tc : Thread Cert.KernelIdeal.nD Cert.KernelIdeal.τ).loc Cert.KernelIdeal.main_arg0)
  w := m ((c.tc : Thread Cert.KernelIdeal.nD Cert.KernelIdeal.τ).loc Cert.KernelIdeal.main_arg1)
  q := m ((c.tc : Thread Cert.KernelIdeal.nD Cert.KernelIdeal.τ).loc Cert.KernelIdeal.main_arg2)
  k := m ((c.tc : Thread Cert.KernelIdeal.nD Cert.KernelIdeal.τ).loc Cert.KernelIdeal.main_arg3)
  a := m ((c.tc : Thread Cert.KernelIdeal.nD Cert.KernelIdeal.τ).loc Cert.KernelIdeal.main_arg4)
  e := m ((c.tc : Thread Cert.KernelIdeal.nD Cert.KernelIdeal.τ).loc Cert.KernelIdeal.main_arg5)
  d := m ((c.tc : Thread Cert.KernelIdeal.nD Cert.KernelIdeal.τ).loc Cert.KernelIdeal.main_arg6)

/-- The gradient of `u`, chunk by chunk. -/
def Args.dv (X : Args) (n : ℕ) (h : Fin 4) : Tile Ideal := (X.bC (259 - n) h).dv (X.bS (259 - n) h)

/-- The gradient of `w`, chunk by chunk. -/
def Args.dw (X : Args) (n : ℕ) (h : Fin 4) : Tile Ideal := (X.bC (259 - n) h).dw (X.bS (259 - n) h)

/-- The gradient of `q`, chunk by chunk. -/
def Args.dq (X : Args) (n : ℕ) (h : Fin 4) : Tile Ideal := (X.bC (259 - n) h).dq

/-- The gradient of `k`, chunk by chunk. -/
def Args.dk (X : Args) (n : ℕ) (h : Fin 4) : Tile Ideal := (X.bC (259 - n) h).dk (X.bS (259 - n) h)

/-- The gradient of `a`, chunk by chunk. -/
def Args.da (X : Args) (n : ℕ) (h : Fin 4) : Tile Ideal := (X.bC (259 - n) h).da

/-- The gradient of `e`, chunk by chunk. -/
def Args.de (X : Args) (n : ℕ) (h : Fin 4) : Tile Ideal := (X.bC (259 - n) h).de (X.bS (259 - n) h)

/-- The states the forward call records. -/
theorem hist_eq : Cert.KernelIdeal.Scan.W1 m c (Proc.devRef .tc Cert.KernelIdeal.main_v0_1) = ofStates (kArgs m c).fS :=
  (Pipeline.afterRegion_arr (Cert.KernelIdeal.Scan.fwdDat (Cert.KernelIdeal.Scan.W0 m) c) (Cert.KernelIdeal.Scan.W0 m c)
    Cert.KernelIdeal.Gen.launch0.win.arr_inj 7).trans (Cert.KernelIdeal.Scan.fwdFinal7 (Cert.KernelIdeal.Scan.W0 m) c)

/-- The chunks the backward call reads. -/
theorem bC_eq : Cert.KernelIdeal.Scan.bwdC (Cert.KernelIdeal.Scan.W1 m) c = (kArgs m c).bC := by
  unfold Cert.KernelIdeal.Scan.bwdC Cert.KernelIdeal.Scan.bwdA0 Cert.KernelIdeal.Scan.bwdA1 Cert.KernelIdeal.Scan.bwdA2 Cert.KernelIdeal.Scan.bwdA3 Cert.KernelIdeal.Scan.bwdA4 Cert.KernelIdeal.Scan.bwdA5 Cert.KernelIdeal.Scan.bwdA6 Cert.KernelIdeal.Scan.bwdA7
  rw [hist_eq, Cert.KernelIdeal.Scan.W1_of m c Cert.KernelIdeal.main_arg0 (by decide), Cert.KernelIdeal.Scan.W1_of m c Cert.KernelIdeal.main_arg1 (by decide),
    Cert.KernelIdeal.Scan.W1_of m c Cert.KernelIdeal.main_arg2 (by decide), Cert.KernelIdeal.Scan.W1_of m c Cert.KernelIdeal.main_arg3 (by decide),
    Cert.KernelIdeal.Scan.W1_of m c Cert.KernelIdeal.main_arg4 (by decide), Cert.KernelIdeal.Scan.W1_of m c Cert.KernelIdeal.main_arg5 (by decide),
    Cert.KernelIdeal.Scan.W1_of m c Cert.KernelIdeal.main_arg6 (by decide)]
  rfl

/-- The state gradients of the backward call. -/
theorem bS_eq : Cert.KernelIdeal.Scan.bwdS (Cert.KernelIdeal.Scan.W1 m) c = (kArgs m c).bS := by
  unfold Cert.KernelIdeal.Scan.bwdS
  rw [bC_eq]; rfl

/-- The gradient of `u` as the run leaves it. -/
theorem kernel_dv : Cert.KernelIdeal.Scan.W2 m c (Proc.devRef .tc Cert.KernelIdeal.main_v1_0) = ofChunks (kArgs m c).dv := by
  refine (Pipeline.afterRegion_arr (Cert.KernelIdeal.Scan.bwdDat (Cert.KernelIdeal.Scan.W1 m) c) (Cert.KernelIdeal.Scan.W1 m c)
    Cert.KernelIdeal.Gen.launch1.win.arr_inj 8).trans ((Cert.KernelIdeal.Scan.bwdFinal8 (Cert.KernelIdeal.Scan.W1 m) c).trans ?_)
  refine congrArg ofChunks (funext fun n => funext fun h => ?_)
  unfold Cert.KernelIdeal.Scan.bwdDv
  rw [bC_eq, bS_eq]; rfl

/-- The gradient of `w` as the run leaves it. -/
theorem kernel_dw : Cert.KernelIdeal.Scan.W2 m c (Proc.devRef .tc Cert.KernelIdeal.main_v1_1) = ofChunks (kArgs m c).dw := by
  refine (Pipeline.afterRegion_arr (Cert.KernelIdeal.Scan.bwdDat (Cert.KernelIdeal.Scan.W1 m) c) (Cert.KernelIdeal.Scan.W1 m c)
    Cert.KernelIdeal.Gen.launch1.win.arr_inj 9).trans ((Cert.KernelIdeal.Scan.bwdFinal9 (Cert.KernelIdeal.Scan.W1 m) c).trans ?_)
  refine congrArg ofChunks (funext fun n => funext fun h => ?_)
  unfold Cert.KernelIdeal.Scan.bwdDw
  rw [bC_eq, bS_eq]; rfl

/-- The gradient of `q` as the run leaves it. -/
theorem kernel_dq : Cert.KernelIdeal.Scan.W2 m c (Proc.devRef .tc Cert.KernelIdeal.main_v1_2) = ofChunks (kArgs m c).dq := by
  refine (Pipeline.afterRegion_arr (Cert.KernelIdeal.Scan.bwdDat (Cert.KernelIdeal.Scan.W1 m) c) (Cert.KernelIdeal.Scan.W1 m c)
    Cert.KernelIdeal.Gen.launch1.win.arr_inj 10).trans ((Cert.KernelIdeal.Scan.bwdFinal10 (Cert.KernelIdeal.Scan.W1 m) c).trans ?_)
  refine congrArg ofChunks (funext fun n => funext fun h => ?_)
  unfold Cert.KernelIdeal.Scan.bwdDq
  rw [bC_eq]; rfl

/-- The gradient of `k` as the run leaves it. -/
theorem kernel_dk : Cert.KernelIdeal.Scan.W2 m c (Proc.devRef .tc Cert.KernelIdeal.main_v1_3) = ofChunks (kArgs m c).dk := by
  refine (Pipeline.afterRegion_arr (Cert.KernelIdeal.Scan.bwdDat (Cert.KernelIdeal.Scan.W1 m) c) (Cert.KernelIdeal.Scan.W1 m c)
    Cert.KernelIdeal.Gen.launch1.win.arr_inj 11).trans ((Cert.KernelIdeal.Scan.bwdFinal11 (Cert.KernelIdeal.Scan.W1 m) c).trans ?_)
  refine congrArg ofChunks (funext fun n => funext fun h => ?_)
  unfold Cert.KernelIdeal.Scan.bwdDk
  rw [bC_eq, bS_eq]; rfl

/-- The gradient of `a` as the run leaves it. -/
theorem kernel_da : Cert.KernelIdeal.Scan.W2 m c (Proc.devRef .tc Cert.KernelIdeal.main_v1_4) = ofChunks (kArgs m c).da := by
  refine (Pipeline.afterRegion_arr (Cert.KernelIdeal.Scan.bwdDat (Cert.KernelIdeal.Scan.W1 m) c) (Cert.KernelIdeal.Scan.W1 m c)
    Cert.KernelIdeal.Gen.launch1.win.arr_inj 12).trans ((Cert.KernelIdeal.Scan.bwdFinal12 (Cert.KernelIdeal.Scan.W1 m) c).trans ?_)
  refine congrArg ofChunks (funext fun n => funext fun h => ?_)
  unfold Cert.KernelIdeal.Scan.bwdDa
  rw [bC_eq]; rfl

/-- The gradient of `e` as the run leaves it. -/
theorem kernel_de : Cert.KernelIdeal.Scan.W2 m c (Proc.devRef .tc Cert.KernelIdeal.main_v1_5) = ofChunks (kArgs m c).de := by
  refine (Pipeline.afterRegion_arr (Cert.KernelIdeal.Scan.bwdDat (Cert.KernelIdeal.Scan.W1 m) c) (Cert.KernelIdeal.Scan.W1 m c)
    Cert.KernelIdeal.Gen.launch1.win.arr_inj 13).trans ((Cert.KernelIdeal.Scan.bwdFinal13 (Cert.KernelIdeal.Scan.W1 m) c).trans ?_)
  refine congrArg ofChunks (funext fun n => funext fun h => ?_)
  unfold Cert.KernelIdeal.Scan.bwdDe
  rw [bC_eq, bS_eq]; rfl

end Cert.Scan
-- ==== Proof.Scan.RefResult.lean ====
/-
  The reference's results, and when they are the kernel's: on finite arguments, the six arrays of gradients the reference
  leaves are those of the chunks of the kernel's scan.
-/
module

public import proofs.«01_k».proof.Proof.Scan.KernelValue

@[expose] public section

set_option maxRecDepth 100000
set_option maxHeartbeats 1000000

noncomputable section

namespace Cert.Scan

open Idealize.ShloMosaic Idealize.ShloMosaic.StableHlo Idealize.ShloMosaic.TcCoe Idealize.SL.Sem
open Cert.KernelIdeal.Scan (Tile headOf FChunk BChunk fstate bstate fgrid bgrid zeros chunkOf stateOf ofStates ofChunks)

open Cert.ReferenceIdeal.Scan (stackOf unstack nth nthRow egl)

variable (m : (ℓ : Loc Cert.ReferenceIdeal.nD Cert.ReferenceIdeal.τ Cert.ReferenceIdeal.sig) → Buf (Elt Ideal) ℓ) (c : Dev Cert.ReferenceIdeal.nD)

/-- The reference's seven arguments on a core. -/
def rArgs : Args where
  u := m ((c.tc : Thread Cert.ReferenceIdeal.nD Cert.ReferenceIdeal.τ).loc Cert.ReferenceIdeal.main_arg0)
  w := m ((c.tc : Thread Cert.ReferenceIdeal.nD Cert.ReferenceIdeal.τ).loc Cert.ReferenceIdeal.main_arg1)
  q := m ((c.tc : Thread Cert.ReferenceIdeal.nD Cert.ReferenceIdeal.τ).loc Cert.ReferenceIdeal.main_arg2)
  k := m ((c.tc : Thread Cert.ReferenceIdeal.nD Cert.ReferenceIdeal.τ).loc Cert.ReferenceIdeal.main_arg3)
  a := m ((c.tc : Thread Cert.ReferenceIdeal.nD Cert.ReferenceIdeal.τ).loc Cert.ReferenceIdeal.main_arg4)
  e := m ((c.tc : Thread Cert.ReferenceIdeal.nD Cert.ReferenceIdeal.τ).loc Cert.ReferenceIdeal.main_arg5)
  d := m ((c.tc : Thread Cert.ReferenceIdeal.nD Cert.ReferenceIdeal.τ).loc Cert.ReferenceIdeal.main_arg6)

/-- What the forward loop starts from. -/
theorem fwdIn : FwdIn (rArgs m c) (Cert.ReferenceIdeal.Scan.W1 m c) :=
  ⟨Cert.ReferenceIdeal.Scan.pre_v17_1 _, Cert.ReferenceIdeal.Scan.pre_v17_2 _, Cert.ReferenceIdeal.Scan.pre_v17_3 _, Cert.ReferenceIdeal.Scan.pre_v17_5 _, Cert.ReferenceIdeal.Scan.pre_v17_7 _⟩

/-- What the backward loop starts from. -/
theorem bwdIn : BwdIn (rArgs m c) (Cert.ReferenceIdeal.Scan.W1 m c) (Cert.ReferenceIdeal.Scan.W3 m c) where
  d := (Cert.ReferenceIdeal.Scan.mid_v30_0 _).trans (congrArg stackOf (Cert.ReferenceIdeal.Scan.W2_arg6 m c))
  s n hn := (congrArg (nth · n) (Cert.ReferenceIdeal.Scan.mid_v30_1 _)).trans ((Cert.ReferenceIdeal.Scan.W2_inv m c).hist n hn)
  w := (Cert.ReferenceIdeal.Scan.mid_v30_2 _).trans (Cert.ReferenceIdeal.Scan.W2_v7 m c)
  q := (Cert.ReferenceIdeal.Scan.mid_v30_3 _).trans (Cert.ReferenceIdeal.Scan.W2_v1 m c)
  v n hn := (congrArg (nth · n) (Cert.ReferenceIdeal.Scan.mid_v30_4 _)).trans ((Cert.ReferenceIdeal.Scan.W2_inv m c).news n hn)
  a := (Cert.ReferenceIdeal.Scan.mid_v30_5 _).trans (Cert.ReferenceIdeal.Scan.W2_v9 m c)
  e n hn := (congrArg (nthRow · n) (Cert.ReferenceIdeal.Scan.mid_v30_6 _)).trans (((Cert.ReferenceIdeal.Scan.W2_inv m c).egls n hn).trans
    (congrArg (fun y => egl (nth y n)) (Cert.ReferenceIdeal.Scan.pre_v17_5 _)))
  k := (Cert.ReferenceIdeal.Scan.mid_v30_7 _).trans (Cert.ReferenceIdeal.Scan.W2_v3 m c)
  z := Cert.ReferenceIdeal.Scan.mid_v30_9 _

/-- The gradient of `u` as the reference leaves it. -/
theorem ref_dv (hX : (rArgs m c).Real) : Cert.ReferenceIdeal.Scan.W5 m c (Proc.devRef .tc Cert.ReferenceIdeal.main_v38) = ofChunks (rArgs m c).dv := by
  have hW := fwdIn m c
  have hV := bwdIn m c
  refine (Cert.ReferenceIdeal.Scan.post_v38 _).trans ((unstack_eq _).trans (ofChunks_congr fun n hn h => ?_))
  unfold Args.dv
  rw [show 259 - (259 - n) = n by omega]
  exact (congrArg (headOf · h) ((Cert.ReferenceIdeal.Scan.W4_inv m c).du n hn)).trans (headOf_bv hV n h (headOf_bs hX hV n (by omega) h))

/-- The gradient of `w` as the reference leaves it. -/
theorem ref_dw (hX : (rArgs m c).Real) : Cert.ReferenceIdeal.Scan.W5 m c (Proc.devRef .tc Cert.ReferenceIdeal.main_v36) = ofChunks (rArgs m c).dw := by
  have hW := fwdIn m c
  have hV := bwdIn m c
  refine (Cert.ReferenceIdeal.Scan.post_v36 _).trans ((unstack_eq _).trans (ofChunks_congr fun n hn h => ?_))
  unfold Args.dw
  rw [show 259 - (259 - n) = n by omega]
  exact (congrArg (headOf · h) ((Cert.ReferenceIdeal.Scan.W4_inv m c).dw n hn)).trans (headOf_rDw (headOf_bv hV n h (headOf_bs hX hV n (by omega) h)) (headOf_s hW hV n h) ((hX.bC n h).dv (hX.bS n h)) (hX.bC n h).s)

/-- The gradient of `q` as the reference leaves it. -/
theorem ref_dq : Cert.ReferenceIdeal.Scan.W5 m c (Proc.devRef .tc Cert.ReferenceIdeal.main_v42) = ofChunks (rArgs m c).dq := by
  have hW := fwdIn m c
  have hV := bwdIn m c
  refine (Cert.ReferenceIdeal.Scan.post_v42 _).trans ((unstack_eq _).trans (ofChunks_congr fun n hn h => ?_))
  unfold Args.dq
  rw [show 259 - (259 - n) = n by omega]
  exact (congrArg (headOf · h) ((Cert.ReferenceIdeal.Scan.W4_inv m c).dq n hn)).trans (headOf_dq (headOf_d hV n h) (headOf_s hW hV n h))

/-- The gradient of `k` as the reference leaves it. -/
theorem ref_dk (hX : (rArgs m c).Real) : Cert.ReferenceIdeal.Scan.W5 m c (Proc.devRef .tc Cert.ReferenceIdeal.main_v40) = ofChunks (rArgs m c).dk := by
  have hW := fwdIn m c
  have hV := bwdIn m c
  refine (Cert.ReferenceIdeal.Scan.post_v40 _).trans ((unstack_eq _).trans (ofChunks_congr fun n hn h => ?_))
  unfold Args.dk
  rw [show 259 - (259 - n) = n by omega]
  exact (congrArg (headOf · h) ((Cert.ReferenceIdeal.Scan.W4_inv m c).dk n hn)).trans (headOf_rDk (headOf_v hW hV n h) (headOf_bs hX hV n (by omega) h))

/-- The gradient of `a` as the reference leaves it. -/
theorem ref_da : Cert.ReferenceIdeal.Scan.W5 m c (Proc.devRef .tc Cert.ReferenceIdeal.main_v34) = ofChunks (rArgs m c).da := by
  have hW := fwdIn m c
  have hV := bwdIn m c
  refine (Cert.ReferenceIdeal.Scan.post_v34 _).trans ((unstack_eq _).trans (ofChunks_congr fun n hn h => ?_))
  unfold Args.da
  rw [show 259 - (259 - n) = n by omega]
  exact (congrArg (headOf · h) ((Cert.ReferenceIdeal.Scan.W4_inv m c).da n hn)).trans (headOf_da (headOf_d hV n h) (headOf_v hW hV n h))

/-- The gradient of `e` as the reference leaves it. -/
theorem ref_de (hX : (rArgs m c).Real) : Cert.ReferenceIdeal.Scan.W5 m c (Proc.devRef .tc Cert.ReferenceIdeal.main_v32) = ofChunks (rArgs m c).de := by
  have hW := fwdIn m c
  have hV := bwdIn m c
  refine (Cert.ReferenceIdeal.Scan.post_v32 _).trans ((unstack_eq _).trans (ofChunks_congr fun n hn h => ?_))
  unfold Args.de
  rw [show 259 - (259 - n) = n by omega]
  exact (congrArg (headOf · h) ((Cert.ReferenceIdeal.Scan.W4_inv m c).de n hn)).trans (headOf_rDe (headOf_s hW hV n h) (headOf_bs hX hV n (by omega) h))

/-- An extended real whose absolute value is below the largest one is a real number. -/
theorem isReal_of_abs {x : EReal} (hx : Ideal.cmp .olt (max x (-x)) (Ideal.ofBits .f32 0x7F800000#32) = 1#1) : IsReal x := by
  have ht : Ideal.ofBits .f32 0x7F800000#32 = ⊤ := by simp [Ideal.ofBits, Ideal.ieee]
  rw [ht] at hx
  induction x with
  | bot => simp [Ideal.cmp] at hx
  | coe r => exact ⟨r, rfl⟩
  | top => simp [Ideal.cmp] at hx

end Cert.Scan
-- ==== Proof.lean ====
/-
  The certificate. Of the scan calls: the frames of the kernel, of its program over the extended reals and of the
  reference, and the equation of the six gradients on finite arguments. Of the six products of the feed-forward block
  and the six of the mixer's projections: the claims of Ffn/Claims.lean and Mix/Claims.lean. Of swiglu's gated unit, the
  causal convolution, the root-mean-square norm and their gradients: the claims of Elem/Claims.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Ffn.Claims
public import proofs.«01_k».proof.Proof.Mix.Claims
public import proofs.«01_k».proof.Proof.Elem.Claims
public import proofs.«01_k».proof.Proof.Scan.Run
public import proofs.«01_k».proof.Proof.Scan.SameText
public import proofs.«01_k».proof.Proof.Scan.RefResult
public import Idealize.ShloMosaic.Adequacy
public import Idealize.ShloMosaic.Init

@[expose] public section

set_option maxRecDepth 100000
set_option maxHeartbeats 8000000

noncomputable section

namespace Cert.Proof

open Idealize.ShloMosaic Idealize.ShloMosaic.TcCoe Idealize.ShloMosaic.StableHlo Idealize.SL.Sem
open Cert.Scan

/-- The precondition's one shape fact. -/
theorem preFacts : Cert.Pre_finite.Facts := ⟨by decide⟩

/-- The kernel's program, over any values, ends with its arguments unchanged and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c => (h.1 c).1, h.2⟩) (Cert.KernelIdeal.Scan.run_main (F := F) m ρ)

/-- The kernel, in machine arithmetic, ends with its arguments unchanged and every semaphore at zero. -/
theorem frame_kernel : Cert.quiescent_Kernel (hKernel := Cert.Kernel.Gen.facts) := fun m ρ _ => by
  have h := frame_any (F := Bits) m ρ
  rw [← defs_eq, ← main_eq] at h
  exact h

/-- The same over the extended reals. -/
theorem frame_kernelIdeal : Cert.quiescent_KernelIdeal (hKernelIdeal := Cert.KernelIdeal.Gen.facts) := fun m ρ _ => frame_any (F := Ideal) m ρ

/-- What the reference's run leaves: its results and its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ (c : Dev Cert.ReferenceIdeal.nD) (b : Ref Cert.ReferenceIdeal.sig .tc),
        (Proc.devRef .tc b : DevRef Cert.ReferenceIdeal.τ Cert.ReferenceIdeal.sig).isScoped = false →
        r.2.mem ((c.tc : Thread Cert.ReferenceIdeal.nD Cert.ReferenceIdeal.τ).loc b) = Cert.ReferenceIdeal.Scan.W5 m c (Proc.devRef .tc b))
        ∧ r.2.sem = fun _ => 0) := Cert.ReferenceIdeal.Scan.run_ref m ρ

/-- The reference ends with its arguments unchanged and every semaphore at zero. -/
theorem frame_reference : Cert.quiescent_ReferenceIdeal (hReferenceIdeal := Cert.ReferenceIdeal.Gen.facts) := fun m ρ _ =>
  (θ_run Cert.ReferenceIdeal.defs _ _).mono (fun _ h => ⟨fun c =>
    ⟨(h.1 c Cert.ReferenceIdeal.main_arg0 rfl).trans (Cert.ReferenceIdeal.Scan.W5_arg0 m c),
      (h.1 c Cert.ReferenceIdeal.main_arg1 rfl).trans (Cert.ReferenceIdeal.Scan.W5_arg1 m c),
      (h.1 c Cert.ReferenceIdeal.main_arg2 rfl).trans (Cert.ReferenceIdeal.Scan.W5_arg2 m c),
      (h.1 c Cert.ReferenceIdeal.main_arg3 rfl).trans (Cert.ReferenceIdeal.Scan.W5_arg3 m c),
      (h.1 c Cert.ReferenceIdeal.main_arg4 rfl).trans (Cert.ReferenceIdeal.Scan.W5_arg4 m c),
      (h.1 c Cert.ReferenceIdeal.main_arg5 rfl).trans (Cert.ReferenceIdeal.Scan.W5_arg5 m c),
      (h.1 c Cert.ReferenceIdeal.main_arg6 rfl).trans (Cert.ReferenceIdeal.Scan.W5_arg6 m c)⟩, h.2⟩) (run_reference m ρ)

/-- On finite arguments every entry is a real number. -/
theorem args_real (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : (kArgs m c).Real :=
  have hc := h c
  ⟨fun y => isReal_of_abs (congrFun hc.1 y), fun y => isReal_of_abs (congrFun hc.2.1 y), fun y => isReal_of_abs (congrFun hc.2.2.1 y),
   fun y => isReal_of_abs (congrFun hc.2.2.2.1 y), fun y => isReal_of_abs (congrFun hc.2.2.2.2.1 y),
   fun y => isReal_of_abs (congrFun hc.2.2.2.2.2.1 y), fun y => isReal_of_abs (congrFun hc.2.2.2.2.2.2 y)⟩

/-- A buffer no call scopes is among those whose contents the run states. -/
theorem kernel_mem {m : (ℓ : Loc Cert.KernelIdeal.nD Cert.KernelIdeal.τ Cert.KernelIdeal.sig) → Buf (Elt Ideal) ℓ} {c : Dev Cert.KernelIdeal.nD}
    {s : MemSt Cert.KernelIdeal.nD Cert.KernelIdeal.τ Cert.KernelIdeal.sig (Elt Ideal)} (h : Cert.KernelIdeal.Scan.Post m c s)
    (r : Ref Cert.KernelIdeal.sig .tc) (hr : (Proc.devRef .tc r : DevRef Cert.KernelIdeal.τ Cert.KernelIdeal.sig).isScoped = false) :
    s.mem ((c.tc : Thread Cert.KernelIdeal.nD Cert.KernelIdeal.τ).loc r) = Cert.KernelIdeal.Scan.W2 m c (Proc.devRef .tc r) :=
  h.2 _ (Finset.mem_filter.mpr ⟨devRef_mem_tcRefs r, Bool.eq_false_iff.mp hr⟩)

/-- On finite arguments the kernel's six gradients are the reference's. -/
theorem equation : Cert.algebraic_KernelIdeal_ReferenceIdeal_pre_finite (hKernelIdeal := Cert.KernelIdeal.Gen.facts)
    (hReferenceIdeal := Cert.ReferenceIdeal.Gen.facts) (hPre_finite := preFacts) := fun m g m' g' hpre hargs =>
  have hA : ∀ c, rArgs m' c = kArgs m c := fun c => by
    obtain ⟨h0, h1, h2, h3, h4, h5, h6⟩ := hargs c
    unfold rArgs kArgs
    rw [Args.mk.injEq]
    exact ⟨h0, h1, h2, h3, h4, h5, h6⟩
  have hR : ∀ c, (rArgs m' c).Real := fun c => by rw [hA c]; exact args_real m hpre c
  ⟨fun c => Cert.KernelIdeal.Scan.ofChunks (kArgs m c).dv,
   fun c => Cert.KernelIdeal.Scan.ofChunks (kArgs m c).dw,
   fun c => Cert.KernelIdeal.Scan.ofChunks (kArgs m c).dq,
   fun c => Cert.KernelIdeal.Scan.ofChunks (kArgs m c).dk,
   fun c => Cert.KernelIdeal.Scan.ofChunks (kArgs m c).da,
   fun c => Cert.KernelIdeal.Scan.ofChunks (kArgs m c).de,
   (θ_run Cert.KernelIdeal.defs _ _).mono (fun _ h c => ⟨(kernel_mem (h.1 c) Cert.KernelIdeal.main_v1_0 rfl).trans (kernel_dv m c),
     (kernel_mem (h.1 c) Cert.KernelIdeal.main_v1_1 rfl).trans (kernel_dw m c),
     (kernel_mem (h.1 c) Cert.KernelIdeal.main_v1_2 rfl).trans (kernel_dq m c),
     (kernel_mem (h.1 c) Cert.KernelIdeal.main_v1_3 rfl).trans (kernel_dk m c),
     (kernel_mem (h.1 c) Cert.KernelIdeal.main_v1_4 rfl).trans (kernel_da m c),
     (kernel_mem (h.1 c) Cert.KernelIdeal.main_v1_5 rfl).trans (kernel_de m c),
     (h.1 c).1⟩) (Cert.KernelIdeal.Scan.run_main (F := Ideal) m g),
   (θ_run Cert.ReferenceIdeal.defs _ _).mono (fun _ h c => ⟨(h.1 c Cert.ReferenceIdeal.main_v38 rfl).trans ((ref_dv m' c (hR c)).trans (congrArg (fun X => Cert.KernelIdeal.Scan.ofChunks (Args.dv X)) (hA c))),
     (h.1 c Cert.ReferenceIdeal.main_v36 rfl).trans ((ref_dw m' c (hR c)).trans (congrArg (fun X => Cert.KernelIdeal.Scan.ofChunks (Args.dw X)) (hA c))),
     (h.1 c Cert.ReferenceIdeal.main_v42 rfl).trans ((ref_dq m' c).trans (congrArg (fun X => Cert.KernelIdeal.Scan.ofChunks (Args.dq X)) (hA c))),
     (h.1 c Cert.ReferenceIdeal.main_v40 rfl).trans ((ref_dk m' c (hR c)).trans (congrArg (fun X => Cert.KernelIdeal.Scan.ofChunks (Args.dk X)) (hA c))),
     (h.1 c Cert.ReferenceIdeal.main_v34 rfl).trans ((ref_da m' c).trans (congrArg (fun X => Cert.KernelIdeal.Scan.ofChunks (Args.da X)) (hA c))),
     (h.1 c Cert.ReferenceIdeal.main_v32 rfl).trans ((ref_de m' c (hR c)).trans (congrArg (fun X => Cert.KernelIdeal.Scan.ofChunks (Args.de X)) (hA c))),
     (h.1 c Cert.ReferenceIdeal.main_arg0 rfl).trans (Cert.ReferenceIdeal.Scan.W5_arg0 m' c),
     (h.1 c Cert.ReferenceIdeal.main_arg1 rfl).trans (Cert.ReferenceIdeal.Scan.W5_arg1 m' c),
     (h.1 c Cert.ReferenceIdeal.main_arg2 rfl).trans (Cert.ReferenceIdeal.Scan.W5_arg2 m' c),
     (h.1 c Cert.ReferenceIdeal.main_arg3 rfl).trans (Cert.ReferenceIdeal.Scan.W5_arg3 m' c),
     (h.1 c Cert.ReferenceIdeal.main_arg4 rfl).trans (Cert.ReferenceIdeal.Scan.W5_arg4 m' c),
     (h.1 c Cert.ReferenceIdeal.main_arg5 rfl).trans (Cert.ReferenceIdeal.Scan.W5_arg5 m' c),
     (h.1 c Cert.ReferenceIdeal.main_arg6 rfl).trans (Cert.ReferenceIdeal.Scan.W5_arg6 m' c)⟩) (run_reference m' g')⟩

/-- Everything claimed: of the scan calls, of the products of the feed-forward block and of the mixer's projections, and of the gated unit,
    the convolution and the norm, the programs end with their arguments unchanged and every semaphore at zero, and the results over the extended reals are the references'. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   preFacts,
   frame_kernel, frame_kernelIdeal, fun m ρ _ => frame_kernelIdeal m ρ trivial, frame_reference,
   fun m ρ _ => frame_reference m ρ trivial,
   Cert.Ffn.frame_kernel2, Cert.Ffn.frame_kernel2Ideal, Cert.Ffn.frame_reference2,
   Cert.Ffn.frame_kernel3, Cert.Ffn.frame_kernel3Ideal, Cert.Ffn.frame_reference3,
   Cert.Ffn.frame_kernel4, Cert.Ffn.frame_kernel4Ideal, Cert.Ffn.frame_reference4,
   Cert.Ffn.frame_kernel5, Cert.Ffn.frame_kernel5Ideal, Cert.Ffn.frame_reference5,
   Cert.Ffn.frame_kernel6, Cert.Ffn.frame_kernel6Ideal, Cert.Ffn.frame_reference6,
   Cert.Ffn.frame_kernel7, Cert.Ffn.frame_kernel7Ideal, Cert.Ffn.frame_reference7,
   Cert.Mix.frame_kernel8, Cert.Mix.frame_kernel8Ideal, Cert.Mix.frame_reference8,
   Cert.Mix.frame_kernel9, Cert.Mix.frame_kernel9Ideal, Cert.Mix.frame_reference9,
   Cert.Mix.frame_kernel10, Cert.Mix.frame_kernel10Ideal, Cert.Mix.frame_reference10,
   Cert.Mix.frame_kernel11, Cert.Mix.frame_kernel11Ideal, Cert.Mix.frame_reference11,
   Cert.Mix.frame_kernel12, Cert.Mix.frame_kernel12Ideal, Cert.Mix.frame_reference12,
   Cert.Mix.frame_kernel13, Cert.Mix.frame_kernel13Ideal, Cert.Mix.frame_reference13,
   Cert.Elem.frame_kernel14, Cert.Elem.frame_kernel14Ideal, Cert.Elem.frame_reference14,
   Cert.Elem.frame_kernel15, Cert.Elem.frame_kernel15Ideal, Cert.Elem.frame_reference15,
   Cert.Elem.frame_kernel16, Cert.Elem.frame_kernel16Ideal, Cert.Elem.frame_reference16,
   Cert.Elem.frame_kernel17, Cert.Elem.frame_kernel17Ideal, Cert.Elem.frame_reference17,
   Cert.Elem.frame_kernel18, Cert.Elem.frame_kernel18Ideal, Cert.Elem.frame_reference18,
   Cert.Elem.frame_kernel19, Cert.Elem.frame_kernel19Ideal, Cert.Elem.frame_reference19,
   Cert.Elem.frame_kernel20, Cert.Elem.frame_kernel20Ideal, Cert.Elem.frame_reference20,
   trivial, equation,
   trivial, Cert.Ffn.equation2,
   trivial, Cert.Ffn.equation3,
   trivial, Cert.Ffn.equation4,
   trivial, Cert.Ffn.equation5,
   trivial, Cert.Ffn.equation6,
   trivial, Cert.Ffn.equation7,
   trivial, Cert.Mix.equation8,
   trivial, Cert.Mix.equation9,
   trivial, Cert.Mix.equation10,
   trivial, Cert.Mix.equation11,
   trivial, Cert.Mix.equation12,
   trivial, Cert.Mix.equation13,
   trivial, Cert.Elem.equation14,
   trivial, Cert.Elem.equation15,
   trivial, Cert.Elem.equation16,
   trivial, Cert.Elem.equation17,
   trivial, Cert.Elem.equation18,
   trivial, Cert.Elem.equation19,
   trivial, Cert.Elem.equation20⟩

end Cert.Proof
